-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_in_range4 : Cert.Pre_in_range4.Facts] (m : (ℓ : Loc Cert.Kernel4.nD Cert.Kernel4.τ Cert.Kernel4.sig) → Buf (Elt Bits) ℓ) : Prop :=
  ∀ c : Dev Cert.Kernel4.nD,
    (Cert.Pre_in_range4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))) = (fun _ => 1#1)

def Pre_Kernel4Ideal [hPre_in_range4 : Cert.Pre_in_range4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_in_range4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_in_range4 [hPre_in_range4 : Cert.Pre_in_range4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_in_range4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Reference5 (m : (ℓ : Loc Cert.Reference5.nD Cert.Reference5.τ Cert.Reference5.sig) → Buf (Elt Bits) ℓ) : Prop :=
  True

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] [hPre_in_range4 : Cert.Pre_in_range4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_in_range4 : Cert.Pre_in_range4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_in_range4 [hReference4Ideal : Cert.Reference4Ideal.Facts] [hPre_in_range4 : Cert.Pre_in_range4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_in_range4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v36)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] [hPre_in_range4 : Cert.Pre_in_range4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def bitexact_Kernel5_Reference5 [hKernel5 : Cert.Kernel5.Facts] [hReference5 : Cert.Reference5.Facts] : Prop :=
  ∀ (m : (ℓ : Loc Cert.Kernel5.nD Cert.Kernel5.τ Cert.Kernel5.sig) → Buf (Elt Bits) ℓ) (g : Dev Cert.Kernel5.nD → PrngReg)
    (m' : (ℓ : Loc Cert.Reference5.nD Cert.Reference5.τ Cert.Reference5.sig) → Buf (Elt Bits) ℓ) (g' : Dev Cert.Reference5.nD → PrngReg), Pre_Kernel5 m →
    (∀ c : Dev Cert.Kernel5.nD,
      m' ((c.tc : Thread Cert.Reference5.nD Cert.Reference5.τ).loc Cert.Reference5.main_arg0) = m ((c.tc : Thread Cert.Kernel5.nD Cert.Kernel5.τ).loc Cert.Kernel5.main_arg0)) →
    ∃ (v0 : (c : Dev Cert.Kernel5.nD) → Buf (Elt Bits) ((c.tc : Thread Cert.Kernel5.nD Cert.Kernel5.τ).loc Cert.Kernel5.main_v0)),
      θ_run (Cert.Kernel5.defs (F := Bits)) (onTc (τ := Cert.Kernel5.τ) (Cert.Kernel5.main (F := Bits))) ⟨m, fun _ => 0, g⟩ (fun r => ∀ c : Dev Cert.Kernel5.nD,
          r.2.mem ((c.tc : Thread Cert.Kernel5.nD Cert.Kernel5.τ).loc Cert.Kernel5.main_v0) = v0 c
          ∧ r.2.mem ((c.tc : Thread Cert.Kernel5.nD Cert.Kernel5.τ).loc Cert.Kernel5.main_arg0) = m ((c.tc : Thread Cert.Kernel5.nD Cert.Kernel5.τ).loc Cert.Kernel5.main_arg0))
      ∧ θ_run (Cert.Reference5.defs (F := Bits)) (onTc (τ := Cert.Reference5.τ) (Cert.Reference5.main (F := Bits))) ⟨m', fun _ => 0, g'⟩ (fun r => ∀ c : Dev Cert.Reference5.nD,
          r.2.mem ((c.tc : Thread Cert.Reference5.nD Cert.Reference5.τ).loc Cert.Reference5.main_v7) = v0 c
          ∧ r.2.mem ((c.tc : Thread Cert.Reference5.nD Cert.Reference5.τ).loc Cert.Reference5.main_arg0) = m' ((c.tc : Thread Cert.Reference5.nD Cert.Reference5.τ).loc Cert.Reference5.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hReference5 : Cert.Reference5.Facts) (hPre_in_range : Cert.Pre_in_range.Facts) (hPre_in_range4 : Cert.Pre_in_range4.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_in_range4 := hPre_in_range4)
    ∧ quiescent_Kernel4Ideal (hKernel4Ideal := hKernel4Ideal) (hPre_in_range4 := hPre_in_range4)
    ∧ quiescent_Reference4Ideal (hReference4Ideal := hReference4Ideal)
    ∧ quiescent_Reference4Ideal_pre_in_range4 (hReference4Ideal := hReference4Ideal) (hPre_in_range4 := hPre_in_range4)
    ∧ quiescent_Kernel5 (hKernel5 := hKernel5)
    ∧ quiescent_Reference5 (hReference5 := hReference5)
    ∧ preserves_Kernel_KernelIdeal
    ∧ algebraic_KernelIdeal_ReferenceIdeal (hKernelIdeal := hKernelIdeal) (hReferenceIdeal := hReferenceIdeal) (hPre_in_range := hPre_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_in_range4 := hPre_in_range4)
    ∧ bitexact_Kernel5_Reference5 (hKernel5 := hKernel5) (hReference5 := hReference5)
-- ==== Pre_in_range.lean ====
abbrev S256x128x128 : Shape := ⟨3, ![256, 128, 128]⟩
abbrev S65536x128 : Shape := ⟨2, ![65536, 128]⟩
abbrev S32768x1024 : Shape := ⟨2, ![32768, 1024]⟩
abbrev S1x1024 : Shape := ⟨2, ![1, 1024]⟩
abbrev S_ : Shape := ⟨0, ![]⟩

class Facts : Prop where
  bcast_S_S256x128x128 : S_.BroadcastsInDim S256x128x128 (![] : Fin 0 → Fin S256x128x128.rank)

variable [Facts]

def fn {F : FTy → Type} [FloatOps F] (main_arg0 : IVec S256x128x128 32) (main_arg1 : FVec F S256x128x128 .f32) (main_arg2 : IVec S65536x128 32) (main_arg3 : FVec F S32768x1024 .f32) (main_arg4 : FVec F S1x1024 .f32) : IVec S256x128x128 1 :=
  let main_c : IVec S_ 32 := constantI S_ 32 0#32
  let main_v0 : IVec S256x128x128 32 := broadcastInDim S256x128x128 ![] bcast_S_S256x128x128 main_c
  let main_v1 : IVec S256x128x128 1 := cmpi .sge main_arg0 main_v0
  let main_c_0 : IVec S_ 32 := constantI S_ 32 16384#32
  let main_v2 : IVec S256x128x128 32 := broadcastInDim S256x128x128 ![] bcast_S_S256x128x128 main_c_0
  let main_v3 : IVec S256x128x128 1 := cmpi .slt main_arg0 main_v2
  let main_v4 : IVec S256x128x128 1 := andi main_v1 main_v3
  main_v4
-- ==== Pre_in_range4.lean ====
abbrev S256x128x128 : Shape := ⟨3, ![256, 128, 128]⟩
abbrev S32768x1024 : Shape := ⟨2, ![32768, 1024]⟩
abbrev S65536x128 : Shape := ⟨2, ![65536, 128]⟩
abbrev S_ : Shape := ⟨0, ![]⟩

class Facts : Prop where
  bcast_S_S256x128x128 : S_.BroadcastsInDim S256x128x128 (![] : Fin 0 → Fin S256x128x128.rank)

variable [Facts]

def fn {F : FTy → Type} [FloatOps F] (main_arg0 : IVec S256x128x128 32) (main_arg1 : FVec F S32768x1024 .f32) (main_arg2 : FVec F S256x128x128 .f32) (main_arg3 : IVec S65536x128 32) : IVec S256x128x128 1 :=
  let main_c : IVec S_ 32 := constantI S_ 32 0#32
  let main_v0 : IVec S256x128x128 32 := broadcastInDim S256x128x128 ![] bcast_S_S256x128x128 main_c
  let main_v1 : IVec S256x128x128 1 := cmpi .sge main_arg0 main_v0
  let main_c_0 : IVec S_ 32 := constantI S_ 32 16384#32
  let main_v2 : IVec S256x128x128 32 := broadcastInDim S256x128x128 ![] bcast_S_S256x128x128 main_c_0
  let main_v3 : IVec S256x128x128 1 := cmpi .slt main_arg0 main_v2
  let main_v4 : IVec S256x128x128 1 := andi main_v1 main_v3
  main_v4
-- ==== Kernel.lean ====
abbrev S256x128x128 : Shape := ⟨3, ![256, 128, 128]⟩
abbrev S65536x128 : Shape := ⟨2, ![65536, 128]⟩
abbrev S32768x1024 : Shape := ⟨2, ![32768, 1024]⟩
abbrev S1x1024 : Shape := ⟨2, ![1, 1024]⟩
abbrev S_ : Shape := ⟨0, ![]⟩
abbrev S1x128x128 : Shape := ⟨3, ![1, 128, 128]⟩
abbrev S128x1024 : Shape := ⟨2, ![128, 1024]⟩
abbrev S544x128 : Shape := ⟨2, ![544, 128]⟩
abbrev S128x8x128 : Shape := ⟨3, ![128, 8, 128]⟩
abbrev S128x128 : Shape := ⟨2, ![128, 128]⟩
abbrev S1x1x1 : Shape := ⟨3, ![1, 1, 1]⟩
abbrev S4x128 : Shape := ⟨2, ![4, 128]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩
abbrev S128x1x128 : Shape := ⟨3, ![128, 1, 128]⟩

abbrev nBuf : Space → Nat
  | .hbm => 9
  | .vmem => 11
  | .smem => 2
  | _ => 0

abbrev bufTy : (tb : Table) → Fin (tcTables nBuf tb) → BufTy
  | .hbm, ⟨0, _⟩ => ⟨S256x128x128, .i32⟩
  | .hbm, ⟨1, _⟩ => ⟨S256x128x128, .f32⟩
  | .hbm, ⟨2, _⟩ => ⟨S65536x128, .i32⟩
  | .hbm, ⟨3, _⟩ => ⟨S32768x1024, .f32⟩
  | .hbm, ⟨4, _⟩ => ⟨S1x1024, .f32⟩
  | .hbm, ⟨5, _⟩ => ⟨S_, .i32⟩
  | .hbm, ⟨6, _⟩ => ⟨S256x128x128, .i32⟩
  | .hbm, ⟨7, _⟩ => ⟨S256x128x128, .i32⟩
  | .hbm, ⟨8, _⟩ => ⟨S32768x1024, .f32⟩
  | .local _ .vmem, ⟨0, _⟩ => ⟨S1x128x128, .f32⟩
  | .local _ .vmem, ⟨1, _⟩ => ⟨S1x128x128, .f32⟩
  | .local _ .vmem, ⟨2, _⟩ => ⟨S65536x128, .i32⟩
  | .local _ .vmem, ⟨3, _⟩ => ⟨S128x1024, .f32⟩
  | .local _ .vmem, ⟨4, _⟩ => ⟨S128x1024, .f32⟩
  | .local _ .vmem, ⟨5, _⟩ => ⟨S1x1024, .f32⟩
  | .local _ .vmem, ⟨6, _⟩ => ⟨S128x1024, .f32⟩
  | .local _ .vmem, ⟨7, _⟩ => ⟨S128x1024, .f32⟩
  | .local _ .vmem, ⟨8, _⟩ => ⟨S544x128, .i32⟩
  | .local _ .vmem, ⟨9, _⟩ => ⟨S544x128, .i32⟩
  | .local _ .vmem, ⟨10, _⟩ => ⟨S128x8x128, .f32⟩
  | .local _ .smem, ⟨0, _⟩ => ⟨S1x128x128, .i32⟩
  | .local _ .smem, ⟨1, _⟩ => ⟨S1x128x128, .i32⟩
  | _, _ => ⟨S256x128x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![256], ![false]⟩

def k0_mult1 (v1 : BitVec 32) : BitVec 32 :=
  v1

def k0_off1 (v1 : BitVec 32) : Fin 2 → Nat :=
  let v2 : BitVec 32 := v1
  let v3 : Index := Scalar.indexCast v2
  let c0_2 : Index := 0#32
  ![v3.toNat, 0]

def k0_chk1 (v1 : BitVec 32) : Prop :=
  (4 ∣ (k0_mult1 v1).toNat) ∧
  (∀ a, (k0_off1 v1) a + S4x128.size a ≤ S65536x128.size a)
theorem k0_mult1_dvd : ∀ (v1 : BitVec 32) (k0_hw1 : k0_chk1 v1), 4 ∣ (k0_mult1 v1).toNat := fun v1 k0_hw1 => k0_hw1.1
theorem k0_off1_inb : ∀ (v1 : BitVec 32) (k0_hw1 : k0_chk1 v1), ∀ a, (k0_off1 v1) a + S4x128.size a ≤ S65536x128.size a := fun v1 k0_hw1 => k0_hw1.2

def k0_mult2 (v8 : BitVec 32) : BitVec 32 :=
  v8

def k0_off2 (v8 : BitVec 32) : Fin 2 → Nat :=
  let v9 : BitVec 32 := v8
  let v10 : Index := Scalar.indexCast v9
  let c0_7 : Index := 0#32
  ![v10.toNat, 0]

def k0_chk2 (v8 : BitVec 32) : Prop :=
  (4 ∣ (k0_mult2 v8).toNat) ∧
  (∀ a, (k0_off2 v8) a + S4x128.size a ≤ S65536x128.size a)
theorem k0_mult2_dvd : ∀ (v8 : BitVec 32) (k0_hw2 : k0_chk2 v8), 4 ∣ (k0_mult2 v8).toNat := fun v8 k0_hw2 => k0_hw2.1
theorem k0_off2_inb : ∀ (v8 : BitVec 32) (k0_hw2 : k0_chk2 v8), ∀ a, (k0_off2 v8) a + S4x128.size a ≤ S65536x128.size a := fun v8 k0_hw2 => k0_hw2.2

def k0_mult3 (v15 : BitVec 32) : BitVec 32 :=
  v15

def k0_off3 (v15 : BitVec 32) : Fin 2 → Nat :=
  let v16 : BitVec 32 := v15
  let v17 : Index := Scalar.indexCast v16
  let c0_12 : Index := 0#32
  ![v17.toNat, 0]

def k0_chk3 (v15 : BitVec 32) : Prop :=
  (4 ∣ (k0_mult3 v15).toNat) ∧
  (∀ a, (k0_off3 v15) a + S4x128.size a ≤ S65536x128.size a)
theorem k0_mult3_dvd : ∀ (v15 : BitVec 32) (k0_hw3 : k0_chk3 v15), 4 ∣ (k0_mult3 v15).toNat := fun v15 k0_hw3 => k0_hw3.1
theorem k0_off3_inb : ∀ (v15 : BitVec 32) (k0_hw3 : k0_chk3 v15), ∀ a, (k0_off3 v15) a + S4x128.size a ≤ S65536x128.size a := fun v15 k0_hw3 => k0_hw3.2

def k0_mult4 (v22 : BitVec 32) : BitVec 32 :=
  v22

def k0_off4 (v22 : BitVec 32) : Fin 2 → Nat :=
  let v23 : BitVec 32 := v22
  let v24 : Index := Scalar.indexCast v23
  let c0_17 : Index := 0#32
  ![v24.toNat, 0]

def k0_chk4 (v22 : BitVec 32) : Prop :=
  (4 ∣ (k0_mult4 v22).toNat) ∧
  (∀ a, (k0_off4 v22) a + S4x128.size a ≤ S65536x128.size a)
theorem k0_mult4_dvd : ∀ (v22 : BitVec 32) (k0_hw4 : k0_chk4 v22), 4 ∣ (k0_mult4 v22).toNat := fun v22 k0_hw4 => k0_hw4.1
theorem k0_off4_inb : ∀ (v22 : BitVec 32) (k0_hw4 : k0_chk4 v22), ∀ a, (k0_off4 v22) a + S4x128.size a ≤ S65536x128.size a := fun v22 k0_hw4 => k0_hw4.2

def k0_mult5 (v29 : BitVec 32) : BitVec 32 :=
  v29

def k0_off5 (v29 : BitVec 32) : Fin 2 → Nat :=
  let v30 : BitVec 32 := v29
  let v31 : Index := Scalar.indexCast v30
  let c0_22 : Index := 0#32
  ![v31.toNat, 0]

def k0_chk5 (v29 : BitVec 32) : Prop :=
  (4 ∣ (k0_mult5 v29).toNat) ∧
  (∀ a, (k0_off5 v29) a + S4x128.size a ≤ S65536x128.size a)
theorem k0_mult5_dvd : ∀ (v29 : BitVec 32) (k0_hw5 : k0_chk5 v29), 4 ∣ (k0_mult5 v29).toNat := fun v29 k0_hw5 => k0_hw5.1
theorem k0_off5_inb : ∀ (v29 : BitVec 32) (k0_hw5 : k0_chk5 v29), ∀ a, (k0_off5 v29) a + S4x128.size a ≤ S65536x128.size a := fun v29 k0_hw5 => k0_hw5.2

def k0_mult6 (v36 : BitVec 32) : BitVec 32 :=
  v36

def k0_off6 (v36 : BitVec 32) : Fin 2 → Nat :=
  let v37 : BitVec 32 := v36
  let v38 : Index := Scalar.indexCast v37
  let c0_27 : Index := 0#32
  ![v38.toNat, 0]

def k0_chk6 (v36 : BitVec 32) : Prop :=
  (4 ∣ (k0_mult6 v36).toNat) ∧
  (∀ a, (k0_off6 v36) a + S4x128.size a ≤ S65536x128.size a)
theorem k0_mult6_dvd : ∀ (v36 : BitVec 32) (k0_hw6 : k0_chk6 v36), 4 ∣ (k0_mult6 v36).toNat := fun v36 k0_hw6 => k0_hw6.1
theorem k0_off6_inb : ∀ (v36 : BitVec 32) (k0_hw6 : k0_chk6 v36), ∀ a, (k0_off6 v36) a + S4x128.size a ≤ S65536x128.size a := fun v36 k0_hw6 => k0_hw6.2

def k0_mult7 (v43 : BitVec 32) : BitVec 32 :=
  v43

def k0_off7 (v43 : BitVec 32) : Fin 2 → Nat :=
  let v44 : BitVec 32 := v43
  let v45 : Index := Scalar.indexCast v44
  let c0_32 : Index := 0#32
  ![v45.toNat, 0]

def k0_chk7 (v43 : BitVec 32) : Prop :=
  (4 ∣ (k0_mult7 v43).toNat) ∧
  (∀ a, (k0_off7 v43) a + S4x128.size a ≤ S65536x128.size a)
theorem k0_mult7_dvd : ∀ (v43 : BitVec 32) (k0_hw7 : k0_chk7 v43), 4 ∣ (k0_mult7 v43).toNat := fun v43 k0_hw7 => k0_hw7.1
theorem k0_off7_inb : ∀ (v43 : BitVec 32) (k0_hw7 : k0_chk7 v43), ∀ a, (k0_off7 v43) a + S4x128.size a ≤ S65536x128.size a := fun v43 k0_hw7 => k0_hw7.2

def k0_mult8 (v50 : BitVec 32) : BitVec 32 :=
  v50

def k0_off8 (v50 : BitVec 32) : Fin 2 → Nat :=
  let v51 : BitVec 32 := v50
  let v52 : Index := Scalar.indexCast v51
  let c0_37 : Index := 0#32
  ![v52.toNat, 0]

def k0_chk8 (v50 : BitVec 32) : Prop :=
  (4 ∣ (k0_mult8 v50).toNat) ∧
  (∀ a, (k0_off8 v50) a + S4x128.size a ≤ S65536x128.size a)
theorem k0_mult8_dvd : ∀ (v50 : BitVec 32) (k0_hw8 : k0_chk8 v50), 4 ∣ (k0_mult8 v50).toNat := fun v50 k0_hw8 => k0_hw8.1
theorem k0_off8_inb : ∀ (v50 : BitVec 32) (k0_hw8 : k0_chk8 v50), ∀ a, (k0_off8 v50) a + S4x128.size a ≤ S65536x128.size a := fun v50 k0_hw8 => k0_hw8.2

def k0_mult9 (v57 : BitVec 32) : BitVec 32 :=
  v57

def k0_off9 (v57 : BitVec 32) : Fin 2 → Nat :=
  let v58 : BitVec 32 := v57
  let v59 : Index := Scalar.indexCast v58
  let c0_42 : Index := 0#32
  ![v59.toNat, 0]

def k0_chk9 (v57 : BitVec 32) : Prop :=
  (4 ∣ (k0_mult9 v57).toNat) ∧
  (∀ a, (k0_off9 v57) a + S4x128.size a ≤ S65536x128.size a)
theorem k0_mult9_dvd : ∀ (v57 : BitVec 32) (k0_hw9 : k0_chk9 v57), 4 ∣ (k0_mult9 v57).toNat := fun v57 k0_hw9 => k0_hw9.1
theorem k0_off9_inb : ∀ (v57 : BitVec 32) (k0_hw9 : k0_chk9 v57), ∀ a, (k0_off9 v57) a + S4x128.size a ≤ S65536x128.size a := fun v57 k0_hw9 => k0_hw9.2

def k0_mult10 (v64 : BitVec 32) : BitVec 32 :=
  v64

def k0_off10 (v64 : BitVec 32) : Fin 2 → Nat :=
  let v65 : BitVec 32 := v64
  let v66 : Index := Scalar.indexCast v65
  let c0_47 : Index := 0#32
  ![v66.toNat, 0]

def k0_chk10 (v64 : BitVec 32) : Prop :=
  (4 ∣ (k0_mult10 v64).toNat) ∧
  (∀ a, (k0_off10 v64) a + S4x128.size a ≤ S65536x128.size a)
theorem k0_mult10_dvd : ∀ (v64 : BitVec 32) (k0_hw10 : k0_chk10 v64), 4 ∣ (k0_mult10 v64).toNat := fun v64 k0_hw10 => k0_hw10.1
theorem k0_off10_inb : ∀ (v64 : BitVec 32) (k0_hw10 : k0_chk10 v64), ∀ a, (k0_off10 v64) a + S4x128.size a ≤ S65536x128.size a := fun v64 k0_hw10 => k0_hw10.2

def k0_mult11 (v71 : BitVec 32) : BitVec 32 :=
  v71

def k0_off11 (v71 : BitVec 32) : Fin 2 → Nat :=
  let v72 : BitVec 32 := v71
  let v73 : Index := Scalar.indexCast v72
  let c0_52 : Index := 0#32
  ![v73.toNat, 0]

def k0_chk11 (v71 : BitVec 32) : Prop :=
  (4 ∣ (k0_mult11 v71).toNat) ∧
  (∀ a, (k0_off11 v71) a + S4x128.size a ≤ S65536x128.size a)
theorem k0_mult11_dvd : ∀ (v71 : BitVec 32) (k0_hw11 : k0_chk11 v71), 4 ∣ (k0_mult11 v71).toNat := fun v71 k0_hw11 => k0_hw11.1
theorem k0_off11_inb : ∀ (v71 : BitVec 32) (k0_hw11 : k0_chk11 v71), ∀ a, (k0_off11 v71) a + S4x128.size a ≤ S65536x128.size a := fun v71 k0_hw11 => k0_hw11.2

def k0_mult12 (v78 : BitVec 32) : BitVec 32 :=
  v78

def k0_off12 (v78 : BitVec 32) : Fin 2 → Nat :=
  let v79 : BitVec 32 := v78
  let v80 : Index := Scalar.indexCast v79
  let c0_57 : Index := 0#32
  ![v80.toNat, 0]

def k0_chk12 (v78 : BitVec 32) : Prop :=
  (4 ∣ (k0_mult12 v78).toNat) ∧
  (∀ a, (k0_off12 v78) a + S4x128.size a ≤ S65536x128.size a)
theorem k0_mult12_dvd : ∀ (v78 : BitVec 32) (k0_hw12 : k0_chk12 v78), 4 ∣ (k0_mult12 v78).toNat := fun v78 k0_hw12 => k0_hw12.1
theorem k0_off12_inb : ∀ (v78 : BitVec 32) (k0_hw12 : k0_chk12 v78), ∀ a, (k0_off12 v78) a + S4x128.size a ≤ S65536x128.size a := fun v78 k0_hw12 => k0_hw12.2

def k0_mult13 (v85 : BitVec 32) : BitVec 32 :=
  v85

def k0_off13 (v85 : BitVec 32) : Fin 2 → Nat :=
  let v86 : BitVec 32 := v85
  let v87 : Index := Scalar.indexCast v86
  let c0_62 : Index := 0#32
  ![v87.toNat, 0]

def k0_chk13 (v85 : BitVec 32) : Prop :=
  (4 ∣ (k0_mult13 v85).toNat) ∧
  (∀ a, (k0_off13 v85) a + S4x128.size a ≤ S65536x128.size a)
theorem k0_mult13_dvd : ∀ (v85 : BitVec 32) (k0_hw13 : k0_chk13 v85), 4 ∣ (k0_mult13 v85).toNat := fun v85 k0_hw13 => k0_hw13.1
theorem k0_off13_inb : ∀ (v85 : BitVec 32) (k0_hw13 : k0_chk13 v85), ∀ a, (k0_off13 v85) a + S4x128.size a ≤ S65536x128.size a := fun v85 k0_hw13 => k0_hw13.2

def k0_mult14 (v92 : BitVec 32) : BitVec 32 :=
  v92

def k0_off14 (v92 : BitVec 32) : Fin 2 → Nat :=
  let v93 : BitVec 32 := v92
  let v94 : Index := Scalar.indexCast v93
  let c0_67 : Index := 0#32
  ![v94.toNat, 0]

def k0_chk14 (v92 : BitVec 32) : Prop :=
  (4 ∣ (k0_mult14 v92).toNat) ∧
  (∀ a, (k0_off14 v92) a + S4x128.size a ≤ S65536x128.size a)
theorem k0_mult14_dvd : ∀ (v92 : BitVec 32) (k0_hw14 : k0_chk14 v92), 4 ∣ (k0_mult14 v92).toNat := fun v92 k0_hw14 => k0_hw14.1
theorem k0_off14_inb : ∀ (v92 : BitVec 32) (k0_hw14 : k0_chk14 v92), ∀ a, (k0_off14 v92) a + S4x128.size a ≤ S65536x128.size a := fun v92 k0_hw14 => k0_hw14.2

def k0_mult15 (v99 : BitVec 32) : BitVec 32 :=
  v99

def k0_off15 (v99 : BitVec 32) : Fin 2 → Nat :=
  let v100 : BitVec 32 := v99
  let v101 : Index := Scalar.indexCast v100
  let c0_72 : Index := 0#32
  ![v101.toNat, 0]

def k0_chk15 (v99 : BitVec 32) : Prop :=
  (4 ∣ (k0_mult15 v99).toNat) ∧
  (∀ a, (k0_off15 v99) a + S4x128.size a ≤ S65536x128.size a)
theorem k0_mult15_dvd : ∀ (v99 : BitVec 32) (k0_hw15 : k0_chk15 v99), 4 ∣ (k0_mult15 v99).toNat := fun v99 k0_hw15 => k0_hw15.1
theorem k0_off15_inb : ∀ (v99 : BitVec 32) (k0_hw15 : k0_chk15 v99), ∀ a, (k0_off15 v99) a + S4x128.size a ≤ S65536x128.size a := fun v99 k0_hw15 => k0_hw15.2

def k0_mult16 (v106 : BitVec 32) : BitVec 32 :=
  v106

def k0_off16 (v106 : BitVec 32) : Fin 2 → Nat :=
  let v107 : BitVec 32 := v106
  let v108 : Index := Scalar.indexCast v107
  let c0_77 : Index := 0#32
  ![v108.toNat, 0]

def k0_chk16 (v106 : BitVec 32) : Prop :=
  (4 ∣ (k0_mult16 v106).toNat) ∧
  (∀ a, (k0_off16 v106) a + S4x128.size a ≤ S65536x128.size a)
theorem k0_mult16_dvd : ∀ (v106 : BitVec 32) (k0_hw16 : k0_chk16 v106), 4 ∣ (k0_mult16 v106).toNat := fun v106 k0_hw16 => k0_hw16.1
theorem k0_off16_inb : ∀ (v106 : BitVec 32) (k0_hw16 : k0_chk16 v106), ∀ a, (k0_off16 v106) a + S4x128.size a ≤ S65536x128.size a := fun v106 k0_hw16 => k0_hw16.2

def k0_mult17 (v113 : BitVec 32) : BitVec 32 :=
  v113

def k0_off17 (v113 : BitVec 32) : Fin 2 → Nat :=
  let v114 : BitVec 32 := v113
  let v115 : Index := Scalar.indexCast v114
  let c0_82 : Index := 0#32
  ![v115.toNat, 0]

def k0_chk17 (v113 : BitVec 32) : Prop :=
  (4 ∣ (k0_mult17 v113).toNat) ∧
  (∀ a, (k0_off17 v113) a + S4x128.size a ≤ S65536x128.size a)
theorem k0_mult17_dvd : ∀ (v113 : BitVec 32) (k0_hw17 : k0_chk17 v113), 4 ∣ (k0_mult17 v113).toNat := fun v113 k0_hw17 => k0_hw17.1
theorem k0_off17_inb : ∀ (v113 : BitVec 32) (k0_hw17 : k0_chk17 v113), ∀ a, (k0_off17 v113) a + S4x128.size a ≤ S65536x128.size a := fun v113 k0_hw17 => k0_hw17.2

def k0_mult18 (v120 : BitVec 32) : BitVec 32 :=
  v120

def k0_off18 (v120 : BitVec 32) : Fin 2 → Nat :=
  let v121 : BitVec 32 := v120
  let v122 : Index := Scalar.indexCast v121
  let c0_87 : Index := 0#32
  ![v122.toNat, 0]

def k0_chk18 (v120 : BitVec 32) : Prop :=
  (4 ∣ (k0_mult18 v120).toNat) ∧
  (∀ a, (k0_off18 v120) a + S4x128.size a ≤ S65536x128.size a)
theorem k0_mult18_dvd : ∀ (v120 : BitVec 32) (k0_hw18 : k0_chk18 v120), 4 ∣ (k0_mult18 v120).toNat := fun v120 k0_hw18 => k0_hw18.1
theorem k0_off18_inb : ∀ (v120 : BitVec 32) (k0_hw18 : k0_chk18 v120), ∀ a, (k0_off18 v120) a + S4x128.size a ≤ S65536x128.size a := fun v120 k0_hw18 => k0_hw18.2

def k0_mult19 (v127 : BitVec 32) : BitVec 32 :=
  v127

def k0_off19 (v127 : BitVec 32) : Fin 2 → Nat :=
  let v128 : BitVec 32 := v127
  let v129 : Index := Scalar.indexCast v128
  let c0_92 : Index := 0#32
  ![v129.toNat, 0]

def k0_chk19 (v127 : BitVec 32) : Prop :=
  (4 ∣ (k0_mult19 v127).toNat) ∧
  (∀ a, (k0_off19 v127) a + S4x128.size a ≤ S65536x128.size a)
theorem k0_mult19_dvd : ∀ (v127 : BitVec 32) (k0_hw19 : k0_chk19 v127), 4 ∣ (k0_mult19 v127).toNat := fun v127 k0_hw19 => k0_hw19.1
theorem k0_off19_inb : ∀ (v127 : BitVec 32) (k0_hw19 : k0_chk19 v127), ∀ a, (k0_off19 v127) a + S4x128.size a ≤ S65536x128.size a := fun v127 k0_hw19 => k0_hw19.2

def k0_mult20 (v134 : BitVec 32) : BitVec 32 :=
  v134

def k0_off20 (v134 : BitVec 32) : Fin 2 → Nat :=
  let v135 : BitVec 32 := v134
  let v136 : Index := Scalar.indexCast v135
  let c0_97 : Index := 0#32
  ![v136.toNat, 0]

def k0_chk20 (v134 : BitVec 32) : Prop :=
  (4 ∣ (k0_mult20 v134).toNat) ∧
  (∀ a, (k0_off20 v134) a + S4x128.size a ≤ S65536x128.size a)
theorem k0_mult20_dvd : ∀ (v134 : BitVec 32) (k0_hw20 : k0_chk20 v134), 4 ∣ (k0_mult20 v134).toNat := fun v134 k0_hw20 => k0_hw20.1
theorem k0_off20_inb : ∀ (v134 : BitVec 32) (k0_hw20 : k0_chk20 v134), ∀ a, (k0_off20 v134) a + S4x128.size a ≤ S65536x128.size a := fun v134 k0_hw20 => k0_hw20.2

def k0_mult21 (v141 : BitVec 32) : BitVec 32 :=
  v141

def k0_off21 (v141 : BitVec 32) : Fin 2 → Nat :=
  let v142 : BitVec 32 := v141
  let v143 : Index := Scalar.indexCast v142
  let c0_102 : Index := 0#32
  ![v143.toNat, 0]

def k0_chk21 (v141 : BitVec 32) : Prop :=
  (4 ∣ (k0_mult21 v141).toNat) ∧
  (∀ a, (k0_off21 v141) a + S4x128.size a ≤ S65536x128.size a)
theorem k0_mult21_dvd : ∀ (v141 : BitVec 32) (k0_hw21 : k0_chk21 v141), 4 ∣ (k0_mult21 v141).toNat := fun v141 k0_hw21 => k0_hw21.1
theorem k0_off21_inb : ∀ (v141 : BitVec 32) (k0_hw21 : k0_chk21 v141), ∀ a, (k0_off21 v141) a + S4x128.size a ≤ S65536x128.size a := fun v141 k0_hw21 => k0_hw21.2

def k0_mult22 (v148 : BitVec 32) : BitVec 32 :=
  v148

def k0_off22 (v148 : BitVec 32) : Fin 2 → Nat :=
  let v149 : BitVec 32 := v148
  let v150 : Index := Scalar.indexCast v149
  let c0_107 : Index := 0#32
  ![v150.toNat, 0]

def k0_chk22 (v148 : BitVec 32) : Prop :=
  (4 ∣ (k0_mult22 v148).toNat) ∧
  (∀ a, (k0_off22 v148) a + S4x128.size a ≤ S65536x128.size a)
theorem k0_mult22_dvd : ∀ (v148 : BitVec 32) (k0_hw22 : k0_chk22 v148), 4 ∣ (k0_mult22 v148).toNat := fun v148 k0_hw22 => k0_hw22.1
theorem k0_off22_inb : ∀ (v148 : BitVec 32) (k0_hw22 : k0_chk22 v148), ∀ a, (k0_off22 v148) a + S4x128.size a ≤ S65536x128.size a := fun v148 k0_hw22 => k0_hw22.2

def k0_mult23 (v155 : BitVec 32) : BitVec 32 :=
  v155

def k0_off23 (v155 : BitVec 32) : Fin 2 → Nat :=
  let v156 : BitVec 32 := v155
  let v157 : Index := Scalar.indexCast v156
  let c0_112 : Index := 0#32
  ![v157.toNat, 0]

def k0_chk23 (v155 : BitVec 32) : Prop :=
  (4 ∣ (k0_mult23 v155).toNat) ∧
  (∀ a, (k0_off23 v155) a + S4x128.size a ≤ S65536x128.size a)
theorem k0_mult23_dvd : ∀ (v155 : BitVec 32) (k0_hw23 : k0_chk23 v155), 4 ∣ (k0_mult23 v155).toNat := fun v155 k0_hw23 => k0_hw23.1
theorem k0_off23_inb : ∀ (v155 : BitVec 32) (k0_hw23 : k0_chk23 v155), ∀ a, (k0_off23 v155) a + S4x128.size a ≤ S65536x128.size a := fun v155 k0_hw23 => k0_hw23.2

def k0_mult24 (v162 : BitVec 32) : BitVec 32 :=
  v162

def k0_off24 (v162 : BitVec 32) : Fin 2 → Nat :=
  let v163 : BitVec 32 := v162
  let v164 : Index := Scalar.indexCast v163
  let c0_117 : Index := 0#32
  ![v164.toNat, 0]

def k0_chk24 (v162 : BitVec 32) : Prop :=
  (4 ∣ (k0_mult24 v162).toNat) ∧
  (∀ a, (k0_off24 v162) a + S4x128.size a ≤ S65536x128.size a)
theorem k0_mult24_dvd : ∀ (v162 : BitVec 32) (k0_hw24 : k0_chk24 v162), 4 ∣ (k0_mult24 v162).toNat := fun v162 k0_hw24 => k0_hw24.1
theorem k0_off24_inb : ∀ (v162 : BitVec 32) (k0_hw24 : k0_chk24 v162), ∀ a, (k0_off24 v162) a + S4x128.size a ≤ S65536x128.size a := fun v162 k0_hw24 => k0_hw24.2

def k0_mult25 (v169 : BitVec 32) : BitVec 32 :=
  v169

def k0_off25 (v169 : BitVec 32) : Fin 2 → Nat :=
  let v170 : BitVec 32 := v169
  let v171 : Index := Scalar.indexCast v170
  let c0_122 : Index := 0#32
  ![v171.toNat, 0]

def k0_chk25 (v169 : BitVec 32) : Prop :=
  (4 ∣ (k0_mult25 v169).toNat) ∧
  (∀ a, (k0_off25 v169) a + S4x128.size a ≤ S65536x128.size a)
theorem k0_mult25_dvd : ∀ (v169 : BitVec 32) (k0_hw25 : k0_chk25 v169), 4 ∣ (k0_mult25 v169).toNat := fun v169 k0_hw25 => k0_hw25.1
theorem k0_off25_inb : ∀ (v169 : BitVec 32) (k0_hw25 : k0_chk25 v169), ∀ a, (k0_off25 v169) a + S4x128.size a ≤ S65536x128.size a := fun v169 k0_hw25 => k0_hw25.2

def k0_mult26 (v176 : BitVec 32) : BitVec 32 :=
  v176

def k0_off26 (v176 : BitVec 32) : Fin 2 → Nat :=
  let v177 : BitVec 32 := v176
  let v178 : Index := Scalar.indexCast v177
  let c0_127 : Index := 0#32
  ![v178.toNat, 0]

def k0_chk26 (v176 : BitVec 32) : Prop :=
  (4 ∣ (k0_mult26 v176).toNat) ∧
  (∀ a, (k0_off26 v176) a + S4x128.size a ≤ S65536x128.size a)
theorem k0_mult26_dvd : ∀ (v176 : BitVec 32) (k0_hw26 : k0_chk26 v176), 4 ∣ (k0_mult26 v176).toNat := fun v176 k0_hw26 => k0_hw26.1
theorem k0_off26_inb : ∀ (v176 : BitVec 32) (k0_hw26 : k0_chk26 v176), ∀ a, (k0_off26 v176) a + S4x128.size a ≤ S65536x128.size a := fun v176 k0_hw26 => k0_hw26.2

def k0_mult27 (v183 : BitVec 32) : BitVec 32 :=
  v183

def k0_off27 (v183 : BitVec 32) : Fin 2 → Nat :=
  let v184 : BitVec 32 := v183
  let v185 : Index := Scalar.indexCast v184
  let c0_132 : Index := 0#32
  ![v185.toNat, 0]

def k0_chk27 (v183 : BitVec 32) : Prop :=
  (4 ∣ (k0_mult27 v183).toNat) ∧
  (∀ a, (k0_off27 v183) a + S4x128.size a ≤ S65536x128.size a)
theorem k0_mult27_dvd : ∀ (v183 : BitVec 32) (k0_hw27 : k0_chk27 v183), 4 ∣ (k0_mult27 v183).toNat := fun v183 k0_hw27 => k0_hw27.1
theorem k0_off27_inb : ∀ (v183 : BitVec 32) (k0_hw27 : k0_chk27 v183), ∀ a, (k0_off27 v183) a + S4x128.size a ≤ S65536x128.size a := fun v183 k0_hw27 => k0_hw27.2

def k0_mult28 (v190 : BitVec 32) : BitVec 32 :=
  v190

def k0_off28 (v190 : BitVec 32) : Fin 2 → Nat :=
  let v191 : BitVec 32 := v190
  let v192 : Index := Scalar.indexCast v191
  let c0_137 : Index := 0#32
  ![v192.toNat, 0]

def k0_chk28 (v190 : BitVec 32) : Prop :=
  (4 ∣ (k0_mult28 v190).toNat) ∧
  (∀ a, (k0_off28 v190) a + S4x128.size a ≤ S65536x128.size a)
theorem k0_mult28_dvd : ∀ (v190 : BitVec 32) (k0_hw28 : k0_chk28 v190), 4 ∣ (k0_mult28 v190).toNat := fun v190 k0_hw28 => k0_hw28.1
theorem k0_off28_inb : ∀ (v190 : BitVec 32) (k0_hw28 : k0_chk28 v190), ∀ a, (k0_off28 v190) a + S4x128.size a ≤ S65536x128.size a := fun v190 k0_hw28 => k0_hw28.2

def k0_mult29 (v197 : BitVec 32) : BitVec 32 :=
  v197

def k0_off29 (v197 : BitVec 32) : Fin 2 → Nat :=
  let v198 : BitVec 32 := v197
  let v199 : Index := Scalar.indexCast v198
  let c0_142 : Index := 0#32
  ![v199.toNat, 0]

def k0_chk29 (v197 : BitVec 32) : Prop :=
  (4 ∣ (k0_mult29 v197).toNat) ∧
  (∀ a, (k0_off29 v197) a + S4x128.size a ≤ S65536x128.size a)
theorem k0_mult29_dvd : ∀ (v197 : BitVec 32) (k0_hw29 : k0_chk29 v197), 4 ∣ (k0_mult29 v197).toNat := fun v197 k0_hw29 => k0_hw29.1
theorem k0_off29_inb : ∀ (v197 : BitVec 32) (k0_hw29 : k0_chk29 v197), ∀ a, (k0_off29 v197) a + S4x128.size a ≤ S65536x128.size a := fun v197 k0_hw29 => k0_hw29.2

def k0_mult30 (v204 : BitVec 32) : BitVec 32 :=
  v204

def k0_off30 (v204 : BitVec 32) : Fin 2 → Nat :=
  let v205 : BitVec 32 := v204
  let v206 : Index := Scalar.indexCast v205
  let c0_147 : Index := 0#32
  ![v206.toNat, 0]

def k0_chk30 (v204 : BitVec 32) : Prop :=
  (4 ∣ (k0_mult30 v204).toNat) ∧
  (∀ a, (k0_off30 v204) a + S4x128.size a ≤ S65536x128.size a)
theorem k0_mult30_dvd : ∀ (v204 : BitVec 32) (k0_hw30 : k0_chk30 v204), 4 ∣ (k0_mult30 v204).toNat := fun v204 k0_hw30 => k0_hw30.1
theorem k0_off30_inb : ∀ (v204 : BitVec 32) (k0_hw30 : k0_chk30 v204), ∀ a, (k0_off30 v204) a + S4x128.size a ≤ S65536x128.size a := fun v204 k0_hw30 => k0_hw30.2

def k0_mult31 (v211 : BitVec 32) : BitVec 32 :=
  v211

def k0_off31 (v211 : BitVec 32) : Fin 2 → Nat :=
  let v212 : BitVec 32 := v211
  let v213 : Index := Scalar.indexCast v212
  let c0_152 : Index := 0#32
  ![v213.toNat, 0]

def k0_chk31 (v211 : BitVec 32) : Prop :=
  (4 ∣ (k0_mult31 v211).toNat) ∧
  (∀ a, (k0_off31 v211) a + S4x128.size a ≤ S65536x128.size a)
theorem k0_mult31_dvd : ∀ (v211 : BitVec 32) (k0_hw31 : k0_chk31 v211), 4 ∣ (k0_mult31 v211).toNat := fun v211 k0_hw31 => k0_hw31.1
theorem k0_off31_inb : ∀ (v211 : BitVec 32) (k0_hw31 : k0_chk31 v211), ∀ a, (k0_off31 v211) a + S4x128.size a ≤ S65536x128.size a := fun v211 k0_hw31 => k0_hw31.2

def k0_mult32 (v218 : BitVec 32) : BitVec 32 :=
  v218

def k0_off32 (v218 : BitVec 32) : Fin 2 → Nat :=
  let v219 : BitVec 32 := v218
  let v220 : Index := Scalar.indexCast v219
  let c0_157 : Index := 0#32
  ![v220.toNat, 0]

def k0_chk32 (v218 : BitVec 32) : Prop :=
  (4 ∣ (k0_mult32 v218).toNat) ∧
  (∀ a, (k0_off32 v218) a + S4x128.size a ≤ S65536x128.size a)
theorem k0_mult32_dvd : ∀ (v218 : BitVec 32) (k0_hw32 : k0_chk32 v218), 4 ∣ (k0_mult32 v218).toNat := fun v218 k0_hw32 => k0_hw32.1
theorem k0_off32_inb : ∀ (v218 : BitVec 32) (k0_hw32 : k0_chk32 v218), ∀ a, (k0_off32 v218) a + S4x128.size a ≤ S65536x128.size a := fun v218 k0_hw32 => k0_hw32.2

def k0_mult33 (v225 : BitVec 32) : BitVec 32 :=
  v225

def k0_off33 (v225 : BitVec 32) : Fin 2 → Nat :=
  let v226 : BitVec 32 := v225
  let v227 : Index := Scalar.indexCast v226
  let c0_162 : Index := 0#32
  ![v227.toNat, 0]

def k0_chk33 (v225 : BitVec 32) : Prop :=
  (4 ∣ (k0_mult33 v225).toNat) ∧
  (∀ a, (k0_off33 v225) a + S4x128.size a ≤ S65536x128.size a)
theorem k0_mult33_dvd : ∀ (v225 : BitVec 32) (k0_hw33 : k0_chk33 v225), 4 ∣ (k0_mult33 v225).toNat := fun v225 k0_hw33 => k0_hw33.1
theorem k0_off33_inb : ∀ (v225 : BitVec 32) (k0_hw33 : k0_chk33 v225), ∀ a, (k0_off33 v225) a + S4x128.size a ≤ S65536x128.size a := fun v225 k0_hw33 => k0_hw33.2

def k0_mult34 (v232 : BitVec 32) : BitVec 32 :=
  v232

def k0_off34 (v232 : BitVec 32) : Fin 2 → Nat :=
  let v233 : BitVec 32 := v232
  let v234 : Index := Scalar.indexCast v233
  let c0_167 : Index := 0#32
  ![v234.toNat, 0]

def k0_chk34 (v232 : BitVec 32) : Prop :=
  (4 ∣ (k0_mult34 v232).toNat) ∧
  (∀ a, (k0_off34 v232) a + S4x128.size a ≤ S65536x128.size a)
theorem k0_mult34_dvd : ∀ (v232 : BitVec 32) (k0_hw34 : k0_chk34 v232), 4 ∣ (k0_mult34 v232).toNat := fun v232 k0_hw34 => k0_hw34.1
theorem k0_off34_inb : ∀ (v232 : BitVec 32) (k0_hw34 : k0_chk34 v232), ∀ a, (k0_off34 v232) a + S4x128.size a ≤ S65536x128.size a := fun v232 k0_hw34 => k0_hw34.2

def k0_mult35 (v239 : BitVec 32) : BitVec 32 :=
  v239

def k0_off35 (v239 : BitVec 32) : Fin 2 → Nat :=
  let v240 : BitVec 32 := v239
  let v241 : Index := Scalar.indexCast v240
  let c0_172 : Index := 0#32
  ![v241.toNat, 0]

def k0_chk35 (v239 : BitVec 32) : Prop :=
  (4 ∣ (k0_mult35 v239).toNat) ∧
  (∀ a, (k0_off35 v239) a + S4x128.size a ≤ S65536x128.size a)
theorem k0_mult35_dvd : ∀ (v239 : BitVec 32) (k0_hw35 : k0_chk35 v239), 4 ∣ (k0_mult35 v239).toNat := fun v239 k0_hw35 => k0_hw35.1
theorem k0_off35_inb : ∀ (v239 : BitVec 32) (k0_hw35 : k0_chk35 v239), ∀ a, (k0_off35 v239) a + S4x128.size a ≤ S65536x128.size a := fun v239 k0_hw35 => k0_hw35.2

def k0_mult36 (v246 : BitVec 32) : BitVec 32 :=
  v246

def k0_off36 (v246 : BitVec 32) : Fin 2 → Nat :=
  let v247 : BitVec 32 := v246
  let v248 : Index := Scalar.indexCast v247
  let c0_177 : Index := 0#32
  ![v248.toNat, 0]

def k0_chk36 (v246 : BitVec 32) : Prop :=
  (4 ∣ (k0_mult36 v246).toNat) ∧
  (∀ a, (k0_off36 v246) a + S4x128.size a ≤ S65536x128.size a)
theorem k0_mult36_dvd : ∀ (v246 : BitVec 32) (k0_hw36 : k0_chk36 v246), 4 ∣ (k0_mult36 v246).toNat := fun v246 k0_hw36 => k0_hw36.1
theorem k0_off36_inb : ∀ (v246 : BitVec 32) (k0_hw36 : k0_chk36 v246), ∀ a, (k0_off36 v246) a + S4x128.size a ≤ S65536x128.size a := fun v246 k0_hw36 => k0_hw36.2

def k0_mult37 (v253 : BitVec 32) : BitVec 32 :=
  v253

def k0_off37 (v253 : BitVec 32) : Fin 2 → Nat :=
  let v254 : BitVec 32 := v253
  let v255 : Index := Scalar.indexCast v254
  let c0_182 : Index := 0#32
  ![v255.toNat, 0]

def k0_chk37 (v253 : BitVec 32) : Prop :=
  (4 ∣ (k0_mult37 v253).toNat) ∧
  (∀ a, (k0_off37 v253) a + S4x128.size a ≤ S65536x128.size a)
theorem k0_mult37_dvd : ∀ (v253 : BitVec 32) (k0_hw37 : k0_chk37 v253), 4 ∣ (k0_mult37 v253).toNat := fun v253 k0_hw37 => k0_hw37.1
theorem k0_off37_inb : ∀ (v253 : BitVec 32) (k0_hw37 : k0_chk37 v253), ∀ a, (k0_off37 v253) a + S4x128.size a ≤ S65536x128.size a := fun v253 k0_hw37 => k0_hw37.2

def k0_mult38 (v260 : BitVec 32) : BitVec 32 :=
  v260

def k0_off38 (v260 : BitVec 32) : Fin 2 → Nat :=
  let v261 : BitVec 32 := v260
  let v262 : Index := Scalar.indexCast v261
  let c0_187 : Index := 0#32
  ![v262.toNat, 0]

def k0_chk38 (v260 : BitVec 32) : Prop :=
  (4 ∣ (k0_mult38 v260).toNat) ∧
  (∀ a, (k0_off38 v260) a + S4x128.size a ≤ S65536x128.size a)
theorem k0_mult38_dvd : ∀ (v260 : BitVec 32) (k0_hw38 : k0_chk38 v260), 4 ∣ (k0_mult38 v260).toNat := fun v260 k0_hw38 => k0_hw38.1
theorem k0_off38_inb : ∀ (v260 : BitVec 32) (k0_hw38 : k0_chk38 v260), ∀ a, (k0_off38 v260) a + S4x128.size a ≤ S65536x128.size a := fun v260 k0_hw38 => k0_hw38.2

def k0_mult39 (v267 : BitVec 32) : BitVec 32 :=
  v267

def k0_off39 (v267 : BitVec 32) : Fin 2 → Nat :=
  let v268 : BitVec 32 := v267
  let v269 : Index := Scalar.indexCast v268
  let c0_192 : Index := 0#32
  ![v269.toNat, 0]

def k0_chk39 (v267 : BitVec 32) : Prop :=
  (4 ∣ (k0_mult39 v267).toNat) ∧
  (∀ a, (k0_off39 v267) a + S4x128.size a ≤ S65536x128.size a)
theorem k0_mult39_dvd : ∀ (v267 : BitVec 32) (k0_hw39 : k0_chk39 v267), 4 ∣ (k0_mult39 v267).toNat := fun v267 k0_hw39 => k0_hw39.1
theorem k0_off39_inb : ∀ (v267 : BitVec 32) (k0_hw39 : k0_chk39 v267), ∀ a, (k0_off39 v267) a + S4x128.size a ≤ S65536x128.size a := fun v267 k0_hw39 => k0_hw39.2

def k0_mult40 (v274 : BitVec 32) : BitVec 32 :=
  v274

def k0_off40 (v274 : BitVec 32) : Fin 2 → Nat :=
  let v275 : BitVec 32 := v274
  let v276 : Index := Scalar.indexCast v275
  let c0_197 : Index := 0#32
  ![v276.toNat, 0]

def k0_chk40 (v274 : BitVec 32) : Prop :=
  (4 ∣ (k0_mult40 v274).toNat) ∧
  (∀ a, (k0_off40 v274) a + S4x128.size a ≤ S65536x128.size a)
theorem k0_mult40_dvd : ∀ (v274 : BitVec 32) (k0_hw40 : k0_chk40 v274), 4 ∣ (k0_mult40 v274).toNat := fun v274 k0_hw40 => k0_hw40.1
theorem k0_off40_inb : ∀ (v274 : BitVec 32) (k0_hw40 : k0_chk40 v274), ∀ a, (k0_off40 v274) a + S4x128.size a ≤ S65536x128.size a := fun v274 k0_hw40 => k0_hw40.2

def k0_mult41 (v281 : BitVec 32) : BitVec 32 :=
  v281

def k0_off41 (v281 : BitVec 32) : Fin 2 → Nat :=
  let v282 : BitVec 32 := v281
  let v283 : Index := Scalar.indexCast v282
  let c0_202 : Index := 0#32
  ![v283.toNat, 0]

def k0_chk41 (v281 : BitVec 32) : Prop :=
  (4 ∣ (k0_mult41 v281).toNat) ∧
  (∀ a, (k0_off41 v281) a + S4x128.size a ≤ S65536x128.size a)
theorem k0_mult41_dvd : ∀ (v281 : BitVec 32) (k0_hw41 : k0_chk41 v281), 4 ∣ (k0_mult41 v281).toNat := fun v281 k0_hw41 => k0_hw41.1
theorem k0_off41_inb : ∀ (v281 : BitVec 32) (k0_hw41 : k0_chk41 v281), ∀ a, (k0_off41 v281) a + S4x128.size a ≤ S65536x128.size a := fun v281 k0_hw41 => k0_hw41.2

def k0_mult42 (v288 : BitVec 32) : BitVec 32 :=
  v288

def k0_off42 (v288 : BitVec 32) : Fin 2 → Nat :=
  let v289 : BitVec 32 := v288
  let v290 : Index := Scalar.indexCast v289
  let c0_207 : Index := 0#32
  ![v290.toNat, 0]

def k0_chk42 (v288 : BitVec 32) : Prop :=
  (4 ∣ (k0_mult42 v288).toNat) ∧
  (∀ a, (k0_off42 v288) a + S4x128.size a ≤ S65536x128.size a)
theorem k0_mult42_dvd : ∀ (v288 : BitVec 32) (k0_hw42 : k0_chk42 v288), 4 ∣ (k0_mult42 v288).toNat := fun v288 k0_hw42 => k0_hw42.1
theorem k0_off42_inb : ∀ (v288 : BitVec 32) (k0_hw42 : k0_chk42 v288), ∀ a, (k0_off42 v288) a + S4x128.size a ≤ S65536x128.size a := fun v288 k0_hw42 => k0_hw42.2

def k0_mult43 (v295 : BitVec 32) : BitVec 32 :=
  v295

def k0_off43 (v295 : BitVec 32) : Fin 2 → Nat :=
  let v296 : BitVec 32 := v295
  let v297 : Index := Scalar.indexCast v296
  let c0_212 : Index := 0#32
  ![v297.toNat, 0]

def k0_chk43 (v295 : BitVec 32) : Prop :=
  (4 ∣ (k0_mult43 v295).toNat) ∧
  (∀ a, (k0_off43 v295) a + S4x128.size a ≤ S65536x128.size a)
theorem k0_mult43_dvd : ∀ (v295 : BitVec 32) (k0_hw43 : k0_chk43 v295), 4 ∣ (k0_mult43 v295).toNat := fun v295 k0_hw43 => k0_hw43.1
theorem k0_off43_inb : ∀ (v295 : BitVec 32) (k0_hw43 : k0_chk43 v295), ∀ a, (k0_off43 v295) a + S4x128.size a ≤ S65536x128.size a := fun v295 k0_hw43 => k0_hw43.2

def k0_mult44 (v302 : BitVec 32) : BitVec 32 :=
  v302

def k0_off44 (v302 : BitVec 32) : Fin 2 → Nat :=
  let v303 : BitVec 32 := v302
  let v304 : Index := Scalar.indexCast v303
  let c0_217 : Index := 0#32
  ![v304.toNat, 0]

def k0_chk44 (v302 : BitVec 32) : Prop :=
  (4 ∣ (k0_mult44 v302).toNat) ∧
  (∀ a, (k0_off44 v302) a + S4x128.size a ≤ S65536x128.size a)
theorem k0_mult44_dvd : ∀ (v302 : BitVec 32) (k0_hw44 : k0_chk44 v302), 4 ∣ (k0_mult44 v302).toNat := fun v302 k0_hw44 => k0_hw44.1
theorem k0_off44_inb : ∀ (v302 : BitVec 32) (k0_hw44 : k0_chk44 v302), ∀ a, (k0_off44 v302) a + S4x128.size a ≤ S65536x128.size a := fun v302 k0_hw44 => k0_hw44.2

def k0_mult45 (v309 : BitVec 32) : BitVec 32 :=
  v309

def k0_off45 (v309 : BitVec 32) : Fin 2 → Nat :=
  let v310 : BitVec 32 := v309
  let v311 : Index := Scalar.indexCast v310
  let c0_222 : Index := 0#32
  ![v311.toNat, 0]

def k0_chk45 (v309 : BitVec 32) : Prop :=
  (4 ∣ (k0_mult45 v309).toNat) ∧
  (∀ a, (k0_off45 v309) a + S4x128.size a ≤ S65536x128.size a)
theorem k0_mult45_dvd : ∀ (v309 : BitVec 32) (k0_hw45 : k0_chk45 v309), 4 ∣ (k0_mult45 v309).toNat := fun v309 k0_hw45 => k0_hw45.1
theorem k0_off45_inb : ∀ (v309 : BitVec 32) (k0_hw45 : k0_chk45 v309), ∀ a, (k0_off45 v309) a + S4x128.size a ≤ S65536x128.size a := fun v309 k0_hw45 => k0_hw45.2

def k0_mult46 (v316 : BitVec 32) : BitVec 32 :=
  v316

def k0_off46 (v316 : BitVec 32) : Fin 2 → Nat :=
  let v317 : BitVec 32 := v316
  let v318 : Index := Scalar.indexCast v317
  let c0_227 : Index := 0#32
  ![v318.toNat, 0]

def k0_chk46 (v316 : BitVec 32) : Prop :=
  (4 ∣ (k0_mult46 v316).toNat) ∧
  (∀ a, (k0_off46 v316) a + S4x128.size a ≤ S65536x128.size a)
theorem k0_mult46_dvd : ∀ (v316 : BitVec 32) (k0_hw46 : k0_chk46 v316), 4 ∣ (k0_mult46 v316).toNat := fun v316 k0_hw46 => k0_hw46.1
theorem k0_off46_inb : ∀ (v316 : BitVec 32) (k0_hw46 : k0_chk46 v316), ∀ a, (k0_off46 v316) a + S4x128.size a ≤ S65536x128.size a := fun v316 k0_hw46 => k0_hw46.2

def k0_mult47 (v323 : BitVec 32) : BitVec 32 :=
  v323

def k0_off47 (v323 : BitVec 32) : Fin 2 → Nat :=
  let v324 : BitVec 32 := v323
  let v325 : Index := Scalar.indexCast v324
  let c0_232 : Index := 0#32
  ![v325.toNat, 0]

def k0_chk47 (v323 : BitVec 32) : Prop :=
  (4 ∣ (k0_mult47 v323).toNat) ∧
  (∀ a, (k0_off47 v323) a + S4x128.size a ≤ S65536x128.size a)
theorem k0_mult47_dvd : ∀ (v323 : BitVec 32) (k0_hw47 : k0_chk47 v323), 4 ∣ (k0_mult47 v323).toNat := fun v323 k0_hw47 => k0_hw47.1
theorem k0_off47_inb : ∀ (v323 : BitVec 32) (k0_hw47 : k0_chk47 v323), ∀ a, (k0_off47 v323) a + S4x128.size a ≤ S65536x128.size a := fun v323 k0_hw47 => k0_hw47.2

def k0_mult48 (v330 : BitVec 32) : BitVec 32 :=
  v330

def k0_off48 (v330 : BitVec 32) : Fin 2 → Nat :=
  let v331 : BitVec 32 := v330
  let v332 : Index := Scalar.indexCast v331
  let c0_237 : Index := 0#32
  ![v332.toNat, 0]

def k0_chk48 (v330 : BitVec 32) : Prop :=
  (4 ∣ (k0_mult48 v330).toNat) ∧
  (∀ a, (k0_off48 v330) a + S4x128.size a ≤ S65536x128.size a)
theorem k0_mult48_dvd : ∀ (v330 : BitVec 32) (k0_hw48 : k0_chk48 v330), 4 ∣ (k0_mult48 v330).toNat := fun v330 k0_hw48 => k0_hw48.1
theorem k0_off48_inb : ∀ (v330 : BitVec 32) (k0_hw48 : k0_chk48 v330), ∀ a, (k0_off48 v330) a + S4x128.size a ≤ S65536x128.size a := fun v330 k0_hw48 => k0_hw48.2

def k0_mult49 (v337 : BitVec 32) : BitVec 32 :=
  v337

def k0_off49 (v337 : BitVec 32) : Fin 2 → Nat :=
  let v338 : BitVec 32 := v337
  let v339 : Index := Scalar.indexCast v338
  let c0_242 : Index := 0#32
  ![v339.toNat, 0]

def k0_chk49 (v337 : BitVec 32) : Prop :=
  (4 ∣ (k0_mult49 v337).toNat) ∧
  (∀ a, (k0_off49 v337) a + S4x128.size a ≤ S65536x128.size a)
theorem k0_mult49_dvd : ∀ (v337 : BitVec 32) (k0_hw49 : k0_chk49 v337), 4 ∣ (k0_mult49 v337).toNat := fun v337 k0_hw49 => k0_hw49.1
theorem k0_off49_inb : ∀ (v337 : BitVec 32) (k0_hw49 : k0_chk49 v337), ∀ a, (k0_off49 v337) a + S4x128.size a ≤ S65536x128.size a := fun v337 k0_hw49 => k0_hw49.2

def k0_mult50 (v344 : BitVec 32) : BitVec 32 :=
  v344

def k0_off50 (v344 : BitVec 32) : Fin 2 → Nat :=
  let v345 : BitVec 32 := v344
  let v346 : Index := Scalar.indexCast v345
  let c0_247 : Index := 0#32
  ![v346.toNat, 0]

def k0_chk50 (v344 : BitVec 32) : Prop :=
  (4 ∣ (k0_mult50 v344).toNat) ∧
  (∀ a, (k0_off50 v344) a + S4x128.size a ≤ S65536x128.size a)
theorem k0_mult50_dvd : ∀ (v344 : BitVec 32) (k0_hw50 : k0_chk50 v344), 4 ∣ (k0_mult50 v344).toNat := fun v344 k0_hw50 => k0_hw50.1
theorem k0_off50_inb : ∀ (v344 : BitVec 32) (k0_hw50 : k0_chk50 v344), ∀ a, (k0_off50 v344) a + S4x128.size a ≤ S65536x128.size a := fun v344 k0_hw50 => k0_hw50.2

def k0_mult51 (v351 : BitVec 32) : BitVec 32 :=
  v351

def k0_off51 (v351 : BitVec 32) : Fin 2 → Nat :=
  let v352 : BitVec 32 := v351
  let v353 : Index := Scalar.indexCast v352
  let c0_252 : Index := 0#32
  ![v353.toNat, 0]

def k0_chk51 (v351 : BitVec 32) : Prop :=
  (4 ∣ (k0_mult51 v351).toNat) ∧
  (∀ a, (k0_off51 v351) a + S4x128.size a ≤ S65536x128.size a)
theorem k0_mult51_dvd : ∀ (v351 : BitVec 32) (k0_hw51 : k0_chk51 v351), 4 ∣ (k0_mult51 v351).toNat := fun v351 k0_hw51 => k0_hw51.1
theorem k0_off51_inb : ∀ (v351 : BitVec 32) (k0_hw51 : k0_chk51 v351), ∀ a, (k0_off51 v351) a + S4x128.size a ≤ S65536x128.size a := fun v351 k0_hw51 => k0_hw51.2

def k0_mult52 (v358 : BitVec 32) : BitVec 32 :=
  v358

def k0_off52 (v358 : BitVec 32) : Fin 2 → Nat :=
  let v359 : BitVec 32 := v358
  let v360 : Index := Scalar.indexCast v359
  let c0_257 : Index := 0#32
  ![v360.toNat, 0]

def k0_chk52 (v358 : BitVec 32) : Prop :=
  (4 ∣ (k0_mult52 v358).toNat) ∧
  (∀ a, (k0_off52 v358) a + S4x128.size a ≤ S65536x128.size a)
theorem k0_mult52_dvd : ∀ (v358 : BitVec 32) (k0_hw52 : k0_chk52 v358), 4 ∣ (k0_mult52 v358).toNat := fun v358 k0_hw52 => k0_hw52.1
theorem k0_off52_inb : ∀ (v358 : BitVec 32) (k0_hw52 : k0_chk52 v358), ∀ a, (k0_off52 v358) a + S4x128.size a ≤ S65536x128.size a := fun v358 k0_hw52 => k0_hw52.2

def k0_mult53 (v365 : BitVec 32) : BitVec 32 :=
  v365

def k0_off53 (v365 : BitVec 32) : Fin 2 → Nat :=
  let v366 : BitVec 32 := v365
  let v367 : Index := Scalar.indexCast v366
  let c0_262 : Index := 0#32
  ![v367.toNat, 0]

def k0_chk53 (v365 : BitVec 32) : Prop :=
  (4 ∣ (k0_mult53 v365).toNat) ∧
  (∀ a, (k0_off53 v365) a + S4x128.size a ≤ S65536x128.size a)
theorem k0_mult53_dvd : ∀ (v365 : BitVec 32) (k0_hw53 : k0_chk53 v365), 4 ∣ (k0_mult53 v365).toNat := fun v365 k0_hw53 => k0_hw53.1
theorem k0_off53_inb : ∀ (v365 : BitVec 32) (k0_hw53 : k0_chk53 v365), ∀ a, (k0_off53 v365) a + S4x128.size a ≤ S65536x128.size a := fun v365 k0_hw53 => k0_hw53.2

def k0_mult54 (v372 : BitVec 32) : BitVec 32 :=
  v372

def k0_off54 (v372 : BitVec 32) : Fin 2 → Nat :=
  let v373 : BitVec 32 := v372
  let v374 : Index := Scalar.indexCast v373
  let c0_267 : Index := 0#32
  ![v374.toNat, 0]

def k0_chk54 (v372 : BitVec 32) : Prop :=
  (4 ∣ (k0_mult54 v372).toNat) ∧
  (∀ a, (k0_off54 v372) a + S4x128.size a ≤ S65536x128.size a)
theorem k0_mult54_dvd : ∀ (v372 : BitVec 32) (k0_hw54 : k0_chk54 v372), 4 ∣ (k0_mult54 v372).toNat := fun v372 k0_hw54 => k0_hw54.1
theorem k0_off54_inb : ∀ (v372 : BitVec 32) (k0_hw54 : k0_chk54 v372), ∀ a, (k0_off54 v372) a + S4x128.size a ≤ S65536x128.size a := fun v372 k0_hw54 => k0_hw54.2

def k0_mult55 (v379 : BitVec 32) : BitVec 32 :=
  v379

def k0_off55 (v379 : BitVec 32) : Fin 2 → Nat :=
  let v380 : BitVec 32 := v379
  let v381 : Index := Scalar.indexCast v380
  let c0_272 : Index := 0#32
  ![v381.toNat, 0]

def k0_chk55 (v379 : BitVec 32) : Prop :=
  (4 ∣ (k0_mult55 v379).toNat) ∧
  (∀ a, (k0_off55 v379) a + S4x128.size a ≤ S65536x128.size a)
theorem k0_mult55_dvd : ∀ (v379 : BitVec 32) (k0_hw55 : k0_chk55 v379), 4 ∣ (k0_mult55 v379).toNat := fun v379 k0_hw55 => k0_hw55.1
theorem k0_off55_inb : ∀ (v379 : BitVec 32) (k0_hw55 : k0_chk55 v379), ∀ a, (k0_off55 v379) a + S4x128.size a ≤ S65536x128.size a := fun v379 k0_hw55 => k0_hw55.2

def k0_mult56 (v386 : BitVec 32) : BitVec 32 :=
  v386

def k0_off56 (v386 : BitVec 32) : Fin 2 → Nat :=
  let v387 : BitVec 32 := v386
  let v388 : Index := Scalar.indexCast v387
  let c0_277 : Index := 0#32
  ![v388.toNat, 0]

def k0_chk56 (v386 : BitVec 32) : Prop :=
  (4 ∣ (k0_mult56 v386).toNat) ∧
  (∀ a, (k0_off56 v386) a + S4x128.size a ≤ S65536x128.size a)
theorem k0_mult56_dvd : ∀ (v386 : BitVec 32) (k0_hw56 : k0_chk56 v386), 4 ∣ (k0_mult56 v386).toNat := fun v386 k0_hw56 => k0_hw56.1
theorem k0_off56_inb : ∀ (v386 : BitVec 32) (k0_hw56 : k0_chk56 v386), ∀ a, (k0_off56 v386) a + S4x128.size a ≤ S65536x128.size a := fun v386 k0_hw56 => k0_hw56.2

def k0_mult57 (v393 : BitVec 32) : BitVec 32 :=
  v393

def k0_off57 (v393 : BitVec 32) : Fin 2 → Nat :=
  let v394 : BitVec 32 := v393
  let v395 : Index := Scalar.indexCast v394
  let c0_282 : Index := 0#32
  ![v395.toNat, 0]

def k0_chk57 (v393 : BitVec 32) : Prop :=
  (4 ∣ (k0_mult57 v393).toNat) ∧
  (∀ a, (k0_off57 v393) a + S4x128.size a ≤ S65536x128.size a)
theorem k0_mult57_dvd : ∀ (v393 : BitVec 32) (k0_hw57 : k0_chk57 v393), 4 ∣ (k0_mult57 v393).toNat := fun v393 k0_hw57 => k0_hw57.1
theorem k0_off57_inb : ∀ (v393 : BitVec 32) (k0_hw57 : k0_chk57 v393), ∀ a, (k0_off57 v393) a + S4x128.size a ≤ S65536x128.size a := fun v393 k0_hw57 => k0_hw57.2

def k0_mult58 (v400 : BitVec 32) : BitVec 32 :=
  v400

def k0_off58 (v400 : BitVec 32) : Fin 2 → Nat :=
  let v401 : BitVec 32 := v400
  let v402 : Index := Scalar.indexCast v401
  let c0_287 : Index := 0#32
  ![v402.toNat, 0]

def k0_chk58 (v400 : BitVec 32) : Prop :=
  (4 ∣ (k0_mult58 v400).toNat) ∧
  (∀ a, (k0_off58 v400) a + S4x128.size a ≤ S65536x128.size a)
theorem k0_mult58_dvd : ∀ (v400 : BitVec 32) (k0_hw58 : k0_chk58 v400), 4 ∣ (k0_mult58 v400).toNat := fun v400 k0_hw58 => k0_hw58.1
theorem k0_off58_inb : ∀ (v400 : BitVec 32) (k0_hw58 : k0_chk58 v400), ∀ a, (k0_off58 v400) a + S4x128.size a ≤ S65536x128.size a := fun v400 k0_hw58 => k0_hw58.2

def k0_mult59 (v407 : BitVec 32) : BitVec 32 :=
  v407

def k0_off59 (v407 : BitVec 32) : Fin 2 → Nat :=
  let v408 : BitVec 32 := v407
  let v409 : Index := Scalar.indexCast v408
  let c0_292 : Index := 0#32
  ![v409.toNat, 0]

def k0_chk59 (v407 : BitVec 32) : Prop :=
  (4 ∣ (k0_mult59 v407).toNat) ∧
  (∀ a, (k0_off59 v407) a + S4x128.size a ≤ S65536x128.size a)
theorem k0_mult59_dvd : ∀ (v407 : BitVec 32) (k0_hw59 : k0_chk59 v407), 4 ∣ (k0_mult59 v407).toNat := fun v407 k0_hw59 => k0_hw59.1
theorem k0_off59_inb : ∀ (v407 : BitVec 32) (k0_hw59 : k0_chk59 v407), ∀ a, (k0_off59 v407) a + S4x128.size a ≤ S65536x128.size a := fun v407 k0_hw59 => k0_hw59.2

def k0_mult60 (v414 : BitVec 32) : BitVec 32 :=
  v414

def k0_off60 (v414 : BitVec 32) : Fin 2 → Nat :=
  let v415 : BitVec 32 := v414
  let v416 : Index := Scalar.indexCast v415
  let c0_297 : Index := 0#32
  ![v416.toNat, 0]

def k0_chk60 (v414 : BitVec 32) : Prop :=
  (4 ∣ (k0_mult60 v414).toNat) ∧
  (∀ a, (k0_off60 v414) a + S4x128.size a ≤ S65536x128.size a)
theorem k0_mult60_dvd : ∀ (v414 : BitVec 32) (k0_hw60 : k0_chk60 v414), 4 ∣ (k0_mult60 v414).toNat := fun v414 k0_hw60 => k0_hw60.1
theorem k0_off60_inb : ∀ (v414 : BitVec 32) (k0_hw60 : k0_chk60 v414), ∀ a, (k0_off60 v414) a + S4x128.size a ≤ S65536x128.size a := fun v414 k0_hw60 => k0_hw60.2

def k0_mult61 (v421 : BitVec 32) : BitVec 32 :=
  v421

def k0_off61 (v421 : BitVec 32) : Fin 2 → Nat :=
  let v422 : BitVec 32 := v421
  let v423 : Index := Scalar.indexCast v422
  let c0_302 : Index := 0#32
  ![v423.toNat, 0]

def k0_chk61 (v421 : BitVec 32) : Prop :=
  (4 ∣ (k0_mult61 v421).toNat) ∧
  (∀ a, (k0_off61 v421) a + S4x128.size a ≤ S65536x128.size a)
theorem k0_mult61_dvd : ∀ (v421 : BitVec 32) (k0_hw61 : k0_chk61 v421), 4 ∣ (k0_mult61 v421).toNat := fun v421 k0_hw61 => k0_hw61.1
theorem k0_off61_inb : ∀ (v421 : BitVec 32) (k0_hw61 : k0_chk61 v421), ∀ a, (k0_off61 v421) a + S4x128.size a ≤ S65536x128.size a := fun v421 k0_hw61 => k0_hw61.2

def k0_mult62 (v428 : BitVec 32) : BitVec 32 :=
  v428

def k0_off62 (v428 : BitVec 32) : Fin 2 → Nat :=
  let v429 : BitVec 32 := v428
  let v430 : Index := Scalar.indexCast v429
  let c0_307 : Index := 0#32
  ![v430.toNat, 0]

def k0_chk62 (v428 : BitVec 32) : Prop :=
  (4 ∣ (k0_mult62 v428).toNat) ∧
  (∀ a, (k0_off62 v428) a + S4x128.size a ≤ S65536x128.size a)
theorem k0_mult62_dvd : ∀ (v428 : BitVec 32) (k0_hw62 : k0_chk62 v428), 4 ∣ (k0_mult62 v428).toNat := fun v428 k0_hw62 => k0_hw62.1
theorem k0_off62_inb : ∀ (v428 : BitVec 32) (k0_hw62 : k0_chk62 v428), ∀ a, (k0_off62 v428) a + S4x128.size a ≤ S65536x128.size a := fun v428 k0_hw62 => k0_hw62.2

def k0_mult63 (v435 : BitVec 32) : BitVec 32 :=
  v435

def k0_off63 (v435 : BitVec 32) : Fin 2 → Nat :=
  let v436 : BitVec 32 := v435
  let v437 : Index := Scalar.indexCast v436
  let c0_312 : Index := 0#32
  ![v437.toNat, 0]

def k0_chk63 (v435 : BitVec 32) : Prop :=
  (4 ∣ (k0_mult63 v435).toNat) ∧
  (∀ a, (k0_off63 v435) a + S4x128.size a ≤ S65536x128.size a)
theorem k0_mult63_dvd : ∀ (v435 : BitVec 32) (k0_hw63 : k0_chk63 v435), 4 ∣ (k0_mult63 v435).toNat := fun v435 k0_hw63 => k0_hw63.1
theorem k0_off63_inb : ∀ (v435 : BitVec 32) (k0_hw63 : k0_chk63 v435), ∀ a, (k0_off63 v435) a + S4x128.size a ≤ S65536x128.size a := fun v435 k0_hw63 => k0_hw63.2

def k0_mult64 (v442 : BitVec 32) : BitVec 32 :=
  v442

def k0_off64 (v442 : BitVec 32) : Fin 2 → Nat :=
  let v443 : BitVec 32 := v442
  let v444 : Index := Scalar.indexCast v443
  let c0_317 : Index := 0#32
  ![v444.toNat, 0]

def k0_chk64 (v442 : BitVec 32) : Prop :=
  (4 ∣ (k0_mult64 v442).toNat) ∧
  (∀ a, (k0_off64 v442) a + S4x128.size a ≤ S65536x128.size a)
theorem k0_mult64_dvd : ∀ (v442 : BitVec 32) (k0_hw64 : k0_chk64 v442), 4 ∣ (k0_mult64 v442).toNat := fun v442 k0_hw64 => k0_hw64.1
theorem k0_off64_inb : ∀ (v442 : BitVec 32) (k0_hw64 : k0_chk64 v442), ∀ a, (k0_off64 v442) a + S4x128.size a ≤ S65536x128.size a := fun v442 k0_hw64 => k0_hw64.2

def k0_mult65 (v449 : BitVec 32) : BitVec 32 :=
  v449

def k0_off65 (v449 : BitVec 32) : Fin 2 → Nat :=
  let v450 : BitVec 32 := v449
  let v451 : Index := Scalar.indexCast v450
  let c0_322 : Index := 0#32
  ![v451.toNat, 0]

def k0_chk65 (v449 : BitVec 32) : Prop :=
  (4 ∣ (k0_mult65 v449).toNat) ∧
  (∀ a, (k0_off65 v449) a + S4x128.size a ≤ S65536x128.size a)
theorem k0_mult65_dvd : ∀ (v449 : BitVec 32) (k0_hw65 : k0_chk65 v449), 4 ∣ (k0_mult65 v449).toNat := fun v449 k0_hw65 => k0_hw65.1
theorem k0_off65_inb : ∀ (v449 : BitVec 32) (k0_hw65 : k0_chk65 v449), ∀ a, (k0_off65 v449) a + S4x128.size a ≤ S65536x128.size a := fun v449 k0_hw65 => k0_hw65.2

def k0_mult66 (v456 : BitVec 32) : BitVec 32 :=
  v456

def k0_off66 (v456 : BitVec 32) : Fin 2 → Nat :=
  let v457 : BitVec 32 := v456
  let v458 : Index := Scalar.indexCast v457
  let c0_327 : Index := 0#32
  ![v458.toNat, 0]

def k0_chk66 (v456 : BitVec 32) : Prop :=
  (4 ∣ (k0_mult66 v456).toNat) ∧
  (∀ a, (k0_off66 v456) a + S4x128.size a ≤ S65536x128.size a)
theorem k0_mult66_dvd : ∀ (v456 : BitVec 32) (k0_hw66 : k0_chk66 v456), 4 ∣ (k0_mult66 v456).toNat := fun v456 k0_hw66 => k0_hw66.1
theorem k0_off66_inb : ∀ (v456 : BitVec 32) (k0_hw66 : k0_chk66 v456), ∀ a, (k0_off66 v456) a + S4x128.size a ≤ S65536x128.size a := fun v456 k0_hw66 => k0_hw66.2

def k0_mult67 (v463 : BitVec 32) : BitVec 32 :=
  v463

def k0_off67 (v463 : BitVec 32) : Fin 2 → Nat :=
  let v464 : BitVec 32 := v463
  let v465 : Index := Scalar.indexCast v464
  let c0_332 : Index := 0#32
  ![v465.toNat, 0]

def k0_chk67 (v463 : BitVec 32) : Prop :=
  (4 ∣ (k0_mult67 v463).toNat) ∧
  (∀ a, (k0_off67 v463) a + S4x128.size a ≤ S65536x128.size a)
theorem k0_mult67_dvd : ∀ (v463 : BitVec 32) (k0_hw67 : k0_chk67 v463), 4 ∣ (k0_mult67 v463).toNat := fun v463 k0_hw67 => k0_hw67.1
theorem k0_off67_inb : ∀ (v463 : BitVec 32) (k0_hw67 : k0_chk67 v463), ∀ a, (k0_off67 v463) a + S4x128.size a ≤ S65536x128.size a := fun v463 k0_hw67 => k0_hw67.2

def k0_mult68 (v470 : BitVec 32) : BitVec 32 :=
  v470

def k0_off68 (v470 : BitVec 32) : Fin 2 → Nat :=
  let v471 : BitVec 32 := v470
  let v472 : Index := Scalar.indexCast v471
  let c0_337 : Index := 0#32
  ![v472.toNat, 0]

def k0_chk68 (v470 : BitVec 32) : Prop :=
  (4 ∣ (k0_mult68 v470).toNat) ∧
  (∀ a, (k0_off68 v470) a + S4x128.size a ≤ S65536x128.size a)
theorem k0_mult68_dvd : ∀ (v470 : BitVec 32) (k0_hw68 : k0_chk68 v470), 4 ∣ (k0_mult68 v470).toNat := fun v470 k0_hw68 => k0_hw68.1
theorem k0_off68_inb : ∀ (v470 : BitVec 32) (k0_hw68 : k0_chk68 v470), ∀ a, (k0_off68 v470) a + S4x128.size a ≤ S65536x128.size a := fun v470 k0_hw68 => k0_hw68.2

def k0_mult69 (v477 : BitVec 32) : BitVec 32 :=
  v477

def k0_off69 (v477 : BitVec 32) : Fin 2 → Nat :=
  let v478 : BitVec 32 := v477
  let v479 : Index := Scalar.indexCast v478
  let c0_342 : Index := 0#32
  ![v479.toNat, 0]

def k0_chk69 (v477 : BitVec 32) : Prop :=
  (4 ∣ (k0_mult69 v477).toNat) ∧
  (∀ a, (k0_off69 v477) a + S4x128.size a ≤ S65536x128.size a)
theorem k0_mult69_dvd : ∀ (v477 : BitVec 32) (k0_hw69 : k0_chk69 v477), 4 ∣ (k0_mult69 v477).toNat := fun v477 k0_hw69 => k0_hw69.1
theorem k0_off69_inb : ∀ (v477 : BitVec 32) (k0_hw69 : k0_chk69 v477), ∀ a, (k0_off69 v477) a + S4x128.size a ≤ S65536x128.size a := fun v477 k0_hw69 => k0_hw69.2

def k0_mult70 (v484 : BitVec 32) : BitVec 32 :=
  v484

def k0_off70 (v484 : BitVec 32) : Fin 2 → Nat :=
  let v485 : BitVec 32 := v484
  let v486 : Index := Scalar.indexCast v485
  let c0_347 : Index := 0#32
  ![v486.toNat, 0]

def k0_chk70 (v484 : BitVec 32) : Prop :=
  (4 ∣ (k0_mult70 v484).toNat) ∧
  (∀ a, (k0_off70 v484) a + S4x128.size a ≤ S65536x128.size a)
theorem k0_mult70_dvd : ∀ (v484 : BitVec 32) (k0_hw70 : k0_chk70 v484), 4 ∣ (k0_mult70 v484).toNat := fun v484 k0_hw70 => k0_hw70.1
theorem k0_off70_inb : ∀ (v484 : BitVec 32) (k0_hw70 : k0_chk70 v484), ∀ a, (k0_off70 v484) a + S4x128.size a ≤ S65536x128.size a := fun v484 k0_hw70 => k0_hw70.2

def k0_mult71 (v491 : BitVec 32) : BitVec 32 :=
  v491

def k0_off71 (v491 : BitVec 32) : Fin 2 → Nat :=
  let v492 : BitVec 32 := v491
  let v493 : Index := Scalar.indexCast v492
  let c0_352 : Index := 0#32
  ![v493.toNat, 0]

def k0_chk71 (v491 : BitVec 32) : Prop :=
  (4 ∣ (k0_mult71 v491).toNat) ∧
  (∀ a, (k0_off71 v491) a + S4x128.size a ≤ S65536x128.size a)
theorem k0_mult71_dvd : ∀ (v491 : BitVec 32) (k0_hw71 : k0_chk71 v491), 4 ∣ (k0_mult71 v491).toNat := fun v491 k0_hw71 => k0_hw71.1
theorem k0_off71_inb : ∀ (v491 : BitVec 32) (k0_hw71 : k0_chk71 v491), ∀ a, (k0_off71 v491) a + S4x128.size a ≤ S65536x128.size a := fun v491 k0_hw71 => k0_hw71.2

def k0_mult72 (v498 : BitVec 32) : BitVec 32 :=
  v498

def k0_off72 (v498 : BitVec 32) : Fin 2 → Nat :=
  let v499 : BitVec 32 := v498
  let v500 : Index := Scalar.indexCast v499
  let c0_357 : Index := 0#32
  ![v500.toNat, 0]

def k0_chk72 (v498 : BitVec 32) : Prop :=
  (4 ∣ (k0_mult72 v498).toNat) ∧
  (∀ a, (k0_off72 v498) a + S4x128.size a ≤ S65536x128.size a)
theorem k0_mult72_dvd : ∀ (v498 : BitVec 32) (k0_hw72 : k0_chk72 v498), 4 ∣ (k0_mult72 v498).toNat := fun v498 k0_hw72 => k0_hw72.1
theorem k0_off72_inb : ∀ (v498 : BitVec 32) (k0_hw72 : k0_chk72 v498), ∀ a, (k0_off72 v498) a + S4x128.size a ≤ S65536x128.size a := fun v498 k0_hw72 => k0_hw72.2

def k0_mult73 (v505 : BitVec 32) : BitVec 32 :=
  v505

def k0_off73 (v505 : BitVec 32) : Fin 2 → Nat :=
  let v506 : BitVec 32 := v505
  let v507 : Index := Scalar.indexCast v506
  let c0_362 : Index := 0#32
  ![v507.toNat, 0]

def k0_chk73 (v505 : BitVec 32) : Prop :=
  (4 ∣ (k0_mult73 v505).toNat) ∧
  (∀ a, (k0_off73 v505) a + S4x128.size a ≤ S65536x128.size a)
theorem k0_mult73_dvd : ∀ (v505 : BitVec 32) (k0_hw73 : k0_chk73 v505), 4 ∣ (k0_mult73 v505).toNat := fun v505 k0_hw73 => k0_hw73.1
theorem k0_off73_inb : ∀ (v505 : BitVec 32) (k0_hw73 : k0_chk73 v505), ∀ a, (k0_off73 v505) a + S4x128.size a ≤ S65536x128.size a := fun v505 k0_hw73 => k0_hw73.2

def k0_mult74 (v512 : BitVec 32) : BitVec 32 :=
  v512

def k0_off74 (v512 : BitVec 32) : Fin 2 → Nat :=
  let v513 : BitVec 32 := v512
  let v514 : Index := Scalar.indexCast v513
  let c0_367 : Index := 0#32
  ![v514.toNat, 0]

def k0_chk74 (v512 : BitVec 32) : Prop :=
  (4 ∣ (k0_mult74 v512).toNat) ∧
  (∀ a, (k0_off74 v512) a + S4x128.size a ≤ S65536x128.size a)
theorem k0_mult74_dvd : ∀ (v512 : BitVec 32) (k0_hw74 : k0_chk74 v512), 4 ∣ (k0_mult74 v512).toNat := fun v512 k0_hw74 => k0_hw74.1
theorem k0_off74_inb : ∀ (v512 : BitVec 32) (k0_hw74 : k0_chk74 v512), ∀ a, (k0_off74 v512) a + S4x128.size a ≤ S65536x128.size a := fun v512 k0_hw74 => k0_hw74.2

def k0_mult75 (v519 : BitVec 32) : BitVec 32 :=
  v519

def k0_off75 (v519 : BitVec 32) : Fin 2 → Nat :=
  let v520 : BitVec 32 := v519
  let v521 : Index := Scalar.indexCast v520
  let c0_372 : Index := 0#32
  ![v521.toNat, 0]

def k0_chk75 (v519 : BitVec 32) : Prop :=
  (4 ∣ (k0_mult75 v519).toNat) ∧
  (∀ a, (k0_off75 v519) a + S4x128.size a ≤ S65536x128.size a)
theorem k0_mult75_dvd : ∀ (v519 : BitVec 32) (k0_hw75 : k0_chk75 v519), 4 ∣ (k0_mult75 v519).toNat := fun v519 k0_hw75 => k0_hw75.1
theorem k0_off75_inb : ∀ (v519 : BitVec 32) (k0_hw75 : k0_chk75 v519), ∀ a, (k0_off75 v519) a + S4x128.size a ≤ S65536x128.size a := fun v519 k0_hw75 => k0_hw75.2

def k0_mult76 (v526 : BitVec 32) : BitVec 32 :=
  v526

def k0_off76 (v526 : BitVec 32) : Fin 2 → Nat :=
  let v527 : BitVec 32 := v526
  let v528 : Index := Scalar.indexCast v527
  let c0_377 : Index := 0#32
  ![v528.toNat, 0]

def k0_chk76 (v526 : BitVec 32) : Prop :=
  (4 ∣ (k0_mult76 v526).toNat) ∧
  (∀ a, (k0_off76 v526) a + S4x128.size a ≤ S65536x128.size a)
theorem k0_mult76_dvd : ∀ (v526 : BitVec 32) (k0_hw76 : k0_chk76 v526), 4 ∣ (k0_mult76 v526).toNat := fun v526 k0_hw76 => k0_hw76.1
theorem k0_off76_inb : ∀ (v526 : BitVec 32) (k0_hw76 : k0_chk76 v526), ∀ a, (k0_off76 v526) a + S4x128.size a ≤ S65536x128.size a := fun v526 k0_hw76 => k0_hw76.2

def k0_mult77 (v533 : BitVec 32) : BitVec 32 :=
  v533

def k0_off77 (v533 : BitVec 32) : Fin 2 → Nat :=
  let v534 : BitVec 32 := v533
  let v535 : Index := Scalar.indexCast v534
  let c0_382 : Index := 0#32
  ![v535.toNat, 0]

def k0_chk77 (v533 : BitVec 32) : Prop :=
  (4 ∣ (k0_mult77 v533).toNat) ∧
  (∀ a, (k0_off77 v533) a + S4x128.size a ≤ S65536x128.size a)
theorem k0_mult77_dvd : ∀ (v533 : BitVec 32) (k0_hw77 : k0_chk77 v533), 4 ∣ (k0_mult77 v533).toNat := fun v533 k0_hw77 => k0_hw77.1
theorem k0_off77_inb : ∀ (v533 : BitVec 32) (k0_hw77 : k0_chk77 v533), ∀ a, (k0_off77 v533) a + S4x128.size a ≤ S65536x128.size a := fun v533 k0_hw77 => k0_hw77.2

def k0_mult78 (v540 : BitVec 32) : BitVec 32 :=
  v540

def k0_off78 (v540 : BitVec 32) : Fin 2 → Nat :=
  let v541 : BitVec 32 := v540
  let v542 : Index := Scalar.indexCast v541
  let c0_387 : Index := 0#32
  ![v542.toNat, 0]

def k0_chk78 (v540 : BitVec 32) : Prop :=
  (4 ∣ (k0_mult78 v540).toNat) ∧
  (∀ a, (k0_off78 v540) a + S4x128.size a ≤ S65536x128.size a)
theorem k0_mult78_dvd : ∀ (v540 : BitVec 32) (k0_hw78 : k0_chk78 v540), 4 ∣ (k0_mult78 v540).toNat := fun v540 k0_hw78 => k0_hw78.1
theorem k0_off78_inb : ∀ (v540 : BitVec 32) (k0_hw78 : k0_chk78 v540), ∀ a, (k0_off78 v540) a + S4x128.size a ≤ S65536x128.size a := fun v540 k0_hw78 => k0_hw78.2

def k0_mult79 (v547 : BitVec 32) : BitVec 32 :=
  v547

def k0_off79 (v547 : BitVec 32) : Fin 2 → Nat :=
  let v548 : BitVec 32 := v547
  let v549 : Index := Scalar.indexCast v548
  let c0_392 : Index := 0#32
  ![v549.toNat, 0]

def k0_chk79 (v547 : BitVec 32) : Prop :=
  (4 ∣ (k0_mult79 v547).toNat) ∧
  (∀ a, (k0_off79 v547) a + S4x128.size a ≤ S65536x128.size a)
theorem k0_mult79_dvd : ∀ (v547 : BitVec 32) (k0_hw79 : k0_chk79 v547), 4 ∣ (k0_mult79 v547).toNat := fun v547 k0_hw79 => k0_hw79.1
theorem k0_off79_inb : ∀ (v547 : BitVec 32) (k0_hw79 : k0_chk79 v547), ∀ a, (k0_off79 v547) a + S4x128.size a ≤ S65536x128.size a := fun v547 k0_hw79 => k0_hw79.2

def k0_mult80 (v554 : BitVec 32) : BitVec 32 :=
  v554

def k0_off80 (v554 : BitVec 32) : Fin 2 → Nat :=
  let v555 : BitVec 32 := v554
  let v556 : Index := Scalar.indexCast v555
  let c0_397 : Index := 0#32
  ![v556.toNat, 0]

def k0_chk80 (v554 : BitVec 32) : Prop :=
  (4 ∣ (k0_mult80 v554).toNat) ∧
  (∀ a, (k0_off80 v554) a + S4x128.size a ≤ S65536x128.size a)
theorem k0_mult80_dvd : ∀ (v554 : BitVec 32) (k0_hw80 : k0_chk80 v554), 4 ∣ (k0_mult80 v554).toNat := fun v554 k0_hw80 => k0_hw80.1
theorem k0_off80_inb : ∀ (v554 : BitVec 32) (k0_hw80 : k0_chk80 v554), ∀ a, (k0_off80 v554) a + S4x128.size a ≤ S65536x128.size a := fun v554 k0_hw80 => k0_hw80.2

def k0_mult81 (v561 : BitVec 32) : BitVec 32 :=
  v561

def k0_off81 (v561 : BitVec 32) : Fin 2 → Nat :=
  let v562 : BitVec 32 := v561
  let v563 : Index := Scalar.indexCast v562
  let c0_402 : Index := 0#32
  ![v563.toNat, 0]

def k0_chk81 (v561 : BitVec 32) : Prop :=
  (4 ∣ (k0_mult81 v561).toNat) ∧
  (∀ a, (k0_off81 v561) a + S4x128.size a ≤ S65536x128.size a)
theorem k0_mult81_dvd : ∀ (v561 : BitVec 32) (k0_hw81 : k0_chk81 v561), 4 ∣ (k0_mult81 v561).toNat := fun v561 k0_hw81 => k0_hw81.1
theorem k0_off81_inb : ∀ (v561 : BitVec 32) (k0_hw81 : k0_chk81 v561), ∀ a, (k0_off81 v561) a + S4x128.size a ≤ S65536x128.size a := fun v561 k0_hw81 => k0_hw81.2

def k0_mult82 (v568 : BitVec 32) : BitVec 32 :=
  v568

def k0_off82 (v568 : BitVec 32) : Fin 2 → Nat :=
  let v569 : BitVec 32 := v568
  let v570 : Index := Scalar.indexCast v569
  let c0_407 : Index := 0#32
  ![v570.toNat, 0]

def k0_chk82 (v568 : BitVec 32) : Prop :=
  (4 ∣ (k0_mult82 v568).toNat) ∧
  (∀ a, (k0_off82 v568) a + S4x128.size a ≤ S65536x128.size a)
theorem k0_mult82_dvd : ∀ (v568 : BitVec 32) (k0_hw82 : k0_chk82 v568), 4 ∣ (k0_mult82 v568).toNat := fun v568 k0_hw82 => k0_hw82.1
theorem k0_off82_inb : ∀ (v568 : BitVec 32) (k0_hw82 : k0_chk82 v568), ∀ a, (k0_off82 v568) a + S4x128.size a ≤ S65536x128.size a := fun v568 k0_hw82 => k0_hw82.2

def k0_mult83 (v575 : BitVec 32) : BitVec 32 :=
  v575

def k0_off83 (v575 : BitVec 32) : Fin 2 → Nat :=
  let v576 : BitVec 32 := v575
  let v577 : Index := Scalar.indexCast v576
  let c0_412 : Index := 0#32
  ![v577.toNat, 0]

def k0_chk83 (v575 : BitVec 32) : Prop :=
  (4 ∣ (k0_mult83 v575).toNat) ∧
  (∀ a, (k0_off83 v575) a + S4x128.size a ≤ S65536x128.size a)
theorem k0_mult83_dvd : ∀ (v575 : BitVec 32) (k0_hw83 : k0_chk83 v575), 4 ∣ (k0_mult83 v575).toNat := fun v575 k0_hw83 => k0_hw83.1
theorem k0_off83_inb : ∀ (v575 : BitVec 32) (k0_hw83 : k0_chk83 v575), ∀ a, (k0_off83 v575) a + S4x128.size a ≤ S65536x128.size a := fun v575 k0_hw83 => k0_hw83.2

def k0_mult84 (v582 : BitVec 32) : BitVec 32 :=
  v582

def k0_off84 (v582 : BitVec 32) : Fin 2 → Nat :=
  let v583 : BitVec 32 := v582
  let v584 : Index := Scalar.indexCast v583
  let c0_417 : Index := 0#32
  ![v584.toNat, 0]

def k0_chk84 (v582 : BitVec 32) : Prop :=
  (4 ∣ (k0_mult84 v582).toNat) ∧
  (∀ a, (k0_off84 v582) a + S4x128.size a ≤ S65536x128.size a)
theorem k0_mult84_dvd : ∀ (v582 : BitVec 32) (k0_hw84 : k0_chk84 v582), 4 ∣ (k0_mult84 v582).toNat := fun v582 k0_hw84 => k0_hw84.1
theorem k0_off84_inb : ∀ (v582 : BitVec 32) (k0_hw84 : k0_chk84 v582), ∀ a, (k0_off84 v582) a + S4x128.size a ≤ S65536x128.size a := fun v582 k0_hw84 => k0_hw84.2

def k0_mult85 (v589 : BitVec 32) : BitVec 32 :=
  v589

def k0_off85 (v589 : BitVec 32) : Fin 2 → Nat :=
  let v590 : BitVec 32 := v589
  let v591 : Index := Scalar.indexCast v590
  let c0_422 : Index := 0#32
  ![v591.toNat, 0]

def k0_chk85 (v589 : BitVec 32) : Prop :=
  (4 ∣ (k0_mult85 v589).toNat) ∧
  (∀ a, (k0_off85 v589) a + S4x128.size a ≤ S65536x128.size a)
theorem k0_mult85_dvd : ∀ (v589 : BitVec 32) (k0_hw85 : k0_chk85 v589), 4 ∣ (k0_mult85 v589).toNat := fun v589 k0_hw85 => k0_hw85.1
theorem k0_off85_inb : ∀ (v589 : BitVec 32) (k0_hw85 : k0_chk85 v589), ∀ a, (k0_off85 v589) a + S4x128.size a ≤ S65536x128.size a := fun v589 k0_hw85 => k0_hw85.2

def k0_mult86 (v596 : BitVec 32) : BitVec 32 :=
  v596

def k0_off86 (v596 : BitVec 32) : Fin 2 → Nat :=
  let v597 : BitVec 32 := v596
  let v598 : Index := Scalar.indexCast v597
  let c0_427 : Index := 0#32
  ![v598.toNat, 0]

def k0_chk86 (v596 : BitVec 32) : Prop :=
  (4 ∣ (k0_mult86 v596).toNat) ∧
  (∀ a, (k0_off86 v596) a + S4x128.size a ≤ S65536x128.size a)
theorem k0_mult86_dvd : ∀ (v596 : BitVec 32) (k0_hw86 : k0_chk86 v596), 4 ∣ (k0_mult86 v596).toNat := fun v596 k0_hw86 => k0_hw86.1
theorem k0_off86_inb : ∀ (v596 : BitVec 32) (k0_hw86 : k0_chk86 v596), ∀ a, (k0_off86 v596) a + S4x128.size a ≤ S65536x128.size a := fun v596 k0_hw86 => k0_hw86.2

def k0_mult87 (v603 : BitVec 32) : BitVec 32 :=
  v603

def k0_off87 (v603 : BitVec 32) : Fin 2 → Nat :=
  let v604 : BitVec 32 := v603
  let v605 : Index := Scalar.indexCast v604
  let c0_432 : Index := 0#32
  ![v605.toNat, 0]

def k0_chk87 (v603 : BitVec 32) : Prop :=
  (4 ∣ (k0_mult87 v603).toNat) ∧
  (∀ a, (k0_off87 v603) a + S4x128.size a ≤ S65536x128.size a)
theorem k0_mult87_dvd : ∀ (v603 : BitVec 32) (k0_hw87 : k0_chk87 v603), 4 ∣ (k0_mult87 v603).toNat := fun v603 k0_hw87 => k0_hw87.1
theorem k0_off87_inb : ∀ (v603 : BitVec 32) (k0_hw87 : k0_chk87 v603), ∀ a, (k0_off87 v603) a + S4x128.size a ≤ S65536x128.size a := fun v603 k0_hw87 => k0_hw87.2

def k0_mult88 (v610 : BitVec 32) : BitVec 32 :=
  v610

def k0_off88 (v610 : BitVec 32) : Fin 2 → Nat :=
  let v611 : BitVec 32 := v610
  let v612 : Index := Scalar.indexCast v611
  let c0_437 : Index := 0#32
  ![v612.toNat, 0]

def k0_chk88 (v610 : BitVec 32) : Prop :=
  (4 ∣ (k0_mult88 v610).toNat) ∧
  (∀ a, (k0_off88 v610) a + S4x128.size a ≤ S65536x128.size a)
theorem k0_mult88_dvd : ∀ (v610 : BitVec 32) (k0_hw88 : k0_chk88 v610), 4 ∣ (k0_mult88 v610).toNat := fun v610 k0_hw88 => k0_hw88.1
theorem k0_off88_inb : ∀ (v610 : BitVec 32) (k0_hw88 : k0_chk88 v610), ∀ a, (k0_off88 v610) a + S4x128.size a ≤ S65536x128.size a := fun v610 k0_hw88 => k0_hw88.2

def k0_mult89 (v617 : BitVec 32) : BitVec 32 :=
  v617

def k0_off89 (v617 : BitVec 32) : Fin 2 → Nat :=
  let v618 : BitVec 32 := v617
  let v619 : Index := Scalar.indexCast v618
  let c0_442 : Index := 0#32
  ![v619.toNat, 0]

def k0_chk89 (v617 : BitVec 32) : Prop :=
  (4 ∣ (k0_mult89 v617).toNat) ∧
  (∀ a, (k0_off89 v617) a + S4x128.size a ≤ S65536x128.size a)
theorem k0_mult89_dvd : ∀ (v617 : BitVec 32) (k0_hw89 : k0_chk89 v617), 4 ∣ (k0_mult89 v617).toNat := fun v617 k0_hw89 => k0_hw89.1
theorem k0_off89_inb : ∀ (v617 : BitVec 32) (k0_hw89 : k0_chk89 v617), ∀ a, (k0_off89 v617) a + S4x128.size a ≤ S65536x128.size a := fun v617 k0_hw89 => k0_hw89.2

def k0_mult90 (v624 : BitVec 32) : BitVec 32 :=
  v624

def k0_off90 (v624 : BitVec 32) : Fin 2 → Nat :=
  let v625 : BitVec 32 := v624
  let v626 : Index := Scalar.indexCast v625
  let c0_447 : Index := 0#32
  ![v626.toNat, 0]

def k0_chk90 (v624 : BitVec 32) : Prop :=
  (4 ∣ (k0_mult90 v624).toNat) ∧
  (∀ a, (k0_off90 v624) a + S4x128.size a ≤ S65536x128.size a)
theorem k0_mult90_dvd : ∀ (v624 : BitVec 32) (k0_hw90 : k0_chk90 v624), 4 ∣ (k0_mult90 v624).toNat := fun v624 k0_hw90 => k0_hw90.1
theorem k0_off90_inb : ∀ (v624 : BitVec 32) (k0_hw90 : k0_chk90 v624), ∀ a, (k0_off90 v624) a + S4x128.size a ≤ S65536x128.size a := fun v624 k0_hw90 => k0_hw90.2

def k0_mult91 (v631 : BitVec 32) : BitVec 32 :=
  v631

def k0_off91 (v631 : BitVec 32) : Fin 2 → Nat :=
  let v632 : BitVec 32 := v631
  let v633 : Index := Scalar.indexCast v632
  let c0_452 : Index := 0#32
  ![v633.toNat, 0]

def k0_chk91 (v631 : BitVec 32) : Prop :=
  (4 ∣ (k0_mult91 v631).toNat) ∧
  (∀ a, (k0_off91 v631) a + S4x128.size a ≤ S65536x128.size a)
theorem k0_mult91_dvd : ∀ (v631 : BitVec 32) (k0_hw91 : k0_chk91 v631), 4 ∣ (k0_mult91 v631).toNat := fun v631 k0_hw91 => k0_hw91.1
theorem k0_off91_inb : ∀ (v631 : BitVec 32) (k0_hw91 : k0_chk91 v631), ∀ a, (k0_off91 v631) a + S4x128.size a ≤ S65536x128.size a := fun v631 k0_hw91 => k0_hw91.2

def k0_mult92 (v638 : BitVec 32) : BitVec 32 :=
  v638

def k0_off92 (v638 : BitVec 32) : Fin 2 → Nat :=
  let v639 : BitVec 32 := v638
  let v640 : Index := Scalar.indexCast v639
  let c0_457 : Index := 0#32
  ![v640.toNat, 0]

def k0_chk92 (v638 : BitVec 32) : Prop :=
  (4 ∣ (k0_mult92 v638).toNat) ∧
  (∀ a, (k0_off92 v638) a + S4x128.size a ≤ S65536x128.size a)
theorem k0_mult92_dvd : ∀ (v638 : BitVec 32) (k0_hw92 : k0_chk92 v638), 4 ∣ (k0_mult92 v638).toNat := fun v638 k0_hw92 => k0_hw92.1
theorem k0_off92_inb : ∀ (v638 : BitVec 32) (k0_hw92 : k0_chk92 v638), ∀ a, (k0_off92 v638) a + S4x128.size a ≤ S65536x128.size a := fun v638 k0_hw92 => k0_hw92.2

def k0_mult93 (v645 : BitVec 32) : BitVec 32 :=
  v645

def k0_off93 (v645 : BitVec 32) : Fin 2 → Nat :=
  let v646 : BitVec 32 := v645
  let v647 : Index := Scalar.indexCast v646
  let c0_462 : Index := 0#32
  ![v647.toNat, 0]

def k0_chk93 (v645 : BitVec 32) : Prop :=
  (4 ∣ (k0_mult93 v645).toNat) ∧
  (∀ a, (k0_off93 v645) a + S4x128.size a ≤ S65536x128.size a)
theorem k0_mult93_dvd : ∀ (v645 : BitVec 32) (k0_hw93 : k0_chk93 v645), 4 ∣ (k0_mult93 v645).toNat := fun v645 k0_hw93 => k0_hw93.1
theorem k0_off93_inb : ∀ (v645 : BitVec 32) (k0_hw93 : k0_chk93 v645), ∀ a, (k0_off93 v645) a + S4x128.size a ≤ S65536x128.size a := fun v645 k0_hw93 => k0_hw93.2

def k0_mult94 (v652 : BitVec 32) : BitVec 32 :=
  v652

def k0_off94 (v652 : BitVec 32) : Fin 2 → Nat :=
  let v653 : BitVec 32 := v652
  let v654 : Index := Scalar.indexCast v653
  let c0_467 : Index := 0#32
  ![v654.toNat, 0]

def k0_chk94 (v652 : BitVec 32) : Prop :=
  (4 ∣ (k0_mult94 v652).toNat) ∧
  (∀ a, (k0_off94 v652) a + S4x128.size a ≤ S65536x128.size a)
theorem k0_mult94_dvd : ∀ (v652 : BitVec 32) (k0_hw94 : k0_chk94 v652), 4 ∣ (k0_mult94 v652).toNat := fun v652 k0_hw94 => k0_hw94.1
theorem k0_off94_inb : ∀ (v652 : BitVec 32) (k0_hw94 : k0_chk94 v652), ∀ a, (k0_off94 v652) a + S4x128.size a ≤ S65536x128.size a := fun v652 k0_hw94 => k0_hw94.2

def k0_mult95 (v659 : BitVec 32) : BitVec 32 :=
  v659

def k0_off95 (v659 : BitVec 32) : Fin 2 → Nat :=
  let v660 : BitVec 32 := v659
  let v661 : Index := Scalar.indexCast v660
  let c0_472 : Index := 0#32
  ![v661.toNat, 0]

def k0_chk95 (v659 : BitVec 32) : Prop :=
  (4 ∣ (k0_mult95 v659).toNat) ∧
  (∀ a, (k0_off95 v659) a + S4x128.size a ≤ S65536x128.size a)
theorem k0_mult95_dvd : ∀ (v659 : BitVec 32) (k0_hw95 : k0_chk95 v659), 4 ∣ (k0_mult95 v659).toNat := fun v659 k0_hw95 => k0_hw95.1
theorem k0_off95_inb : ∀ (v659 : BitVec 32) (k0_hw95 : k0_chk95 v659), ∀ a, (k0_off95 v659) a + S4x128.size a ≤ S65536x128.size a := fun v659 k0_hw95 => k0_hw95.2

def k0_mult96 (v666 : BitVec 32) : BitVec 32 :=
  v666

def k0_off96 (v666 : BitVec 32) : Fin 2 → Nat :=
  let v667 : BitVec 32 := v666
  let v668 : Index := Scalar.indexCast v667
  let c0_477 : Index := 0#32
  ![v668.toNat, 0]

def k0_chk96 (v666 : BitVec 32) : Prop :=
  (4 ∣ (k0_mult96 v666).toNat) ∧
  (∀ a, (k0_off96 v666) a + S4x128.size a ≤ S65536x128.size a)
theorem k0_mult96_dvd : ∀ (v666 : BitVec 32) (k0_hw96 : k0_chk96 v666), 4 ∣ (k0_mult96 v666).toNat := fun v666 k0_hw96 => k0_hw96.1
theorem k0_off96_inb : ∀ (v666 : BitVec 32) (k0_hw96 : k0_chk96 v666), ∀ a, (k0_off96 v666) a + S4x128.size a ≤ S65536x128.size a := fun v666 k0_hw96 => k0_hw96.2

def k0_mult97 (v673 : BitVec 32) : BitVec 32 :=
  v673

def k0_off97 (v673 : BitVec 32) : Fin 2 → Nat :=
  let v674 : BitVec 32 := v673
  let v675 : Index := Scalar.indexCast v674
  let c0_482 : Index := 0#32
  ![v675.toNat, 0]

def k0_chk97 (v673 : BitVec 32) : Prop :=
  (4 ∣ (k0_mult97 v673).toNat) ∧
  (∀ a, (k0_off97 v673) a + S4x128.size a ≤ S65536x128.size a)
theorem k0_mult97_dvd : ∀ (v673 : BitVec 32) (k0_hw97 : k0_chk97 v673), 4 ∣ (k0_mult97 v673).toNat := fun v673 k0_hw97 => k0_hw97.1
theorem k0_off97_inb : ∀ (v673 : BitVec 32) (k0_hw97 : k0_chk97 v673), ∀ a, (k0_off97 v673) a + S4x128.size a ≤ S65536x128.size a := fun v673 k0_hw97 => k0_hw97.2

def k0_mult98 (v680 : BitVec 32) : BitVec 32 :=
  v680

def k0_off98 (v680 : BitVec 32) : Fin 2 → Nat :=
  let v681 : BitVec 32 := v680
  let v682 : Index := Scalar.indexCast v681
  let c0_487 : Index := 0#32
  ![v682.toNat, 0]

def k0_chk98 (v680 : BitVec 32) : Prop :=
  (4 ∣ (k0_mult98 v680).toNat) ∧
  (∀ a, (k0_off98 v680) a + S4x128.size a ≤ S65536x128.size a)
theorem k0_mult98_dvd : ∀ (v680 : BitVec 32) (k0_hw98 : k0_chk98 v680), 4 ∣ (k0_mult98 v680).toNat := fun v680 k0_hw98 => k0_hw98.1
theorem k0_off98_inb : ∀ (v680 : BitVec 32) (k0_hw98 : k0_chk98 v680), ∀ a, (k0_off98 v680) a + S4x128.size a ≤ S65536x128.size a := fun v680 k0_hw98 => k0_hw98.2

def k0_mult99 (v687 : BitVec 32) : BitVec 32 :=
  v687

def k0_off99 (v687 : BitVec 32) : Fin 2 → Nat :=
  let v688 : BitVec 32 := v687
  let v689 : Index := Scalar.indexCast v688
  let c0_492 : Index := 0#32
  ![v689.toNat, 0]

def k0_chk99 (v687 : BitVec 32) : Prop :=
  (4 ∣ (k0_mult99 v687).toNat) ∧
  (∀ a, (k0_off99 v687) a + S4x128.size a ≤ S65536x128.size a)
theorem k0_mult99_dvd : ∀ (v687 : BitVec 32) (k0_hw99 : k0_chk99 v687), 4 ∣ (k0_mult99 v687).toNat := fun v687 k0_hw99 => k0_hw99.1
theorem k0_off99_inb : ∀ (v687 : BitVec 32) (k0_hw99 : k0_chk99 v687), ∀ a, (k0_off99 v687) a + S4x128.size a ≤ S65536x128.size a := fun v687 k0_hw99 => k0_hw99.2

def k0_mult100 (v694 : BitVec 32) : BitVec 32 :=
  v694

def k0_off100 (v694 : BitVec 32) : Fin 2 → Nat :=
  let v695 : BitVec 32 := v694
  let v696 : Index := Scalar.indexCast v695
  let c0_497 : Index := 0#32
  ![v696.toNat, 0]

def k0_chk100 (v694 : BitVec 32) : Prop :=
  (4 ∣ (k0_mult100 v694).toNat) ∧
  (∀ a, (k0_off100 v694) a + S4x128.size a ≤ S65536x128.size a)
theorem k0_mult100_dvd : ∀ (v694 : BitVec 32) (k0_hw100 : k0_chk100 v694), 4 ∣ (k0_mult100 v694).toNat := fun v694 k0_hw100 => k0_hw100.1
theorem k0_off100_inb : ∀ (v694 : BitVec 32) (k0_hw100 : k0_chk100 v694), ∀ a, (k0_off100 v694) a + S4x128.size a ≤ S65536x128.size a := fun v694 k0_hw100 => k0_hw100.2

def k0_mult101 (v701 : BitVec 32) : BitVec 32 :=
  v701

def k0_off101 (v701 : BitVec 32) : Fin 2 → Nat :=
  let v702 : BitVec 32 := v701
  let v703 : Index := Scalar.indexCast v702
  let c0_502 : Index := 0#32
  ![v703.toNat, 0]

def k0_chk101 (v701 : BitVec 32) : Prop :=
  (4 ∣ (k0_mult101 v701).toNat) ∧
  (∀ a, (k0_off101 v701) a + S4x128.size a ≤ S65536x128.size a)
theorem k0_mult101_dvd : ∀ (v701 : BitVec 32) (k0_hw101 : k0_chk101 v701), 4 ∣ (k0_mult101 v701).toNat := fun v701 k0_hw101 => k0_hw101.1
theorem k0_off101_inb : ∀ (v701 : BitVec 32) (k0_hw101 : k0_chk101 v701), ∀ a, (k0_off101 v701) a + S4x128.size a ≤ S65536x128.size a := fun v701 k0_hw101 => k0_hw101.2

def k0_mult102 (v708 : BitVec 32) : BitVec 32 :=
  v708

def k0_off102 (v708 : BitVec 32) : Fin 2 → Nat :=
  let v709 : BitVec 32 := v708
  let v710 : Index := Scalar.indexCast v709
  let c0_507 : Index := 0#32
  ![v710.toNat, 0]

def k0_chk102 (v708 : BitVec 32) : Prop :=
  (4 ∣ (k0_mult102 v708).toNat) ∧
  (∀ a, (k0_off102 v708) a + S4x128.size a ≤ S65536x128.size a)
theorem k0_mult102_dvd : ∀ (v708 : BitVec 32) (k0_hw102 : k0_chk102 v708), 4 ∣ (k0_mult102 v708).toNat := fun v708 k0_hw102 => k0_hw102.1
theorem k0_off102_inb : ∀ (v708 : BitVec 32) (k0_hw102 : k0_chk102 v708), ∀ a, (k0_off102 v708) a + S4x128.size a ≤ S65536x128.size a := fun v708 k0_hw102 => k0_hw102.2

def k0_mult103 (v715 : BitVec 32) : BitVec 32 :=
  v715

def k0_off103 (v715 : BitVec 32) : Fin 2 → Nat :=
  let v716 : BitVec 32 := v715
  let v717 : Index := Scalar.indexCast v716
  let c0_512 : Index := 0#32
  ![v717.toNat, 0]

def k0_chk103 (v715 : BitVec 32) : Prop :=
  (4 ∣ (k0_mult103 v715).toNat) ∧
  (∀ a, (k0_off103 v715) a + S4x128.size a ≤ S65536x128.size a)
theorem k0_mult103_dvd : ∀ (v715 : BitVec 32) (k0_hw103 : k0_chk103 v715), 4 ∣ (k0_mult103 v715).toNat := fun v715 k0_hw103 => k0_hw103.1
theorem k0_off103_inb : ∀ (v715 : BitVec 32) (k0_hw103 : k0_chk103 v715), ∀ a, (k0_off103 v715) a + S4x128.size a ≤ S65536x128.size a := fun v715 k0_hw103 => k0_hw103.2

def k0_mult104 (v722 : BitVec 32) : BitVec 32 :=
  v722

def k0_off104 (v722 : BitVec 32) : Fin 2 → Nat :=
  let v723 : BitVec 32 := v722
  let v724 : Index := Scalar.indexCast v723
  let c0_517 : Index := 0#32
  ![v724.toNat, 0]

def k0_chk104 (v722 : BitVec 32) : Prop :=
  (4 ∣ (k0_mult104 v722).toNat) ∧
  (∀ a, (k0_off104 v722) a + S4x128.size a ≤ S65536x128.size a)
theorem k0_mult104_dvd : ∀ (v722 : BitVec 32) (k0_hw104 : k0_chk104 v722), 4 ∣ (k0_mult104 v722).toNat := fun v722 k0_hw104 => k0_hw104.1
theorem k0_off104_inb : ∀ (v722 : BitVec 32) (k0_hw104 : k0_chk104 v722), ∀ a, (k0_off104 v722) a + S4x128.size a ≤ S65536x128.size a := fun v722 k0_hw104 => k0_hw104.2

def k0_mult105 (v729 : BitVec 32) : BitVec 32 :=
  v729

def k0_off105 (v729 : BitVec 32) : Fin 2 → Nat :=
  let v730 : BitVec 32 := v729
  let v731 : Index := Scalar.indexCast v730
  let c0_522 : Index := 0#32
  ![v731.toNat, 0]

def k0_chk105 (v729 : BitVec 32) : Prop :=
  (4 ∣ (k0_mult105 v729).toNat) ∧
  (∀ a, (k0_off105 v729) a + S4x128.size a ≤ S65536x128.size a)
theorem k0_mult105_dvd : ∀ (v729 : BitVec 32) (k0_hw105 : k0_chk105 v729), 4 ∣ (k0_mult105 v729).toNat := fun v729 k0_hw105 => k0_hw105.1
theorem k0_off105_inb : ∀ (v729 : BitVec 32) (k0_hw105 : k0_chk105 v729), ∀ a, (k0_off105 v729) a + S4x128.size a ≤ S65536x128.size a := fun v729 k0_hw105 => k0_hw105.2

def k0_mult106 (v736 : BitVec 32) : BitVec 32 :=
  v736

def k0_off106 (v736 : BitVec 32) : Fin 2 → Nat :=
  let v737 : BitVec 32 := v736
  let v738 : Index := Scalar.indexCast v737
  let c0_527 : Index := 0#32
  ![v738.toNat, 0]

def k0_chk106 (v736 : BitVec 32) : Prop :=
  (4 ∣ (k0_mult106 v736).toNat) ∧
  (∀ a, (k0_off106 v736) a + S4x128.size a ≤ S65536x128.size a)
theorem k0_mult106_dvd : ∀ (v736 : BitVec 32) (k0_hw106 : k0_chk106 v736), 4 ∣ (k0_mult106 v736).toNat := fun v736 k0_hw106 => k0_hw106.1
theorem k0_off106_inb : ∀ (v736 : BitVec 32) (k0_hw106 : k0_chk106 v736), ∀ a, (k0_off106 v736) a + S4x128.size a ≤ S65536x128.size a := fun v736 k0_hw106 => k0_hw106.2

def k0_mult107 (v743 : BitVec 32) : BitVec 32 :=
  v743

def k0_off107 (v743 : BitVec 32) : Fin 2 → Nat :=
  let v744 : BitVec 32 := v743
  let v745 : Index := Scalar.indexCast v744
  let c0_532 : Index := 0#32
  ![v745.toNat, 0]

def k0_chk107 (v743 : BitVec 32) : Prop :=
  (4 ∣ (k0_mult107 v743).toNat) ∧
  (∀ a, (k0_off107 v743) a + S4x128.size a ≤ S65536x128.size a)
theorem k0_mult107_dvd : ∀ (v743 : BitVec 32) (k0_hw107 : k0_chk107 v743), 4 ∣ (k0_mult107 v743).toNat := fun v743 k0_hw107 => k0_hw107.1
theorem k0_off107_inb : ∀ (v743 : BitVec 32) (k0_hw107 : k0_chk107 v743), ∀ a, (k0_off107 v743) a + S4x128.size a ≤ S65536x128.size a := fun v743 k0_hw107 => k0_hw107.2

def k0_mult108 (v750 : BitVec 32) : BitVec 32 :=
  v750

def k0_off108 (v750 : BitVec 32) : Fin 2 → Nat :=
  let v751 : BitVec 32 := v750
  let v752 : Index := Scalar.indexCast v751
  let c0_537 : Index := 0#32
  ![v752.toNat, 0]

def k0_chk108 (v750 : BitVec 32) : Prop :=
  (4 ∣ (k0_mult108 v750).toNat) ∧
  (∀ a, (k0_off108 v750) a + S4x128.size a ≤ S65536x128.size a)
theorem k0_mult108_dvd : ∀ (v750 : BitVec 32) (k0_hw108 : k0_chk108 v750), 4 ∣ (k0_mult108 v750).toNat := fun v750 k0_hw108 => k0_hw108.1
theorem k0_off108_inb : ∀ (v750 : BitVec 32) (k0_hw108 : k0_chk108 v750), ∀ a, (k0_off108 v750) a + S4x128.size a ≤ S65536x128.size a := fun v750 k0_hw108 => k0_hw108.2

def k0_mult109 (v757 : BitVec 32) : BitVec 32 :=
  v757

def k0_off109 (v757 : BitVec 32) : Fin 2 → Nat :=
  let v758 : BitVec 32 := v757
  let v759 : Index := Scalar.indexCast v758
  let c0_542 : Index := 0#32
  ![v759.toNat, 0]

def k0_chk109 (v757 : BitVec 32) : Prop :=
  (4 ∣ (k0_mult109 v757).toNat) ∧
  (∀ a, (k0_off109 v757) a + S4x128.size a ≤ S65536x128.size a)
theorem k0_mult109_dvd : ∀ (v757 : BitVec 32) (k0_hw109 : k0_chk109 v757), 4 ∣ (k0_mult109 v757).toNat := fun v757 k0_hw109 => k0_hw109.1
theorem k0_off109_inb : ∀ (v757 : BitVec 32) (k0_hw109 : k0_chk109 v757), ∀ a, (k0_off109 v757) a + S4x128.size a ≤ S65536x128.size a := fun v757 k0_hw109 => k0_hw109.2

def k0_mult110 (v764 : BitVec 32) : BitVec 32 :=
  v764

def k0_off110 (v764 : BitVec 32) : Fin 2 → Nat :=
  let v765 : BitVec 32 := v764
  let v766 : Index := Scalar.indexCast v765
  let c0_547 : Index := 0#32
  ![v766.toNat, 0]

def k0_chk110 (v764 : BitVec 32) : Prop :=
  (4 ∣ (k0_mult110 v764).toNat) ∧
  (∀ a, (k0_off110 v764) a + S4x128.size a ≤ S65536x128.size a)
theorem k0_mult110_dvd : ∀ (v764 : BitVec 32) (k0_hw110 : k0_chk110 v764), 4 ∣ (k0_mult110 v764).toNat := fun v764 k0_hw110 => k0_hw110.1
theorem k0_off110_inb : ∀ (v764 : BitVec 32) (k0_hw110 : k0_chk110 v764), ∀ a, (k0_off110 v764) a + S4x128.size a ≤ S65536x128.size a := fun v764 k0_hw110 => k0_hw110.2

def k0_mult111 (v771 : BitVec 32) : BitVec 32 :=
  v771

def k0_off111 (v771 : BitVec 32) : Fin 2 → Nat :=
  let v772 : BitVec 32 := v771
  let v773 : Index := Scalar.indexCast v772
  let c0_552 : Index := 0#32
  ![v773.toNat, 0]

def k0_chk111 (v771 : BitVec 32) : Prop :=
  (4 ∣ (k0_mult111 v771).toNat) ∧
  (∀ a, (k0_off111 v771) a + S4x128.size a ≤ S65536x128.size a)
theorem k0_mult111_dvd : ∀ (v771 : BitVec 32) (k0_hw111 : k0_chk111 v771), 4 ∣ (k0_mult111 v771).toNat := fun v771 k0_hw111 => k0_hw111.1
theorem k0_off111_inb : ∀ (v771 : BitVec 32) (k0_hw111 : k0_chk111 v771), ∀ a, (k0_off111 v771) a + S4x128.size a ≤ S65536x128.size a := fun v771 k0_hw111 => k0_hw111.2

def k0_mult112 (v778 : BitVec 32) : BitVec 32 :=
  v778

def k0_off112 (v778 : BitVec 32) : Fin 2 → Nat :=
  let v779 : BitVec 32 := v778
  let v780 : Index := Scalar.indexCast v779
  let c0_557 : Index := 0#32
  ![v780.toNat, 0]

def k0_chk112 (v778 : BitVec 32) : Prop :=
  (4 ∣ (k0_mult112 v778).toNat) ∧
  (∀ a, (k0_off112 v778) a + S4x128.size a ≤ S65536x128.size a)
theorem k0_mult112_dvd : ∀ (v778 : BitVec 32) (k0_hw112 : k0_chk112 v778), 4 ∣ (k0_mult112 v778).toNat := fun v778 k0_hw112 => k0_hw112.1
theorem k0_off112_inb : ∀ (v778 : BitVec 32) (k0_hw112 : k0_chk112 v778), ∀ a, (k0_off112 v778) a + S4x128.size a ≤ S65536x128.size a := fun v778 k0_hw112 => k0_hw112.2

def k0_mult113 (v785 : BitVec 32) : BitVec 32 :=
  v785

def k0_off113 (v785 : BitVec 32) : Fin 2 → Nat :=
  let v786 : BitVec 32 := v785
  let v787 : Index := Scalar.indexCast v786
  let c0_562 : Index := 0#32
  ![v787.toNat, 0]

def k0_chk113 (v785 : BitVec 32) : Prop :=
  (4 ∣ (k0_mult113 v785).toNat) ∧
  (∀ a, (k0_off113 v785) a + S4x128.size a ≤ S65536x128.size a)
theorem k0_mult113_dvd : ∀ (v785 : BitVec 32) (k0_hw113 : k0_chk113 v785), 4 ∣ (k0_mult113 v785).toNat := fun v785 k0_hw113 => k0_hw113.1
theorem k0_off113_inb : ∀ (v785 : BitVec 32) (k0_hw113 : k0_chk113 v785), ∀ a, (k0_off113 v785) a + S4x128.size a ≤ S65536x128.size a := fun v785 k0_hw113 => k0_hw113.2

def k0_mult114 (v792 : BitVec 32) : BitVec 32 :=
  v792

def k0_off114 (v792 : BitVec 32) : Fin 2 → Nat :=
  let v793 : BitVec 32 := v792
  let v794 : Index := Scalar.indexCast v793
  let c0_567 : Index := 0#32
  ![v794.toNat, 0]

def k0_chk114 (v792 : BitVec 32) : Prop :=
  (4 ∣ (k0_mult114 v792).toNat) ∧
  (∀ a, (k0_off114 v792) a + S4x128.size a ≤ S65536x128.size a)
theorem k0_mult114_dvd : ∀ (v792 : BitVec 32) (k0_hw114 : k0_chk114 v792), 4 ∣ (k0_mult114 v792).toNat := fun v792 k0_hw114 => k0_hw114.1
theorem k0_off114_inb : ∀ (v792 : BitVec 32) (k0_hw114 : k0_chk114 v792), ∀ a, (k0_off114 v792) a + S4x128.size a ≤ S65536x128.size a := fun v792 k0_hw114 => k0_hw114.2

def k0_mult115 (v799 : BitVec 32) : BitVec 32 :=
  v799

def k0_off115 (v799 : BitVec 32) : Fin 2 → Nat :=
  let v800 : BitVec 32 := v799
  let v801 : Index := Scalar.indexCast v800
  let c0_572 : Index := 0#32
  ![v801.toNat, 0]

def k0_chk115 (v799 : BitVec 32) : Prop :=
  (4 ∣ (k0_mult115 v799).toNat) ∧
  (∀ a, (k0_off115 v799) a + S4x128.size a ≤ S65536x128.size a)
theorem k0_mult115_dvd : ∀ (v799 : BitVec 32) (k0_hw115 : k0_chk115 v799), 4 ∣ (k0_mult115 v799).toNat := fun v799 k0_hw115 => k0_hw115.1
theorem k0_off115_inb : ∀ (v799 : BitVec 32) (k0_hw115 : k0_chk115 v799), ∀ a, (k0_off115 v799) a + S4x128.size a ≤ S65536x128.size a := fun v799 k0_hw115 => k0_hw115.2

def k0_mult116 (v806 : BitVec 32) : BitVec 32 :=
  v806

def k0_off116 (v806 : BitVec 32) : Fin 2 → Nat :=
  let v807 : BitVec 32 := v806
  let v808 : Index := Scalar.indexCast v807
  let c0_577 : Index := 0#32
  ![v808.toNat, 0]

def k0_chk116 (v806 : BitVec 32) : Prop :=
  (4 ∣ (k0_mult116 v806).toNat) ∧
  (∀ a, (k0_off116 v806) a + S4x128.size a ≤ S65536x128.size a)
theorem k0_mult116_dvd : ∀ (v806 : BitVec 32) (k0_hw116 : k0_chk116 v806), 4 ∣ (k0_mult116 v806).toNat := fun v806 k0_hw116 => k0_hw116.1
theorem k0_off116_inb : ∀ (v806 : BitVec 32) (k0_hw116 : k0_chk116 v806), ∀ a, (k0_off116 v806) a + S4x128.size a ≤ S65536x128.size a := fun v806 k0_hw116 => k0_hw116.2

def k0_mult117 (v813 : BitVec 32) : BitVec 32 :=
  v813

def k0_off117 (v813 : BitVec 32) : Fin 2 → Nat :=
  let v814 : BitVec 32 := v813
  let v815 : Index := Scalar.indexCast v814
  let c0_582 : Index := 0#32
  ![v815.toNat, 0]

def k0_chk117 (v813 : BitVec 32) : Prop :=
  (4 ∣ (k0_mult117 v813).toNat) ∧
  (∀ a, (k0_off117 v813) a + S4x128.size a ≤ S65536x128.size a)
theorem k0_mult117_dvd : ∀ (v813 : BitVec 32) (k0_hw117 : k0_chk117 v813), 4 ∣ (k0_mult117 v813).toNat := fun v813 k0_hw117 => k0_hw117.1
theorem k0_off117_inb : ∀ (v813 : BitVec 32) (k0_hw117 : k0_chk117 v813), ∀ a, (k0_off117 v813) a + S4x128.size a ≤ S65536x128.size a := fun v813 k0_hw117 => k0_hw117.2

def k0_mult118 (v820 : BitVec 32) : BitVec 32 :=
  v820

def k0_off118 (v820 : BitVec 32) : Fin 2 → Nat :=
  let v821 : BitVec 32 := v820
  let v822 : Index := Scalar.indexCast v821
  let c0_587 : Index := 0#32
  ![v822.toNat, 0]

def k0_chk118 (v820 : BitVec 32) : Prop :=
  (4 ∣ (k0_mult118 v820).toNat) ∧
  (∀ a, (k0_off118 v820) a + S4x128.size a ≤ S65536x128.size a)
theorem k0_mult118_dvd : ∀ (v820 : BitVec 32) (k0_hw118 : k0_chk118 v820), 4 ∣ (k0_mult118 v820).toNat := fun v820 k0_hw118 => k0_hw118.1
theorem k0_off118_inb : ∀ (v820 : BitVec 32) (k0_hw118 : k0_chk118 v820), ∀ a, (k0_off118 v820) a + S4x128.size a ≤ S65536x128.size a := fun v820 k0_hw118 => k0_hw118.2

def k0_mult119 (v827 : BitVec 32) : BitVec 32 :=
  v827

def k0_off119 (v827 : BitVec 32) : Fin 2 → Nat :=
  let v828 : BitVec 32 := v827
  let v829 : Index := Scalar.indexCast v828
  let c0_592 : Index := 0#32
  ![v829.toNat, 0]

def k0_chk119 (v827 : BitVec 32) : Prop :=
  (4 ∣ (k0_mult119 v827).toNat) ∧
  (∀ a, (k0_off119 v827) a + S4x128.size a ≤ S65536x128.size a)
theorem k0_mult119_dvd : ∀ (v827 : BitVec 32) (k0_hw119 : k0_chk119 v827), 4 ∣ (k0_mult119 v827).toNat := fun v827 k0_hw119 => k0_hw119.1
theorem k0_off119_inb : ∀ (v827 : BitVec 32) (k0_hw119 : k0_chk119 v827), ∀ a, (k0_off119 v827) a + S4x128.size a ≤ S65536x128.size a := fun v827 k0_hw119 => k0_hw119.2

def k0_mult120 (v834 : BitVec 32) : BitVec 32 :=
  v834

def k0_off120 (v834 : BitVec 32) : Fin 2 → Nat :=
  let v835 : BitVec 32 := v834
  let v836 : Index := Scalar.indexCast v835
  let c0_597 : Index := 0#32
  ![v836.toNat, 0]

def k0_chk120 (v834 : BitVec 32) : Prop :=
  (4 ∣ (k0_mult120 v834).toNat) ∧
  (∀ a, (k0_off120 v834) a + S4x128.size a ≤ S65536x128.size a)
theorem k0_mult120_dvd : ∀ (v834 : BitVec 32) (k0_hw120 : k0_chk120 v834), 4 ∣ (k0_mult120 v834).toNat := fun v834 k0_hw120 => k0_hw120.1
theorem k0_off120_inb : ∀ (v834 : BitVec 32) (k0_hw120 : k0_chk120 v834), ∀ a, (k0_off120 v834) a + S4x128.size a ≤ S65536x128.size a := fun v834 k0_hw120 => k0_hw120.2

def k0_mult121 (v841 : BitVec 32) : BitVec 32 :=
  v841

def k0_off121 (v841 : BitVec 32) : Fin 2 → Nat :=
  let v842 : BitVec 32 := v841
  let v843 : Index := Scalar.indexCast v842
  let c0_602 : Index := 0#32
  ![v843.toNat, 0]

def k0_chk121 (v841 : BitVec 32) : Prop :=
  (4 ∣ (k0_mult121 v841).toNat) ∧
  (∀ a, (k0_off121 v841) a + S4x128.size a ≤ S65536x128.size a)
theorem k0_mult121_dvd : ∀ (v841 : BitVec 32) (k0_hw121 : k0_chk121 v841), 4 ∣ (k0_mult121 v841).toNat := fun v841 k0_hw121 => k0_hw121.1
theorem k0_off121_inb : ∀ (v841 : BitVec 32) (k0_hw121 : k0_chk121 v841), ∀ a, (k0_off121 v841) a + S4x128.size a ≤ S65536x128.size a := fun v841 k0_hw121 => k0_hw121.2

def k0_mult122 (v848 : BitVec 32) : BitVec 32 :=
  v848

def k0_off122 (v848 : BitVec 32) : Fin 2 → Nat :=
  let v849 : BitVec 32 := v848
  let v850 : Index := Scalar.indexCast v849
  let c0_607 : Index := 0#32
  ![v850.toNat, 0]

def k0_chk122 (v848 : BitVec 32) : Prop :=
  (4 ∣ (k0_mult122 v848).toNat) ∧
  (∀ a, (k0_off122 v848) a + S4x128.size a ≤ S65536x128.size a)
theorem k0_mult122_dvd : ∀ (v848 : BitVec 32) (k0_hw122 : k0_chk122 v848), 4 ∣ (k0_mult122 v848).toNat := fun v848 k0_hw122 => k0_hw122.1
theorem k0_off122_inb : ∀ (v848 : BitVec 32) (k0_hw122 : k0_chk122 v848), ∀ a, (k0_off122 v848) a + S4x128.size a ≤ S65536x128.size a := fun v848 k0_hw122 => k0_hw122.2

def k0_mult123 (v855 : BitVec 32) : BitVec 32 :=
  v855

def k0_off123 (v855 : BitVec 32) : Fin 2 → Nat :=
  let v856 : BitVec 32 := v855
  let v857 : Index := Scalar.indexCast v856
  let c0_612 : Index := 0#32
  ![v857.toNat, 0]

def k0_chk123 (v855 : BitVec 32) : Prop :=
  (4 ∣ (k0_mult123 v855).toNat) ∧
  (∀ a, (k0_off123 v855) a + S4x128.size a ≤ S65536x128.size a)
theorem k0_mult123_dvd : ∀ (v855 : BitVec 32) (k0_hw123 : k0_chk123 v855), 4 ∣ (k0_mult123 v855).toNat := fun v855 k0_hw123 => k0_hw123.1
theorem k0_off123_inb : ∀ (v855 : BitVec 32) (k0_hw123 : k0_chk123 v855), ∀ a, (k0_off123 v855) a + S4x128.size a ≤ S65536x128.size a := fun v855 k0_hw123 => k0_hw123.2

def k0_mult124 (v862 : BitVec 32) : BitVec 32 :=
  v862

def k0_off124 (v862 : BitVec 32) : Fin 2 → Nat :=
  let v863 : BitVec 32 := v862
  let v864 : Index := Scalar.indexCast v863
  let c0_617 : Index := 0#32
  ![v864.toNat, 0]

def k0_chk124 (v862 : BitVec 32) : Prop :=
  (4 ∣ (k0_mult124 v862).toNat) ∧
  (∀ a, (k0_off124 v862) a + S4x128.size a ≤ S65536x128.size a)
theorem k0_mult124_dvd : ∀ (v862 : BitVec 32) (k0_hw124 : k0_chk124 v862), 4 ∣ (k0_mult124 v862).toNat := fun v862 k0_hw124 => k0_hw124.1
theorem k0_off124_inb : ∀ (v862 : BitVec 32) (k0_hw124 : k0_chk124 v862), ∀ a, (k0_off124 v862) a + S4x128.size a ≤ S65536x128.size a := fun v862 k0_hw124 => k0_hw124.2

def k0_mult125 (v869 : BitVec 32) : BitVec 32 :=
  v869

def k0_off125 (v869 : BitVec 32) : Fin 2 → Nat :=
  let v870 : BitVec 32 := v869
  let v871 : Index := Scalar.indexCast v870
  let c0_622 : Index := 0#32
  ![v871.toNat, 0]

def k0_chk125 (v869 : BitVec 32) : Prop :=
  (4 ∣ (k0_mult125 v869).toNat) ∧
  (∀ a, (k0_off125 v869) a + S4x128.size a ≤ S65536x128.size a)
theorem k0_mult125_dvd : ∀ (v869 : BitVec 32) (k0_hw125 : k0_chk125 v869), 4 ∣ (k0_mult125 v869).toNat := fun v869 k0_hw125 => k0_hw125.1
theorem k0_off125_inb : ∀ (v869 : BitVec 32) (k0_hw125 : k0_chk125 v869), ∀ a, (k0_off125 v869) a + S4x128.size a ≤ S65536x128.size a := fun v869 k0_hw125 => k0_hw125.2

def k0_mult126 (v876 : BitVec 32) : BitVec 32 :=
  v876

def k0_off126 (v876 : BitVec 32) : Fin 2 → Nat :=
  let v877 : BitVec 32 := v876
  let v878 : Index := Scalar.indexCast v877
  let c0_627 : Index := 0#32
  ![v878.toNat, 0]

def k0_chk126 (v876 : BitVec 32) : Prop :=
  (4 ∣ (k0_mult126 v876).toNat) ∧
  (∀ a, (k0_off126 v876) a + S4x128.size a ≤ S65536x128.size a)
theorem k0_mult126_dvd : ∀ (v876 : BitVec 32) (k0_hw126 : k0_chk126 v876), 4 ∣ (k0_mult126 v876).toNat := fun v876 k0_hw126 => k0_hw126.1
theorem k0_off126_inb : ∀ (v876 : BitVec 32) (k0_hw126 : k0_chk126 v876), ∀ a, (k0_off126 v876) a + S4x128.size a ≤ S65536x128.size a := fun v876 k0_hw126 => k0_hw126.2

def k0_mult127 (v883 : BitVec 32) : BitVec 32 :=
  v883

def k0_off127 (v883 : BitVec 32) : Fin 2 → Nat :=
  let v884 : BitVec 32 := v883
  let v885 : Index := Scalar.indexCast v884
  let c0_632 : Index := 0#32
  ![v885.toNat, 0]

def k0_chk127 (v883 : BitVec 32) : Prop :=
  (4 ∣ (k0_mult127 v883).toNat) ∧
  (∀ a, (k0_off127 v883) a + S4x128.size a ≤ S65536x128.size a)
theorem k0_mult127_dvd : ∀ (v883 : BitVec 32) (k0_hw127 : k0_chk127 v883), 4 ∣ (k0_mult127 v883).toNat := fun v883 k0_hw127 => k0_hw127.1
theorem k0_off127_inb : ∀ (v883 : BitVec 32) (k0_hw127 : k0_chk127 v883), ∀ a, (k0_off127 v883) a + S4x128.size a ≤ S65536x128.size a := fun v883 k0_hw127 => k0_hw127.2

def k0_mult128 (v890 : BitVec 32) : BitVec 32 :=
  v890

def k0_off128 (v890 : BitVec 32) : Fin 2 → Nat :=
  let v891 : BitVec 32 := v890
  let v892 : Index := Scalar.indexCast v891
  let c0_637 : Index := 0#32
  ![v892.toNat, 0]

def k0_chk128 (v890 : BitVec 32) : Prop :=
  (4 ∣ (k0_mult128 v890).toNat) ∧
  (∀ a, (k0_off128 v890) a + S4x128.size a ≤ S65536x128.size a)
theorem k0_mult128_dvd : ∀ (v890 : BitVec 32) (k0_hw128 : k0_chk128 v890), 4 ∣ (k0_mult128 v890).toNat := fun v890 k0_hw128 => k0_hw128.1
theorem k0_off128_inb : ∀ (v890 : BitVec 32) (k0_hw128 : k0_chk128 v890), ∀ a, (k0_off128 v890) a + S4x128.size a ≤ S65536x128.size a := fun v890 k0_hw128 => k0_hw128.2

@[reducible] def k0_t1_loop : Scf.Loop 32 :=
  let c0_i32 : BitVec 32 := 0#32
  let c64_i32 : BitVec 32 := 64#32
  let v897 : BitVec 32 := Scalar.addi c0_i32 c64_i32
  let c1_i32 : BitVec 32 := 1#32
  ⟨c0_i32, v897, c1_i32⟩
def k0_off129 (k0_t1 : Fin k0_t1_loop.trips) : Fin 3 → Nat :=
  let c0_717 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1018 : Index := Scalar.indexCast v1017
  let c0_718 : Index := 0#32
  ![0, v1018.toNat, 0]
def k0_mult129 (v1019 : BitVec 32) : BitVec 32 :=
  v1019

def k0_off130 (v1019 : BitVec 32) : Fin 2 → Nat :=
  let v1020 : BitVec 32 := v1019
  let v1021 : Index := Scalar.indexCast v1020
  let c0_719 : Index := 0#32
  ![v1021.toNat, 0]

def k0_chk129 (v1019 : BitVec 32) : Prop :=
  (4 ∣ (k0_mult129 v1019).toNat) ∧
  (∀ a, (k0_off130 v1019) a + S4x128.size a ≤ S65536x128.size a)
theorem k0_mult129_dvd : ∀ (v1019 : BitVec 32) (k0_hw129 : k0_chk129 v1019), 4 ∣ (k0_mult129 v1019).toNat := fun v1019 k0_hw129 => k0_hw129.1
theorem k0_off130_inb : ∀ (v1019 : BitVec 32) (k0_hw129 : k0_chk129 v1019), ∀ a, (k0_off130 v1019) a + S4x128.size a ≤ S65536x128.size a := fun v1019 k0_hw129 => k0_hw129.2

def k0_off131 (k0_t1 : Fin k0_t1_loop.trips) : Fin 3 → Nat :=
  let c0_722 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1026 : Index := Scalar.indexCast v1017
  let c1_723 : Index := 1#32
  ![0, v1026.toNat, 1]
def k0_mult130 (v1027 : BitVec 32) : BitVec 32 :=
  v1027

def k0_off132 (v1027 : BitVec 32) : Fin 2 → Nat :=
  let v1028 : BitVec 32 := v1027
  let v1029 : Index := Scalar.indexCast v1028
  let c0_724 : Index := 0#32
  ![v1029.toNat, 0]

def k0_chk130 (v1027 : BitVec 32) : Prop :=
  (4 ∣ (k0_mult130 v1027).toNat) ∧
  (∀ a, (k0_off132 v1027) a + S4x128.size a ≤ S65536x128.size a)
theorem k0_mult130_dvd : ∀ (v1027 : BitVec 32) (k0_hw130 : k0_chk130 v1027), 4 ∣ (k0_mult130 v1027).toNat := fun v1027 k0_hw130 => k0_hw130.1
theorem k0_off132_inb : ∀ (v1027 : BitVec 32) (k0_hw130 : k0_chk130 v1027), ∀ a, (k0_off132 v1027) a + S4x128.size a ≤ S65536x128.size a := fun v1027 k0_hw130 => k0_hw130.2

def k0_off133 (k0_t1 : Fin k0_t1_loop.trips) : Fin 3 → Nat :=
  let c0_727 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1034 : Index := Scalar.indexCast v1017
  let c2_728 : Index := 2#32
  ![0, v1034.toNat, 2]
def k0_mult131 (v1035 : BitVec 32) : BitVec 32 :=
  v1035

def k0_off134 (v1035 : BitVec 32) : Fin 2 → Nat :=
  let v1036 : BitVec 32 := v1035
  let v1037 : Index := Scalar.indexCast v1036
  let c0_729 : Index := 0#32
  ![v1037.toNat, 0]

def k0_chk131 (v1035 : BitVec 32) : Prop :=
  (4 ∣ (k0_mult131 v1035).toNat) ∧
  (∀ a, (k0_off134 v1035) a + S4x128.size a ≤ S65536x128.size a)
theorem k0_mult131_dvd : ∀ (v1035 : BitVec 32) (k0_hw131 : k0_chk131 v1035), 4 ∣ (k0_mult131 v1035).toNat := fun v1035 k0_hw131 => k0_hw131.1
theorem k0_off134_inb : ∀ (v1035 : BitVec 32) (k0_hw131 : k0_chk131 v1035), ∀ a, (k0_off134 v1035) a + S4x128.size a ≤ S65536x128.size a := fun v1035 k0_hw131 => k0_hw131.2

def k0_off135 (k0_t1 : Fin k0_t1_loop.trips) : Fin 3 → Nat :=
  let c0_732 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1042 : Index := Scalar.indexCast v1017
  let c3_733 : Index := 3#32
  ![0, v1042.toNat, 3]
def k0_mult132 (v1043 : BitVec 32) : BitVec 32 :=
  v1043

def k0_off136 (v1043 : BitVec 32) : Fin 2 → Nat :=
  let v1044 : BitVec 32 := v1043
  let v1045 : Index := Scalar.indexCast v1044
  let c0_734 : Index := 0#32
  ![v1045.toNat, 0]

def k0_chk132 (v1043 : BitVec 32) : Prop :=
  (4 ∣ (k0_mult132 v1043).toNat) ∧
  (∀ a, (k0_off136 v1043) a + S4x128.size a ≤ S65536x128.size a)
theorem k0_mult132_dvd : ∀ (v1043 : BitVec 32) (k0_hw132 : k0_chk132 v1043), 4 ∣ (k0_mult132 v1043).toNat := fun v1043 k0_hw132 => k0_hw132.1
theorem k0_off136_inb : ∀ (v1043 : BitVec 32) (k0_hw132 : k0_chk132 v1043), ∀ a, (k0_off136 v1043) a + S4x128.size a ≤ S65536x128.size a := fun v1043 k0_hw132 => k0_hw132.2

def k0_off137 (k0_t1 : Fin k0_t1_loop.trips) : Fin 3 → Nat :=
  let c0_737 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1050 : Index := Scalar.indexCast v1017
  let c4_738 : Index := 4#32
  ![0, v1050.toNat, 4]
def k0_mult133 (v1051 : BitVec 32) : BitVec 32 :=
  v1051

def k0_off138 (v1051 : BitVec 32) : Fin 2 → Nat :=
  let v1052 : BitVec 32 := v1051
  let v1053 : Index := Scalar.indexCast v1052
  let c0_739 : Index := 0#32
  ![v1053.toNat, 0]

def k0_chk133 (v1051 : BitVec 32) : Prop :=
  (4 ∣ (k0_mult133 v1051).toNat) ∧
  (∀ a, (k0_off138 v1051) a + S4x128.size a ≤ S65536x128.size a)
theorem k0_mult133_dvd : ∀ (v1051 : BitVec 32) (k0_hw133 : k0_chk133 v1051), 4 ∣ (k0_mult133 v1051).toNat := fun v1051 k0_hw133 => k0_hw133.1
theorem k0_off138_inb : ∀ (v1051 : BitVec 32) (k0_hw133 : k0_chk133 v1051), ∀ a, (k0_off138 v1051) a + S4x128.size a ≤ S65536x128.size a := fun v1051 k0_hw133 => k0_hw133.2

def k0_off139 (k0_t1 : Fin k0_t1_loop.trips) : Fin 3 → Nat :=
  let c0_742 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1058 : Index := Scalar.indexCast v1017
  let c5_743 : Index := 5#32
  ![0, v1058.toNat, 5]
def k0_mult134 (v1059 : BitVec 32) : BitVec 32 :=
  v1059

def k0_off140 (v1059 : BitVec 32) : Fin 2 → Nat :=
  let v1060 : BitVec 32 := v1059
  let v1061 : Index := Scalar.indexCast v1060
  let c0_744 : Index := 0#32
  ![v1061.toNat, 0]

def k0_chk134 (v1059 : BitVec 32) : Prop :=
  (4 ∣ (k0_mult134 v1059).toNat) ∧
  (∀ a, (k0_off140 v1059) a + S4x128.size a ≤ S65536x128.size a)
theorem k0_mult134_dvd : ∀ (v1059 : BitVec 32) (k0_hw134 : k0_chk134 v1059), 4 ∣ (k0_mult134 v1059).toNat := fun v1059 k0_hw134 => k0_hw134.1
theorem k0_off140_inb : ∀ (v1059 : BitVec 32) (k0_hw134 : k0_chk134 v1059), ∀ a, (k0_off140 v1059) a + S4x128.size a ≤ S65536x128.size a := fun v1059 k0_hw134 => k0_hw134.2

def k0_off141 (k0_t1 : Fin k0_t1_loop.trips) : Fin 3 → Nat :=
  let c0_747 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1066 : Index := Scalar.indexCast v1017
  let c6_748 : Index := 6#32
  ![0, v1066.toNat, 6]
def k0_mult135 (v1067 : BitVec 32) : BitVec 32 :=
  v1067

def k0_off142 (v1067 : BitVec 32) : Fin 2 → Nat :=
  let v1068 : BitVec 32 := v1067
  let v1069 : Index := Scalar.indexCast v1068
  let c0_749 : Index := 0#32
  ![v1069.toNat, 0]

def k0_chk135 (v1067 : BitVec 32) : Prop :=
  (4 ∣ (k0_mult135 v1067).toNat) ∧
  (∀ a, (k0_off142 v1067) a + S4x128.size a ≤ S65536x128.size a)
theorem k0_mult135_dvd : ∀ (v1067 : BitVec 32) (k0_hw135 : k0_chk135 v1067), 4 ∣ (k0_mult135 v1067).toNat := fun v1067 k0_hw135 => k0_hw135.1
theorem k0_off142_inb : ∀ (v1067 : BitVec 32) (k0_hw135 : k0_chk135 v1067), ∀ a, (k0_off142 v1067) a + S4x128.size a ≤ S65536x128.size a := fun v1067 k0_hw135 => k0_hw135.2

def k0_off143 (k0_t1 : Fin k0_t1_loop.trips) : Fin 3 → Nat :=
  let c0_752 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1074 : Index := Scalar.indexCast v1017
  let c7_753 : Index := 7#32
  ![0, v1074.toNat, 7]
def k0_mult136 (v1075 : BitVec 32) : BitVec 32 :=
  v1075

def k0_off144 (v1075 : BitVec 32) : Fin 2 → Nat :=
  let v1076 : BitVec 32 := v1075
  let v1077 : Index := Scalar.indexCast v1076
  let c0_754 : Index := 0#32
  ![v1077.toNat, 0]

def k0_chk136 (v1075 : BitVec 32) : Prop :=
  (4 ∣ (k0_mult136 v1075).toNat) ∧
  (∀ a, (k0_off144 v1075) a + S4x128.size a ≤ S65536x128.size a)
theorem k0_mult136_dvd : ∀ (v1075 : BitVec 32) (k0_hw136 : k0_chk136 v1075), 4 ∣ (k0_mult136 v1075).toNat := fun v1075 k0_hw136 => k0_hw136.1
theorem k0_off144_inb : ∀ (v1075 : BitVec 32) (k0_hw136 : k0_chk136 v1075), ∀ a, (k0_off144 v1075) a + S4x128.size a ≤ S65536x128.size a := fun v1075 k0_hw136 => k0_hw136.2

def k0_off145 (k0_t1 : Fin k0_t1_loop.trips) : Fin 3 → Nat :=
  let c0_757 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1082 : Index := Scalar.indexCast v1017
  let c8_758 : Index := 8#32
  ![0, v1082.toNat, 8]
def k0_mult137 (v1083 : BitVec 32) : BitVec 32 :=
  v1083

def k0_off146 (v1083 : BitVec 32) : Fin 2 → Nat :=
  let v1084 : BitVec 32 := v1083
  let v1085 : Index := Scalar.indexCast v1084
  let c0_759 : Index := 0#32
  ![v1085.toNat, 0]

def k0_chk137 (v1083 : BitVec 32) : Prop :=
  (4 ∣ (k0_mult137 v1083).toNat) ∧
  (∀ a, (k0_off146 v1083) a + S4x128.size a ≤ S65536x128.size a)
theorem k0_mult137_dvd : ∀ (v1083 : BitVec 32) (k0_hw137 : k0_chk137 v1083), 4 ∣ (k0_mult137 v1083).toNat := fun v1083 k0_hw137 => k0_hw137.1
theorem k0_off146_inb : ∀ (v1083 : BitVec 32) (k0_hw137 : k0_chk137 v1083), ∀ a, (k0_off146 v1083) a + S4x128.size a ≤ S65536x128.size a := fun v1083 k0_hw137 => k0_hw137.2

def k0_off147 (k0_t1 : Fin k0_t1_loop.trips) : Fin 3 → Nat :=
  let c0_762 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1090 : Index := Scalar.indexCast v1017
  let c9_763 : Index := 9#32
  ![0, v1090.toNat, 9]
def k0_mult138 (v1091 : BitVec 32) : BitVec 32 :=
  v1091

def k0_off148 (v1091 : BitVec 32) : Fin 2 → Nat :=
  let v1092 : BitVec 32 := v1091
  let v1093 : Index := Scalar.indexCast v1092
  let c0_764 : Index := 0#32
  ![v1093.toNat, 0]

def k0_chk138 (v1091 : BitVec 32) : Prop :=
  (4 ∣ (k0_mult138 v1091).toNat) ∧
  (∀ a, (k0_off148 v1091) a + S4x128.size a ≤ S65536x128.size a)
theorem k0_mult138_dvd : ∀ (v1091 : BitVec 32) (k0_hw138 : k0_chk138 v1091), 4 ∣ (k0_mult138 v1091).toNat := fun v1091 k0_hw138 => k0_hw138.1
theorem k0_off148_inb : ∀ (v1091 : BitVec 32) (k0_hw138 : k0_chk138 v1091), ∀ a, (k0_off148 v1091) a + S4x128.size a ≤ S65536x128.size a := fun v1091 k0_hw138 => k0_hw138.2

def k0_off149 (k0_t1 : Fin k0_t1_loop.trips) : Fin 3 → Nat :=
  let c0_767 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1098 : Index := Scalar.indexCast v1017
  let c10_768 : Index := 10#32
  ![0, v1098.toNat, 10]
def k0_mult139 (v1099 : BitVec 32) : BitVec 32 :=
  v1099

def k0_off150 (v1099 : BitVec 32) : Fin 2 → Nat :=
  let v1100 : BitVec 32 := v1099
  let v1101 : Index := Scalar.indexCast v1100
  let c0_769 : Index := 0#32
  ![v1101.toNat, 0]

def k0_chk139 (v1099 : BitVec 32) : Prop :=
  (4 ∣ (k0_mult139 v1099).toNat) ∧
  (∀ a, (k0_off150 v1099) a + S4x128.size a ≤ S65536x128.size a)
theorem k0_mult139_dvd : ∀ (v1099 : BitVec 32) (k0_hw139 : k0_chk139 v1099), 4 ∣ (k0_mult139 v1099).toNat := fun v1099 k0_hw139 => k0_hw139.1
theorem k0_off150_inb : ∀ (v1099 : BitVec 32) (k0_hw139 : k0_chk139 v1099), ∀ a, (k0_off150 v1099) a + S4x128.size a ≤ S65536x128.size a := fun v1099 k0_hw139 => k0_hw139.2

def k0_off151 (k0_t1 : Fin k0_t1_loop.trips) : Fin 3 → Nat :=
  let c0_772 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1106 : Index := Scalar.indexCast v1017
  let c11_773 : Index := 11#32
  ![0, v1106.toNat, 11]
def k0_mult140 (v1107 : BitVec 32) : BitVec 32 :=
  v1107

def k0_off152 (v1107 : BitVec 32) : Fin 2 → Nat :=
  let v1108 : BitVec 32 := v1107
  let v1109 : Index := Scalar.indexCast v1108
  let c0_774 : Index := 0#32
  ![v1109.toNat, 0]

def k0_chk140 (v1107 : BitVec 32) : Prop :=
  (4 ∣ (k0_mult140 v1107).toNat) ∧
  (∀ a, (k0_off152 v1107) a + S4x128.size a ≤ S65536x128.size a)
theorem k0_mult140_dvd : ∀ (v1107 : BitVec 32) (k0_hw140 : k0_chk140 v1107), 4 ∣ (k0_mult140 v1107).toNat := fun v1107 k0_hw140 => k0_hw140.1
theorem k0_off152_inb : ∀ (v1107 : BitVec 32) (k0_hw140 : k0_chk140 v1107), ∀ a, (k0_off152 v1107) a + S4x128.size a ≤ S65536x128.size a := fun v1107 k0_hw140 => k0_hw140.2

def k0_off153 (k0_t1 : Fin k0_t1_loop.trips) : Fin 3 → Nat :=
  let c0_777 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1114 : Index := Scalar.indexCast v1017
  let c12_778 : Index := 12#32
  ![0, v1114.toNat, 12]
def k0_mult141 (v1115 : BitVec 32) : BitVec 32 :=
  v1115

def k0_off154 (v1115 : BitVec 32) : Fin 2 → Nat :=
  let v1116 : BitVec 32 := v1115
  let v1117 : Index := Scalar.indexCast v1116
  let c0_779 : Index := 0#32
  ![v1117.toNat, 0]

def k0_chk141 (v1115 : BitVec 32) : Prop :=
  (4 ∣ (k0_mult141 v1115).toNat) ∧
  (∀ a, (k0_off154 v1115) a + S4x128.size a ≤ S65536x128.size a)
theorem k0_mult141_dvd : ∀ (v1115 : BitVec 32) (k0_hw141 : k0_chk141 v1115), 4 ∣ (k0_mult141 v1115).toNat := fun v1115 k0_hw141 => k0_hw141.1
theorem k0_off154_inb : ∀ (v1115 : BitVec 32) (k0_hw141 : k0_chk141 v1115), ∀ a, (k0_off154 v1115) a + S4x128.size a ≤ S65536x128.size a := fun v1115 k0_hw141 => k0_hw141.2

def k0_off155 (k0_t1 : Fin k0_t1_loop.trips) : Fin 3 → Nat :=
  let c0_782 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1122 : Index := Scalar.indexCast v1017
  let c13_783 : Index := 13#32
  ![0, v1122.toNat, 13]
def k0_mult142 (v1123 : BitVec 32) : BitVec 32 :=
  v1123

def k0_off156 (v1123 : BitVec 32) : Fin 2 → Nat :=
  let v1124 : BitVec 32 := v1123
  let v1125 : Index := Scalar.indexCast v1124
  let c0_784 : Index := 0#32
  ![v1125.toNat, 0]

def k0_chk142 (v1123 : BitVec 32) : Prop :=
  (4 ∣ (k0_mult142 v1123).toNat) ∧
  (∀ a, (k0_off156 v1123) a + S4x128.size a ≤ S65536x128.size a)
theorem k0_mult142_dvd : ∀ (v1123 : BitVec 32) (k0_hw142 : k0_chk142 v1123), 4 ∣ (k0_mult142 v1123).toNat := fun v1123 k0_hw142 => k0_hw142.1
theorem k0_off156_inb : ∀ (v1123 : BitVec 32) (k0_hw142 : k0_chk142 v1123), ∀ a, (k0_off156 v1123) a + S4x128.size a ≤ S65536x128.size a := fun v1123 k0_hw142 => k0_hw142.2

def k0_off157 (k0_t1 : Fin k0_t1_loop.trips) : Fin 3 → Nat :=
  let c0_787 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1130 : Index := Scalar.indexCast v1017
  let c14_788 : Index := 14#32
  ![0, v1130.toNat, 14]
def k0_mult143 (v1131 : BitVec 32) : BitVec 32 :=
  v1131

def k0_off158 (v1131 : BitVec 32) : Fin 2 → Nat :=
  let v1132 : BitVec 32 := v1131
  let v1133 : Index := Scalar.indexCast v1132
  let c0_789 : Index := 0#32
  ![v1133.toNat, 0]

def k0_chk143 (v1131 : BitVec 32) : Prop :=
  (4 ∣ (k0_mult143 v1131).toNat) ∧
  (∀ a, (k0_off158 v1131) a + S4x128.size a ≤ S65536x128.size a)
theorem k0_mult143_dvd : ∀ (v1131 : BitVec 32) (k0_hw143 : k0_chk143 v1131), 4 ∣ (k0_mult143 v1131).toNat := fun v1131 k0_hw143 => k0_hw143.1
theorem k0_off158_inb : ∀ (v1131 : BitVec 32) (k0_hw143 : k0_chk143 v1131), ∀ a, (k0_off158 v1131) a + S4x128.size a ≤ S65536x128.size a := fun v1131 k0_hw143 => k0_hw143.2

def k0_off159 (k0_t1 : Fin k0_t1_loop.trips) : Fin 3 → Nat :=
  let c0_792 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1138 : Index := Scalar.indexCast v1017
  let c15_793 : Index := 15#32
  ![0, v1138.toNat, 15]
def k0_mult144 (v1139 : BitVec 32) : BitVec 32 :=
  v1139

def k0_off160 (v1139 : BitVec 32) : Fin 2 → Nat :=
  let v1140 : BitVec 32 := v1139
  let v1141 : Index := Scalar.indexCast v1140
  let c0_794 : Index := 0#32
  ![v1141.toNat, 0]

def k0_chk144 (v1139 : BitVec 32) : Prop :=
  (4 ∣ (k0_mult144 v1139).toNat) ∧
  (∀ a, (k0_off160 v1139) a + S4x128.size a ≤ S65536x128.size a)
theorem k0_mult144_dvd : ∀ (v1139 : BitVec 32) (k0_hw144 : k0_chk144 v1139), 4 ∣ (k0_mult144 v1139).toNat := fun v1139 k0_hw144 => k0_hw144.1
theorem k0_off160_inb : ∀ (v1139 : BitVec 32) (k0_hw144 : k0_chk144 v1139), ∀ a, (k0_off160 v1139) a + S4x128.size a ≤ S65536x128.size a := fun v1139 k0_hw144 => k0_hw144.2

def k0_off161 (k0_t1 : Fin k0_t1_loop.trips) : Fin 3 → Nat :=
  let c0_797 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1146 : Index := Scalar.indexCast v1017
  let c16_798 : Index := 16#32
  ![0, v1146.toNat, 16]
def k0_mult145 (v1147 : BitVec 32) : BitVec 32 :=
  v1147

def k0_off162 (v1147 : BitVec 32) : Fin 2 → Nat :=
  let v1148 : BitVec 32 := v1147
  let v1149 : Index := Scalar.indexCast v1148
  let c0_799 : Index := 0#32
  ![v1149.toNat, 0]

def k0_chk145 (v1147 : BitVec 32) : Prop :=
  (4 ∣ (k0_mult145 v1147).toNat) ∧
  (∀ a, (k0_off162 v1147) a + S4x128.size a ≤ S65536x128.size a)
theorem k0_mult145_dvd : ∀ (v1147 : BitVec 32) (k0_hw145 : k0_chk145 v1147), 4 ∣ (k0_mult145 v1147).toNat := fun v1147 k0_hw145 => k0_hw145.1
theorem k0_off162_inb : ∀ (v1147 : BitVec 32) (k0_hw145 : k0_chk145 v1147), ∀ a, (k0_off162 v1147) a + S4x128.size a ≤ S65536x128.size a := fun v1147 k0_hw145 => k0_hw145.2

def k0_off163 (k0_t1 : Fin k0_t1_loop.trips) : Fin 3 → Nat :=
  let c0_802 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1154 : Index := Scalar.indexCast v1017
  let c17_803 : Index := 17#32
  ![0, v1154.toNat, 17]
def k0_mult146 (v1155 : BitVec 32) : BitVec 32 :=
  v1155

def k0_off164 (v1155 : BitVec 32) : Fin 2 → Nat :=
  let v1156 : BitVec 32 := v1155
  let v1157 : Index := Scalar.indexCast v1156
  let c0_804 : Index := 0#32
  ![v1157.toNat, 0]

def k0_chk146 (v1155 : BitVec 32) : Prop :=
  (4 ∣ (k0_mult146 v1155).toNat) ∧
  (∀ a, (k0_off164 v1155) a + S4x128.size a ≤ S65536x128.size a)
theorem k0_mult146_dvd : ∀ (v1155 : BitVec 32) (k0_hw146 : k0_chk146 v1155), 4 ∣ (k0_mult146 v1155).toNat := fun v1155 k0_hw146 => k0_hw146.1
theorem k0_off164_inb : ∀ (v1155 : BitVec 32) (k0_hw146 : k0_chk146 v1155), ∀ a, (k0_off164 v1155) a + S4x128.size a ≤ S65536x128.size a := fun v1155 k0_hw146 => k0_hw146.2

def k0_off165 (k0_t1 : Fin k0_t1_loop.trips) : Fin 3 → Nat :=
  let c0_807 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1162 : Index := Scalar.indexCast v1017
  let c18_808 : Index := 18#32
  ![0, v1162.toNat, 18]
def k0_mult147 (v1163 : BitVec 32) : BitVec 32 :=
  v1163

def k0_off166 (v1163 : BitVec 32) : Fin 2 → Nat :=
  let v1164 : BitVec 32 := v1163
  let v1165 : Index := Scalar.indexCast v1164
  let c0_809 : Index := 0#32
  ![v1165.toNat, 0]

def k0_chk147 (v1163 : BitVec 32) : Prop :=
  (4 ∣ (k0_mult147 v1163).toNat) ∧
  (∀ a, (k0_off166 v1163) a + S4x128.size a ≤ S65536x128.size a)
theorem k0_mult147_dvd : ∀ (v1163 : BitVec 32) (k0_hw147 : k0_chk147 v1163), 4 ∣ (k0_mult147 v1163).toNat := fun v1163 k0_hw147 => k0_hw147.1
theorem k0_off166_inb : ∀ (v1163 : BitVec 32) (k0_hw147 : k0_chk147 v1163), ∀ a, (k0_off166 v1163) a + S4x128.size a ≤ S65536x128.size a := fun v1163 k0_hw147 => k0_hw147.2

def k0_off167 (k0_t1 : Fin k0_t1_loop.trips) : Fin 3 → Nat :=
  let c0_812 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1170 : Index := Scalar.indexCast v1017
  let c19_813 : Index := 19#32
  ![0, v1170.toNat, 19]
def k0_mult148 (v1171 : BitVec 32) : BitVec 32 :=
  v1171

def k0_off168 (v1171 : BitVec 32) : Fin 2 → Nat :=
  let v1172 : BitVec 32 := v1171
  let v1173 : Index := Scalar.indexCast v1172
  let c0_814 : Index := 0#32
  ![v1173.toNat, 0]

def k0_chk148 (v1171 : BitVec 32) : Prop :=
  (4 ∣ (k0_mult148 v1171).toNat) ∧
  (∀ a, (k0_off168 v1171) a + S4x128.size a ≤ S65536x128.size a)
theorem k0_mult148_dvd : ∀ (v1171 : BitVec 32) (k0_hw148 : k0_chk148 v1171), 4 ∣ (k0_mult148 v1171).toNat := fun v1171 k0_hw148 => k0_hw148.1
theorem k0_off168_inb : ∀ (v1171 : BitVec 32) (k0_hw148 : k0_chk148 v1171), ∀ a, (k0_off168 v1171) a + S4x128.size a ≤ S65536x128.size a := fun v1171 k0_hw148 => k0_hw148.2

def k0_off169 (k0_t1 : Fin k0_t1_loop.trips) : Fin 3 → Nat :=
  let c0_817 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1178 : Index := Scalar.indexCast v1017
  let c20_818 : Index := 20#32
  ![0, v1178.toNat, 20]
def k0_mult149 (v1179 : BitVec 32) : BitVec 32 :=
  v1179

def k0_off170 (v1179 : BitVec 32) : Fin 2 → Nat :=
  let v1180 : BitVec 32 := v1179
  let v1181 : Index := Scalar.indexCast v1180
  let c0_819 : Index := 0#32
  ![v1181.toNat, 0]

def k0_chk149 (v1179 : BitVec 32) : Prop :=
  (4 ∣ (k0_mult149 v1179).toNat) ∧
  (∀ a, (k0_off170 v1179) a + S4x128.size a ≤ S65536x128.size a)
theorem k0_mult149_dvd : ∀ (v1179 : BitVec 32) (k0_hw149 : k0_chk149 v1179), 4 ∣ (k0_mult149 v1179).toNat := fun v1179 k0_hw149 => k0_hw149.1
theorem k0_off170_inb : ∀ (v1179 : BitVec 32) (k0_hw149 : k0_chk149 v1179), ∀ a, (k0_off170 v1179) a + S4x128.size a ≤ S65536x128.size a := fun v1179 k0_hw149 => k0_hw149.2

def k0_off171 (k0_t1 : Fin k0_t1_loop.trips) : Fin 3 → Nat :=
  let c0_822 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1186 : Index := Scalar.indexCast v1017
  let c21_823 : Index := 21#32
  ![0, v1186.toNat, 21]
def k0_mult150 (v1187 : BitVec 32) : BitVec 32 :=
  v1187

def k0_off172 (v1187 : BitVec 32) : Fin 2 → Nat :=
  let v1188 : BitVec 32 := v1187
  let v1189 : Index := Scalar.indexCast v1188
  let c0_824 : Index := 0#32
  ![v1189.toNat, 0]

def k0_chk150 (v1187 : BitVec 32) : Prop :=
  (4 ∣ (k0_mult150 v1187).toNat) ∧
  (∀ a, (k0_off172 v1187) a + S4x128.size a ≤ S65536x128.size a)
theorem k0_mult150_dvd : ∀ (v1187 : BitVec 32) (k0_hw150 : k0_chk150 v1187), 4 ∣ (k0_mult150 v1187).toNat := fun v1187 k0_hw150 => k0_hw150.1
theorem k0_off172_inb : ∀ (v1187 : BitVec 32) (k0_hw150 : k0_chk150 v1187), ∀ a, (k0_off172 v1187) a + S4x128.size a ≤ S65536x128.size a := fun v1187 k0_hw150 => k0_hw150.2

def k0_off173 (k0_t1 : Fin k0_t1_loop.trips) : Fin 3 → Nat :=
  let c0_827 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1194 : Index := Scalar.indexCast v1017
  let c22_828 : Index := 22#32
  ![0, v1194.toNat, 22]
def k0_mult151 (v1195 : BitVec 32) : BitVec 32 :=
  v1195

def k0_off174 (v1195 : BitVec 32) : Fin 2 → Nat :=
  let v1196 : BitVec 32 := v1195
  let v1197 : Index := Scalar.indexCast v1196
  let c0_829 : Index := 0#32
  ![v1197.toNat, 0]

def k0_chk151 (v1195 : BitVec 32) : Prop :=
  (4 ∣ (k0_mult151 v1195).toNat) ∧
  (∀ a, (k0_off174 v1195) a + S4x128.size a ≤ S65536x128.size a)
theorem k0_mult151_dvd : ∀ (v1195 : BitVec 32) (k0_hw151 : k0_chk151 v1195), 4 ∣ (k0_mult151 v1195).toNat := fun v1195 k0_hw151 => k0_hw151.1
theorem k0_off174_inb : ∀ (v1195 : BitVec 32) (k0_hw151 : k0_chk151 v1195), ∀ a, (k0_off174 v1195) a + S4x128.size a ≤ S65536x128.size a := fun v1195 k0_hw151 => k0_hw151.2

def k0_off175 (k0_t1 : Fin k0_t1_loop.trips) : Fin 3 → Nat :=
  let c0_832 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1202 : Index := Scalar.indexCast v1017
  let c23_833 : Index := 23#32
  ![0, v1202.toNat, 23]
def k0_mult152 (v1203 : BitVec 32) : BitVec 32 :=
  v1203

def k0_off176 (v1203 : BitVec 32) : Fin 2 → Nat :=
  let v1204 : BitVec 32 := v1203
  let v1205 : Index := Scalar.indexCast v1204
  let c0_834 : Index := 0#32
  ![v1205.toNat, 0]

def k0_chk152 (v1203 : BitVec 32) : Prop :=
  (4 ∣ (k0_mult152 v1203).toNat) ∧
  (∀ a, (k0_off176 v1203) a + S4x128.size a ≤ S65536x128.size a)
theorem k0_mult152_dvd : ∀ (v1203 : BitVec 32) (k0_hw152 : k0_chk152 v1203), 4 ∣ (k0_mult152 v1203).toNat := fun v1203 k0_hw152 => k0_hw152.1
theorem k0_off176_inb : ∀ (v1203 : BitVec 32) (k0_hw152 : k0_chk152 v1203), ∀ a, (k0_off176 v1203) a + S4x128.size a ≤ S65536x128.size a := fun v1203 k0_hw152 => k0_hw152.2

def k0_off177 (k0_t1 : Fin k0_t1_loop.trips) : Fin 3 → Nat :=
  let c0_837 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1210 : Index := Scalar.indexCast v1017
  let c24_838 : Index := 24#32
  ![0, v1210.toNat, 24]
def k0_mult153 (v1211 : BitVec 32) : BitVec 32 :=
  v1211

def k0_off178 (v1211 : BitVec 32) : Fin 2 → Nat :=
  let v1212 : BitVec 32 := v1211
  let v1213 : Index := Scalar.indexCast v1212
  let c0_839 : Index := 0#32
  ![v1213.toNat, 0]

def k0_chk153 (v1211 : BitVec 32) : Prop :=
  (4 ∣ (k0_mult153 v1211).toNat) ∧
  (∀ a, (k0_off178 v1211) a + S4x128.size a ≤ S65536x128.size a)
theorem k0_mult153_dvd : ∀ (v1211 : BitVec 32) (k0_hw153 : k0_chk153 v1211), 4 ∣ (k0_mult153 v1211).toNat := fun v1211 k0_hw153 => k0_hw153.1
theorem k0_off178_inb : ∀ (v1211 : BitVec 32) (k0_hw153 : k0_chk153 v1211), ∀ a, (k0_off178 v1211) a + S4x128.size a ≤ S65536x128.size a := fun v1211 k0_hw153 => k0_hw153.2

def k0_off179 (k0_t1 : Fin k0_t1_loop.trips) : Fin 3 → Nat :=
  let c0_842 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1218 : Index := Scalar.indexCast v1017
  let c25_843 : Index := 25#32
  ![0, v1218.toNat, 25]
def k0_mult154 (v1219 : BitVec 32) : BitVec 32 :=
  v1219

def k0_off180 (v1219 : BitVec 32) : Fin 2 → Nat :=
  let v1220 : BitVec 32 := v1219
  let v1221 : Index := Scalar.indexCast v1220
  let c0_844 : Index := 0#32
  ![v1221.toNat, 0]

def k0_chk154 (v1219 : BitVec 32) : Prop :=
  (4 ∣ (k0_mult154 v1219).toNat) ∧
  (∀ a, (k0_off180 v1219) a + S4x128.size a ≤ S65536x128.size a)
theorem k0_mult154_dvd : ∀ (v1219 : BitVec 32) (k0_hw154 : k0_chk154 v1219), 4 ∣ (k0_mult154 v1219).toNat := fun v1219 k0_hw154 => k0_hw154.1
theorem k0_off180_inb : ∀ (v1219 : BitVec 32) (k0_hw154 : k0_chk154 v1219), ∀ a, (k0_off180 v1219) a + S4x128.size a ≤ S65536x128.size a := fun v1219 k0_hw154 => k0_hw154.2

def k0_off181 (k0_t1 : Fin k0_t1_loop.trips) : Fin 3 → Nat :=
  let c0_847 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1226 : Index := Scalar.indexCast v1017
  let c26_848 : Index := 26#32
  ![0, v1226.toNat, 26]
def k0_mult155 (v1227 : BitVec 32) : BitVec 32 :=
  v1227

def k0_off182 (v1227 : BitVec 32) : Fin 2 → Nat :=
  let v1228 : BitVec 32 := v1227
  let v1229 : Index := Scalar.indexCast v1228
  let c0_849 : Index := 0#32
  ![v1229.toNat, 0]

def k0_chk155 (v1227 : BitVec 32) : Prop :=
  (4 ∣ (k0_mult155 v1227).toNat) ∧
  (∀ a, (k0_off182 v1227) a + S4x128.size a ≤ S65536x128.size a)
theorem k0_mult155_dvd : ∀ (v1227 : BitVec 32) (k0_hw155 : k0_chk155 v1227), 4 ∣ (k0_mult155 v1227).toNat := fun v1227 k0_hw155 => k0_hw155.1
theorem k0_off182_inb : ∀ (v1227 : BitVec 32) (k0_hw155 : k0_chk155 v1227), ∀ a, (k0_off182 v1227) a + S4x128.size a ≤ S65536x128.size a := fun v1227 k0_hw155 => k0_hw155.2

def k0_off183 (k0_t1 : Fin k0_t1_loop.trips) : Fin 3 → Nat :=
  let c0_852 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1234 : Index := Scalar.indexCast v1017
  let c27_853 : Index := 27#32
  ![0, v1234.toNat, 27]
def k0_mult156 (v1235 : BitVec 32) : BitVec 32 :=
  v1235

def k0_off184 (v1235 : BitVec 32) : Fin 2 → Nat :=
  let v1236 : BitVec 32 := v1235
  let v1237 : Index := Scalar.indexCast v1236
  let c0_854 : Index := 0#32
  ![v1237.toNat, 0]

def k0_chk156 (v1235 : BitVec 32) : Prop :=
  (4 ∣ (k0_mult156 v1235).toNat) ∧
  (∀ a, (k0_off184 v1235) a + S4x128.size a ≤ S65536x128.size a)
theorem k0_mult156_dvd : ∀ (v1235 : BitVec 32) (k0_hw156 : k0_chk156 v1235), 4 ∣ (k0_mult156 v1235).toNat := fun v1235 k0_hw156 => k0_hw156.1
theorem k0_off184_inb : ∀ (v1235 : BitVec 32) (k0_hw156 : k0_chk156 v1235), ∀ a, (k0_off184 v1235) a + S4x128.size a ≤ S65536x128.size a := fun v1235 k0_hw156 => k0_hw156.2

def k0_off185 (k0_t1 : Fin k0_t1_loop.trips) : Fin 3 → Nat :=
  let c0_857 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1242 : Index := Scalar.indexCast v1017
  let c28_858 : Index := 28#32
  ![0, v1242.toNat, 28]
def k0_mult157 (v1243 : BitVec 32) : BitVec 32 :=
  v1243

def k0_off186 (v1243 : BitVec 32) : Fin 2 → Nat :=
  let v1244 : BitVec 32 := v1243
  let v1245 : Index := Scalar.indexCast v1244
  let c0_859 : Index := 0#32
  ![v1245.toNat, 0]

def k0_chk157 (v1243 : BitVec 32) : Prop :=
  (4 ∣ (k0_mult157 v1243).toNat) ∧
  (∀ a, (k0_off186 v1243) a + S4x128.size a ≤ S65536x128.size a)
theorem k0_mult157_dvd : ∀ (v1243 : BitVec 32) (k0_hw157 : k0_chk157 v1243), 4 ∣ (k0_mult157 v1243).toNat := fun v1243 k0_hw157 => k0_hw157.1
theorem k0_off186_inb : ∀ (v1243 : BitVec 32) (k0_hw157 : k0_chk157 v1243), ∀ a, (k0_off186 v1243) a + S4x128.size a ≤ S65536x128.size a := fun v1243 k0_hw157 => k0_hw157.2

def k0_off187 (k0_t1 : Fin k0_t1_loop.trips) : Fin 3 → Nat :=
  let c0_862 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1250 : Index := Scalar.indexCast v1017
  let c29_863 : Index := 29#32
  ![0, v1250.toNat, 29]
def k0_mult158 (v1251 : BitVec 32) : BitVec 32 :=
  v1251

def k0_off188 (v1251 : BitVec 32) : Fin 2 → Nat :=
  let v1252 : BitVec 32 := v1251
  let v1253 : Index := Scalar.indexCast v1252
  let c0_864 : Index := 0#32
  ![v1253.toNat, 0]

def k0_chk158 (v1251 : BitVec 32) : Prop :=
  (4 ∣ (k0_mult158 v1251).toNat) ∧
  (∀ a, (k0_off188 v1251) a + S4x128.size a ≤ S65536x128.size a)
theorem k0_mult158_dvd : ∀ (v1251 : BitVec 32) (k0_hw158 : k0_chk158 v1251), 4 ∣ (k0_mult158 v1251).toNat := fun v1251 k0_hw158 => k0_hw158.1
theorem k0_off188_inb : ∀ (v1251 : BitVec 32) (k0_hw158 : k0_chk158 v1251), ∀ a, (k0_off188 v1251) a + S4x128.size a ≤ S65536x128.size a := fun v1251 k0_hw158 => k0_hw158.2

def k0_off189 (k0_t1 : Fin k0_t1_loop.trips) : Fin 3 → Nat :=
  let c0_867 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1258 : Index := Scalar.indexCast v1017
  let c30_868 : Index := 30#32
  ![0, v1258.toNat, 30]
def k0_mult159 (v1259 : BitVec 32) : BitVec 32 :=
  v1259

def k0_off190 (v1259 : BitVec 32) : Fin 2 → Nat :=
  let v1260 : BitVec 32 := v1259
  let v1261 : Index := Scalar.indexCast v1260
  let c0_869 : Index := 0#32
  ![v1261.toNat, 0]

def k0_chk159 (v1259 : BitVec 32) : Prop :=
  (4 ∣ (k0_mult159 v1259).toNat) ∧
  (∀ a, (k0_off190 v1259) a + S4x128.size a ≤ S65536x128.size a)
theorem k0_mult159_dvd : ∀ (v1259 : BitVec 32) (k0_hw159 : k0_chk159 v1259), 4 ∣ (k0_mult159 v1259).toNat := fun v1259 k0_hw159 => k0_hw159.1
theorem k0_off190_inb : ∀ (v1259 : BitVec 32) (k0_hw159 : k0_chk159 v1259), ∀ a, (k0_off190 v1259) a + S4x128.size a ≤ S65536x128.size a := fun v1259 k0_hw159 => k0_hw159.2

def k0_off191 (k0_t1 : Fin k0_t1_loop.trips) : Fin 3 → Nat :=
  let c0_872 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1266 : Index := Scalar.indexCast v1017
  let c31_873 : Index := 31#32
  ![0, v1266.toNat, 31]
def k0_mult160 (v1267 : BitVec 32) : BitVec 32 :=
  v1267

def k0_off192 (v1267 : BitVec 32) : Fin 2 → Nat :=
  let v1268 : BitVec 32 := v1267
  let v1269 : Index := Scalar.indexCast v1268
  let c0_874 : Index := 0#32
  ![v1269.toNat, 0]

def k0_chk160 (v1267 : BitVec 32) : Prop :=
  (4 ∣ (k0_mult160 v1267).toNat) ∧
  (∀ a, (k0_off192 v1267) a + S4x128.size a ≤ S65536x128.size a)
theorem k0_mult160_dvd : ∀ (v1267 : BitVec 32) (k0_hw160 : k0_chk160 v1267), 4 ∣ (k0_mult160 v1267).toNat := fun v1267 k0_hw160 => k0_hw160.1
theorem k0_off192_inb : ∀ (v1267 : BitVec 32) (k0_hw160 : k0_chk160 v1267), ∀ a, (k0_off192 v1267) a + S4x128.size a ≤ S65536x128.size a := fun v1267 k0_hw160 => k0_hw160.2

def k0_off193 (k0_t1 : Fin k0_t1_loop.trips) : Fin 3 → Nat :=
  let c0_877 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1274 : Index := Scalar.indexCast v1017
  let c32_878 : Index := 32#32
  ![0, v1274.toNat, 32]
def k0_mult161 (v1275 : BitVec 32) : BitVec 32 :=
  v1275

def k0_off194 (v1275 : BitVec 32) : Fin 2 → Nat :=
  let v1276 : BitVec 32 := v1275
  let v1277 : Index := Scalar.indexCast v1276
  let c0_879 : Index := 0#32
  ![v1277.toNat, 0]

def k0_chk161 (v1275 : BitVec 32) : Prop :=
  (4 ∣ (k0_mult161 v1275).toNat) ∧
  (∀ a, (k0_off194 v1275) a + S4x128.size a ≤ S65536x128.size a)
theorem k0_mult161_dvd : ∀ (v1275 : BitVec 32) (k0_hw161 : k0_chk161 v1275), 4 ∣ (k0_mult161 v1275).toNat := fun v1275 k0_hw161 => k0_hw161.1
theorem k0_off194_inb : ∀ (v1275 : BitVec 32) (k0_hw161 : k0_chk161 v1275), ∀ a, (k0_off194 v1275) a + S4x128.size a ≤ S65536x128.size a := fun v1275 k0_hw161 => k0_hw161.2

def k0_off195 (k0_t1 : Fin k0_t1_loop.trips) : Fin 3 → Nat :=
  let c0_882 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1282 : Index := Scalar.indexCast v1017
  let c33_883 : Index := 33#32
  ![0, v1282.toNat, 33]
def k0_mult162 (v1283 : BitVec 32) : BitVec 32 :=
  v1283

def k0_off196 (v1283 : BitVec 32) : Fin 2 → Nat :=
  let v1284 : BitVec 32 := v1283
  let v1285 : Index := Scalar.indexCast v1284
  let c0_884 : Index := 0#32
  ![v1285.toNat, 0]

def k0_chk162 (v1283 : BitVec 32) : Prop :=
  (4 ∣ (k0_mult162 v1283).toNat) ∧
  (∀ a, (k0_off196 v1283) a + S4x128.size a ≤ S65536x128.size a)
theorem k0_mult162_dvd : ∀ (v1283 : BitVec 32) (k0_hw162 : k0_chk162 v1283), 4 ∣ (k0_mult162 v1283).toNat := fun v1283 k0_hw162 => k0_hw162.1
theorem k0_off196_inb : ∀ (v1283 : BitVec 32) (k0_hw162 : k0_chk162 v1283), ∀ a, (k0_off196 v1283) a + S4x128.size a ≤ S65536x128.size a := fun v1283 k0_hw162 => k0_hw162.2

def k0_off197 (k0_t1 : Fin k0_t1_loop.trips) : Fin 3 → Nat :=
  let c0_887 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1290 : Index := Scalar.indexCast v1017
  let c34_888 : Index := 34#32
  ![0, v1290.toNat, 34]
def k0_mult163 (v1291 : BitVec 32) : BitVec 32 :=
  v1291

def k0_off198 (v1291 : BitVec 32) : Fin 2 → Nat :=
  let v1292 : BitVec 32 := v1291
  let v1293 : Index := Scalar.indexCast v1292
  let c0_889 : Index := 0#32
  ![v1293.toNat, 0]

def k0_chk163 (v1291 : BitVec 32) : Prop :=
  (4 ∣ (k0_mult163 v1291).toNat) ∧
  (∀ a, (k0_off198 v1291) a + S4x128.size a ≤ S65536x128.size a)
theorem k0_mult163_dvd : ∀ (v1291 : BitVec 32) (k0_hw163 : k0_chk163 v1291), 4 ∣ (k0_mult163 v1291).toNat := fun v1291 k0_hw163 => k0_hw163.1
theorem k0_off198_inb : ∀ (v1291 : BitVec 32) (k0_hw163 : k0_chk163 v1291), ∀ a, (k0_off198 v1291) a + S4x128.size a ≤ S65536x128.size a := fun v1291 k0_hw163 => k0_hw163.2

def k0_off199 (k0_t1 : Fin k0_t1_loop.trips) : Fin 3 → Nat :=
  let c0_892 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1298 : Index := Scalar.indexCast v1017
  let c35_893 : Index := 35#32
  ![0, v1298.toNat, 35]
def k0_mult164 (v1299 : BitVec 32) : BitVec 32 :=
  v1299

def k0_off200 (v1299 : BitVec 32) : Fin 2 → Nat :=
  let v1300 : BitVec 32 := v1299
  let v1301 : Index := Scalar.indexCast v1300
  let c0_894 : Index := 0#32
  ![v1301.toNat, 0]

def k0_chk164 (v1299 : BitVec 32) : Prop :=
  (4 ∣ (k0_mult164 v1299).toNat) ∧
  (∀ a, (k0_off200 v1299) a + S4x128.size a ≤ S65536x128.size a)
theorem k0_mult164_dvd : ∀ (v1299 : BitVec 32) (k0_hw164 : k0_chk164 v1299), 4 ∣ (k0_mult164 v1299).toNat := fun v1299 k0_hw164 => k0_hw164.1
theorem k0_off200_inb : ∀ (v1299 : BitVec 32) (k0_hw164 : k0_chk164 v1299), ∀ a, (k0_off200 v1299) a + S4x128.size a ≤ S65536x128.size a := fun v1299 k0_hw164 => k0_hw164.2

def k0_off201 (k0_t1 : Fin k0_t1_loop.trips) : Fin 3 → Nat :=
  let c0_897 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1306 : Index := Scalar.indexCast v1017
  let c36_898 : Index := 36#32
  ![0, v1306.toNat, 36]
def k0_mult165 (v1307 : BitVec 32) : BitVec 32 :=
  v1307

def k0_off202 (v1307 : BitVec 32) : Fin 2 → Nat :=
  let v1308 : BitVec 32 := v1307
  let v1309 : Index := Scalar.indexCast v1308
  let c0_899 : Index := 0#32
  ![v1309.toNat, 0]

def k0_chk165 (v1307 : BitVec 32) : Prop :=
  (4 ∣ (k0_mult165 v1307).toNat) ∧
  (∀ a, (k0_off202 v1307) a + S4x128.size a ≤ S65536x128.size a)
theorem k0_mult165_dvd : ∀ (v1307 : BitVec 32) (k0_hw165 : k0_chk165 v1307), 4 ∣ (k0_mult165 v1307).toNat := fun v1307 k0_hw165 => k0_hw165.1
theorem k0_off202_inb : ∀ (v1307 : BitVec 32) (k0_hw165 : k0_chk165 v1307), ∀ a, (k0_off202 v1307) a + S4x128.size a ≤ S65536x128.size a := fun v1307 k0_hw165 => k0_hw165.2

def k0_off203 (k0_t1 : Fin k0_t1_loop.trips) : Fin 3 → Nat :=
  let c0_902 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1314 : Index := Scalar.indexCast v1017
  let c37_903 : Index := 37#32
  ![0, v1314.toNat, 37]
def k0_mult166 (v1315 : BitVec 32) : BitVec 32 :=
  v1315

def k0_off204 (v1315 : BitVec 32) : Fin 2 → Nat :=
  let v1316 : BitVec 32 := v1315
  let v1317 : Index := Scalar.indexCast v1316
  let c0_904 : Index := 0#32
  ![v1317.toNat, 0]

def k0_chk166 (v1315 : BitVec 32) : Prop :=
  (4 ∣ (k0_mult166 v1315).toNat) ∧
  (∀ a, (k0_off204 v1315) a + S4x128.size a ≤ S65536x128.size a)
theorem k0_mult166_dvd : ∀ (v1315 : BitVec 32) (k0_hw166 : k0_chk166 v1315), 4 ∣ (k0_mult166 v1315).toNat := fun v1315 k0_hw166 => k0_hw166.1
theorem k0_off204_inb : ∀ (v1315 : BitVec 32) (k0_hw166 : k0_chk166 v1315), ∀ a, (k0_off204 v1315) a + S4x128.size a ≤ S65536x128.size a := fun v1315 k0_hw166 => k0_hw166.2

def k0_off205 (k0_t1 : Fin k0_t1_loop.trips) : Fin 3 → Nat :=
  let c0_907 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1322 : Index := Scalar.indexCast v1017
  let c38_908 : Index := 38#32
  ![0, v1322.toNat, 38]
def k0_mult167 (v1323 : BitVec 32) : BitVec 32 :=
  v1323

def k0_off206 (v1323 : BitVec 32) : Fin 2 → Nat :=
  let v1324 : BitVec 32 := v1323
  let v1325 : Index := Scalar.indexCast v1324
  let c0_909 : Index := 0#32
  ![v1325.toNat, 0]

def k0_chk167 (v1323 : BitVec 32) : Prop :=
  (4 ∣ (k0_mult167 v1323).toNat) ∧
  (∀ a, (k0_off206 v1323) a + S4x128.size a ≤ S65536x128.size a)
theorem k0_mult167_dvd : ∀ (v1323 : BitVec 32) (k0_hw167 : k0_chk167 v1323), 4 ∣ (k0_mult167 v1323).toNat := fun v1323 k0_hw167 => k0_hw167.1
theorem k0_off206_inb : ∀ (v1323 : BitVec 32) (k0_hw167 : k0_chk167 v1323), ∀ a, (k0_off206 v1323) a + S4x128.size a ≤ S65536x128.size a := fun v1323 k0_hw167 => k0_hw167.2

def k0_off207 (k0_t1 : Fin k0_t1_loop.trips) : Fin 3 → Nat :=
  let c0_912 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1330 : Index := Scalar.indexCast v1017
  let c39_913 : Index := 39#32
  ![0, v1330.toNat, 39]
def k0_mult168 (v1331 : BitVec 32) : BitVec 32 :=
  v1331

def k0_off208 (v1331 : BitVec 32) : Fin 2 → Nat :=
  let v1332 : BitVec 32 := v1331
  let v1333 : Index := Scalar.indexCast v1332
  let c0_914 : Index := 0#32
  ![v1333.toNat, 0]

def k0_chk168 (v1331 : BitVec 32) : Prop :=
  (4 ∣ (k0_mult168 v1331).toNat) ∧
  (∀ a, (k0_off208 v1331) a + S4x128.size a ≤ S65536x128.size a)
theorem k0_mult168_dvd : ∀ (v1331 : BitVec 32) (k0_hw168 : k0_chk168 v1331), 4 ∣ (k0_mult168 v1331).toNat := fun v1331 k0_hw168 => k0_hw168.1
theorem k0_off208_inb : ∀ (v1331 : BitVec 32) (k0_hw168 : k0_chk168 v1331), ∀ a, (k0_off208 v1331) a + S4x128.size a ≤ S65536x128.size a := fun v1331 k0_hw168 => k0_hw168.2

def k0_off209 (k0_t1 : Fin k0_t1_loop.trips) : Fin 3 → Nat :=
  let c0_917 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1338 : Index := Scalar.indexCast v1017
  let c40_918 : Index := 40#32
  ![0, v1338.toNat, 40]
def k0_mult169 (v1339 : BitVec 32) : BitVec 32 :=
  v1339

def k0_off210 (v1339 : BitVec 32) : Fin 2 → Nat :=
  let v1340 : BitVec 32 := v1339
  let v1341 : Index := Scalar.indexCast v1340
  let c0_919 : Index := 0#32
  ![v1341.toNat, 0]

def k0_chk169 (v1339 : BitVec 32) : Prop :=
  (4 ∣ (k0_mult169 v1339).toNat) ∧
  (∀ a, (k0_off210 v1339) a + S4x128.size a ≤ S65536x128.size a)
theorem k0_mult169_dvd : ∀ (v1339 : BitVec 32) (k0_hw169 : k0_chk169 v1339), 4 ∣ (k0_mult169 v1339).toNat := fun v1339 k0_hw169 => k0_hw169.1
theorem k0_off210_inb : ∀ (v1339 : BitVec 32) (k0_hw169 : k0_chk169 v1339), ∀ a, (k0_off210 v1339) a + S4x128.size a ≤ S65536x128.size a := fun v1339 k0_hw169 => k0_hw169.2

def k0_off211 (k0_t1 : Fin k0_t1_loop.trips) : Fin 3 → Nat :=
  let c0_922 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1346 : Index := Scalar.indexCast v1017
  let c41_923 : Index := 41#32
  ![0, v1346.toNat, 41]
def k0_mult170 (v1347 : BitVec 32) : BitVec 32 :=
  v1347

def k0_off212 (v1347 : BitVec 32) : Fin 2 → Nat :=
  let v1348 : BitVec 32 := v1347
  let v1349 : Index := Scalar.indexCast v1348
  let c0_924 : Index := 0#32
  ![v1349.toNat, 0]

def k0_chk170 (v1347 : BitVec 32) : Prop :=
  (4 ∣ (k0_mult170 v1347).toNat) ∧
  (∀ a, (k0_off212 v1347) a + S4x128.size a ≤ S65536x128.size a)
theorem k0_mult170_dvd : ∀ (v1347 : BitVec 32) (k0_hw170 : k0_chk170 v1347), 4 ∣ (k0_mult170 v1347).toNat := fun v1347 k0_hw170 => k0_hw170.1
theorem k0_off212_inb : ∀ (v1347 : BitVec 32) (k0_hw170 : k0_chk170 v1347), ∀ a, (k0_off212 v1347) a + S4x128.size a ≤ S65536x128.size a := fun v1347 k0_hw170 => k0_hw170.2

def k0_off213 (k0_t1 : Fin k0_t1_loop.trips) : Fin 3 → Nat :=
  let c0_927 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1354 : Index := Scalar.indexCast v1017
  let c42_928 : Index := 42#32
  ![0, v1354.toNat, 42]
def k0_mult171 (v1355 : BitVec 32) : BitVec 32 :=
  v1355

def k0_off214 (v1355 : BitVec 32) : Fin 2 → Nat :=
  let v1356 : BitVec 32 := v1355
  let v1357 : Index := Scalar.indexCast v1356
  let c0_929 : Index := 0#32
  ![v1357.toNat, 0]

def k0_chk171 (v1355 : BitVec 32) : Prop :=
  (4 ∣ (k0_mult171 v1355).toNat) ∧
  (∀ a, (k0_off214 v1355) a + S4x128.size a ≤ S65536x128.size a)
theorem k0_mult171_dvd : ∀ (v1355 : BitVec 32) (k0_hw171 : k0_chk171 v1355), 4 ∣ (k0_mult171 v1355).toNat := fun v1355 k0_hw171 => k0_hw171.1
theorem k0_off214_inb : ∀ (v1355 : BitVec 32) (k0_hw171 : k0_chk171 v1355), ∀ a, (k0_off214 v1355) a + S4x128.size a ≤ S65536x128.size a := fun v1355 k0_hw171 => k0_hw171.2

def k0_off215 (k0_t1 : Fin k0_t1_loop.trips) : Fin 3 → Nat :=
  let c0_932 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1362 : Index := Scalar.indexCast v1017
  let c43_933 : Index := 43#32
  ![0, v1362.toNat, 43]
def k0_mult172 (v1363 : BitVec 32) : BitVec 32 :=
  v1363

def k0_off216 (v1363 : BitVec 32) : Fin 2 → Nat :=
  let v1364 : BitVec 32 := v1363
  let v1365 : Index := Scalar.indexCast v1364
  let c0_934 : Index := 0#32
  ![v1365.toNat, 0]

def k0_chk172 (v1363 : BitVec 32) : Prop :=
  (4 ∣ (k0_mult172 v1363).toNat) ∧
  (∀ a, (k0_off216 v1363) a + S4x128.size a ≤ S65536x128.size a)
theorem k0_mult172_dvd : ∀ (v1363 : BitVec 32) (k0_hw172 : k0_chk172 v1363), 4 ∣ (k0_mult172 v1363).toNat := fun v1363 k0_hw172 => k0_hw172.1
theorem k0_off216_inb : ∀ (v1363 : BitVec 32) (k0_hw172 : k0_chk172 v1363), ∀ a, (k0_off216 v1363) a + S4x128.size a ≤ S65536x128.size a := fun v1363 k0_hw172 => k0_hw172.2

def k0_off217 (k0_t1 : Fin k0_t1_loop.trips) : Fin 3 → Nat :=
  let c0_937 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1370 : Index := Scalar.indexCast v1017
  let c44_938 : Index := 44#32
  ![0, v1370.toNat, 44]
def k0_mult173 (v1371 : BitVec 32) : BitVec 32 :=
  v1371

def k0_off218 (v1371 : BitVec 32) : Fin 2 → Nat :=
  let v1372 : BitVec 32 := v1371
  let v1373 : Index := Scalar.indexCast v1372
  let c0_939 : Index := 0#32
  ![v1373.toNat, 0]

def k0_chk173 (v1371 : BitVec 32) : Prop :=
  (4 ∣ (k0_mult173 v1371).toNat) ∧
  (∀ a, (k0_off218 v1371) a + S4x128.size a ≤ S65536x128.size a)
theorem k0_mult173_dvd : ∀ (v1371 : BitVec 32) (k0_hw173 : k0_chk173 v1371), 4 ∣ (k0_mult173 v1371).toNat := fun v1371 k0_hw173 => k0_hw173.1
theorem k0_off218_inb : ∀ (v1371 : BitVec 32) (k0_hw173 : k0_chk173 v1371), ∀ a, (k0_off218 v1371) a + S4x128.size a ≤ S65536x128.size a := fun v1371 k0_hw173 => k0_hw173.2

def k0_off219 (k0_t1 : Fin k0_t1_loop.trips) : Fin 3 → Nat :=
  let c0_942 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1378 : Index := Scalar.indexCast v1017
  let c45_943 : Index := 45#32
  ![0, v1378.toNat, 45]
def k0_mult174 (v1379 : BitVec 32) : BitVec 32 :=
  v1379

def k0_off220 (v1379 : BitVec 32) : Fin 2 → Nat :=
  let v1380 : BitVec 32 := v1379
  let v1381 : Index := Scalar.indexCast v1380
  let c0_944 : Index := 0#32
  ![v1381.toNat, 0]

def k0_chk174 (v1379 : BitVec 32) : Prop :=
  (4 ∣ (k0_mult174 v1379).toNat) ∧
  (∀ a, (k0_off220 v1379) a + S4x128.size a ≤ S65536x128.size a)
theorem k0_mult174_dvd : ∀ (v1379 : BitVec 32) (k0_hw174 : k0_chk174 v1379), 4 ∣ (k0_mult174 v1379).toNat := fun v1379 k0_hw174 => k0_hw174.1
theorem k0_off220_inb : ∀ (v1379 : BitVec 32) (k0_hw174 : k0_chk174 v1379), ∀ a, (k0_off220 v1379) a + S4x128.size a ≤ S65536x128.size a := fun v1379 k0_hw174 => k0_hw174.2

def k0_off221 (k0_t1 : Fin k0_t1_loop.trips) : Fin 3 → Nat :=
  let c0_947 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1386 : Index := Scalar.indexCast v1017
  let c46_948 : Index := 46#32
  ![0, v1386.toNat, 46]
def k0_mult175 (v1387 : BitVec 32) : BitVec 32 :=
  v1387

def k0_off222 (v1387 : BitVec 32) : Fin 2 → Nat :=
  let v1388 : BitVec 32 := v1387
  let v1389 : Index := Scalar.indexCast v1388
  let c0_949 : Index := 0#32
  ![v1389.toNat, 0]

def k0_chk175 (v1387 : BitVec 32) : Prop :=
  (4 ∣ (k0_mult175 v1387).toNat) ∧
  (∀ a, (k0_off222 v1387) a + S4x128.size a ≤ S65536x128.size a)
theorem k0_mult175_dvd : ∀ (v1387 : BitVec 32) (k0_hw175 : k0_chk175 v1387), 4 ∣ (k0_mult175 v1387).toNat := fun v1387 k0_hw175 => k0_hw175.1
theorem k0_off222_inb : ∀ (v1387 : BitVec 32) (k0_hw175 : k0_chk175 v1387), ∀ a, (k0_off222 v1387) a + S4x128.size a ≤ S65536x128.size a := fun v1387 k0_hw175 => k0_hw175.2

def k0_off223 (k0_t1 : Fin k0_t1_loop.trips) : Fin 3 → Nat :=
  let c0_952 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1394 : Index := Scalar.indexCast v1017
  let c47_953 : Index := 47#32
  ![0, v1394.toNat, 47]
def k0_mult176 (v1395 : BitVec 32) : BitVec 32 :=
  v1395

def k0_off224 (v1395 : BitVec 32) : Fin 2 → Nat :=
  let v1396 : BitVec 32 := v1395
  let v1397 : Index := Scalar.indexCast v1396
  let c0_954 : Index := 0#32
  ![v1397.toNat, 0]

def k0_chk176 (v1395 : BitVec 32) : Prop :=
  (4 ∣ (k0_mult176 v1395).toNat) ∧
  (∀ a, (k0_off224 v1395) a + S4x128.size a ≤ S65536x128.size a)
theorem k0_mult176_dvd : ∀ (v1395 : BitVec 32) (k0_hw176 : k0_chk176 v1395), 4 ∣ (k0_mult176 v1395).toNat := fun v1395 k0_hw176 => k0_hw176.1
theorem k0_off224_inb : ∀ (v1395 : BitVec 32) (k0_hw176 : k0_chk176 v1395), ∀ a, (k0_off224 v1395) a + S4x128.size a ≤ S65536x128.size a := fun v1395 k0_hw176 => k0_hw176.2

def k0_off225 (k0_t1 : Fin k0_t1_loop.trips) : Fin 3 → Nat :=
  let c0_957 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1402 : Index := Scalar.indexCast v1017
  let c48_958 : Index := 48#32
  ![0, v1402.toNat, 48]
def k0_mult177 (v1403 : BitVec 32) : BitVec 32 :=
  v1403

def k0_off226 (v1403 : BitVec 32) : Fin 2 → Nat :=
  let v1404 : BitVec 32 := v1403
  let v1405 : Index := Scalar.indexCast v1404
  let c0_959 : Index := 0#32
  ![v1405.toNat, 0]

def k0_chk177 (v1403 : BitVec 32) : Prop :=
  (4 ∣ (k0_mult177 v1403).toNat) ∧
  (∀ a, (k0_off226 v1403) a + S4x128.size a ≤ S65536x128.size a)
theorem k0_mult177_dvd : ∀ (v1403 : BitVec 32) (k0_hw177 : k0_chk177 v1403), 4 ∣ (k0_mult177 v1403).toNat := fun v1403 k0_hw177 => k0_hw177.1
theorem k0_off226_inb : ∀ (v1403 : BitVec 32) (k0_hw177 : k0_chk177 v1403), ∀ a, (k0_off226 v1403) a + S4x128.size a ≤ S65536x128.size a := fun v1403 k0_hw177 => k0_hw177.2

def k0_off227 (k0_t1 : Fin k0_t1_loop.trips) : Fin 3 → Nat :=
  let c0_962 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1410 : Index := Scalar.indexCast v1017
  let c49_963 : Index := 49#32
  ![0, v1410.toNat, 49]
def k0_mult178 (v1411 : BitVec 32) : BitVec 32 :=
  v1411

def k0_off228 (v1411 : BitVec 32) : Fin 2 → Nat :=
  let v1412 : BitVec 32 := v1411
  let v1413 : Index := Scalar.indexCast v1412
  let c0_964 : Index := 0#32
  ![v1413.toNat, 0]

def k0_chk178 (v1411 : BitVec 32) : Prop :=
  (4 ∣ (k0_mult178 v1411).toNat) ∧
  (∀ a, (k0_off228 v1411) a + S4x128.size a ≤ S65536x128.size a)
theorem k0_mult178_dvd : ∀ (v1411 : BitVec 32) (k0_hw178 : k0_chk178 v1411), 4 ∣ (k0_mult178 v1411).toNat := fun v1411 k0_hw178 => k0_hw178.1
theorem k0_off228_inb : ∀ (v1411 : BitVec 32) (k0_hw178 : k0_chk178 v1411), ∀ a, (k0_off228 v1411) a + S4x128.size a ≤ S65536x128.size a := fun v1411 k0_hw178 => k0_hw178.2

def k0_off229 (k0_t1 : Fin k0_t1_loop.trips) : Fin 3 → Nat :=
  let c0_967 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1418 : Index := Scalar.indexCast v1017
  let c50_968 : Index := 50#32
  ![0, v1418.toNat, 50]
def k0_mult179 (v1419 : BitVec 32) : BitVec 32 :=
  v1419

def k0_off230 (v1419 : BitVec 32) : Fin 2 → Nat :=
  let v1420 : BitVec 32 := v1419
  let v1421 : Index := Scalar.indexCast v1420
  let c0_969 : Index := 0#32
  ![v1421.toNat, 0]

def k0_chk179 (v1419 : BitVec 32) : Prop :=
  (4 ∣ (k0_mult179 v1419).toNat) ∧
  (∀ a, (k0_off230 v1419) a + S4x128.size a ≤ S65536x128.size a)
theorem k0_mult179_dvd : ∀ (v1419 : BitVec 32) (k0_hw179 : k0_chk179 v1419), 4 ∣ (k0_mult179 v1419).toNat := fun v1419 k0_hw179 => k0_hw179.1
theorem k0_off230_inb : ∀ (v1419 : BitVec 32) (k0_hw179 : k0_chk179 v1419), ∀ a, (k0_off230 v1419) a + S4x128.size a ≤ S65536x128.size a := fun v1419 k0_hw179 => k0_hw179.2

def k0_off231 (k0_t1 : Fin k0_t1_loop.trips) : Fin 3 → Nat :=
  let c0_972 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1426 : Index := Scalar.indexCast v1017
  let c51_973 : Index := 51#32
  ![0, v1426.toNat, 51]
def k0_mult180 (v1427 : BitVec 32) : BitVec 32 :=
  v1427

def k0_off232 (v1427 : BitVec 32) : Fin 2 → Nat :=
  let v1428 : BitVec 32 := v1427
  let v1429 : Index := Scalar.indexCast v1428
  let c0_974 : Index := 0#32
  ![v1429.toNat, 0]

def k0_chk180 (v1427 : BitVec 32) : Prop :=
  (4 ∣ (k0_mult180 v1427).toNat) ∧
  (∀ a, (k0_off232 v1427) a + S4x128.size a ≤ S65536x128.size a)
theorem k0_mult180_dvd : ∀ (v1427 : BitVec 32) (k0_hw180 : k0_chk180 v1427), 4 ∣ (k0_mult180 v1427).toNat := fun v1427 k0_hw180 => k0_hw180.1
theorem k0_off232_inb : ∀ (v1427 : BitVec 32) (k0_hw180 : k0_chk180 v1427), ∀ a, (k0_off232 v1427) a + S4x128.size a ≤ S65536x128.size a := fun v1427 k0_hw180 => k0_hw180.2

def k0_off233 (k0_t1 : Fin k0_t1_loop.trips) : Fin 3 → Nat :=
  let c0_977 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1434 : Index := Scalar.indexCast v1017
  let c52_978 : Index := 52#32
  ![0, v1434.toNat, 52]
def k0_mult181 (v1435 : BitVec 32) : BitVec 32 :=
  v1435

def k0_off234 (v1435 : BitVec 32) : Fin 2 → Nat :=
  let v1436 : BitVec 32 := v1435
  let v1437 : Index := Scalar.indexCast v1436
  let c0_979 : Index := 0#32
  ![v1437.toNat, 0]

def k0_chk181 (v1435 : BitVec 32) : Prop :=
  (4 ∣ (k0_mult181 v1435).toNat) ∧
  (∀ a, (k0_off234 v1435) a + S4x128.size a ≤ S65536x128.size a)
theorem k0_mult181_dvd : ∀ (v1435 : BitVec 32) (k0_hw181 : k0_chk181 v1435), 4 ∣ (k0_mult181 v1435).toNat := fun v1435 k0_hw181 => k0_hw181.1
theorem k0_off234_inb : ∀ (v1435 : BitVec 32) (k0_hw181 : k0_chk181 v1435), ∀ a, (k0_off234 v1435) a + S4x128.size a ≤ S65536x128.size a := fun v1435 k0_hw181 => k0_hw181.2

def k0_off235 (k0_t1 : Fin k0_t1_loop.trips) : Fin 3 → Nat :=
  let c0_982 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1442 : Index := Scalar.indexCast v1017
  let c53_983 : Index := 53#32
  ![0, v1442.toNat, 53]
def k0_mult182 (v1443 : BitVec 32) : BitVec 32 :=
  v1443

def k0_off236 (v1443 : BitVec 32) : Fin 2 → Nat :=
  let v1444 : BitVec 32 := v1443
  let v1445 : Index := Scalar.indexCast v1444
  let c0_984 : Index := 0#32
  ![v1445.toNat, 0]

def k0_chk182 (v1443 : BitVec 32) : Prop :=
  (4 ∣ (k0_mult182 v1443).toNat) ∧
  (∀ a, (k0_off236 v1443) a + S4x128.size a ≤ S65536x128.size a)
theorem k0_mult182_dvd : ∀ (v1443 : BitVec 32) (k0_hw182 : k0_chk182 v1443), 4 ∣ (k0_mult182 v1443).toNat := fun v1443 k0_hw182 => k0_hw182.1
theorem k0_off236_inb : ∀ (v1443 : BitVec 32) (k0_hw182 : k0_chk182 v1443), ∀ a, (k0_off236 v1443) a + S4x128.size a ≤ S65536x128.size a := fun v1443 k0_hw182 => k0_hw182.2

def k0_off237 (k0_t1 : Fin k0_t1_loop.trips) : Fin 3 → Nat :=
  let c0_987 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1450 : Index := Scalar.indexCast v1017
  let c54_988 : Index := 54#32
  ![0, v1450.toNat, 54]
def k0_mult183 (v1451 : BitVec 32) : BitVec 32 :=
  v1451

def k0_off238 (v1451 : BitVec 32) : Fin 2 → Nat :=
  let v1452 : BitVec 32 := v1451
  let v1453 : Index := Scalar.indexCast v1452
  let c0_989 : Index := 0#32
  ![v1453.toNat, 0]

def k0_chk183 (v1451 : BitVec 32) : Prop :=
  (4 ∣ (k0_mult183 v1451).toNat) ∧
  (∀ a, (k0_off238 v1451) a + S4x128.size a ≤ S65536x128.size a)
theorem k0_mult183_dvd : ∀ (v1451 : BitVec 32) (k0_hw183 : k0_chk183 v1451), 4 ∣ (k0_mult183 v1451).toNat := fun v1451 k0_hw183 => k0_hw183.1
theorem k0_off238_inb : ∀ (v1451 : BitVec 32) (k0_hw183 : k0_chk183 v1451), ∀ a, (k0_off238 v1451) a + S4x128.size a ≤ S65536x128.size a := fun v1451 k0_hw183 => k0_hw183.2

def k0_off239 (k0_t1 : Fin k0_t1_loop.trips) : Fin 3 → Nat :=
  let c0_992 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1458 : Index := Scalar.indexCast v1017
  let c55_993 : Index := 55#32
  ![0, v1458.toNat, 55]
def k0_mult184 (v1459 : BitVec 32) : BitVec 32 :=
  v1459

def k0_off240 (v1459 : BitVec 32) : Fin 2 → Nat :=
  let v1460 : BitVec 32 := v1459
  let v1461 : Index := Scalar.indexCast v1460
  let c0_994 : Index := 0#32
  ![v1461.toNat, 0]

def k0_chk184 (v1459 : BitVec 32) : Prop :=
  (4 ∣ (k0_mult184 v1459).toNat) ∧
  (∀ a, (k0_off240 v1459) a + S4x128.size a ≤ S65536x128.size a)
theorem k0_mult184_dvd : ∀ (v1459 : BitVec 32) (k0_hw184 : k0_chk184 v1459), 4 ∣ (k0_mult184 v1459).toNat := fun v1459 k0_hw184 => k0_hw184.1
theorem k0_off240_inb : ∀ (v1459 : BitVec 32) (k0_hw184 : k0_chk184 v1459), ∀ a, (k0_off240 v1459) a + S4x128.size a ≤ S65536x128.size a := fun v1459 k0_hw184 => k0_hw184.2

def k0_off241 (k0_t1 : Fin k0_t1_loop.trips) : Fin 3 → Nat :=
  let c0_997 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1466 : Index := Scalar.indexCast v1017
  let c56_998 : Index := 56#32
  ![0, v1466.toNat, 56]
def k0_mult185 (v1467 : BitVec 32) : BitVec 32 :=
  v1467

def k0_off242 (v1467 : BitVec 32) : Fin 2 → Nat :=
  let v1468 : BitVec 32 := v1467
  let v1469 : Index := Scalar.indexCast v1468
  let c0_999 : Index := 0#32
  ![v1469.toNat, 0]

def k0_chk185 (v1467 : BitVec 32) : Prop :=
  (4 ∣ (k0_mult185 v1467).toNat) ∧
  (∀ a, (k0_off242 v1467) a + S4x128.size a ≤ S65536x128.size a)
theorem k0_mult185_dvd : ∀ (v1467 : BitVec 32) (k0_hw185 : k0_chk185 v1467), 4 ∣ (k0_mult185 v1467).toNat := fun v1467 k0_hw185 => k0_hw185.1
theorem k0_off242_inb : ∀ (v1467 : BitVec 32) (k0_hw185 : k0_chk185 v1467), ∀ a, (k0_off242 v1467) a + S4x128.size a ≤ S65536x128.size a := fun v1467 k0_hw185 => k0_hw185.2

def k0_off243 (k0_t1 : Fin k0_t1_loop.trips) : Fin 3 → Nat :=
  let c0_1002 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1474 : Index := Scalar.indexCast v1017
  let c57_1003 : Index := 57#32
  ![0, v1474.toNat, 57]
def k0_mult186 (v1475 : BitVec 32) : BitVec 32 :=
  v1475

def k0_off244 (v1475 : BitVec 32) : Fin 2 → Nat :=
  let v1476 : BitVec 32 := v1475
  let v1477 : Index := Scalar.indexCast v1476
  let c0_1004 : Index := 0#32
  ![v1477.toNat, 0]

def k0_chk186 (v1475 : BitVec 32) : Prop :=
  (4 ∣ (k0_mult186 v1475).toNat) ∧
  (∀ a, (k0_off244 v1475) a + S4x128.size a ≤ S65536x128.size a)
theorem k0_mult186_dvd : ∀ (v1475 : BitVec 32) (k0_hw186 : k0_chk186 v1475), 4 ∣ (k0_mult186 v1475).toNat := fun v1475 k0_hw186 => k0_hw186.1
theorem k0_off244_inb : ∀ (v1475 : BitVec 32) (k0_hw186 : k0_chk186 v1475), ∀ a, (k0_off244 v1475) a + S4x128.size a ≤ S65536x128.size a := fun v1475 k0_hw186 => k0_hw186.2

def k0_off245 (k0_t1 : Fin k0_t1_loop.trips) : Fin 3 → Nat :=
  let c0_1007 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1482 : Index := Scalar.indexCast v1017
  let c58_1008 : Index := 58#32
  ![0, v1482.toNat, 58]
def k0_mult187 (v1483 : BitVec 32) : BitVec 32 :=
  v1483

def k0_off246 (v1483 : BitVec 32) : Fin 2 → Nat :=
  let v1484 : BitVec 32 := v1483
  let v1485 : Index := Scalar.indexCast v1484
  let c0_1009 : Index := 0#32
  ![v1485.toNat, 0]

def k0_chk187 (v1483 : BitVec 32) : Prop :=
  (4 ∣ (k0_mult187 v1483).toNat) ∧
  (∀ a, (k0_off246 v1483) a + S4x128.size a ≤ S65536x128.size a)
theorem k0_mult187_dvd : ∀ (v1483 : BitVec 32) (k0_hw187 : k0_chk187 v1483), 4 ∣ (k0_mult187 v1483).toNat := fun v1483 k0_hw187 => k0_hw187.1
theorem k0_off246_inb : ∀ (v1483 : BitVec 32) (k0_hw187 : k0_chk187 v1483), ∀ a, (k0_off246 v1483) a + S4x128.size a ≤ S65536x128.size a := fun v1483 k0_hw187 => k0_hw187.2

def k0_off247 (k0_t1 : Fin k0_t1_loop.trips) : Fin 3 → Nat :=
  let c0_1012 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1490 : Index := Scalar.indexCast v1017
  let c59_1013 : Index := 59#32
  ![0, v1490.toNat, 59]
def k0_mult188 (v1491 : BitVec 32) : BitVec 32 :=
  v1491

def k0_off248 (v1491 : BitVec 32) : Fin 2 → Nat :=
  let v1492 : BitVec 32 := v1491
  let v1493 : Index := Scalar.indexCast v1492
  let c0_1014 : Index := 0#32
  ![v1493.toNat, 0]

def k0_chk188 (v1491 : BitVec 32) : Prop :=
  (4 ∣ (k0_mult188 v1491).toNat) ∧
  (∀ a, (k0_off248 v1491) a + S4x128.size a ≤ S65536x128.size a)
theorem k0_mult188_dvd : ∀ (v1491 : BitVec 32) (k0_hw188 : k0_chk188 v1491), 4 ∣ (k0_mult188 v1491).toNat := fun v1491 k0_hw188 => k0_hw188.1
theorem k0_off248_inb : ∀ (v1491 : BitVec 32) (k0_hw188 : k0_chk188 v1491), ∀ a, (k0_off248 v1491) a + S4x128.size a ≤ S65536x128.size a := fun v1491 k0_hw188 => k0_hw188.2

def k0_off249 (k0_t1 : Fin k0_t1_loop.trips) : Fin 3 → Nat :=
  let c0_1017 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1498 : Index := Scalar.indexCast v1017
  let c60_1018 : Index := 60#32
  ![0, v1498.toNat, 60]
def k0_mult189 (v1499 : BitVec 32) : BitVec 32 :=
  v1499

def k0_off250 (v1499 : BitVec 32) : Fin 2 → Nat :=
  let v1500 : BitVec 32 := v1499
  let v1501 : Index := Scalar.indexCast v1500
  let c0_1019 : Index := 0#32
  ![v1501.toNat, 0]

def k0_chk189 (v1499 : BitVec 32) : Prop :=
  (4 ∣ (k0_mult189 v1499).toNat) ∧
  (∀ a, (k0_off250 v1499) a + S4x128.size a ≤ S65536x128.size a)
theorem k0_mult189_dvd : ∀ (v1499 : BitVec 32) (k0_hw189 : k0_chk189 v1499), 4 ∣ (k0_mult189 v1499).toNat := fun v1499 k0_hw189 => k0_hw189.1
theorem k0_off250_inb : ∀ (v1499 : BitVec 32) (k0_hw189 : k0_chk189 v1499), ∀ a, (k0_off250 v1499) a + S4x128.size a ≤ S65536x128.size a := fun v1499 k0_hw189 => k0_hw189.2

def k0_off251 (k0_t1 : Fin k0_t1_loop.trips) : Fin 3 → Nat :=
  let c0_1022 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1506 : Index := Scalar.indexCast v1017
  let c61_1023 : Index := 61#32
  ![0, v1506.toNat, 61]
def k0_mult190 (v1507 : BitVec 32) : BitVec 32 :=
  v1507

def k0_off252 (v1507 : BitVec 32) : Fin 2 → Nat :=
  let v1508 : BitVec 32 := v1507
  let v1509 : Index := Scalar.indexCast v1508
  let c0_1024 : Index := 0#32
  ![v1509.toNat, 0]

def k0_chk190 (v1507 : BitVec 32) : Prop :=
  (4 ∣ (k0_mult190 v1507).toNat) ∧
  (∀ a, (k0_off252 v1507) a + S4x128.size a ≤ S65536x128.size a)
theorem k0_mult190_dvd : ∀ (v1507 : BitVec 32) (k0_hw190 : k0_chk190 v1507), 4 ∣ (k0_mult190 v1507).toNat := fun v1507 k0_hw190 => k0_hw190.1
theorem k0_off252_inb : ∀ (v1507 : BitVec 32) (k0_hw190 : k0_chk190 v1507), ∀ a, (k0_off252 v1507) a + S4x128.size a ≤ S65536x128.size a := fun v1507 k0_hw190 => k0_hw190.2

def k0_off253 (k0_t1 : Fin k0_t1_loop.trips) : Fin 3 → Nat :=
  let c0_1027 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1514 : Index := Scalar.indexCast v1017
  let c62_1028 : Index := 62#32
  ![0, v1514.toNat, 62]
def k0_mult191 (v1515 : BitVec 32) : BitVec 32 :=
  v1515

def k0_off254 (v1515 : BitVec 32) : Fin 2 → Nat :=
  let v1516 : BitVec 32 := v1515
  let v1517 : Index := Scalar.indexCast v1516
  let c0_1029 : Index := 0#32
  ![v1517.toNat, 0]

def k0_chk191 (v1515 : BitVec 32) : Prop :=
  (4 ∣ (k0_mult191 v1515).toNat) ∧
  (∀ a, (k0_off254 v1515) a + S4x128.size a ≤ S65536x128.size a)
theorem k0_mult191_dvd : ∀ (v1515 : BitVec 32) (k0_hw191 : k0_chk191 v1515), 4 ∣ (k0_mult191 v1515).toNat := fun v1515 k0_hw191 => k0_hw191.1
theorem k0_off254_inb : ∀ (v1515 : BitVec 32) (k0_hw191 : k0_chk191 v1515), ∀ a, (k0_off254 v1515) a + S4x128.size a ≤ S65536x128.size a := fun v1515 k0_hw191 => k0_hw191.2

def k0_off255 (k0_t1 : Fin k0_t1_loop.trips) : Fin 3 → Nat :=
  let c0_1032 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1522 : Index := Scalar.indexCast v1017
  let c63_1033 : Index := 63#32
  ![0, v1522.toNat, 63]
def k0_mult192 (v1523 : BitVec 32) : BitVec 32 :=
  v1523

def k0_off256 (v1523 : BitVec 32) : Fin 2 → Nat :=
  let v1524 : BitVec 32 := v1523
  let v1525 : Index := Scalar.indexCast v1524
  let c0_1034 : Index := 0#32
  ![v1525.toNat, 0]

def k0_chk192 (v1523 : BitVec 32) : Prop :=
  (4 ∣ (k0_mult192 v1523).toNat) ∧
  (∀ a, (k0_off256 v1523) a + S4x128.size a ≤ S65536x128.size a)
theorem k0_mult192_dvd : ∀ (v1523 : BitVec 32) (k0_hw192 : k0_chk192 v1523), 4 ∣ (k0_mult192 v1523).toNat := fun v1523 k0_hw192 => k0_hw192.1
theorem k0_off256_inb : ∀ (v1523 : BitVec 32) (k0_hw192 : k0_chk192 v1523), ∀ a, (k0_off256 v1523) a + S4x128.size a ≤ S65536x128.size a := fun v1523 k0_hw192 => k0_hw192.2

def k0_off257 (k0_t1 : Fin k0_t1_loop.trips) : Fin 3 → Nat :=
  let c0_1037 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1530 : Index := Scalar.indexCast v1017
  let c64_1038 : Index := 64#32
  ![0, v1530.toNat, 64]
def k0_mult193 (v1531 : BitVec 32) : BitVec 32 :=
  v1531

def k0_off258 (v1531 : BitVec 32) : Fin 2 → Nat :=
  let v1532 : BitVec 32 := v1531
  let v1533 : Index := Scalar.indexCast v1532
  let c0_1039 : Index := 0#32
  ![v1533.toNat, 0]

def k0_chk193 (v1531 : BitVec 32) : Prop :=
  (4 ∣ (k0_mult193 v1531).toNat) ∧
  (∀ a, (k0_off258 v1531) a + S4x128.size a ≤ S65536x128.size a)
theorem k0_mult193_dvd : ∀ (v1531 : BitVec 32) (k0_hw193 : k0_chk193 v1531), 4 ∣ (k0_mult193 v1531).toNat := fun v1531 k0_hw193 => k0_hw193.1
theorem k0_off258_inb : ∀ (v1531 : BitVec 32) (k0_hw193 : k0_chk193 v1531), ∀ a, (k0_off258 v1531) a + S4x128.size a ≤ S65536x128.size a := fun v1531 k0_hw193 => k0_hw193.2

def k0_off259 (k0_t1 : Fin k0_t1_loop.trips) : Fin 3 → Nat :=
  let c0_1042 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1538 : Index := Scalar.indexCast v1017
  let c65_1043 : Index := 65#32
  ![0, v1538.toNat, 65]
def k0_mult194 (v1539 : BitVec 32) : BitVec 32 :=
  v1539

def k0_off260 (v1539 : BitVec 32) : Fin 2 → Nat :=
  let v1540 : BitVec 32 := v1539
  let v1541 : Index := Scalar.indexCast v1540
  let c0_1044 : Index := 0#32
  ![v1541.toNat, 0]

def k0_chk194 (v1539 : BitVec 32) : Prop :=
  (4 ∣ (k0_mult194 v1539).toNat) ∧
  (∀ a, (k0_off260 v1539) a + S4x128.size a ≤ S65536x128.size a)
theorem k0_mult194_dvd : ∀ (v1539 : BitVec 32) (k0_hw194 : k0_chk194 v1539), 4 ∣ (k0_mult194 v1539).toNat := fun v1539 k0_hw194 => k0_hw194.1
theorem k0_off260_inb : ∀ (v1539 : BitVec 32) (k0_hw194 : k0_chk194 v1539), ∀ a, (k0_off260 v1539) a + S4x128.size a ≤ S65536x128.size a := fun v1539 k0_hw194 => k0_hw194.2

def k0_off261 (k0_t1 : Fin k0_t1_loop.trips) : Fin 3 → Nat :=
  let c0_1047 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1546 : Index := Scalar.indexCast v1017
  let c66_1048 : Index := 66#32
  ![0, v1546.toNat, 66]
def k0_mult195 (v1547 : BitVec 32) : BitVec 32 :=
  v1547

def k0_off262 (v1547 : BitVec 32) : Fin 2 → Nat :=
  let v1548 : BitVec 32 := v1547
  let v1549 : Index := Scalar.indexCast v1548
  let c0_1049 : Index := 0#32
  ![v1549.toNat, 0]

def k0_chk195 (v1547 : BitVec 32) : Prop :=
  (4 ∣ (k0_mult195 v1547).toNat) ∧
  (∀ a, (k0_off262 v1547) a + S4x128.size a ≤ S65536x128.size a)
theorem k0_mult195_dvd : ∀ (v1547 : BitVec 32) (k0_hw195 : k0_chk195 v1547), 4 ∣ (k0_mult195 v1547).toNat := fun v1547 k0_hw195 => k0_hw195.1
theorem k0_off262_inb : ∀ (v1547 : BitVec 32) (k0_hw195 : k0_chk195 v1547), ∀ a, (k0_off262 v1547) a + S4x128.size a ≤ S65536x128.size a := fun v1547 k0_hw195 => k0_hw195.2

def k0_off263 (k0_t1 : Fin k0_t1_loop.trips) : Fin 3 → Nat :=
  let c0_1052 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1554 : Index := Scalar.indexCast v1017
  let c67_1053 : Index := 67#32
  ![0, v1554.toNat, 67]
def k0_mult196 (v1555 : BitVec 32) : BitVec 32 :=
  v1555

def k0_off264 (v1555 : BitVec 32) : Fin 2 → Nat :=
  let v1556 : BitVec 32 := v1555
  let v1557 : Index := Scalar.indexCast v1556
  let c0_1054 : Index := 0#32
  ![v1557.toNat, 0]

def k0_chk196 (v1555 : BitVec 32) : Prop :=
  (4 ∣ (k0_mult196 v1555).toNat) ∧
  (∀ a, (k0_off264 v1555) a + S4x128.size a ≤ S65536x128.size a)
theorem k0_mult196_dvd : ∀ (v1555 : BitVec 32) (k0_hw196 : k0_chk196 v1555), 4 ∣ (k0_mult196 v1555).toNat := fun v1555 k0_hw196 => k0_hw196.1
theorem k0_off264_inb : ∀ (v1555 : BitVec 32) (k0_hw196 : k0_chk196 v1555), ∀ a, (k0_off264 v1555) a + S4x128.size a ≤ S65536x128.size a := fun v1555 k0_hw196 => k0_hw196.2

def k0_off265 (k0_t1 : Fin k0_t1_loop.trips) : Fin 3 → Nat :=
  let c0_1057 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1562 : Index := Scalar.indexCast v1017
  let c68_1058 : Index := 68#32
  ![0, v1562.toNat, 68]
def k0_mult197 (v1563 : BitVec 32) : BitVec 32 :=
  v1563

def k0_off266 (v1563 : BitVec 32) : Fin 2 → Nat :=
  let v1564 : BitVec 32 := v1563
  let v1565 : Index := Scalar.indexCast v1564
  let c0_1059 : Index := 0#32
  ![v1565.toNat, 0]

def k0_chk197 (v1563 : BitVec 32) : Prop :=
  (4 ∣ (k0_mult197 v1563).toNat) ∧
  (∀ a, (k0_off266 v1563) a + S4x128.size a ≤ S65536x128.size a)
theorem k0_mult197_dvd : ∀ (v1563 : BitVec 32) (k0_hw197 : k0_chk197 v1563), 4 ∣ (k0_mult197 v1563).toNat := fun v1563 k0_hw197 => k0_hw197.1
theorem k0_off266_inb : ∀ (v1563 : BitVec 32) (k0_hw197 : k0_chk197 v1563), ∀ a, (k0_off266 v1563) a + S4x128.size a ≤ S65536x128.size a := fun v1563 k0_hw197 => k0_hw197.2

def k0_off267 (k0_t1 : Fin k0_t1_loop.trips) : Fin 3 → Nat :=
  let c0_1062 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1570 : Index := Scalar.indexCast v1017
  let c69_1063 : Index := 69#32
  ![0, v1570.toNat, 69]
def k0_mult198 (v1571 : BitVec 32) : BitVec 32 :=
  v1571

def k0_off268 (v1571 : BitVec 32) : Fin 2 → Nat :=
  let v1572 : BitVec 32 := v1571
  let v1573 : Index := Scalar.indexCast v1572
  let c0_1064 : Index := 0#32
  ![v1573.toNat, 0]

def k0_chk198 (v1571 : BitVec 32) : Prop :=
  (4 ∣ (k0_mult198 v1571).toNat) ∧
  (∀ a, (k0_off268 v1571) a + S4x128.size a ≤ S65536x128.size a)
theorem k0_mult198_dvd : ∀ (v1571 : BitVec 32) (k0_hw198 : k0_chk198 v1571), 4 ∣ (k0_mult198 v1571).toNat := fun v1571 k0_hw198 => k0_hw198.1
theorem k0_off268_inb : ∀ (v1571 : BitVec 32) (k0_hw198 : k0_chk198 v1571), ∀ a, (k0_off268 v1571) a + S4x128.size a ≤ S65536x128.size a := fun v1571 k0_hw198 => k0_hw198.2

def k0_off269 (k0_t1 : Fin k0_t1_loop.trips) : Fin 3 → Nat :=
  let c0_1067 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1578 : Index := Scalar.indexCast v1017
  let c70_1068 : Index := 70#32
  ![0, v1578.toNat, 70]
def k0_mult199 (v1579 : BitVec 32) : BitVec 32 :=
  v1579

def k0_off270 (v1579 : BitVec 32) : Fin 2 → Nat :=
  let v1580 : BitVec 32 := v1579
  let v1581 : Index := Scalar.indexCast v1580
  let c0_1069 : Index := 0#32
  ![v1581.toNat, 0]

def k0_chk199 (v1579 : BitVec 32) : Prop :=
  (4 ∣ (k0_mult199 v1579).toNat) ∧
  (∀ a, (k0_off270 v1579) a + S4x128.size a ≤ S65536x128.size a)
theorem k0_mult199_dvd : ∀ (v1579 : BitVec 32) (k0_hw199 : k0_chk199 v1579), 4 ∣ (k0_mult199 v1579).toNat := fun v1579 k0_hw199 => k0_hw199.1
theorem k0_off270_inb : ∀ (v1579 : BitVec 32) (k0_hw199 : k0_chk199 v1579), ∀ a, (k0_off270 v1579) a + S4x128.size a ≤ S65536x128.size a := fun v1579 k0_hw199 => k0_hw199.2

def k0_off271 (k0_t1 : Fin k0_t1_loop.trips) : Fin 3 → Nat :=
  let c0_1072 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1586 : Index := Scalar.indexCast v1017
  let c71_1073 : Index := 71#32
  ![0, v1586.toNat, 71]
def k0_mult200 (v1587 : BitVec 32) : BitVec 32 :=
  v1587

def k0_off272 (v1587 : BitVec 32) : Fin 2 → Nat :=
  let v1588 : BitVec 32 := v1587
  let v1589 : Index := Scalar.indexCast v1588
  let c0_1074 : Index := 0#32
  ![v1589.toNat, 0]

def k0_chk200 (v1587 : BitVec 32) : Prop :=
  (4 ∣ (k0_mult200 v1587).toNat) ∧
  (∀ a, (k0_off272 v1587) a + S4x128.size a ≤ S65536x128.size a)
theorem k0_mult200_dvd : ∀ (v1587 : BitVec 32) (k0_hw200 : k0_chk200 v1587), 4 ∣ (k0_mult200 v1587).toNat := fun v1587 k0_hw200 => k0_hw200.1
theorem k0_off272_inb : ∀ (v1587 : BitVec 32) (k0_hw200 : k0_chk200 v1587), ∀ a, (k0_off272 v1587) a + S4x128.size a ≤ S65536x128.size a := fun v1587 k0_hw200 => k0_hw200.2

def k0_off273 (k0_t1 : Fin k0_t1_loop.trips) : Fin 3 → Nat :=
  let c0_1077 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1594 : Index := Scalar.indexCast v1017
  let c72_1078 : Index := 72#32
  ![0, v1594.toNat, 72]
def k0_mult201 (v1595 : BitVec 32) : BitVec 32 :=
  v1595

def k0_off274 (v1595 : BitVec 32) : Fin 2 → Nat :=
  let v1596 : BitVec 32 := v1595
  let v1597 : Index := Scalar.indexCast v1596
  let c0_1079 : Index := 0#32
  ![v1597.toNat, 0]

def k0_chk201 (v1595 : BitVec 32) : Prop :=
  (4 ∣ (k0_mult201 v1595).toNat) ∧
  (∀ a, (k0_off274 v1595) a + S4x128.size a ≤ S65536x128.size a)
theorem k0_mult201_dvd : ∀ (v1595 : BitVec 32) (k0_hw201 : k0_chk201 v1595), 4 ∣ (k0_mult201 v1595).toNat := fun v1595 k0_hw201 => k0_hw201.1
theorem k0_off274_inb : ∀ (v1595 : BitVec 32) (k0_hw201 : k0_chk201 v1595), ∀ a, (k0_off274 v1595) a + S4x128.size a ≤ S65536x128.size a := fun v1595 k0_hw201 => k0_hw201.2

def k0_off275 (k0_t1 : Fin k0_t1_loop.trips) : Fin 3 → Nat :=
  let c0_1082 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1602 : Index := Scalar.indexCast v1017
  let c73_1083 : Index := 73#32
  ![0, v1602.toNat, 73]
def k0_mult202 (v1603 : BitVec 32) : BitVec 32 :=
  v1603

def k0_off276 (v1603 : BitVec 32) : Fin 2 → Nat :=
  let v1604 : BitVec 32 := v1603
  let v1605 : Index := Scalar.indexCast v1604
  let c0_1084 : Index := 0#32
  ![v1605.toNat, 0]

def k0_chk202 (v1603 : BitVec 32) : Prop :=
  (4 ∣ (k0_mult202 v1603).toNat) ∧
  (∀ a, (k0_off276 v1603) a + S4x128.size a ≤ S65536x128.size a)
theorem k0_mult202_dvd : ∀ (v1603 : BitVec 32) (k0_hw202 : k0_chk202 v1603), 4 ∣ (k0_mult202 v1603).toNat := fun v1603 k0_hw202 => k0_hw202.1
theorem k0_off276_inb : ∀ (v1603 : BitVec 32) (k0_hw202 : k0_chk202 v1603), ∀ a, (k0_off276 v1603) a + S4x128.size a ≤ S65536x128.size a := fun v1603 k0_hw202 => k0_hw202.2

def k0_off277 (k0_t1 : Fin k0_t1_loop.trips) : Fin 3 → Nat :=
  let c0_1087 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1610 : Index := Scalar.indexCast v1017
  let c74_1088 : Index := 74#32
  ![0, v1610.toNat, 74]
def k0_mult203 (v1611 : BitVec 32) : BitVec 32 :=
  v1611

def k0_off278 (v1611 : BitVec 32) : Fin 2 → Nat :=
  let v1612 : BitVec 32 := v1611
  let v1613 : Index := Scalar.indexCast v1612
  let c0_1089 : Index := 0#32
  ![v1613.toNat, 0]

def k0_chk203 (v1611 : BitVec 32) : Prop :=
  (4 ∣ (k0_mult203 v1611).toNat) ∧
  (∀ a, (k0_off278 v1611) a + S4x128.size a ≤ S65536x128.size a)
theorem k0_mult203_dvd : ∀ (v1611 : BitVec 32) (k0_hw203 : k0_chk203 v1611), 4 ∣ (k0_mult203 v1611).toNat := fun v1611 k0_hw203 => k0_hw203.1
theorem k0_off278_inb : ∀ (v1611 : BitVec 32) (k0_hw203 : k0_chk203 v1611), ∀ a, (k0_off278 v1611) a + S4x128.size a ≤ S65536x128.size a := fun v1611 k0_hw203 => k0_hw203.2

def k0_off279 (k0_t1 : Fin k0_t1_loop.trips) : Fin 3 → Nat :=
  let c0_1092 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1618 : Index := Scalar.indexCast v1017
  let c75_1093 : Index := 75#32
  ![0, v1618.toNat, 75]
def k0_mult204 (v1619 : BitVec 32) : BitVec 32 :=
  v1619

def k0_off280 (v1619 : BitVec 32) : Fin 2 → Nat :=
  let v1620 : BitVec 32 := v1619
  let v1621 : Index := Scalar.indexCast v1620
  let c0_1094 : Index := 0#32
  ![v1621.toNat, 0]

def k0_chk204 (v1619 : BitVec 32) : Prop :=
  (4 ∣ (k0_mult204 v1619).toNat) ∧
  (∀ a, (k0_off280 v1619) a + S4x128.size a ≤ S65536x128.size a)
theorem k0_mult204_dvd : ∀ (v1619 : BitVec 32) (k0_hw204 : k0_chk204 v1619), 4 ∣ (k0_mult204 v1619).toNat := fun v1619 k0_hw204 => k0_hw204.1
theorem k0_off280_inb : ∀ (v1619 : BitVec 32) (k0_hw204 : k0_chk204 v1619), ∀ a, (k0_off280 v1619) a + S4x128.size a ≤ S65536x128.size a := fun v1619 k0_hw204 => k0_hw204.2

def k0_off281 (k0_t1 : Fin k0_t1_loop.trips) : Fin 3 → Nat :=
  let c0_1097 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1626 : Index := Scalar.indexCast v1017
  let c76_1098 : Index := 76#32
  ![0, v1626.toNat, 76]
def k0_mult205 (v1627 : BitVec 32) : BitVec 32 :=
  v1627

def k0_off282 (v1627 : BitVec 32) : Fin 2 → Nat :=
  let v1628 : BitVec 32 := v1627
  let v1629 : Index := Scalar.indexCast v1628
  let c0_1099 : Index := 0#32
  ![v1629.toNat, 0]

def k0_chk205 (v1627 : BitVec 32) : Prop :=
  (4 ∣ (k0_mult205 v1627).toNat) ∧
  (∀ a, (k0_off282 v1627) a + S4x128.size a ≤ S65536x128.size a)
theorem k0_mult205_dvd : ∀ (v1627 : BitVec 32) (k0_hw205 : k0_chk205 v1627), 4 ∣ (k0_mult205 v1627).toNat := fun v1627 k0_hw205 => k0_hw205.1
theorem k0_off282_inb : ∀ (v1627 : BitVec 32) (k0_hw205 : k0_chk205 v1627), ∀ a, (k0_off282 v1627) a + S4x128.size a ≤ S65536x128.size a := fun v1627 k0_hw205 => k0_hw205.2

def k0_off283 (k0_t1 : Fin k0_t1_loop.trips) : Fin 3 → Nat :=
  let c0_1102 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1634 : Index := Scalar.indexCast v1017
  let c77_1103 : Index := 77#32
  ![0, v1634.toNat, 77]
def k0_mult206 (v1635 : BitVec 32) : BitVec 32 :=
  v1635

def k0_off284 (v1635 : BitVec 32) : Fin 2 → Nat :=
  let v1636 : BitVec 32 := v1635
  let v1637 : Index := Scalar.indexCast v1636
  let c0_1104 : Index := 0#32
  ![v1637.toNat, 0]

def k0_chk206 (v1635 : BitVec 32) : Prop :=
  (4 ∣ (k0_mult206 v1635).toNat) ∧
  (∀ a, (k0_off284 v1635) a + S4x128.size a ≤ S65536x128.size a)
theorem k0_mult206_dvd : ∀ (v1635 : BitVec 32) (k0_hw206 : k0_chk206 v1635), 4 ∣ (k0_mult206 v1635).toNat := fun v1635 k0_hw206 => k0_hw206.1
theorem k0_off284_inb : ∀ (v1635 : BitVec 32) (k0_hw206 : k0_chk206 v1635), ∀ a, (k0_off284 v1635) a + S4x128.size a ≤ S65536x128.size a := fun v1635 k0_hw206 => k0_hw206.2

def k0_off285 (k0_t1 : Fin k0_t1_loop.trips) : Fin 3 → Nat :=
  let c0_1107 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1642 : Index := Scalar.indexCast v1017
  let c78_1108 : Index := 78#32
  ![0, v1642.toNat, 78]
def k0_mult207 (v1643 : BitVec 32) : BitVec 32 :=
  v1643

def k0_off286 (v1643 : BitVec 32) : Fin 2 → Nat :=
  let v1644 : BitVec 32 := v1643
  let v1645 : Index := Scalar.indexCast v1644
  let c0_1109 : Index := 0#32
  ![v1645.toNat, 0]

def k0_chk207 (v1643 : BitVec 32) : Prop :=
  (4 ∣ (k0_mult207 v1643).toNat) ∧
  (∀ a, (k0_off286 v1643) a + S4x128.size a ≤ S65536x128.size a)
theorem k0_mult207_dvd : ∀ (v1643 : BitVec 32) (k0_hw207 : k0_chk207 v1643), 4 ∣ (k0_mult207 v1643).toNat := fun v1643 k0_hw207 => k0_hw207.1
theorem k0_off286_inb : ∀ (v1643 : BitVec 32) (k0_hw207 : k0_chk207 v1643), ∀ a, (k0_off286 v1643) a + S4x128.size a ≤ S65536x128.size a := fun v1643 k0_hw207 => k0_hw207.2

def k0_off287 (k0_t1 : Fin k0_t1_loop.trips) : Fin 3 → Nat :=
  let c0_1112 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1650 : Index := Scalar.indexCast v1017
  let c79_1113 : Index := 79#32
  ![0, v1650.toNat, 79]
def k0_mult208 (v1651 : BitVec 32) : BitVec 32 :=
  v1651

def k0_off288 (v1651 : BitVec 32) : Fin 2 → Nat :=
  let v1652 : BitVec 32 := v1651
  let v1653 : Index := Scalar.indexCast v1652
  let c0_1114 : Index := 0#32
  ![v1653.toNat, 0]

def k0_chk208 (v1651 : BitVec 32) : Prop :=
  (4 ∣ (k0_mult208 v1651).toNat) ∧
  (∀ a, (k0_off288 v1651) a + S4x128.size a ≤ S65536x128.size a)
theorem k0_mult208_dvd : ∀ (v1651 : BitVec 32) (k0_hw208 : k0_chk208 v1651), 4 ∣ (k0_mult208 v1651).toNat := fun v1651 k0_hw208 => k0_hw208.1
theorem k0_off288_inb : ∀ (v1651 : BitVec 32) (k0_hw208 : k0_chk208 v1651), ∀ a, (k0_off288 v1651) a + S4x128.size a ≤ S65536x128.size a := fun v1651 k0_hw208 => k0_hw208.2

def k0_off289 (k0_t1 : Fin k0_t1_loop.trips) : Fin 3 → Nat :=
  let c0_1117 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1658 : Index := Scalar.indexCast v1017
  let c80_1118 : Index := 80#32
  ![0, v1658.toNat, 80]
def k0_mult209 (v1659 : BitVec 32) : BitVec 32 :=
  v1659

def k0_off290 (v1659 : BitVec 32) : Fin 2 → Nat :=
  let v1660 : BitVec 32 := v1659
  let v1661 : Index := Scalar.indexCast v1660
  let c0_1119 : Index := 0#32
  ![v1661.toNat, 0]

def k0_chk209 (v1659 : BitVec 32) : Prop :=
  (4 ∣ (k0_mult209 v1659).toNat) ∧
  (∀ a, (k0_off290 v1659) a + S4x128.size a ≤ S65536x128.size a)
theorem k0_mult209_dvd : ∀ (v1659 : BitVec 32) (k0_hw209 : k0_chk209 v1659), 4 ∣ (k0_mult209 v1659).toNat := fun v1659 k0_hw209 => k0_hw209.1
theorem k0_off290_inb : ∀ (v1659 : BitVec 32) (k0_hw209 : k0_chk209 v1659), ∀ a, (k0_off290 v1659) a + S4x128.size a ≤ S65536x128.size a := fun v1659 k0_hw209 => k0_hw209.2

def k0_off291 (k0_t1 : Fin k0_t1_loop.trips) : Fin 3 → Nat :=
  let c0_1122 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1666 : Index := Scalar.indexCast v1017
  let c81_1123 : Index := 81#32
  ![0, v1666.toNat, 81]
def k0_mult210 (v1667 : BitVec 32) : BitVec 32 :=
  v1667

def k0_off292 (v1667 : BitVec 32) : Fin 2 → Nat :=
  let v1668 : BitVec 32 := v1667
  let v1669 : Index := Scalar.indexCast v1668
  let c0_1124 : Index := 0#32
  ![v1669.toNat, 0]

def k0_chk210 (v1667 : BitVec 32) : Prop :=
  (4 ∣ (k0_mult210 v1667).toNat) ∧
  (∀ a, (k0_off292 v1667) a + S4x128.size a ≤ S65536x128.size a)
theorem k0_mult210_dvd : ∀ (v1667 : BitVec 32) (k0_hw210 : k0_chk210 v1667), 4 ∣ (k0_mult210 v1667).toNat := fun v1667 k0_hw210 => k0_hw210.1
theorem k0_off292_inb : ∀ (v1667 : BitVec 32) (k0_hw210 : k0_chk210 v1667), ∀ a, (k0_off292 v1667) a + S4x128.size a ≤ S65536x128.size a := fun v1667 k0_hw210 => k0_hw210.2

def k0_off293 (k0_t1 : Fin k0_t1_loop.trips) : Fin 3 → Nat :=
  let c0_1127 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1674 : Index := Scalar.indexCast v1017
  let c82_1128 : Index := 82#32
  ![0, v1674.toNat, 82]
def k0_mult211 (v1675 : BitVec 32) : BitVec 32 :=
  v1675

def k0_off294 (v1675 : BitVec 32) : Fin 2 → Nat :=
  let v1676 : BitVec 32 := v1675
  let v1677 : Index := Scalar.indexCast v1676
  let c0_1129 : Index := 0#32
  ![v1677.toNat, 0]

def k0_chk211 (v1675 : BitVec 32) : Prop :=
  (4 ∣ (k0_mult211 v1675).toNat) ∧
  (∀ a, (k0_off294 v1675) a + S4x128.size a ≤ S65536x128.size a)
theorem k0_mult211_dvd : ∀ (v1675 : BitVec 32) (k0_hw211 : k0_chk211 v1675), 4 ∣ (k0_mult211 v1675).toNat := fun v1675 k0_hw211 => k0_hw211.1
theorem k0_off294_inb : ∀ (v1675 : BitVec 32) (k0_hw211 : k0_chk211 v1675), ∀ a, (k0_off294 v1675) a + S4x128.size a ≤ S65536x128.size a := fun v1675 k0_hw211 => k0_hw211.2

def k0_off295 (k0_t1 : Fin k0_t1_loop.trips) : Fin 3 → Nat :=
  let c0_1132 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1682 : Index := Scalar.indexCast v1017
  let c83_1133 : Index := 83#32
  ![0, v1682.toNat, 83]
def k0_mult212 (v1683 : BitVec 32) : BitVec 32 :=
  v1683

def k0_off296 (v1683 : BitVec 32) : Fin 2 → Nat :=
  let v1684 : BitVec 32 := v1683
  let v1685 : Index := Scalar.indexCast v1684
  let c0_1134 : Index := 0#32
  ![v1685.toNat, 0]

def k0_chk212 (v1683 : BitVec 32) : Prop :=
  (4 ∣ (k0_mult212 v1683).toNat) ∧
  (∀ a, (k0_off296 v1683) a + S4x128.size a ≤ S65536x128.size a)
theorem k0_mult212_dvd : ∀ (v1683 : BitVec 32) (k0_hw212 : k0_chk212 v1683), 4 ∣ (k0_mult212 v1683).toNat := fun v1683 k0_hw212 => k0_hw212.1
theorem k0_off296_inb : ∀ (v1683 : BitVec 32) (k0_hw212 : k0_chk212 v1683), ∀ a, (k0_off296 v1683) a + S4x128.size a ≤ S65536x128.size a := fun v1683 k0_hw212 => k0_hw212.2

def k0_off297 (k0_t1 : Fin k0_t1_loop.trips) : Fin 3 → Nat :=
  let c0_1137 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1690 : Index := Scalar.indexCast v1017
  let c84_1138 : Index := 84#32
  ![0, v1690.toNat, 84]
def k0_mult213 (v1691 : BitVec 32) : BitVec 32 :=
  v1691

def k0_off298 (v1691 : BitVec 32) : Fin 2 → Nat :=
  let v1692 : BitVec 32 := v1691
  let v1693 : Index := Scalar.indexCast v1692
  let c0_1139 : Index := 0#32
  ![v1693.toNat, 0]

def k0_chk213 (v1691 : BitVec 32) : Prop :=
  (4 ∣ (k0_mult213 v1691).toNat) ∧
  (∀ a, (k0_off298 v1691) a + S4x128.size a ≤ S65536x128.size a)
theorem k0_mult213_dvd : ∀ (v1691 : BitVec 32) (k0_hw213 : k0_chk213 v1691), 4 ∣ (k0_mult213 v1691).toNat := fun v1691 k0_hw213 => k0_hw213.1
theorem k0_off298_inb : ∀ (v1691 : BitVec 32) (k0_hw213 : k0_chk213 v1691), ∀ a, (k0_off298 v1691) a + S4x128.size a ≤ S65536x128.size a := fun v1691 k0_hw213 => k0_hw213.2

def k0_off299 (k0_t1 : Fin k0_t1_loop.trips) : Fin 3 → Nat :=
  let c0_1142 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1698 : Index := Scalar.indexCast v1017
  let c85_1143 : Index := 85#32
  ![0, v1698.toNat, 85]
def k0_mult214 (v1699 : BitVec 32) : BitVec 32 :=
  v1699

def k0_off300 (v1699 : BitVec 32) : Fin 2 → Nat :=
  let v1700 : BitVec 32 := v1699
  let v1701 : Index := Scalar.indexCast v1700
  let c0_1144 : Index := 0#32
  ![v1701.toNat, 0]

def k0_chk214 (v1699 : BitVec 32) : Prop :=
  (4 ∣ (k0_mult214 v1699).toNat) ∧
  (∀ a, (k0_off300 v1699) a + S4x128.size a ≤ S65536x128.size a)
theorem k0_mult214_dvd : ∀ (v1699 : BitVec 32) (k0_hw214 : k0_chk214 v1699), 4 ∣ (k0_mult214 v1699).toNat := fun v1699 k0_hw214 => k0_hw214.1
theorem k0_off300_inb : ∀ (v1699 : BitVec 32) (k0_hw214 : k0_chk214 v1699), ∀ a, (k0_off300 v1699) a + S4x128.size a ≤ S65536x128.size a := fun v1699 k0_hw214 => k0_hw214.2

def k0_off301 (k0_t1 : Fin k0_t1_loop.trips) : Fin 3 → Nat :=
  let c0_1147 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1706 : Index := Scalar.indexCast v1017
  let c86_1148 : Index := 86#32
  ![0, v1706.toNat, 86]
def k0_mult215 (v1707 : BitVec 32) : BitVec 32 :=
  v1707

def k0_off302 (v1707 : BitVec 32) : Fin 2 → Nat :=
  let v1708 : BitVec 32 := v1707
  let v1709 : Index := Scalar.indexCast v1708
  let c0_1149 : Index := 0#32
  ![v1709.toNat, 0]

def k0_chk215 (v1707 : BitVec 32) : Prop :=
  (4 ∣ (k0_mult215 v1707).toNat) ∧
  (∀ a, (k0_off302 v1707) a + S4x128.size a ≤ S65536x128.size a)
theorem k0_mult215_dvd : ∀ (v1707 : BitVec 32) (k0_hw215 : k0_chk215 v1707), 4 ∣ (k0_mult215 v1707).toNat := fun v1707 k0_hw215 => k0_hw215.1
theorem k0_off302_inb : ∀ (v1707 : BitVec 32) (k0_hw215 : k0_chk215 v1707), ∀ a, (k0_off302 v1707) a + S4x128.size a ≤ S65536x128.size a := fun v1707 k0_hw215 => k0_hw215.2

def k0_off303 (k0_t1 : Fin k0_t1_loop.trips) : Fin 3 → Nat :=
  let c0_1152 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1714 : Index := Scalar.indexCast v1017
  let c87_1153 : Index := 87#32
  ![0, v1714.toNat, 87]
def k0_mult216 (v1715 : BitVec 32) : BitVec 32 :=
  v1715

def k0_off304 (v1715 : BitVec 32) : Fin 2 → Nat :=
  let v1716 : BitVec 32 := v1715
  let v1717 : Index := Scalar.indexCast v1716
  let c0_1154 : Index := 0#32
  ![v1717.toNat, 0]

def k0_chk216 (v1715 : BitVec 32) : Prop :=
  (4 ∣ (k0_mult216 v1715).toNat) ∧
  (∀ a, (k0_off304 v1715) a + S4x128.size a ≤ S65536x128.size a)
theorem k0_mult216_dvd : ∀ (v1715 : BitVec 32) (k0_hw216 : k0_chk216 v1715), 4 ∣ (k0_mult216 v1715).toNat := fun v1715 k0_hw216 => k0_hw216.1
theorem k0_off304_inb : ∀ (v1715 : BitVec 32) (k0_hw216 : k0_chk216 v1715), ∀ a, (k0_off304 v1715) a + S4x128.size a ≤ S65536x128.size a := fun v1715 k0_hw216 => k0_hw216.2

def k0_off305 (k0_t1 : Fin k0_t1_loop.trips) : Fin 3 → Nat :=
  let c0_1157 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1722 : Index := Scalar.indexCast v1017
  let c88_1158 : Index := 88#32
  ![0, v1722.toNat, 88]
def k0_mult217 (v1723 : BitVec 32) : BitVec 32 :=
  v1723

def k0_off306 (v1723 : BitVec 32) : Fin 2 → Nat :=
  let v1724 : BitVec 32 := v1723
  let v1725 : Index := Scalar.indexCast v1724
  let c0_1159 : Index := 0#32
  ![v1725.toNat, 0]

def k0_chk217 (v1723 : BitVec 32) : Prop :=
  (4 ∣ (k0_mult217 v1723).toNat) ∧
  (∀ a, (k0_off306 v1723) a + S4x128.size a ≤ S65536x128.size a)
theorem k0_mult217_dvd : ∀ (v1723 : BitVec 32) (k0_hw217 : k0_chk217 v1723), 4 ∣ (k0_mult217 v1723).toNat := fun v1723 k0_hw217 => k0_hw217.1
theorem k0_off306_inb : ∀ (v1723 : BitVec 32) (k0_hw217 : k0_chk217 v1723), ∀ a, (k0_off306 v1723) a + S4x128.size a ≤ S65536x128.size a := fun v1723 k0_hw217 => k0_hw217.2

def k0_off307 (k0_t1 : Fin k0_t1_loop.trips) : Fin 3 → Nat :=
  let c0_1162 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1730 : Index := Scalar.indexCast v1017
  let c89_1163 : Index := 89#32
  ![0, v1730.toNat, 89]
def k0_mult218 (v1731 : BitVec 32) : BitVec 32 :=
  v1731

def k0_off308 (v1731 : BitVec 32) : Fin 2 → Nat :=
  let v1732 : BitVec 32 := v1731
  let v1733 : Index := Scalar.indexCast v1732
  let c0_1164 : Index := 0#32
  ![v1733.toNat, 0]

def k0_chk218 (v1731 : BitVec 32) : Prop :=
  (4 ∣ (k0_mult218 v1731).toNat) ∧
  (∀ a, (k0_off308 v1731) a + S4x128.size a ≤ S65536x128.size a)
theorem k0_mult218_dvd : ∀ (v1731 : BitVec 32) (k0_hw218 : k0_chk218 v1731), 4 ∣ (k0_mult218 v1731).toNat := fun v1731 k0_hw218 => k0_hw218.1
theorem k0_off308_inb : ∀ (v1731 : BitVec 32) (k0_hw218 : k0_chk218 v1731), ∀ a, (k0_off308 v1731) a + S4x128.size a ≤ S65536x128.size a := fun v1731 k0_hw218 => k0_hw218.2

def k0_off309 (k0_t1 : Fin k0_t1_loop.trips) : Fin 3 → Nat :=
  let c0_1167 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1738 : Index := Scalar.indexCast v1017
  let c90_1168 : Index := 90#32
  ![0, v1738.toNat, 90]
def k0_mult219 (v1739 : BitVec 32) : BitVec 32 :=
  v1739

def k0_off310 (v1739 : BitVec 32) : Fin 2 → Nat :=
  let v1740 : BitVec 32 := v1739
  let v1741 : Index := Scalar.indexCast v1740
  let c0_1169 : Index := 0#32
  ![v1741.toNat, 0]

def k0_chk219 (v1739 : BitVec 32) : Prop :=
  (4 ∣ (k0_mult219 v1739).toNat) ∧
  (∀ a, (k0_off310 v1739) a + S4x128.size a ≤ S65536x128.size a)
theorem k0_mult219_dvd : ∀ (v1739 : BitVec 32) (k0_hw219 : k0_chk219 v1739), 4 ∣ (k0_mult219 v1739).toNat := fun v1739 k0_hw219 => k0_hw219.1
theorem k0_off310_inb : ∀ (v1739 : BitVec 32) (k0_hw219 : k0_chk219 v1739), ∀ a, (k0_off310 v1739) a + S4x128.size a ≤ S65536x128.size a := fun v1739 k0_hw219 => k0_hw219.2

def k0_off311 (k0_t1 : Fin k0_t1_loop.trips) : Fin 3 → Nat :=
  let c0_1172 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1746 : Index := Scalar.indexCast v1017
  let c91_1173 : Index := 91#32
  ![0, v1746.toNat, 91]
def k0_mult220 (v1747 : BitVec 32) : BitVec 32 :=
  v1747

def k0_off312 (v1747 : BitVec 32) : Fin 2 → Nat :=
  let v1748 : BitVec 32 := v1747
  let v1749 : Index := Scalar.indexCast v1748
  let c0_1174 : Index := 0#32
  ![v1749.toNat, 0]

def k0_chk220 (v1747 : BitVec 32) : Prop :=
  (4 ∣ (k0_mult220 v1747).toNat) ∧
  (∀ a, (k0_off312 v1747) a + S4x128.size a ≤ S65536x128.size a)
theorem k0_mult220_dvd : ∀ (v1747 : BitVec 32) (k0_hw220 : k0_chk220 v1747), 4 ∣ (k0_mult220 v1747).toNat := fun v1747 k0_hw220 => k0_hw220.1
theorem k0_off312_inb : ∀ (v1747 : BitVec 32) (k0_hw220 : k0_chk220 v1747), ∀ a, (k0_off312 v1747) a + S4x128.size a ≤ S65536x128.size a := fun v1747 k0_hw220 => k0_hw220.2

def k0_off313 (k0_t1 : Fin k0_t1_loop.trips) : Fin 3 → Nat :=
  let c0_1177 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1754 : Index := Scalar.indexCast v1017
  let c92_1178 : Index := 92#32
  ![0, v1754.toNat, 92]
def k0_mult221 (v1755 : BitVec 32) : BitVec 32 :=
  v1755

def k0_off314 (v1755 : BitVec 32) : Fin 2 → Nat :=
  let v1756 : BitVec 32 := v1755
  let v1757 : Index := Scalar.indexCast v1756
  let c0_1179 : Index := 0#32
  ![v1757.toNat, 0]

def k0_chk221 (v1755 : BitVec 32) : Prop :=
  (4 ∣ (k0_mult221 v1755).toNat) ∧
  (∀ a, (k0_off314 v1755) a + S4x128.size a ≤ S65536x128.size a)
theorem k0_mult221_dvd : ∀ (v1755 : BitVec 32) (k0_hw221 : k0_chk221 v1755), 4 ∣ (k0_mult221 v1755).toNat := fun v1755 k0_hw221 => k0_hw221.1
theorem k0_off314_inb : ∀ (v1755 : BitVec 32) (k0_hw221 : k0_chk221 v1755), ∀ a, (k0_off314 v1755) a + S4x128.size a ≤ S65536x128.size a := fun v1755 k0_hw221 => k0_hw221.2

def k0_off315 (k0_t1 : Fin k0_t1_loop.trips) : Fin 3 → Nat :=
  let c0_1182 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1762 : Index := Scalar.indexCast v1017
  let c93_1183 : Index := 93#32
  ![0, v1762.toNat, 93]
def k0_mult222 (v1763 : BitVec 32) : BitVec 32 :=
  v1763

def k0_off316 (v1763 : BitVec 32) : Fin 2 → Nat :=
  let v1764 : BitVec 32 := v1763
  let v1765 : Index := Scalar.indexCast v1764
  let c0_1184 : Index := 0#32
  ![v1765.toNat, 0]

def k0_chk222 (v1763 : BitVec 32) : Prop :=
  (4 ∣ (k0_mult222 v1763).toNat) ∧
  (∀ a, (k0_off316 v1763) a + S4x128.size a ≤ S65536x128.size a)
theorem k0_mult222_dvd : ∀ (v1763 : BitVec 32) (k0_hw222 : k0_chk222 v1763), 4 ∣ (k0_mult222 v1763).toNat := fun v1763 k0_hw222 => k0_hw222.1
theorem k0_off316_inb : ∀ (v1763 : BitVec 32) (k0_hw222 : k0_chk222 v1763), ∀ a, (k0_off316 v1763) a + S4x128.size a ≤ S65536x128.size a := fun v1763 k0_hw222 => k0_hw222.2

def k0_off317 (k0_t1 : Fin k0_t1_loop.trips) : Fin 3 → Nat :=
  let c0_1187 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1770 : Index := Scalar.indexCast v1017
  let c94_1188 : Index := 94#32
  ![0, v1770.toNat, 94]
def k0_mult223 (v1771 : BitVec 32) : BitVec 32 :=
  v1771

def k0_off318 (v1771 : BitVec 32) : Fin 2 → Nat :=
  let v1772 : BitVec 32 := v1771
  let v1773 : Index := Scalar.indexCast v1772
  let c0_1189 : Index := 0#32
  ![v1773.toNat, 0]

def k0_chk223 (v1771 : BitVec 32) : Prop :=
  (4 ∣ (k0_mult223 v1771).toNat) ∧
  (∀ a, (k0_off318 v1771) a + S4x128.size a ≤ S65536x128.size a)
theorem k0_mult223_dvd : ∀ (v1771 : BitVec 32) (k0_hw223 : k0_chk223 v1771), 4 ∣ (k0_mult223 v1771).toNat := fun v1771 k0_hw223 => k0_hw223.1
theorem k0_off318_inb : ∀ (v1771 : BitVec 32) (k0_hw223 : k0_chk223 v1771), ∀ a, (k0_off318 v1771) a + S4x128.size a ≤ S65536x128.size a := fun v1771 k0_hw223 => k0_hw223.2

def k0_off319 (k0_t1 : Fin k0_t1_loop.trips) : Fin 3 → Nat :=
  let c0_1192 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1778 : Index := Scalar.indexCast v1017
  let c95_1193 : Index := 95#32
  ![0, v1778.toNat, 95]
def k0_mult224 (v1779 : BitVec 32) : BitVec 32 :=
  v1779

def k0_off320 (v1779 : BitVec 32) : Fin 2 → Nat :=
  let v1780 : BitVec 32 := v1779
  let v1781 : Index := Scalar.indexCast v1780
  let c0_1194 : Index := 0#32
  ![v1781.toNat, 0]

def k0_chk224 (v1779 : BitVec 32) : Prop :=
  (4 ∣ (k0_mult224 v1779).toNat) ∧
  (∀ a, (k0_off320 v1779) a + S4x128.size a ≤ S65536x128.size a)
theorem k0_mult224_dvd : ∀ (v1779 : BitVec 32) (k0_hw224 : k0_chk224 v1779), 4 ∣ (k0_mult224 v1779).toNat := fun v1779 k0_hw224 => k0_hw224.1
theorem k0_off320_inb : ∀ (v1779 : BitVec 32) (k0_hw224 : k0_chk224 v1779), ∀ a, (k0_off320 v1779) a + S4x128.size a ≤ S65536x128.size a := fun v1779 k0_hw224 => k0_hw224.2

def k0_off321 (k0_t1 : Fin k0_t1_loop.trips) : Fin 3 → Nat :=
  let c0_1197 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1786 : Index := Scalar.indexCast v1017
  let c96_1198 : Index := 96#32
  ![0, v1786.toNat, 96]
def k0_mult225 (v1787 : BitVec 32) : BitVec 32 :=
  v1787

def k0_off322 (v1787 : BitVec 32) : Fin 2 → Nat :=
  let v1788 : BitVec 32 := v1787
  let v1789 : Index := Scalar.indexCast v1788
  let c0_1199 : Index := 0#32
  ![v1789.toNat, 0]

def k0_chk225 (v1787 : BitVec 32) : Prop :=
  (4 ∣ (k0_mult225 v1787).toNat) ∧
  (∀ a, (k0_off322 v1787) a + S4x128.size a ≤ S65536x128.size a)
theorem k0_mult225_dvd : ∀ (v1787 : BitVec 32) (k0_hw225 : k0_chk225 v1787), 4 ∣ (k0_mult225 v1787).toNat := fun v1787 k0_hw225 => k0_hw225.1
theorem k0_off322_inb : ∀ (v1787 : BitVec 32) (k0_hw225 : k0_chk225 v1787), ∀ a, (k0_off322 v1787) a + S4x128.size a ≤ S65536x128.size a := fun v1787 k0_hw225 => k0_hw225.2

def k0_off323 (k0_t1 : Fin k0_t1_loop.trips) : Fin 3 → Nat :=
  let c0_1202 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1794 : Index := Scalar.indexCast v1017
  let c97_1203 : Index := 97#32
  ![0, v1794.toNat, 97]
def k0_mult226 (v1795 : BitVec 32) : BitVec 32 :=
  v1795

def k0_off324 (v1795 : BitVec 32) : Fin 2 → Nat :=
  let v1796 : BitVec 32 := v1795
  let v1797 : Index := Scalar.indexCast v1796
  let c0_1204 : Index := 0#32
  ![v1797.toNat, 0]

def k0_chk226 (v1795 : BitVec 32) : Prop :=
  (4 ∣ (k0_mult226 v1795).toNat) ∧
  (∀ a, (k0_off324 v1795) a + S4x128.size a ≤ S65536x128.size a)
theorem k0_mult226_dvd : ∀ (v1795 : BitVec 32) (k0_hw226 : k0_chk226 v1795), 4 ∣ (k0_mult226 v1795).toNat := fun v1795 k0_hw226 => k0_hw226.1
theorem k0_off324_inb : ∀ (v1795 : BitVec 32) (k0_hw226 : k0_chk226 v1795), ∀ a, (k0_off324 v1795) a + S4x128.size a ≤ S65536x128.size a := fun v1795 k0_hw226 => k0_hw226.2

def k0_off325 (k0_t1 : Fin k0_t1_loop.trips) : Fin 3 → Nat :=
  let c0_1207 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1802 : Index := Scalar.indexCast v1017
  let c98_1208 : Index := 98#32
  ![0, v1802.toNat, 98]
def k0_mult227 (v1803 : BitVec 32) : BitVec 32 :=
  v1803

def k0_off326 (v1803 : BitVec 32) : Fin 2 → Nat :=
  let v1804 : BitVec 32 := v1803
  let v1805 : Index := Scalar.indexCast v1804
  let c0_1209 : Index := 0#32
  ![v1805.toNat, 0]

def k0_chk227 (v1803 : BitVec 32) : Prop :=
  (4 ∣ (k0_mult227 v1803).toNat) ∧
  (∀ a, (k0_off326 v1803) a + S4x128.size a ≤ S65536x128.size a)
theorem k0_mult227_dvd : ∀ (v1803 : BitVec 32) (k0_hw227 : k0_chk227 v1803), 4 ∣ (k0_mult227 v1803).toNat := fun v1803 k0_hw227 => k0_hw227.1
theorem k0_off326_inb : ∀ (v1803 : BitVec 32) (k0_hw227 : k0_chk227 v1803), ∀ a, (k0_off326 v1803) a + S4x128.size a ≤ S65536x128.size a := fun v1803 k0_hw227 => k0_hw227.2

def k0_off327 (k0_t1 : Fin k0_t1_loop.trips) : Fin 3 → Nat :=
  let c0_1212 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1810 : Index := Scalar.indexCast v1017
  let c99_1213 : Index := 99#32
  ![0, v1810.toNat, 99]
def k0_mult228 (v1811 : BitVec 32) : BitVec 32 :=
  v1811

def k0_off328 (v1811 : BitVec 32) : Fin 2 → Nat :=
  let v1812 : BitVec 32 := v1811
  let v1813 : Index := Scalar.indexCast v1812
  let c0_1214 : Index := 0#32
  ![v1813.toNat, 0]

def k0_chk228 (v1811 : BitVec 32) : Prop :=
  (4 ∣ (k0_mult228 v1811).toNat) ∧
  (∀ a, (k0_off328 v1811) a + S4x128.size a ≤ S65536x128.size a)
theorem k0_mult228_dvd : ∀ (v1811 : BitVec 32) (k0_hw228 : k0_chk228 v1811), 4 ∣ (k0_mult228 v1811).toNat := fun v1811 k0_hw228 => k0_hw228.1
theorem k0_off328_inb : ∀ (v1811 : BitVec 32) (k0_hw228 : k0_chk228 v1811), ∀ a, (k0_off328 v1811) a + S4x128.size a ≤ S65536x128.size a := fun v1811 k0_hw228 => k0_hw228.2

def k0_off329 (k0_t1 : Fin k0_t1_loop.trips) : Fin 3 → Nat :=
  let c0_1217 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1818 : Index := Scalar.indexCast v1017
  let c100_1218 : Index := 100#32
  ![0, v1818.toNat, 100]
def k0_mult229 (v1819 : BitVec 32) : BitVec 32 :=
  v1819

def k0_off330 (v1819 : BitVec 32) : Fin 2 → Nat :=
  let v1820 : BitVec 32 := v1819
  let v1821 : Index := Scalar.indexCast v1820
  let c0_1219 : Index := 0#32
  ![v1821.toNat, 0]

def k0_chk229 (v1819 : BitVec 32) : Prop :=
  (4 ∣ (k0_mult229 v1819).toNat) ∧
  (∀ a, (k0_off330 v1819) a + S4x128.size a ≤ S65536x128.size a)
theorem k0_mult229_dvd : ∀ (v1819 : BitVec 32) (k0_hw229 : k0_chk229 v1819), 4 ∣ (k0_mult229 v1819).toNat := fun v1819 k0_hw229 => k0_hw229.1
theorem k0_off330_inb : ∀ (v1819 : BitVec 32) (k0_hw229 : k0_chk229 v1819), ∀ a, (k0_off330 v1819) a + S4x128.size a ≤ S65536x128.size a := fun v1819 k0_hw229 => k0_hw229.2

def k0_off331 (k0_t1 : Fin k0_t1_loop.trips) : Fin 3 → Nat :=
  let c0_1222 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1826 : Index := Scalar.indexCast v1017
  let c101_1223 : Index := 101#32
  ![0, v1826.toNat, 101]
def k0_mult230 (v1827 : BitVec 32) : BitVec 32 :=
  v1827

def k0_off332 (v1827 : BitVec 32) : Fin 2 → Nat :=
  let v1828 : BitVec 32 := v1827
  let v1829 : Index := Scalar.indexCast v1828
  let c0_1224 : Index := 0#32
  ![v1829.toNat, 0]

def k0_chk230 (v1827 : BitVec 32) : Prop :=
  (4 ∣ (k0_mult230 v1827).toNat) ∧
  (∀ a, (k0_off332 v1827) a + S4x128.size a ≤ S65536x128.size a)
theorem k0_mult230_dvd : ∀ (v1827 : BitVec 32) (k0_hw230 : k0_chk230 v1827), 4 ∣ (k0_mult230 v1827).toNat := fun v1827 k0_hw230 => k0_hw230.1
theorem k0_off332_inb : ∀ (v1827 : BitVec 32) (k0_hw230 : k0_chk230 v1827), ∀ a, (k0_off332 v1827) a + S4x128.size a ≤ S65536x128.size a := fun v1827 k0_hw230 => k0_hw230.2

def k0_off333 (k0_t1 : Fin k0_t1_loop.trips) : Fin 3 → Nat :=
  let c0_1227 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1834 : Index := Scalar.indexCast v1017
  let c102_1228 : Index := 102#32
  ![0, v1834.toNat, 102]
def k0_mult231 (v1835 : BitVec 32) : BitVec 32 :=
  v1835

def k0_off334 (v1835 : BitVec 32) : Fin 2 → Nat :=
  let v1836 : BitVec 32 := v1835
  let v1837 : Index := Scalar.indexCast v1836
  let c0_1229 : Index := 0#32
  ![v1837.toNat, 0]

def k0_chk231 (v1835 : BitVec 32) : Prop :=
  (4 ∣ (k0_mult231 v1835).toNat) ∧
  (∀ a, (k0_off334 v1835) a + S4x128.size a ≤ S65536x128.size a)
theorem k0_mult231_dvd : ∀ (v1835 : BitVec 32) (k0_hw231 : k0_chk231 v1835), 4 ∣ (k0_mult231 v1835).toNat := fun v1835 k0_hw231 => k0_hw231.1
theorem k0_off334_inb : ∀ (v1835 : BitVec 32) (k0_hw231 : k0_chk231 v1835), ∀ a, (k0_off334 v1835) a + S4x128.size a ≤ S65536x128.size a := fun v1835 k0_hw231 => k0_hw231.2

def k0_off335 (k0_t1 : Fin k0_t1_loop.trips) : Fin 3 → Nat :=
  let c0_1232 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1842 : Index := Scalar.indexCast v1017
  let c103_1233 : Index := 103#32
  ![0, v1842.toNat, 103]
def k0_mult232 (v1843 : BitVec 32) : BitVec 32 :=
  v1843

def k0_off336 (v1843 : BitVec 32) : Fin 2 → Nat :=
  let v1844 : BitVec 32 := v1843
  let v1845 : Index := Scalar.indexCast v1844
  let c0_1234 : Index := 0#32
  ![v1845.toNat, 0]

def k0_chk232 (v1843 : BitVec 32) : Prop :=
  (4 ∣ (k0_mult232 v1843).toNat) ∧
  (∀ a, (k0_off336 v1843) a + S4x128.size a ≤ S65536x128.size a)
theorem k0_mult232_dvd : ∀ (v1843 : BitVec 32) (k0_hw232 : k0_chk232 v1843), 4 ∣ (k0_mult232 v1843).toNat := fun v1843 k0_hw232 => k0_hw232.1
theorem k0_off336_inb : ∀ (v1843 : BitVec 32) (k0_hw232 : k0_chk232 v1843), ∀ a, (k0_off336 v1843) a + S4x128.size a ≤ S65536x128.size a := fun v1843 k0_hw232 => k0_hw232.2

def k0_off337 (k0_t1 : Fin k0_t1_loop.trips) : Fin 3 → Nat :=
  let c0_1237 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1850 : Index := Scalar.indexCast v1017
  let c104_1238 : Index := 104#32
  ![0, v1850.toNat, 104]
def k0_mult233 (v1851 : BitVec 32) : BitVec 32 :=
  v1851

def k0_off338 (v1851 : BitVec 32) : Fin 2 → Nat :=
  let v1852 : BitVec 32 := v1851
  let v1853 : Index := Scalar.indexCast v1852
  let c0_1239 : Index := 0#32
  ![v1853.toNat, 0]

def k0_chk233 (v1851 : BitVec 32) : Prop :=
  (4 ∣ (k0_mult233 v1851).toNat) ∧
  (∀ a, (k0_off338 v1851) a + S4x128.size a ≤ S65536x128.size a)
theorem k0_mult233_dvd : ∀ (v1851 : BitVec 32) (k0_hw233 : k0_chk233 v1851), 4 ∣ (k0_mult233 v1851).toNat := fun v1851 k0_hw233 => k0_hw233.1
theorem k0_off338_inb : ∀ (v1851 : BitVec 32) (k0_hw233 : k0_chk233 v1851), ∀ a, (k0_off338 v1851) a + S4x128.size a ≤ S65536x128.size a := fun v1851 k0_hw233 => k0_hw233.2

def k0_off339 (k0_t1 : Fin k0_t1_loop.trips) : Fin 3 → Nat :=
  let c0_1242 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1858 : Index := Scalar.indexCast v1017
  let c105_1243 : Index := 105#32
  ![0, v1858.toNat, 105]
def k0_mult234 (v1859 : BitVec 32) : BitVec 32 :=
  v1859

def k0_off340 (v1859 : BitVec 32) : Fin 2 → Nat :=
  let v1860 : BitVec 32 := v1859
  let v1861 : Index := Scalar.indexCast v1860
  let c0_1244 : Index := 0#32
  ![v1861.toNat, 0]

def k0_chk234 (v1859 : BitVec 32) : Prop :=
  (4 ∣ (k0_mult234 v1859).toNat) ∧
  (∀ a, (k0_off340 v1859) a + S4x128.size a ≤ S65536x128.size a)
theorem k0_mult234_dvd : ∀ (v1859 : BitVec 32) (k0_hw234 : k0_chk234 v1859), 4 ∣ (k0_mult234 v1859).toNat := fun v1859 k0_hw234 => k0_hw234.1
theorem k0_off340_inb : ∀ (v1859 : BitVec 32) (k0_hw234 : k0_chk234 v1859), ∀ a, (k0_off340 v1859) a + S4x128.size a ≤ S65536x128.size a := fun v1859 k0_hw234 => k0_hw234.2

def k0_off341 (k0_t1 : Fin k0_t1_loop.trips) : Fin 3 → Nat :=
  let c0_1247 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1866 : Index := Scalar.indexCast v1017
  let c106_1248 : Index := 106#32
  ![0, v1866.toNat, 106]
def k0_mult235 (v1867 : BitVec 32) : BitVec 32 :=
  v1867

def k0_off342 (v1867 : BitVec 32) : Fin 2 → Nat :=
  let v1868 : BitVec 32 := v1867
  let v1869 : Index := Scalar.indexCast v1868
  let c0_1249 : Index := 0#32
  ![v1869.toNat, 0]

def k0_chk235 (v1867 : BitVec 32) : Prop :=
  (4 ∣ (k0_mult235 v1867).toNat) ∧
  (∀ a, (k0_off342 v1867) a + S4x128.size a ≤ S65536x128.size a)
theorem k0_mult235_dvd : ∀ (v1867 : BitVec 32) (k0_hw235 : k0_chk235 v1867), 4 ∣ (k0_mult235 v1867).toNat := fun v1867 k0_hw235 => k0_hw235.1
theorem k0_off342_inb : ∀ (v1867 : BitVec 32) (k0_hw235 : k0_chk235 v1867), ∀ a, (k0_off342 v1867) a + S4x128.size a ≤ S65536x128.size a := fun v1867 k0_hw235 => k0_hw235.2

def k0_off343 (k0_t1 : Fin k0_t1_loop.trips) : Fin 3 → Nat :=
  let c0_1252 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1874 : Index := Scalar.indexCast v1017
  let c107_1253 : Index := 107#32
  ![0, v1874.toNat, 107]
def k0_mult236 (v1875 : BitVec 32) : BitVec 32 :=
  v1875

def k0_off344 (v1875 : BitVec 32) : Fin 2 → Nat :=
  let v1876 : BitVec 32 := v1875
  let v1877 : Index := Scalar.indexCast v1876
  let c0_1254 : Index := 0#32
  ![v1877.toNat, 0]

def k0_chk236 (v1875 : BitVec 32) : Prop :=
  (4 ∣ (k0_mult236 v1875).toNat) ∧
  (∀ a, (k0_off344 v1875) a + S4x128.size a ≤ S65536x128.size a)
theorem k0_mult236_dvd : ∀ (v1875 : BitVec 32) (k0_hw236 : k0_chk236 v1875), 4 ∣ (k0_mult236 v1875).toNat := fun v1875 k0_hw236 => k0_hw236.1
theorem k0_off344_inb : ∀ (v1875 : BitVec 32) (k0_hw236 : k0_chk236 v1875), ∀ a, (k0_off344 v1875) a + S4x128.size a ≤ S65536x128.size a := fun v1875 k0_hw236 => k0_hw236.2

def k0_off345 (k0_t1 : Fin k0_t1_loop.trips) : Fin 3 → Nat :=
  let c0_1257 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1882 : Index := Scalar.indexCast v1017
  let c108_1258 : Index := 108#32
  ![0, v1882.toNat, 108]
def k0_mult237 (v1883 : BitVec 32) : BitVec 32 :=
  v1883

def k0_off346 (v1883 : BitVec 32) : Fin 2 → Nat :=
  let v1884 : BitVec 32 := v1883
  let v1885 : Index := Scalar.indexCast v1884
  let c0_1259 : Index := 0#32
  ![v1885.toNat, 0]

def k0_chk237 (v1883 : BitVec 32) : Prop :=
  (4 ∣ (k0_mult237 v1883).toNat) ∧
  (∀ a, (k0_off346 v1883) a + S4x128.size a ≤ S65536x128.size a)
theorem k0_mult237_dvd : ∀ (v1883 : BitVec 32) (k0_hw237 : k0_chk237 v1883), 4 ∣ (k0_mult237 v1883).toNat := fun v1883 k0_hw237 => k0_hw237.1
theorem k0_off346_inb : ∀ (v1883 : BitVec 32) (k0_hw237 : k0_chk237 v1883), ∀ a, (k0_off346 v1883) a + S4x128.size a ≤ S65536x128.size a := fun v1883 k0_hw237 => k0_hw237.2

def k0_off347 (k0_t1 : Fin k0_t1_loop.trips) : Fin 3 → Nat :=
  let c0_1262 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1890 : Index := Scalar.indexCast v1017
  let c109_1263 : Index := 109#32
  ![0, v1890.toNat, 109]
def k0_mult238 (v1891 : BitVec 32) : BitVec 32 :=
  v1891

def k0_off348 (v1891 : BitVec 32) : Fin 2 → Nat :=
  let v1892 : BitVec 32 := v1891
  let v1893 : Index := Scalar.indexCast v1892
  let c0_1264 : Index := 0#32
  ![v1893.toNat, 0]

def k0_chk238 (v1891 : BitVec 32) : Prop :=
  (4 ∣ (k0_mult238 v1891).toNat) ∧
  (∀ a, (k0_off348 v1891) a + S4x128.size a ≤ S65536x128.size a)
theorem k0_mult238_dvd : ∀ (v1891 : BitVec 32) (k0_hw238 : k0_chk238 v1891), 4 ∣ (k0_mult238 v1891).toNat := fun v1891 k0_hw238 => k0_hw238.1
theorem k0_off348_inb : ∀ (v1891 : BitVec 32) (k0_hw238 : k0_chk238 v1891), ∀ a, (k0_off348 v1891) a + S4x128.size a ≤ S65536x128.size a := fun v1891 k0_hw238 => k0_hw238.2

def k0_off349 (k0_t1 : Fin k0_t1_loop.trips) : Fin 3 → Nat :=
  let c0_1267 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1898 : Index := Scalar.indexCast v1017
  let c110_1268 : Index := 110#32
  ![0, v1898.toNat, 110]
def k0_mult239 (v1899 : BitVec 32) : BitVec 32 :=
  v1899

def k0_off350 (v1899 : BitVec 32) : Fin 2 → Nat :=
  let v1900 : BitVec 32 := v1899
  let v1901 : Index := Scalar.indexCast v1900
  let c0_1269 : Index := 0#32
  ![v1901.toNat, 0]

def k0_chk239 (v1899 : BitVec 32) : Prop :=
  (4 ∣ (k0_mult239 v1899).toNat) ∧
  (∀ a, (k0_off350 v1899) a + S4x128.size a ≤ S65536x128.size a)
theorem k0_mult239_dvd : ∀ (v1899 : BitVec 32) (k0_hw239 : k0_chk239 v1899), 4 ∣ (k0_mult239 v1899).toNat := fun v1899 k0_hw239 => k0_hw239.1
theorem k0_off350_inb : ∀ (v1899 : BitVec 32) (k0_hw239 : k0_chk239 v1899), ∀ a, (k0_off350 v1899) a + S4x128.size a ≤ S65536x128.size a := fun v1899 k0_hw239 => k0_hw239.2

def k0_off351 (k0_t1 : Fin k0_t1_loop.trips) : Fin 3 → Nat :=
  let c0_1272 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1906 : Index := Scalar.indexCast v1017
  let c111_1273 : Index := 111#32
  ![0, v1906.toNat, 111]
def k0_mult240 (v1907 : BitVec 32) : BitVec 32 :=
  v1907

def k0_off352 (v1907 : BitVec 32) : Fin 2 → Nat :=
  let v1908 : BitVec 32 := v1907
  let v1909 : Index := Scalar.indexCast v1908
  let c0_1274 : Index := 0#32
  ![v1909.toNat, 0]

def k0_chk240 (v1907 : BitVec 32) : Prop :=
  (4 ∣ (k0_mult240 v1907).toNat) ∧
  (∀ a, (k0_off352 v1907) a + S4x128.size a ≤ S65536x128.size a)
theorem k0_mult240_dvd : ∀ (v1907 : BitVec 32) (k0_hw240 : k0_chk240 v1907), 4 ∣ (k0_mult240 v1907).toNat := fun v1907 k0_hw240 => k0_hw240.1
theorem k0_off352_inb : ∀ (v1907 : BitVec 32) (k0_hw240 : k0_chk240 v1907), ∀ a, (k0_off352 v1907) a + S4x128.size a ≤ S65536x128.size a := fun v1907 k0_hw240 => k0_hw240.2

def k0_off353 (k0_t1 : Fin k0_t1_loop.trips) : Fin 3 → Nat :=
  let c0_1277 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1914 : Index := Scalar.indexCast v1017
  let c112_1278 : Index := 112#32
  ![0, v1914.toNat, 112]
def k0_mult241 (v1915 : BitVec 32) : BitVec 32 :=
  v1915

def k0_off354 (v1915 : BitVec 32) : Fin 2 → Nat :=
  let v1916 : BitVec 32 := v1915
  let v1917 : Index := Scalar.indexCast v1916
  let c0_1279 : Index := 0#32
  ![v1917.toNat, 0]

def k0_chk241 (v1915 : BitVec 32) : Prop :=
  (4 ∣ (k0_mult241 v1915).toNat) ∧
  (∀ a, (k0_off354 v1915) a + S4x128.size a ≤ S65536x128.size a)
theorem k0_mult241_dvd : ∀ (v1915 : BitVec 32) (k0_hw241 : k0_chk241 v1915), 4 ∣ (k0_mult241 v1915).toNat := fun v1915 k0_hw241 => k0_hw241.1
theorem k0_off354_inb : ∀ (v1915 : BitVec 32) (k0_hw241 : k0_chk241 v1915), ∀ a, (k0_off354 v1915) a + S4x128.size a ≤ S65536x128.size a := fun v1915 k0_hw241 => k0_hw241.2

def k0_off355 (k0_t1 : Fin k0_t1_loop.trips) : Fin 3 → Nat :=
  let c0_1282 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1922 : Index := Scalar.indexCast v1017
  let c113_1283 : Index := 113#32
  ![0, v1922.toNat, 113]
def k0_mult242 (v1923 : BitVec 32) : BitVec 32 :=
  v1923

def k0_off356 (v1923 : BitVec 32) : Fin 2 → Nat :=
  let v1924 : BitVec 32 := v1923
  let v1925 : Index := Scalar.indexCast v1924
  let c0_1284 : Index := 0#32
  ![v1925.toNat, 0]

def k0_chk242 (v1923 : BitVec 32) : Prop :=
  (4 ∣ (k0_mult242 v1923).toNat) ∧
  (∀ a, (k0_off356 v1923) a + S4x128.size a ≤ S65536x128.size a)
theorem k0_mult242_dvd : ∀ (v1923 : BitVec 32) (k0_hw242 : k0_chk242 v1923), 4 ∣ (k0_mult242 v1923).toNat := fun v1923 k0_hw242 => k0_hw242.1
theorem k0_off356_inb : ∀ (v1923 : BitVec 32) (k0_hw242 : k0_chk242 v1923), ∀ a, (k0_off356 v1923) a + S4x128.size a ≤ S65536x128.size a := fun v1923 k0_hw242 => k0_hw242.2

def k0_off357 (k0_t1 : Fin k0_t1_loop.trips) : Fin 3 → Nat :=
  let c0_1287 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1930 : Index := Scalar.indexCast v1017
  let c114_1288 : Index := 114#32
  ![0, v1930.toNat, 114]
def k0_mult243 (v1931 : BitVec 32) : BitVec 32 :=
  v1931

def k0_off358 (v1931 : BitVec 32) : Fin 2 → Nat :=
  let v1932 : BitVec 32 := v1931
  let v1933 : Index := Scalar.indexCast v1932
  let c0_1289 : Index := 0#32
  ![v1933.toNat, 0]

def k0_chk243 (v1931 : BitVec 32) : Prop :=
  (4 ∣ (k0_mult243 v1931).toNat) ∧
  (∀ a, (k0_off358 v1931) a + S4x128.size a ≤ S65536x128.size a)
theorem k0_mult243_dvd : ∀ (v1931 : BitVec 32) (k0_hw243 : k0_chk243 v1931), 4 ∣ (k0_mult243 v1931).toNat := fun v1931 k0_hw243 => k0_hw243.1
theorem k0_off358_inb : ∀ (v1931 : BitVec 32) (k0_hw243 : k0_chk243 v1931), ∀ a, (k0_off358 v1931) a + S4x128.size a ≤ S65536x128.size a := fun v1931 k0_hw243 => k0_hw243.2

def k0_off359 (k0_t1 : Fin k0_t1_loop.trips) : Fin 3 → Nat :=
  let c0_1292 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1938 : Index := Scalar.indexCast v1017
  let c115_1293 : Index := 115#32
  ![0, v1938.toNat, 115]
def k0_mult244 (v1939 : BitVec 32) : BitVec 32 :=
  v1939

def k0_off360 (v1939 : BitVec 32) : Fin 2 → Nat :=
  let v1940 : BitVec 32 := v1939
  let v1941 : Index := Scalar.indexCast v1940
  let c0_1294 : Index := 0#32
  ![v1941.toNat, 0]

def k0_chk244 (v1939 : BitVec 32) : Prop :=
  (4 ∣ (k0_mult244 v1939).toNat) ∧
  (∀ a, (k0_off360 v1939) a + S4x128.size a ≤ S65536x128.size a)
theorem k0_mult244_dvd : ∀ (v1939 : BitVec 32) (k0_hw244 : k0_chk244 v1939), 4 ∣ (k0_mult244 v1939).toNat := fun v1939 k0_hw244 => k0_hw244.1
theorem k0_off360_inb : ∀ (v1939 : BitVec 32) (k0_hw244 : k0_chk244 v1939), ∀ a, (k0_off360 v1939) a + S4x128.size a ≤ S65536x128.size a := fun v1939 k0_hw244 => k0_hw244.2

def k0_off361 (k0_t1 : Fin k0_t1_loop.trips) : Fin 3 → Nat :=
  let c0_1297 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1946 : Index := Scalar.indexCast v1017
  let c116_1298 : Index := 116#32
  ![0, v1946.toNat, 116]
def k0_mult245 (v1947 : BitVec 32) : BitVec 32 :=
  v1947

def k0_off362 (v1947 : BitVec 32) : Fin 2 → Nat :=
  let v1948 : BitVec 32 := v1947
  let v1949 : Index := Scalar.indexCast v1948
  let c0_1299 : Index := 0#32
  ![v1949.toNat, 0]

def k0_chk245 (v1947 : BitVec 32) : Prop :=
  (4 ∣ (k0_mult245 v1947).toNat) ∧
  (∀ a, (k0_off362 v1947) a + S4x128.size a ≤ S65536x128.size a)
theorem k0_mult245_dvd : ∀ (v1947 : BitVec 32) (k0_hw245 : k0_chk245 v1947), 4 ∣ (k0_mult245 v1947).toNat := fun v1947 k0_hw245 => k0_hw245.1
theorem k0_off362_inb : ∀ (v1947 : BitVec 32) (k0_hw245 : k0_chk245 v1947), ∀ a, (k0_off362 v1947) a + S4x128.size a ≤ S65536x128.size a := fun v1947 k0_hw245 => k0_hw245.2

def k0_off363 (k0_t1 : Fin k0_t1_loop.trips) : Fin 3 → Nat :=
  let c0_1302 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1954 : Index := Scalar.indexCast v1017
  let c117_1303 : Index := 117#32
  ![0, v1954.toNat, 117]
def k0_mult246 (v1955 : BitVec 32) : BitVec 32 :=
  v1955

def k0_off364 (v1955 : BitVec 32) : Fin 2 → Nat :=
  let v1956 : BitVec 32 := v1955
  let v1957 : Index := Scalar.indexCast v1956
  let c0_1304 : Index := 0#32
  ![v1957.toNat, 0]

def k0_chk246 (v1955 : BitVec 32) : Prop :=
  (4 ∣ (k0_mult246 v1955).toNat) ∧
  (∀ a, (k0_off364 v1955) a + S4x128.size a ≤ S65536x128.size a)
theorem k0_mult246_dvd : ∀ (v1955 : BitVec 32) (k0_hw246 : k0_chk246 v1955), 4 ∣ (k0_mult246 v1955).toNat := fun v1955 k0_hw246 => k0_hw246.1
theorem k0_off364_inb : ∀ (v1955 : BitVec 32) (k0_hw246 : k0_chk246 v1955), ∀ a, (k0_off364 v1955) a + S4x128.size a ≤ S65536x128.size a := fun v1955 k0_hw246 => k0_hw246.2

def k0_off365 (k0_t1 : Fin k0_t1_loop.trips) : Fin 3 → Nat :=
  let c0_1307 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1962 : Index := Scalar.indexCast v1017
  let c118_1308 : Index := 118#32
  ![0, v1962.toNat, 118]
def k0_mult247 (v1963 : BitVec 32) : BitVec 32 :=
  v1963

def k0_off366 (v1963 : BitVec 32) : Fin 2 → Nat :=
  let v1964 : BitVec 32 := v1963
  let v1965 : Index := Scalar.indexCast v1964
  let c0_1309 : Index := 0#32
  ![v1965.toNat, 0]

def k0_chk247 (v1963 : BitVec 32) : Prop :=
  (4 ∣ (k0_mult247 v1963).toNat) ∧
  (∀ a, (k0_off366 v1963) a + S4x128.size a ≤ S65536x128.size a)
theorem k0_mult247_dvd : ∀ (v1963 : BitVec 32) (k0_hw247 : k0_chk247 v1963), 4 ∣ (k0_mult247 v1963).toNat := fun v1963 k0_hw247 => k0_hw247.1
theorem k0_off366_inb : ∀ (v1963 : BitVec 32) (k0_hw247 : k0_chk247 v1963), ∀ a, (k0_off366 v1963) a + S4x128.size a ≤ S65536x128.size a := fun v1963 k0_hw247 => k0_hw247.2

def k0_off367 (k0_t1 : Fin k0_t1_loop.trips) : Fin 3 → Nat :=
  let c0_1312 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1970 : Index := Scalar.indexCast v1017
  let c119_1313 : Index := 119#32
  ![0, v1970.toNat, 119]
def k0_mult248 (v1971 : BitVec 32) : BitVec 32 :=
  v1971

def k0_off368 (v1971 : BitVec 32) : Fin 2 → Nat :=
  let v1972 : BitVec 32 := v1971
  let v1973 : Index := Scalar.indexCast v1972
  let c0_1314 : Index := 0#32
  ![v1973.toNat, 0]

def k0_chk248 (v1971 : BitVec 32) : Prop :=
  (4 ∣ (k0_mult248 v1971).toNat) ∧
  (∀ a, (k0_off368 v1971) a + S4x128.size a ≤ S65536x128.size a)
theorem k0_mult248_dvd : ∀ (v1971 : BitVec 32) (k0_hw248 : k0_chk248 v1971), 4 ∣ (k0_mult248 v1971).toNat := fun v1971 k0_hw248 => k0_hw248.1
theorem k0_off368_inb : ∀ (v1971 : BitVec 32) (k0_hw248 : k0_chk248 v1971), ∀ a, (k0_off368 v1971) a + S4x128.size a ≤ S65536x128.size a := fun v1971 k0_hw248 => k0_hw248.2

def k0_off369 (k0_t1 : Fin k0_t1_loop.trips) : Fin 3 → Nat :=
  let c0_1317 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1978 : Index := Scalar.indexCast v1017
  let c120_1318 : Index := 120#32
  ![0, v1978.toNat, 120]
def k0_mult249 (v1979 : BitVec 32) : BitVec 32 :=
  v1979

def k0_off370 (v1979 : BitVec 32) : Fin 2 → Nat :=
  let v1980 : BitVec 32 := v1979
  let v1981 : Index := Scalar.indexCast v1980
  let c0_1319 : Index := 0#32
  ![v1981.toNat, 0]

def k0_chk249 (v1979 : BitVec 32) : Prop :=
  (4 ∣ (k0_mult249 v1979).toNat) ∧
  (∀ a, (k0_off370 v1979) a + S4x128.size a ≤ S65536x128.size a)
theorem k0_mult249_dvd : ∀ (v1979 : BitVec 32) (k0_hw249 : k0_chk249 v1979), 4 ∣ (k0_mult249 v1979).toNat := fun v1979 k0_hw249 => k0_hw249.1
theorem k0_off370_inb : ∀ (v1979 : BitVec 32) (k0_hw249 : k0_chk249 v1979), ∀ a, (k0_off370 v1979) a + S4x128.size a ≤ S65536x128.size a := fun v1979 k0_hw249 => k0_hw249.2

def k0_off371 (k0_t1 : Fin k0_t1_loop.trips) : Fin 3 → Nat :=
  let c0_1322 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1986 : Index := Scalar.indexCast v1017
  let c121_1323 : Index := 121#32
  ![0, v1986.toNat, 121]
def k0_mult250 (v1987 : BitVec 32) : BitVec 32 :=
  v1987

def k0_off372 (v1987 : BitVec 32) : Fin 2 → Nat :=
  let v1988 : BitVec 32 := v1987
  let v1989 : Index := Scalar.indexCast v1988
  let c0_1324 : Index := 0#32
  ![v1989.toNat, 0]

def k0_chk250 (v1987 : BitVec 32) : Prop :=
  (4 ∣ (k0_mult250 v1987).toNat) ∧
  (∀ a, (k0_off372 v1987) a + S4x128.size a ≤ S65536x128.size a)
theorem k0_mult250_dvd : ∀ (v1987 : BitVec 32) (k0_hw250 : k0_chk250 v1987), 4 ∣ (k0_mult250 v1987).toNat := fun v1987 k0_hw250 => k0_hw250.1
theorem k0_off372_inb : ∀ (v1987 : BitVec 32) (k0_hw250 : k0_chk250 v1987), ∀ a, (k0_off372 v1987) a + S4x128.size a ≤ S65536x128.size a := fun v1987 k0_hw250 => k0_hw250.2

def k0_off373 (k0_t1 : Fin k0_t1_loop.trips) : Fin 3 → Nat :=
  let c0_1327 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v1994 : Index := Scalar.indexCast v1017
  let c122_1328 : Index := 122#32
  ![0, v1994.toNat, 122]
def k0_mult251 (v1995 : BitVec 32) : BitVec 32 :=
  v1995

def k0_off374 (v1995 : BitVec 32) : Fin 2 → Nat :=
  let v1996 : BitVec 32 := v1995
  let v1997 : Index := Scalar.indexCast v1996
  let c0_1329 : Index := 0#32
  ![v1997.toNat, 0]

def k0_chk251 (v1995 : BitVec 32) : Prop :=
  (4 ∣ (k0_mult251 v1995).toNat) ∧
  (∀ a, (k0_off374 v1995) a + S4x128.size a ≤ S65536x128.size a)
theorem k0_mult251_dvd : ∀ (v1995 : BitVec 32) (k0_hw251 : k0_chk251 v1995), 4 ∣ (k0_mult251 v1995).toNat := fun v1995 k0_hw251 => k0_hw251.1
theorem k0_off374_inb : ∀ (v1995 : BitVec 32) (k0_hw251 : k0_chk251 v1995), ∀ a, (k0_off374 v1995) a + S4x128.size a ≤ S65536x128.size a := fun v1995 k0_hw251 => k0_hw251.2

def k0_off375 (k0_t1 : Fin k0_t1_loop.trips) : Fin 3 → Nat :=
  let c0_1332 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v2002 : Index := Scalar.indexCast v1017
  let c123_1333 : Index := 123#32
  ![0, v2002.toNat, 123]
def k0_mult252 (v2003 : BitVec 32) : BitVec 32 :=
  v2003

def k0_off376 (v2003 : BitVec 32) : Fin 2 → Nat :=
  let v2004 : BitVec 32 := v2003
  let v2005 : Index := Scalar.indexCast v2004
  let c0_1334 : Index := 0#32
  ![v2005.toNat, 0]

def k0_chk252 (v2003 : BitVec 32) : Prop :=
  (4 ∣ (k0_mult252 v2003).toNat) ∧
  (∀ a, (k0_off376 v2003) a + S4x128.size a ≤ S65536x128.size a)
theorem k0_mult252_dvd : ∀ (v2003 : BitVec 32) (k0_hw252 : k0_chk252 v2003), 4 ∣ (k0_mult252 v2003).toNat := fun v2003 k0_hw252 => k0_hw252.1
theorem k0_off376_inb : ∀ (v2003 : BitVec 32) (k0_hw252 : k0_chk252 v2003), ∀ a, (k0_off376 v2003) a + S4x128.size a ≤ S65536x128.size a := fun v2003 k0_hw252 => k0_hw252.2

def k0_off377 (k0_t1 : Fin k0_t1_loop.trips) : Fin 3 → Nat :=
  let c0_1337 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v2010 : Index := Scalar.indexCast v1017
  let c124_1338 : Index := 124#32
  ![0, v2010.toNat, 124]
def k0_mult253 (v2011 : BitVec 32) : BitVec 32 :=
  v2011

def k0_off378 (v2011 : BitVec 32) : Fin 2 → Nat :=
  let v2012 : BitVec 32 := v2011
  let v2013 : Index := Scalar.indexCast v2012
  let c0_1339 : Index := 0#32
  ![v2013.toNat, 0]

def k0_chk253 (v2011 : BitVec 32) : Prop :=
  (4 ∣ (k0_mult253 v2011).toNat) ∧
  (∀ a, (k0_off378 v2011) a + S4x128.size a ≤ S65536x128.size a)
theorem k0_mult253_dvd : ∀ (v2011 : BitVec 32) (k0_hw253 : k0_chk253 v2011), 4 ∣ (k0_mult253 v2011).toNat := fun v2011 k0_hw253 => k0_hw253.1
theorem k0_off378_inb : ∀ (v2011 : BitVec 32) (k0_hw253 : k0_chk253 v2011), ∀ a, (k0_off378 v2011) a + S4x128.size a ≤ S65536x128.size a := fun v2011 k0_hw253 => k0_hw253.2

def k0_off379 (k0_t1 : Fin k0_t1_loop.trips) : Fin 3 → Nat :=
  let c0_1342 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v2018 : Index := Scalar.indexCast v1017
  let c125_1343 : Index := 125#32
  ![0, v2018.toNat, 125]
def k0_mult254 (v2019 : BitVec 32) : BitVec 32 :=
  v2019

def k0_off380 (v2019 : BitVec 32) : Fin 2 → Nat :=
  let v2020 : BitVec 32 := v2019
  let v2021 : Index := Scalar.indexCast v2020
  let c0_1344 : Index := 0#32
  ![v2021.toNat, 0]

def k0_chk254 (v2019 : BitVec 32) : Prop :=
  (4 ∣ (k0_mult254 v2019).toNat) ∧
  (∀ a, (k0_off380 v2019) a + S4x128.size a ≤ S65536x128.size a)
theorem k0_mult254_dvd : ∀ (v2019 : BitVec 32) (k0_hw254 : k0_chk254 v2019), 4 ∣ (k0_mult254 v2019).toNat := fun v2019 k0_hw254 => k0_hw254.1
theorem k0_off380_inb : ∀ (v2019 : BitVec 32) (k0_hw254 : k0_chk254 v2019), ∀ a, (k0_off380 v2019) a + S4x128.size a ≤ S65536x128.size a := fun v2019 k0_hw254 => k0_hw254.2

def k0_off381 (k0_t1 : Fin k0_t1_loop.trips) : Fin 3 → Nat :=
  let c0_1347 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v2026 : Index := Scalar.indexCast v1017
  let c126_1348 : Index := 126#32
  ![0, v2026.toNat, 126]
def k0_mult255 (v2027 : BitVec 32) : BitVec 32 :=
  v2027

def k0_off382 (v2027 : BitVec 32) : Fin 2 → Nat :=
  let v2028 : BitVec 32 := v2027
  let v2029 : Index := Scalar.indexCast v2028
  let c0_1349 : Index := 0#32
  ![v2029.toNat, 0]

def k0_chk255 (v2027 : BitVec 32) : Prop :=
  (4 ∣ (k0_mult255 v2027).toNat) ∧
  (∀ a, (k0_off382 v2027) a + S4x128.size a ≤ S65536x128.size a)
theorem k0_mult255_dvd : ∀ (v2027 : BitVec 32) (k0_hw255 : k0_chk255 v2027), 4 ∣ (k0_mult255 v2027).toNat := fun v2027 k0_hw255 => k0_hw255.1
theorem k0_off382_inb : ∀ (v2027 : BitVec 32) (k0_hw255 : k0_chk255 v2027), ∀ a, (k0_off382 v2027) a + S4x128.size a ≤ S65536x128.size a := fun v2027 k0_hw255 => k0_hw255.2

def k0_off383 (k0_t1 : Fin k0_t1_loop.trips) : Fin 3 → Nat :=
  let c0_1352 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_716 : BitVec 32 := 1#32
  let v1017 : BitVec 32 := Scalar.addi v1016 c1_i32_716
  let v2034 : Index := Scalar.indexCast v1017
  let c127_1353 : Index := 127#32
  ![0, v2034.toNat, 127]
def k0_mult256 (v2035 : BitVec 32) : BitVec 32 :=
  v2035

def k0_off384 (v2035 : BitVec 32) : Fin 2 → Nat :=
  let v2036 : BitVec 32 := v2035
  let v2037 : Index := Scalar.indexCast v2036
  let c0_1354 : Index := 0#32
  ![v2037.toNat, 0]

def k0_chk256 (v2035 : BitVec 32) : Prop :=
  (4 ∣ (k0_mult256 v2035).toNat) ∧
  (∀ a, (k0_off384 v2035) a + S4x128.size a ≤ S65536x128.size a)
theorem k0_mult256_dvd : ∀ (v2035 : BitVec 32) (k0_hw256 : k0_chk256 v2035), 4 ∣ (k0_mult256 v2035).toNat := fun v2035 k0_hw256 => k0_hw256.1
theorem k0_off384_inb : ∀ (v2035 : BitVec 32) (k0_hw256 : k0_chk256 v2035), ∀ a, (k0_off384 v2035) a + S4x128.size a ≤ S65536x128.size a := fun v2035 k0_hw256 => k0_hw256.2

def k0_off385 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let v2057 : Index := Scalar.indexCast v1016
  let c0_1365 : Index := 0#32
  let c0_1366 : Index := 0#32
  ![v2057.toNat, 0, 0]
def k0_off386 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let v2065 : Index := Scalar.indexCast v1016
  let c4_1368 : Index := 4#32
  let c0_1369 : Index := 0#32
  ![v2065.toNat, 4, 0]
def k0_off387 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let v2076 : Index := Scalar.indexCast v1016
  let c1_1372 : Index := 1#32
  let c0_1373 : Index := 0#32
  ![v2076.toNat, 1, 0]
def k0_off388 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let v2084 : Index := Scalar.indexCast v1016
  let c5_1375 : Index := 5#32
  let c0_1376 : Index := 0#32
  ![v2084.toNat, 5, 0]
def k0_off389 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let v2095 : Index := Scalar.indexCast v1016
  let c2_1379 : Index := 2#32
  let c0_1380 : Index := 0#32
  ![v2095.toNat, 2, 0]
def k0_off390 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let v2103 : Index := Scalar.indexCast v1016
  let c6_1382 : Index := 6#32
  let c0_1383 : Index := 0#32
  ![v2103.toNat, 6, 0]
def k0_off391 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let v2114 : Index := Scalar.indexCast v1016
  let c3_1386 : Index := 3#32
  let c0_1387 : Index := 0#32
  ![v2114.toNat, 3, 0]
def k0_off392 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let v2122 : Index := Scalar.indexCast v1016
  let c7_1389 : Index := 7#32
  let c0_1390 : Index := 0#32
  ![v2122.toNat, 7, 0]
def k0_off393 (k0_t1 : Fin k0_t1_loop.trips) : Fin 3 → Nat :=
  let c0_1392 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2128 : Index := Scalar.indexCast v2127
  let c0_1393 : Index := 0#32
  ![0, v2128.toNat, 0]
def k0_mult257 (v2129 : BitVec 32) : BitVec 32 :=
  v2129

def k0_off394 (v2129 : BitVec 32) : Fin 2 → Nat :=
  let v2130 : BitVec 32 := v2129
  let v2131 : Index := Scalar.indexCast v2130
  let c0_1394 : Index := 0#32
  ![v2131.toNat, 0]

def k0_chk257 (v2129 : BitVec 32) : Prop :=
  (4 ∣ (k0_mult257 v2129).toNat) ∧
  (∀ a, (k0_off394 v2129) a + S4x128.size a ≤ S65536x128.size a)
theorem k0_mult257_dvd : ∀ (v2129 : BitVec 32) (k0_hw257 : k0_chk257 v2129), 4 ∣ (k0_mult257 v2129).toNat := fun v2129 k0_hw257 => k0_hw257.1
theorem k0_off394_inb : ∀ (v2129 : BitVec 32) (k0_hw257 : k0_chk257 v2129), ∀ a, (k0_off394 v2129) a + S4x128.size a ≤ S65536x128.size a := fun v2129 k0_hw257 => k0_hw257.2

def k0_off395 (k0_t1 : Fin k0_t1_loop.trips) : Fin 3 → Nat :=
  let c0_1397 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2136 : Index := Scalar.indexCast v2127
  let c1_1398 : Index := 1#32
  ![0, v2136.toNat, 1]
def k0_mult258 (v2137 : BitVec 32) : BitVec 32 :=
  v2137

def k0_off396 (v2137 : BitVec 32) : Fin 2 → Nat :=
  let v2138 : BitVec 32 := v2137
  let v2139 : Index := Scalar.indexCast v2138
  let c0_1399 : Index := 0#32
  ![v2139.toNat, 0]

def k0_chk258 (v2137 : BitVec 32) : Prop :=
  (4 ∣ (k0_mult258 v2137).toNat) ∧
  (∀ a, (k0_off396 v2137) a + S4x128.size a ≤ S65536x128.size a)
theorem k0_mult258_dvd : ∀ (v2137 : BitVec 32) (k0_hw258 : k0_chk258 v2137), 4 ∣ (k0_mult258 v2137).toNat := fun v2137 k0_hw258 => k0_hw258.1
theorem k0_off396_inb : ∀ (v2137 : BitVec 32) (k0_hw258 : k0_chk258 v2137), ∀ a, (k0_off396 v2137) a + S4x128.size a ≤ S65536x128.size a := fun v2137 k0_hw258 => k0_hw258.2

def k0_off397 (k0_t1 : Fin k0_t1_loop.trips) : Fin 3 → Nat :=
  let c0_1402 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2144 : Index := Scalar.indexCast v2127
  let c2_1403 : Index := 2#32
  ![0, v2144.toNat, 2]
def k0_mult259 (v2145 : BitVec 32) : BitVec 32 :=
  v2145

def k0_off398 (v2145 : BitVec 32) : Fin 2 → Nat :=
  let v2146 : BitVec 32 := v2145
  let v2147 : Index := Scalar.indexCast v2146
  let c0_1404 : Index := 0#32
  ![v2147.toNat, 0]

def k0_chk259 (v2145 : BitVec 32) : Prop :=
  (4 ∣ (k0_mult259 v2145).toNat) ∧
  (∀ a, (k0_off398 v2145) a + S4x128.size a ≤ S65536x128.size a)
theorem k0_mult259_dvd : ∀ (v2145 : BitVec 32) (k0_hw259 : k0_chk259 v2145), 4 ∣ (k0_mult259 v2145).toNat := fun v2145 k0_hw259 => k0_hw259.1
theorem k0_off398_inb : ∀ (v2145 : BitVec 32) (k0_hw259 : k0_chk259 v2145), ∀ a, (k0_off398 v2145) a + S4x128.size a ≤ S65536x128.size a := fun v2145 k0_hw259 => k0_hw259.2

def k0_off399 (k0_t1 : Fin k0_t1_loop.trips) : Fin 3 → Nat :=
  let c0_1407 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2152 : Index := Scalar.indexCast v2127
  let c3_1408 : Index := 3#32
  ![0, v2152.toNat, 3]
def k0_mult260 (v2153 : BitVec 32) : BitVec 32 :=
  v2153

def k0_off400 (v2153 : BitVec 32) : Fin 2 → Nat :=
  let v2154 : BitVec 32 := v2153
  let v2155 : Index := Scalar.indexCast v2154
  let c0_1409 : Index := 0#32
  ![v2155.toNat, 0]

def k0_chk260 (v2153 : BitVec 32) : Prop :=
  (4 ∣ (k0_mult260 v2153).toNat) ∧
  (∀ a, (k0_off400 v2153) a + S4x128.size a ≤ S65536x128.size a)
theorem k0_mult260_dvd : ∀ (v2153 : BitVec 32) (k0_hw260 : k0_chk260 v2153), 4 ∣ (k0_mult260 v2153).toNat := fun v2153 k0_hw260 => k0_hw260.1
theorem k0_off400_inb : ∀ (v2153 : BitVec 32) (k0_hw260 : k0_chk260 v2153), ∀ a, (k0_off400 v2153) a + S4x128.size a ≤ S65536x128.size a := fun v2153 k0_hw260 => k0_hw260.2

def k0_off401 (k0_t1 : Fin k0_t1_loop.trips) : Fin 3 → Nat :=
  let c0_1412 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2160 : Index := Scalar.indexCast v2127
  let c4_1413 : Index := 4#32
  ![0, v2160.toNat, 4]
def k0_mult261 (v2161 : BitVec 32) : BitVec 32 :=
  v2161

def k0_off402 (v2161 : BitVec 32) : Fin 2 → Nat :=
  let v2162 : BitVec 32 := v2161
  let v2163 : Index := Scalar.indexCast v2162
  let c0_1414 : Index := 0#32
  ![v2163.toNat, 0]

def k0_chk261 (v2161 : BitVec 32) : Prop :=
  (4 ∣ (k0_mult261 v2161).toNat) ∧
  (∀ a, (k0_off402 v2161) a + S4x128.size a ≤ S65536x128.size a)
theorem k0_mult261_dvd : ∀ (v2161 : BitVec 32) (k0_hw261 : k0_chk261 v2161), 4 ∣ (k0_mult261 v2161).toNat := fun v2161 k0_hw261 => k0_hw261.1
theorem k0_off402_inb : ∀ (v2161 : BitVec 32) (k0_hw261 : k0_chk261 v2161), ∀ a, (k0_off402 v2161) a + S4x128.size a ≤ S65536x128.size a := fun v2161 k0_hw261 => k0_hw261.2

def k0_off403 (k0_t1 : Fin k0_t1_loop.trips) : Fin 3 → Nat :=
  let c0_1417 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2168 : Index := Scalar.indexCast v2127
  let c5_1418 : Index := 5#32
  ![0, v2168.toNat, 5]
def k0_mult262 (v2169 : BitVec 32) : BitVec 32 :=
  v2169

def k0_off404 (v2169 : BitVec 32) : Fin 2 → Nat :=
  let v2170 : BitVec 32 := v2169
  let v2171 : Index := Scalar.indexCast v2170
  let c0_1419 : Index := 0#32
  ![v2171.toNat, 0]

def k0_chk262 (v2169 : BitVec 32) : Prop :=
  (4 ∣ (k0_mult262 v2169).toNat) ∧
  (∀ a, (k0_off404 v2169) a + S4x128.size a ≤ S65536x128.size a)
theorem k0_mult262_dvd : ∀ (v2169 : BitVec 32) (k0_hw262 : k0_chk262 v2169), 4 ∣ (k0_mult262 v2169).toNat := fun v2169 k0_hw262 => k0_hw262.1
theorem k0_off404_inb : ∀ (v2169 : BitVec 32) (k0_hw262 : k0_chk262 v2169), ∀ a, (k0_off404 v2169) a + S4x128.size a ≤ S65536x128.size a := fun v2169 k0_hw262 => k0_hw262.2

def k0_off405 (k0_t1 : Fin k0_t1_loop.trips) : Fin 3 → Nat :=
  let c0_1422 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2176 : Index := Scalar.indexCast v2127
  let c6_1423 : Index := 6#32
  ![0, v2176.toNat, 6]
def k0_mult263 (v2177 : BitVec 32) : BitVec 32 :=
  v2177

def k0_off406 (v2177 : BitVec 32) : Fin 2 → Nat :=
  let v2178 : BitVec 32 := v2177
  let v2179 : Index := Scalar.indexCast v2178
  let c0_1424 : Index := 0#32
  ![v2179.toNat, 0]

def k0_chk263 (v2177 : BitVec 32) : Prop :=
  (4 ∣ (k0_mult263 v2177).toNat) ∧
  (∀ a, (k0_off406 v2177) a + S4x128.size a ≤ S65536x128.size a)
theorem k0_mult263_dvd : ∀ (v2177 : BitVec 32) (k0_hw263 : k0_chk263 v2177), 4 ∣ (k0_mult263 v2177).toNat := fun v2177 k0_hw263 => k0_hw263.1
theorem k0_off406_inb : ∀ (v2177 : BitVec 32) (k0_hw263 : k0_chk263 v2177), ∀ a, (k0_off406 v2177) a + S4x128.size a ≤ S65536x128.size a := fun v2177 k0_hw263 => k0_hw263.2

def k0_off407 (k0_t1 : Fin k0_t1_loop.trips) : Fin 3 → Nat :=
  let c0_1427 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2184 : Index := Scalar.indexCast v2127
  let c7_1428 : Index := 7#32
  ![0, v2184.toNat, 7]
def k0_mult264 (v2185 : BitVec 32) : BitVec 32 :=
  v2185

def k0_off408 (v2185 : BitVec 32) : Fin 2 → Nat :=
  let v2186 : BitVec 32 := v2185
  let v2187 : Index := Scalar.indexCast v2186
  let c0_1429 : Index := 0#32
  ![v2187.toNat, 0]

def k0_chk264 (v2185 : BitVec 32) : Prop :=
  (4 ∣ (k0_mult264 v2185).toNat) ∧
  (∀ a, (k0_off408 v2185) a + S4x128.size a ≤ S65536x128.size a)
theorem k0_mult264_dvd : ∀ (v2185 : BitVec 32) (k0_hw264 : k0_chk264 v2185), 4 ∣ (k0_mult264 v2185).toNat := fun v2185 k0_hw264 => k0_hw264.1
theorem k0_off408_inb : ∀ (v2185 : BitVec 32) (k0_hw264 : k0_chk264 v2185), ∀ a, (k0_off408 v2185) a + S4x128.size a ≤ S65536x128.size a := fun v2185 k0_hw264 => k0_hw264.2

def k0_off409 (k0_t1 : Fin k0_t1_loop.trips) : Fin 3 → Nat :=
  let c0_1432 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2192 : Index := Scalar.indexCast v2127
  let c8_1433 : Index := 8#32
  ![0, v2192.toNat, 8]
def k0_mult265 (v2193 : BitVec 32) : BitVec 32 :=
  v2193

def k0_off410 (v2193 : BitVec 32) : Fin 2 → Nat :=
  let v2194 : BitVec 32 := v2193
  let v2195 : Index := Scalar.indexCast v2194
  let c0_1434 : Index := 0#32
  ![v2195.toNat, 0]

def k0_chk265 (v2193 : BitVec 32) : Prop :=
  (4 ∣ (k0_mult265 v2193).toNat) ∧
  (∀ a, (k0_off410 v2193) a + S4x128.size a ≤ S65536x128.size a)
theorem k0_mult265_dvd : ∀ (v2193 : BitVec 32) (k0_hw265 : k0_chk265 v2193), 4 ∣ (k0_mult265 v2193).toNat := fun v2193 k0_hw265 => k0_hw265.1
theorem k0_off410_inb : ∀ (v2193 : BitVec 32) (k0_hw265 : k0_chk265 v2193), ∀ a, (k0_off410 v2193) a + S4x128.size a ≤ S65536x128.size a := fun v2193 k0_hw265 => k0_hw265.2

def k0_off411 (k0_t1 : Fin k0_t1_loop.trips) : Fin 3 → Nat :=
  let c0_1437 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2200 : Index := Scalar.indexCast v2127
  let c9_1438 : Index := 9#32
  ![0, v2200.toNat, 9]
def k0_mult266 (v2201 : BitVec 32) : BitVec 32 :=
  v2201

def k0_off412 (v2201 : BitVec 32) : Fin 2 → Nat :=
  let v2202 : BitVec 32 := v2201
  let v2203 : Index := Scalar.indexCast v2202
  let c0_1439 : Index := 0#32
  ![v2203.toNat, 0]

def k0_chk266 (v2201 : BitVec 32) : Prop :=
  (4 ∣ (k0_mult266 v2201).toNat) ∧
  (∀ a, (k0_off412 v2201) a + S4x128.size a ≤ S65536x128.size a)
theorem k0_mult266_dvd : ∀ (v2201 : BitVec 32) (k0_hw266 : k0_chk266 v2201), 4 ∣ (k0_mult266 v2201).toNat := fun v2201 k0_hw266 => k0_hw266.1
theorem k0_off412_inb : ∀ (v2201 : BitVec 32) (k0_hw266 : k0_chk266 v2201), ∀ a, (k0_off412 v2201) a + S4x128.size a ≤ S65536x128.size a := fun v2201 k0_hw266 => k0_hw266.2

def k0_off413 (k0_t1 : Fin k0_t1_loop.trips) : Fin 3 → Nat :=
  let c0_1442 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2208 : Index := Scalar.indexCast v2127
  let c10_1443 : Index := 10#32
  ![0, v2208.toNat, 10]
def k0_mult267 (v2209 : BitVec 32) : BitVec 32 :=
  v2209

def k0_off414 (v2209 : BitVec 32) : Fin 2 → Nat :=
  let v2210 : BitVec 32 := v2209
  let v2211 : Index := Scalar.indexCast v2210
  let c0_1444 : Index := 0#32
  ![v2211.toNat, 0]

def k0_chk267 (v2209 : BitVec 32) : Prop :=
  (4 ∣ (k0_mult267 v2209).toNat) ∧
  (∀ a, (k0_off414 v2209) a + S4x128.size a ≤ S65536x128.size a)
theorem k0_mult267_dvd : ∀ (v2209 : BitVec 32) (k0_hw267 : k0_chk267 v2209), 4 ∣ (k0_mult267 v2209).toNat := fun v2209 k0_hw267 => k0_hw267.1
theorem k0_off414_inb : ∀ (v2209 : BitVec 32) (k0_hw267 : k0_chk267 v2209), ∀ a, (k0_off414 v2209) a + S4x128.size a ≤ S65536x128.size a := fun v2209 k0_hw267 => k0_hw267.2

def k0_off415 (k0_t1 : Fin k0_t1_loop.trips) : Fin 3 → Nat :=
  let c0_1447 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2216 : Index := Scalar.indexCast v2127
  let c11_1448 : Index := 11#32
  ![0, v2216.toNat, 11]
def k0_mult268 (v2217 : BitVec 32) : BitVec 32 :=
  v2217

def k0_off416 (v2217 : BitVec 32) : Fin 2 → Nat :=
  let v2218 : BitVec 32 := v2217
  let v2219 : Index := Scalar.indexCast v2218
  let c0_1449 : Index := 0#32
  ![v2219.toNat, 0]

def k0_chk268 (v2217 : BitVec 32) : Prop :=
  (4 ∣ (k0_mult268 v2217).toNat) ∧
  (∀ a, (k0_off416 v2217) a + S4x128.size a ≤ S65536x128.size a)
theorem k0_mult268_dvd : ∀ (v2217 : BitVec 32) (k0_hw268 : k0_chk268 v2217), 4 ∣ (k0_mult268 v2217).toNat := fun v2217 k0_hw268 => k0_hw268.1
theorem k0_off416_inb : ∀ (v2217 : BitVec 32) (k0_hw268 : k0_chk268 v2217), ∀ a, (k0_off416 v2217) a + S4x128.size a ≤ S65536x128.size a := fun v2217 k0_hw268 => k0_hw268.2

def k0_off417 (k0_t1 : Fin k0_t1_loop.trips) : Fin 3 → Nat :=
  let c0_1452 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2224 : Index := Scalar.indexCast v2127
  let c12_1453 : Index := 12#32
  ![0, v2224.toNat, 12]
def k0_mult269 (v2225 : BitVec 32) : BitVec 32 :=
  v2225

def k0_off418 (v2225 : BitVec 32) : Fin 2 → Nat :=
  let v2226 : BitVec 32 := v2225
  let v2227 : Index := Scalar.indexCast v2226
  let c0_1454 : Index := 0#32
  ![v2227.toNat, 0]

def k0_chk269 (v2225 : BitVec 32) : Prop :=
  (4 ∣ (k0_mult269 v2225).toNat) ∧
  (∀ a, (k0_off418 v2225) a + S4x128.size a ≤ S65536x128.size a)
theorem k0_mult269_dvd : ∀ (v2225 : BitVec 32) (k0_hw269 : k0_chk269 v2225), 4 ∣ (k0_mult269 v2225).toNat := fun v2225 k0_hw269 => k0_hw269.1
theorem k0_off418_inb : ∀ (v2225 : BitVec 32) (k0_hw269 : k0_chk269 v2225), ∀ a, (k0_off418 v2225) a + S4x128.size a ≤ S65536x128.size a := fun v2225 k0_hw269 => k0_hw269.2

def k0_off419 (k0_t1 : Fin k0_t1_loop.trips) : Fin 3 → Nat :=
  let c0_1457 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2232 : Index := Scalar.indexCast v2127
  let c13_1458 : Index := 13#32
  ![0, v2232.toNat, 13]
def k0_mult270 (v2233 : BitVec 32) : BitVec 32 :=
  v2233

def k0_off420 (v2233 : BitVec 32) : Fin 2 → Nat :=
  let v2234 : BitVec 32 := v2233
  let v2235 : Index := Scalar.indexCast v2234
  let c0_1459 : Index := 0#32
  ![v2235.toNat, 0]

def k0_chk270 (v2233 : BitVec 32) : Prop :=
  (4 ∣ (k0_mult270 v2233).toNat) ∧
  (∀ a, (k0_off420 v2233) a + S4x128.size a ≤ S65536x128.size a)
theorem k0_mult270_dvd : ∀ (v2233 : BitVec 32) (k0_hw270 : k0_chk270 v2233), 4 ∣ (k0_mult270 v2233).toNat := fun v2233 k0_hw270 => k0_hw270.1
theorem k0_off420_inb : ∀ (v2233 : BitVec 32) (k0_hw270 : k0_chk270 v2233), ∀ a, (k0_off420 v2233) a + S4x128.size a ≤ S65536x128.size a := fun v2233 k0_hw270 => k0_hw270.2

def k0_off421 (k0_t1 : Fin k0_t1_loop.trips) : Fin 3 → Nat :=
  let c0_1462 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2240 : Index := Scalar.indexCast v2127
  let c14_1463 : Index := 14#32
  ![0, v2240.toNat, 14]
def k0_mult271 (v2241 : BitVec 32) : BitVec 32 :=
  v2241

def k0_off422 (v2241 : BitVec 32) : Fin 2 → Nat :=
  let v2242 : BitVec 32 := v2241
  let v2243 : Index := Scalar.indexCast v2242
  let c0_1464 : Index := 0#32
  ![v2243.toNat, 0]

def k0_chk271 (v2241 : BitVec 32) : Prop :=
  (4 ∣ (k0_mult271 v2241).toNat) ∧
  (∀ a, (k0_off422 v2241) a + S4x128.size a ≤ S65536x128.size a)
theorem k0_mult271_dvd : ∀ (v2241 : BitVec 32) (k0_hw271 : k0_chk271 v2241), 4 ∣ (k0_mult271 v2241).toNat := fun v2241 k0_hw271 => k0_hw271.1
theorem k0_off422_inb : ∀ (v2241 : BitVec 32) (k0_hw271 : k0_chk271 v2241), ∀ a, (k0_off422 v2241) a + S4x128.size a ≤ S65536x128.size a := fun v2241 k0_hw271 => k0_hw271.2

def k0_off423 (k0_t1 : Fin k0_t1_loop.trips) : Fin 3 → Nat :=
  let c0_1467 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2248 : Index := Scalar.indexCast v2127
  let c15_1468 : Index := 15#32
  ![0, v2248.toNat, 15]
def k0_mult272 (v2249 : BitVec 32) : BitVec 32 :=
  v2249

def k0_off424 (v2249 : BitVec 32) : Fin 2 → Nat :=
  let v2250 : BitVec 32 := v2249
  let v2251 : Index := Scalar.indexCast v2250
  let c0_1469 : Index := 0#32
  ![v2251.toNat, 0]

def k0_chk272 (v2249 : BitVec 32) : Prop :=
  (4 ∣ (k0_mult272 v2249).toNat) ∧
  (∀ a, (k0_off424 v2249) a + S4x128.size a ≤ S65536x128.size a)
theorem k0_mult272_dvd : ∀ (v2249 : BitVec 32) (k0_hw272 : k0_chk272 v2249), 4 ∣ (k0_mult272 v2249).toNat := fun v2249 k0_hw272 => k0_hw272.1
theorem k0_off424_inb : ∀ (v2249 : BitVec 32) (k0_hw272 : k0_chk272 v2249), ∀ a, (k0_off424 v2249) a + S4x128.size a ≤ S65536x128.size a := fun v2249 k0_hw272 => k0_hw272.2

def k0_off425 (k0_t1 : Fin k0_t1_loop.trips) : Fin 3 → Nat :=
  let c0_1472 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2256 : Index := Scalar.indexCast v2127
  let c16_1473 : Index := 16#32
  ![0, v2256.toNat, 16]
def k0_mult273 (v2257 : BitVec 32) : BitVec 32 :=
  v2257

def k0_off426 (v2257 : BitVec 32) : Fin 2 → Nat :=
  let v2258 : BitVec 32 := v2257
  let v2259 : Index := Scalar.indexCast v2258
  let c0_1474 : Index := 0#32
  ![v2259.toNat, 0]

def k0_chk273 (v2257 : BitVec 32) : Prop :=
  (4 ∣ (k0_mult273 v2257).toNat) ∧
  (∀ a, (k0_off426 v2257) a + S4x128.size a ≤ S65536x128.size a)
theorem k0_mult273_dvd : ∀ (v2257 : BitVec 32) (k0_hw273 : k0_chk273 v2257), 4 ∣ (k0_mult273 v2257).toNat := fun v2257 k0_hw273 => k0_hw273.1
theorem k0_off426_inb : ∀ (v2257 : BitVec 32) (k0_hw273 : k0_chk273 v2257), ∀ a, (k0_off426 v2257) a + S4x128.size a ≤ S65536x128.size a := fun v2257 k0_hw273 => k0_hw273.2

def k0_off427 (k0_t1 : Fin k0_t1_loop.trips) : Fin 3 → Nat :=
  let c0_1477 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2264 : Index := Scalar.indexCast v2127
  let c17_1478 : Index := 17#32
  ![0, v2264.toNat, 17]
def k0_mult274 (v2265 : BitVec 32) : BitVec 32 :=
  v2265

def k0_off428 (v2265 : BitVec 32) : Fin 2 → Nat :=
  let v2266 : BitVec 32 := v2265
  let v2267 : Index := Scalar.indexCast v2266
  let c0_1479 : Index := 0#32
  ![v2267.toNat, 0]

def k0_chk274 (v2265 : BitVec 32) : Prop :=
  (4 ∣ (k0_mult274 v2265).toNat) ∧
  (∀ a, (k0_off428 v2265) a + S4x128.size a ≤ S65536x128.size a)
theorem k0_mult274_dvd : ∀ (v2265 : BitVec 32) (k0_hw274 : k0_chk274 v2265), 4 ∣ (k0_mult274 v2265).toNat := fun v2265 k0_hw274 => k0_hw274.1
theorem k0_off428_inb : ∀ (v2265 : BitVec 32) (k0_hw274 : k0_chk274 v2265), ∀ a, (k0_off428 v2265) a + S4x128.size a ≤ S65536x128.size a := fun v2265 k0_hw274 => k0_hw274.2

def k0_off429 (k0_t1 : Fin k0_t1_loop.trips) : Fin 3 → Nat :=
  let c0_1482 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2272 : Index := Scalar.indexCast v2127
  let c18_1483 : Index := 18#32
  ![0, v2272.toNat, 18]
def k0_mult275 (v2273 : BitVec 32) : BitVec 32 :=
  v2273

def k0_off430 (v2273 : BitVec 32) : Fin 2 → Nat :=
  let v2274 : BitVec 32 := v2273
  let v2275 : Index := Scalar.indexCast v2274
  let c0_1484 : Index := 0#32
  ![v2275.toNat, 0]

def k0_chk275 (v2273 : BitVec 32) : Prop :=
  (4 ∣ (k0_mult275 v2273).toNat) ∧
  (∀ a, (k0_off430 v2273) a + S4x128.size a ≤ S65536x128.size a)
theorem k0_mult275_dvd : ∀ (v2273 : BitVec 32) (k0_hw275 : k0_chk275 v2273), 4 ∣ (k0_mult275 v2273).toNat := fun v2273 k0_hw275 => k0_hw275.1
theorem k0_off430_inb : ∀ (v2273 : BitVec 32) (k0_hw275 : k0_chk275 v2273), ∀ a, (k0_off430 v2273) a + S4x128.size a ≤ S65536x128.size a := fun v2273 k0_hw275 => k0_hw275.2

def k0_off431 (k0_t1 : Fin k0_t1_loop.trips) : Fin 3 → Nat :=
  let c0_1487 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2280 : Index := Scalar.indexCast v2127
  let c19_1488 : Index := 19#32
  ![0, v2280.toNat, 19]
def k0_mult276 (v2281 : BitVec 32) : BitVec 32 :=
  v2281

def k0_off432 (v2281 : BitVec 32) : Fin 2 → Nat :=
  let v2282 : BitVec 32 := v2281
  let v2283 : Index := Scalar.indexCast v2282
  let c0_1489 : Index := 0#32
  ![v2283.toNat, 0]

def k0_chk276 (v2281 : BitVec 32) : Prop :=
  (4 ∣ (k0_mult276 v2281).toNat) ∧
  (∀ a, (k0_off432 v2281) a + S4x128.size a ≤ S65536x128.size a)
theorem k0_mult276_dvd : ∀ (v2281 : BitVec 32) (k0_hw276 : k0_chk276 v2281), 4 ∣ (k0_mult276 v2281).toNat := fun v2281 k0_hw276 => k0_hw276.1
theorem k0_off432_inb : ∀ (v2281 : BitVec 32) (k0_hw276 : k0_chk276 v2281), ∀ a, (k0_off432 v2281) a + S4x128.size a ≤ S65536x128.size a := fun v2281 k0_hw276 => k0_hw276.2

def k0_off433 (k0_t1 : Fin k0_t1_loop.trips) : Fin 3 → Nat :=
  let c0_1492 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2288 : Index := Scalar.indexCast v2127
  let c20_1493 : Index := 20#32
  ![0, v2288.toNat, 20]
def k0_mult277 (v2289 : BitVec 32) : BitVec 32 :=
  v2289

def k0_off434 (v2289 : BitVec 32) : Fin 2 → Nat :=
  let v2290 : BitVec 32 := v2289
  let v2291 : Index := Scalar.indexCast v2290
  let c0_1494 : Index := 0#32
  ![v2291.toNat, 0]

def k0_chk277 (v2289 : BitVec 32) : Prop :=
  (4 ∣ (k0_mult277 v2289).toNat) ∧
  (∀ a, (k0_off434 v2289) a + S4x128.size a ≤ S65536x128.size a)
theorem k0_mult277_dvd : ∀ (v2289 : BitVec 32) (k0_hw277 : k0_chk277 v2289), 4 ∣ (k0_mult277 v2289).toNat := fun v2289 k0_hw277 => k0_hw277.1
theorem k0_off434_inb : ∀ (v2289 : BitVec 32) (k0_hw277 : k0_chk277 v2289), ∀ a, (k0_off434 v2289) a + S4x128.size a ≤ S65536x128.size a := fun v2289 k0_hw277 => k0_hw277.2

def k0_off435 (k0_t1 : Fin k0_t1_loop.trips) : Fin 3 → Nat :=
  let c0_1497 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2296 : Index := Scalar.indexCast v2127
  let c21_1498 : Index := 21#32
  ![0, v2296.toNat, 21]
def k0_mult278 (v2297 : BitVec 32) : BitVec 32 :=
  v2297

def k0_off436 (v2297 : BitVec 32) : Fin 2 → Nat :=
  let v2298 : BitVec 32 := v2297
  let v2299 : Index := Scalar.indexCast v2298
  let c0_1499 : Index := 0#32
  ![v2299.toNat, 0]

def k0_chk278 (v2297 : BitVec 32) : Prop :=
  (4 ∣ (k0_mult278 v2297).toNat) ∧
  (∀ a, (k0_off436 v2297) a + S4x128.size a ≤ S65536x128.size a)
theorem k0_mult278_dvd : ∀ (v2297 : BitVec 32) (k0_hw278 : k0_chk278 v2297), 4 ∣ (k0_mult278 v2297).toNat := fun v2297 k0_hw278 => k0_hw278.1
theorem k0_off436_inb : ∀ (v2297 : BitVec 32) (k0_hw278 : k0_chk278 v2297), ∀ a, (k0_off436 v2297) a + S4x128.size a ≤ S65536x128.size a := fun v2297 k0_hw278 => k0_hw278.2

def k0_off437 (k0_t1 : Fin k0_t1_loop.trips) : Fin 3 → Nat :=
  let c0_1502 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2304 : Index := Scalar.indexCast v2127
  let c22_1503 : Index := 22#32
  ![0, v2304.toNat, 22]
def k0_mult279 (v2305 : BitVec 32) : BitVec 32 :=
  v2305

def k0_off438 (v2305 : BitVec 32) : Fin 2 → Nat :=
  let v2306 : BitVec 32 := v2305
  let v2307 : Index := Scalar.indexCast v2306
  let c0_1504 : Index := 0#32
  ![v2307.toNat, 0]

def k0_chk279 (v2305 : BitVec 32) : Prop :=
  (4 ∣ (k0_mult279 v2305).toNat) ∧
  (∀ a, (k0_off438 v2305) a + S4x128.size a ≤ S65536x128.size a)
theorem k0_mult279_dvd : ∀ (v2305 : BitVec 32) (k0_hw279 : k0_chk279 v2305), 4 ∣ (k0_mult279 v2305).toNat := fun v2305 k0_hw279 => k0_hw279.1
theorem k0_off438_inb : ∀ (v2305 : BitVec 32) (k0_hw279 : k0_chk279 v2305), ∀ a, (k0_off438 v2305) a + S4x128.size a ≤ S65536x128.size a := fun v2305 k0_hw279 => k0_hw279.2

def k0_off439 (k0_t1 : Fin k0_t1_loop.trips) : Fin 3 → Nat :=
  let c0_1507 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2312 : Index := Scalar.indexCast v2127
  let c23_1508 : Index := 23#32
  ![0, v2312.toNat, 23]
def k0_mult280 (v2313 : BitVec 32) : BitVec 32 :=
  v2313

def k0_off440 (v2313 : BitVec 32) : Fin 2 → Nat :=
  let v2314 : BitVec 32 := v2313
  let v2315 : Index := Scalar.indexCast v2314
  let c0_1509 : Index := 0#32
  ![v2315.toNat, 0]

def k0_chk280 (v2313 : BitVec 32) : Prop :=
  (4 ∣ (k0_mult280 v2313).toNat) ∧
  (∀ a, (k0_off440 v2313) a + S4x128.size a ≤ S65536x128.size a)
theorem k0_mult280_dvd : ∀ (v2313 : BitVec 32) (k0_hw280 : k0_chk280 v2313), 4 ∣ (k0_mult280 v2313).toNat := fun v2313 k0_hw280 => k0_hw280.1
theorem k0_off440_inb : ∀ (v2313 : BitVec 32) (k0_hw280 : k0_chk280 v2313), ∀ a, (k0_off440 v2313) a + S4x128.size a ≤ S65536x128.size a := fun v2313 k0_hw280 => k0_hw280.2

def k0_off441 (k0_t1 : Fin k0_t1_loop.trips) : Fin 3 → Nat :=
  let c0_1512 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2320 : Index := Scalar.indexCast v2127
  let c24_1513 : Index := 24#32
  ![0, v2320.toNat, 24]
def k0_mult281 (v2321 : BitVec 32) : BitVec 32 :=
  v2321

def k0_off442 (v2321 : BitVec 32) : Fin 2 → Nat :=
  let v2322 : BitVec 32 := v2321
  let v2323 : Index := Scalar.indexCast v2322
  let c0_1514 : Index := 0#32
  ![v2323.toNat, 0]

def k0_chk281 (v2321 : BitVec 32) : Prop :=
  (4 ∣ (k0_mult281 v2321).toNat) ∧
  (∀ a, (k0_off442 v2321) a + S4x128.size a ≤ S65536x128.size a)
theorem k0_mult281_dvd : ∀ (v2321 : BitVec 32) (k0_hw281 : k0_chk281 v2321), 4 ∣ (k0_mult281 v2321).toNat := fun v2321 k0_hw281 => k0_hw281.1
theorem k0_off442_inb : ∀ (v2321 : BitVec 32) (k0_hw281 : k0_chk281 v2321), ∀ a, (k0_off442 v2321) a + S4x128.size a ≤ S65536x128.size a := fun v2321 k0_hw281 => k0_hw281.2

def k0_off443 (k0_t1 : Fin k0_t1_loop.trips) : Fin 3 → Nat :=
  let c0_1517 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2328 : Index := Scalar.indexCast v2127
  let c25_1518 : Index := 25#32
  ![0, v2328.toNat, 25]
def k0_mult282 (v2329 : BitVec 32) : BitVec 32 :=
  v2329

def k0_off444 (v2329 : BitVec 32) : Fin 2 → Nat :=
  let v2330 : BitVec 32 := v2329
  let v2331 : Index := Scalar.indexCast v2330
  let c0_1519 : Index := 0#32
  ![v2331.toNat, 0]

def k0_chk282 (v2329 : BitVec 32) : Prop :=
  (4 ∣ (k0_mult282 v2329).toNat) ∧
  (∀ a, (k0_off444 v2329) a + S4x128.size a ≤ S65536x128.size a)
theorem k0_mult282_dvd : ∀ (v2329 : BitVec 32) (k0_hw282 : k0_chk282 v2329), 4 ∣ (k0_mult282 v2329).toNat := fun v2329 k0_hw282 => k0_hw282.1
theorem k0_off444_inb : ∀ (v2329 : BitVec 32) (k0_hw282 : k0_chk282 v2329), ∀ a, (k0_off444 v2329) a + S4x128.size a ≤ S65536x128.size a := fun v2329 k0_hw282 => k0_hw282.2

def k0_off445 (k0_t1 : Fin k0_t1_loop.trips) : Fin 3 → Nat :=
  let c0_1522 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2336 : Index := Scalar.indexCast v2127
  let c26_1523 : Index := 26#32
  ![0, v2336.toNat, 26]
def k0_mult283 (v2337 : BitVec 32) : BitVec 32 :=
  v2337

def k0_off446 (v2337 : BitVec 32) : Fin 2 → Nat :=
  let v2338 : BitVec 32 := v2337
  let v2339 : Index := Scalar.indexCast v2338
  let c0_1524 : Index := 0#32
  ![v2339.toNat, 0]

def k0_chk283 (v2337 : BitVec 32) : Prop :=
  (4 ∣ (k0_mult283 v2337).toNat) ∧
  (∀ a, (k0_off446 v2337) a + S4x128.size a ≤ S65536x128.size a)
theorem k0_mult283_dvd : ∀ (v2337 : BitVec 32) (k0_hw283 : k0_chk283 v2337), 4 ∣ (k0_mult283 v2337).toNat := fun v2337 k0_hw283 => k0_hw283.1
theorem k0_off446_inb : ∀ (v2337 : BitVec 32) (k0_hw283 : k0_chk283 v2337), ∀ a, (k0_off446 v2337) a + S4x128.size a ≤ S65536x128.size a := fun v2337 k0_hw283 => k0_hw283.2

def k0_off447 (k0_t1 : Fin k0_t1_loop.trips) : Fin 3 → Nat :=
  let c0_1527 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2344 : Index := Scalar.indexCast v2127
  let c27_1528 : Index := 27#32
  ![0, v2344.toNat, 27]
def k0_mult284 (v2345 : BitVec 32) : BitVec 32 :=
  v2345

def k0_off448 (v2345 : BitVec 32) : Fin 2 → Nat :=
  let v2346 : BitVec 32 := v2345
  let v2347 : Index := Scalar.indexCast v2346
  let c0_1529 : Index := 0#32
  ![v2347.toNat, 0]

def k0_chk284 (v2345 : BitVec 32) : Prop :=
  (4 ∣ (k0_mult284 v2345).toNat) ∧
  (∀ a, (k0_off448 v2345) a + S4x128.size a ≤ S65536x128.size a)
theorem k0_mult284_dvd : ∀ (v2345 : BitVec 32) (k0_hw284 : k0_chk284 v2345), 4 ∣ (k0_mult284 v2345).toNat := fun v2345 k0_hw284 => k0_hw284.1
theorem k0_off448_inb : ∀ (v2345 : BitVec 32) (k0_hw284 : k0_chk284 v2345), ∀ a, (k0_off448 v2345) a + S4x128.size a ≤ S65536x128.size a := fun v2345 k0_hw284 => k0_hw284.2

def k0_off449 (k0_t1 : Fin k0_t1_loop.trips) : Fin 3 → Nat :=
  let c0_1532 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2352 : Index := Scalar.indexCast v2127
  let c28_1533 : Index := 28#32
  ![0, v2352.toNat, 28]
def k0_mult285 (v2353 : BitVec 32) : BitVec 32 :=
  v2353

def k0_off450 (v2353 : BitVec 32) : Fin 2 → Nat :=
  let v2354 : BitVec 32 := v2353
  let v2355 : Index := Scalar.indexCast v2354
  let c0_1534 : Index := 0#32
  ![v2355.toNat, 0]

def k0_chk285 (v2353 : BitVec 32) : Prop :=
  (4 ∣ (k0_mult285 v2353).toNat) ∧
  (∀ a, (k0_off450 v2353) a + S4x128.size a ≤ S65536x128.size a)
theorem k0_mult285_dvd : ∀ (v2353 : BitVec 32) (k0_hw285 : k0_chk285 v2353), 4 ∣ (k0_mult285 v2353).toNat := fun v2353 k0_hw285 => k0_hw285.1
theorem k0_off450_inb : ∀ (v2353 : BitVec 32) (k0_hw285 : k0_chk285 v2353), ∀ a, (k0_off450 v2353) a + S4x128.size a ≤ S65536x128.size a := fun v2353 k0_hw285 => k0_hw285.2

def k0_off451 (k0_t1 : Fin k0_t1_loop.trips) : Fin 3 → Nat :=
  let c0_1537 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2360 : Index := Scalar.indexCast v2127
  let c29_1538 : Index := 29#32
  ![0, v2360.toNat, 29]
def k0_mult286 (v2361 : BitVec 32) : BitVec 32 :=
  v2361

def k0_off452 (v2361 : BitVec 32) : Fin 2 → Nat :=
  let v2362 : BitVec 32 := v2361
  let v2363 : Index := Scalar.indexCast v2362
  let c0_1539 : Index := 0#32
  ![v2363.toNat, 0]

def k0_chk286 (v2361 : BitVec 32) : Prop :=
  (4 ∣ (k0_mult286 v2361).toNat) ∧
  (∀ a, (k0_off452 v2361) a + S4x128.size a ≤ S65536x128.size a)
theorem k0_mult286_dvd : ∀ (v2361 : BitVec 32) (k0_hw286 : k0_chk286 v2361), 4 ∣ (k0_mult286 v2361).toNat := fun v2361 k0_hw286 => k0_hw286.1
theorem k0_off452_inb : ∀ (v2361 : BitVec 32) (k0_hw286 : k0_chk286 v2361), ∀ a, (k0_off452 v2361) a + S4x128.size a ≤ S65536x128.size a := fun v2361 k0_hw286 => k0_hw286.2

def k0_off453 (k0_t1 : Fin k0_t1_loop.trips) : Fin 3 → Nat :=
  let c0_1542 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2368 : Index := Scalar.indexCast v2127
  let c30_1543 : Index := 30#32
  ![0, v2368.toNat, 30]
def k0_mult287 (v2369 : BitVec 32) : BitVec 32 :=
  v2369

def k0_off454 (v2369 : BitVec 32) : Fin 2 → Nat :=
  let v2370 : BitVec 32 := v2369
  let v2371 : Index := Scalar.indexCast v2370
  let c0_1544 : Index := 0#32
  ![v2371.toNat, 0]

def k0_chk287 (v2369 : BitVec 32) : Prop :=
  (4 ∣ (k0_mult287 v2369).toNat) ∧
  (∀ a, (k0_off454 v2369) a + S4x128.size a ≤ S65536x128.size a)
theorem k0_mult287_dvd : ∀ (v2369 : BitVec 32) (k0_hw287 : k0_chk287 v2369), 4 ∣ (k0_mult287 v2369).toNat := fun v2369 k0_hw287 => k0_hw287.1
theorem k0_off454_inb : ∀ (v2369 : BitVec 32) (k0_hw287 : k0_chk287 v2369), ∀ a, (k0_off454 v2369) a + S4x128.size a ≤ S65536x128.size a := fun v2369 k0_hw287 => k0_hw287.2

def k0_off455 (k0_t1 : Fin k0_t1_loop.trips) : Fin 3 → Nat :=
  let c0_1547 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2376 : Index := Scalar.indexCast v2127
  let c31_1548 : Index := 31#32
  ![0, v2376.toNat, 31]
def k0_mult288 (v2377 : BitVec 32) : BitVec 32 :=
  v2377

def k0_off456 (v2377 : BitVec 32) : Fin 2 → Nat :=
  let v2378 : BitVec 32 := v2377
  let v2379 : Index := Scalar.indexCast v2378
  let c0_1549 : Index := 0#32
  ![v2379.toNat, 0]

def k0_chk288 (v2377 : BitVec 32) : Prop :=
  (4 ∣ (k0_mult288 v2377).toNat) ∧
  (∀ a, (k0_off456 v2377) a + S4x128.size a ≤ S65536x128.size a)
theorem k0_mult288_dvd : ∀ (v2377 : BitVec 32) (k0_hw288 : k0_chk288 v2377), 4 ∣ (k0_mult288 v2377).toNat := fun v2377 k0_hw288 => k0_hw288.1
theorem k0_off456_inb : ∀ (v2377 : BitVec 32) (k0_hw288 : k0_chk288 v2377), ∀ a, (k0_off456 v2377) a + S4x128.size a ≤ S65536x128.size a := fun v2377 k0_hw288 => k0_hw288.2

def k0_off457 (k0_t1 : Fin k0_t1_loop.trips) : Fin 3 → Nat :=
  let c0_1552 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2384 : Index := Scalar.indexCast v2127
  let c32_1553 : Index := 32#32
  ![0, v2384.toNat, 32]
def k0_mult289 (v2385 : BitVec 32) : BitVec 32 :=
  v2385

def k0_off458 (v2385 : BitVec 32) : Fin 2 → Nat :=
  let v2386 : BitVec 32 := v2385
  let v2387 : Index := Scalar.indexCast v2386
  let c0_1554 : Index := 0#32
  ![v2387.toNat, 0]

def k0_chk289 (v2385 : BitVec 32) : Prop :=
  (4 ∣ (k0_mult289 v2385).toNat) ∧
  (∀ a, (k0_off458 v2385) a + S4x128.size a ≤ S65536x128.size a)
theorem k0_mult289_dvd : ∀ (v2385 : BitVec 32) (k0_hw289 : k0_chk289 v2385), 4 ∣ (k0_mult289 v2385).toNat := fun v2385 k0_hw289 => k0_hw289.1
theorem k0_off458_inb : ∀ (v2385 : BitVec 32) (k0_hw289 : k0_chk289 v2385), ∀ a, (k0_off458 v2385) a + S4x128.size a ≤ S65536x128.size a := fun v2385 k0_hw289 => k0_hw289.2

def k0_off459 (k0_t1 : Fin k0_t1_loop.trips) : Fin 3 → Nat :=
  let c0_1557 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2392 : Index := Scalar.indexCast v2127
  let c33_1558 : Index := 33#32
  ![0, v2392.toNat, 33]
def k0_mult290 (v2393 : BitVec 32) : BitVec 32 :=
  v2393

def k0_off460 (v2393 : BitVec 32) : Fin 2 → Nat :=
  let v2394 : BitVec 32 := v2393
  let v2395 : Index := Scalar.indexCast v2394
  let c0_1559 : Index := 0#32
  ![v2395.toNat, 0]

def k0_chk290 (v2393 : BitVec 32) : Prop :=
  (4 ∣ (k0_mult290 v2393).toNat) ∧
  (∀ a, (k0_off460 v2393) a + S4x128.size a ≤ S65536x128.size a)
theorem k0_mult290_dvd : ∀ (v2393 : BitVec 32) (k0_hw290 : k0_chk290 v2393), 4 ∣ (k0_mult290 v2393).toNat := fun v2393 k0_hw290 => k0_hw290.1
theorem k0_off460_inb : ∀ (v2393 : BitVec 32) (k0_hw290 : k0_chk290 v2393), ∀ a, (k0_off460 v2393) a + S4x128.size a ≤ S65536x128.size a := fun v2393 k0_hw290 => k0_hw290.2

def k0_off461 (k0_t1 : Fin k0_t1_loop.trips) : Fin 3 → Nat :=
  let c0_1562 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2400 : Index := Scalar.indexCast v2127
  let c34_1563 : Index := 34#32
  ![0, v2400.toNat, 34]
def k0_mult291 (v2401 : BitVec 32) : BitVec 32 :=
  v2401

def k0_off462 (v2401 : BitVec 32) : Fin 2 → Nat :=
  let v2402 : BitVec 32 := v2401
  let v2403 : Index := Scalar.indexCast v2402
  let c0_1564 : Index := 0#32
  ![v2403.toNat, 0]

def k0_chk291 (v2401 : BitVec 32) : Prop :=
  (4 ∣ (k0_mult291 v2401).toNat) ∧
  (∀ a, (k0_off462 v2401) a + S4x128.size a ≤ S65536x128.size a)
theorem k0_mult291_dvd : ∀ (v2401 : BitVec 32) (k0_hw291 : k0_chk291 v2401), 4 ∣ (k0_mult291 v2401).toNat := fun v2401 k0_hw291 => k0_hw291.1
theorem k0_off462_inb : ∀ (v2401 : BitVec 32) (k0_hw291 : k0_chk291 v2401), ∀ a, (k0_off462 v2401) a + S4x128.size a ≤ S65536x128.size a := fun v2401 k0_hw291 => k0_hw291.2

def k0_off463 (k0_t1 : Fin k0_t1_loop.trips) : Fin 3 → Nat :=
  let c0_1567 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2408 : Index := Scalar.indexCast v2127
  let c35_1568 : Index := 35#32
  ![0, v2408.toNat, 35]
def k0_mult292 (v2409 : BitVec 32) : BitVec 32 :=
  v2409

def k0_off464 (v2409 : BitVec 32) : Fin 2 → Nat :=
  let v2410 : BitVec 32 := v2409
  let v2411 : Index := Scalar.indexCast v2410
  let c0_1569 : Index := 0#32
  ![v2411.toNat, 0]

def k0_chk292 (v2409 : BitVec 32) : Prop :=
  (4 ∣ (k0_mult292 v2409).toNat) ∧
  (∀ a, (k0_off464 v2409) a + S4x128.size a ≤ S65536x128.size a)
theorem k0_mult292_dvd : ∀ (v2409 : BitVec 32) (k0_hw292 : k0_chk292 v2409), 4 ∣ (k0_mult292 v2409).toNat := fun v2409 k0_hw292 => k0_hw292.1
theorem k0_off464_inb : ∀ (v2409 : BitVec 32) (k0_hw292 : k0_chk292 v2409), ∀ a, (k0_off464 v2409) a + S4x128.size a ≤ S65536x128.size a := fun v2409 k0_hw292 => k0_hw292.2

def k0_off465 (k0_t1 : Fin k0_t1_loop.trips) : Fin 3 → Nat :=
  let c0_1572 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2416 : Index := Scalar.indexCast v2127
  let c36_1573 : Index := 36#32
  ![0, v2416.toNat, 36]
def k0_mult293 (v2417 : BitVec 32) : BitVec 32 :=
  v2417

def k0_off466 (v2417 : BitVec 32) : Fin 2 → Nat :=
  let v2418 : BitVec 32 := v2417
  let v2419 : Index := Scalar.indexCast v2418
  let c0_1574 : Index := 0#32
  ![v2419.toNat, 0]

def k0_chk293 (v2417 : BitVec 32) : Prop :=
  (4 ∣ (k0_mult293 v2417).toNat) ∧
  (∀ a, (k0_off466 v2417) a + S4x128.size a ≤ S65536x128.size a)
theorem k0_mult293_dvd : ∀ (v2417 : BitVec 32) (k0_hw293 : k0_chk293 v2417), 4 ∣ (k0_mult293 v2417).toNat := fun v2417 k0_hw293 => k0_hw293.1
theorem k0_off466_inb : ∀ (v2417 : BitVec 32) (k0_hw293 : k0_chk293 v2417), ∀ a, (k0_off466 v2417) a + S4x128.size a ≤ S65536x128.size a := fun v2417 k0_hw293 => k0_hw293.2

def k0_off467 (k0_t1 : Fin k0_t1_loop.trips) : Fin 3 → Nat :=
  let c0_1577 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2424 : Index := Scalar.indexCast v2127
  let c37_1578 : Index := 37#32
  ![0, v2424.toNat, 37]
def k0_mult294 (v2425 : BitVec 32) : BitVec 32 :=
  v2425

def k0_off468 (v2425 : BitVec 32) : Fin 2 → Nat :=
  let v2426 : BitVec 32 := v2425
  let v2427 : Index := Scalar.indexCast v2426
  let c0_1579 : Index := 0#32
  ![v2427.toNat, 0]

def k0_chk294 (v2425 : BitVec 32) : Prop :=
  (4 ∣ (k0_mult294 v2425).toNat) ∧
  (∀ a, (k0_off468 v2425) a + S4x128.size a ≤ S65536x128.size a)
theorem k0_mult294_dvd : ∀ (v2425 : BitVec 32) (k0_hw294 : k0_chk294 v2425), 4 ∣ (k0_mult294 v2425).toNat := fun v2425 k0_hw294 => k0_hw294.1
theorem k0_off468_inb : ∀ (v2425 : BitVec 32) (k0_hw294 : k0_chk294 v2425), ∀ a, (k0_off468 v2425) a + S4x128.size a ≤ S65536x128.size a := fun v2425 k0_hw294 => k0_hw294.2

def k0_off469 (k0_t1 : Fin k0_t1_loop.trips) : Fin 3 → Nat :=
  let c0_1582 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2432 : Index := Scalar.indexCast v2127
  let c38_1583 : Index := 38#32
  ![0, v2432.toNat, 38]
def k0_mult295 (v2433 : BitVec 32) : BitVec 32 :=
  v2433

def k0_off470 (v2433 : BitVec 32) : Fin 2 → Nat :=
  let v2434 : BitVec 32 := v2433
  let v2435 : Index := Scalar.indexCast v2434
  let c0_1584 : Index := 0#32
  ![v2435.toNat, 0]

def k0_chk295 (v2433 : BitVec 32) : Prop :=
  (4 ∣ (k0_mult295 v2433).toNat) ∧
  (∀ a, (k0_off470 v2433) a + S4x128.size a ≤ S65536x128.size a)
theorem k0_mult295_dvd : ∀ (v2433 : BitVec 32) (k0_hw295 : k0_chk295 v2433), 4 ∣ (k0_mult295 v2433).toNat := fun v2433 k0_hw295 => k0_hw295.1
theorem k0_off470_inb : ∀ (v2433 : BitVec 32) (k0_hw295 : k0_chk295 v2433), ∀ a, (k0_off470 v2433) a + S4x128.size a ≤ S65536x128.size a := fun v2433 k0_hw295 => k0_hw295.2

def k0_off471 (k0_t1 : Fin k0_t1_loop.trips) : Fin 3 → Nat :=
  let c0_1587 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2440 : Index := Scalar.indexCast v2127
  let c39_1588 : Index := 39#32
  ![0, v2440.toNat, 39]
def k0_mult296 (v2441 : BitVec 32) : BitVec 32 :=
  v2441

def k0_off472 (v2441 : BitVec 32) : Fin 2 → Nat :=
  let v2442 : BitVec 32 := v2441
  let v2443 : Index := Scalar.indexCast v2442
  let c0_1589 : Index := 0#32
  ![v2443.toNat, 0]

def k0_chk296 (v2441 : BitVec 32) : Prop :=
  (4 ∣ (k0_mult296 v2441).toNat) ∧
  (∀ a, (k0_off472 v2441) a + S4x128.size a ≤ S65536x128.size a)
theorem k0_mult296_dvd : ∀ (v2441 : BitVec 32) (k0_hw296 : k0_chk296 v2441), 4 ∣ (k0_mult296 v2441).toNat := fun v2441 k0_hw296 => k0_hw296.1
theorem k0_off472_inb : ∀ (v2441 : BitVec 32) (k0_hw296 : k0_chk296 v2441), ∀ a, (k0_off472 v2441) a + S4x128.size a ≤ S65536x128.size a := fun v2441 k0_hw296 => k0_hw296.2

def k0_off473 (k0_t1 : Fin k0_t1_loop.trips) : Fin 3 → Nat :=
  let c0_1592 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2448 : Index := Scalar.indexCast v2127
  let c40_1593 : Index := 40#32
  ![0, v2448.toNat, 40]
def k0_mult297 (v2449 : BitVec 32) : BitVec 32 :=
  v2449

def k0_off474 (v2449 : BitVec 32) : Fin 2 → Nat :=
  let v2450 : BitVec 32 := v2449
  let v2451 : Index := Scalar.indexCast v2450
  let c0_1594 : Index := 0#32
  ![v2451.toNat, 0]

def k0_chk297 (v2449 : BitVec 32) : Prop :=
  (4 ∣ (k0_mult297 v2449).toNat) ∧
  (∀ a, (k0_off474 v2449) a + S4x128.size a ≤ S65536x128.size a)
theorem k0_mult297_dvd : ∀ (v2449 : BitVec 32) (k0_hw297 : k0_chk297 v2449), 4 ∣ (k0_mult297 v2449).toNat := fun v2449 k0_hw297 => k0_hw297.1
theorem k0_off474_inb : ∀ (v2449 : BitVec 32) (k0_hw297 : k0_chk297 v2449), ∀ a, (k0_off474 v2449) a + S4x128.size a ≤ S65536x128.size a := fun v2449 k0_hw297 => k0_hw297.2

def k0_off475 (k0_t1 : Fin k0_t1_loop.trips) : Fin 3 → Nat :=
  let c0_1597 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2456 : Index := Scalar.indexCast v2127
  let c41_1598 : Index := 41#32
  ![0, v2456.toNat, 41]
def k0_mult298 (v2457 : BitVec 32) : BitVec 32 :=
  v2457

def k0_off476 (v2457 : BitVec 32) : Fin 2 → Nat :=
  let v2458 : BitVec 32 := v2457
  let v2459 : Index := Scalar.indexCast v2458
  let c0_1599 : Index := 0#32
  ![v2459.toNat, 0]

def k0_chk298 (v2457 : BitVec 32) : Prop :=
  (4 ∣ (k0_mult298 v2457).toNat) ∧
  (∀ a, (k0_off476 v2457) a + S4x128.size a ≤ S65536x128.size a)
theorem k0_mult298_dvd : ∀ (v2457 : BitVec 32) (k0_hw298 : k0_chk298 v2457), 4 ∣ (k0_mult298 v2457).toNat := fun v2457 k0_hw298 => k0_hw298.1
theorem k0_off476_inb : ∀ (v2457 : BitVec 32) (k0_hw298 : k0_chk298 v2457), ∀ a, (k0_off476 v2457) a + S4x128.size a ≤ S65536x128.size a := fun v2457 k0_hw298 => k0_hw298.2

def k0_off477 (k0_t1 : Fin k0_t1_loop.trips) : Fin 3 → Nat :=
  let c0_1602 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2464 : Index := Scalar.indexCast v2127
  let c42_1603 : Index := 42#32
  ![0, v2464.toNat, 42]
def k0_mult299 (v2465 : BitVec 32) : BitVec 32 :=
  v2465

def k0_off478 (v2465 : BitVec 32) : Fin 2 → Nat :=
  let v2466 : BitVec 32 := v2465
  let v2467 : Index := Scalar.indexCast v2466
  let c0_1604 : Index := 0#32
  ![v2467.toNat, 0]

def k0_chk299 (v2465 : BitVec 32) : Prop :=
  (4 ∣ (k0_mult299 v2465).toNat) ∧
  (∀ a, (k0_off478 v2465) a + S4x128.size a ≤ S65536x128.size a)
theorem k0_mult299_dvd : ∀ (v2465 : BitVec 32) (k0_hw299 : k0_chk299 v2465), 4 ∣ (k0_mult299 v2465).toNat := fun v2465 k0_hw299 => k0_hw299.1
theorem k0_off478_inb : ∀ (v2465 : BitVec 32) (k0_hw299 : k0_chk299 v2465), ∀ a, (k0_off478 v2465) a + S4x128.size a ≤ S65536x128.size a := fun v2465 k0_hw299 => k0_hw299.2

def k0_off479 (k0_t1 : Fin k0_t1_loop.trips) : Fin 3 → Nat :=
  let c0_1607 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2472 : Index := Scalar.indexCast v2127
  let c43_1608 : Index := 43#32
  ![0, v2472.toNat, 43]
def k0_mult300 (v2473 : BitVec 32) : BitVec 32 :=
  v2473

def k0_off480 (v2473 : BitVec 32) : Fin 2 → Nat :=
  let v2474 : BitVec 32 := v2473
  let v2475 : Index := Scalar.indexCast v2474
  let c0_1609 : Index := 0#32
  ![v2475.toNat, 0]

def k0_chk300 (v2473 : BitVec 32) : Prop :=
  (4 ∣ (k0_mult300 v2473).toNat) ∧
  (∀ a, (k0_off480 v2473) a + S4x128.size a ≤ S65536x128.size a)
theorem k0_mult300_dvd : ∀ (v2473 : BitVec 32) (k0_hw300 : k0_chk300 v2473), 4 ∣ (k0_mult300 v2473).toNat := fun v2473 k0_hw300 => k0_hw300.1
theorem k0_off480_inb : ∀ (v2473 : BitVec 32) (k0_hw300 : k0_chk300 v2473), ∀ a, (k0_off480 v2473) a + S4x128.size a ≤ S65536x128.size a := fun v2473 k0_hw300 => k0_hw300.2

def k0_off481 (k0_t1 : Fin k0_t1_loop.trips) : Fin 3 → Nat :=
  let c0_1612 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2480 : Index := Scalar.indexCast v2127
  let c44_1613 : Index := 44#32
  ![0, v2480.toNat, 44]
def k0_mult301 (v2481 : BitVec 32) : BitVec 32 :=
  v2481

def k0_off482 (v2481 : BitVec 32) : Fin 2 → Nat :=
  let v2482 : BitVec 32 := v2481
  let v2483 : Index := Scalar.indexCast v2482
  let c0_1614 : Index := 0#32
  ![v2483.toNat, 0]

def k0_chk301 (v2481 : BitVec 32) : Prop :=
  (4 ∣ (k0_mult301 v2481).toNat) ∧
  (∀ a, (k0_off482 v2481) a + S4x128.size a ≤ S65536x128.size a)
theorem k0_mult301_dvd : ∀ (v2481 : BitVec 32) (k0_hw301 : k0_chk301 v2481), 4 ∣ (k0_mult301 v2481).toNat := fun v2481 k0_hw301 => k0_hw301.1
theorem k0_off482_inb : ∀ (v2481 : BitVec 32) (k0_hw301 : k0_chk301 v2481), ∀ a, (k0_off482 v2481) a + S4x128.size a ≤ S65536x128.size a := fun v2481 k0_hw301 => k0_hw301.2

def k0_off483 (k0_t1 : Fin k0_t1_loop.trips) : Fin 3 → Nat :=
  let c0_1617 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2488 : Index := Scalar.indexCast v2127
  let c45_1618 : Index := 45#32
  ![0, v2488.toNat, 45]
def k0_mult302 (v2489 : BitVec 32) : BitVec 32 :=
  v2489

def k0_off484 (v2489 : BitVec 32) : Fin 2 → Nat :=
  let v2490 : BitVec 32 := v2489
  let v2491 : Index := Scalar.indexCast v2490
  let c0_1619 : Index := 0#32
  ![v2491.toNat, 0]

def k0_chk302 (v2489 : BitVec 32) : Prop :=
  (4 ∣ (k0_mult302 v2489).toNat) ∧
  (∀ a, (k0_off484 v2489) a + S4x128.size a ≤ S65536x128.size a)
theorem k0_mult302_dvd : ∀ (v2489 : BitVec 32) (k0_hw302 : k0_chk302 v2489), 4 ∣ (k0_mult302 v2489).toNat := fun v2489 k0_hw302 => k0_hw302.1
theorem k0_off484_inb : ∀ (v2489 : BitVec 32) (k0_hw302 : k0_chk302 v2489), ∀ a, (k0_off484 v2489) a + S4x128.size a ≤ S65536x128.size a := fun v2489 k0_hw302 => k0_hw302.2

def k0_off485 (k0_t1 : Fin k0_t1_loop.trips) : Fin 3 → Nat :=
  let c0_1622 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2496 : Index := Scalar.indexCast v2127
  let c46_1623 : Index := 46#32
  ![0, v2496.toNat, 46]
def k0_mult303 (v2497 : BitVec 32) : BitVec 32 :=
  v2497

def k0_off486 (v2497 : BitVec 32) : Fin 2 → Nat :=
  let v2498 : BitVec 32 := v2497
  let v2499 : Index := Scalar.indexCast v2498
  let c0_1624 : Index := 0#32
  ![v2499.toNat, 0]

def k0_chk303 (v2497 : BitVec 32) : Prop :=
  (4 ∣ (k0_mult303 v2497).toNat) ∧
  (∀ a, (k0_off486 v2497) a + S4x128.size a ≤ S65536x128.size a)
theorem k0_mult303_dvd : ∀ (v2497 : BitVec 32) (k0_hw303 : k0_chk303 v2497), 4 ∣ (k0_mult303 v2497).toNat := fun v2497 k0_hw303 => k0_hw303.1
theorem k0_off486_inb : ∀ (v2497 : BitVec 32) (k0_hw303 : k0_chk303 v2497), ∀ a, (k0_off486 v2497) a + S4x128.size a ≤ S65536x128.size a := fun v2497 k0_hw303 => k0_hw303.2

def k0_off487 (k0_t1 : Fin k0_t1_loop.trips) : Fin 3 → Nat :=
  let c0_1627 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2504 : Index := Scalar.indexCast v2127
  let c47_1628 : Index := 47#32
  ![0, v2504.toNat, 47]
def k0_mult304 (v2505 : BitVec 32) : BitVec 32 :=
  v2505

def k0_off488 (v2505 : BitVec 32) : Fin 2 → Nat :=
  let v2506 : BitVec 32 := v2505
  let v2507 : Index := Scalar.indexCast v2506
  let c0_1629 : Index := 0#32
  ![v2507.toNat, 0]

def k0_chk304 (v2505 : BitVec 32) : Prop :=
  (4 ∣ (k0_mult304 v2505).toNat) ∧
  (∀ a, (k0_off488 v2505) a + S4x128.size a ≤ S65536x128.size a)
theorem k0_mult304_dvd : ∀ (v2505 : BitVec 32) (k0_hw304 : k0_chk304 v2505), 4 ∣ (k0_mult304 v2505).toNat := fun v2505 k0_hw304 => k0_hw304.1
theorem k0_off488_inb : ∀ (v2505 : BitVec 32) (k0_hw304 : k0_chk304 v2505), ∀ a, (k0_off488 v2505) a + S4x128.size a ≤ S65536x128.size a := fun v2505 k0_hw304 => k0_hw304.2

def k0_off489 (k0_t1 : Fin k0_t1_loop.trips) : Fin 3 → Nat :=
  let c0_1632 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2512 : Index := Scalar.indexCast v2127
  let c48_1633 : Index := 48#32
  ![0, v2512.toNat, 48]
def k0_mult305 (v2513 : BitVec 32) : BitVec 32 :=
  v2513

def k0_off490 (v2513 : BitVec 32) : Fin 2 → Nat :=
  let v2514 : BitVec 32 := v2513
  let v2515 : Index := Scalar.indexCast v2514
  let c0_1634 : Index := 0#32
  ![v2515.toNat, 0]

def k0_chk305 (v2513 : BitVec 32) : Prop :=
  (4 ∣ (k0_mult305 v2513).toNat) ∧
  (∀ a, (k0_off490 v2513) a + S4x128.size a ≤ S65536x128.size a)
theorem k0_mult305_dvd : ∀ (v2513 : BitVec 32) (k0_hw305 : k0_chk305 v2513), 4 ∣ (k0_mult305 v2513).toNat := fun v2513 k0_hw305 => k0_hw305.1
theorem k0_off490_inb : ∀ (v2513 : BitVec 32) (k0_hw305 : k0_chk305 v2513), ∀ a, (k0_off490 v2513) a + S4x128.size a ≤ S65536x128.size a := fun v2513 k0_hw305 => k0_hw305.2

def k0_off491 (k0_t1 : Fin k0_t1_loop.trips) : Fin 3 → Nat :=
  let c0_1637 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2520 : Index := Scalar.indexCast v2127
  let c49_1638 : Index := 49#32
  ![0, v2520.toNat, 49]
def k0_mult306 (v2521 : BitVec 32) : BitVec 32 :=
  v2521

def k0_off492 (v2521 : BitVec 32) : Fin 2 → Nat :=
  let v2522 : BitVec 32 := v2521
  let v2523 : Index := Scalar.indexCast v2522
  let c0_1639 : Index := 0#32
  ![v2523.toNat, 0]

def k0_chk306 (v2521 : BitVec 32) : Prop :=
  (4 ∣ (k0_mult306 v2521).toNat) ∧
  (∀ a, (k0_off492 v2521) a + S4x128.size a ≤ S65536x128.size a)
theorem k0_mult306_dvd : ∀ (v2521 : BitVec 32) (k0_hw306 : k0_chk306 v2521), 4 ∣ (k0_mult306 v2521).toNat := fun v2521 k0_hw306 => k0_hw306.1
theorem k0_off492_inb : ∀ (v2521 : BitVec 32) (k0_hw306 : k0_chk306 v2521), ∀ a, (k0_off492 v2521) a + S4x128.size a ≤ S65536x128.size a := fun v2521 k0_hw306 => k0_hw306.2

def k0_off493 (k0_t1 : Fin k0_t1_loop.trips) : Fin 3 → Nat :=
  let c0_1642 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2528 : Index := Scalar.indexCast v2127
  let c50_1643 : Index := 50#32
  ![0, v2528.toNat, 50]
def k0_mult307 (v2529 : BitVec 32) : BitVec 32 :=
  v2529

def k0_off494 (v2529 : BitVec 32) : Fin 2 → Nat :=
  let v2530 : BitVec 32 := v2529
  let v2531 : Index := Scalar.indexCast v2530
  let c0_1644 : Index := 0#32
  ![v2531.toNat, 0]

def k0_chk307 (v2529 : BitVec 32) : Prop :=
  (4 ∣ (k0_mult307 v2529).toNat) ∧
  (∀ a, (k0_off494 v2529) a + S4x128.size a ≤ S65536x128.size a)
theorem k0_mult307_dvd : ∀ (v2529 : BitVec 32) (k0_hw307 : k0_chk307 v2529), 4 ∣ (k0_mult307 v2529).toNat := fun v2529 k0_hw307 => k0_hw307.1
theorem k0_off494_inb : ∀ (v2529 : BitVec 32) (k0_hw307 : k0_chk307 v2529), ∀ a, (k0_off494 v2529) a + S4x128.size a ≤ S65536x128.size a := fun v2529 k0_hw307 => k0_hw307.2

def k0_off495 (k0_t1 : Fin k0_t1_loop.trips) : Fin 3 → Nat :=
  let c0_1647 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2536 : Index := Scalar.indexCast v2127
  let c51_1648 : Index := 51#32
  ![0, v2536.toNat, 51]
def k0_mult308 (v2537 : BitVec 32) : BitVec 32 :=
  v2537

def k0_off496 (v2537 : BitVec 32) : Fin 2 → Nat :=
  let v2538 : BitVec 32 := v2537
  let v2539 : Index := Scalar.indexCast v2538
  let c0_1649 : Index := 0#32
  ![v2539.toNat, 0]

def k0_chk308 (v2537 : BitVec 32) : Prop :=
  (4 ∣ (k0_mult308 v2537).toNat) ∧
  (∀ a, (k0_off496 v2537) a + S4x128.size a ≤ S65536x128.size a)
theorem k0_mult308_dvd : ∀ (v2537 : BitVec 32) (k0_hw308 : k0_chk308 v2537), 4 ∣ (k0_mult308 v2537).toNat := fun v2537 k0_hw308 => k0_hw308.1
theorem k0_off496_inb : ∀ (v2537 : BitVec 32) (k0_hw308 : k0_chk308 v2537), ∀ a, (k0_off496 v2537) a + S4x128.size a ≤ S65536x128.size a := fun v2537 k0_hw308 => k0_hw308.2

def k0_off497 (k0_t1 : Fin k0_t1_loop.trips) : Fin 3 → Nat :=
  let c0_1652 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2544 : Index := Scalar.indexCast v2127
  let c52_1653 : Index := 52#32
  ![0, v2544.toNat, 52]
def k0_mult309 (v2545 : BitVec 32) : BitVec 32 :=
  v2545

def k0_off498 (v2545 : BitVec 32) : Fin 2 → Nat :=
  let v2546 : BitVec 32 := v2545
  let v2547 : Index := Scalar.indexCast v2546
  let c0_1654 : Index := 0#32
  ![v2547.toNat, 0]

def k0_chk309 (v2545 : BitVec 32) : Prop :=
  (4 ∣ (k0_mult309 v2545).toNat) ∧
  (∀ a, (k0_off498 v2545) a + S4x128.size a ≤ S65536x128.size a)
theorem k0_mult309_dvd : ∀ (v2545 : BitVec 32) (k0_hw309 : k0_chk309 v2545), 4 ∣ (k0_mult309 v2545).toNat := fun v2545 k0_hw309 => k0_hw309.1
theorem k0_off498_inb : ∀ (v2545 : BitVec 32) (k0_hw309 : k0_chk309 v2545), ∀ a, (k0_off498 v2545) a + S4x128.size a ≤ S65536x128.size a := fun v2545 k0_hw309 => k0_hw309.2

def k0_off499 (k0_t1 : Fin k0_t1_loop.trips) : Fin 3 → Nat :=
  let c0_1657 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2552 : Index := Scalar.indexCast v2127
  let c53_1658 : Index := 53#32
  ![0, v2552.toNat, 53]
def k0_mult310 (v2553 : BitVec 32) : BitVec 32 :=
  v2553

def k0_off500 (v2553 : BitVec 32) : Fin 2 → Nat :=
  let v2554 : BitVec 32 := v2553
  let v2555 : Index := Scalar.indexCast v2554
  let c0_1659 : Index := 0#32
  ![v2555.toNat, 0]

def k0_chk310 (v2553 : BitVec 32) : Prop :=
  (4 ∣ (k0_mult310 v2553).toNat) ∧
  (∀ a, (k0_off500 v2553) a + S4x128.size a ≤ S65536x128.size a)
theorem k0_mult310_dvd : ∀ (v2553 : BitVec 32) (k0_hw310 : k0_chk310 v2553), 4 ∣ (k0_mult310 v2553).toNat := fun v2553 k0_hw310 => k0_hw310.1
theorem k0_off500_inb : ∀ (v2553 : BitVec 32) (k0_hw310 : k0_chk310 v2553), ∀ a, (k0_off500 v2553) a + S4x128.size a ≤ S65536x128.size a := fun v2553 k0_hw310 => k0_hw310.2

def k0_off501 (k0_t1 : Fin k0_t1_loop.trips) : Fin 3 → Nat :=
  let c0_1662 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2560 : Index := Scalar.indexCast v2127
  let c54_1663 : Index := 54#32
  ![0, v2560.toNat, 54]
def k0_mult311 (v2561 : BitVec 32) : BitVec 32 :=
  v2561

def k0_off502 (v2561 : BitVec 32) : Fin 2 → Nat :=
  let v2562 : BitVec 32 := v2561
  let v2563 : Index := Scalar.indexCast v2562
  let c0_1664 : Index := 0#32
  ![v2563.toNat, 0]

def k0_chk311 (v2561 : BitVec 32) : Prop :=
  (4 ∣ (k0_mult311 v2561).toNat) ∧
  (∀ a, (k0_off502 v2561) a + S4x128.size a ≤ S65536x128.size a)
theorem k0_mult311_dvd : ∀ (v2561 : BitVec 32) (k0_hw311 : k0_chk311 v2561), 4 ∣ (k0_mult311 v2561).toNat := fun v2561 k0_hw311 => k0_hw311.1
theorem k0_off502_inb : ∀ (v2561 : BitVec 32) (k0_hw311 : k0_chk311 v2561), ∀ a, (k0_off502 v2561) a + S4x128.size a ≤ S65536x128.size a := fun v2561 k0_hw311 => k0_hw311.2

def k0_off503 (k0_t1 : Fin k0_t1_loop.trips) : Fin 3 → Nat :=
  let c0_1667 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2568 : Index := Scalar.indexCast v2127
  let c55_1668 : Index := 55#32
  ![0, v2568.toNat, 55]
def k0_mult312 (v2569 : BitVec 32) : BitVec 32 :=
  v2569

def k0_off504 (v2569 : BitVec 32) : Fin 2 → Nat :=
  let v2570 : BitVec 32 := v2569
  let v2571 : Index := Scalar.indexCast v2570
  let c0_1669 : Index := 0#32
  ![v2571.toNat, 0]

def k0_chk312 (v2569 : BitVec 32) : Prop :=
  (4 ∣ (k0_mult312 v2569).toNat) ∧
  (∀ a, (k0_off504 v2569) a + S4x128.size a ≤ S65536x128.size a)
theorem k0_mult312_dvd : ∀ (v2569 : BitVec 32) (k0_hw312 : k0_chk312 v2569), 4 ∣ (k0_mult312 v2569).toNat := fun v2569 k0_hw312 => k0_hw312.1
theorem k0_off504_inb : ∀ (v2569 : BitVec 32) (k0_hw312 : k0_chk312 v2569), ∀ a, (k0_off504 v2569) a + S4x128.size a ≤ S65536x128.size a := fun v2569 k0_hw312 => k0_hw312.2

def k0_off505 (k0_t1 : Fin k0_t1_loop.trips) : Fin 3 → Nat :=
  let c0_1672 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2576 : Index := Scalar.indexCast v2127
  let c56_1673 : Index := 56#32
  ![0, v2576.toNat, 56]
def k0_mult313 (v2577 : BitVec 32) : BitVec 32 :=
  v2577

def k0_off506 (v2577 : BitVec 32) : Fin 2 → Nat :=
  let v2578 : BitVec 32 := v2577
  let v2579 : Index := Scalar.indexCast v2578
  let c0_1674 : Index := 0#32
  ![v2579.toNat, 0]

def k0_chk313 (v2577 : BitVec 32) : Prop :=
  (4 ∣ (k0_mult313 v2577).toNat) ∧
  (∀ a, (k0_off506 v2577) a + S4x128.size a ≤ S65536x128.size a)
theorem k0_mult313_dvd : ∀ (v2577 : BitVec 32) (k0_hw313 : k0_chk313 v2577), 4 ∣ (k0_mult313 v2577).toNat := fun v2577 k0_hw313 => k0_hw313.1
theorem k0_off506_inb : ∀ (v2577 : BitVec 32) (k0_hw313 : k0_chk313 v2577), ∀ a, (k0_off506 v2577) a + S4x128.size a ≤ S65536x128.size a := fun v2577 k0_hw313 => k0_hw313.2

def k0_off507 (k0_t1 : Fin k0_t1_loop.trips) : Fin 3 → Nat :=
  let c0_1677 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2584 : Index := Scalar.indexCast v2127
  let c57_1678 : Index := 57#32
  ![0, v2584.toNat, 57]
def k0_mult314 (v2585 : BitVec 32) : BitVec 32 :=
  v2585

def k0_off508 (v2585 : BitVec 32) : Fin 2 → Nat :=
  let v2586 : BitVec 32 := v2585
  let v2587 : Index := Scalar.indexCast v2586
  let c0_1679 : Index := 0#32
  ![v2587.toNat, 0]

def k0_chk314 (v2585 : BitVec 32) : Prop :=
  (4 ∣ (k0_mult314 v2585).toNat) ∧
  (∀ a, (k0_off508 v2585) a + S4x128.size a ≤ S65536x128.size a)
theorem k0_mult314_dvd : ∀ (v2585 : BitVec 32) (k0_hw314 : k0_chk314 v2585), 4 ∣ (k0_mult314 v2585).toNat := fun v2585 k0_hw314 => k0_hw314.1
theorem k0_off508_inb : ∀ (v2585 : BitVec 32) (k0_hw314 : k0_chk314 v2585), ∀ a, (k0_off508 v2585) a + S4x128.size a ≤ S65536x128.size a := fun v2585 k0_hw314 => k0_hw314.2

def k0_off509 (k0_t1 : Fin k0_t1_loop.trips) : Fin 3 → Nat :=
  let c0_1682 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2592 : Index := Scalar.indexCast v2127
  let c58_1683 : Index := 58#32
  ![0, v2592.toNat, 58]
def k0_mult315 (v2593 : BitVec 32) : BitVec 32 :=
  v2593

def k0_off510 (v2593 : BitVec 32) : Fin 2 → Nat :=
  let v2594 : BitVec 32 := v2593
  let v2595 : Index := Scalar.indexCast v2594
  let c0_1684 : Index := 0#32
  ![v2595.toNat, 0]

def k0_chk315 (v2593 : BitVec 32) : Prop :=
  (4 ∣ (k0_mult315 v2593).toNat) ∧
  (∀ a, (k0_off510 v2593) a + S4x128.size a ≤ S65536x128.size a)
theorem k0_mult315_dvd : ∀ (v2593 : BitVec 32) (k0_hw315 : k0_chk315 v2593), 4 ∣ (k0_mult315 v2593).toNat := fun v2593 k0_hw315 => k0_hw315.1
theorem k0_off510_inb : ∀ (v2593 : BitVec 32) (k0_hw315 : k0_chk315 v2593), ∀ a, (k0_off510 v2593) a + S4x128.size a ≤ S65536x128.size a := fun v2593 k0_hw315 => k0_hw315.2

def k0_off511 (k0_t1 : Fin k0_t1_loop.trips) : Fin 3 → Nat :=
  let c0_1687 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2600 : Index := Scalar.indexCast v2127
  let c59_1688 : Index := 59#32
  ![0, v2600.toNat, 59]
def k0_mult316 (v2601 : BitVec 32) : BitVec 32 :=
  v2601

def k0_off512 (v2601 : BitVec 32) : Fin 2 → Nat :=
  let v2602 : BitVec 32 := v2601
  let v2603 : Index := Scalar.indexCast v2602
  let c0_1689 : Index := 0#32
  ![v2603.toNat, 0]

def k0_chk316 (v2601 : BitVec 32) : Prop :=
  (4 ∣ (k0_mult316 v2601).toNat) ∧
  (∀ a, (k0_off512 v2601) a + S4x128.size a ≤ S65536x128.size a)
theorem k0_mult316_dvd : ∀ (v2601 : BitVec 32) (k0_hw316 : k0_chk316 v2601), 4 ∣ (k0_mult316 v2601).toNat := fun v2601 k0_hw316 => k0_hw316.1
theorem k0_off512_inb : ∀ (v2601 : BitVec 32) (k0_hw316 : k0_chk316 v2601), ∀ a, (k0_off512 v2601) a + S4x128.size a ≤ S65536x128.size a := fun v2601 k0_hw316 => k0_hw316.2

def k0_off513 (k0_t1 : Fin k0_t1_loop.trips) : Fin 3 → Nat :=
  let c0_1692 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2608 : Index := Scalar.indexCast v2127
  let c60_1693 : Index := 60#32
  ![0, v2608.toNat, 60]
def k0_mult317 (v2609 : BitVec 32) : BitVec 32 :=
  v2609

def k0_off514 (v2609 : BitVec 32) : Fin 2 → Nat :=
  let v2610 : BitVec 32 := v2609
  let v2611 : Index := Scalar.indexCast v2610
  let c0_1694 : Index := 0#32
  ![v2611.toNat, 0]

def k0_chk317 (v2609 : BitVec 32) : Prop :=
  (4 ∣ (k0_mult317 v2609).toNat) ∧
  (∀ a, (k0_off514 v2609) a + S4x128.size a ≤ S65536x128.size a)
theorem k0_mult317_dvd : ∀ (v2609 : BitVec 32) (k0_hw317 : k0_chk317 v2609), 4 ∣ (k0_mult317 v2609).toNat := fun v2609 k0_hw317 => k0_hw317.1
theorem k0_off514_inb : ∀ (v2609 : BitVec 32) (k0_hw317 : k0_chk317 v2609), ∀ a, (k0_off514 v2609) a + S4x128.size a ≤ S65536x128.size a := fun v2609 k0_hw317 => k0_hw317.2

def k0_off515 (k0_t1 : Fin k0_t1_loop.trips) : Fin 3 → Nat :=
  let c0_1697 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2616 : Index := Scalar.indexCast v2127
  let c61_1698 : Index := 61#32
  ![0, v2616.toNat, 61]
def k0_mult318 (v2617 : BitVec 32) : BitVec 32 :=
  v2617

def k0_off516 (v2617 : BitVec 32) : Fin 2 → Nat :=
  let v2618 : BitVec 32 := v2617
  let v2619 : Index := Scalar.indexCast v2618
  let c0_1699 : Index := 0#32
  ![v2619.toNat, 0]

def k0_chk318 (v2617 : BitVec 32) : Prop :=
  (4 ∣ (k0_mult318 v2617).toNat) ∧
  (∀ a, (k0_off516 v2617) a + S4x128.size a ≤ S65536x128.size a)
theorem k0_mult318_dvd : ∀ (v2617 : BitVec 32) (k0_hw318 : k0_chk318 v2617), 4 ∣ (k0_mult318 v2617).toNat := fun v2617 k0_hw318 => k0_hw318.1
theorem k0_off516_inb : ∀ (v2617 : BitVec 32) (k0_hw318 : k0_chk318 v2617), ∀ a, (k0_off516 v2617) a + S4x128.size a ≤ S65536x128.size a := fun v2617 k0_hw318 => k0_hw318.2

def k0_off517 (k0_t1 : Fin k0_t1_loop.trips) : Fin 3 → Nat :=
  let c0_1702 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2624 : Index := Scalar.indexCast v2127
  let c62_1703 : Index := 62#32
  ![0, v2624.toNat, 62]
def k0_mult319 (v2625 : BitVec 32) : BitVec 32 :=
  v2625

def k0_off518 (v2625 : BitVec 32) : Fin 2 → Nat :=
  let v2626 : BitVec 32 := v2625
  let v2627 : Index := Scalar.indexCast v2626
  let c0_1704 : Index := 0#32
  ![v2627.toNat, 0]

def k0_chk319 (v2625 : BitVec 32) : Prop :=
  (4 ∣ (k0_mult319 v2625).toNat) ∧
  (∀ a, (k0_off518 v2625) a + S4x128.size a ≤ S65536x128.size a)
theorem k0_mult319_dvd : ∀ (v2625 : BitVec 32) (k0_hw319 : k0_chk319 v2625), 4 ∣ (k0_mult319 v2625).toNat := fun v2625 k0_hw319 => k0_hw319.1
theorem k0_off518_inb : ∀ (v2625 : BitVec 32) (k0_hw319 : k0_chk319 v2625), ∀ a, (k0_off518 v2625) a + S4x128.size a ≤ S65536x128.size a := fun v2625 k0_hw319 => k0_hw319.2

def k0_off519 (k0_t1 : Fin k0_t1_loop.trips) : Fin 3 → Nat :=
  let c0_1707 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2632 : Index := Scalar.indexCast v2127
  let c63_1708 : Index := 63#32
  ![0, v2632.toNat, 63]
def k0_mult320 (v2633 : BitVec 32) : BitVec 32 :=
  v2633

def k0_off520 (v2633 : BitVec 32) : Fin 2 → Nat :=
  let v2634 : BitVec 32 := v2633
  let v2635 : Index := Scalar.indexCast v2634
  let c0_1709 : Index := 0#32
  ![v2635.toNat, 0]

def k0_chk320 (v2633 : BitVec 32) : Prop :=
  (4 ∣ (k0_mult320 v2633).toNat) ∧
  (∀ a, (k0_off520 v2633) a + S4x128.size a ≤ S65536x128.size a)
theorem k0_mult320_dvd : ∀ (v2633 : BitVec 32) (k0_hw320 : k0_chk320 v2633), 4 ∣ (k0_mult320 v2633).toNat := fun v2633 k0_hw320 => k0_hw320.1
theorem k0_off520_inb : ∀ (v2633 : BitVec 32) (k0_hw320 : k0_chk320 v2633), ∀ a, (k0_off520 v2633) a + S4x128.size a ≤ S65536x128.size a := fun v2633 k0_hw320 => k0_hw320.2

def k0_off521 (k0_t1 : Fin k0_t1_loop.trips) : Fin 3 → Nat :=
  let c0_1712 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2640 : Index := Scalar.indexCast v2127
  let c64_1713 : Index := 64#32
  ![0, v2640.toNat, 64]
def k0_mult321 (v2641 : BitVec 32) : BitVec 32 :=
  v2641

def k0_off522 (v2641 : BitVec 32) : Fin 2 → Nat :=
  let v2642 : BitVec 32 := v2641
  let v2643 : Index := Scalar.indexCast v2642
  let c0_1714 : Index := 0#32
  ![v2643.toNat, 0]

def k0_chk321 (v2641 : BitVec 32) : Prop :=
  (4 ∣ (k0_mult321 v2641).toNat) ∧
  (∀ a, (k0_off522 v2641) a + S4x128.size a ≤ S65536x128.size a)
theorem k0_mult321_dvd : ∀ (v2641 : BitVec 32) (k0_hw321 : k0_chk321 v2641), 4 ∣ (k0_mult321 v2641).toNat := fun v2641 k0_hw321 => k0_hw321.1
theorem k0_off522_inb : ∀ (v2641 : BitVec 32) (k0_hw321 : k0_chk321 v2641), ∀ a, (k0_off522 v2641) a + S4x128.size a ≤ S65536x128.size a := fun v2641 k0_hw321 => k0_hw321.2

def k0_off523 (k0_t1 : Fin k0_t1_loop.trips) : Fin 3 → Nat :=
  let c0_1717 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2648 : Index := Scalar.indexCast v2127
  let c65_1718 : Index := 65#32
  ![0, v2648.toNat, 65]
def k0_mult322 (v2649 : BitVec 32) : BitVec 32 :=
  v2649

def k0_off524 (v2649 : BitVec 32) : Fin 2 → Nat :=
  let v2650 : BitVec 32 := v2649
  let v2651 : Index := Scalar.indexCast v2650
  let c0_1719 : Index := 0#32
  ![v2651.toNat, 0]

def k0_chk322 (v2649 : BitVec 32) : Prop :=
  (4 ∣ (k0_mult322 v2649).toNat) ∧
  (∀ a, (k0_off524 v2649) a + S4x128.size a ≤ S65536x128.size a)
theorem k0_mult322_dvd : ∀ (v2649 : BitVec 32) (k0_hw322 : k0_chk322 v2649), 4 ∣ (k0_mult322 v2649).toNat := fun v2649 k0_hw322 => k0_hw322.1
theorem k0_off524_inb : ∀ (v2649 : BitVec 32) (k0_hw322 : k0_chk322 v2649), ∀ a, (k0_off524 v2649) a + S4x128.size a ≤ S65536x128.size a := fun v2649 k0_hw322 => k0_hw322.2

def k0_off525 (k0_t1 : Fin k0_t1_loop.trips) : Fin 3 → Nat :=
  let c0_1722 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2656 : Index := Scalar.indexCast v2127
  let c66_1723 : Index := 66#32
  ![0, v2656.toNat, 66]
def k0_mult323 (v2657 : BitVec 32) : BitVec 32 :=
  v2657

def k0_off526 (v2657 : BitVec 32) : Fin 2 → Nat :=
  let v2658 : BitVec 32 := v2657
  let v2659 : Index := Scalar.indexCast v2658
  let c0_1724 : Index := 0#32
  ![v2659.toNat, 0]

def k0_chk323 (v2657 : BitVec 32) : Prop :=
  (4 ∣ (k0_mult323 v2657).toNat) ∧
  (∀ a, (k0_off526 v2657) a + S4x128.size a ≤ S65536x128.size a)
theorem k0_mult323_dvd : ∀ (v2657 : BitVec 32) (k0_hw323 : k0_chk323 v2657), 4 ∣ (k0_mult323 v2657).toNat := fun v2657 k0_hw323 => k0_hw323.1
theorem k0_off526_inb : ∀ (v2657 : BitVec 32) (k0_hw323 : k0_chk323 v2657), ∀ a, (k0_off526 v2657) a + S4x128.size a ≤ S65536x128.size a := fun v2657 k0_hw323 => k0_hw323.2

def k0_off527 (k0_t1 : Fin k0_t1_loop.trips) : Fin 3 → Nat :=
  let c0_1727 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2664 : Index := Scalar.indexCast v2127
  let c67_1728 : Index := 67#32
  ![0, v2664.toNat, 67]
def k0_mult324 (v2665 : BitVec 32) : BitVec 32 :=
  v2665

def k0_off528 (v2665 : BitVec 32) : Fin 2 → Nat :=
  let v2666 : BitVec 32 := v2665
  let v2667 : Index := Scalar.indexCast v2666
  let c0_1729 : Index := 0#32
  ![v2667.toNat, 0]

def k0_chk324 (v2665 : BitVec 32) : Prop :=
  (4 ∣ (k0_mult324 v2665).toNat) ∧
  (∀ a, (k0_off528 v2665) a + S4x128.size a ≤ S65536x128.size a)
theorem k0_mult324_dvd : ∀ (v2665 : BitVec 32) (k0_hw324 : k0_chk324 v2665), 4 ∣ (k0_mult324 v2665).toNat := fun v2665 k0_hw324 => k0_hw324.1
theorem k0_off528_inb : ∀ (v2665 : BitVec 32) (k0_hw324 : k0_chk324 v2665), ∀ a, (k0_off528 v2665) a + S4x128.size a ≤ S65536x128.size a := fun v2665 k0_hw324 => k0_hw324.2

def k0_off529 (k0_t1 : Fin k0_t1_loop.trips) : Fin 3 → Nat :=
  let c0_1732 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2672 : Index := Scalar.indexCast v2127
  let c68_1733 : Index := 68#32
  ![0, v2672.toNat, 68]
def k0_mult325 (v2673 : BitVec 32) : BitVec 32 :=
  v2673

def k0_off530 (v2673 : BitVec 32) : Fin 2 → Nat :=
  let v2674 : BitVec 32 := v2673
  let v2675 : Index := Scalar.indexCast v2674
  let c0_1734 : Index := 0#32
  ![v2675.toNat, 0]

def k0_chk325 (v2673 : BitVec 32) : Prop :=
  (4 ∣ (k0_mult325 v2673).toNat) ∧
  (∀ a, (k0_off530 v2673) a + S4x128.size a ≤ S65536x128.size a)
theorem k0_mult325_dvd : ∀ (v2673 : BitVec 32) (k0_hw325 : k0_chk325 v2673), 4 ∣ (k0_mult325 v2673).toNat := fun v2673 k0_hw325 => k0_hw325.1
theorem k0_off530_inb : ∀ (v2673 : BitVec 32) (k0_hw325 : k0_chk325 v2673), ∀ a, (k0_off530 v2673) a + S4x128.size a ≤ S65536x128.size a := fun v2673 k0_hw325 => k0_hw325.2

def k0_off531 (k0_t1 : Fin k0_t1_loop.trips) : Fin 3 → Nat :=
  let c0_1737 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2680 : Index := Scalar.indexCast v2127
  let c69_1738 : Index := 69#32
  ![0, v2680.toNat, 69]
def k0_mult326 (v2681 : BitVec 32) : BitVec 32 :=
  v2681

def k0_off532 (v2681 : BitVec 32) : Fin 2 → Nat :=
  let v2682 : BitVec 32 := v2681
  let v2683 : Index := Scalar.indexCast v2682
  let c0_1739 : Index := 0#32
  ![v2683.toNat, 0]

def k0_chk326 (v2681 : BitVec 32) : Prop :=
  (4 ∣ (k0_mult326 v2681).toNat) ∧
  (∀ a, (k0_off532 v2681) a + S4x128.size a ≤ S65536x128.size a)
theorem k0_mult326_dvd : ∀ (v2681 : BitVec 32) (k0_hw326 : k0_chk326 v2681), 4 ∣ (k0_mult326 v2681).toNat := fun v2681 k0_hw326 => k0_hw326.1
theorem k0_off532_inb : ∀ (v2681 : BitVec 32) (k0_hw326 : k0_chk326 v2681), ∀ a, (k0_off532 v2681) a + S4x128.size a ≤ S65536x128.size a := fun v2681 k0_hw326 => k0_hw326.2

def k0_off533 (k0_t1 : Fin k0_t1_loop.trips) : Fin 3 → Nat :=
  let c0_1742 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2688 : Index := Scalar.indexCast v2127
  let c70_1743 : Index := 70#32
  ![0, v2688.toNat, 70]
def k0_mult327 (v2689 : BitVec 32) : BitVec 32 :=
  v2689

def k0_off534 (v2689 : BitVec 32) : Fin 2 → Nat :=
  let v2690 : BitVec 32 := v2689
  let v2691 : Index := Scalar.indexCast v2690
  let c0_1744 : Index := 0#32
  ![v2691.toNat, 0]

def k0_chk327 (v2689 : BitVec 32) : Prop :=
  (4 ∣ (k0_mult327 v2689).toNat) ∧
  (∀ a, (k0_off534 v2689) a + S4x128.size a ≤ S65536x128.size a)
theorem k0_mult327_dvd : ∀ (v2689 : BitVec 32) (k0_hw327 : k0_chk327 v2689), 4 ∣ (k0_mult327 v2689).toNat := fun v2689 k0_hw327 => k0_hw327.1
theorem k0_off534_inb : ∀ (v2689 : BitVec 32) (k0_hw327 : k0_chk327 v2689), ∀ a, (k0_off534 v2689) a + S4x128.size a ≤ S65536x128.size a := fun v2689 k0_hw327 => k0_hw327.2

def k0_off535 (k0_t1 : Fin k0_t1_loop.trips) : Fin 3 → Nat :=
  let c0_1747 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2696 : Index := Scalar.indexCast v2127
  let c71_1748 : Index := 71#32
  ![0, v2696.toNat, 71]
def k0_mult328 (v2697 : BitVec 32) : BitVec 32 :=
  v2697

def k0_off536 (v2697 : BitVec 32) : Fin 2 → Nat :=
  let v2698 : BitVec 32 := v2697
  let v2699 : Index := Scalar.indexCast v2698
  let c0_1749 : Index := 0#32
  ![v2699.toNat, 0]

def k0_chk328 (v2697 : BitVec 32) : Prop :=
  (4 ∣ (k0_mult328 v2697).toNat) ∧
  (∀ a, (k0_off536 v2697) a + S4x128.size a ≤ S65536x128.size a)
theorem k0_mult328_dvd : ∀ (v2697 : BitVec 32) (k0_hw328 : k0_chk328 v2697), 4 ∣ (k0_mult328 v2697).toNat := fun v2697 k0_hw328 => k0_hw328.1
theorem k0_off536_inb : ∀ (v2697 : BitVec 32) (k0_hw328 : k0_chk328 v2697), ∀ a, (k0_off536 v2697) a + S4x128.size a ≤ S65536x128.size a := fun v2697 k0_hw328 => k0_hw328.2

def k0_off537 (k0_t1 : Fin k0_t1_loop.trips) : Fin 3 → Nat :=
  let c0_1752 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2704 : Index := Scalar.indexCast v2127
  let c72_1753 : Index := 72#32
  ![0, v2704.toNat, 72]
def k0_mult329 (v2705 : BitVec 32) : BitVec 32 :=
  v2705

def k0_off538 (v2705 : BitVec 32) : Fin 2 → Nat :=
  let v2706 : BitVec 32 := v2705
  let v2707 : Index := Scalar.indexCast v2706
  let c0_1754 : Index := 0#32
  ![v2707.toNat, 0]

def k0_chk329 (v2705 : BitVec 32) : Prop :=
  (4 ∣ (k0_mult329 v2705).toNat) ∧
  (∀ a, (k0_off538 v2705) a + S4x128.size a ≤ S65536x128.size a)
theorem k0_mult329_dvd : ∀ (v2705 : BitVec 32) (k0_hw329 : k0_chk329 v2705), 4 ∣ (k0_mult329 v2705).toNat := fun v2705 k0_hw329 => k0_hw329.1
theorem k0_off538_inb : ∀ (v2705 : BitVec 32) (k0_hw329 : k0_chk329 v2705), ∀ a, (k0_off538 v2705) a + S4x128.size a ≤ S65536x128.size a := fun v2705 k0_hw329 => k0_hw329.2

def k0_off539 (k0_t1 : Fin k0_t1_loop.trips) : Fin 3 → Nat :=
  let c0_1757 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2712 : Index := Scalar.indexCast v2127
  let c73_1758 : Index := 73#32
  ![0, v2712.toNat, 73]
def k0_mult330 (v2713 : BitVec 32) : BitVec 32 :=
  v2713

def k0_off540 (v2713 : BitVec 32) : Fin 2 → Nat :=
  let v2714 : BitVec 32 := v2713
  let v2715 : Index := Scalar.indexCast v2714
  let c0_1759 : Index := 0#32
  ![v2715.toNat, 0]

def k0_chk330 (v2713 : BitVec 32) : Prop :=
  (4 ∣ (k0_mult330 v2713).toNat) ∧
  (∀ a, (k0_off540 v2713) a + S4x128.size a ≤ S65536x128.size a)
theorem k0_mult330_dvd : ∀ (v2713 : BitVec 32) (k0_hw330 : k0_chk330 v2713), 4 ∣ (k0_mult330 v2713).toNat := fun v2713 k0_hw330 => k0_hw330.1
theorem k0_off540_inb : ∀ (v2713 : BitVec 32) (k0_hw330 : k0_chk330 v2713), ∀ a, (k0_off540 v2713) a + S4x128.size a ≤ S65536x128.size a := fun v2713 k0_hw330 => k0_hw330.2

def k0_off541 (k0_t1 : Fin k0_t1_loop.trips) : Fin 3 → Nat :=
  let c0_1762 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2720 : Index := Scalar.indexCast v2127
  let c74_1763 : Index := 74#32
  ![0, v2720.toNat, 74]
def k0_mult331 (v2721 : BitVec 32) : BitVec 32 :=
  v2721

def k0_off542 (v2721 : BitVec 32) : Fin 2 → Nat :=
  let v2722 : BitVec 32 := v2721
  let v2723 : Index := Scalar.indexCast v2722
  let c0_1764 : Index := 0#32
  ![v2723.toNat, 0]

def k0_chk331 (v2721 : BitVec 32) : Prop :=
  (4 ∣ (k0_mult331 v2721).toNat) ∧
  (∀ a, (k0_off542 v2721) a + S4x128.size a ≤ S65536x128.size a)
theorem k0_mult331_dvd : ∀ (v2721 : BitVec 32) (k0_hw331 : k0_chk331 v2721), 4 ∣ (k0_mult331 v2721).toNat := fun v2721 k0_hw331 => k0_hw331.1
theorem k0_off542_inb : ∀ (v2721 : BitVec 32) (k0_hw331 : k0_chk331 v2721), ∀ a, (k0_off542 v2721) a + S4x128.size a ≤ S65536x128.size a := fun v2721 k0_hw331 => k0_hw331.2

def k0_off543 (k0_t1 : Fin k0_t1_loop.trips) : Fin 3 → Nat :=
  let c0_1767 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2728 : Index := Scalar.indexCast v2127
  let c75_1768 : Index := 75#32
  ![0, v2728.toNat, 75]
def k0_mult332 (v2729 : BitVec 32) : BitVec 32 :=
  v2729

def k0_off544 (v2729 : BitVec 32) : Fin 2 → Nat :=
  let v2730 : BitVec 32 := v2729
  let v2731 : Index := Scalar.indexCast v2730
  let c0_1769 : Index := 0#32
  ![v2731.toNat, 0]

def k0_chk332 (v2729 : BitVec 32) : Prop :=
  (4 ∣ (k0_mult332 v2729).toNat) ∧
  (∀ a, (k0_off544 v2729) a + S4x128.size a ≤ S65536x128.size a)
theorem k0_mult332_dvd : ∀ (v2729 : BitVec 32) (k0_hw332 : k0_chk332 v2729), 4 ∣ (k0_mult332 v2729).toNat := fun v2729 k0_hw332 => k0_hw332.1
theorem k0_off544_inb : ∀ (v2729 : BitVec 32) (k0_hw332 : k0_chk332 v2729), ∀ a, (k0_off544 v2729) a + S4x128.size a ≤ S65536x128.size a := fun v2729 k0_hw332 => k0_hw332.2

def k0_off545 (k0_t1 : Fin k0_t1_loop.trips) : Fin 3 → Nat :=
  let c0_1772 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2736 : Index := Scalar.indexCast v2127
  let c76_1773 : Index := 76#32
  ![0, v2736.toNat, 76]
def k0_mult333 (v2737 : BitVec 32) : BitVec 32 :=
  v2737

def k0_off546 (v2737 : BitVec 32) : Fin 2 → Nat :=
  let v2738 : BitVec 32 := v2737
  let v2739 : Index := Scalar.indexCast v2738
  let c0_1774 : Index := 0#32
  ![v2739.toNat, 0]

def k0_chk333 (v2737 : BitVec 32) : Prop :=
  (4 ∣ (k0_mult333 v2737).toNat) ∧
  (∀ a, (k0_off546 v2737) a + S4x128.size a ≤ S65536x128.size a)
theorem k0_mult333_dvd : ∀ (v2737 : BitVec 32) (k0_hw333 : k0_chk333 v2737), 4 ∣ (k0_mult333 v2737).toNat := fun v2737 k0_hw333 => k0_hw333.1
theorem k0_off546_inb : ∀ (v2737 : BitVec 32) (k0_hw333 : k0_chk333 v2737), ∀ a, (k0_off546 v2737) a + S4x128.size a ≤ S65536x128.size a := fun v2737 k0_hw333 => k0_hw333.2

def k0_off547 (k0_t1 : Fin k0_t1_loop.trips) : Fin 3 → Nat :=
  let c0_1777 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2744 : Index := Scalar.indexCast v2127
  let c77_1778 : Index := 77#32
  ![0, v2744.toNat, 77]
def k0_mult334 (v2745 : BitVec 32) : BitVec 32 :=
  v2745

def k0_off548 (v2745 : BitVec 32) : Fin 2 → Nat :=
  let v2746 : BitVec 32 := v2745
  let v2747 : Index := Scalar.indexCast v2746
  let c0_1779 : Index := 0#32
  ![v2747.toNat, 0]

def k0_chk334 (v2745 : BitVec 32) : Prop :=
  (4 ∣ (k0_mult334 v2745).toNat) ∧
  (∀ a, (k0_off548 v2745) a + S4x128.size a ≤ S65536x128.size a)
theorem k0_mult334_dvd : ∀ (v2745 : BitVec 32) (k0_hw334 : k0_chk334 v2745), 4 ∣ (k0_mult334 v2745).toNat := fun v2745 k0_hw334 => k0_hw334.1
theorem k0_off548_inb : ∀ (v2745 : BitVec 32) (k0_hw334 : k0_chk334 v2745), ∀ a, (k0_off548 v2745) a + S4x128.size a ≤ S65536x128.size a := fun v2745 k0_hw334 => k0_hw334.2

def k0_off549 (k0_t1 : Fin k0_t1_loop.trips) : Fin 3 → Nat :=
  let c0_1782 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2752 : Index := Scalar.indexCast v2127
  let c78_1783 : Index := 78#32
  ![0, v2752.toNat, 78]
def k0_mult335 (v2753 : BitVec 32) : BitVec 32 :=
  v2753

def k0_off550 (v2753 : BitVec 32) : Fin 2 → Nat :=
  let v2754 : BitVec 32 := v2753
  let v2755 : Index := Scalar.indexCast v2754
  let c0_1784 : Index := 0#32
  ![v2755.toNat, 0]

def k0_chk335 (v2753 : BitVec 32) : Prop :=
  (4 ∣ (k0_mult335 v2753).toNat) ∧
  (∀ a, (k0_off550 v2753) a + S4x128.size a ≤ S65536x128.size a)
theorem k0_mult335_dvd : ∀ (v2753 : BitVec 32) (k0_hw335 : k0_chk335 v2753), 4 ∣ (k0_mult335 v2753).toNat := fun v2753 k0_hw335 => k0_hw335.1
theorem k0_off550_inb : ∀ (v2753 : BitVec 32) (k0_hw335 : k0_chk335 v2753), ∀ a, (k0_off550 v2753) a + S4x128.size a ≤ S65536x128.size a := fun v2753 k0_hw335 => k0_hw335.2

def k0_off551 (k0_t1 : Fin k0_t1_loop.trips) : Fin 3 → Nat :=
  let c0_1787 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2760 : Index := Scalar.indexCast v2127
  let c79_1788 : Index := 79#32
  ![0, v2760.toNat, 79]
def k0_mult336 (v2761 : BitVec 32) : BitVec 32 :=
  v2761

def k0_off552 (v2761 : BitVec 32) : Fin 2 → Nat :=
  let v2762 : BitVec 32 := v2761
  let v2763 : Index := Scalar.indexCast v2762
  let c0_1789 : Index := 0#32
  ![v2763.toNat, 0]

def k0_chk336 (v2761 : BitVec 32) : Prop :=
  (4 ∣ (k0_mult336 v2761).toNat) ∧
  (∀ a, (k0_off552 v2761) a + S4x128.size a ≤ S65536x128.size a)
theorem k0_mult336_dvd : ∀ (v2761 : BitVec 32) (k0_hw336 : k0_chk336 v2761), 4 ∣ (k0_mult336 v2761).toNat := fun v2761 k0_hw336 => k0_hw336.1
theorem k0_off552_inb : ∀ (v2761 : BitVec 32) (k0_hw336 : k0_chk336 v2761), ∀ a, (k0_off552 v2761) a + S4x128.size a ≤ S65536x128.size a := fun v2761 k0_hw336 => k0_hw336.2

def k0_off553 (k0_t1 : Fin k0_t1_loop.trips) : Fin 3 → Nat :=
  let c0_1792 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2768 : Index := Scalar.indexCast v2127
  let c80_1793 : Index := 80#32
  ![0, v2768.toNat, 80]
def k0_mult337 (v2769 : BitVec 32) : BitVec 32 :=
  v2769

def k0_off554 (v2769 : BitVec 32) : Fin 2 → Nat :=
  let v2770 : BitVec 32 := v2769
  let v2771 : Index := Scalar.indexCast v2770
  let c0_1794 : Index := 0#32
  ![v2771.toNat, 0]

def k0_chk337 (v2769 : BitVec 32) : Prop :=
  (4 ∣ (k0_mult337 v2769).toNat) ∧
  (∀ a, (k0_off554 v2769) a + S4x128.size a ≤ S65536x128.size a)
theorem k0_mult337_dvd : ∀ (v2769 : BitVec 32) (k0_hw337 : k0_chk337 v2769), 4 ∣ (k0_mult337 v2769).toNat := fun v2769 k0_hw337 => k0_hw337.1
theorem k0_off554_inb : ∀ (v2769 : BitVec 32) (k0_hw337 : k0_chk337 v2769), ∀ a, (k0_off554 v2769) a + S4x128.size a ≤ S65536x128.size a := fun v2769 k0_hw337 => k0_hw337.2

def k0_off555 (k0_t1 : Fin k0_t1_loop.trips) : Fin 3 → Nat :=
  let c0_1797 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2776 : Index := Scalar.indexCast v2127
  let c81_1798 : Index := 81#32
  ![0, v2776.toNat, 81]
def k0_mult338 (v2777 : BitVec 32) : BitVec 32 :=
  v2777

def k0_off556 (v2777 : BitVec 32) : Fin 2 → Nat :=
  let v2778 : BitVec 32 := v2777
  let v2779 : Index := Scalar.indexCast v2778
  let c0_1799 : Index := 0#32
  ![v2779.toNat, 0]

def k0_chk338 (v2777 : BitVec 32) : Prop :=
  (4 ∣ (k0_mult338 v2777).toNat) ∧
  (∀ a, (k0_off556 v2777) a + S4x128.size a ≤ S65536x128.size a)
theorem k0_mult338_dvd : ∀ (v2777 : BitVec 32) (k0_hw338 : k0_chk338 v2777), 4 ∣ (k0_mult338 v2777).toNat := fun v2777 k0_hw338 => k0_hw338.1
theorem k0_off556_inb : ∀ (v2777 : BitVec 32) (k0_hw338 : k0_chk338 v2777), ∀ a, (k0_off556 v2777) a + S4x128.size a ≤ S65536x128.size a := fun v2777 k0_hw338 => k0_hw338.2

def k0_off557 (k0_t1 : Fin k0_t1_loop.trips) : Fin 3 → Nat :=
  let c0_1802 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2784 : Index := Scalar.indexCast v2127
  let c82_1803 : Index := 82#32
  ![0, v2784.toNat, 82]
def k0_mult339 (v2785 : BitVec 32) : BitVec 32 :=
  v2785

def k0_off558 (v2785 : BitVec 32) : Fin 2 → Nat :=
  let v2786 : BitVec 32 := v2785
  let v2787 : Index := Scalar.indexCast v2786
  let c0_1804 : Index := 0#32
  ![v2787.toNat, 0]

def k0_chk339 (v2785 : BitVec 32) : Prop :=
  (4 ∣ (k0_mult339 v2785).toNat) ∧
  (∀ a, (k0_off558 v2785) a + S4x128.size a ≤ S65536x128.size a)
theorem k0_mult339_dvd : ∀ (v2785 : BitVec 32) (k0_hw339 : k0_chk339 v2785), 4 ∣ (k0_mult339 v2785).toNat := fun v2785 k0_hw339 => k0_hw339.1
theorem k0_off558_inb : ∀ (v2785 : BitVec 32) (k0_hw339 : k0_chk339 v2785), ∀ a, (k0_off558 v2785) a + S4x128.size a ≤ S65536x128.size a := fun v2785 k0_hw339 => k0_hw339.2

def k0_off559 (k0_t1 : Fin k0_t1_loop.trips) : Fin 3 → Nat :=
  let c0_1807 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2792 : Index := Scalar.indexCast v2127
  let c83_1808 : Index := 83#32
  ![0, v2792.toNat, 83]
def k0_mult340 (v2793 : BitVec 32) : BitVec 32 :=
  v2793

def k0_off560 (v2793 : BitVec 32) : Fin 2 → Nat :=
  let v2794 : BitVec 32 := v2793
  let v2795 : Index := Scalar.indexCast v2794
  let c0_1809 : Index := 0#32
  ![v2795.toNat, 0]

def k0_chk340 (v2793 : BitVec 32) : Prop :=
  (4 ∣ (k0_mult340 v2793).toNat) ∧
  (∀ a, (k0_off560 v2793) a + S4x128.size a ≤ S65536x128.size a)
theorem k0_mult340_dvd : ∀ (v2793 : BitVec 32) (k0_hw340 : k0_chk340 v2793), 4 ∣ (k0_mult340 v2793).toNat := fun v2793 k0_hw340 => k0_hw340.1
theorem k0_off560_inb : ∀ (v2793 : BitVec 32) (k0_hw340 : k0_chk340 v2793), ∀ a, (k0_off560 v2793) a + S4x128.size a ≤ S65536x128.size a := fun v2793 k0_hw340 => k0_hw340.2

def k0_off561 (k0_t1 : Fin k0_t1_loop.trips) : Fin 3 → Nat :=
  let c0_1812 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2800 : Index := Scalar.indexCast v2127
  let c84_1813 : Index := 84#32
  ![0, v2800.toNat, 84]
def k0_mult341 (v2801 : BitVec 32) : BitVec 32 :=
  v2801

def k0_off562 (v2801 : BitVec 32) : Fin 2 → Nat :=
  let v2802 : BitVec 32 := v2801
  let v2803 : Index := Scalar.indexCast v2802
  let c0_1814 : Index := 0#32
  ![v2803.toNat, 0]

def k0_chk341 (v2801 : BitVec 32) : Prop :=
  (4 ∣ (k0_mult341 v2801).toNat) ∧
  (∀ a, (k0_off562 v2801) a + S4x128.size a ≤ S65536x128.size a)
theorem k0_mult341_dvd : ∀ (v2801 : BitVec 32) (k0_hw341 : k0_chk341 v2801), 4 ∣ (k0_mult341 v2801).toNat := fun v2801 k0_hw341 => k0_hw341.1
theorem k0_off562_inb : ∀ (v2801 : BitVec 32) (k0_hw341 : k0_chk341 v2801), ∀ a, (k0_off562 v2801) a + S4x128.size a ≤ S65536x128.size a := fun v2801 k0_hw341 => k0_hw341.2

def k0_off563 (k0_t1 : Fin k0_t1_loop.trips) : Fin 3 → Nat :=
  let c0_1817 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2808 : Index := Scalar.indexCast v2127
  let c85_1818 : Index := 85#32
  ![0, v2808.toNat, 85]
def k0_mult342 (v2809 : BitVec 32) : BitVec 32 :=
  v2809

def k0_off564 (v2809 : BitVec 32) : Fin 2 → Nat :=
  let v2810 : BitVec 32 := v2809
  let v2811 : Index := Scalar.indexCast v2810
  let c0_1819 : Index := 0#32
  ![v2811.toNat, 0]

def k0_chk342 (v2809 : BitVec 32) : Prop :=
  (4 ∣ (k0_mult342 v2809).toNat) ∧
  (∀ a, (k0_off564 v2809) a + S4x128.size a ≤ S65536x128.size a)
theorem k0_mult342_dvd : ∀ (v2809 : BitVec 32) (k0_hw342 : k0_chk342 v2809), 4 ∣ (k0_mult342 v2809).toNat := fun v2809 k0_hw342 => k0_hw342.1
theorem k0_off564_inb : ∀ (v2809 : BitVec 32) (k0_hw342 : k0_chk342 v2809), ∀ a, (k0_off564 v2809) a + S4x128.size a ≤ S65536x128.size a := fun v2809 k0_hw342 => k0_hw342.2

def k0_off565 (k0_t1 : Fin k0_t1_loop.trips) : Fin 3 → Nat :=
  let c0_1822 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2816 : Index := Scalar.indexCast v2127
  let c86_1823 : Index := 86#32
  ![0, v2816.toNat, 86]
def k0_mult343 (v2817 : BitVec 32) : BitVec 32 :=
  v2817

def k0_off566 (v2817 : BitVec 32) : Fin 2 → Nat :=
  let v2818 : BitVec 32 := v2817
  let v2819 : Index := Scalar.indexCast v2818
  let c0_1824 : Index := 0#32
  ![v2819.toNat, 0]

def k0_chk343 (v2817 : BitVec 32) : Prop :=
  (4 ∣ (k0_mult343 v2817).toNat) ∧
  (∀ a, (k0_off566 v2817) a + S4x128.size a ≤ S65536x128.size a)
theorem k0_mult343_dvd : ∀ (v2817 : BitVec 32) (k0_hw343 : k0_chk343 v2817), 4 ∣ (k0_mult343 v2817).toNat := fun v2817 k0_hw343 => k0_hw343.1
theorem k0_off566_inb : ∀ (v2817 : BitVec 32) (k0_hw343 : k0_chk343 v2817), ∀ a, (k0_off566 v2817) a + S4x128.size a ≤ S65536x128.size a := fun v2817 k0_hw343 => k0_hw343.2

def k0_off567 (k0_t1 : Fin k0_t1_loop.trips) : Fin 3 → Nat :=
  let c0_1827 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2824 : Index := Scalar.indexCast v2127
  let c87_1828 : Index := 87#32
  ![0, v2824.toNat, 87]
def k0_mult344 (v2825 : BitVec 32) : BitVec 32 :=
  v2825

def k0_off568 (v2825 : BitVec 32) : Fin 2 → Nat :=
  let v2826 : BitVec 32 := v2825
  let v2827 : Index := Scalar.indexCast v2826
  let c0_1829 : Index := 0#32
  ![v2827.toNat, 0]

def k0_chk344 (v2825 : BitVec 32) : Prop :=
  (4 ∣ (k0_mult344 v2825).toNat) ∧
  (∀ a, (k0_off568 v2825) a + S4x128.size a ≤ S65536x128.size a)
theorem k0_mult344_dvd : ∀ (v2825 : BitVec 32) (k0_hw344 : k0_chk344 v2825), 4 ∣ (k0_mult344 v2825).toNat := fun v2825 k0_hw344 => k0_hw344.1
theorem k0_off568_inb : ∀ (v2825 : BitVec 32) (k0_hw344 : k0_chk344 v2825), ∀ a, (k0_off568 v2825) a + S4x128.size a ≤ S65536x128.size a := fun v2825 k0_hw344 => k0_hw344.2

def k0_off569 (k0_t1 : Fin k0_t1_loop.trips) : Fin 3 → Nat :=
  let c0_1832 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2832 : Index := Scalar.indexCast v2127
  let c88_1833 : Index := 88#32
  ![0, v2832.toNat, 88]
def k0_mult345 (v2833 : BitVec 32) : BitVec 32 :=
  v2833

def k0_off570 (v2833 : BitVec 32) : Fin 2 → Nat :=
  let v2834 : BitVec 32 := v2833
  let v2835 : Index := Scalar.indexCast v2834
  let c0_1834 : Index := 0#32
  ![v2835.toNat, 0]

def k0_chk345 (v2833 : BitVec 32) : Prop :=
  (4 ∣ (k0_mult345 v2833).toNat) ∧
  (∀ a, (k0_off570 v2833) a + S4x128.size a ≤ S65536x128.size a)
theorem k0_mult345_dvd : ∀ (v2833 : BitVec 32) (k0_hw345 : k0_chk345 v2833), 4 ∣ (k0_mult345 v2833).toNat := fun v2833 k0_hw345 => k0_hw345.1
theorem k0_off570_inb : ∀ (v2833 : BitVec 32) (k0_hw345 : k0_chk345 v2833), ∀ a, (k0_off570 v2833) a + S4x128.size a ≤ S65536x128.size a := fun v2833 k0_hw345 => k0_hw345.2

def k0_off571 (k0_t1 : Fin k0_t1_loop.trips) : Fin 3 → Nat :=
  let c0_1837 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2840 : Index := Scalar.indexCast v2127
  let c89_1838 : Index := 89#32
  ![0, v2840.toNat, 89]
def k0_mult346 (v2841 : BitVec 32) : BitVec 32 :=
  v2841

def k0_off572 (v2841 : BitVec 32) : Fin 2 → Nat :=
  let v2842 : BitVec 32 := v2841
  let v2843 : Index := Scalar.indexCast v2842
  let c0_1839 : Index := 0#32
  ![v2843.toNat, 0]

def k0_chk346 (v2841 : BitVec 32) : Prop :=
  (4 ∣ (k0_mult346 v2841).toNat) ∧
  (∀ a, (k0_off572 v2841) a + S4x128.size a ≤ S65536x128.size a)
theorem k0_mult346_dvd : ∀ (v2841 : BitVec 32) (k0_hw346 : k0_chk346 v2841), 4 ∣ (k0_mult346 v2841).toNat := fun v2841 k0_hw346 => k0_hw346.1
theorem k0_off572_inb : ∀ (v2841 : BitVec 32) (k0_hw346 : k0_chk346 v2841), ∀ a, (k0_off572 v2841) a + S4x128.size a ≤ S65536x128.size a := fun v2841 k0_hw346 => k0_hw346.2

def k0_off573 (k0_t1 : Fin k0_t1_loop.trips) : Fin 3 → Nat :=
  let c0_1842 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2848 : Index := Scalar.indexCast v2127
  let c90_1843 : Index := 90#32
  ![0, v2848.toNat, 90]
def k0_mult347 (v2849 : BitVec 32) : BitVec 32 :=
  v2849

def k0_off574 (v2849 : BitVec 32) : Fin 2 → Nat :=
  let v2850 : BitVec 32 := v2849
  let v2851 : Index := Scalar.indexCast v2850
  let c0_1844 : Index := 0#32
  ![v2851.toNat, 0]

def k0_chk347 (v2849 : BitVec 32) : Prop :=
  (4 ∣ (k0_mult347 v2849).toNat) ∧
  (∀ a, (k0_off574 v2849) a + S4x128.size a ≤ S65536x128.size a)
theorem k0_mult347_dvd : ∀ (v2849 : BitVec 32) (k0_hw347 : k0_chk347 v2849), 4 ∣ (k0_mult347 v2849).toNat := fun v2849 k0_hw347 => k0_hw347.1
theorem k0_off574_inb : ∀ (v2849 : BitVec 32) (k0_hw347 : k0_chk347 v2849), ∀ a, (k0_off574 v2849) a + S4x128.size a ≤ S65536x128.size a := fun v2849 k0_hw347 => k0_hw347.2

def k0_off575 (k0_t1 : Fin k0_t1_loop.trips) : Fin 3 → Nat :=
  let c0_1847 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2856 : Index := Scalar.indexCast v2127
  let c91_1848 : Index := 91#32
  ![0, v2856.toNat, 91]
def k0_mult348 (v2857 : BitVec 32) : BitVec 32 :=
  v2857

def k0_off576 (v2857 : BitVec 32) : Fin 2 → Nat :=
  let v2858 : BitVec 32 := v2857
  let v2859 : Index := Scalar.indexCast v2858
  let c0_1849 : Index := 0#32
  ![v2859.toNat, 0]

def k0_chk348 (v2857 : BitVec 32) : Prop :=
  (4 ∣ (k0_mult348 v2857).toNat) ∧
  (∀ a, (k0_off576 v2857) a + S4x128.size a ≤ S65536x128.size a)
theorem k0_mult348_dvd : ∀ (v2857 : BitVec 32) (k0_hw348 : k0_chk348 v2857), 4 ∣ (k0_mult348 v2857).toNat := fun v2857 k0_hw348 => k0_hw348.1
theorem k0_off576_inb : ∀ (v2857 : BitVec 32) (k0_hw348 : k0_chk348 v2857), ∀ a, (k0_off576 v2857) a + S4x128.size a ≤ S65536x128.size a := fun v2857 k0_hw348 => k0_hw348.2

def k0_off577 (k0_t1 : Fin k0_t1_loop.trips) : Fin 3 → Nat :=
  let c0_1852 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2864 : Index := Scalar.indexCast v2127
  let c92_1853 : Index := 92#32
  ![0, v2864.toNat, 92]
def k0_mult349 (v2865 : BitVec 32) : BitVec 32 :=
  v2865

def k0_off578 (v2865 : BitVec 32) : Fin 2 → Nat :=
  let v2866 : BitVec 32 := v2865
  let v2867 : Index := Scalar.indexCast v2866
  let c0_1854 : Index := 0#32
  ![v2867.toNat, 0]

def k0_chk349 (v2865 : BitVec 32) : Prop :=
  (4 ∣ (k0_mult349 v2865).toNat) ∧
  (∀ a, (k0_off578 v2865) a + S4x128.size a ≤ S65536x128.size a)
theorem k0_mult349_dvd : ∀ (v2865 : BitVec 32) (k0_hw349 : k0_chk349 v2865), 4 ∣ (k0_mult349 v2865).toNat := fun v2865 k0_hw349 => k0_hw349.1
theorem k0_off578_inb : ∀ (v2865 : BitVec 32) (k0_hw349 : k0_chk349 v2865), ∀ a, (k0_off578 v2865) a + S4x128.size a ≤ S65536x128.size a := fun v2865 k0_hw349 => k0_hw349.2

def k0_off579 (k0_t1 : Fin k0_t1_loop.trips) : Fin 3 → Nat :=
  let c0_1857 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2872 : Index := Scalar.indexCast v2127
  let c93_1858 : Index := 93#32
  ![0, v2872.toNat, 93]
def k0_mult350 (v2873 : BitVec 32) : BitVec 32 :=
  v2873

def k0_off580 (v2873 : BitVec 32) : Fin 2 → Nat :=
  let v2874 : BitVec 32 := v2873
  let v2875 : Index := Scalar.indexCast v2874
  let c0_1859 : Index := 0#32
  ![v2875.toNat, 0]

def k0_chk350 (v2873 : BitVec 32) : Prop :=
  (4 ∣ (k0_mult350 v2873).toNat) ∧
  (∀ a, (k0_off580 v2873) a + S4x128.size a ≤ S65536x128.size a)
theorem k0_mult350_dvd : ∀ (v2873 : BitVec 32) (k0_hw350 : k0_chk350 v2873), 4 ∣ (k0_mult350 v2873).toNat := fun v2873 k0_hw350 => k0_hw350.1
theorem k0_off580_inb : ∀ (v2873 : BitVec 32) (k0_hw350 : k0_chk350 v2873), ∀ a, (k0_off580 v2873) a + S4x128.size a ≤ S65536x128.size a := fun v2873 k0_hw350 => k0_hw350.2

def k0_off581 (k0_t1 : Fin k0_t1_loop.trips) : Fin 3 → Nat :=
  let c0_1862 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2880 : Index := Scalar.indexCast v2127
  let c94_1863 : Index := 94#32
  ![0, v2880.toNat, 94]
def k0_mult351 (v2881 : BitVec 32) : BitVec 32 :=
  v2881

def k0_off582 (v2881 : BitVec 32) : Fin 2 → Nat :=
  let v2882 : BitVec 32 := v2881
  let v2883 : Index := Scalar.indexCast v2882
  let c0_1864 : Index := 0#32
  ![v2883.toNat, 0]

def k0_chk351 (v2881 : BitVec 32) : Prop :=
  (4 ∣ (k0_mult351 v2881).toNat) ∧
  (∀ a, (k0_off582 v2881) a + S4x128.size a ≤ S65536x128.size a)
theorem k0_mult351_dvd : ∀ (v2881 : BitVec 32) (k0_hw351 : k0_chk351 v2881), 4 ∣ (k0_mult351 v2881).toNat := fun v2881 k0_hw351 => k0_hw351.1
theorem k0_off582_inb : ∀ (v2881 : BitVec 32) (k0_hw351 : k0_chk351 v2881), ∀ a, (k0_off582 v2881) a + S4x128.size a ≤ S65536x128.size a := fun v2881 k0_hw351 => k0_hw351.2

def k0_off583 (k0_t1 : Fin k0_t1_loop.trips) : Fin 3 → Nat :=
  let c0_1867 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2888 : Index := Scalar.indexCast v2127
  let c95_1868 : Index := 95#32
  ![0, v2888.toNat, 95]
def k0_mult352 (v2889 : BitVec 32) : BitVec 32 :=
  v2889

def k0_off584 (v2889 : BitVec 32) : Fin 2 → Nat :=
  let v2890 : BitVec 32 := v2889
  let v2891 : Index := Scalar.indexCast v2890
  let c0_1869 : Index := 0#32
  ![v2891.toNat, 0]

def k0_chk352 (v2889 : BitVec 32) : Prop :=
  (4 ∣ (k0_mult352 v2889).toNat) ∧
  (∀ a, (k0_off584 v2889) a + S4x128.size a ≤ S65536x128.size a)
theorem k0_mult352_dvd : ∀ (v2889 : BitVec 32) (k0_hw352 : k0_chk352 v2889), 4 ∣ (k0_mult352 v2889).toNat := fun v2889 k0_hw352 => k0_hw352.1
theorem k0_off584_inb : ∀ (v2889 : BitVec 32) (k0_hw352 : k0_chk352 v2889), ∀ a, (k0_off584 v2889) a + S4x128.size a ≤ S65536x128.size a := fun v2889 k0_hw352 => k0_hw352.2

def k0_off585 (k0_t1 : Fin k0_t1_loop.trips) : Fin 3 → Nat :=
  let c0_1872 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2896 : Index := Scalar.indexCast v2127
  let c96_1873 : Index := 96#32
  ![0, v2896.toNat, 96]
def k0_mult353 (v2897 : BitVec 32) : BitVec 32 :=
  v2897

def k0_off586 (v2897 : BitVec 32) : Fin 2 → Nat :=
  let v2898 : BitVec 32 := v2897
  let v2899 : Index := Scalar.indexCast v2898
  let c0_1874 : Index := 0#32
  ![v2899.toNat, 0]

def k0_chk353 (v2897 : BitVec 32) : Prop :=
  (4 ∣ (k0_mult353 v2897).toNat) ∧
  (∀ a, (k0_off586 v2897) a + S4x128.size a ≤ S65536x128.size a)
theorem k0_mult353_dvd : ∀ (v2897 : BitVec 32) (k0_hw353 : k0_chk353 v2897), 4 ∣ (k0_mult353 v2897).toNat := fun v2897 k0_hw353 => k0_hw353.1
theorem k0_off586_inb : ∀ (v2897 : BitVec 32) (k0_hw353 : k0_chk353 v2897), ∀ a, (k0_off586 v2897) a + S4x128.size a ≤ S65536x128.size a := fun v2897 k0_hw353 => k0_hw353.2

def k0_off587 (k0_t1 : Fin k0_t1_loop.trips) : Fin 3 → Nat :=
  let c0_1877 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2904 : Index := Scalar.indexCast v2127
  let c97_1878 : Index := 97#32
  ![0, v2904.toNat, 97]
def k0_mult354 (v2905 : BitVec 32) : BitVec 32 :=
  v2905

def k0_off588 (v2905 : BitVec 32) : Fin 2 → Nat :=
  let v2906 : BitVec 32 := v2905
  let v2907 : Index := Scalar.indexCast v2906
  let c0_1879 : Index := 0#32
  ![v2907.toNat, 0]

def k0_chk354 (v2905 : BitVec 32) : Prop :=
  (4 ∣ (k0_mult354 v2905).toNat) ∧
  (∀ a, (k0_off588 v2905) a + S4x128.size a ≤ S65536x128.size a)
theorem k0_mult354_dvd : ∀ (v2905 : BitVec 32) (k0_hw354 : k0_chk354 v2905), 4 ∣ (k0_mult354 v2905).toNat := fun v2905 k0_hw354 => k0_hw354.1
theorem k0_off588_inb : ∀ (v2905 : BitVec 32) (k0_hw354 : k0_chk354 v2905), ∀ a, (k0_off588 v2905) a + S4x128.size a ≤ S65536x128.size a := fun v2905 k0_hw354 => k0_hw354.2

def k0_off589 (k0_t1 : Fin k0_t1_loop.trips) : Fin 3 → Nat :=
  let c0_1882 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2912 : Index := Scalar.indexCast v2127
  let c98_1883 : Index := 98#32
  ![0, v2912.toNat, 98]
def k0_mult355 (v2913 : BitVec 32) : BitVec 32 :=
  v2913

def k0_off590 (v2913 : BitVec 32) : Fin 2 → Nat :=
  let v2914 : BitVec 32 := v2913
  let v2915 : Index := Scalar.indexCast v2914
  let c0_1884 : Index := 0#32
  ![v2915.toNat, 0]

def k0_chk355 (v2913 : BitVec 32) : Prop :=
  (4 ∣ (k0_mult355 v2913).toNat) ∧
  (∀ a, (k0_off590 v2913) a + S4x128.size a ≤ S65536x128.size a)
theorem k0_mult355_dvd : ∀ (v2913 : BitVec 32) (k0_hw355 : k0_chk355 v2913), 4 ∣ (k0_mult355 v2913).toNat := fun v2913 k0_hw355 => k0_hw355.1
theorem k0_off590_inb : ∀ (v2913 : BitVec 32) (k0_hw355 : k0_chk355 v2913), ∀ a, (k0_off590 v2913) a + S4x128.size a ≤ S65536x128.size a := fun v2913 k0_hw355 => k0_hw355.2

def k0_off591 (k0_t1 : Fin k0_t1_loop.trips) : Fin 3 → Nat :=
  let c0_1887 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2920 : Index := Scalar.indexCast v2127
  let c99_1888 : Index := 99#32
  ![0, v2920.toNat, 99]
def k0_mult356 (v2921 : BitVec 32) : BitVec 32 :=
  v2921

def k0_off592 (v2921 : BitVec 32) : Fin 2 → Nat :=
  let v2922 : BitVec 32 := v2921
  let v2923 : Index := Scalar.indexCast v2922
  let c0_1889 : Index := 0#32
  ![v2923.toNat, 0]

def k0_chk356 (v2921 : BitVec 32) : Prop :=
  (4 ∣ (k0_mult356 v2921).toNat) ∧
  (∀ a, (k0_off592 v2921) a + S4x128.size a ≤ S65536x128.size a)
theorem k0_mult356_dvd : ∀ (v2921 : BitVec 32) (k0_hw356 : k0_chk356 v2921), 4 ∣ (k0_mult356 v2921).toNat := fun v2921 k0_hw356 => k0_hw356.1
theorem k0_off592_inb : ∀ (v2921 : BitVec 32) (k0_hw356 : k0_chk356 v2921), ∀ a, (k0_off592 v2921) a + S4x128.size a ≤ S65536x128.size a := fun v2921 k0_hw356 => k0_hw356.2

def k0_off593 (k0_t1 : Fin k0_t1_loop.trips) : Fin 3 → Nat :=
  let c0_1892 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2928 : Index := Scalar.indexCast v2127
  let c100_1893 : Index := 100#32
  ![0, v2928.toNat, 100]
def k0_mult357 (v2929 : BitVec 32) : BitVec 32 :=
  v2929

def k0_off594 (v2929 : BitVec 32) : Fin 2 → Nat :=
  let v2930 : BitVec 32 := v2929
  let v2931 : Index := Scalar.indexCast v2930
  let c0_1894 : Index := 0#32
  ![v2931.toNat, 0]

def k0_chk357 (v2929 : BitVec 32) : Prop :=
  (4 ∣ (k0_mult357 v2929).toNat) ∧
  (∀ a, (k0_off594 v2929) a + S4x128.size a ≤ S65536x128.size a)
theorem k0_mult357_dvd : ∀ (v2929 : BitVec 32) (k0_hw357 : k0_chk357 v2929), 4 ∣ (k0_mult357 v2929).toNat := fun v2929 k0_hw357 => k0_hw357.1
theorem k0_off594_inb : ∀ (v2929 : BitVec 32) (k0_hw357 : k0_chk357 v2929), ∀ a, (k0_off594 v2929) a + S4x128.size a ≤ S65536x128.size a := fun v2929 k0_hw357 => k0_hw357.2

def k0_off595 (k0_t1 : Fin k0_t1_loop.trips) : Fin 3 → Nat :=
  let c0_1897 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2936 : Index := Scalar.indexCast v2127
  let c101_1898 : Index := 101#32
  ![0, v2936.toNat, 101]
def k0_mult358 (v2937 : BitVec 32) : BitVec 32 :=
  v2937

def k0_off596 (v2937 : BitVec 32) : Fin 2 → Nat :=
  let v2938 : BitVec 32 := v2937
  let v2939 : Index := Scalar.indexCast v2938
  let c0_1899 : Index := 0#32
  ![v2939.toNat, 0]

def k0_chk358 (v2937 : BitVec 32) : Prop :=
  (4 ∣ (k0_mult358 v2937).toNat) ∧
  (∀ a, (k0_off596 v2937) a + S4x128.size a ≤ S65536x128.size a)
theorem k0_mult358_dvd : ∀ (v2937 : BitVec 32) (k0_hw358 : k0_chk358 v2937), 4 ∣ (k0_mult358 v2937).toNat := fun v2937 k0_hw358 => k0_hw358.1
theorem k0_off596_inb : ∀ (v2937 : BitVec 32) (k0_hw358 : k0_chk358 v2937), ∀ a, (k0_off596 v2937) a + S4x128.size a ≤ S65536x128.size a := fun v2937 k0_hw358 => k0_hw358.2

def k0_off597 (k0_t1 : Fin k0_t1_loop.trips) : Fin 3 → Nat :=
  let c0_1902 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2944 : Index := Scalar.indexCast v2127
  let c102_1903 : Index := 102#32
  ![0, v2944.toNat, 102]
def k0_mult359 (v2945 : BitVec 32) : BitVec 32 :=
  v2945

def k0_off598 (v2945 : BitVec 32) : Fin 2 → Nat :=
  let v2946 : BitVec 32 := v2945
  let v2947 : Index := Scalar.indexCast v2946
  let c0_1904 : Index := 0#32
  ![v2947.toNat, 0]

def k0_chk359 (v2945 : BitVec 32) : Prop :=
  (4 ∣ (k0_mult359 v2945).toNat) ∧
  (∀ a, (k0_off598 v2945) a + S4x128.size a ≤ S65536x128.size a)
theorem k0_mult359_dvd : ∀ (v2945 : BitVec 32) (k0_hw359 : k0_chk359 v2945), 4 ∣ (k0_mult359 v2945).toNat := fun v2945 k0_hw359 => k0_hw359.1
theorem k0_off598_inb : ∀ (v2945 : BitVec 32) (k0_hw359 : k0_chk359 v2945), ∀ a, (k0_off598 v2945) a + S4x128.size a ≤ S65536x128.size a := fun v2945 k0_hw359 => k0_hw359.2

def k0_off599 (k0_t1 : Fin k0_t1_loop.trips) : Fin 3 → Nat :=
  let c0_1907 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2952 : Index := Scalar.indexCast v2127
  let c103_1908 : Index := 103#32
  ![0, v2952.toNat, 103]
def k0_mult360 (v2953 : BitVec 32) : BitVec 32 :=
  v2953

def k0_off600 (v2953 : BitVec 32) : Fin 2 → Nat :=
  let v2954 : BitVec 32 := v2953
  let v2955 : Index := Scalar.indexCast v2954
  let c0_1909 : Index := 0#32
  ![v2955.toNat, 0]

def k0_chk360 (v2953 : BitVec 32) : Prop :=
  (4 ∣ (k0_mult360 v2953).toNat) ∧
  (∀ a, (k0_off600 v2953) a + S4x128.size a ≤ S65536x128.size a)
theorem k0_mult360_dvd : ∀ (v2953 : BitVec 32) (k0_hw360 : k0_chk360 v2953), 4 ∣ (k0_mult360 v2953).toNat := fun v2953 k0_hw360 => k0_hw360.1
theorem k0_off600_inb : ∀ (v2953 : BitVec 32) (k0_hw360 : k0_chk360 v2953), ∀ a, (k0_off600 v2953) a + S4x128.size a ≤ S65536x128.size a := fun v2953 k0_hw360 => k0_hw360.2

def k0_off601 (k0_t1 : Fin k0_t1_loop.trips) : Fin 3 → Nat :=
  let c0_1912 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2960 : Index := Scalar.indexCast v2127
  let c104_1913 : Index := 104#32
  ![0, v2960.toNat, 104]
def k0_mult361 (v2961 : BitVec 32) : BitVec 32 :=
  v2961

def k0_off602 (v2961 : BitVec 32) : Fin 2 → Nat :=
  let v2962 : BitVec 32 := v2961
  let v2963 : Index := Scalar.indexCast v2962
  let c0_1914 : Index := 0#32
  ![v2963.toNat, 0]

def k0_chk361 (v2961 : BitVec 32) : Prop :=
  (4 ∣ (k0_mult361 v2961).toNat) ∧
  (∀ a, (k0_off602 v2961) a + S4x128.size a ≤ S65536x128.size a)
theorem k0_mult361_dvd : ∀ (v2961 : BitVec 32) (k0_hw361 : k0_chk361 v2961), 4 ∣ (k0_mult361 v2961).toNat := fun v2961 k0_hw361 => k0_hw361.1
theorem k0_off602_inb : ∀ (v2961 : BitVec 32) (k0_hw361 : k0_chk361 v2961), ∀ a, (k0_off602 v2961) a + S4x128.size a ≤ S65536x128.size a := fun v2961 k0_hw361 => k0_hw361.2

def k0_off603 (k0_t1 : Fin k0_t1_loop.trips) : Fin 3 → Nat :=
  let c0_1917 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2968 : Index := Scalar.indexCast v2127
  let c105_1918 : Index := 105#32
  ![0, v2968.toNat, 105]
def k0_mult362 (v2969 : BitVec 32) : BitVec 32 :=
  v2969

def k0_off604 (v2969 : BitVec 32) : Fin 2 → Nat :=
  let v2970 : BitVec 32 := v2969
  let v2971 : Index := Scalar.indexCast v2970
  let c0_1919 : Index := 0#32
  ![v2971.toNat, 0]

def k0_chk362 (v2969 : BitVec 32) : Prop :=
  (4 ∣ (k0_mult362 v2969).toNat) ∧
  (∀ a, (k0_off604 v2969) a + S4x128.size a ≤ S65536x128.size a)
theorem k0_mult362_dvd : ∀ (v2969 : BitVec 32) (k0_hw362 : k0_chk362 v2969), 4 ∣ (k0_mult362 v2969).toNat := fun v2969 k0_hw362 => k0_hw362.1
theorem k0_off604_inb : ∀ (v2969 : BitVec 32) (k0_hw362 : k0_chk362 v2969), ∀ a, (k0_off604 v2969) a + S4x128.size a ≤ S65536x128.size a := fun v2969 k0_hw362 => k0_hw362.2

def k0_off605 (k0_t1 : Fin k0_t1_loop.trips) : Fin 3 → Nat :=
  let c0_1922 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2976 : Index := Scalar.indexCast v2127
  let c106_1923 : Index := 106#32
  ![0, v2976.toNat, 106]
def k0_mult363 (v2977 : BitVec 32) : BitVec 32 :=
  v2977

def k0_off606 (v2977 : BitVec 32) : Fin 2 → Nat :=
  let v2978 : BitVec 32 := v2977
  let v2979 : Index := Scalar.indexCast v2978
  let c0_1924 : Index := 0#32
  ![v2979.toNat, 0]

def k0_chk363 (v2977 : BitVec 32) : Prop :=
  (4 ∣ (k0_mult363 v2977).toNat) ∧
  (∀ a, (k0_off606 v2977) a + S4x128.size a ≤ S65536x128.size a)
theorem k0_mult363_dvd : ∀ (v2977 : BitVec 32) (k0_hw363 : k0_chk363 v2977), 4 ∣ (k0_mult363 v2977).toNat := fun v2977 k0_hw363 => k0_hw363.1
theorem k0_off606_inb : ∀ (v2977 : BitVec 32) (k0_hw363 : k0_chk363 v2977), ∀ a, (k0_off606 v2977) a + S4x128.size a ≤ S65536x128.size a := fun v2977 k0_hw363 => k0_hw363.2

def k0_off607 (k0_t1 : Fin k0_t1_loop.trips) : Fin 3 → Nat :=
  let c0_1927 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2984 : Index := Scalar.indexCast v2127
  let c107_1928 : Index := 107#32
  ![0, v2984.toNat, 107]
def k0_mult364 (v2985 : BitVec 32) : BitVec 32 :=
  v2985

def k0_off608 (v2985 : BitVec 32) : Fin 2 → Nat :=
  let v2986 : BitVec 32 := v2985
  let v2987 : Index := Scalar.indexCast v2986
  let c0_1929 : Index := 0#32
  ![v2987.toNat, 0]

def k0_chk364 (v2985 : BitVec 32) : Prop :=
  (4 ∣ (k0_mult364 v2985).toNat) ∧
  (∀ a, (k0_off608 v2985) a + S4x128.size a ≤ S65536x128.size a)
theorem k0_mult364_dvd : ∀ (v2985 : BitVec 32) (k0_hw364 : k0_chk364 v2985), 4 ∣ (k0_mult364 v2985).toNat := fun v2985 k0_hw364 => k0_hw364.1
theorem k0_off608_inb : ∀ (v2985 : BitVec 32) (k0_hw364 : k0_chk364 v2985), ∀ a, (k0_off608 v2985) a + S4x128.size a ≤ S65536x128.size a := fun v2985 k0_hw364 => k0_hw364.2

def k0_off609 (k0_t1 : Fin k0_t1_loop.trips) : Fin 3 → Nat :=
  let c0_1932 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v2992 : Index := Scalar.indexCast v2127
  let c108_1933 : Index := 108#32
  ![0, v2992.toNat, 108]
def k0_mult365 (v2993 : BitVec 32) : BitVec 32 :=
  v2993

def k0_off610 (v2993 : BitVec 32) : Fin 2 → Nat :=
  let v2994 : BitVec 32 := v2993
  let v2995 : Index := Scalar.indexCast v2994
  let c0_1934 : Index := 0#32
  ![v2995.toNat, 0]

def k0_chk365 (v2993 : BitVec 32) : Prop :=
  (4 ∣ (k0_mult365 v2993).toNat) ∧
  (∀ a, (k0_off610 v2993) a + S4x128.size a ≤ S65536x128.size a)
theorem k0_mult365_dvd : ∀ (v2993 : BitVec 32) (k0_hw365 : k0_chk365 v2993), 4 ∣ (k0_mult365 v2993).toNat := fun v2993 k0_hw365 => k0_hw365.1
theorem k0_off610_inb : ∀ (v2993 : BitVec 32) (k0_hw365 : k0_chk365 v2993), ∀ a, (k0_off610 v2993) a + S4x128.size a ≤ S65536x128.size a := fun v2993 k0_hw365 => k0_hw365.2

def k0_off611 (k0_t1 : Fin k0_t1_loop.trips) : Fin 3 → Nat :=
  let c0_1937 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3000 : Index := Scalar.indexCast v2127
  let c109_1938 : Index := 109#32
  ![0, v3000.toNat, 109]
def k0_mult366 (v3001 : BitVec 32) : BitVec 32 :=
  v3001

def k0_off612 (v3001 : BitVec 32) : Fin 2 → Nat :=
  let v3002 : BitVec 32 := v3001
  let v3003 : Index := Scalar.indexCast v3002
  let c0_1939 : Index := 0#32
  ![v3003.toNat, 0]

def k0_chk366 (v3001 : BitVec 32) : Prop :=
  (4 ∣ (k0_mult366 v3001).toNat) ∧
  (∀ a, (k0_off612 v3001) a + S4x128.size a ≤ S65536x128.size a)
theorem k0_mult366_dvd : ∀ (v3001 : BitVec 32) (k0_hw366 : k0_chk366 v3001), 4 ∣ (k0_mult366 v3001).toNat := fun v3001 k0_hw366 => k0_hw366.1
theorem k0_off612_inb : ∀ (v3001 : BitVec 32) (k0_hw366 : k0_chk366 v3001), ∀ a, (k0_off612 v3001) a + S4x128.size a ≤ S65536x128.size a := fun v3001 k0_hw366 => k0_hw366.2

def k0_off613 (k0_t1 : Fin k0_t1_loop.trips) : Fin 3 → Nat :=
  let c0_1942 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3008 : Index := Scalar.indexCast v2127
  let c110_1943 : Index := 110#32
  ![0, v3008.toNat, 110]
def k0_mult367 (v3009 : BitVec 32) : BitVec 32 :=
  v3009

def k0_off614 (v3009 : BitVec 32) : Fin 2 → Nat :=
  let v3010 : BitVec 32 := v3009
  let v3011 : Index := Scalar.indexCast v3010
  let c0_1944 : Index := 0#32
  ![v3011.toNat, 0]

def k0_chk367 (v3009 : BitVec 32) : Prop :=
  (4 ∣ (k0_mult367 v3009).toNat) ∧
  (∀ a, (k0_off614 v3009) a + S4x128.size a ≤ S65536x128.size a)
theorem k0_mult367_dvd : ∀ (v3009 : BitVec 32) (k0_hw367 : k0_chk367 v3009), 4 ∣ (k0_mult367 v3009).toNat := fun v3009 k0_hw367 => k0_hw367.1
theorem k0_off614_inb : ∀ (v3009 : BitVec 32) (k0_hw367 : k0_chk367 v3009), ∀ a, (k0_off614 v3009) a + S4x128.size a ≤ S65536x128.size a := fun v3009 k0_hw367 => k0_hw367.2

def k0_off615 (k0_t1 : Fin k0_t1_loop.trips) : Fin 3 → Nat :=
  let c0_1947 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3016 : Index := Scalar.indexCast v2127
  let c111_1948 : Index := 111#32
  ![0, v3016.toNat, 111]
def k0_mult368 (v3017 : BitVec 32) : BitVec 32 :=
  v3017

def k0_off616 (v3017 : BitVec 32) : Fin 2 → Nat :=
  let v3018 : BitVec 32 := v3017
  let v3019 : Index := Scalar.indexCast v3018
  let c0_1949 : Index := 0#32
  ![v3019.toNat, 0]

def k0_chk368 (v3017 : BitVec 32) : Prop :=
  (4 ∣ (k0_mult368 v3017).toNat) ∧
  (∀ a, (k0_off616 v3017) a + S4x128.size a ≤ S65536x128.size a)
theorem k0_mult368_dvd : ∀ (v3017 : BitVec 32) (k0_hw368 : k0_chk368 v3017), 4 ∣ (k0_mult368 v3017).toNat := fun v3017 k0_hw368 => k0_hw368.1
theorem k0_off616_inb : ∀ (v3017 : BitVec 32) (k0_hw368 : k0_chk368 v3017), ∀ a, (k0_off616 v3017) a + S4x128.size a ≤ S65536x128.size a := fun v3017 k0_hw368 => k0_hw368.2

def k0_off617 (k0_t1 : Fin k0_t1_loop.trips) : Fin 3 → Nat :=
  let c0_1952 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3024 : Index := Scalar.indexCast v2127
  let c112_1953 : Index := 112#32
  ![0, v3024.toNat, 112]
def k0_mult369 (v3025 : BitVec 32) : BitVec 32 :=
  v3025

def k0_off618 (v3025 : BitVec 32) : Fin 2 → Nat :=
  let v3026 : BitVec 32 := v3025
  let v3027 : Index := Scalar.indexCast v3026
  let c0_1954 : Index := 0#32
  ![v3027.toNat, 0]

def k0_chk369 (v3025 : BitVec 32) : Prop :=
  (4 ∣ (k0_mult369 v3025).toNat) ∧
  (∀ a, (k0_off618 v3025) a + S4x128.size a ≤ S65536x128.size a)
theorem k0_mult369_dvd : ∀ (v3025 : BitVec 32) (k0_hw369 : k0_chk369 v3025), 4 ∣ (k0_mult369 v3025).toNat := fun v3025 k0_hw369 => k0_hw369.1
theorem k0_off618_inb : ∀ (v3025 : BitVec 32) (k0_hw369 : k0_chk369 v3025), ∀ a, (k0_off618 v3025) a + S4x128.size a ≤ S65536x128.size a := fun v3025 k0_hw369 => k0_hw369.2

def k0_off619 (k0_t1 : Fin k0_t1_loop.trips) : Fin 3 → Nat :=
  let c0_1957 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3032 : Index := Scalar.indexCast v2127
  let c113_1958 : Index := 113#32
  ![0, v3032.toNat, 113]
def k0_mult370 (v3033 : BitVec 32) : BitVec 32 :=
  v3033

def k0_off620 (v3033 : BitVec 32) : Fin 2 → Nat :=
  let v3034 : BitVec 32 := v3033
  let v3035 : Index := Scalar.indexCast v3034
  let c0_1959 : Index := 0#32
  ![v3035.toNat, 0]

def k0_chk370 (v3033 : BitVec 32) : Prop :=
  (4 ∣ (k0_mult370 v3033).toNat) ∧
  (∀ a, (k0_off620 v3033) a + S4x128.size a ≤ S65536x128.size a)
theorem k0_mult370_dvd : ∀ (v3033 : BitVec 32) (k0_hw370 : k0_chk370 v3033), 4 ∣ (k0_mult370 v3033).toNat := fun v3033 k0_hw370 => k0_hw370.1
theorem k0_off620_inb : ∀ (v3033 : BitVec 32) (k0_hw370 : k0_chk370 v3033), ∀ a, (k0_off620 v3033) a + S4x128.size a ≤ S65536x128.size a := fun v3033 k0_hw370 => k0_hw370.2

def k0_off621 (k0_t1 : Fin k0_t1_loop.trips) : Fin 3 → Nat :=
  let c0_1962 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3040 : Index := Scalar.indexCast v2127
  let c114_1963 : Index := 114#32
  ![0, v3040.toNat, 114]
def k0_mult371 (v3041 : BitVec 32) : BitVec 32 :=
  v3041

def k0_off622 (v3041 : BitVec 32) : Fin 2 → Nat :=
  let v3042 : BitVec 32 := v3041
  let v3043 : Index := Scalar.indexCast v3042
  let c0_1964 : Index := 0#32
  ![v3043.toNat, 0]

def k0_chk371 (v3041 : BitVec 32) : Prop :=
  (4 ∣ (k0_mult371 v3041).toNat) ∧
  (∀ a, (k0_off622 v3041) a + S4x128.size a ≤ S65536x128.size a)
theorem k0_mult371_dvd : ∀ (v3041 : BitVec 32) (k0_hw371 : k0_chk371 v3041), 4 ∣ (k0_mult371 v3041).toNat := fun v3041 k0_hw371 => k0_hw371.1
theorem k0_off622_inb : ∀ (v3041 : BitVec 32) (k0_hw371 : k0_chk371 v3041), ∀ a, (k0_off622 v3041) a + S4x128.size a ≤ S65536x128.size a := fun v3041 k0_hw371 => k0_hw371.2

def k0_off623 (k0_t1 : Fin k0_t1_loop.trips) : Fin 3 → Nat :=
  let c0_1967 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3048 : Index := Scalar.indexCast v2127
  let c115_1968 : Index := 115#32
  ![0, v3048.toNat, 115]
def k0_mult372 (v3049 : BitVec 32) : BitVec 32 :=
  v3049

def k0_off624 (v3049 : BitVec 32) : Fin 2 → Nat :=
  let v3050 : BitVec 32 := v3049
  let v3051 : Index := Scalar.indexCast v3050
  let c0_1969 : Index := 0#32
  ![v3051.toNat, 0]

def k0_chk372 (v3049 : BitVec 32) : Prop :=
  (4 ∣ (k0_mult372 v3049).toNat) ∧
  (∀ a, (k0_off624 v3049) a + S4x128.size a ≤ S65536x128.size a)
theorem k0_mult372_dvd : ∀ (v3049 : BitVec 32) (k0_hw372 : k0_chk372 v3049), 4 ∣ (k0_mult372 v3049).toNat := fun v3049 k0_hw372 => k0_hw372.1
theorem k0_off624_inb : ∀ (v3049 : BitVec 32) (k0_hw372 : k0_chk372 v3049), ∀ a, (k0_off624 v3049) a + S4x128.size a ≤ S65536x128.size a := fun v3049 k0_hw372 => k0_hw372.2

def k0_off625 (k0_t1 : Fin k0_t1_loop.trips) : Fin 3 → Nat :=
  let c0_1972 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3056 : Index := Scalar.indexCast v2127
  let c116_1973 : Index := 116#32
  ![0, v3056.toNat, 116]
def k0_mult373 (v3057 : BitVec 32) : BitVec 32 :=
  v3057

def k0_off626 (v3057 : BitVec 32) : Fin 2 → Nat :=
  let v3058 : BitVec 32 := v3057
  let v3059 : Index := Scalar.indexCast v3058
  let c0_1974 : Index := 0#32
  ![v3059.toNat, 0]

def k0_chk373 (v3057 : BitVec 32) : Prop :=
  (4 ∣ (k0_mult373 v3057).toNat) ∧
  (∀ a, (k0_off626 v3057) a + S4x128.size a ≤ S65536x128.size a)
theorem k0_mult373_dvd : ∀ (v3057 : BitVec 32) (k0_hw373 : k0_chk373 v3057), 4 ∣ (k0_mult373 v3057).toNat := fun v3057 k0_hw373 => k0_hw373.1
theorem k0_off626_inb : ∀ (v3057 : BitVec 32) (k0_hw373 : k0_chk373 v3057), ∀ a, (k0_off626 v3057) a + S4x128.size a ≤ S65536x128.size a := fun v3057 k0_hw373 => k0_hw373.2

def k0_off627 (k0_t1 : Fin k0_t1_loop.trips) : Fin 3 → Nat :=
  let c0_1977 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3064 : Index := Scalar.indexCast v2127
  let c117_1978 : Index := 117#32
  ![0, v3064.toNat, 117]
def k0_mult374 (v3065 : BitVec 32) : BitVec 32 :=
  v3065

def k0_off628 (v3065 : BitVec 32) : Fin 2 → Nat :=
  let v3066 : BitVec 32 := v3065
  let v3067 : Index := Scalar.indexCast v3066
  let c0_1979 : Index := 0#32
  ![v3067.toNat, 0]

def k0_chk374 (v3065 : BitVec 32) : Prop :=
  (4 ∣ (k0_mult374 v3065).toNat) ∧
  (∀ a, (k0_off628 v3065) a + S4x128.size a ≤ S65536x128.size a)
theorem k0_mult374_dvd : ∀ (v3065 : BitVec 32) (k0_hw374 : k0_chk374 v3065), 4 ∣ (k0_mult374 v3065).toNat := fun v3065 k0_hw374 => k0_hw374.1
theorem k0_off628_inb : ∀ (v3065 : BitVec 32) (k0_hw374 : k0_chk374 v3065), ∀ a, (k0_off628 v3065) a + S4x128.size a ≤ S65536x128.size a := fun v3065 k0_hw374 => k0_hw374.2

def k0_off629 (k0_t1 : Fin k0_t1_loop.trips) : Fin 3 → Nat :=
  let c0_1982 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3072 : Index := Scalar.indexCast v2127
  let c118_1983 : Index := 118#32
  ![0, v3072.toNat, 118]
def k0_mult375 (v3073 : BitVec 32) : BitVec 32 :=
  v3073

def k0_off630 (v3073 : BitVec 32) : Fin 2 → Nat :=
  let v3074 : BitVec 32 := v3073
  let v3075 : Index := Scalar.indexCast v3074
  let c0_1984 : Index := 0#32
  ![v3075.toNat, 0]

def k0_chk375 (v3073 : BitVec 32) : Prop :=
  (4 ∣ (k0_mult375 v3073).toNat) ∧
  (∀ a, (k0_off630 v3073) a + S4x128.size a ≤ S65536x128.size a)
theorem k0_mult375_dvd : ∀ (v3073 : BitVec 32) (k0_hw375 : k0_chk375 v3073), 4 ∣ (k0_mult375 v3073).toNat := fun v3073 k0_hw375 => k0_hw375.1
theorem k0_off630_inb : ∀ (v3073 : BitVec 32) (k0_hw375 : k0_chk375 v3073), ∀ a, (k0_off630 v3073) a + S4x128.size a ≤ S65536x128.size a := fun v3073 k0_hw375 => k0_hw375.2

def k0_off631 (k0_t1 : Fin k0_t1_loop.trips) : Fin 3 → Nat :=
  let c0_1987 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3080 : Index := Scalar.indexCast v2127
  let c119_1988 : Index := 119#32
  ![0, v3080.toNat, 119]
def k0_mult376 (v3081 : BitVec 32) : BitVec 32 :=
  v3081

def k0_off632 (v3081 : BitVec 32) : Fin 2 → Nat :=
  let v3082 : BitVec 32 := v3081
  let v3083 : Index := Scalar.indexCast v3082
  let c0_1989 : Index := 0#32
  ![v3083.toNat, 0]

def k0_chk376 (v3081 : BitVec 32) : Prop :=
  (4 ∣ (k0_mult376 v3081).toNat) ∧
  (∀ a, (k0_off632 v3081) a + S4x128.size a ≤ S65536x128.size a)
theorem k0_mult376_dvd : ∀ (v3081 : BitVec 32) (k0_hw376 : k0_chk376 v3081), 4 ∣ (k0_mult376 v3081).toNat := fun v3081 k0_hw376 => k0_hw376.1
theorem k0_off632_inb : ∀ (v3081 : BitVec 32) (k0_hw376 : k0_chk376 v3081), ∀ a, (k0_off632 v3081) a + S4x128.size a ≤ S65536x128.size a := fun v3081 k0_hw376 => k0_hw376.2

def k0_off633 (k0_t1 : Fin k0_t1_loop.trips) : Fin 3 → Nat :=
  let c0_1992 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3088 : Index := Scalar.indexCast v2127
  let c120_1993 : Index := 120#32
  ![0, v3088.toNat, 120]
def k0_mult377 (v3089 : BitVec 32) : BitVec 32 :=
  v3089

def k0_off634 (v3089 : BitVec 32) : Fin 2 → Nat :=
  let v3090 : BitVec 32 := v3089
  let v3091 : Index := Scalar.indexCast v3090
  let c0_1994 : Index := 0#32
  ![v3091.toNat, 0]

def k0_chk377 (v3089 : BitVec 32) : Prop :=
  (4 ∣ (k0_mult377 v3089).toNat) ∧
  (∀ a, (k0_off634 v3089) a + S4x128.size a ≤ S65536x128.size a)
theorem k0_mult377_dvd : ∀ (v3089 : BitVec 32) (k0_hw377 : k0_chk377 v3089), 4 ∣ (k0_mult377 v3089).toNat := fun v3089 k0_hw377 => k0_hw377.1
theorem k0_off634_inb : ∀ (v3089 : BitVec 32) (k0_hw377 : k0_chk377 v3089), ∀ a, (k0_off634 v3089) a + S4x128.size a ≤ S65536x128.size a := fun v3089 k0_hw377 => k0_hw377.2

def k0_off635 (k0_t1 : Fin k0_t1_loop.trips) : Fin 3 → Nat :=
  let c0_1997 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3096 : Index := Scalar.indexCast v2127
  let c121_1998 : Index := 121#32
  ![0, v3096.toNat, 121]
def k0_mult378 (v3097 : BitVec 32) : BitVec 32 :=
  v3097

def k0_off636 (v3097 : BitVec 32) : Fin 2 → Nat :=
  let v3098 : BitVec 32 := v3097
  let v3099 : Index := Scalar.indexCast v3098
  let c0_1999 : Index := 0#32
  ![v3099.toNat, 0]

def k0_chk378 (v3097 : BitVec 32) : Prop :=
  (4 ∣ (k0_mult378 v3097).toNat) ∧
  (∀ a, (k0_off636 v3097) a + S4x128.size a ≤ S65536x128.size a)
theorem k0_mult378_dvd : ∀ (v3097 : BitVec 32) (k0_hw378 : k0_chk378 v3097), 4 ∣ (k0_mult378 v3097).toNat := fun v3097 k0_hw378 => k0_hw378.1
theorem k0_off636_inb : ∀ (v3097 : BitVec 32) (k0_hw378 : k0_chk378 v3097), ∀ a, (k0_off636 v3097) a + S4x128.size a ≤ S65536x128.size a := fun v3097 k0_hw378 => k0_hw378.2

def k0_off637 (k0_t1 : Fin k0_t1_loop.trips) : Fin 3 → Nat :=
  let c0_2002 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3104 : Index := Scalar.indexCast v2127
  let c122_2003 : Index := 122#32
  ![0, v3104.toNat, 122]
def k0_mult379 (v3105 : BitVec 32) : BitVec 32 :=
  v3105

def k0_off638 (v3105 : BitVec 32) : Fin 2 → Nat :=
  let v3106 : BitVec 32 := v3105
  let v3107 : Index := Scalar.indexCast v3106
  let c0_2004 : Index := 0#32
  ![v3107.toNat, 0]

def k0_chk379 (v3105 : BitVec 32) : Prop :=
  (4 ∣ (k0_mult379 v3105).toNat) ∧
  (∀ a, (k0_off638 v3105) a + S4x128.size a ≤ S65536x128.size a)
theorem k0_mult379_dvd : ∀ (v3105 : BitVec 32) (k0_hw379 : k0_chk379 v3105), 4 ∣ (k0_mult379 v3105).toNat := fun v3105 k0_hw379 => k0_hw379.1
theorem k0_off638_inb : ∀ (v3105 : BitVec 32) (k0_hw379 : k0_chk379 v3105), ∀ a, (k0_off638 v3105) a + S4x128.size a ≤ S65536x128.size a := fun v3105 k0_hw379 => k0_hw379.2

def k0_off639 (k0_t1 : Fin k0_t1_loop.trips) : Fin 3 → Nat :=
  let c0_2007 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3112 : Index := Scalar.indexCast v2127
  let c123_2008 : Index := 123#32
  ![0, v3112.toNat, 123]
def k0_mult380 (v3113 : BitVec 32) : BitVec 32 :=
  v3113

def k0_off640 (v3113 : BitVec 32) : Fin 2 → Nat :=
  let v3114 : BitVec 32 := v3113
  let v3115 : Index := Scalar.indexCast v3114
  let c0_2009 : Index := 0#32
  ![v3115.toNat, 0]

def k0_chk380 (v3113 : BitVec 32) : Prop :=
  (4 ∣ (k0_mult380 v3113).toNat) ∧
  (∀ a, (k0_off640 v3113) a + S4x128.size a ≤ S65536x128.size a)
theorem k0_mult380_dvd : ∀ (v3113 : BitVec 32) (k0_hw380 : k0_chk380 v3113), 4 ∣ (k0_mult380 v3113).toNat := fun v3113 k0_hw380 => k0_hw380.1
theorem k0_off640_inb : ∀ (v3113 : BitVec 32) (k0_hw380 : k0_chk380 v3113), ∀ a, (k0_off640 v3113) a + S4x128.size a ≤ S65536x128.size a := fun v3113 k0_hw380 => k0_hw380.2

def k0_off641 (k0_t1 : Fin k0_t1_loop.trips) : Fin 3 → Nat :=
  let c0_2012 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3120 : Index := Scalar.indexCast v2127
  let c124_2013 : Index := 124#32
  ![0, v3120.toNat, 124]
def k0_mult381 (v3121 : BitVec 32) : BitVec 32 :=
  v3121

def k0_off642 (v3121 : BitVec 32) : Fin 2 → Nat :=
  let v3122 : BitVec 32 := v3121
  let v3123 : Index := Scalar.indexCast v3122
  let c0_2014 : Index := 0#32
  ![v3123.toNat, 0]

def k0_chk381 (v3121 : BitVec 32) : Prop :=
  (4 ∣ (k0_mult381 v3121).toNat) ∧
  (∀ a, (k0_off642 v3121) a + S4x128.size a ≤ S65536x128.size a)
theorem k0_mult381_dvd : ∀ (v3121 : BitVec 32) (k0_hw381 : k0_chk381 v3121), 4 ∣ (k0_mult381 v3121).toNat := fun v3121 k0_hw381 => k0_hw381.1
theorem k0_off642_inb : ∀ (v3121 : BitVec 32) (k0_hw381 : k0_chk381 v3121), ∀ a, (k0_off642 v3121) a + S4x128.size a ≤ S65536x128.size a := fun v3121 k0_hw381 => k0_hw381.2

def k0_off643 (k0_t1 : Fin k0_t1_loop.trips) : Fin 3 → Nat :=
  let c0_2017 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3128 : Index := Scalar.indexCast v2127
  let c125_2018 : Index := 125#32
  ![0, v3128.toNat, 125]
def k0_mult382 (v3129 : BitVec 32) : BitVec 32 :=
  v3129

def k0_off644 (v3129 : BitVec 32) : Fin 2 → Nat :=
  let v3130 : BitVec 32 := v3129
  let v3131 : Index := Scalar.indexCast v3130
  let c0_2019 : Index := 0#32
  ![v3131.toNat, 0]

def k0_chk382 (v3129 : BitVec 32) : Prop :=
  (4 ∣ (k0_mult382 v3129).toNat) ∧
  (∀ a, (k0_off644 v3129) a + S4x128.size a ≤ S65536x128.size a)
theorem k0_mult382_dvd : ∀ (v3129 : BitVec 32) (k0_hw382 : k0_chk382 v3129), 4 ∣ (k0_mult382 v3129).toNat := fun v3129 k0_hw382 => k0_hw382.1
theorem k0_off644_inb : ∀ (v3129 : BitVec 32) (k0_hw382 : k0_chk382 v3129), ∀ a, (k0_off644 v3129) a + S4x128.size a ≤ S65536x128.size a := fun v3129 k0_hw382 => k0_hw382.2

def k0_off645 (k0_t1 : Fin k0_t1_loop.trips) : Fin 3 → Nat :=
  let c0_2022 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3136 : Index := Scalar.indexCast v2127
  let c126_2023 : Index := 126#32
  ![0, v3136.toNat, 126]
def k0_mult383 (v3137 : BitVec 32) : BitVec 32 :=
  v3137

def k0_off646 (v3137 : BitVec 32) : Fin 2 → Nat :=
  let v3138 : BitVec 32 := v3137
  let v3139 : Index := Scalar.indexCast v3138
  let c0_2024 : Index := 0#32
  ![v3139.toNat, 0]

def k0_chk383 (v3137 : BitVec 32) : Prop :=
  (4 ∣ (k0_mult383 v3137).toNat) ∧
  (∀ a, (k0_off646 v3137) a + S4x128.size a ≤ S65536x128.size a)
theorem k0_mult383_dvd : ∀ (v3137 : BitVec 32) (k0_hw383 : k0_chk383 v3137), 4 ∣ (k0_mult383 v3137).toNat := fun v3137 k0_hw383 => k0_hw383.1
theorem k0_off646_inb : ∀ (v3137 : BitVec 32) (k0_hw383 : k0_chk383 v3137), ∀ a, (k0_off646 v3137) a + S4x128.size a ≤ S65536x128.size a := fun v3137 k0_hw383 => k0_hw383.2

def k0_off647 (k0_t1 : Fin k0_t1_loop.trips) : Fin 3 → Nat :=
  let c0_2027 : Index := 0#32
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c2_i32_1391 : BitVec 32 := 2#32
  let v2126 : BitVec 32 := Scalar.addi v1016 c2_i32_1391
  let c127_i32 : BitVec 32 := 127#32
  let v2127 : BitVec 32 := Scalar.minsi v2126 c127_i32
  let v3144 : Index := Scalar.indexCast v2127
  let c127_2028 : Index := 127#32
  ![0, v3144.toNat, 127]
def k0_mult384 (v3145 : BitVec 32) : BitVec 32 :=
  v3145

def k0_off648 (v3145 : BitVec 32) : Fin 2 → Nat :=
  let v3146 : BitVec 32 := v3145
  let v3147 : Index := Scalar.indexCast v3146
  let c0_2029 : Index := 0#32
  ![v3147.toNat, 0]

def k0_chk384 (v3145 : BitVec 32) : Prop :=
  (4 ∣ (k0_mult384 v3145).toNat) ∧
  (∀ a, (k0_off648 v3145) a + S4x128.size a ≤ S65536x128.size a)
theorem k0_mult384_dvd : ∀ (v3145 : BitVec 32) (k0_hw384 : k0_chk384 v3145), 4 ∣ (k0_mult384 v3145).toNat := fun v3145 k0_hw384 => k0_hw384.1
theorem k0_off648_inb : ∀ (v3145 : BitVec 32) (k0_hw384 : k0_chk384 v3145), ∀ a, (k0_off648 v3145) a + S4x128.size a ≤ S65536x128.size a := fun v3145 k0_hw384 => k0_hw384.2

def k0_off649 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_2032 : BitVec 32 := 1#32
  let v3152 : BitVec 32 := Scalar.addi v1016 c1_i32_2032
  let v3168 : Index := Scalar.indexCast v3152
  let c0_2041 : Index := 0#32
  let c0_2042 : Index := 0#32
  ![v3168.toNat, 0, 0]
def k0_off650 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_2032 : BitVec 32 := 1#32
  let v3152 : BitVec 32 := Scalar.addi v1016 c1_i32_2032
  let v3176 : Index := Scalar.indexCast v3152
  let c4_2044 : Index := 4#32
  let c0_2045 : Index := 0#32
  ![v3176.toNat, 4, 0]
def k0_off651 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_2032 : BitVec 32 := 1#32
  let v3152 : BitVec 32 := Scalar.addi v1016 c1_i32_2032
  let v3187 : Index := Scalar.indexCast v3152
  let c1_2049 : Index := 1#32
  let c0_2050 : Index := 0#32
  ![v3187.toNat, 1, 0]
def k0_off652 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_2032 : BitVec 32 := 1#32
  let v3152 : BitVec 32 := Scalar.addi v1016 c1_i32_2032
  let v3195 : Index := Scalar.indexCast v3152
  let c5_2052 : Index := 5#32
  let c0_2053 : Index := 0#32
  ![v3195.toNat, 5, 0]
def k0_off653 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_2032 : BitVec 32 := 1#32
  let v3152 : BitVec 32 := Scalar.addi v1016 c1_i32_2032
  let v3206 : Index := Scalar.indexCast v3152
  let c2_2057 : Index := 2#32
  let c0_2058 : Index := 0#32
  ![v3206.toNat, 2, 0]
def k0_off654 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_2032 : BitVec 32 := 1#32
  let v3152 : BitVec 32 := Scalar.addi v1016 c1_i32_2032
  let v3214 : Index := Scalar.indexCast v3152
  let c6_2060 : Index := 6#32
  let c0_2061 : Index := 0#32
  ![v3214.toNat, 6, 0]
def k0_off655 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_2032 : BitVec 32 := 1#32
  let v3152 : BitVec 32 := Scalar.addi v1016 c1_i32_2032
  let v3225 : Index := Scalar.indexCast v3152
  let c3_2065 : Index := 3#32
  let c0_2066 : Index := 0#32
  ![v3225.toNat, 3, 0]
def k0_off656 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v1016 : BitVec 32 := Scalar.muli c2_i32 arg10
  let c1_i32_2032 : BitVec 32 := 1#32
  let v3152 : BitVec 32 := Scalar.addi v1016 c1_i32_2032
  let v3233 : Index := Scalar.indexCast v3152
  let c7_2068 : Index := 7#32
  let c0_2069 : Index := 0#32
  ![v3233.toNat, 7, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S65536x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S256x128x128 : Shape := ⟨3, ![256, 128, 128]⟩
abbrev S65536x128 : Shape := ⟨2, ![65536, 128]⟩
abbrev S32768x1024 : Shape := ⟨2, ![32768, 1024]⟩
abbrev S1x1024 : Shape := ⟨2, ![1, 1024]⟩
abbrev S16384x512 : Shape := ⟨2, ![16384, 512]⟩
abbrev S16384x512x2 : Shape := ⟨3, ![16384, 512, 2]⟩
abbrev S16384x512x1 : Shape := ⟨3, ![16384, 512, 1]⟩
abbrev S16384x1024 : Shape := ⟨2, ![16384, 1024]⟩
abbrev S_ : Shape := ⟨0, ![]⟩
abbrev S256x128x128x1 : Shape := ⟨4, ![256, 128, 128, 1]⟩
abbrev S256x128x128x1024 : Shape := ⟨4, ![256, 128, 128, 1024]⟩
abbrev S256x128x1024 : Shape := ⟨3, ![256, 128, 1024]⟩
abbrev S32768 : Shape := ⟨1, ![32768]⟩
abbrev S32768x1 : Shape := ⟨2, ![32768, 1]⟩

abbrev nBuf : Space → Nat
  | .hbm => 40
  | .vmem => 0
  | .smem => 0
  | _ => 0

abbrev bufTy : (tb : Table) → Fin (tcTables nBuf tb) → BufTy
  | .hbm, ⟨0, _⟩ => ⟨S256x128x128, .i32⟩
  | .hbm, ⟨1, _⟩ => ⟨S256x128x128, .f32⟩
  | .hbm, ⟨2, _⟩ => ⟨S65536x128, .i32⟩
  | .hbm, ⟨3, _⟩ => ⟨S32768x1024, .f32⟩
  | .hbm, ⟨4, _⟩ => ⟨S1x1024, .f32⟩
  | .hbm, ⟨5, _⟩ => ⟨S16384x512, .i32⟩
  | .hbm, ⟨6, _⟩ => ⟨S16384x512x2, .bf16⟩
  | .hbm, ⟨7, _⟩ => ⟨S16384x512x1, .bf16⟩
  | .hbm, ⟨8, _⟩ => ⟨S16384x512, .bf16⟩
  | .hbm, ⟨9, _⟩ => ⟨S16384x512x1, .bf16⟩
  | .hbm, ⟨10, _⟩ => ⟨S16384x512, .bf16⟩
  | .hbm, ⟨11, _⟩ => ⟨S16384x1024, .bf16⟩
  | .hbm, ⟨12, _⟩ => ⟨S16384x1024, .f32⟩
  | .hbm, ⟨13, _⟩ => ⟨S_, .i32⟩
  | .hbm, ⟨14, _⟩ => ⟨S256x128x128, .i32⟩
  | .hbm, ⟨15, _⟩ => ⟨S256x128x128, .i1⟩
  | .hbm, ⟨16, _⟩ => ⟨S_, .i32⟩
  | .hbm, ⟨17, _⟩ => ⟨S256x128x128, .i32⟩
  | .hbm, ⟨18, _⟩ => ⟨S256x128x128, .i32⟩
  | .hbm, ⟨19, _⟩ => ⟨S256x128x128, .i32⟩
  | .hbm, ⟨20, _⟩ => ⟨S256x128x128x1, .i32⟩
  | .hbm, ⟨21, _⟩ => ⟨S256x128x128x1024, .f32⟩
  | .hbm, ⟨22, _⟩ => ⟨S256x128x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768, .f32⟩
  | .hbm, ⟨28, _⟩ => ⟨S32768x1, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | _, _ => ⟨S256x128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel2.lean ====
abbrev S32768x1024 : Shape := ⟨2, ![32768, 1024]⟩
abbrev S1x1024 : Shape := ⟨2, ![1, 1024]⟩
abbrev S1024x7168 : Shape := ⟨2, ![1024, 7168]⟩
abbrev S8 : Shape := ⟨1, ![8]⟩
abbrev S8x1x1 : Shape := ⟨3, ![8, 1, 1]⟩
abbrev S2 : Shape := ⟨1, ![2]⟩
abbrev S1x2x1 : Shape := ⟨3, ![1, 2, 1]⟩
abbrev S64 : Shape := ⟨1, ![64]⟩
abbrev S1x1x64 : Shape := ⟨3, ![1, 1, 64]⟩
abbrev S_ : Shape := ⟨0, ![]⟩
abbrev S8x2x1 : Shape := ⟨3, ![8, 2, 1]⟩
abbrev S8x2x64 : Shape := ⟨3, ![8, 2, 64]⟩
abbrev S1024 : Shape := ⟨1, ![1024]⟩
abbrev S1024x1024 : Shape := ⟨2, ![1024, 1024]⟩
abbrev S1024x1 : Shape := ⟨2, ![1024, 1]⟩
abbrev S1024x5120 : Shape := ⟨2, ![1024, 5120]⟩
abbrev S32768x7168 : Shape := ⟨2, ![32768, 7168]⟩
abbrev S256x1024 : Shape := ⟨2, ![256, 1024]⟩
abbrev S256x7168 : Shape := ⟨2, ![256, 7168]⟩
abbrev S256 : Shape := ⟨1, ![256]⟩
abbrev S256x1 : Shape := ⟨2, ![256, 1]⟩

abbrev nBuf : Space → Nat
  | .hbm => 48
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x7168, .f32⟩
  | .hbm, ⟨3, _⟩ => ⟨S1x1024, .f32⟩
  | .hbm, ⟨4, _⟩ => ⟨S1x1024, .f32⟩
  | .hbm, ⟨5, _⟩ => ⟨S8, .i32⟩
  | .hbm, ⟨6, _⟩ => ⟨S8x1x1, .i32⟩
  | .hbm, ⟨7, _⟩ => ⟨S2, .i32⟩
  | .hbm, ⟨8, _⟩ => ⟨S1x2x1, .i32⟩
  | .hbm, ⟨9, _⟩ => ⟨S64, .i32⟩
  | .hbm, ⟨10, _⟩ => ⟨S1x1x64, .i32⟩
  | .hbm, ⟨11, _⟩ => ⟨S_, .i32⟩
  | .hbm, ⟨12, _⟩ => ⟨S1x2x1, .i32⟩
  | .hbm, ⟨13, _⟩ => ⟨S1x2x1, .i32⟩
  | .hbm, ⟨14, _⟩ => ⟨S_, .i32⟩
  | .hbm, ⟨15, _⟩ => ⟨S8x1x1, .i32⟩
  | .hbm, ⟨16, _⟩ => ⟨S8x1x1, .i32⟩
  | .hbm, ⟨17, _⟩ => ⟨S8x2x1, .i32⟩
  | .hbm, ⟨18, _⟩ => ⟨S8x2x1, .i32⟩
  | .hbm, ⟨19, _⟩ => ⟨S8x2x1, .i32⟩
  | .hbm, ⟨20, _⟩ => ⟨S8x2x64, .i32⟩
  | .hbm, ⟨21, _⟩ => ⟨S8x2x64, .i32⟩
  | .hbm, ⟨22, _⟩ => ⟨S8x2x64, .i32⟩
  | .hbm, ⟨23, _⟩ => ⟨S1024, .i32⟩
  | .hbm, ⟨24, _⟩ => ⟨S1024x1024, .f32⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x1024, .f32⟩
  | .hbm, ⟨34, _⟩ => ⟨S1024x1024, .f32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S1024x1, .i32⟩
  | .hbm, ⟨43, _⟩ => ⟨S1024x1024, .f32⟩
  | .hbm, ⟨44, _⟩ => ⟨S1024x5120, .f32⟩
  | .hbm, ⟨45, _⟩ => ⟨S1024x7168, .f32⟩
  | .hbm, ⟨46, _⟩ => ⟨S1024x7168, .bf16⟩
  | .hbm, ⟨47, _⟩ => ⟨S32768x7168, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x7168, .bf16⟩
  | .local _ .vmem, ⟨4, _⟩ => ⟨S1x1024, .f32⟩
  | .local _ .vmem, ⟨5, _⟩ => ⟨S1x1024, .f32⟩
  | .local _ .vmem, ⟨6, _⟩ => ⟨S256x7168, .bf16⟩
  | .local _ .vmem, ⟨7, _⟩ => ⟨S256x7168, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S1x1024 : Shape := ⟨2, ![1, 1024]⟩
abbrev S1024x7168 : Shape := ⟨2, ![1024, 7168]⟩
abbrev S_ : Shape := ⟨0, ![]⟩
abbrev S32768 : Shape := ⟨1, ![32768]⟩
abbrev S32768x1 : Shape := ⟨2, ![32768, 1]⟩
abbrev S32768x7168 : Shape := ⟨2, ![32768, 7168]⟩
abbrev S32768x2048 : Shape := ⟨2, ![32768, 2048]⟩
abbrev S32768x2x8x64 : Shape := ⟨4, ![32768, 2, 8, 64]⟩
abbrev S32768x8x2x64 : Shape := ⟨4, ![32768, 8, 2, 64]⟩

abbrev nBuf : Space → Nat
  | .hbm => 95
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024, .f32⟩
  | .hbm, ⟨2, _⟩ => ⟨S1024x7168, .f32⟩
  | .hbm, ⟨3, _⟩ => ⟨S1x1024, .f32⟩
  | .hbm, ⟨4, _⟩ => ⟨S1x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x7168, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x2048, .f32⟩
  | .hbm, ⟨27, _⟩ => ⟨S32768x2x8x64, .f32⟩
  | .hbm, ⟨28, _⟩ => ⟨S32768x8x2x64, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x2x8x64, .f32⟩
  | .hbm, ⟨34, _⟩ => ⟨S32768x8x2x64, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S_, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S_, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768, .f32⟩
  | .hbm, ⟨60, _⟩ => ⟨S32768x1, .f32⟩
  | .hbm, ⟨61, _⟩ => ⟨S_, .f32⟩
  | .hbm, ⟨62, _⟩ => ⟨S32768x1, .f32⟩
  | .hbm, ⟨63, _⟩ => ⟨S32768x1, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x1024, .f32⟩
  | .hbm, ⟨74, _⟩ => ⟨S32768x1024, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S32768x2048, .f32⟩
  | .hbm, ⟨86, _⟩ => ⟨S32768x2048, .f32⟩
  | .hbm, ⟨87, _⟩ => ⟨S_, .f32⟩
  | .hbm, ⟨88, _⟩ => ⟨S32768x2048, .f32⟩
  | .hbm, ⟨89, _⟩ => ⟨S32768x2048, .f32⟩
  | .hbm, ⟨90, _⟩ => ⟨S_, .f32⟩
  | .hbm, ⟨91, _⟩ => ⟨S32768x2048, .f32⟩
  | .hbm, ⟨92, _⟩ => ⟨S32768x2048, .f32⟩
  | .hbm, ⟨93, _⟩ => ⟨S32768x7168, .f32⟩
  | .hbm, ⟨94, _⟩ => ⟨S32768x7168, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== Kernel3.lean ====
abbrev S32768x7168 : Shape := ⟨2, ![32768, 7168]⟩
abbrev S32768x1024 : Shape := ⟨2, ![32768, 1024]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S1024x2048 : Shape := ⟨2, ![1024, 2048]⟩
abbrev S8x128x1 : Shape := ⟨3, ![8, 128, 1]⟩
abbrev S32768x2048 : Shape := ⟨2, ![32768, 2048]⟩
abbrev S256x1024 : Shape := ⟨2, ![256, 1024]⟩
abbrev S256x2048 : Shape := ⟨2, ![256, 2048]⟩
abbrev S128x128 : Shape := ⟨2, ![128, 128]⟩
abbrev S1x128x128 : Shape := ⟨3, ![1, 128, 128]⟩
abbrev S1x128x1 : Shape := ⟨3, ![1, 128, 1]⟩
abbrev S128x1 : Shape := ⟨2, ![128, 1]⟩
abbrev S256 : Shape := ⟨1, ![256]⟩
abbrev S256x1 : Shape := ⟨2, ![256, 1]⟩

abbrev nBuf : Space → Nat
  | .hbm => 18
  | .vmem => 26
  | .smem => 0
  | _ => 0

abbrev bufTy : (tb : Table) → Fin (tcTables nBuf tb) → BufTy
  | .hbm, ⟨0, _⟩ => ⟨S32768x7168, .bf16⟩
  | .hbm, ⟨1, _⟩ => ⟨S32768x1024, .bf16⟩
  | .hbm, ⟨2, _⟩ => ⟨S32768x1024, .f32⟩
  | .hbm, ⟨3, _⟩ => ⟨S8x128x128, .f32⟩
  | .hbm, ⟨4, _⟩ => ⟨S8x128, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1024x2048, .f32⟩
  | .hbm, ⟨10, _⟩ => ⟨S8x128x1, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x2048, .bf16⟩
  | .hbm, ⟨15, _⟩ => ⟨S32768x1024, .f32⟩
  | .hbm, ⟨16, _⟩ => ⟨S32768x1024, .f32⟩
  | .hbm, ⟨17, _⟩ => ⟨S32768x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S8x128x128, .f32⟩
  | .local _ .vmem, ⟨13, _⟩ => ⟨S8x128x1, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x2048, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x2048, .f32⟩
  | .local _ .vmem, ⟨24, _⟩ => ⟨S256x2048, .f32⟩
  | .local _ .vmem, ⟨25, _⟩ => ⟨S256x1024, .bf16⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S32768x7168 : Shape := ⟨2, ![32768, 7168]⟩
abbrev S32768x1024 : Shape := ⟨2, ![32768, 1024]⟩
abbrev S8x128x128 : Shape := ⟨3, ![8, 128, 128]⟩
abbrev S8x128 : Shape := ⟨2, ![8, 128]⟩
abbrev S1024x1024 : Shape := ⟨2, ![1024, 1024]⟩
abbrev S1x1024 : Shape := ⟨2, ![1, 1024]⟩
abbrev S1024x2048 : Shape := ⟨2, ![1024, 2048]⟩
abbrev S32768x4096 : Shape := ⟨2, ![32768, 4096]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S256x128x8x128 : Shape := ⟨4, ![256, 128, 8, 128]⟩
abbrev S8x256x128x128 : Shape := ⟨4, ![8, 256, 128, 128]⟩
abbrev S128x8 : Shape := ⟨2, ![128, 8]⟩
abbrev S1x128x8x1 : Shape := ⟨4, ![1, 128, 8, 1]⟩
abbrev S32768 : Shape := ⟨1, ![32768]⟩
abbrev S32768x1 : Shape := ⟨2, ![32768, 1]⟩
abbrev S32768x2048 : Shape := ⟨2, ![32768, 2048]⟩

abbrev nBuf : Space → Nat
  | .hbm => 79
  | .vmem => 0
  | .smem => 0
  | _ => 0

abbrev bufTy : (tb : Table) → Fin (tcTables nBuf tb) → BufTy
  | .hbm, ⟨0, _⟩ => ⟨S32768x7168, .bf16⟩
  | .hbm, ⟨1, _⟩ => ⟨S32768x1024, .bf16⟩
  | .hbm, ⟨2, _⟩ => ⟨S32768x1024, .f32⟩
  | .hbm, ⟨3, _⟩ => ⟨S8x128x128, .f32⟩
  | .hbm, ⟨4, _⟩ => ⟨S8x128, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1024x2048, .f32⟩
  | .hbm, ⟨10, _⟩ => ⟨S32768x4096, .bf16⟩
  | .hbm, ⟨11, _⟩ => ⟨S32768x4096, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S128, .i32⟩
  | .hbm, ⟨17, _⟩ => ⟨S_, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S1x128x128, .i1⟩
  | .hbm, ⟨41, _⟩ => ⟨S_, .i32⟩
  | .hbm, ⟨42, _⟩ => ⟨S_, .f32⟩
  | .hbm, ⟨43, _⟩ => ⟨S8x128x128, .i1⟩
  | .hbm, ⟨44, _⟩ => ⟨S8x128x128, .f32⟩
  | .hbm, ⟨45, _⟩ => ⟨S8x128x128, .f32⟩
  | .hbm, ⟨46, _⟩ => ⟨S256x128x8x128, .f32⟩
  | .hbm, ⟨47, _⟩ => ⟨S8x256x128x128, .f32⟩
  | .hbm, ⟨48, _⟩ => ⟨S256x128x8x128, .f32⟩
  | .hbm, ⟨49, _⟩ => ⟨S128x8, .f32⟩
  | .hbm, ⟨50, _⟩ => ⟨S1x128x8x1, .f32⟩
  | .hbm, ⟨51, _⟩ => ⟨S256x128x8x128, .f32⟩
  | .hbm, ⟨52, _⟩ => ⟨S256x128x8x128, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x1, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S32768x1024, .f32⟩
  | .hbm, ⟨78, _⟩ => ⟨S32768x2048, .f32⟩
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst : Ref sig .tc := ⟨.hbm, 64, rfl⟩
abbrev main_v33 : Ref sig .tc := ⟨.hbm, 65, rfl⟩
abbrev main_v34 : Ref sig .tc := ⟨.hbm, 66, rfl⟩
abbrev main_cst_1 : Ref sig .tc := ⟨.hbm, 67, rfl⟩
abbrev main_v35 : Ref sig .tc := ⟨.hbm, 68, rfl⟩
abbrev main_v36 : Ref sig .tc := ⟨.hbm, 69, rfl⟩
abbrev main_cst_2 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩

abbrev nD : Nat := 1
abbrev τ : Topo := Topo.v7x

variable {F : FTy → Type} [FloatOps F]
-- ==== Kernel4.lean ====
abbrev S256x128x128 : Shape := ⟨3, ![256, 128, 128]⟩
abbrev S32768x1024 : Shape := ⟨2, ![32768, 1024]⟩
abbrev S65536x128 : Shape := ⟨2, ![65536, 128]⟩
abbrev S_ : Shape := ⟨0, ![]⟩
abbrev S32768x8x128 : Shape := ⟨3, ![32768, 8, 128]⟩
abbrev S1x128x128 : Shape := ⟨3, ![1, 128, 128]⟩
abbrev S128x8x128 : Shape := ⟨3, ![128, 8, 128]⟩
abbrev S544x128 : Shape := ⟨2, ![544, 128]⟩
abbrev S128x128 : Shape := ⟨2, ![128, 128]⟩
abbrev S2x128x128 : Shape := ⟨3, ![2, 128, 128]⟩
abbrev S1x1x1 : Shape := ⟨3, ![1, 1, 1]⟩
abbrev S4x128 : Shape := ⟨2, ![4, 128]⟩
abbrev S128 : Shape := ⟨1, ![128]⟩
abbrev S128x1 : Shape := ⟨2, ![128, 1]⟩
abbrev S1x1x128 : Shape := ⟨3, ![1, 1, 128]⟩
abbrev S1x128 : Shape := ⟨2, ![1, 128]⟩

abbrev nBuf : Space → Nat
  | .hbm => 9
  | .vmem => 11
  | .smem => 2
  | _ => 0

abbrev bufTy : (tb : Table) → Fin (tcTables nBuf tb) → BufTy
  | .hbm, ⟨0, _⟩ => ⟨S256x128x128, .i32⟩
  | .hbm, ⟨1, _⟩ => ⟨S32768x1024, .f32⟩
  | .hbm, ⟨2, _⟩ => ⟨S256x128x128, .f32⟩
  | .hbm, ⟨3, _⟩ => ⟨S65536x128, .i32⟩
  | .hbm, ⟨4, _⟩ => ⟨S_, .i32⟩
  | .hbm, ⟨5, _⟩ => ⟨S256x128x128, .i32⟩
  | .hbm, ⟨6, _⟩ => ⟨S256x128x128, .i32⟩
  | .hbm, ⟨7, _⟩ => ⟨S32768x8x128, .f32⟩
  | .hbm, ⟨8, _⟩ => ⟨S256x128x128, .f32⟩
  | .local _ .vmem, ⟨0, _⟩ => ⟨S128x8x128, .f32⟩
  | .local _ .vmem, ⟨1, _⟩ => ⟨S128x8x128, .f32⟩
  | .local _ .vmem, ⟨2, _⟩ => ⟨S1x128x128, .f32⟩
  | .local _ .vmem, ⟨3, _⟩ => ⟨S1x128x128, .f32⟩
  | .local _ .vmem, ⟨4, _⟩ => ⟨S65536x128, .i32⟩
  | .local _ .vmem, ⟨5, _⟩ => ⟨S1x128x128, .f32⟩
  | .local _ .vmem, ⟨6, _⟩ => ⟨S1x128x128, .f32⟩
  | .local _ .vmem, ⟨7, _⟩ => ⟨S544x128, .i32⟩
  | .local _ .vmem, ⟨8, _⟩ => ⟨S544x128, .i32⟩
  | .local _ .vmem, ⟨9, _⟩ => ⟨S128x128, .f32⟩
  | .local _ .vmem, ⟨10, _⟩ => ⟨S2x128x128, .f32⟩
  | .local _ .smem, ⟨0, _⟩ => ⟨S1x128x128, .i32⟩
  | .local _ .smem, ⟨1, _⟩ => ⟨S1x128x128, .i32⟩
  | _, _ => ⟨S256x128x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

def k0_mult1 (v9 : BitVec 32) : BitVec 32 :=
  v9

def k0_off1 (v9 : BitVec 32) : Fin 2 → Nat :=
  let v10 : BitVec 32 := v9
  let v11 : Index := Scalar.indexCast v10
  let c0_8 : Index := 0#32
  ![v11.toNat, 0]

def k0_chk1 (v9 : BitVec 32) : Prop :=
  (4 ∣ (k0_mult1 v9).toNat) ∧
  (∀ a, (k0_off1 v9) a + S4x128.size a ≤ S65536x128.size a)
theorem k0_mult1_dvd : ∀ (v9 : BitVec 32) (k0_hw1 : k0_chk1 v9), 4 ∣ (k0_mult1 v9).toNat := fun v9 k0_hw1 => k0_hw1.1
theorem k0_off1_inb : ∀ (v9 : BitVec 32) (k0_hw1 : k0_chk1 v9), ∀ a, (k0_off1 v9) a + S4x128.size a ≤ S65536x128.size a := fun v9 k0_hw1 => k0_hw1.2

def k0_mult2 (v16 : BitVec 32) : BitVec 32 :=
  v16

def k0_off2 (v16 : BitVec 32) : Fin 2 → Nat :=
  let v17 : BitVec 32 := v16
  let v18 : Index := Scalar.indexCast v17
  let c0_13 : Index := 0#32
  ![v18.toNat, 0]

def k0_chk2 (v16 : BitVec 32) : Prop :=
  (4 ∣ (k0_mult2 v16).toNat) ∧
  (∀ a, (k0_off2 v16) a + S4x128.size a ≤ S65536x128.size a)
theorem k0_mult2_dvd : ∀ (v16 : BitVec 32) (k0_hw2 : k0_chk2 v16), 4 ∣ (k0_mult2 v16).toNat := fun v16 k0_hw2 => k0_hw2.1
theorem k0_off2_inb : ∀ (v16 : BitVec 32) (k0_hw2 : k0_chk2 v16), ∀ a, (k0_off2 v16) a + S4x128.size a ≤ S65536x128.size a := fun v16 k0_hw2 => k0_hw2.2

def k0_mult3 (v23 : BitVec 32) : BitVec 32 :=
  v23

def k0_off3 (v23 : BitVec 32) : Fin 2 → Nat :=
  let v24 : BitVec 32 := v23
  let v25 : Index := Scalar.indexCast v24
  let c0_18 : Index := 0#32
  ![v25.toNat, 0]

def k0_chk3 (v23 : BitVec 32) : Prop :=
  (4 ∣ (k0_mult3 v23).toNat) ∧
  (∀ a, (k0_off3 v23) a + S4x128.size a ≤ S65536x128.size a)
theorem k0_mult3_dvd : ∀ (v23 : BitVec 32) (k0_hw3 : k0_chk3 v23), 4 ∣ (k0_mult3 v23).toNat := fun v23 k0_hw3 => k0_hw3.1
theorem k0_off3_inb : ∀ (v23 : BitVec 32) (k0_hw3 : k0_chk3 v23), ∀ a, (k0_off3 v23) a + S4x128.size a ≤ S65536x128.size a := fun v23 k0_hw3 => k0_hw3.2

def k0_mult4 (v30 : BitVec 32) : BitVec 32 :=
  v30

def k0_off4 (v30 : BitVec 32) : Fin 2 → Nat :=
  let v31 : BitVec 32 := v30
  let v32 : Index := Scalar.indexCast v31
  let c0_23 : Index := 0#32
  ![v32.toNat, 0]

def k0_chk4 (v30 : BitVec 32) : Prop :=
  (4 ∣ (k0_mult4 v30).toNat) ∧
  (∀ a, (k0_off4 v30) a + S4x128.size a ≤ S65536x128.size a)
theorem k0_mult4_dvd : ∀ (v30 : BitVec 32) (k0_hw4 : k0_chk4 v30), 4 ∣ (k0_mult4 v30).toNat := fun v30 k0_hw4 => k0_hw4.1
theorem k0_off4_inb : ∀ (v30 : BitVec 32) (k0_hw4 : k0_chk4 v30), ∀ a, (k0_off4 v30) a + S4x128.size a ≤ S65536x128.size a := fun v30 k0_hw4 => k0_hw4.2

def k0_mult5 (v37 : BitVec 32) : BitVec 32 :=
  v37

def k0_off5 (v37 : BitVec 32) : Fin 2 → Nat :=
  let v38 : BitVec 32 := v37
  let v39 : Index := Scalar.indexCast v38
  let c0_28 : Index := 0#32
  ![v39.toNat, 0]

def k0_chk5 (v37 : BitVec 32) : Prop :=
  (4 ∣ (k0_mult5 v37).toNat) ∧
  (∀ a, (k0_off5 v37) a + S4x128.size a ≤ S65536x128.size a)
theorem k0_mult5_dvd : ∀ (v37 : BitVec 32) (k0_hw5 : k0_chk5 v37), 4 ∣ (k0_mult5 v37).toNat := fun v37 k0_hw5 => k0_hw5.1
theorem k0_off5_inb : ∀ (v37 : BitVec 32) (k0_hw5 : k0_chk5 v37), ∀ a, (k0_off5 v37) a + S4x128.size a ≤ S65536x128.size a := fun v37 k0_hw5 => k0_hw5.2

def k0_mult6 (v44 : BitVec 32) : BitVec 32 :=
  v44

def k0_off6 (v44 : BitVec 32) : Fin 2 → Nat :=
  let v45 : BitVec 32 := v44
  let v46 : Index := Scalar.indexCast v45
  let c0_33 : Index := 0#32
  ![v46.toNat, 0]

def k0_chk6 (v44 : BitVec 32) : Prop :=
  (4 ∣ (k0_mult6 v44).toNat) ∧
  (∀ a, (k0_off6 v44) a + S4x128.size a ≤ S65536x128.size a)
theorem k0_mult6_dvd : ∀ (v44 : BitVec 32) (k0_hw6 : k0_chk6 v44), 4 ∣ (k0_mult6 v44).toNat := fun v44 k0_hw6 => k0_hw6.1
theorem k0_off6_inb : ∀ (v44 : BitVec 32) (k0_hw6 : k0_chk6 v44), ∀ a, (k0_off6 v44) a + S4x128.size a ≤ S65536x128.size a := fun v44 k0_hw6 => k0_hw6.2

def k0_mult7 (v51 : BitVec 32) : BitVec 32 :=
  v51

def k0_off7 (v51 : BitVec 32) : Fin 2 → Nat :=
  let v52 : BitVec 32 := v51
  let v53 : Index := Scalar.indexCast v52
  let c0_38 : Index := 0#32
  ![v53.toNat, 0]

def k0_chk7 (v51 : BitVec 32) : Prop :=
  (4 ∣ (k0_mult7 v51).toNat) ∧
  (∀ a, (k0_off7 v51) a + S4x128.size a ≤ S65536x128.size a)
theorem k0_mult7_dvd : ∀ (v51 : BitVec 32) (k0_hw7 : k0_chk7 v51), 4 ∣ (k0_mult7 v51).toNat := fun v51 k0_hw7 => k0_hw7.1
theorem k0_off7_inb : ∀ (v51 : BitVec 32) (k0_hw7 : k0_chk7 v51), ∀ a, (k0_off7 v51) a + S4x128.size a ≤ S65536x128.size a := fun v51 k0_hw7 => k0_hw7.2

def k0_mult8 (v58 : BitVec 32) : BitVec 32 :=
  v58

def k0_off8 (v58 : BitVec 32) : Fin 2 → Nat :=
  let v59 : BitVec 32 := v58
  let v60 : Index := Scalar.indexCast v59
  let c0_43 : Index := 0#32
  ![v60.toNat, 0]

def k0_chk8 (v58 : BitVec 32) : Prop :=
  (4 ∣ (k0_mult8 v58).toNat) ∧
  (∀ a, (k0_off8 v58) a + S4x128.size a ≤ S65536x128.size a)
theorem k0_mult8_dvd : ∀ (v58 : BitVec 32) (k0_hw8 : k0_chk8 v58), 4 ∣ (k0_mult8 v58).toNat := fun v58 k0_hw8 => k0_hw8.1
theorem k0_off8_inb : ∀ (v58 : BitVec 32) (k0_hw8 : k0_chk8 v58), ∀ a, (k0_off8 v58) a + S4x128.size a ≤ S65536x128.size a := fun v58 k0_hw8 => k0_hw8.2

def k0_mult9 (v65 : BitVec 32) : BitVec 32 :=
  v65

def k0_off9 (v65 : BitVec 32) : Fin 2 → Nat :=
  let v66 : BitVec 32 := v65
  let v67 : Index := Scalar.indexCast v66
  let c0_48 : Index := 0#32
  ![v67.toNat, 0]

def k0_chk9 (v65 : BitVec 32) : Prop :=
  (4 ∣ (k0_mult9 v65).toNat) ∧
  (∀ a, (k0_off9 v65) a + S4x128.size a ≤ S65536x128.size a)
theorem k0_mult9_dvd : ∀ (v65 : BitVec 32) (k0_hw9 : k0_chk9 v65), 4 ∣ (k0_mult9 v65).toNat := fun v65 k0_hw9 => k0_hw9.1
theorem k0_off9_inb : ∀ (v65 : BitVec 32) (k0_hw9 : k0_chk9 v65), ∀ a, (k0_off9 v65) a + S4x128.size a ≤ S65536x128.size a := fun v65 k0_hw9 => k0_hw9.2

def k0_mult10 (v72 : BitVec 32) : BitVec 32 :=
  v72

def k0_off10 (v72 : BitVec 32) : Fin 2 → Nat :=
  let v73 : BitVec 32 := v72
  let v74 : Index := Scalar.indexCast v73
  let c0_53 : Index := 0#32
  ![v74.toNat, 0]

def k0_chk10 (v72 : BitVec 32) : Prop :=
  (4 ∣ (k0_mult10 v72).toNat) ∧
  (∀ a, (k0_off10 v72) a + S4x128.size a ≤ S65536x128.size a)
theorem k0_mult10_dvd : ∀ (v72 : BitVec 32) (k0_hw10 : k0_chk10 v72), 4 ∣ (k0_mult10 v72).toNat := fun v72 k0_hw10 => k0_hw10.1
theorem k0_off10_inb : ∀ (v72 : BitVec 32) (k0_hw10 : k0_chk10 v72), ∀ a, (k0_off10 v72) a + S4x128.size a ≤ S65536x128.size a := fun v72 k0_hw10 => k0_hw10.2

def k0_mult11 (v79 : BitVec 32) : BitVec 32 :=
  v79

def k0_off11 (v79 : BitVec 32) : Fin 2 → Nat :=
  let v80 : BitVec 32 := v79
  let v81 : Index := Scalar.indexCast v80
  let c0_58 : Index := 0#32
  ![v81.toNat, 0]

def k0_chk11 (v79 : BitVec 32) : Prop :=
  (4 ∣ (k0_mult11 v79).toNat) ∧
  (∀ a, (k0_off11 v79) a + S4x128.size a ≤ S65536x128.size a)
theorem k0_mult11_dvd : ∀ (v79 : BitVec 32) (k0_hw11 : k0_chk11 v79), 4 ∣ (k0_mult11 v79).toNat := fun v79 k0_hw11 => k0_hw11.1
theorem k0_off11_inb : ∀ (v79 : BitVec 32) (k0_hw11 : k0_chk11 v79), ∀ a, (k0_off11 v79) a + S4x128.size a ≤ S65536x128.size a := fun v79 k0_hw11 => k0_hw11.2

def k0_mult12 (v86 : BitVec 32) : BitVec 32 :=
  v86

def k0_off12 (v86 : BitVec 32) : Fin 2 → Nat :=
  let v87 : BitVec 32 := v86
  let v88 : Index := Scalar.indexCast v87
  let c0_63 : Index := 0#32
  ![v88.toNat, 0]

def k0_chk12 (v86 : BitVec 32) : Prop :=
  (4 ∣ (k0_mult12 v86).toNat) ∧
  (∀ a, (k0_off12 v86) a + S4x128.size a ≤ S65536x128.size a)
theorem k0_mult12_dvd : ∀ (v86 : BitVec 32) (k0_hw12 : k0_chk12 v86), 4 ∣ (k0_mult12 v86).toNat := fun v86 k0_hw12 => k0_hw12.1
theorem k0_off12_inb : ∀ (v86 : BitVec 32) (k0_hw12 : k0_chk12 v86), ∀ a, (k0_off12 v86) a + S4x128.size a ≤ S65536x128.size a := fun v86 k0_hw12 => k0_hw12.2

def k0_mult13 (v93 : BitVec 32) : BitVec 32 :=
  v93

def k0_off13 (v93 : BitVec 32) : Fin 2 → Nat :=
  let v94 : BitVec 32 := v93
  let v95 : Index := Scalar.indexCast v94
  let c0_68 : Index := 0#32
  ![v95.toNat, 0]

def k0_chk13 (v93 : BitVec 32) : Prop :=
  (4 ∣ (k0_mult13 v93).toNat) ∧
  (∀ a, (k0_off13 v93) a + S4x128.size a ≤ S65536x128.size a)
theorem k0_mult13_dvd : ∀ (v93 : BitVec 32) (k0_hw13 : k0_chk13 v93), 4 ∣ (k0_mult13 v93).toNat := fun v93 k0_hw13 => k0_hw13.1
theorem k0_off13_inb : ∀ (v93 : BitVec 32) (k0_hw13 : k0_chk13 v93), ∀ a, (k0_off13 v93) a + S4x128.size a ≤ S65536x128.size a := fun v93 k0_hw13 => k0_hw13.2

def k0_mult14 (v100 : BitVec 32) : BitVec 32 :=
  v100

def k0_off14 (v100 : BitVec 32) : Fin 2 → Nat :=
  let v101 : BitVec 32 := v100
  let v102 : Index := Scalar.indexCast v101
  let c0_73 : Index := 0#32
  ![v102.toNat, 0]

def k0_chk14 (v100 : BitVec 32) : Prop :=
  (4 ∣ (k0_mult14 v100).toNat) ∧
  (∀ a, (k0_off14 v100) a + S4x128.size a ≤ S65536x128.size a)
theorem k0_mult14_dvd : ∀ (v100 : BitVec 32) (k0_hw14 : k0_chk14 v100), 4 ∣ (k0_mult14 v100).toNat := fun v100 k0_hw14 => k0_hw14.1
theorem k0_off14_inb : ∀ (v100 : BitVec 32) (k0_hw14 : k0_chk14 v100), ∀ a, (k0_off14 v100) a + S4x128.size a ≤ S65536x128.size a := fun v100 k0_hw14 => k0_hw14.2

def k0_mult15 (v107 : BitVec 32) : BitVec 32 :=
  v107

def k0_off15 (v107 : BitVec 32) : Fin 2 → Nat :=
  let v108 : BitVec 32 := v107
  let v109 : Index := Scalar.indexCast v108
  let c0_78 : Index := 0#32
  ![v109.toNat, 0]

def k0_chk15 (v107 : BitVec 32) : Prop :=
  (4 ∣ (k0_mult15 v107).toNat) ∧
  (∀ a, (k0_off15 v107) a + S4x128.size a ≤ S65536x128.size a)
theorem k0_mult15_dvd : ∀ (v107 : BitVec 32) (k0_hw15 : k0_chk15 v107), 4 ∣ (k0_mult15 v107).toNat := fun v107 k0_hw15 => k0_hw15.1
theorem k0_off15_inb : ∀ (v107 : BitVec 32) (k0_hw15 : k0_chk15 v107), ∀ a, (k0_off15 v107) a + S4x128.size a ≤ S65536x128.size a := fun v107 k0_hw15 => k0_hw15.2

def k0_mult16 (v114 : BitVec 32) : BitVec 32 :=
  v114

def k0_off16 (v114 : BitVec 32) : Fin 2 → Nat :=
  let v115 : BitVec 32 := v114
  let v116 : Index := Scalar.indexCast v115
  let c0_83 : Index := 0#32
  ![v116.toNat, 0]

def k0_chk16 (v114 : BitVec 32) : Prop :=
  (4 ∣ (k0_mult16 v114).toNat) ∧
  (∀ a, (k0_off16 v114) a + S4x128.size a ≤ S65536x128.size a)
theorem k0_mult16_dvd : ∀ (v114 : BitVec 32) (k0_hw16 : k0_chk16 v114), 4 ∣ (k0_mult16 v114).toNat := fun v114 k0_hw16 => k0_hw16.1
theorem k0_off16_inb : ∀ (v114 : BitVec 32) (k0_hw16 : k0_chk16 v114), ∀ a, (k0_off16 v114) a + S4x128.size a ≤ S65536x128.size a := fun v114 k0_hw16 => k0_hw16.2

def k0_mult17 (v121 : BitVec 32) : BitVec 32 :=
  v121

def k0_off17 (v121 : BitVec 32) : Fin 2 → Nat :=
  let v122 : BitVec 32 := v121
  let v123 : Index := Scalar.indexCast v122
  let c0_88 : Index := 0#32
  ![v123.toNat, 0]

def k0_chk17 (v121 : BitVec 32) : Prop :=
  (4 ∣ (k0_mult17 v121).toNat) ∧
  (∀ a, (k0_off17 v121) a + S4x128.size a ≤ S65536x128.size a)
theorem k0_mult17_dvd : ∀ (v121 : BitVec 32) (k0_hw17 : k0_chk17 v121), 4 ∣ (k0_mult17 v121).toNat := fun v121 k0_hw17 => k0_hw17.1
theorem k0_off17_inb : ∀ (v121 : BitVec 32) (k0_hw17 : k0_chk17 v121), ∀ a, (k0_off17 v121) a + S4x128.size a ≤ S65536x128.size a := fun v121 k0_hw17 => k0_hw17.2

def k0_mult18 (v128 : BitVec 32) : BitVec 32 :=
  v128

def k0_off18 (v128 : BitVec 32) : Fin 2 → Nat :=
  let v129 : BitVec 32 := v128
  let v130 : Index := Scalar.indexCast v129
  let c0_93 : Index := 0#32
  ![v130.toNat, 0]

def k0_chk18 (v128 : BitVec 32) : Prop :=
  (4 ∣ (k0_mult18 v128).toNat) ∧
  (∀ a, (k0_off18 v128) a + S4x128.size a ≤ S65536x128.size a)
theorem k0_mult18_dvd : ∀ (v128 : BitVec 32) (k0_hw18 : k0_chk18 v128), 4 ∣ (k0_mult18 v128).toNat := fun v128 k0_hw18 => k0_hw18.1
theorem k0_off18_inb : ∀ (v128 : BitVec 32) (k0_hw18 : k0_chk18 v128), ∀ a, (k0_off18 v128) a + S4x128.size a ≤ S65536x128.size a := fun v128 k0_hw18 => k0_hw18.2

def k0_mult19 (v135 : BitVec 32) : BitVec 32 :=
  v135

def k0_off19 (v135 : BitVec 32) : Fin 2 → Nat :=
  let v136 : BitVec 32 := v135
  let v137 : Index := Scalar.indexCast v136
  let c0_98 : Index := 0#32
  ![v137.toNat, 0]

def k0_chk19 (v135 : BitVec 32) : Prop :=
  (4 ∣ (k0_mult19 v135).toNat) ∧
  (∀ a, (k0_off19 v135) a + S4x128.size a ≤ S65536x128.size a)
theorem k0_mult19_dvd : ∀ (v135 : BitVec 32) (k0_hw19 : k0_chk19 v135), 4 ∣ (k0_mult19 v135).toNat := fun v135 k0_hw19 => k0_hw19.1
theorem k0_off19_inb : ∀ (v135 : BitVec 32) (k0_hw19 : k0_chk19 v135), ∀ a, (k0_off19 v135) a + S4x128.size a ≤ S65536x128.size a := fun v135 k0_hw19 => k0_hw19.2

def k0_mult20 (v142 : BitVec 32) : BitVec 32 :=
  v142

def k0_off20 (v142 : BitVec 32) : Fin 2 → Nat :=
  let v143 : BitVec 32 := v142
  let v144 : Index := Scalar.indexCast v143
  let c0_103 : Index := 0#32
  ![v144.toNat, 0]

def k0_chk20 (v142 : BitVec 32) : Prop :=
  (4 ∣ (k0_mult20 v142).toNat) ∧
  (∀ a, (k0_off20 v142) a + S4x128.size a ≤ S65536x128.size a)
theorem k0_mult20_dvd : ∀ (v142 : BitVec 32) (k0_hw20 : k0_chk20 v142), 4 ∣ (k0_mult20 v142).toNat := fun v142 k0_hw20 => k0_hw20.1
theorem k0_off20_inb : ∀ (v142 : BitVec 32) (k0_hw20 : k0_chk20 v142), ∀ a, (k0_off20 v142) a + S4x128.size a ≤ S65536x128.size a := fun v142 k0_hw20 => k0_hw20.2

def k0_mult21 (v149 : BitVec 32) : BitVec 32 :=
  v149

def k0_off21 (v149 : BitVec 32) : Fin 2 → Nat :=
  let v150 : BitVec 32 := v149
  let v151 : Index := Scalar.indexCast v150
  let c0_108 : Index := 0#32
  ![v151.toNat, 0]

def k0_chk21 (v149 : BitVec 32) : Prop :=
  (4 ∣ (k0_mult21 v149).toNat) ∧
  (∀ a, (k0_off21 v149) a + S4x128.size a ≤ S65536x128.size a)
theorem k0_mult21_dvd : ∀ (v149 : BitVec 32) (k0_hw21 : k0_chk21 v149), 4 ∣ (k0_mult21 v149).toNat := fun v149 k0_hw21 => k0_hw21.1
theorem k0_off21_inb : ∀ (v149 : BitVec 32) (k0_hw21 : k0_chk21 v149), ∀ a, (k0_off21 v149) a + S4x128.size a ≤ S65536x128.size a := fun v149 k0_hw21 => k0_hw21.2

def k0_mult22 (v156 : BitVec 32) : BitVec 32 :=
  v156

def k0_off22 (v156 : BitVec 32) : Fin 2 → Nat :=
  let v157 : BitVec 32 := v156
  let v158 : Index := Scalar.indexCast v157
  let c0_113 : Index := 0#32
  ![v158.toNat, 0]

def k0_chk22 (v156 : BitVec 32) : Prop :=
  (4 ∣ (k0_mult22 v156).toNat) ∧
  (∀ a, (k0_off22 v156) a + S4x128.size a ≤ S65536x128.size a)
theorem k0_mult22_dvd : ∀ (v156 : BitVec 32) (k0_hw22 : k0_chk22 v156), 4 ∣ (k0_mult22 v156).toNat := fun v156 k0_hw22 => k0_hw22.1
theorem k0_off22_inb : ∀ (v156 : BitVec 32) (k0_hw22 : k0_chk22 v156), ∀ a, (k0_off22 v156) a + S4x128.size a ≤ S65536x128.size a := fun v156 k0_hw22 => k0_hw22.2

def k0_mult23 (v163 : BitVec 32) : BitVec 32 :=
  v163

def k0_off23 (v163 : BitVec 32) : Fin 2 → Nat :=
  let v164 : BitVec 32 := v163
  let v165 : Index := Scalar.indexCast v164
  let c0_118 : Index := 0#32
  ![v165.toNat, 0]

def k0_chk23 (v163 : BitVec 32) : Prop :=
  (4 ∣ (k0_mult23 v163).toNat) ∧
  (∀ a, (k0_off23 v163) a + S4x128.size a ≤ S65536x128.size a)
theorem k0_mult23_dvd : ∀ (v163 : BitVec 32) (k0_hw23 : k0_chk23 v163), 4 ∣ (k0_mult23 v163).toNat := fun v163 k0_hw23 => k0_hw23.1
theorem k0_off23_inb : ∀ (v163 : BitVec 32) (k0_hw23 : k0_chk23 v163), ∀ a, (k0_off23 v163) a + S4x128.size a ≤ S65536x128.size a := fun v163 k0_hw23 => k0_hw23.2

def k0_mult24 (v170 : BitVec 32) : BitVec 32 :=
  v170

def k0_off24 (v170 : BitVec 32) : Fin 2 → Nat :=
  let v171 : BitVec 32 := v170
  let v172 : Index := Scalar.indexCast v171
  let c0_123 : Index := 0#32
  ![v172.toNat, 0]

def k0_chk24 (v170 : BitVec 32) : Prop :=
  (4 ∣ (k0_mult24 v170).toNat) ∧
  (∀ a, (k0_off24 v170) a + S4x128.size a ≤ S65536x128.size a)
theorem k0_mult24_dvd : ∀ (v170 : BitVec 32) (k0_hw24 : k0_chk24 v170), 4 ∣ (k0_mult24 v170).toNat := fun v170 k0_hw24 => k0_hw24.1
theorem k0_off24_inb : ∀ (v170 : BitVec 32) (k0_hw24 : k0_chk24 v170), ∀ a, (k0_off24 v170) a + S4x128.size a ≤ S65536x128.size a := fun v170 k0_hw24 => k0_hw24.2

def k0_mult25 (v177 : BitVec 32) : BitVec 32 :=
  v177

def k0_off25 (v177 : BitVec 32) : Fin 2 → Nat :=
  let v178 : BitVec 32 := v177
  let v179 : Index := Scalar.indexCast v178
  let c0_128 : Index := 0#32
  ![v179.toNat, 0]

def k0_chk25 (v177 : BitVec 32) : Prop :=
  (4 ∣ (k0_mult25 v177).toNat) ∧
  (∀ a, (k0_off25 v177) a + S4x128.size a ≤ S65536x128.size a)
theorem k0_mult25_dvd : ∀ (v177 : BitVec 32) (k0_hw25 : k0_chk25 v177), 4 ∣ (k0_mult25 v177).toNat := fun v177 k0_hw25 => k0_hw25.1
theorem k0_off25_inb : ∀ (v177 : BitVec 32) (k0_hw25 : k0_chk25 v177), ∀ a, (k0_off25 v177) a + S4x128.size a ≤ S65536x128.size a := fun v177 k0_hw25 => k0_hw25.2

def k0_mult26 (v184 : BitVec 32) : BitVec 32 :=
  v184

def k0_off26 (v184 : BitVec 32) : Fin 2 → Nat :=
  let v185 : BitVec 32 := v184
  let v186 : Index := Scalar.indexCast v185
  let c0_133 : Index := 0#32
  ![v186.toNat, 0]

def k0_chk26 (v184 : BitVec 32) : Prop :=
  (4 ∣ (k0_mult26 v184).toNat) ∧
  (∀ a, (k0_off26 v184) a + S4x128.size a ≤ S65536x128.size a)
theorem k0_mult26_dvd : ∀ (v184 : BitVec 32) (k0_hw26 : k0_chk26 v184), 4 ∣ (k0_mult26 v184).toNat := fun v184 k0_hw26 => k0_hw26.1
theorem k0_off26_inb : ∀ (v184 : BitVec 32) (k0_hw26 : k0_chk26 v184), ∀ a, (k0_off26 v184) a + S4x128.size a ≤ S65536x128.size a := fun v184 k0_hw26 => k0_hw26.2

def k0_mult27 (v191 : BitVec 32) : BitVec 32 :=
  v191

def k0_off27 (v191 : BitVec 32) : Fin 2 → Nat :=
  let v192 : BitVec 32 := v191
  let v193 : Index := Scalar.indexCast v192
  let c0_138 : Index := 0#32
  ![v193.toNat, 0]

def k0_chk27 (v191 : BitVec 32) : Prop :=
  (4 ∣ (k0_mult27 v191).toNat) ∧
  (∀ a, (k0_off27 v191) a + S4x128.size a ≤ S65536x128.size a)
theorem k0_mult27_dvd : ∀ (v191 : BitVec 32) (k0_hw27 : k0_chk27 v191), 4 ∣ (k0_mult27 v191).toNat := fun v191 k0_hw27 => k0_hw27.1
theorem k0_off27_inb : ∀ (v191 : BitVec 32) (k0_hw27 : k0_chk27 v191), ∀ a, (k0_off27 v191) a + S4x128.size a ≤ S65536x128.size a := fun v191 k0_hw27 => k0_hw27.2

def k0_mult28 (v198 : BitVec 32) : BitVec 32 :=
  v198

def k0_off28 (v198 : BitVec 32) : Fin 2 → Nat :=
  let v199 : BitVec 32 := v198
  let v200 : Index := Scalar.indexCast v199
  let c0_143 : Index := 0#32
  ![v200.toNat, 0]

def k0_chk28 (v198 : BitVec 32) : Prop :=
  (4 ∣ (k0_mult28 v198).toNat) ∧
  (∀ a, (k0_off28 v198) a + S4x128.size a ≤ S65536x128.size a)
theorem k0_mult28_dvd : ∀ (v198 : BitVec 32) (k0_hw28 : k0_chk28 v198), 4 ∣ (k0_mult28 v198).toNat := fun v198 k0_hw28 => k0_hw28.1
theorem k0_off28_inb : ∀ (v198 : BitVec 32) (k0_hw28 : k0_chk28 v198), ∀ a, (k0_off28 v198) a + S4x128.size a ≤ S65536x128.size a := fun v198 k0_hw28 => k0_hw28.2

def k0_mult29 (v205 : BitVec 32) : BitVec 32 :=
  v205

def k0_off29 (v205 : BitVec 32) : Fin 2 → Nat :=
  let v206 : BitVec 32 := v205
  let v207 : Index := Scalar.indexCast v206
  let c0_148 : Index := 0#32
  ![v207.toNat, 0]

def k0_chk29 (v205 : BitVec 32) : Prop :=
  (4 ∣ (k0_mult29 v205).toNat) ∧
  (∀ a, (k0_off29 v205) a + S4x128.size a ≤ S65536x128.size a)
theorem k0_mult29_dvd : ∀ (v205 : BitVec 32) (k0_hw29 : k0_chk29 v205), 4 ∣ (k0_mult29 v205).toNat := fun v205 k0_hw29 => k0_hw29.1
theorem k0_off29_inb : ∀ (v205 : BitVec 32) (k0_hw29 : k0_chk29 v205), ∀ a, (k0_off29 v205) a + S4x128.size a ≤ S65536x128.size a := fun v205 k0_hw29 => k0_hw29.2

def k0_mult30 (v212 : BitVec 32) : BitVec 32 :=
  v212

def k0_off30 (v212 : BitVec 32) : Fin 2 → Nat :=
  let v213 : BitVec 32 := v212
  let v214 : Index := Scalar.indexCast v213
  let c0_153 : Index := 0#32
  ![v214.toNat, 0]

def k0_chk30 (v212 : BitVec 32) : Prop :=
  (4 ∣ (k0_mult30 v212).toNat) ∧
  (∀ a, (k0_off30 v212) a + S4x128.size a ≤ S65536x128.size a)
theorem k0_mult30_dvd : ∀ (v212 : BitVec 32) (k0_hw30 : k0_chk30 v212), 4 ∣ (k0_mult30 v212).toNat := fun v212 k0_hw30 => k0_hw30.1
theorem k0_off30_inb : ∀ (v212 : BitVec 32) (k0_hw30 : k0_chk30 v212), ∀ a, (k0_off30 v212) a + S4x128.size a ≤ S65536x128.size a := fun v212 k0_hw30 => k0_hw30.2

def k0_mult31 (v219 : BitVec 32) : BitVec 32 :=
  v219

def k0_off31 (v219 : BitVec 32) : Fin 2 → Nat :=
  let v220 : BitVec 32 := v219
  let v221 : Index := Scalar.indexCast v220
  let c0_158 : Index := 0#32
  ![v221.toNat, 0]

def k0_chk31 (v219 : BitVec 32) : Prop :=
  (4 ∣ (k0_mult31 v219).toNat) ∧
  (∀ a, (k0_off31 v219) a + S4x128.size a ≤ S65536x128.size a)
theorem k0_mult31_dvd : ∀ (v219 : BitVec 32) (k0_hw31 : k0_chk31 v219), 4 ∣ (k0_mult31 v219).toNat := fun v219 k0_hw31 => k0_hw31.1
theorem k0_off31_inb : ∀ (v219 : BitVec 32) (k0_hw31 : k0_chk31 v219), ∀ a, (k0_off31 v219) a + S4x128.size a ≤ S65536x128.size a := fun v219 k0_hw31 => k0_hw31.2

def k0_mult32 (v226 : BitVec 32) : BitVec 32 :=
  v226

def k0_off32 (v226 : BitVec 32) : Fin 2 → Nat :=
  let v227 : BitVec 32 := v226
  let v228 : Index := Scalar.indexCast v227
  let c0_163 : Index := 0#32
  ![v228.toNat, 0]

def k0_chk32 (v226 : BitVec 32) : Prop :=
  (4 ∣ (k0_mult32 v226).toNat) ∧
  (∀ a, (k0_off32 v226) a + S4x128.size a ≤ S65536x128.size a)
theorem k0_mult32_dvd : ∀ (v226 : BitVec 32) (k0_hw32 : k0_chk32 v226), 4 ∣ (k0_mult32 v226).toNat := fun v226 k0_hw32 => k0_hw32.1
theorem k0_off32_inb : ∀ (v226 : BitVec 32) (k0_hw32 : k0_chk32 v226), ∀ a, (k0_off32 v226) a + S4x128.size a ≤ S65536x128.size a := fun v226 k0_hw32 => k0_hw32.2

def k0_mult33 (v233 : BitVec 32) : BitVec 32 :=
  v233

def k0_off33 (v233 : BitVec 32) : Fin 2 → Nat :=
  let v234 : BitVec 32 := v233
  let v235 : Index := Scalar.indexCast v234
  let c0_168 : Index := 0#32
  ![v235.toNat, 0]

def k0_chk33 (v233 : BitVec 32) : Prop :=
  (4 ∣ (k0_mult33 v233).toNat) ∧
  (∀ a, (k0_off33 v233) a + S4x128.size a ≤ S65536x128.size a)
theorem k0_mult33_dvd : ∀ (v233 : BitVec 32) (k0_hw33 : k0_chk33 v233), 4 ∣ (k0_mult33 v233).toNat := fun v233 k0_hw33 => k0_hw33.1
theorem k0_off33_inb : ∀ (v233 : BitVec 32) (k0_hw33 : k0_chk33 v233), ∀ a, (k0_off33 v233) a + S4x128.size a ≤ S65536x128.size a := fun v233 k0_hw33 => k0_hw33.2

def k0_mult34 (v240 : BitVec 32) : BitVec 32 :=
  v240

def k0_off34 (v240 : BitVec 32) : Fin 2 → Nat :=
  let v241 : BitVec 32 := v240
  let v242 : Index := Scalar.indexCast v241
  let c0_173 : Index := 0#32
  ![v242.toNat, 0]

def k0_chk34 (v240 : BitVec 32) : Prop :=
  (4 ∣ (k0_mult34 v240).toNat) ∧
  (∀ a, (k0_off34 v240) a + S4x128.size a ≤ S65536x128.size a)
theorem k0_mult34_dvd : ∀ (v240 : BitVec 32) (k0_hw34 : k0_chk34 v240), 4 ∣ (k0_mult34 v240).toNat := fun v240 k0_hw34 => k0_hw34.1
theorem k0_off34_inb : ∀ (v240 : BitVec 32) (k0_hw34 : k0_chk34 v240), ∀ a, (k0_off34 v240) a + S4x128.size a ≤ S65536x128.size a := fun v240 k0_hw34 => k0_hw34.2

def k0_mult35 (v247 : BitVec 32) : BitVec 32 :=
  v247

def k0_off35 (v247 : BitVec 32) : Fin 2 → Nat :=
  let v248 : BitVec 32 := v247
  let v249 : Index := Scalar.indexCast v248
  let c0_178 : Index := 0#32
  ![v249.toNat, 0]

def k0_chk35 (v247 : BitVec 32) : Prop :=
  (4 ∣ (k0_mult35 v247).toNat) ∧
  (∀ a, (k0_off35 v247) a + S4x128.size a ≤ S65536x128.size a)
theorem k0_mult35_dvd : ∀ (v247 : BitVec 32) (k0_hw35 : k0_chk35 v247), 4 ∣ (k0_mult35 v247).toNat := fun v247 k0_hw35 => k0_hw35.1
theorem k0_off35_inb : ∀ (v247 : BitVec 32) (k0_hw35 : k0_chk35 v247), ∀ a, (k0_off35 v247) a + S4x128.size a ≤ S65536x128.size a := fun v247 k0_hw35 => k0_hw35.2

def k0_mult36 (v254 : BitVec 32) : BitVec 32 :=
  v254

def k0_off36 (v254 : BitVec 32) : Fin 2 → Nat :=
  let v255 : BitVec 32 := v254
  let v256 : Index := Scalar.indexCast v255
  let c0_183 : Index := 0#32
  ![v256.toNat, 0]

def k0_chk36 (v254 : BitVec 32) : Prop :=
  (4 ∣ (k0_mult36 v254).toNat) ∧
  (∀ a, (k0_off36 v254) a + S4x128.size a ≤ S65536x128.size a)
theorem k0_mult36_dvd : ∀ (v254 : BitVec 32) (k0_hw36 : k0_chk36 v254), 4 ∣ (k0_mult36 v254).toNat := fun v254 k0_hw36 => k0_hw36.1
theorem k0_off36_inb : ∀ (v254 : BitVec 32) (k0_hw36 : k0_chk36 v254), ∀ a, (k0_off36 v254) a + S4x128.size a ≤ S65536x128.size a := fun v254 k0_hw36 => k0_hw36.2

def k0_mult37 (v261 : BitVec 32) : BitVec 32 :=
  v261

def k0_off37 (v261 : BitVec 32) : Fin 2 → Nat :=
  let v262 : BitVec 32 := v261
  let v263 : Index := Scalar.indexCast v262
  let c0_188 : Index := 0#32
  ![v263.toNat, 0]

def k0_chk37 (v261 : BitVec 32) : Prop :=
  (4 ∣ (k0_mult37 v261).toNat) ∧
  (∀ a, (k0_off37 v261) a + S4x128.size a ≤ S65536x128.size a)
theorem k0_mult37_dvd : ∀ (v261 : BitVec 32) (k0_hw37 : k0_chk37 v261), 4 ∣ (k0_mult37 v261).toNat := fun v261 k0_hw37 => k0_hw37.1
theorem k0_off37_inb : ∀ (v261 : BitVec 32) (k0_hw37 : k0_chk37 v261), ∀ a, (k0_off37 v261) a + S4x128.size a ≤ S65536x128.size a := fun v261 k0_hw37 => k0_hw37.2

def k0_mult38 (v268 : BitVec 32) : BitVec 32 :=
  v268

def k0_off38 (v268 : BitVec 32) : Fin 2 → Nat :=
  let v269 : BitVec 32 := v268
  let v270 : Index := Scalar.indexCast v269
  let c0_193 : Index := 0#32
  ![v270.toNat, 0]

def k0_chk38 (v268 : BitVec 32) : Prop :=
  (4 ∣ (k0_mult38 v268).toNat) ∧
  (∀ a, (k0_off38 v268) a + S4x128.size a ≤ S65536x128.size a)
theorem k0_mult38_dvd : ∀ (v268 : BitVec 32) (k0_hw38 : k0_chk38 v268), 4 ∣ (k0_mult38 v268).toNat := fun v268 k0_hw38 => k0_hw38.1
theorem k0_off38_inb : ∀ (v268 : BitVec 32) (k0_hw38 : k0_chk38 v268), ∀ a, (k0_off38 v268) a + S4x128.size a ≤ S65536x128.size a := fun v268 k0_hw38 => k0_hw38.2

def k0_mult39 (v275 : BitVec 32) : BitVec 32 :=
  v275

def k0_off39 (v275 : BitVec 32) : Fin 2 → Nat :=
  let v276 : BitVec 32 := v275
  let v277 : Index := Scalar.indexCast v276
  let c0_198 : Index := 0#32
  ![v277.toNat, 0]

def k0_chk39 (v275 : BitVec 32) : Prop :=
  (4 ∣ (k0_mult39 v275).toNat) ∧
  (∀ a, (k0_off39 v275) a + S4x128.size a ≤ S65536x128.size a)
theorem k0_mult39_dvd : ∀ (v275 : BitVec 32) (k0_hw39 : k0_chk39 v275), 4 ∣ (k0_mult39 v275).toNat := fun v275 k0_hw39 => k0_hw39.1
theorem k0_off39_inb : ∀ (v275 : BitVec 32) (k0_hw39 : k0_chk39 v275), ∀ a, (k0_off39 v275) a + S4x128.size a ≤ S65536x128.size a := fun v275 k0_hw39 => k0_hw39.2

def k0_mult40 (v282 : BitVec 32) : BitVec 32 :=
  v282

def k0_off40 (v282 : BitVec 32) : Fin 2 → Nat :=
  let v283 : BitVec 32 := v282
  let v284 : Index := Scalar.indexCast v283
  let c0_203 : Index := 0#32
  ![v284.toNat, 0]

def k0_chk40 (v282 : BitVec 32) : Prop :=
  (4 ∣ (k0_mult40 v282).toNat) ∧
  (∀ a, (k0_off40 v282) a + S4x128.size a ≤ S65536x128.size a)
theorem k0_mult40_dvd : ∀ (v282 : BitVec 32) (k0_hw40 : k0_chk40 v282), 4 ∣ (k0_mult40 v282).toNat := fun v282 k0_hw40 => k0_hw40.1
theorem k0_off40_inb : ∀ (v282 : BitVec 32) (k0_hw40 : k0_chk40 v282), ∀ a, (k0_off40 v282) a + S4x128.size a ≤ S65536x128.size a := fun v282 k0_hw40 => k0_hw40.2

def k0_mult41 (v289 : BitVec 32) : BitVec 32 :=
  v289

def k0_off41 (v289 : BitVec 32) : Fin 2 → Nat :=
  let v290 : BitVec 32 := v289
  let v291 : Index := Scalar.indexCast v290
  let c0_208 : Index := 0#32
  ![v291.toNat, 0]

def k0_chk41 (v289 : BitVec 32) : Prop :=
  (4 ∣ (k0_mult41 v289).toNat) ∧
  (∀ a, (k0_off41 v289) a + S4x128.size a ≤ S65536x128.size a)
theorem k0_mult41_dvd : ∀ (v289 : BitVec 32) (k0_hw41 : k0_chk41 v289), 4 ∣ (k0_mult41 v289).toNat := fun v289 k0_hw41 => k0_hw41.1
theorem k0_off41_inb : ∀ (v289 : BitVec 32) (k0_hw41 : k0_chk41 v289), ∀ a, (k0_off41 v289) a + S4x128.size a ≤ S65536x128.size a := fun v289 k0_hw41 => k0_hw41.2

def k0_mult42 (v296 : BitVec 32) : BitVec 32 :=
  v296

def k0_off42 (v296 : BitVec 32) : Fin 2 → Nat :=
  let v297 : BitVec 32 := v296
  let v298 : Index := Scalar.indexCast v297
  let c0_213 : Index := 0#32
  ![v298.toNat, 0]

def k0_chk42 (v296 : BitVec 32) : Prop :=
  (4 ∣ (k0_mult42 v296).toNat) ∧
  (∀ a, (k0_off42 v296) a + S4x128.size a ≤ S65536x128.size a)
theorem k0_mult42_dvd : ∀ (v296 : BitVec 32) (k0_hw42 : k0_chk42 v296), 4 ∣ (k0_mult42 v296).toNat := fun v296 k0_hw42 => k0_hw42.1
theorem k0_off42_inb : ∀ (v296 : BitVec 32) (k0_hw42 : k0_chk42 v296), ∀ a, (k0_off42 v296) a + S4x128.size a ≤ S65536x128.size a := fun v296 k0_hw42 => k0_hw42.2

def k0_mult43 (v303 : BitVec 32) : BitVec 32 :=
  v303

def k0_off43 (v303 : BitVec 32) : Fin 2 → Nat :=
  let v304 : BitVec 32 := v303
  let v305 : Index := Scalar.indexCast v304
  let c0_218 : Index := 0#32
  ![v305.toNat, 0]

def k0_chk43 (v303 : BitVec 32) : Prop :=
  (4 ∣ (k0_mult43 v303).toNat) ∧
  (∀ a, (k0_off43 v303) a + S4x128.size a ≤ S65536x128.size a)
theorem k0_mult43_dvd : ∀ (v303 : BitVec 32) (k0_hw43 : k0_chk43 v303), 4 ∣ (k0_mult43 v303).toNat := fun v303 k0_hw43 => k0_hw43.1
theorem k0_off43_inb : ∀ (v303 : BitVec 32) (k0_hw43 : k0_chk43 v303), ∀ a, (k0_off43 v303) a + S4x128.size a ≤ S65536x128.size a := fun v303 k0_hw43 => k0_hw43.2

def k0_mult44 (v310 : BitVec 32) : BitVec 32 :=
  v310

def k0_off44 (v310 : BitVec 32) : Fin 2 → Nat :=
  let v311 : BitVec 32 := v310
  let v312 : Index := Scalar.indexCast v311
  let c0_223 : Index := 0#32
  ![v312.toNat, 0]

def k0_chk44 (v310 : BitVec 32) : Prop :=
  (4 ∣ (k0_mult44 v310).toNat) ∧
  (∀ a, (k0_off44 v310) a + S4x128.size a ≤ S65536x128.size a)
theorem k0_mult44_dvd : ∀ (v310 : BitVec 32) (k0_hw44 : k0_chk44 v310), 4 ∣ (k0_mult44 v310).toNat := fun v310 k0_hw44 => k0_hw44.1
theorem k0_off44_inb : ∀ (v310 : BitVec 32) (k0_hw44 : k0_chk44 v310), ∀ a, (k0_off44 v310) a + S4x128.size a ≤ S65536x128.size a := fun v310 k0_hw44 => k0_hw44.2

def k0_mult45 (v317 : BitVec 32) : BitVec 32 :=
  v317

def k0_off45 (v317 : BitVec 32) : Fin 2 → Nat :=
  let v318 : BitVec 32 := v317
  let v319 : Index := Scalar.indexCast v318
  let c0_228 : Index := 0#32
  ![v319.toNat, 0]

def k0_chk45 (v317 : BitVec 32) : Prop :=
  (4 ∣ (k0_mult45 v317).toNat) ∧
  (∀ a, (k0_off45 v317) a + S4x128.size a ≤ S65536x128.size a)
theorem k0_mult45_dvd : ∀ (v317 : BitVec 32) (k0_hw45 : k0_chk45 v317), 4 ∣ (k0_mult45 v317).toNat := fun v317 k0_hw45 => k0_hw45.1
theorem k0_off45_inb : ∀ (v317 : BitVec 32) (k0_hw45 : k0_chk45 v317), ∀ a, (k0_off45 v317) a + S4x128.size a ≤ S65536x128.size a := fun v317 k0_hw45 => k0_hw45.2

def k0_mult46 (v324 : BitVec 32) : BitVec 32 :=
  v324

def k0_off46 (v324 : BitVec 32) : Fin 2 → Nat :=
  let v325 : BitVec 32 := v324
  let v326 : Index := Scalar.indexCast v325
  let c0_233 : Index := 0#32
  ![v326.toNat, 0]

def k0_chk46 (v324 : BitVec 32) : Prop :=
  (4 ∣ (k0_mult46 v324).toNat) ∧
  (∀ a, (k0_off46 v324) a + S4x128.size a ≤ S65536x128.size a)
theorem k0_mult46_dvd : ∀ (v324 : BitVec 32) (k0_hw46 : k0_chk46 v324), 4 ∣ (k0_mult46 v324).toNat := fun v324 k0_hw46 => k0_hw46.1
theorem k0_off46_inb : ∀ (v324 : BitVec 32) (k0_hw46 : k0_chk46 v324), ∀ a, (k0_off46 v324) a + S4x128.size a ≤ S65536x128.size a := fun v324 k0_hw46 => k0_hw46.2

def k0_mult47 (v331 : BitVec 32) : BitVec 32 :=
  v331

def k0_off47 (v331 : BitVec 32) : Fin 2 → Nat :=
  let v332 : BitVec 32 := v331
  let v333 : Index := Scalar.indexCast v332
  let c0_238 : Index := 0#32
  ![v333.toNat, 0]

def k0_chk47 (v331 : BitVec 32) : Prop :=
  (4 ∣ (k0_mult47 v331).toNat) ∧
  (∀ a, (k0_off47 v331) a + S4x128.size a ≤ S65536x128.size a)
theorem k0_mult47_dvd : ∀ (v331 : BitVec 32) (k0_hw47 : k0_chk47 v331), 4 ∣ (k0_mult47 v331).toNat := fun v331 k0_hw47 => k0_hw47.1
theorem k0_off47_inb : ∀ (v331 : BitVec 32) (k0_hw47 : k0_chk47 v331), ∀ a, (k0_off47 v331) a + S4x128.size a ≤ S65536x128.size a := fun v331 k0_hw47 => k0_hw47.2

def k0_mult48 (v338 : BitVec 32) : BitVec 32 :=
  v338

def k0_off48 (v338 : BitVec 32) : Fin 2 → Nat :=
  let v339 : BitVec 32 := v338
  let v340 : Index := Scalar.indexCast v339
  let c0_243 : Index := 0#32
  ![v340.toNat, 0]

def k0_chk48 (v338 : BitVec 32) : Prop :=
  (4 ∣ (k0_mult48 v338).toNat) ∧
  (∀ a, (k0_off48 v338) a + S4x128.size a ≤ S65536x128.size a)
theorem k0_mult48_dvd : ∀ (v338 : BitVec 32) (k0_hw48 : k0_chk48 v338), 4 ∣ (k0_mult48 v338).toNat := fun v338 k0_hw48 => k0_hw48.1
theorem k0_off48_inb : ∀ (v338 : BitVec 32) (k0_hw48 : k0_chk48 v338), ∀ a, (k0_off48 v338) a + S4x128.size a ≤ S65536x128.size a := fun v338 k0_hw48 => k0_hw48.2

def k0_mult49 (v345 : BitVec 32) : BitVec 32 :=
  v345

def k0_off49 (v345 : BitVec 32) : Fin 2 → Nat :=
  let v346 : BitVec 32 := v345
  let v347 : Index := Scalar.indexCast v346
  let c0_248 : Index := 0#32
  ![v347.toNat, 0]

def k0_chk49 (v345 : BitVec 32) : Prop :=
  (4 ∣ (k0_mult49 v345).toNat) ∧
  (∀ a, (k0_off49 v345) a + S4x128.size a ≤ S65536x128.size a)
theorem k0_mult49_dvd : ∀ (v345 : BitVec 32) (k0_hw49 : k0_chk49 v345), 4 ∣ (k0_mult49 v345).toNat := fun v345 k0_hw49 => k0_hw49.1
theorem k0_off49_inb : ∀ (v345 : BitVec 32) (k0_hw49 : k0_chk49 v345), ∀ a, (k0_off49 v345) a + S4x128.size a ≤ S65536x128.size a := fun v345 k0_hw49 => k0_hw49.2

def k0_mult50 (v352 : BitVec 32) : BitVec 32 :=
  v352

def k0_off50 (v352 : BitVec 32) : Fin 2 → Nat :=
  let v353 : BitVec 32 := v352
  let v354 : Index := Scalar.indexCast v353
  let c0_253 : Index := 0#32
  ![v354.toNat, 0]

def k0_chk50 (v352 : BitVec 32) : Prop :=
  (4 ∣ (k0_mult50 v352).toNat) ∧
  (∀ a, (k0_off50 v352) a + S4x128.size a ≤ S65536x128.size a)
theorem k0_mult50_dvd : ∀ (v352 : BitVec 32) (k0_hw50 : k0_chk50 v352), 4 ∣ (k0_mult50 v352).toNat := fun v352 k0_hw50 => k0_hw50.1
theorem k0_off50_inb : ∀ (v352 : BitVec 32) (k0_hw50 : k0_chk50 v352), ∀ a, (k0_off50 v352) a + S4x128.size a ≤ S65536x128.size a := fun v352 k0_hw50 => k0_hw50.2

def k0_mult51 (v359 : BitVec 32) : BitVec 32 :=
  v359

def k0_off51 (v359 : BitVec 32) : Fin 2 → Nat :=
  let v360 : BitVec 32 := v359
  let v361 : Index := Scalar.indexCast v360
  let c0_258 : Index := 0#32
  ![v361.toNat, 0]

def k0_chk51 (v359 : BitVec 32) : Prop :=
  (4 ∣ (k0_mult51 v359).toNat) ∧
  (∀ a, (k0_off51 v359) a + S4x128.size a ≤ S65536x128.size a)
theorem k0_mult51_dvd : ∀ (v359 : BitVec 32) (k0_hw51 : k0_chk51 v359), 4 ∣ (k0_mult51 v359).toNat := fun v359 k0_hw51 => k0_hw51.1
theorem k0_off51_inb : ∀ (v359 : BitVec 32) (k0_hw51 : k0_chk51 v359), ∀ a, (k0_off51 v359) a + S4x128.size a ≤ S65536x128.size a := fun v359 k0_hw51 => k0_hw51.2

def k0_mult52 (v366 : BitVec 32) : BitVec 32 :=
  v366

def k0_off52 (v366 : BitVec 32) : Fin 2 → Nat :=
  let v367 : BitVec 32 := v366
  let v368 : Index := Scalar.indexCast v367
  let c0_263 : Index := 0#32
  ![v368.toNat, 0]

def k0_chk52 (v366 : BitVec 32) : Prop :=
  (4 ∣ (k0_mult52 v366).toNat) ∧
  (∀ a, (k0_off52 v366) a + S4x128.size a ≤ S65536x128.size a)
theorem k0_mult52_dvd : ∀ (v366 : BitVec 32) (k0_hw52 : k0_chk52 v366), 4 ∣ (k0_mult52 v366).toNat := fun v366 k0_hw52 => k0_hw52.1
theorem k0_off52_inb : ∀ (v366 : BitVec 32) (k0_hw52 : k0_chk52 v366), ∀ a, (k0_off52 v366) a + S4x128.size a ≤ S65536x128.size a := fun v366 k0_hw52 => k0_hw52.2

def k0_mult53 (v373 : BitVec 32) : BitVec 32 :=
  v373

def k0_off53 (v373 : BitVec 32) : Fin 2 → Nat :=
  let v374 : BitVec 32 := v373
  let v375 : Index := Scalar.indexCast v374
  let c0_268 : Index := 0#32
  ![v375.toNat, 0]

def k0_chk53 (v373 : BitVec 32) : Prop :=
  (4 ∣ (k0_mult53 v373).toNat) ∧
  (∀ a, (k0_off53 v373) a + S4x128.size a ≤ S65536x128.size a)
theorem k0_mult53_dvd : ∀ (v373 : BitVec 32) (k0_hw53 : k0_chk53 v373), 4 ∣ (k0_mult53 v373).toNat := fun v373 k0_hw53 => k0_hw53.1
theorem k0_off53_inb : ∀ (v373 : BitVec 32) (k0_hw53 : k0_chk53 v373), ∀ a, (k0_off53 v373) a + S4x128.size a ≤ S65536x128.size a := fun v373 k0_hw53 => k0_hw53.2

def k0_mult54 (v380 : BitVec 32) : BitVec 32 :=
  v380

def k0_off54 (v380 : BitVec 32) : Fin 2 → Nat :=
  let v381 : BitVec 32 := v380
  let v382 : Index := Scalar.indexCast v381
  let c0_273 : Index := 0#32
  ![v382.toNat, 0]

def k0_chk54 (v380 : BitVec 32) : Prop :=
  (4 ∣ (k0_mult54 v380).toNat) ∧
  (∀ a, (k0_off54 v380) a + S4x128.size a ≤ S65536x128.size a)
theorem k0_mult54_dvd : ∀ (v380 : BitVec 32) (k0_hw54 : k0_chk54 v380), 4 ∣ (k0_mult54 v380).toNat := fun v380 k0_hw54 => k0_hw54.1
theorem k0_off54_inb : ∀ (v380 : BitVec 32) (k0_hw54 : k0_chk54 v380), ∀ a, (k0_off54 v380) a + S4x128.size a ≤ S65536x128.size a := fun v380 k0_hw54 => k0_hw54.2

def k0_mult55 (v387 : BitVec 32) : BitVec 32 :=
  v387

def k0_off55 (v387 : BitVec 32) : Fin 2 → Nat :=
  let v388 : BitVec 32 := v387
  let v389 : Index := Scalar.indexCast v388
  let c0_278 : Index := 0#32
  ![v389.toNat, 0]

def k0_chk55 (v387 : BitVec 32) : Prop :=
  (4 ∣ (k0_mult55 v387).toNat) ∧
  (∀ a, (k0_off55 v387) a + S4x128.size a ≤ S65536x128.size a)
theorem k0_mult55_dvd : ∀ (v387 : BitVec 32) (k0_hw55 : k0_chk55 v387), 4 ∣ (k0_mult55 v387).toNat := fun v387 k0_hw55 => k0_hw55.1
theorem k0_off55_inb : ∀ (v387 : BitVec 32) (k0_hw55 : k0_chk55 v387), ∀ a, (k0_off55 v387) a + S4x128.size a ≤ S65536x128.size a := fun v387 k0_hw55 => k0_hw55.2

def k0_mult56 (v394 : BitVec 32) : BitVec 32 :=
  v394

def k0_off56 (v394 : BitVec 32) : Fin 2 → Nat :=
  let v395 : BitVec 32 := v394
  let v396 : Index := Scalar.indexCast v395
  let c0_283 : Index := 0#32
  ![v396.toNat, 0]

def k0_chk56 (v394 : BitVec 32) : Prop :=
  (4 ∣ (k0_mult56 v394).toNat) ∧
  (∀ a, (k0_off56 v394) a + S4x128.size a ≤ S65536x128.size a)
theorem k0_mult56_dvd : ∀ (v394 : BitVec 32) (k0_hw56 : k0_chk56 v394), 4 ∣ (k0_mult56 v394).toNat := fun v394 k0_hw56 => k0_hw56.1
theorem k0_off56_inb : ∀ (v394 : BitVec 32) (k0_hw56 : k0_chk56 v394), ∀ a, (k0_off56 v394) a + S4x128.size a ≤ S65536x128.size a := fun v394 k0_hw56 => k0_hw56.2

def k0_mult57 (v401 : BitVec 32) : BitVec 32 :=
  v401

def k0_off57 (v401 : BitVec 32) : Fin 2 → Nat :=
  let v402 : BitVec 32 := v401
  let v403 : Index := Scalar.indexCast v402
  let c0_288 : Index := 0#32
  ![v403.toNat, 0]

def k0_chk57 (v401 : BitVec 32) : Prop :=
  (4 ∣ (k0_mult57 v401).toNat) ∧
  (∀ a, (k0_off57 v401) a + S4x128.size a ≤ S65536x128.size a)
theorem k0_mult57_dvd : ∀ (v401 : BitVec 32) (k0_hw57 : k0_chk57 v401), 4 ∣ (k0_mult57 v401).toNat := fun v401 k0_hw57 => k0_hw57.1
theorem k0_off57_inb : ∀ (v401 : BitVec 32) (k0_hw57 : k0_chk57 v401), ∀ a, (k0_off57 v401) a + S4x128.size a ≤ S65536x128.size a := fun v401 k0_hw57 => k0_hw57.2

def k0_mult58 (v408 : BitVec 32) : BitVec 32 :=
  v408

def k0_off58 (v408 : BitVec 32) : Fin 2 → Nat :=
  let v409 : BitVec 32 := v408
  let v410 : Index := Scalar.indexCast v409
  let c0_293 : Index := 0#32
  ![v410.toNat, 0]

def k0_chk58 (v408 : BitVec 32) : Prop :=
  (4 ∣ (k0_mult58 v408).toNat) ∧
  (∀ a, (k0_off58 v408) a + S4x128.size a ≤ S65536x128.size a)
theorem k0_mult58_dvd : ∀ (v408 : BitVec 32) (k0_hw58 : k0_chk58 v408), 4 ∣ (k0_mult58 v408).toNat := fun v408 k0_hw58 => k0_hw58.1
theorem k0_off58_inb : ∀ (v408 : BitVec 32) (k0_hw58 : k0_chk58 v408), ∀ a, (k0_off58 v408) a + S4x128.size a ≤ S65536x128.size a := fun v408 k0_hw58 => k0_hw58.2

def k0_mult59 (v415 : BitVec 32) : BitVec 32 :=
  v415

def k0_off59 (v415 : BitVec 32) : Fin 2 → Nat :=
  let v416 : BitVec 32 := v415
  let v417 : Index := Scalar.indexCast v416
  let c0_298 : Index := 0#32
  ![v417.toNat, 0]

def k0_chk59 (v415 : BitVec 32) : Prop :=
  (4 ∣ (k0_mult59 v415).toNat) ∧
  (∀ a, (k0_off59 v415) a + S4x128.size a ≤ S65536x128.size a)
theorem k0_mult59_dvd : ∀ (v415 : BitVec 32) (k0_hw59 : k0_chk59 v415), 4 ∣ (k0_mult59 v415).toNat := fun v415 k0_hw59 => k0_hw59.1
theorem k0_off59_inb : ∀ (v415 : BitVec 32) (k0_hw59 : k0_chk59 v415), ∀ a, (k0_off59 v415) a + S4x128.size a ≤ S65536x128.size a := fun v415 k0_hw59 => k0_hw59.2

def k0_mult60 (v422 : BitVec 32) : BitVec 32 :=
  v422

def k0_off60 (v422 : BitVec 32) : Fin 2 → Nat :=
  let v423 : BitVec 32 := v422
  let v424 : Index := Scalar.indexCast v423
  let c0_303 : Index := 0#32
  ![v424.toNat, 0]

def k0_chk60 (v422 : BitVec 32) : Prop :=
  (4 ∣ (k0_mult60 v422).toNat) ∧
  (∀ a, (k0_off60 v422) a + S4x128.size a ≤ S65536x128.size a)
theorem k0_mult60_dvd : ∀ (v422 : BitVec 32) (k0_hw60 : k0_chk60 v422), 4 ∣ (k0_mult60 v422).toNat := fun v422 k0_hw60 => k0_hw60.1
theorem k0_off60_inb : ∀ (v422 : BitVec 32) (k0_hw60 : k0_chk60 v422), ∀ a, (k0_off60 v422) a + S4x128.size a ≤ S65536x128.size a := fun v422 k0_hw60 => k0_hw60.2

def k0_mult61 (v429 : BitVec 32) : BitVec 32 :=
  v429

def k0_off61 (v429 : BitVec 32) : Fin 2 → Nat :=
  let v430 : BitVec 32 := v429
  let v431 : Index := Scalar.indexCast v430
  let c0_308 : Index := 0#32
  ![v431.toNat, 0]

def k0_chk61 (v429 : BitVec 32) : Prop :=
  (4 ∣ (k0_mult61 v429).toNat) ∧
  (∀ a, (k0_off61 v429) a + S4x128.size a ≤ S65536x128.size a)
theorem k0_mult61_dvd : ∀ (v429 : BitVec 32) (k0_hw61 : k0_chk61 v429), 4 ∣ (k0_mult61 v429).toNat := fun v429 k0_hw61 => k0_hw61.1
theorem k0_off61_inb : ∀ (v429 : BitVec 32) (k0_hw61 : k0_chk61 v429), ∀ a, (k0_off61 v429) a + S4x128.size a ≤ S65536x128.size a := fun v429 k0_hw61 => k0_hw61.2

def k0_mult62 (v436 : BitVec 32) : BitVec 32 :=
  v436

def k0_off62 (v436 : BitVec 32) : Fin 2 → Nat :=
  let v437 : BitVec 32 := v436
  let v438 : Index := Scalar.indexCast v437
  let c0_313 : Index := 0#32
  ![v438.toNat, 0]

def k0_chk62 (v436 : BitVec 32) : Prop :=
  (4 ∣ (k0_mult62 v436).toNat) ∧
  (∀ a, (k0_off62 v436) a + S4x128.size a ≤ S65536x128.size a)
theorem k0_mult62_dvd : ∀ (v436 : BitVec 32) (k0_hw62 : k0_chk62 v436), 4 ∣ (k0_mult62 v436).toNat := fun v436 k0_hw62 => k0_hw62.1
theorem k0_off62_inb : ∀ (v436 : BitVec 32) (k0_hw62 : k0_chk62 v436), ∀ a, (k0_off62 v436) a + S4x128.size a ≤ S65536x128.size a := fun v436 k0_hw62 => k0_hw62.2

def k0_mult63 (v443 : BitVec 32) : BitVec 32 :=
  v443

def k0_off63 (v443 : BitVec 32) : Fin 2 → Nat :=
  let v444 : BitVec 32 := v443
  let v445 : Index := Scalar.indexCast v444
  let c0_318 : Index := 0#32
  ![v445.toNat, 0]

def k0_chk63 (v443 : BitVec 32) : Prop :=
  (4 ∣ (k0_mult63 v443).toNat) ∧
  (∀ a, (k0_off63 v443) a + S4x128.size a ≤ S65536x128.size a)
theorem k0_mult63_dvd : ∀ (v443 : BitVec 32) (k0_hw63 : k0_chk63 v443), 4 ∣ (k0_mult63 v443).toNat := fun v443 k0_hw63 => k0_hw63.1
theorem k0_off63_inb : ∀ (v443 : BitVec 32) (k0_hw63 : k0_chk63 v443), ∀ a, (k0_off63 v443) a + S4x128.size a ≤ S65536x128.size a := fun v443 k0_hw63 => k0_hw63.2

def k0_mult64 (v450 : BitVec 32) : BitVec 32 :=
  v450

def k0_off64 (v450 : BitVec 32) : Fin 2 → Nat :=
  let v451 : BitVec 32 := v450
  let v452 : Index := Scalar.indexCast v451
  let c0_323 : Index := 0#32
  ![v452.toNat, 0]

def k0_chk64 (v450 : BitVec 32) : Prop :=
  (4 ∣ (k0_mult64 v450).toNat) ∧
  (∀ a, (k0_off64 v450) a + S4x128.size a ≤ S65536x128.size a)
theorem k0_mult64_dvd : ∀ (v450 : BitVec 32) (k0_hw64 : k0_chk64 v450), 4 ∣ (k0_mult64 v450).toNat := fun v450 k0_hw64 => k0_hw64.1
theorem k0_off64_inb : ∀ (v450 : BitVec 32) (k0_hw64 : k0_chk64 v450), ∀ a, (k0_off64 v450) a + S4x128.size a ≤ S65536x128.size a := fun v450 k0_hw64 => k0_hw64.2

def k0_mult65 (v457 : BitVec 32) : BitVec 32 :=
  v457

def k0_off65 (v457 : BitVec 32) : Fin 2 → Nat :=
  let v458 : BitVec 32 := v457
  let v459 : Index := Scalar.indexCast v458
  let c0_328 : Index := 0#32
  ![v459.toNat, 0]

def k0_chk65 (v457 : BitVec 32) : Prop :=
  (4 ∣ (k0_mult65 v457).toNat) ∧
  (∀ a, (k0_off65 v457) a + S4x128.size a ≤ S65536x128.size a)
theorem k0_mult65_dvd : ∀ (v457 : BitVec 32) (k0_hw65 : k0_chk65 v457), 4 ∣ (k0_mult65 v457).toNat := fun v457 k0_hw65 => k0_hw65.1
theorem k0_off65_inb : ∀ (v457 : BitVec 32) (k0_hw65 : k0_chk65 v457), ∀ a, (k0_off65 v457) a + S4x128.size a ≤ S65536x128.size a := fun v457 k0_hw65 => k0_hw65.2

def k0_mult66 (v464 : BitVec 32) : BitVec 32 :=
  v464

def k0_off66 (v464 : BitVec 32) : Fin 2 → Nat :=
  let v465 : BitVec 32 := v464
  let v466 : Index := Scalar.indexCast v465
  let c0_333 : Index := 0#32
  ![v466.toNat, 0]

def k0_chk66 (v464 : BitVec 32) : Prop :=
  (4 ∣ (k0_mult66 v464).toNat) ∧
  (∀ a, (k0_off66 v464) a + S4x128.size a ≤ S65536x128.size a)
theorem k0_mult66_dvd : ∀ (v464 : BitVec 32) (k0_hw66 : k0_chk66 v464), 4 ∣ (k0_mult66 v464).toNat := fun v464 k0_hw66 => k0_hw66.1
theorem k0_off66_inb : ∀ (v464 : BitVec 32) (k0_hw66 : k0_chk66 v464), ∀ a, (k0_off66 v464) a + S4x128.size a ≤ S65536x128.size a := fun v464 k0_hw66 => k0_hw66.2

def k0_mult67 (v471 : BitVec 32) : BitVec 32 :=
  v471

def k0_off67 (v471 : BitVec 32) : Fin 2 → Nat :=
  let v472 : BitVec 32 := v471
  let v473 : Index := Scalar.indexCast v472
  let c0_338 : Index := 0#32
  ![v473.toNat, 0]

def k0_chk67 (v471 : BitVec 32) : Prop :=
  (4 ∣ (k0_mult67 v471).toNat) ∧
  (∀ a, (k0_off67 v471) a + S4x128.size a ≤ S65536x128.size a)
theorem k0_mult67_dvd : ∀ (v471 : BitVec 32) (k0_hw67 : k0_chk67 v471), 4 ∣ (k0_mult67 v471).toNat := fun v471 k0_hw67 => k0_hw67.1
theorem k0_off67_inb : ∀ (v471 : BitVec 32) (k0_hw67 : k0_chk67 v471), ∀ a, (k0_off67 v471) a + S4x128.size a ≤ S65536x128.size a := fun v471 k0_hw67 => k0_hw67.2

def k0_mult68 (v478 : BitVec 32) : BitVec 32 :=
  v478

def k0_off68 (v478 : BitVec 32) : Fin 2 → Nat :=
  let v479 : BitVec 32 := v478
  let v480 : Index := Scalar.indexCast v479
  let c0_343 : Index := 0#32
  ![v480.toNat, 0]

def k0_chk68 (v478 : BitVec 32) : Prop :=
  (4 ∣ (k0_mult68 v478).toNat) ∧
  (∀ a, (k0_off68 v478) a + S4x128.size a ≤ S65536x128.size a)
theorem k0_mult68_dvd : ∀ (v478 : BitVec 32) (k0_hw68 : k0_chk68 v478), 4 ∣ (k0_mult68 v478).toNat := fun v478 k0_hw68 => k0_hw68.1
theorem k0_off68_inb : ∀ (v478 : BitVec 32) (k0_hw68 : k0_chk68 v478), ∀ a, (k0_off68 v478) a + S4x128.size a ≤ S65536x128.size a := fun v478 k0_hw68 => k0_hw68.2

def k0_mult69 (v485 : BitVec 32) : BitVec 32 :=
  v485

def k0_off69 (v485 : BitVec 32) : Fin 2 → Nat :=
  let v486 : BitVec 32 := v485
  let v487 : Index := Scalar.indexCast v486
  let c0_348 : Index := 0#32
  ![v487.toNat, 0]

def k0_chk69 (v485 : BitVec 32) : Prop :=
  (4 ∣ (k0_mult69 v485).toNat) ∧
  (∀ a, (k0_off69 v485) a + S4x128.size a ≤ S65536x128.size a)
theorem k0_mult69_dvd : ∀ (v485 : BitVec 32) (k0_hw69 : k0_chk69 v485), 4 ∣ (k0_mult69 v485).toNat := fun v485 k0_hw69 => k0_hw69.1
theorem k0_off69_inb : ∀ (v485 : BitVec 32) (k0_hw69 : k0_chk69 v485), ∀ a, (k0_off69 v485) a + S4x128.size a ≤ S65536x128.size a := fun v485 k0_hw69 => k0_hw69.2

def k0_mult70 (v492 : BitVec 32) : BitVec 32 :=
  v492

def k0_off70 (v492 : BitVec 32) : Fin 2 → Nat :=
  let v493 : BitVec 32 := v492
  let v494 : Index := Scalar.indexCast v493
  let c0_353 : Index := 0#32
  ![v494.toNat, 0]

def k0_chk70 (v492 : BitVec 32) : Prop :=
  (4 ∣ (k0_mult70 v492).toNat) ∧
  (∀ a, (k0_off70 v492) a + S4x128.size a ≤ S65536x128.size a)
theorem k0_mult70_dvd : ∀ (v492 : BitVec 32) (k0_hw70 : k0_chk70 v492), 4 ∣ (k0_mult70 v492).toNat := fun v492 k0_hw70 => k0_hw70.1
theorem k0_off70_inb : ∀ (v492 : BitVec 32) (k0_hw70 : k0_chk70 v492), ∀ a, (k0_off70 v492) a + S4x128.size a ≤ S65536x128.size a := fun v492 k0_hw70 => k0_hw70.2

def k0_mult71 (v499 : BitVec 32) : BitVec 32 :=
  v499

def k0_off71 (v499 : BitVec 32) : Fin 2 → Nat :=
  let v500 : BitVec 32 := v499
  let v501 : Index := Scalar.indexCast v500
  let c0_358 : Index := 0#32
  ![v501.toNat, 0]

def k0_chk71 (v499 : BitVec 32) : Prop :=
  (4 ∣ (k0_mult71 v499).toNat) ∧
  (∀ a, (k0_off71 v499) a + S4x128.size a ≤ S65536x128.size a)
theorem k0_mult71_dvd : ∀ (v499 : BitVec 32) (k0_hw71 : k0_chk71 v499), 4 ∣ (k0_mult71 v499).toNat := fun v499 k0_hw71 => k0_hw71.1
theorem k0_off71_inb : ∀ (v499 : BitVec 32) (k0_hw71 : k0_chk71 v499), ∀ a, (k0_off71 v499) a + S4x128.size a ≤ S65536x128.size a := fun v499 k0_hw71 => k0_hw71.2

def k0_mult72 (v506 : BitVec 32) : BitVec 32 :=
  v506

def k0_off72 (v506 : BitVec 32) : Fin 2 → Nat :=
  let v507 : BitVec 32 := v506
  let v508 : Index := Scalar.indexCast v507
  let c0_363 : Index := 0#32
  ![v508.toNat, 0]

def k0_chk72 (v506 : BitVec 32) : Prop :=
  (4 ∣ (k0_mult72 v506).toNat) ∧
  (∀ a, (k0_off72 v506) a + S4x128.size a ≤ S65536x128.size a)
theorem k0_mult72_dvd : ∀ (v506 : BitVec 32) (k0_hw72 : k0_chk72 v506), 4 ∣ (k0_mult72 v506).toNat := fun v506 k0_hw72 => k0_hw72.1
theorem k0_off72_inb : ∀ (v506 : BitVec 32) (k0_hw72 : k0_chk72 v506), ∀ a, (k0_off72 v506) a + S4x128.size a ≤ S65536x128.size a := fun v506 k0_hw72 => k0_hw72.2

def k0_mult73 (v513 : BitVec 32) : BitVec 32 :=
  v513

def k0_off73 (v513 : BitVec 32) : Fin 2 → Nat :=
  let v514 : BitVec 32 := v513
  let v515 : Index := Scalar.indexCast v514
  let c0_368 : Index := 0#32
  ![v515.toNat, 0]

def k0_chk73 (v513 : BitVec 32) : Prop :=
  (4 ∣ (k0_mult73 v513).toNat) ∧
  (∀ a, (k0_off73 v513) a + S4x128.size a ≤ S65536x128.size a)
theorem k0_mult73_dvd : ∀ (v513 : BitVec 32) (k0_hw73 : k0_chk73 v513), 4 ∣ (k0_mult73 v513).toNat := fun v513 k0_hw73 => k0_hw73.1
theorem k0_off73_inb : ∀ (v513 : BitVec 32) (k0_hw73 : k0_chk73 v513), ∀ a, (k0_off73 v513) a + S4x128.size a ≤ S65536x128.size a := fun v513 k0_hw73 => k0_hw73.2

def k0_mult74 (v520 : BitVec 32) : BitVec 32 :=
  v520

def k0_off74 (v520 : BitVec 32) : Fin 2 → Nat :=
  let v521 : BitVec 32 := v520
  let v522 : Index := Scalar.indexCast v521
  let c0_373 : Index := 0#32
  ![v522.toNat, 0]

def k0_chk74 (v520 : BitVec 32) : Prop :=
  (4 ∣ (k0_mult74 v520).toNat) ∧
  (∀ a, (k0_off74 v520) a + S4x128.size a ≤ S65536x128.size a)
theorem k0_mult74_dvd : ∀ (v520 : BitVec 32) (k0_hw74 : k0_chk74 v520), 4 ∣ (k0_mult74 v520).toNat := fun v520 k0_hw74 => k0_hw74.1
theorem k0_off74_inb : ∀ (v520 : BitVec 32) (k0_hw74 : k0_chk74 v520), ∀ a, (k0_off74 v520) a + S4x128.size a ≤ S65536x128.size a := fun v520 k0_hw74 => k0_hw74.2

def k0_mult75 (v527 : BitVec 32) : BitVec 32 :=
  v527

def k0_off75 (v527 : BitVec 32) : Fin 2 → Nat :=
  let v528 : BitVec 32 := v527
  let v529 : Index := Scalar.indexCast v528
  let c0_378 : Index := 0#32
  ![v529.toNat, 0]

def k0_chk75 (v527 : BitVec 32) : Prop :=
  (4 ∣ (k0_mult75 v527).toNat) ∧
  (∀ a, (k0_off75 v527) a + S4x128.size a ≤ S65536x128.size a)
theorem k0_mult75_dvd : ∀ (v527 : BitVec 32) (k0_hw75 : k0_chk75 v527), 4 ∣ (k0_mult75 v527).toNat := fun v527 k0_hw75 => k0_hw75.1
theorem k0_off75_inb : ∀ (v527 : BitVec 32) (k0_hw75 : k0_chk75 v527), ∀ a, (k0_off75 v527) a + S4x128.size a ≤ S65536x128.size a := fun v527 k0_hw75 => k0_hw75.2

def k0_mult76 (v534 : BitVec 32) : BitVec 32 :=
  v534

def k0_off76 (v534 : BitVec 32) : Fin 2 → Nat :=
  let v535 : BitVec 32 := v534
  let v536 : Index := Scalar.indexCast v535
  let c0_383 : Index := 0#32
  ![v536.toNat, 0]

def k0_chk76 (v534 : BitVec 32) : Prop :=
  (4 ∣ (k0_mult76 v534).toNat) ∧
  (∀ a, (k0_off76 v534) a + S4x128.size a ≤ S65536x128.size a)
theorem k0_mult76_dvd : ∀ (v534 : BitVec 32) (k0_hw76 : k0_chk76 v534), 4 ∣ (k0_mult76 v534).toNat := fun v534 k0_hw76 => k0_hw76.1
theorem k0_off76_inb : ∀ (v534 : BitVec 32) (k0_hw76 : k0_chk76 v534), ∀ a, (k0_off76 v534) a + S4x128.size a ≤ S65536x128.size a := fun v534 k0_hw76 => k0_hw76.2

def k0_mult77 (v541 : BitVec 32) : BitVec 32 :=
  v541

def k0_off77 (v541 : BitVec 32) : Fin 2 → Nat :=
  let v542 : BitVec 32 := v541
  let v543 : Index := Scalar.indexCast v542
  let c0_388 : Index := 0#32
  ![v543.toNat, 0]

def k0_chk77 (v541 : BitVec 32) : Prop :=
  (4 ∣ (k0_mult77 v541).toNat) ∧
  (∀ a, (k0_off77 v541) a + S4x128.size a ≤ S65536x128.size a)
theorem k0_mult77_dvd : ∀ (v541 : BitVec 32) (k0_hw77 : k0_chk77 v541), 4 ∣ (k0_mult77 v541).toNat := fun v541 k0_hw77 => k0_hw77.1
theorem k0_off77_inb : ∀ (v541 : BitVec 32) (k0_hw77 : k0_chk77 v541), ∀ a, (k0_off77 v541) a + S4x128.size a ≤ S65536x128.size a := fun v541 k0_hw77 => k0_hw77.2

def k0_mult78 (v548 : BitVec 32) : BitVec 32 :=
  v548

def k0_off78 (v548 : BitVec 32) : Fin 2 → Nat :=
  let v549 : BitVec 32 := v548
  let v550 : Index := Scalar.indexCast v549
  let c0_393 : Index := 0#32
  ![v550.toNat, 0]

def k0_chk78 (v548 : BitVec 32) : Prop :=
  (4 ∣ (k0_mult78 v548).toNat) ∧
  (∀ a, (k0_off78 v548) a + S4x128.size a ≤ S65536x128.size a)
theorem k0_mult78_dvd : ∀ (v548 : BitVec 32) (k0_hw78 : k0_chk78 v548), 4 ∣ (k0_mult78 v548).toNat := fun v548 k0_hw78 => k0_hw78.1
theorem k0_off78_inb : ∀ (v548 : BitVec 32) (k0_hw78 : k0_chk78 v548), ∀ a, (k0_off78 v548) a + S4x128.size a ≤ S65536x128.size a := fun v548 k0_hw78 => k0_hw78.2

def k0_mult79 (v555 : BitVec 32) : BitVec 32 :=
  v555

def k0_off79 (v555 : BitVec 32) : Fin 2 → Nat :=
  let v556 : BitVec 32 := v555
  let v557 : Index := Scalar.indexCast v556
  let c0_398 : Index := 0#32
  ![v557.toNat, 0]

def k0_chk79 (v555 : BitVec 32) : Prop :=
  (4 ∣ (k0_mult79 v555).toNat) ∧
  (∀ a, (k0_off79 v555) a + S4x128.size a ≤ S65536x128.size a)
theorem k0_mult79_dvd : ∀ (v555 : BitVec 32) (k0_hw79 : k0_chk79 v555), 4 ∣ (k0_mult79 v555).toNat := fun v555 k0_hw79 => k0_hw79.1
theorem k0_off79_inb : ∀ (v555 : BitVec 32) (k0_hw79 : k0_chk79 v555), ∀ a, (k0_off79 v555) a + S4x128.size a ≤ S65536x128.size a := fun v555 k0_hw79 => k0_hw79.2

def k0_mult80 (v562 : BitVec 32) : BitVec 32 :=
  v562

def k0_off80 (v562 : BitVec 32) : Fin 2 → Nat :=
  let v563 : BitVec 32 := v562
  let v564 : Index := Scalar.indexCast v563
  let c0_403 : Index := 0#32
  ![v564.toNat, 0]

def k0_chk80 (v562 : BitVec 32) : Prop :=
  (4 ∣ (k0_mult80 v562).toNat) ∧
  (∀ a, (k0_off80 v562) a + S4x128.size a ≤ S65536x128.size a)
theorem k0_mult80_dvd : ∀ (v562 : BitVec 32) (k0_hw80 : k0_chk80 v562), 4 ∣ (k0_mult80 v562).toNat := fun v562 k0_hw80 => k0_hw80.1
theorem k0_off80_inb : ∀ (v562 : BitVec 32) (k0_hw80 : k0_chk80 v562), ∀ a, (k0_off80 v562) a + S4x128.size a ≤ S65536x128.size a := fun v562 k0_hw80 => k0_hw80.2

def k0_mult81 (v569 : BitVec 32) : BitVec 32 :=
  v569

def k0_off81 (v569 : BitVec 32) : Fin 2 → Nat :=
  let v570 : BitVec 32 := v569
  let v571 : Index := Scalar.indexCast v570
  let c0_408 : Index := 0#32
  ![v571.toNat, 0]

def k0_chk81 (v569 : BitVec 32) : Prop :=
  (4 ∣ (k0_mult81 v569).toNat) ∧
  (∀ a, (k0_off81 v569) a + S4x128.size a ≤ S65536x128.size a)
theorem k0_mult81_dvd : ∀ (v569 : BitVec 32) (k0_hw81 : k0_chk81 v569), 4 ∣ (k0_mult81 v569).toNat := fun v569 k0_hw81 => k0_hw81.1
theorem k0_off81_inb : ∀ (v569 : BitVec 32) (k0_hw81 : k0_chk81 v569), ∀ a, (k0_off81 v569) a + S4x128.size a ≤ S65536x128.size a := fun v569 k0_hw81 => k0_hw81.2

def k0_mult82 (v576 : BitVec 32) : BitVec 32 :=
  v576

def k0_off82 (v576 : BitVec 32) : Fin 2 → Nat :=
  let v577 : BitVec 32 := v576
  let v578 : Index := Scalar.indexCast v577
  let c0_413 : Index := 0#32
  ![v578.toNat, 0]

def k0_chk82 (v576 : BitVec 32) : Prop :=
  (4 ∣ (k0_mult82 v576).toNat) ∧
  (∀ a, (k0_off82 v576) a + S4x128.size a ≤ S65536x128.size a)
theorem k0_mult82_dvd : ∀ (v576 : BitVec 32) (k0_hw82 : k0_chk82 v576), 4 ∣ (k0_mult82 v576).toNat := fun v576 k0_hw82 => k0_hw82.1
theorem k0_off82_inb : ∀ (v576 : BitVec 32) (k0_hw82 : k0_chk82 v576), ∀ a, (k0_off82 v576) a + S4x128.size a ≤ S65536x128.size a := fun v576 k0_hw82 => k0_hw82.2

def k0_mult83 (v583 : BitVec 32) : BitVec 32 :=
  v583

def k0_off83 (v583 : BitVec 32) : Fin 2 → Nat :=
  let v584 : BitVec 32 := v583
  let v585 : Index := Scalar.indexCast v584
  let c0_418 : Index := 0#32
  ![v585.toNat, 0]

def k0_chk83 (v583 : BitVec 32) : Prop :=
  (4 ∣ (k0_mult83 v583).toNat) ∧
  (∀ a, (k0_off83 v583) a + S4x128.size a ≤ S65536x128.size a)
theorem k0_mult83_dvd : ∀ (v583 : BitVec 32) (k0_hw83 : k0_chk83 v583), 4 ∣ (k0_mult83 v583).toNat := fun v583 k0_hw83 => k0_hw83.1
theorem k0_off83_inb : ∀ (v583 : BitVec 32) (k0_hw83 : k0_chk83 v583), ∀ a, (k0_off83 v583) a + S4x128.size a ≤ S65536x128.size a := fun v583 k0_hw83 => k0_hw83.2

def k0_mult84 (v590 : BitVec 32) : BitVec 32 :=
  v590

def k0_off84 (v590 : BitVec 32) : Fin 2 → Nat :=
  let v591 : BitVec 32 := v590
  let v592 : Index := Scalar.indexCast v591
  let c0_423 : Index := 0#32
  ![v592.toNat, 0]

def k0_chk84 (v590 : BitVec 32) : Prop :=
  (4 ∣ (k0_mult84 v590).toNat) ∧
  (∀ a, (k0_off84 v590) a + S4x128.size a ≤ S65536x128.size a)
theorem k0_mult84_dvd : ∀ (v590 : BitVec 32) (k0_hw84 : k0_chk84 v590), 4 ∣ (k0_mult84 v590).toNat := fun v590 k0_hw84 => k0_hw84.1
theorem k0_off84_inb : ∀ (v590 : BitVec 32) (k0_hw84 : k0_chk84 v590), ∀ a, (k0_off84 v590) a + S4x128.size a ≤ S65536x128.size a := fun v590 k0_hw84 => k0_hw84.2

def k0_mult85 (v597 : BitVec 32) : BitVec 32 :=
  v597

def k0_off85 (v597 : BitVec 32) : Fin 2 → Nat :=
  let v598 : BitVec 32 := v597
  let v599 : Index := Scalar.indexCast v598
  let c0_428 : Index := 0#32
  ![v599.toNat, 0]

def k0_chk85 (v597 : BitVec 32) : Prop :=
  (4 ∣ (k0_mult85 v597).toNat) ∧
  (∀ a, (k0_off85 v597) a + S4x128.size a ≤ S65536x128.size a)
theorem k0_mult85_dvd : ∀ (v597 : BitVec 32) (k0_hw85 : k0_chk85 v597), 4 ∣ (k0_mult85 v597).toNat := fun v597 k0_hw85 => k0_hw85.1
theorem k0_off85_inb : ∀ (v597 : BitVec 32) (k0_hw85 : k0_chk85 v597), ∀ a, (k0_off85 v597) a + S4x128.size a ≤ S65536x128.size a := fun v597 k0_hw85 => k0_hw85.2

def k0_mult86 (v604 : BitVec 32) : BitVec 32 :=
  v604

def k0_off86 (v604 : BitVec 32) : Fin 2 → Nat :=
  let v605 : BitVec 32 := v604
  let v606 : Index := Scalar.indexCast v605
  let c0_433 : Index := 0#32
  ![v606.toNat, 0]

def k0_chk86 (v604 : BitVec 32) : Prop :=
  (4 ∣ (k0_mult86 v604).toNat) ∧
  (∀ a, (k0_off86 v604) a + S4x128.size a ≤ S65536x128.size a)
theorem k0_mult86_dvd : ∀ (v604 : BitVec 32) (k0_hw86 : k0_chk86 v604), 4 ∣ (k0_mult86 v604).toNat := fun v604 k0_hw86 => k0_hw86.1
theorem k0_off86_inb : ∀ (v604 : BitVec 32) (k0_hw86 : k0_chk86 v604), ∀ a, (k0_off86 v604) a + S4x128.size a ≤ S65536x128.size a := fun v604 k0_hw86 => k0_hw86.2

def k0_mult87 (v611 : BitVec 32) : BitVec 32 :=
  v611

def k0_off87 (v611 : BitVec 32) : Fin 2 → Nat :=
  let v612 : BitVec 32 := v611
  let v613 : Index := Scalar.indexCast v612
  let c0_438 : Index := 0#32
  ![v613.toNat, 0]

def k0_chk87 (v611 : BitVec 32) : Prop :=
  (4 ∣ (k0_mult87 v611).toNat) ∧
  (∀ a, (k0_off87 v611) a + S4x128.size a ≤ S65536x128.size a)
theorem k0_mult87_dvd : ∀ (v611 : BitVec 32) (k0_hw87 : k0_chk87 v611), 4 ∣ (k0_mult87 v611).toNat := fun v611 k0_hw87 => k0_hw87.1
theorem k0_off87_inb : ∀ (v611 : BitVec 32) (k0_hw87 : k0_chk87 v611), ∀ a, (k0_off87 v611) a + S4x128.size a ≤ S65536x128.size a := fun v611 k0_hw87 => k0_hw87.2

def k0_mult88 (v618 : BitVec 32) : BitVec 32 :=
  v618

def k0_off88 (v618 : BitVec 32) : Fin 2 → Nat :=
  let v619 : BitVec 32 := v618
  let v620 : Index := Scalar.indexCast v619
  let c0_443 : Index := 0#32
  ![v620.toNat, 0]

def k0_chk88 (v618 : BitVec 32) : Prop :=
  (4 ∣ (k0_mult88 v618).toNat) ∧
  (∀ a, (k0_off88 v618) a + S4x128.size a ≤ S65536x128.size a)
theorem k0_mult88_dvd : ∀ (v618 : BitVec 32) (k0_hw88 : k0_chk88 v618), 4 ∣ (k0_mult88 v618).toNat := fun v618 k0_hw88 => k0_hw88.1
theorem k0_off88_inb : ∀ (v618 : BitVec 32) (k0_hw88 : k0_chk88 v618), ∀ a, (k0_off88 v618) a + S4x128.size a ≤ S65536x128.size a := fun v618 k0_hw88 => k0_hw88.2

def k0_mult89 (v625 : BitVec 32) : BitVec 32 :=
  v625

def k0_off89 (v625 : BitVec 32) : Fin 2 → Nat :=
  let v626 : BitVec 32 := v625
  let v627 : Index := Scalar.indexCast v626
  let c0_448 : Index := 0#32
  ![v627.toNat, 0]

def k0_chk89 (v625 : BitVec 32) : Prop :=
  (4 ∣ (k0_mult89 v625).toNat) ∧
  (∀ a, (k0_off89 v625) a + S4x128.size a ≤ S65536x128.size a)
theorem k0_mult89_dvd : ∀ (v625 : BitVec 32) (k0_hw89 : k0_chk89 v625), 4 ∣ (k0_mult89 v625).toNat := fun v625 k0_hw89 => k0_hw89.1
theorem k0_off89_inb : ∀ (v625 : BitVec 32) (k0_hw89 : k0_chk89 v625), ∀ a, (k0_off89 v625) a + S4x128.size a ≤ S65536x128.size a := fun v625 k0_hw89 => k0_hw89.2

def k0_mult90 (v632 : BitVec 32) : BitVec 32 :=
  v632

def k0_off90 (v632 : BitVec 32) : Fin 2 → Nat :=
  let v633 : BitVec 32 := v632
  let v634 : Index := Scalar.indexCast v633
  let c0_453 : Index := 0#32
  ![v634.toNat, 0]

def k0_chk90 (v632 : BitVec 32) : Prop :=
  (4 ∣ (k0_mult90 v632).toNat) ∧
  (∀ a, (k0_off90 v632) a + S4x128.size a ≤ S65536x128.size a)
theorem k0_mult90_dvd : ∀ (v632 : BitVec 32) (k0_hw90 : k0_chk90 v632), 4 ∣ (k0_mult90 v632).toNat := fun v632 k0_hw90 => k0_hw90.1
theorem k0_off90_inb : ∀ (v632 : BitVec 32) (k0_hw90 : k0_chk90 v632), ∀ a, (k0_off90 v632) a + S4x128.size a ≤ S65536x128.size a := fun v632 k0_hw90 => k0_hw90.2

def k0_mult91 (v639 : BitVec 32) : BitVec 32 :=
  v639

def k0_off91 (v639 : BitVec 32) : Fin 2 → Nat :=
  let v640 : BitVec 32 := v639
  let v641 : Index := Scalar.indexCast v640
  let c0_458 : Index := 0#32
  ![v641.toNat, 0]

def k0_chk91 (v639 : BitVec 32) : Prop :=
  (4 ∣ (k0_mult91 v639).toNat) ∧
  (∀ a, (k0_off91 v639) a + S4x128.size a ≤ S65536x128.size a)
theorem k0_mult91_dvd : ∀ (v639 : BitVec 32) (k0_hw91 : k0_chk91 v639), 4 ∣ (k0_mult91 v639).toNat := fun v639 k0_hw91 => k0_hw91.1
theorem k0_off91_inb : ∀ (v639 : BitVec 32) (k0_hw91 : k0_chk91 v639), ∀ a, (k0_off91 v639) a + S4x128.size a ≤ S65536x128.size a := fun v639 k0_hw91 => k0_hw91.2

def k0_mult92 (v646 : BitVec 32) : BitVec 32 :=
  v646

def k0_off92 (v646 : BitVec 32) : Fin 2 → Nat :=
  let v647 : BitVec 32 := v646
  let v648 : Index := Scalar.indexCast v647
  let c0_463 : Index := 0#32
  ![v648.toNat, 0]

def k0_chk92 (v646 : BitVec 32) : Prop :=
  (4 ∣ (k0_mult92 v646).toNat) ∧
  (∀ a, (k0_off92 v646) a + S4x128.size a ≤ S65536x128.size a)
theorem k0_mult92_dvd : ∀ (v646 : BitVec 32) (k0_hw92 : k0_chk92 v646), 4 ∣ (k0_mult92 v646).toNat := fun v646 k0_hw92 => k0_hw92.1
theorem k0_off92_inb : ∀ (v646 : BitVec 32) (k0_hw92 : k0_chk92 v646), ∀ a, (k0_off92 v646) a + S4x128.size a ≤ S65536x128.size a := fun v646 k0_hw92 => k0_hw92.2

def k0_mult93 (v653 : BitVec 32) : BitVec 32 :=
  v653

def k0_off93 (v653 : BitVec 32) : Fin 2 → Nat :=
  let v654 : BitVec 32 := v653
  let v655 : Index := Scalar.indexCast v654
  let c0_468 : Index := 0#32
  ![v655.toNat, 0]

def k0_chk93 (v653 : BitVec 32) : Prop :=
  (4 ∣ (k0_mult93 v653).toNat) ∧
  (∀ a, (k0_off93 v653) a + S4x128.size a ≤ S65536x128.size a)
theorem k0_mult93_dvd : ∀ (v653 : BitVec 32) (k0_hw93 : k0_chk93 v653), 4 ∣ (k0_mult93 v653).toNat := fun v653 k0_hw93 => k0_hw93.1
theorem k0_off93_inb : ∀ (v653 : BitVec 32) (k0_hw93 : k0_chk93 v653), ∀ a, (k0_off93 v653) a + S4x128.size a ≤ S65536x128.size a := fun v653 k0_hw93 => k0_hw93.2

def k0_mult94 (v660 : BitVec 32) : BitVec 32 :=
  v660

def k0_off94 (v660 : BitVec 32) : Fin 2 → Nat :=
  let v661 : BitVec 32 := v660
  let v662 : Index := Scalar.indexCast v661
  let c0_473 : Index := 0#32
  ![v662.toNat, 0]

def k0_chk94 (v660 : BitVec 32) : Prop :=
  (4 ∣ (k0_mult94 v660).toNat) ∧
  (∀ a, (k0_off94 v660) a + S4x128.size a ≤ S65536x128.size a)
theorem k0_mult94_dvd : ∀ (v660 : BitVec 32) (k0_hw94 : k0_chk94 v660), 4 ∣ (k0_mult94 v660).toNat := fun v660 k0_hw94 => k0_hw94.1
theorem k0_off94_inb : ∀ (v660 : BitVec 32) (k0_hw94 : k0_chk94 v660), ∀ a, (k0_off94 v660) a + S4x128.size a ≤ S65536x128.size a := fun v660 k0_hw94 => k0_hw94.2

def k0_mult95 (v667 : BitVec 32) : BitVec 32 :=
  v667

def k0_off95 (v667 : BitVec 32) : Fin 2 → Nat :=
  let v668 : BitVec 32 := v667
  let v669 : Index := Scalar.indexCast v668
  let c0_478 : Index := 0#32
  ![v669.toNat, 0]

def k0_chk95 (v667 : BitVec 32) : Prop :=
  (4 ∣ (k0_mult95 v667).toNat) ∧
  (∀ a, (k0_off95 v667) a + S4x128.size a ≤ S65536x128.size a)
theorem k0_mult95_dvd : ∀ (v667 : BitVec 32) (k0_hw95 : k0_chk95 v667), 4 ∣ (k0_mult95 v667).toNat := fun v667 k0_hw95 => k0_hw95.1
theorem k0_off95_inb : ∀ (v667 : BitVec 32) (k0_hw95 : k0_chk95 v667), ∀ a, (k0_off95 v667) a + S4x128.size a ≤ S65536x128.size a := fun v667 k0_hw95 => k0_hw95.2

def k0_mult96 (v674 : BitVec 32) : BitVec 32 :=
  v674

def k0_off96 (v674 : BitVec 32) : Fin 2 → Nat :=
  let v675 : BitVec 32 := v674
  let v676 : Index := Scalar.indexCast v675
  let c0_483 : Index := 0#32
  ![v676.toNat, 0]

def k0_chk96 (v674 : BitVec 32) : Prop :=
  (4 ∣ (k0_mult96 v674).toNat) ∧
  (∀ a, (k0_off96 v674) a + S4x128.size a ≤ S65536x128.size a)
theorem k0_mult96_dvd : ∀ (v674 : BitVec 32) (k0_hw96 : k0_chk96 v674), 4 ∣ (k0_mult96 v674).toNat := fun v674 k0_hw96 => k0_hw96.1
theorem k0_off96_inb : ∀ (v674 : BitVec 32) (k0_hw96 : k0_chk96 v674), ∀ a, (k0_off96 v674) a + S4x128.size a ≤ S65536x128.size a := fun v674 k0_hw96 => k0_hw96.2

def k0_mult97 (v681 : BitVec 32) : BitVec 32 :=
  v681

def k0_off97 (v681 : BitVec 32) : Fin 2 → Nat :=
  let v682 : BitVec 32 := v681
  let v683 : Index := Scalar.indexCast v682
  let c0_488 : Index := 0#32
  ![v683.toNat, 0]

def k0_chk97 (v681 : BitVec 32) : Prop :=
  (4 ∣ (k0_mult97 v681).toNat) ∧
  (∀ a, (k0_off97 v681) a + S4x128.size a ≤ S65536x128.size a)
theorem k0_mult97_dvd : ∀ (v681 : BitVec 32) (k0_hw97 : k0_chk97 v681), 4 ∣ (k0_mult97 v681).toNat := fun v681 k0_hw97 => k0_hw97.1
theorem k0_off97_inb : ∀ (v681 : BitVec 32) (k0_hw97 : k0_chk97 v681), ∀ a, (k0_off97 v681) a + S4x128.size a ≤ S65536x128.size a := fun v681 k0_hw97 => k0_hw97.2

def k0_mult98 (v688 : BitVec 32) : BitVec 32 :=
  v688

def k0_off98 (v688 : BitVec 32) : Fin 2 → Nat :=
  let v689 : BitVec 32 := v688
  let v690 : Index := Scalar.indexCast v689
  let c0_493 : Index := 0#32
  ![v690.toNat, 0]

def k0_chk98 (v688 : BitVec 32) : Prop :=
  (4 ∣ (k0_mult98 v688).toNat) ∧
  (∀ a, (k0_off98 v688) a + S4x128.size a ≤ S65536x128.size a)
theorem k0_mult98_dvd : ∀ (v688 : BitVec 32) (k0_hw98 : k0_chk98 v688), 4 ∣ (k0_mult98 v688).toNat := fun v688 k0_hw98 => k0_hw98.1
theorem k0_off98_inb : ∀ (v688 : BitVec 32) (k0_hw98 : k0_chk98 v688), ∀ a, (k0_off98 v688) a + S4x128.size a ≤ S65536x128.size a := fun v688 k0_hw98 => k0_hw98.2

def k0_mult99 (v695 : BitVec 32) : BitVec 32 :=
  v695

def k0_off99 (v695 : BitVec 32) : Fin 2 → Nat :=
  let v696 : BitVec 32 := v695
  let v697 : Index := Scalar.indexCast v696
  let c0_498 : Index := 0#32
  ![v697.toNat, 0]

def k0_chk99 (v695 : BitVec 32) : Prop :=
  (4 ∣ (k0_mult99 v695).toNat) ∧
  (∀ a, (k0_off99 v695) a + S4x128.size a ≤ S65536x128.size a)
theorem k0_mult99_dvd : ∀ (v695 : BitVec 32) (k0_hw99 : k0_chk99 v695), 4 ∣ (k0_mult99 v695).toNat := fun v695 k0_hw99 => k0_hw99.1
theorem k0_off99_inb : ∀ (v695 : BitVec 32) (k0_hw99 : k0_chk99 v695), ∀ a, (k0_off99 v695) a + S4x128.size a ≤ S65536x128.size a := fun v695 k0_hw99 => k0_hw99.2

def k0_mult100 (v702 : BitVec 32) : BitVec 32 :=
  v702

def k0_off100 (v702 : BitVec 32) : Fin 2 → Nat :=
  let v703 : BitVec 32 := v702
  let v704 : Index := Scalar.indexCast v703
  let c0_503 : Index := 0#32
  ![v704.toNat, 0]

def k0_chk100 (v702 : BitVec 32) : Prop :=
  (4 ∣ (k0_mult100 v702).toNat) ∧
  (∀ a, (k0_off100 v702) a + S4x128.size a ≤ S65536x128.size a)
theorem k0_mult100_dvd : ∀ (v702 : BitVec 32) (k0_hw100 : k0_chk100 v702), 4 ∣ (k0_mult100 v702).toNat := fun v702 k0_hw100 => k0_hw100.1
theorem k0_off100_inb : ∀ (v702 : BitVec 32) (k0_hw100 : k0_chk100 v702), ∀ a, (k0_off100 v702) a + S4x128.size a ≤ S65536x128.size a := fun v702 k0_hw100 => k0_hw100.2

def k0_mult101 (v709 : BitVec 32) : BitVec 32 :=
  v709

def k0_off101 (v709 : BitVec 32) : Fin 2 → Nat :=
  let v710 : BitVec 32 := v709
  let v711 : Index := Scalar.indexCast v710
  let c0_508 : Index := 0#32
  ![v711.toNat, 0]

def k0_chk101 (v709 : BitVec 32) : Prop :=
  (4 ∣ (k0_mult101 v709).toNat) ∧
  (∀ a, (k0_off101 v709) a + S4x128.size a ≤ S65536x128.size a)
theorem k0_mult101_dvd : ∀ (v709 : BitVec 32) (k0_hw101 : k0_chk101 v709), 4 ∣ (k0_mult101 v709).toNat := fun v709 k0_hw101 => k0_hw101.1
theorem k0_off101_inb : ∀ (v709 : BitVec 32) (k0_hw101 : k0_chk101 v709), ∀ a, (k0_off101 v709) a + S4x128.size a ≤ S65536x128.size a := fun v709 k0_hw101 => k0_hw101.2

def k0_mult102 (v716 : BitVec 32) : BitVec 32 :=
  v716

def k0_off102 (v716 : BitVec 32) : Fin 2 → Nat :=
  let v717 : BitVec 32 := v716
  let v718 : Index := Scalar.indexCast v717
  let c0_513 : Index := 0#32
  ![v718.toNat, 0]

def k0_chk102 (v716 : BitVec 32) : Prop :=
  (4 ∣ (k0_mult102 v716).toNat) ∧
  (∀ a, (k0_off102 v716) a + S4x128.size a ≤ S65536x128.size a)
theorem k0_mult102_dvd : ∀ (v716 : BitVec 32) (k0_hw102 : k0_chk102 v716), 4 ∣ (k0_mult102 v716).toNat := fun v716 k0_hw102 => k0_hw102.1
theorem k0_off102_inb : ∀ (v716 : BitVec 32) (k0_hw102 : k0_chk102 v716), ∀ a, (k0_off102 v716) a + S4x128.size a ≤ S65536x128.size a := fun v716 k0_hw102 => k0_hw102.2

def k0_mult103 (v723 : BitVec 32) : BitVec 32 :=
  v723

def k0_off103 (v723 : BitVec 32) : Fin 2 → Nat :=
  let v724 : BitVec 32 := v723
  let v725 : Index := Scalar.indexCast v724
  let c0_518 : Index := 0#32
  ![v725.toNat, 0]

def k0_chk103 (v723 : BitVec 32) : Prop :=
  (4 ∣ (k0_mult103 v723).toNat) ∧
  (∀ a, (k0_off103 v723) a + S4x128.size a ≤ S65536x128.size a)
theorem k0_mult103_dvd : ∀ (v723 : BitVec 32) (k0_hw103 : k0_chk103 v723), 4 ∣ (k0_mult103 v723).toNat := fun v723 k0_hw103 => k0_hw103.1
theorem k0_off103_inb : ∀ (v723 : BitVec 32) (k0_hw103 : k0_chk103 v723), ∀ a, (k0_off103 v723) a + S4x128.size a ≤ S65536x128.size a := fun v723 k0_hw103 => k0_hw103.2

def k0_mult104 (v730 : BitVec 32) : BitVec 32 :=
  v730

def k0_off104 (v730 : BitVec 32) : Fin 2 → Nat :=
  let v731 : BitVec 32 := v730
  let v732 : Index := Scalar.indexCast v731
  let c0_523 : Index := 0#32
  ![v732.toNat, 0]

def k0_chk104 (v730 : BitVec 32) : Prop :=
  (4 ∣ (k0_mult104 v730).toNat) ∧
  (∀ a, (k0_off104 v730) a + S4x128.size a ≤ S65536x128.size a)
theorem k0_mult104_dvd : ∀ (v730 : BitVec 32) (k0_hw104 : k0_chk104 v730), 4 ∣ (k0_mult104 v730).toNat := fun v730 k0_hw104 => k0_hw104.1
theorem k0_off104_inb : ∀ (v730 : BitVec 32) (k0_hw104 : k0_chk104 v730), ∀ a, (k0_off104 v730) a + S4x128.size a ≤ S65536x128.size a := fun v730 k0_hw104 => k0_hw104.2

def k0_mult105 (v737 : BitVec 32) : BitVec 32 :=
  v737

def k0_off105 (v737 : BitVec 32) : Fin 2 → Nat :=
  let v738 : BitVec 32 := v737
  let v739 : Index := Scalar.indexCast v738
  let c0_528 : Index := 0#32
  ![v739.toNat, 0]

def k0_chk105 (v737 : BitVec 32) : Prop :=
  (4 ∣ (k0_mult105 v737).toNat) ∧
  (∀ a, (k0_off105 v737) a + S4x128.size a ≤ S65536x128.size a)
theorem k0_mult105_dvd : ∀ (v737 : BitVec 32) (k0_hw105 : k0_chk105 v737), 4 ∣ (k0_mult105 v737).toNat := fun v737 k0_hw105 => k0_hw105.1
theorem k0_off105_inb : ∀ (v737 : BitVec 32) (k0_hw105 : k0_chk105 v737), ∀ a, (k0_off105 v737) a + S4x128.size a ≤ S65536x128.size a := fun v737 k0_hw105 => k0_hw105.2

def k0_mult106 (v744 : BitVec 32) : BitVec 32 :=
  v744

def k0_off106 (v744 : BitVec 32) : Fin 2 → Nat :=
  let v745 : BitVec 32 := v744
  let v746 : Index := Scalar.indexCast v745
  let c0_533 : Index := 0#32
  ![v746.toNat, 0]

def k0_chk106 (v744 : BitVec 32) : Prop :=
  (4 ∣ (k0_mult106 v744).toNat) ∧
  (∀ a, (k0_off106 v744) a + S4x128.size a ≤ S65536x128.size a)
theorem k0_mult106_dvd : ∀ (v744 : BitVec 32) (k0_hw106 : k0_chk106 v744), 4 ∣ (k0_mult106 v744).toNat := fun v744 k0_hw106 => k0_hw106.1
theorem k0_off106_inb : ∀ (v744 : BitVec 32) (k0_hw106 : k0_chk106 v744), ∀ a, (k0_off106 v744) a + S4x128.size a ≤ S65536x128.size a := fun v744 k0_hw106 => k0_hw106.2

def k0_mult107 (v751 : BitVec 32) : BitVec 32 :=
  v751

def k0_off107 (v751 : BitVec 32) : Fin 2 → Nat :=
  let v752 : BitVec 32 := v751
  let v753 : Index := Scalar.indexCast v752
  let c0_538 : Index := 0#32
  ![v753.toNat, 0]

def k0_chk107 (v751 : BitVec 32) : Prop :=
  (4 ∣ (k0_mult107 v751).toNat) ∧
  (∀ a, (k0_off107 v751) a + S4x128.size a ≤ S65536x128.size a)
theorem k0_mult107_dvd : ∀ (v751 : BitVec 32) (k0_hw107 : k0_chk107 v751), 4 ∣ (k0_mult107 v751).toNat := fun v751 k0_hw107 => k0_hw107.1
theorem k0_off107_inb : ∀ (v751 : BitVec 32) (k0_hw107 : k0_chk107 v751), ∀ a, (k0_off107 v751) a + S4x128.size a ≤ S65536x128.size a := fun v751 k0_hw107 => k0_hw107.2

def k0_mult108 (v758 : BitVec 32) : BitVec 32 :=
  v758

def k0_off108 (v758 : BitVec 32) : Fin 2 → Nat :=
  let v759 : BitVec 32 := v758
  let v760 : Index := Scalar.indexCast v759
  let c0_543 : Index := 0#32
  ![v760.toNat, 0]

def k0_chk108 (v758 : BitVec 32) : Prop :=
  (4 ∣ (k0_mult108 v758).toNat) ∧
  (∀ a, (k0_off108 v758) a + S4x128.size a ≤ S65536x128.size a)
theorem k0_mult108_dvd : ∀ (v758 : BitVec 32) (k0_hw108 : k0_chk108 v758), 4 ∣ (k0_mult108 v758).toNat := fun v758 k0_hw108 => k0_hw108.1
theorem k0_off108_inb : ∀ (v758 : BitVec 32) (k0_hw108 : k0_chk108 v758), ∀ a, (k0_off108 v758) a + S4x128.size a ≤ S65536x128.size a := fun v758 k0_hw108 => k0_hw108.2

def k0_mult109 (v765 : BitVec 32) : BitVec 32 :=
  v765

def k0_off109 (v765 : BitVec 32) : Fin 2 → Nat :=
  let v766 : BitVec 32 := v765
  let v767 : Index := Scalar.indexCast v766
  let c0_548 : Index := 0#32
  ![v767.toNat, 0]

def k0_chk109 (v765 : BitVec 32) : Prop :=
  (4 ∣ (k0_mult109 v765).toNat) ∧
  (∀ a, (k0_off109 v765) a + S4x128.size a ≤ S65536x128.size a)
theorem k0_mult109_dvd : ∀ (v765 : BitVec 32) (k0_hw109 : k0_chk109 v765), 4 ∣ (k0_mult109 v765).toNat := fun v765 k0_hw109 => k0_hw109.1
theorem k0_off109_inb : ∀ (v765 : BitVec 32) (k0_hw109 : k0_chk109 v765), ∀ a, (k0_off109 v765) a + S4x128.size a ≤ S65536x128.size a := fun v765 k0_hw109 => k0_hw109.2

def k0_mult110 (v772 : BitVec 32) : BitVec 32 :=
  v772

def k0_off110 (v772 : BitVec 32) : Fin 2 → Nat :=
  let v773 : BitVec 32 := v772
  let v774 : Index := Scalar.indexCast v773
  let c0_553 : Index := 0#32
  ![v774.toNat, 0]

def k0_chk110 (v772 : BitVec 32) : Prop :=
  (4 ∣ (k0_mult110 v772).toNat) ∧
  (∀ a, (k0_off110 v772) a + S4x128.size a ≤ S65536x128.size a)
theorem k0_mult110_dvd : ∀ (v772 : BitVec 32) (k0_hw110 : k0_chk110 v772), 4 ∣ (k0_mult110 v772).toNat := fun v772 k0_hw110 => k0_hw110.1
theorem k0_off110_inb : ∀ (v772 : BitVec 32) (k0_hw110 : k0_chk110 v772), ∀ a, (k0_off110 v772) a + S4x128.size a ≤ S65536x128.size a := fun v772 k0_hw110 => k0_hw110.2

def k0_mult111 (v779 : BitVec 32) : BitVec 32 :=
  v779

def k0_off111 (v779 : BitVec 32) : Fin 2 → Nat :=
  let v780 : BitVec 32 := v779
  let v781 : Index := Scalar.indexCast v780
  let c0_558 : Index := 0#32
  ![v781.toNat, 0]

def k0_chk111 (v779 : BitVec 32) : Prop :=
  (4 ∣ (k0_mult111 v779).toNat) ∧
  (∀ a, (k0_off111 v779) a + S4x128.size a ≤ S65536x128.size a)
theorem k0_mult111_dvd : ∀ (v779 : BitVec 32) (k0_hw111 : k0_chk111 v779), 4 ∣ (k0_mult111 v779).toNat := fun v779 k0_hw111 => k0_hw111.1
theorem k0_off111_inb : ∀ (v779 : BitVec 32) (k0_hw111 : k0_chk111 v779), ∀ a, (k0_off111 v779) a + S4x128.size a ≤ S65536x128.size a := fun v779 k0_hw111 => k0_hw111.2

def k0_mult112 (v786 : BitVec 32) : BitVec 32 :=
  v786

def k0_off112 (v786 : BitVec 32) : Fin 2 → Nat :=
  let v787 : BitVec 32 := v786
  let v788 : Index := Scalar.indexCast v787
  let c0_563 : Index := 0#32
  ![v788.toNat, 0]

def k0_chk112 (v786 : BitVec 32) : Prop :=
  (4 ∣ (k0_mult112 v786).toNat) ∧
  (∀ a, (k0_off112 v786) a + S4x128.size a ≤ S65536x128.size a)
theorem k0_mult112_dvd : ∀ (v786 : BitVec 32) (k0_hw112 : k0_chk112 v786), 4 ∣ (k0_mult112 v786).toNat := fun v786 k0_hw112 => k0_hw112.1
theorem k0_off112_inb : ∀ (v786 : BitVec 32) (k0_hw112 : k0_chk112 v786), ∀ a, (k0_off112 v786) a + S4x128.size a ≤ S65536x128.size a := fun v786 k0_hw112 => k0_hw112.2

def k0_mult113 (v793 : BitVec 32) : BitVec 32 :=
  v793

def k0_off113 (v793 : BitVec 32) : Fin 2 → Nat :=
  let v794 : BitVec 32 := v793
  let v795 : Index := Scalar.indexCast v794
  let c0_568 : Index := 0#32
  ![v795.toNat, 0]

def k0_chk113 (v793 : BitVec 32) : Prop :=
  (4 ∣ (k0_mult113 v793).toNat) ∧
  (∀ a, (k0_off113 v793) a + S4x128.size a ≤ S65536x128.size a)
theorem k0_mult113_dvd : ∀ (v793 : BitVec 32) (k0_hw113 : k0_chk113 v793), 4 ∣ (k0_mult113 v793).toNat := fun v793 k0_hw113 => k0_hw113.1
theorem k0_off113_inb : ∀ (v793 : BitVec 32) (k0_hw113 : k0_chk113 v793), ∀ a, (k0_off113 v793) a + S4x128.size a ≤ S65536x128.size a := fun v793 k0_hw113 => k0_hw113.2

def k0_mult114 (v800 : BitVec 32) : BitVec 32 :=
  v800

def k0_off114 (v800 : BitVec 32) : Fin 2 → Nat :=
  let v801 : BitVec 32 := v800
  let v802 : Index := Scalar.indexCast v801
  let c0_573 : Index := 0#32
  ![v802.toNat, 0]

def k0_chk114 (v800 : BitVec 32) : Prop :=
  (4 ∣ (k0_mult114 v800).toNat) ∧
  (∀ a, (k0_off114 v800) a + S4x128.size a ≤ S65536x128.size a)
theorem k0_mult114_dvd : ∀ (v800 : BitVec 32) (k0_hw114 : k0_chk114 v800), 4 ∣ (k0_mult114 v800).toNat := fun v800 k0_hw114 => k0_hw114.1
theorem k0_off114_inb : ∀ (v800 : BitVec 32) (k0_hw114 : k0_chk114 v800), ∀ a, (k0_off114 v800) a + S4x128.size a ≤ S65536x128.size a := fun v800 k0_hw114 => k0_hw114.2

def k0_mult115 (v807 : BitVec 32) : BitVec 32 :=
  v807

def k0_off115 (v807 : BitVec 32) : Fin 2 → Nat :=
  let v808 : BitVec 32 := v807
  let v809 : Index := Scalar.indexCast v808
  let c0_578 : Index := 0#32
  ![v809.toNat, 0]

def k0_chk115 (v807 : BitVec 32) : Prop :=
  (4 ∣ (k0_mult115 v807).toNat) ∧
  (∀ a, (k0_off115 v807) a + S4x128.size a ≤ S65536x128.size a)
theorem k0_mult115_dvd : ∀ (v807 : BitVec 32) (k0_hw115 : k0_chk115 v807), 4 ∣ (k0_mult115 v807).toNat := fun v807 k0_hw115 => k0_hw115.1
theorem k0_off115_inb : ∀ (v807 : BitVec 32) (k0_hw115 : k0_chk115 v807), ∀ a, (k0_off115 v807) a + S4x128.size a ≤ S65536x128.size a := fun v807 k0_hw115 => k0_hw115.2

def k0_mult116 (v814 : BitVec 32) : BitVec 32 :=
  v814

def k0_off116 (v814 : BitVec 32) : Fin 2 → Nat :=
  let v815 : BitVec 32 := v814
  let v816 : Index := Scalar.indexCast v815
  let c0_583 : Index := 0#32
  ![v816.toNat, 0]

def k0_chk116 (v814 : BitVec 32) : Prop :=
  (4 ∣ (k0_mult116 v814).toNat) ∧
  (∀ a, (k0_off116 v814) a + S4x128.size a ≤ S65536x128.size a)
theorem k0_mult116_dvd : ∀ (v814 : BitVec 32) (k0_hw116 : k0_chk116 v814), 4 ∣ (k0_mult116 v814).toNat := fun v814 k0_hw116 => k0_hw116.1
theorem k0_off116_inb : ∀ (v814 : BitVec 32) (k0_hw116 : k0_chk116 v814), ∀ a, (k0_off116 v814) a + S4x128.size a ≤ S65536x128.size a := fun v814 k0_hw116 => k0_hw116.2

def k0_mult117 (v821 : BitVec 32) : BitVec 32 :=
  v821

def k0_off117 (v821 : BitVec 32) : Fin 2 → Nat :=
  let v822 : BitVec 32 := v821
  let v823 : Index := Scalar.indexCast v822
  let c0_588 : Index := 0#32
  ![v823.toNat, 0]

def k0_chk117 (v821 : BitVec 32) : Prop :=
  (4 ∣ (k0_mult117 v821).toNat) ∧
  (∀ a, (k0_off117 v821) a + S4x128.size a ≤ S65536x128.size a)
theorem k0_mult117_dvd : ∀ (v821 : BitVec 32) (k0_hw117 : k0_chk117 v821), 4 ∣ (k0_mult117 v821).toNat := fun v821 k0_hw117 => k0_hw117.1
theorem k0_off117_inb : ∀ (v821 : BitVec 32) (k0_hw117 : k0_chk117 v821), ∀ a, (k0_off117 v821) a + S4x128.size a ≤ S65536x128.size a := fun v821 k0_hw117 => k0_hw117.2

def k0_mult118 (v828 : BitVec 32) : BitVec 32 :=
  v828

def k0_off118 (v828 : BitVec 32) : Fin 2 → Nat :=
  let v829 : BitVec 32 := v828
  let v830 : Index := Scalar.indexCast v829
  let c0_593 : Index := 0#32
  ![v830.toNat, 0]

def k0_chk118 (v828 : BitVec 32) : Prop :=
  (4 ∣ (k0_mult118 v828).toNat) ∧
  (∀ a, (k0_off118 v828) a + S4x128.size a ≤ S65536x128.size a)
theorem k0_mult118_dvd : ∀ (v828 : BitVec 32) (k0_hw118 : k0_chk118 v828), 4 ∣ (k0_mult118 v828).toNat := fun v828 k0_hw118 => k0_hw118.1
theorem k0_off118_inb : ∀ (v828 : BitVec 32) (k0_hw118 : k0_chk118 v828), ∀ a, (k0_off118 v828) a + S4x128.size a ≤ S65536x128.size a := fun v828 k0_hw118 => k0_hw118.2

def k0_mult119 (v835 : BitVec 32) : BitVec 32 :=
  v835

def k0_off119 (v835 : BitVec 32) : Fin 2 → Nat :=
  let v836 : BitVec 32 := v835
  let v837 : Index := Scalar.indexCast v836
  let c0_598 : Index := 0#32
  ![v837.toNat, 0]

def k0_chk119 (v835 : BitVec 32) : Prop :=
  (4 ∣ (k0_mult119 v835).toNat) ∧
  (∀ a, (k0_off119 v835) a + S4x128.size a ≤ S65536x128.size a)
theorem k0_mult119_dvd : ∀ (v835 : BitVec 32) (k0_hw119 : k0_chk119 v835), 4 ∣ (k0_mult119 v835).toNat := fun v835 k0_hw119 => k0_hw119.1
theorem k0_off119_inb : ∀ (v835 : BitVec 32) (k0_hw119 : k0_chk119 v835), ∀ a, (k0_off119 v835) a + S4x128.size a ≤ S65536x128.size a := fun v835 k0_hw119 => k0_hw119.2

def k0_mult120 (v842 : BitVec 32) : BitVec 32 :=
  v842

def k0_off120 (v842 : BitVec 32) : Fin 2 → Nat :=
  let v843 : BitVec 32 := v842
  let v844 : Index := Scalar.indexCast v843
  let c0_603 : Index := 0#32
  ![v844.toNat, 0]

def k0_chk120 (v842 : BitVec 32) : Prop :=
  (4 ∣ (k0_mult120 v842).toNat) ∧
  (∀ a, (k0_off120 v842) a + S4x128.size a ≤ S65536x128.size a)
theorem k0_mult120_dvd : ∀ (v842 : BitVec 32) (k0_hw120 : k0_chk120 v842), 4 ∣ (k0_mult120 v842).toNat := fun v842 k0_hw120 => k0_hw120.1
theorem k0_off120_inb : ∀ (v842 : BitVec 32) (k0_hw120 : k0_chk120 v842), ∀ a, (k0_off120 v842) a + S4x128.size a ≤ S65536x128.size a := fun v842 k0_hw120 => k0_hw120.2

def k0_mult121 (v849 : BitVec 32) : BitVec 32 :=
  v849

def k0_off121 (v849 : BitVec 32) : Fin 2 → Nat :=
  let v850 : BitVec 32 := v849
  let v851 : Index := Scalar.indexCast v850
  let c0_608 : Index := 0#32
  ![v851.toNat, 0]

def k0_chk121 (v849 : BitVec 32) : Prop :=
  (4 ∣ (k0_mult121 v849).toNat) ∧
  (∀ a, (k0_off121 v849) a + S4x128.size a ≤ S65536x128.size a)
theorem k0_mult121_dvd : ∀ (v849 : BitVec 32) (k0_hw121 : k0_chk121 v849), 4 ∣ (k0_mult121 v849).toNat := fun v849 k0_hw121 => k0_hw121.1
theorem k0_off121_inb : ∀ (v849 : BitVec 32) (k0_hw121 : k0_chk121 v849), ∀ a, (k0_off121 v849) a + S4x128.size a ≤ S65536x128.size a := fun v849 k0_hw121 => k0_hw121.2

def k0_mult122 (v856 : BitVec 32) : BitVec 32 :=
  v856

def k0_off122 (v856 : BitVec 32) : Fin 2 → Nat :=
  let v857 : BitVec 32 := v856
  let v858 : Index := Scalar.indexCast v857
  let c0_613 : Index := 0#32
  ![v858.toNat, 0]

def k0_chk122 (v856 : BitVec 32) : Prop :=
  (4 ∣ (k0_mult122 v856).toNat) ∧
  (∀ a, (k0_off122 v856) a + S4x128.size a ≤ S65536x128.size a)
theorem k0_mult122_dvd : ∀ (v856 : BitVec 32) (k0_hw122 : k0_chk122 v856), 4 ∣ (k0_mult122 v856).toNat := fun v856 k0_hw122 => k0_hw122.1
theorem k0_off122_inb : ∀ (v856 : BitVec 32) (k0_hw122 : k0_chk122 v856), ∀ a, (k0_off122 v856) a + S4x128.size a ≤ S65536x128.size a := fun v856 k0_hw122 => k0_hw122.2

def k0_mult123 (v863 : BitVec 32) : BitVec 32 :=
  v863

def k0_off123 (v863 : BitVec 32) : Fin 2 → Nat :=
  let v864 : BitVec 32 := v863
  let v865 : Index := Scalar.indexCast v864
  let c0_618 : Index := 0#32
  ![v865.toNat, 0]

def k0_chk123 (v863 : BitVec 32) : Prop :=
  (4 ∣ (k0_mult123 v863).toNat) ∧
  (∀ a, (k0_off123 v863) a + S4x128.size a ≤ S65536x128.size a)
theorem k0_mult123_dvd : ∀ (v863 : BitVec 32) (k0_hw123 : k0_chk123 v863), 4 ∣ (k0_mult123 v863).toNat := fun v863 k0_hw123 => k0_hw123.1
theorem k0_off123_inb : ∀ (v863 : BitVec 32) (k0_hw123 : k0_chk123 v863), ∀ a, (k0_off123 v863) a + S4x128.size a ≤ S65536x128.size a := fun v863 k0_hw123 => k0_hw123.2

def k0_mult124 (v870 : BitVec 32) : BitVec 32 :=
  v870

def k0_off124 (v870 : BitVec 32) : Fin 2 → Nat :=
  let v871 : BitVec 32 := v870
  let v872 : Index := Scalar.indexCast v871
  let c0_623 : Index := 0#32
  ![v872.toNat, 0]

def k0_chk124 (v870 : BitVec 32) : Prop :=
  (4 ∣ (k0_mult124 v870).toNat) ∧
  (∀ a, (k0_off124 v870) a + S4x128.size a ≤ S65536x128.size a)
theorem k0_mult124_dvd : ∀ (v870 : BitVec 32) (k0_hw124 : k0_chk124 v870), 4 ∣ (k0_mult124 v870).toNat := fun v870 k0_hw124 => k0_hw124.1
theorem k0_off124_inb : ∀ (v870 : BitVec 32) (k0_hw124 : k0_chk124 v870), ∀ a, (k0_off124 v870) a + S4x128.size a ≤ S65536x128.size a := fun v870 k0_hw124 => k0_hw124.2

def k0_mult125 (v877 : BitVec 32) : BitVec 32 :=
  v877

def k0_off125 (v877 : BitVec 32) : Fin 2 → Nat :=
  let v878 : BitVec 32 := v877
  let v879 : Index := Scalar.indexCast v878
  let c0_628 : Index := 0#32
  ![v879.toNat, 0]

def k0_chk125 (v877 : BitVec 32) : Prop :=
  (4 ∣ (k0_mult125 v877).toNat) ∧
  (∀ a, (k0_off125 v877) a + S4x128.size a ≤ S65536x128.size a)
theorem k0_mult125_dvd : ∀ (v877 : BitVec 32) (k0_hw125 : k0_chk125 v877), 4 ∣ (k0_mult125 v877).toNat := fun v877 k0_hw125 => k0_hw125.1
theorem k0_off125_inb : ∀ (v877 : BitVec 32) (k0_hw125 : k0_chk125 v877), ∀ a, (k0_off125 v877) a + S4x128.size a ≤ S65536x128.size a := fun v877 k0_hw125 => k0_hw125.2

def k0_mult126 (v884 : BitVec 32) : BitVec 32 :=
  v884

def k0_off126 (v884 : BitVec 32) : Fin 2 → Nat :=
  let v885 : BitVec 32 := v884
  let v886 : Index := Scalar.indexCast v885
  let c0_633 : Index := 0#32
  ![v886.toNat, 0]

def k0_chk126 (v884 : BitVec 32) : Prop :=
  (4 ∣ (k0_mult126 v884).toNat) ∧
  (∀ a, (k0_off126 v884) a + S4x128.size a ≤ S65536x128.size a)
theorem k0_mult126_dvd : ∀ (v884 : BitVec 32) (k0_hw126 : k0_chk126 v884), 4 ∣ (k0_mult126 v884).toNat := fun v884 k0_hw126 => k0_hw126.1
theorem k0_off126_inb : ∀ (v884 : BitVec 32) (k0_hw126 : k0_chk126 v884), ∀ a, (k0_off126 v884) a + S4x128.size a ≤ S65536x128.size a := fun v884 k0_hw126 => k0_hw126.2

def k0_mult127 (v891 : BitVec 32) : BitVec 32 :=
  v891

def k0_off127 (v891 : BitVec 32) : Fin 2 → Nat :=
  let v892 : BitVec 32 := v891
  let v893 : Index := Scalar.indexCast v892
  let c0_638 : Index := 0#32
  ![v893.toNat, 0]

def k0_chk127 (v891 : BitVec 32) : Prop :=
  (4 ∣ (k0_mult127 v891).toNat) ∧
  (∀ a, (k0_off127 v891) a + S4x128.size a ≤ S65536x128.size a)
theorem k0_mult127_dvd : ∀ (v891 : BitVec 32) (k0_hw127 : k0_chk127 v891), 4 ∣ (k0_mult127 v891).toNat := fun v891 k0_hw127 => k0_hw127.1
theorem k0_off127_inb : ∀ (v891 : BitVec 32) (k0_hw127 : k0_chk127 v891), ∀ a, (k0_off127 v891) a + S4x128.size a ≤ S65536x128.size a := fun v891 k0_hw127 => k0_hw127.2

def k0_mult128 (v898 : BitVec 32) : BitVec 32 :=
  v898

def k0_off128 (v898 : BitVec 32) : Fin 2 → Nat :=
  let v899 : BitVec 32 := v898
  let v900 : Index := Scalar.indexCast v899
  let c0_643 : Index := 0#32
  ![v900.toNat, 0]

def k0_chk128 (v898 : BitVec 32) : Prop :=
  (4 ∣ (k0_mult128 v898).toNat) ∧
  (∀ a, (k0_off128 v898) a + S4x128.size a ≤ S65536x128.size a)
theorem k0_mult128_dvd : ∀ (v898 : BitVec 32) (k0_hw128 : k0_chk128 v898), 4 ∣ (k0_mult128 v898).toNat := fun v898 k0_hw128 => k0_hw128.1
theorem k0_off128_inb : ∀ (v898 : BitVec 32) (k0_hw128 : k0_chk128 v898), ∀ a, (k0_off128 v898) a + S4x128.size a ≤ S65536x128.size a := fun v898 k0_hw128 => k0_hw128.2

@[reducible] def k0_t1_loop : Scf.Loop 32 :=
  let c0_i32 : BitVec 32 := 0#32
  let c64_i32 : BitVec 32 := 64#32
  let v905 : BitVec 32 := Scalar.addi c0_i32 c64_i32
  let c1_i32 : BitVec 32 := 1#32
  ⟨c0_i32, v905, c1_i32⟩
def k0_off129 (k0_t1 : Fin k0_t1_loop.trips) : Fin 3 → Nat :=
  let c0_693 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v977 : Index := Scalar.indexCast v976
  let c0_694 : Index := 0#32
  ![0, v977.toNat, 0]
def k0_mult129 (v978 : BitVec 32) : BitVec 32 :=
  v978

def k0_off130 (v978 : BitVec 32) : Fin 2 → Nat :=
  let v979 : BitVec 32 := v978
  let v980 : Index := Scalar.indexCast v979
  let c0_695 : Index := 0#32
  ![v980.toNat, 0]

def k0_chk129 (v978 : BitVec 32) : Prop :=
  (4 ∣ (k0_mult129 v978).toNat) ∧
  (∀ a, (k0_off130 v978) a + S4x128.size a ≤ S65536x128.size a)
theorem k0_mult129_dvd : ∀ (v978 : BitVec 32) (k0_hw129 : k0_chk129 v978), 4 ∣ (k0_mult129 v978).toNat := fun v978 k0_hw129 => k0_hw129.1
theorem k0_off130_inb : ∀ (v978 : BitVec 32) (k0_hw129 : k0_chk129 v978), ∀ a, (k0_off130 v978) a + S4x128.size a ≤ S65536x128.size a := fun v978 k0_hw129 => k0_hw129.2

def k0_off131 (k0_t1 : Fin k0_t1_loop.trips) : Fin 3 → Nat :=
  let c0_698 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v985 : Index := Scalar.indexCast v976
  let c1_699 : Index := 1#32
  ![0, v985.toNat, 1]
def k0_mult130 (v986 : BitVec 32) : BitVec 32 :=
  v986

def k0_off132 (v986 : BitVec 32) : Fin 2 → Nat :=
  let v987 : BitVec 32 := v986
  let v988 : Index := Scalar.indexCast v987
  let c0_700 : Index := 0#32
  ![v988.toNat, 0]

def k0_chk130 (v986 : BitVec 32) : Prop :=
  (4 ∣ (k0_mult130 v986).toNat) ∧
  (∀ a, (k0_off132 v986) a + S4x128.size a ≤ S65536x128.size a)
theorem k0_mult130_dvd : ∀ (v986 : BitVec 32) (k0_hw130 : k0_chk130 v986), 4 ∣ (k0_mult130 v986).toNat := fun v986 k0_hw130 => k0_hw130.1
theorem k0_off132_inb : ∀ (v986 : BitVec 32) (k0_hw130 : k0_chk130 v986), ∀ a, (k0_off132 v986) a + S4x128.size a ≤ S65536x128.size a := fun v986 k0_hw130 => k0_hw130.2

def k0_off133 (k0_t1 : Fin k0_t1_loop.trips) : Fin 3 → Nat :=
  let c0_703 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v993 : Index := Scalar.indexCast v976
  let c2_704 : Index := 2#32
  ![0, v993.toNat, 2]
def k0_mult131 (v994 : BitVec 32) : BitVec 32 :=
  v994

def k0_off134 (v994 : BitVec 32) : Fin 2 → Nat :=
  let v995 : BitVec 32 := v994
  let v996 : Index := Scalar.indexCast v995
  let c0_705 : Index := 0#32
  ![v996.toNat, 0]

def k0_chk131 (v994 : BitVec 32) : Prop :=
  (4 ∣ (k0_mult131 v994).toNat) ∧
  (∀ a, (k0_off134 v994) a + S4x128.size a ≤ S65536x128.size a)
theorem k0_mult131_dvd : ∀ (v994 : BitVec 32) (k0_hw131 : k0_chk131 v994), 4 ∣ (k0_mult131 v994).toNat := fun v994 k0_hw131 => k0_hw131.1
theorem k0_off134_inb : ∀ (v994 : BitVec 32) (k0_hw131 : k0_chk131 v994), ∀ a, (k0_off134 v994) a + S4x128.size a ≤ S65536x128.size a := fun v994 k0_hw131 => k0_hw131.2

def k0_off135 (k0_t1 : Fin k0_t1_loop.trips) : Fin 3 → Nat :=
  let c0_708 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1001 : Index := Scalar.indexCast v976
  let c3_709 : Index := 3#32
  ![0, v1001.toNat, 3]
def k0_mult132 (v1002 : BitVec 32) : BitVec 32 :=
  v1002

def k0_off136 (v1002 : BitVec 32) : Fin 2 → Nat :=
  let v1003 : BitVec 32 := v1002
  let v1004 : Index := Scalar.indexCast v1003
  let c0_710 : Index := 0#32
  ![v1004.toNat, 0]

def k0_chk132 (v1002 : BitVec 32) : Prop :=
  (4 ∣ (k0_mult132 v1002).toNat) ∧
  (∀ a, (k0_off136 v1002) a + S4x128.size a ≤ S65536x128.size a)
theorem k0_mult132_dvd : ∀ (v1002 : BitVec 32) (k0_hw132 : k0_chk132 v1002), 4 ∣ (k0_mult132 v1002).toNat := fun v1002 k0_hw132 => k0_hw132.1
theorem k0_off136_inb : ∀ (v1002 : BitVec 32) (k0_hw132 : k0_chk132 v1002), ∀ a, (k0_off136 v1002) a + S4x128.size a ≤ S65536x128.size a := fun v1002 k0_hw132 => k0_hw132.2

def k0_off137 (k0_t1 : Fin k0_t1_loop.trips) : Fin 3 → Nat :=
  let c0_713 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1009 : Index := Scalar.indexCast v976
  let c4_714 : Index := 4#32
  ![0, v1009.toNat, 4]
def k0_mult133 (v1010 : BitVec 32) : BitVec 32 :=
  v1010

def k0_off138 (v1010 : BitVec 32) : Fin 2 → Nat :=
  let v1011 : BitVec 32 := v1010
  let v1012 : Index := Scalar.indexCast v1011
  let c0_715 : Index := 0#32
  ![v1012.toNat, 0]

def k0_chk133 (v1010 : BitVec 32) : Prop :=
  (4 ∣ (k0_mult133 v1010).toNat) ∧
  (∀ a, (k0_off138 v1010) a + S4x128.size a ≤ S65536x128.size a)
theorem k0_mult133_dvd : ∀ (v1010 : BitVec 32) (k0_hw133 : k0_chk133 v1010), 4 ∣ (k0_mult133 v1010).toNat := fun v1010 k0_hw133 => k0_hw133.1
theorem k0_off138_inb : ∀ (v1010 : BitVec 32) (k0_hw133 : k0_chk133 v1010), ∀ a, (k0_off138 v1010) a + S4x128.size a ≤ S65536x128.size a := fun v1010 k0_hw133 => k0_hw133.2

def k0_off139 (k0_t1 : Fin k0_t1_loop.trips) : Fin 3 → Nat :=
  let c0_718 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1017 : Index := Scalar.indexCast v976
  let c5_719 : Index := 5#32
  ![0, v1017.toNat, 5]
def k0_mult134 (v1018 : BitVec 32) : BitVec 32 :=
  v1018

def k0_off140 (v1018 : BitVec 32) : Fin 2 → Nat :=
  let v1019 : BitVec 32 := v1018
  let v1020 : Index := Scalar.indexCast v1019
  let c0_720 : Index := 0#32
  ![v1020.toNat, 0]

def k0_chk134 (v1018 : BitVec 32) : Prop :=
  (4 ∣ (k0_mult134 v1018).toNat) ∧
  (∀ a, (k0_off140 v1018) a + S4x128.size a ≤ S65536x128.size a)
theorem k0_mult134_dvd : ∀ (v1018 : BitVec 32) (k0_hw134 : k0_chk134 v1018), 4 ∣ (k0_mult134 v1018).toNat := fun v1018 k0_hw134 => k0_hw134.1
theorem k0_off140_inb : ∀ (v1018 : BitVec 32) (k0_hw134 : k0_chk134 v1018), ∀ a, (k0_off140 v1018) a + S4x128.size a ≤ S65536x128.size a := fun v1018 k0_hw134 => k0_hw134.2

def k0_off141 (k0_t1 : Fin k0_t1_loop.trips) : Fin 3 → Nat :=
  let c0_723 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1025 : Index := Scalar.indexCast v976
  let c6_724 : Index := 6#32
  ![0, v1025.toNat, 6]
def k0_mult135 (v1026 : BitVec 32) : BitVec 32 :=
  v1026

def k0_off142 (v1026 : BitVec 32) : Fin 2 → Nat :=
  let v1027 : BitVec 32 := v1026
  let v1028 : Index := Scalar.indexCast v1027
  let c0_725 : Index := 0#32
  ![v1028.toNat, 0]

def k0_chk135 (v1026 : BitVec 32) : Prop :=
  (4 ∣ (k0_mult135 v1026).toNat) ∧
  (∀ a, (k0_off142 v1026) a + S4x128.size a ≤ S65536x128.size a)
theorem k0_mult135_dvd : ∀ (v1026 : BitVec 32) (k0_hw135 : k0_chk135 v1026), 4 ∣ (k0_mult135 v1026).toNat := fun v1026 k0_hw135 => k0_hw135.1
theorem k0_off142_inb : ∀ (v1026 : BitVec 32) (k0_hw135 : k0_chk135 v1026), ∀ a, (k0_off142 v1026) a + S4x128.size a ≤ S65536x128.size a := fun v1026 k0_hw135 => k0_hw135.2

def k0_off143 (k0_t1 : Fin k0_t1_loop.trips) : Fin 3 → Nat :=
  let c0_728 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1033 : Index := Scalar.indexCast v976
  let c7_729 : Index := 7#32
  ![0, v1033.toNat, 7]
def k0_mult136 (v1034 : BitVec 32) : BitVec 32 :=
  v1034

def k0_off144 (v1034 : BitVec 32) : Fin 2 → Nat :=
  let v1035 : BitVec 32 := v1034
  let v1036 : Index := Scalar.indexCast v1035
  let c0_730 : Index := 0#32
  ![v1036.toNat, 0]

def k0_chk136 (v1034 : BitVec 32) : Prop :=
  (4 ∣ (k0_mult136 v1034).toNat) ∧
  (∀ a, (k0_off144 v1034) a + S4x128.size a ≤ S65536x128.size a)
theorem k0_mult136_dvd : ∀ (v1034 : BitVec 32) (k0_hw136 : k0_chk136 v1034), 4 ∣ (k0_mult136 v1034).toNat := fun v1034 k0_hw136 => k0_hw136.1
theorem k0_off144_inb : ∀ (v1034 : BitVec 32) (k0_hw136 : k0_chk136 v1034), ∀ a, (k0_off144 v1034) a + S4x128.size a ≤ S65536x128.size a := fun v1034 k0_hw136 => k0_hw136.2

def k0_off145 (k0_t1 : Fin k0_t1_loop.trips) : Fin 3 → Nat :=
  let c0_733 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1041 : Index := Scalar.indexCast v976
  let c8_734 : Index := 8#32
  ![0, v1041.toNat, 8]
def k0_mult137 (v1042 : BitVec 32) : BitVec 32 :=
  v1042

def k0_off146 (v1042 : BitVec 32) : Fin 2 → Nat :=
  let v1043 : BitVec 32 := v1042
  let v1044 : Index := Scalar.indexCast v1043
  let c0_735 : Index := 0#32
  ![v1044.toNat, 0]

def k0_chk137 (v1042 : BitVec 32) : Prop :=
  (4 ∣ (k0_mult137 v1042).toNat) ∧
  (∀ a, (k0_off146 v1042) a + S4x128.size a ≤ S65536x128.size a)
theorem k0_mult137_dvd : ∀ (v1042 : BitVec 32) (k0_hw137 : k0_chk137 v1042), 4 ∣ (k0_mult137 v1042).toNat := fun v1042 k0_hw137 => k0_hw137.1
theorem k0_off146_inb : ∀ (v1042 : BitVec 32) (k0_hw137 : k0_chk137 v1042), ∀ a, (k0_off146 v1042) a + S4x128.size a ≤ S65536x128.size a := fun v1042 k0_hw137 => k0_hw137.2

def k0_off147 (k0_t1 : Fin k0_t1_loop.trips) : Fin 3 → Nat :=
  let c0_738 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1049 : Index := Scalar.indexCast v976
  let c9_739 : Index := 9#32
  ![0, v1049.toNat, 9]
def k0_mult138 (v1050 : BitVec 32) : BitVec 32 :=
  v1050

def k0_off148 (v1050 : BitVec 32) : Fin 2 → Nat :=
  let v1051 : BitVec 32 := v1050
  let v1052 : Index := Scalar.indexCast v1051
  let c0_740 : Index := 0#32
  ![v1052.toNat, 0]

def k0_chk138 (v1050 : BitVec 32) : Prop :=
  (4 ∣ (k0_mult138 v1050).toNat) ∧
  (∀ a, (k0_off148 v1050) a + S4x128.size a ≤ S65536x128.size a)
theorem k0_mult138_dvd : ∀ (v1050 : BitVec 32) (k0_hw138 : k0_chk138 v1050), 4 ∣ (k0_mult138 v1050).toNat := fun v1050 k0_hw138 => k0_hw138.1
theorem k0_off148_inb : ∀ (v1050 : BitVec 32) (k0_hw138 : k0_chk138 v1050), ∀ a, (k0_off148 v1050) a + S4x128.size a ≤ S65536x128.size a := fun v1050 k0_hw138 => k0_hw138.2

def k0_off149 (k0_t1 : Fin k0_t1_loop.trips) : Fin 3 → Nat :=
  let c0_743 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1057 : Index := Scalar.indexCast v976
  let c10_744 : Index := 10#32
  ![0, v1057.toNat, 10]
def k0_mult139 (v1058 : BitVec 32) : BitVec 32 :=
  v1058

def k0_off150 (v1058 : BitVec 32) : Fin 2 → Nat :=
  let v1059 : BitVec 32 := v1058
  let v1060 : Index := Scalar.indexCast v1059
  let c0_745 : Index := 0#32
  ![v1060.toNat, 0]

def k0_chk139 (v1058 : BitVec 32) : Prop :=
  (4 ∣ (k0_mult139 v1058).toNat) ∧
  (∀ a, (k0_off150 v1058) a + S4x128.size a ≤ S65536x128.size a)
theorem k0_mult139_dvd : ∀ (v1058 : BitVec 32) (k0_hw139 : k0_chk139 v1058), 4 ∣ (k0_mult139 v1058).toNat := fun v1058 k0_hw139 => k0_hw139.1
theorem k0_off150_inb : ∀ (v1058 : BitVec 32) (k0_hw139 : k0_chk139 v1058), ∀ a, (k0_off150 v1058) a + S4x128.size a ≤ S65536x128.size a := fun v1058 k0_hw139 => k0_hw139.2

def k0_off151 (k0_t1 : Fin k0_t1_loop.trips) : Fin 3 → Nat :=
  let c0_748 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1065 : Index := Scalar.indexCast v976
  let c11_749 : Index := 11#32
  ![0, v1065.toNat, 11]
def k0_mult140 (v1066 : BitVec 32) : BitVec 32 :=
  v1066

def k0_off152 (v1066 : BitVec 32) : Fin 2 → Nat :=
  let v1067 : BitVec 32 := v1066
  let v1068 : Index := Scalar.indexCast v1067
  let c0_750 : Index := 0#32
  ![v1068.toNat, 0]

def k0_chk140 (v1066 : BitVec 32) : Prop :=
  (4 ∣ (k0_mult140 v1066).toNat) ∧
  (∀ a, (k0_off152 v1066) a + S4x128.size a ≤ S65536x128.size a)
theorem k0_mult140_dvd : ∀ (v1066 : BitVec 32) (k0_hw140 : k0_chk140 v1066), 4 ∣ (k0_mult140 v1066).toNat := fun v1066 k0_hw140 => k0_hw140.1
theorem k0_off152_inb : ∀ (v1066 : BitVec 32) (k0_hw140 : k0_chk140 v1066), ∀ a, (k0_off152 v1066) a + S4x128.size a ≤ S65536x128.size a := fun v1066 k0_hw140 => k0_hw140.2

def k0_off153 (k0_t1 : Fin k0_t1_loop.trips) : Fin 3 → Nat :=
  let c0_753 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1073 : Index := Scalar.indexCast v976
  let c12_754 : Index := 12#32
  ![0, v1073.toNat, 12]
def k0_mult141 (v1074 : BitVec 32) : BitVec 32 :=
  v1074

def k0_off154 (v1074 : BitVec 32) : Fin 2 → Nat :=
  let v1075 : BitVec 32 := v1074
  let v1076 : Index := Scalar.indexCast v1075
  let c0_755 : Index := 0#32
  ![v1076.toNat, 0]

def k0_chk141 (v1074 : BitVec 32) : Prop :=
  (4 ∣ (k0_mult141 v1074).toNat) ∧
  (∀ a, (k0_off154 v1074) a + S4x128.size a ≤ S65536x128.size a)
theorem k0_mult141_dvd : ∀ (v1074 : BitVec 32) (k0_hw141 : k0_chk141 v1074), 4 ∣ (k0_mult141 v1074).toNat := fun v1074 k0_hw141 => k0_hw141.1
theorem k0_off154_inb : ∀ (v1074 : BitVec 32) (k0_hw141 : k0_chk141 v1074), ∀ a, (k0_off154 v1074) a + S4x128.size a ≤ S65536x128.size a := fun v1074 k0_hw141 => k0_hw141.2

def k0_off155 (k0_t1 : Fin k0_t1_loop.trips) : Fin 3 → Nat :=
  let c0_758 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1081 : Index := Scalar.indexCast v976
  let c13_759 : Index := 13#32
  ![0, v1081.toNat, 13]
def k0_mult142 (v1082 : BitVec 32) : BitVec 32 :=
  v1082

def k0_off156 (v1082 : BitVec 32) : Fin 2 → Nat :=
  let v1083 : BitVec 32 := v1082
  let v1084 : Index := Scalar.indexCast v1083
  let c0_760 : Index := 0#32
  ![v1084.toNat, 0]

def k0_chk142 (v1082 : BitVec 32) : Prop :=
  (4 ∣ (k0_mult142 v1082).toNat) ∧
  (∀ a, (k0_off156 v1082) a + S4x128.size a ≤ S65536x128.size a)
theorem k0_mult142_dvd : ∀ (v1082 : BitVec 32) (k0_hw142 : k0_chk142 v1082), 4 ∣ (k0_mult142 v1082).toNat := fun v1082 k0_hw142 => k0_hw142.1
theorem k0_off156_inb : ∀ (v1082 : BitVec 32) (k0_hw142 : k0_chk142 v1082), ∀ a, (k0_off156 v1082) a + S4x128.size a ≤ S65536x128.size a := fun v1082 k0_hw142 => k0_hw142.2

def k0_off157 (k0_t1 : Fin k0_t1_loop.trips) : Fin 3 → Nat :=
  let c0_763 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1089 : Index := Scalar.indexCast v976
  let c14_764 : Index := 14#32
  ![0, v1089.toNat, 14]
def k0_mult143 (v1090 : BitVec 32) : BitVec 32 :=
  v1090

def k0_off158 (v1090 : BitVec 32) : Fin 2 → Nat :=
  let v1091 : BitVec 32 := v1090
  let v1092 : Index := Scalar.indexCast v1091
  let c0_765 : Index := 0#32
  ![v1092.toNat, 0]

def k0_chk143 (v1090 : BitVec 32) : Prop :=
  (4 ∣ (k0_mult143 v1090).toNat) ∧
  (∀ a, (k0_off158 v1090) a + S4x128.size a ≤ S65536x128.size a)
theorem k0_mult143_dvd : ∀ (v1090 : BitVec 32) (k0_hw143 : k0_chk143 v1090), 4 ∣ (k0_mult143 v1090).toNat := fun v1090 k0_hw143 => k0_hw143.1
theorem k0_off158_inb : ∀ (v1090 : BitVec 32) (k0_hw143 : k0_chk143 v1090), ∀ a, (k0_off158 v1090) a + S4x128.size a ≤ S65536x128.size a := fun v1090 k0_hw143 => k0_hw143.2

def k0_off159 (k0_t1 : Fin k0_t1_loop.trips) : Fin 3 → Nat :=
  let c0_768 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1097 : Index := Scalar.indexCast v976
  let c15_769 : Index := 15#32
  ![0, v1097.toNat, 15]
def k0_mult144 (v1098 : BitVec 32) : BitVec 32 :=
  v1098

def k0_off160 (v1098 : BitVec 32) : Fin 2 → Nat :=
  let v1099 : BitVec 32 := v1098
  let v1100 : Index := Scalar.indexCast v1099
  let c0_770 : Index := 0#32
  ![v1100.toNat, 0]

def k0_chk144 (v1098 : BitVec 32) : Prop :=
  (4 ∣ (k0_mult144 v1098).toNat) ∧
  (∀ a, (k0_off160 v1098) a + S4x128.size a ≤ S65536x128.size a)
theorem k0_mult144_dvd : ∀ (v1098 : BitVec 32) (k0_hw144 : k0_chk144 v1098), 4 ∣ (k0_mult144 v1098).toNat := fun v1098 k0_hw144 => k0_hw144.1
theorem k0_off160_inb : ∀ (v1098 : BitVec 32) (k0_hw144 : k0_chk144 v1098), ∀ a, (k0_off160 v1098) a + S4x128.size a ≤ S65536x128.size a := fun v1098 k0_hw144 => k0_hw144.2

def k0_off161 (k0_t1 : Fin k0_t1_loop.trips) : Fin 3 → Nat :=
  let c0_773 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1105 : Index := Scalar.indexCast v976
  let c16_774 : Index := 16#32
  ![0, v1105.toNat, 16]
def k0_mult145 (v1106 : BitVec 32) : BitVec 32 :=
  v1106

def k0_off162 (v1106 : BitVec 32) : Fin 2 → Nat :=
  let v1107 : BitVec 32 := v1106
  let v1108 : Index := Scalar.indexCast v1107
  let c0_775 : Index := 0#32
  ![v1108.toNat, 0]

def k0_chk145 (v1106 : BitVec 32) : Prop :=
  (4 ∣ (k0_mult145 v1106).toNat) ∧
  (∀ a, (k0_off162 v1106) a + S4x128.size a ≤ S65536x128.size a)
theorem k0_mult145_dvd : ∀ (v1106 : BitVec 32) (k0_hw145 : k0_chk145 v1106), 4 ∣ (k0_mult145 v1106).toNat := fun v1106 k0_hw145 => k0_hw145.1
theorem k0_off162_inb : ∀ (v1106 : BitVec 32) (k0_hw145 : k0_chk145 v1106), ∀ a, (k0_off162 v1106) a + S4x128.size a ≤ S65536x128.size a := fun v1106 k0_hw145 => k0_hw145.2

def k0_off163 (k0_t1 : Fin k0_t1_loop.trips) : Fin 3 → Nat :=
  let c0_778 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1113 : Index := Scalar.indexCast v976
  let c17_779 : Index := 17#32
  ![0, v1113.toNat, 17]
def k0_mult146 (v1114 : BitVec 32) : BitVec 32 :=
  v1114

def k0_off164 (v1114 : BitVec 32) : Fin 2 → Nat :=
  let v1115 : BitVec 32 := v1114
  let v1116 : Index := Scalar.indexCast v1115
  let c0_780 : Index := 0#32
  ![v1116.toNat, 0]

def k0_chk146 (v1114 : BitVec 32) : Prop :=
  (4 ∣ (k0_mult146 v1114).toNat) ∧
  (∀ a, (k0_off164 v1114) a + S4x128.size a ≤ S65536x128.size a)
theorem k0_mult146_dvd : ∀ (v1114 : BitVec 32) (k0_hw146 : k0_chk146 v1114), 4 ∣ (k0_mult146 v1114).toNat := fun v1114 k0_hw146 => k0_hw146.1
theorem k0_off164_inb : ∀ (v1114 : BitVec 32) (k0_hw146 : k0_chk146 v1114), ∀ a, (k0_off164 v1114) a + S4x128.size a ≤ S65536x128.size a := fun v1114 k0_hw146 => k0_hw146.2

def k0_off165 (k0_t1 : Fin k0_t1_loop.trips) : Fin 3 → Nat :=
  let c0_783 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1121 : Index := Scalar.indexCast v976
  let c18_784 : Index := 18#32
  ![0, v1121.toNat, 18]
def k0_mult147 (v1122 : BitVec 32) : BitVec 32 :=
  v1122

def k0_off166 (v1122 : BitVec 32) : Fin 2 → Nat :=
  let v1123 : BitVec 32 := v1122
  let v1124 : Index := Scalar.indexCast v1123
  let c0_785 : Index := 0#32
  ![v1124.toNat, 0]

def k0_chk147 (v1122 : BitVec 32) : Prop :=
  (4 ∣ (k0_mult147 v1122).toNat) ∧
  (∀ a, (k0_off166 v1122) a + S4x128.size a ≤ S65536x128.size a)
theorem k0_mult147_dvd : ∀ (v1122 : BitVec 32) (k0_hw147 : k0_chk147 v1122), 4 ∣ (k0_mult147 v1122).toNat := fun v1122 k0_hw147 => k0_hw147.1
theorem k0_off166_inb : ∀ (v1122 : BitVec 32) (k0_hw147 : k0_chk147 v1122), ∀ a, (k0_off166 v1122) a + S4x128.size a ≤ S65536x128.size a := fun v1122 k0_hw147 => k0_hw147.2

def k0_off167 (k0_t1 : Fin k0_t1_loop.trips) : Fin 3 → Nat :=
  let c0_788 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1129 : Index := Scalar.indexCast v976
  let c19_789 : Index := 19#32
  ![0, v1129.toNat, 19]
def k0_mult148 (v1130 : BitVec 32) : BitVec 32 :=
  v1130

def k0_off168 (v1130 : BitVec 32) : Fin 2 → Nat :=
  let v1131 : BitVec 32 := v1130
  let v1132 : Index := Scalar.indexCast v1131
  let c0_790 : Index := 0#32
  ![v1132.toNat, 0]

def k0_chk148 (v1130 : BitVec 32) : Prop :=
  (4 ∣ (k0_mult148 v1130).toNat) ∧
  (∀ a, (k0_off168 v1130) a + S4x128.size a ≤ S65536x128.size a)
theorem k0_mult148_dvd : ∀ (v1130 : BitVec 32) (k0_hw148 : k0_chk148 v1130), 4 ∣ (k0_mult148 v1130).toNat := fun v1130 k0_hw148 => k0_hw148.1
theorem k0_off168_inb : ∀ (v1130 : BitVec 32) (k0_hw148 : k0_chk148 v1130), ∀ a, (k0_off168 v1130) a + S4x128.size a ≤ S65536x128.size a := fun v1130 k0_hw148 => k0_hw148.2

def k0_off169 (k0_t1 : Fin k0_t1_loop.trips) : Fin 3 → Nat :=
  let c0_793 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1137 : Index := Scalar.indexCast v976
  let c20_794 : Index := 20#32
  ![0, v1137.toNat, 20]
def k0_mult149 (v1138 : BitVec 32) : BitVec 32 :=
  v1138

def k0_off170 (v1138 : BitVec 32) : Fin 2 → Nat :=
  let v1139 : BitVec 32 := v1138
  let v1140 : Index := Scalar.indexCast v1139
  let c0_795 : Index := 0#32
  ![v1140.toNat, 0]

def k0_chk149 (v1138 : BitVec 32) : Prop :=
  (4 ∣ (k0_mult149 v1138).toNat) ∧
  (∀ a, (k0_off170 v1138) a + S4x128.size a ≤ S65536x128.size a)
theorem k0_mult149_dvd : ∀ (v1138 : BitVec 32) (k0_hw149 : k0_chk149 v1138), 4 ∣ (k0_mult149 v1138).toNat := fun v1138 k0_hw149 => k0_hw149.1
theorem k0_off170_inb : ∀ (v1138 : BitVec 32) (k0_hw149 : k0_chk149 v1138), ∀ a, (k0_off170 v1138) a + S4x128.size a ≤ S65536x128.size a := fun v1138 k0_hw149 => k0_hw149.2

def k0_off171 (k0_t1 : Fin k0_t1_loop.trips) : Fin 3 → Nat :=
  let c0_798 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1145 : Index := Scalar.indexCast v976
  let c21_799 : Index := 21#32
  ![0, v1145.toNat, 21]
def k0_mult150 (v1146 : BitVec 32) : BitVec 32 :=
  v1146

def k0_off172 (v1146 : BitVec 32) : Fin 2 → Nat :=
  let v1147 : BitVec 32 := v1146
  let v1148 : Index := Scalar.indexCast v1147
  let c0_800 : Index := 0#32
  ![v1148.toNat, 0]

def k0_chk150 (v1146 : BitVec 32) : Prop :=
  (4 ∣ (k0_mult150 v1146).toNat) ∧
  (∀ a, (k0_off172 v1146) a + S4x128.size a ≤ S65536x128.size a)
theorem k0_mult150_dvd : ∀ (v1146 : BitVec 32) (k0_hw150 : k0_chk150 v1146), 4 ∣ (k0_mult150 v1146).toNat := fun v1146 k0_hw150 => k0_hw150.1
theorem k0_off172_inb : ∀ (v1146 : BitVec 32) (k0_hw150 : k0_chk150 v1146), ∀ a, (k0_off172 v1146) a + S4x128.size a ≤ S65536x128.size a := fun v1146 k0_hw150 => k0_hw150.2

def k0_off173 (k0_t1 : Fin k0_t1_loop.trips) : Fin 3 → Nat :=
  let c0_803 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1153 : Index := Scalar.indexCast v976
  let c22_804 : Index := 22#32
  ![0, v1153.toNat, 22]
def k0_mult151 (v1154 : BitVec 32) : BitVec 32 :=
  v1154

def k0_off174 (v1154 : BitVec 32) : Fin 2 → Nat :=
  let v1155 : BitVec 32 := v1154
  let v1156 : Index := Scalar.indexCast v1155
  let c0_805 : Index := 0#32
  ![v1156.toNat, 0]

def k0_chk151 (v1154 : BitVec 32) : Prop :=
  (4 ∣ (k0_mult151 v1154).toNat) ∧
  (∀ a, (k0_off174 v1154) a + S4x128.size a ≤ S65536x128.size a)
theorem k0_mult151_dvd : ∀ (v1154 : BitVec 32) (k0_hw151 : k0_chk151 v1154), 4 ∣ (k0_mult151 v1154).toNat := fun v1154 k0_hw151 => k0_hw151.1
theorem k0_off174_inb : ∀ (v1154 : BitVec 32) (k0_hw151 : k0_chk151 v1154), ∀ a, (k0_off174 v1154) a + S4x128.size a ≤ S65536x128.size a := fun v1154 k0_hw151 => k0_hw151.2

def k0_off175 (k0_t1 : Fin k0_t1_loop.trips) : Fin 3 → Nat :=
  let c0_808 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1161 : Index := Scalar.indexCast v976
  let c23_809 : Index := 23#32
  ![0, v1161.toNat, 23]
def k0_mult152 (v1162 : BitVec 32) : BitVec 32 :=
  v1162

def k0_off176 (v1162 : BitVec 32) : Fin 2 → Nat :=
  let v1163 : BitVec 32 := v1162
  let v1164 : Index := Scalar.indexCast v1163
  let c0_810 : Index := 0#32
  ![v1164.toNat, 0]

def k0_chk152 (v1162 : BitVec 32) : Prop :=
  (4 ∣ (k0_mult152 v1162).toNat) ∧
  (∀ a, (k0_off176 v1162) a + S4x128.size a ≤ S65536x128.size a)
theorem k0_mult152_dvd : ∀ (v1162 : BitVec 32) (k0_hw152 : k0_chk152 v1162), 4 ∣ (k0_mult152 v1162).toNat := fun v1162 k0_hw152 => k0_hw152.1
theorem k0_off176_inb : ∀ (v1162 : BitVec 32) (k0_hw152 : k0_chk152 v1162), ∀ a, (k0_off176 v1162) a + S4x128.size a ≤ S65536x128.size a := fun v1162 k0_hw152 => k0_hw152.2

def k0_off177 (k0_t1 : Fin k0_t1_loop.trips) : Fin 3 → Nat :=
  let c0_813 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1169 : Index := Scalar.indexCast v976
  let c24_814 : Index := 24#32
  ![0, v1169.toNat, 24]
def k0_mult153 (v1170 : BitVec 32) : BitVec 32 :=
  v1170

def k0_off178 (v1170 : BitVec 32) : Fin 2 → Nat :=
  let v1171 : BitVec 32 := v1170
  let v1172 : Index := Scalar.indexCast v1171
  let c0_815 : Index := 0#32
  ![v1172.toNat, 0]

def k0_chk153 (v1170 : BitVec 32) : Prop :=
  (4 ∣ (k0_mult153 v1170).toNat) ∧
  (∀ a, (k0_off178 v1170) a + S4x128.size a ≤ S65536x128.size a)
theorem k0_mult153_dvd : ∀ (v1170 : BitVec 32) (k0_hw153 : k0_chk153 v1170), 4 ∣ (k0_mult153 v1170).toNat := fun v1170 k0_hw153 => k0_hw153.1
theorem k0_off178_inb : ∀ (v1170 : BitVec 32) (k0_hw153 : k0_chk153 v1170), ∀ a, (k0_off178 v1170) a + S4x128.size a ≤ S65536x128.size a := fun v1170 k0_hw153 => k0_hw153.2

def k0_off179 (k0_t1 : Fin k0_t1_loop.trips) : Fin 3 → Nat :=
  let c0_818 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1177 : Index := Scalar.indexCast v976
  let c25_819 : Index := 25#32
  ![0, v1177.toNat, 25]
def k0_mult154 (v1178 : BitVec 32) : BitVec 32 :=
  v1178

def k0_off180 (v1178 : BitVec 32) : Fin 2 → Nat :=
  let v1179 : BitVec 32 := v1178
  let v1180 : Index := Scalar.indexCast v1179
  let c0_820 : Index := 0#32
  ![v1180.toNat, 0]

def k0_chk154 (v1178 : BitVec 32) : Prop :=
  (4 ∣ (k0_mult154 v1178).toNat) ∧
  (∀ a, (k0_off180 v1178) a + S4x128.size a ≤ S65536x128.size a)
theorem k0_mult154_dvd : ∀ (v1178 : BitVec 32) (k0_hw154 : k0_chk154 v1178), 4 ∣ (k0_mult154 v1178).toNat := fun v1178 k0_hw154 => k0_hw154.1
theorem k0_off180_inb : ∀ (v1178 : BitVec 32) (k0_hw154 : k0_chk154 v1178), ∀ a, (k0_off180 v1178) a + S4x128.size a ≤ S65536x128.size a := fun v1178 k0_hw154 => k0_hw154.2

def k0_off181 (k0_t1 : Fin k0_t1_loop.trips) : Fin 3 → Nat :=
  let c0_823 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1185 : Index := Scalar.indexCast v976
  let c26_824 : Index := 26#32
  ![0, v1185.toNat, 26]
def k0_mult155 (v1186 : BitVec 32) : BitVec 32 :=
  v1186

def k0_off182 (v1186 : BitVec 32) : Fin 2 → Nat :=
  let v1187 : BitVec 32 := v1186
  let v1188 : Index := Scalar.indexCast v1187
  let c0_825 : Index := 0#32
  ![v1188.toNat, 0]

def k0_chk155 (v1186 : BitVec 32) : Prop :=
  (4 ∣ (k0_mult155 v1186).toNat) ∧
  (∀ a, (k0_off182 v1186) a + S4x128.size a ≤ S65536x128.size a)
theorem k0_mult155_dvd : ∀ (v1186 : BitVec 32) (k0_hw155 : k0_chk155 v1186), 4 ∣ (k0_mult155 v1186).toNat := fun v1186 k0_hw155 => k0_hw155.1
theorem k0_off182_inb : ∀ (v1186 : BitVec 32) (k0_hw155 : k0_chk155 v1186), ∀ a, (k0_off182 v1186) a + S4x128.size a ≤ S65536x128.size a := fun v1186 k0_hw155 => k0_hw155.2

def k0_off183 (k0_t1 : Fin k0_t1_loop.trips) : Fin 3 → Nat :=
  let c0_828 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1193 : Index := Scalar.indexCast v976
  let c27_829 : Index := 27#32
  ![0, v1193.toNat, 27]
def k0_mult156 (v1194 : BitVec 32) : BitVec 32 :=
  v1194

def k0_off184 (v1194 : BitVec 32) : Fin 2 → Nat :=
  let v1195 : BitVec 32 := v1194
  let v1196 : Index := Scalar.indexCast v1195
  let c0_830 : Index := 0#32
  ![v1196.toNat, 0]

def k0_chk156 (v1194 : BitVec 32) : Prop :=
  (4 ∣ (k0_mult156 v1194).toNat) ∧
  (∀ a, (k0_off184 v1194) a + S4x128.size a ≤ S65536x128.size a)
theorem k0_mult156_dvd : ∀ (v1194 : BitVec 32) (k0_hw156 : k0_chk156 v1194), 4 ∣ (k0_mult156 v1194).toNat := fun v1194 k0_hw156 => k0_hw156.1
theorem k0_off184_inb : ∀ (v1194 : BitVec 32) (k0_hw156 : k0_chk156 v1194), ∀ a, (k0_off184 v1194) a + S4x128.size a ≤ S65536x128.size a := fun v1194 k0_hw156 => k0_hw156.2

def k0_off185 (k0_t1 : Fin k0_t1_loop.trips) : Fin 3 → Nat :=
  let c0_833 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1201 : Index := Scalar.indexCast v976
  let c28_834 : Index := 28#32
  ![0, v1201.toNat, 28]
def k0_mult157 (v1202 : BitVec 32) : BitVec 32 :=
  v1202

def k0_off186 (v1202 : BitVec 32) : Fin 2 → Nat :=
  let v1203 : BitVec 32 := v1202
  let v1204 : Index := Scalar.indexCast v1203
  let c0_835 : Index := 0#32
  ![v1204.toNat, 0]

def k0_chk157 (v1202 : BitVec 32) : Prop :=
  (4 ∣ (k0_mult157 v1202).toNat) ∧
  (∀ a, (k0_off186 v1202) a + S4x128.size a ≤ S65536x128.size a)
theorem k0_mult157_dvd : ∀ (v1202 : BitVec 32) (k0_hw157 : k0_chk157 v1202), 4 ∣ (k0_mult157 v1202).toNat := fun v1202 k0_hw157 => k0_hw157.1
theorem k0_off186_inb : ∀ (v1202 : BitVec 32) (k0_hw157 : k0_chk157 v1202), ∀ a, (k0_off186 v1202) a + S4x128.size a ≤ S65536x128.size a := fun v1202 k0_hw157 => k0_hw157.2

def k0_off187 (k0_t1 : Fin k0_t1_loop.trips) : Fin 3 → Nat :=
  let c0_838 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1209 : Index := Scalar.indexCast v976
  let c29_839 : Index := 29#32
  ![0, v1209.toNat, 29]
def k0_mult158 (v1210 : BitVec 32) : BitVec 32 :=
  v1210

def k0_off188 (v1210 : BitVec 32) : Fin 2 → Nat :=
  let v1211 : BitVec 32 := v1210
  let v1212 : Index := Scalar.indexCast v1211
  let c0_840 : Index := 0#32
  ![v1212.toNat, 0]

def k0_chk158 (v1210 : BitVec 32) : Prop :=
  (4 ∣ (k0_mult158 v1210).toNat) ∧
  (∀ a, (k0_off188 v1210) a + S4x128.size a ≤ S65536x128.size a)
theorem k0_mult158_dvd : ∀ (v1210 : BitVec 32) (k0_hw158 : k0_chk158 v1210), 4 ∣ (k0_mult158 v1210).toNat := fun v1210 k0_hw158 => k0_hw158.1
theorem k0_off188_inb : ∀ (v1210 : BitVec 32) (k0_hw158 : k0_chk158 v1210), ∀ a, (k0_off188 v1210) a + S4x128.size a ≤ S65536x128.size a := fun v1210 k0_hw158 => k0_hw158.2

def k0_off189 (k0_t1 : Fin k0_t1_loop.trips) : Fin 3 → Nat :=
  let c0_843 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1217 : Index := Scalar.indexCast v976
  let c30_844 : Index := 30#32
  ![0, v1217.toNat, 30]
def k0_mult159 (v1218 : BitVec 32) : BitVec 32 :=
  v1218

def k0_off190 (v1218 : BitVec 32) : Fin 2 → Nat :=
  let v1219 : BitVec 32 := v1218
  let v1220 : Index := Scalar.indexCast v1219
  let c0_845 : Index := 0#32
  ![v1220.toNat, 0]

def k0_chk159 (v1218 : BitVec 32) : Prop :=
  (4 ∣ (k0_mult159 v1218).toNat) ∧
  (∀ a, (k0_off190 v1218) a + S4x128.size a ≤ S65536x128.size a)
theorem k0_mult159_dvd : ∀ (v1218 : BitVec 32) (k0_hw159 : k0_chk159 v1218), 4 ∣ (k0_mult159 v1218).toNat := fun v1218 k0_hw159 => k0_hw159.1
theorem k0_off190_inb : ∀ (v1218 : BitVec 32) (k0_hw159 : k0_chk159 v1218), ∀ a, (k0_off190 v1218) a + S4x128.size a ≤ S65536x128.size a := fun v1218 k0_hw159 => k0_hw159.2

def k0_off191 (k0_t1 : Fin k0_t1_loop.trips) : Fin 3 → Nat :=
  let c0_848 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1225 : Index := Scalar.indexCast v976
  let c31_849 : Index := 31#32
  ![0, v1225.toNat, 31]
def k0_mult160 (v1226 : BitVec 32) : BitVec 32 :=
  v1226

def k0_off192 (v1226 : BitVec 32) : Fin 2 → Nat :=
  let v1227 : BitVec 32 := v1226
  let v1228 : Index := Scalar.indexCast v1227
  let c0_850 : Index := 0#32
  ![v1228.toNat, 0]

def k0_chk160 (v1226 : BitVec 32) : Prop :=
  (4 ∣ (k0_mult160 v1226).toNat) ∧
  (∀ a, (k0_off192 v1226) a + S4x128.size a ≤ S65536x128.size a)
theorem k0_mult160_dvd : ∀ (v1226 : BitVec 32) (k0_hw160 : k0_chk160 v1226), 4 ∣ (k0_mult160 v1226).toNat := fun v1226 k0_hw160 => k0_hw160.1
theorem k0_off192_inb : ∀ (v1226 : BitVec 32) (k0_hw160 : k0_chk160 v1226), ∀ a, (k0_off192 v1226) a + S4x128.size a ≤ S65536x128.size a := fun v1226 k0_hw160 => k0_hw160.2

def k0_off193 (k0_t1 : Fin k0_t1_loop.trips) : Fin 3 → Nat :=
  let c0_853 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1233 : Index := Scalar.indexCast v976
  let c32_854 : Index := 32#32
  ![0, v1233.toNat, 32]
def k0_mult161 (v1234 : BitVec 32) : BitVec 32 :=
  v1234

def k0_off194 (v1234 : BitVec 32) : Fin 2 → Nat :=
  let v1235 : BitVec 32 := v1234
  let v1236 : Index := Scalar.indexCast v1235
  let c0_855 : Index := 0#32
  ![v1236.toNat, 0]

def k0_chk161 (v1234 : BitVec 32) : Prop :=
  (4 ∣ (k0_mult161 v1234).toNat) ∧
  (∀ a, (k0_off194 v1234) a + S4x128.size a ≤ S65536x128.size a)
theorem k0_mult161_dvd : ∀ (v1234 : BitVec 32) (k0_hw161 : k0_chk161 v1234), 4 ∣ (k0_mult161 v1234).toNat := fun v1234 k0_hw161 => k0_hw161.1
theorem k0_off194_inb : ∀ (v1234 : BitVec 32) (k0_hw161 : k0_chk161 v1234), ∀ a, (k0_off194 v1234) a + S4x128.size a ≤ S65536x128.size a := fun v1234 k0_hw161 => k0_hw161.2

def k0_off195 (k0_t1 : Fin k0_t1_loop.trips) : Fin 3 → Nat :=
  let c0_858 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1241 : Index := Scalar.indexCast v976
  let c33_859 : Index := 33#32
  ![0, v1241.toNat, 33]
def k0_mult162 (v1242 : BitVec 32) : BitVec 32 :=
  v1242

def k0_off196 (v1242 : BitVec 32) : Fin 2 → Nat :=
  let v1243 : BitVec 32 := v1242
  let v1244 : Index := Scalar.indexCast v1243
  let c0_860 : Index := 0#32
  ![v1244.toNat, 0]

def k0_chk162 (v1242 : BitVec 32) : Prop :=
  (4 ∣ (k0_mult162 v1242).toNat) ∧
  (∀ a, (k0_off196 v1242) a + S4x128.size a ≤ S65536x128.size a)
theorem k0_mult162_dvd : ∀ (v1242 : BitVec 32) (k0_hw162 : k0_chk162 v1242), 4 ∣ (k0_mult162 v1242).toNat := fun v1242 k0_hw162 => k0_hw162.1
theorem k0_off196_inb : ∀ (v1242 : BitVec 32) (k0_hw162 : k0_chk162 v1242), ∀ a, (k0_off196 v1242) a + S4x128.size a ≤ S65536x128.size a := fun v1242 k0_hw162 => k0_hw162.2

def k0_off197 (k0_t1 : Fin k0_t1_loop.trips) : Fin 3 → Nat :=
  let c0_863 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1249 : Index := Scalar.indexCast v976
  let c34_864 : Index := 34#32
  ![0, v1249.toNat, 34]
def k0_mult163 (v1250 : BitVec 32) : BitVec 32 :=
  v1250

def k0_off198 (v1250 : BitVec 32) : Fin 2 → Nat :=
  let v1251 : BitVec 32 := v1250
  let v1252 : Index := Scalar.indexCast v1251
  let c0_865 : Index := 0#32
  ![v1252.toNat, 0]

def k0_chk163 (v1250 : BitVec 32) : Prop :=
  (4 ∣ (k0_mult163 v1250).toNat) ∧
  (∀ a, (k0_off198 v1250) a + S4x128.size a ≤ S65536x128.size a)
theorem k0_mult163_dvd : ∀ (v1250 : BitVec 32) (k0_hw163 : k0_chk163 v1250), 4 ∣ (k0_mult163 v1250).toNat := fun v1250 k0_hw163 => k0_hw163.1
theorem k0_off198_inb : ∀ (v1250 : BitVec 32) (k0_hw163 : k0_chk163 v1250), ∀ a, (k0_off198 v1250) a + S4x128.size a ≤ S65536x128.size a := fun v1250 k0_hw163 => k0_hw163.2

def k0_off199 (k0_t1 : Fin k0_t1_loop.trips) : Fin 3 → Nat :=
  let c0_868 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1257 : Index := Scalar.indexCast v976
  let c35_869 : Index := 35#32
  ![0, v1257.toNat, 35]
def k0_mult164 (v1258 : BitVec 32) : BitVec 32 :=
  v1258

def k0_off200 (v1258 : BitVec 32) : Fin 2 → Nat :=
  let v1259 : BitVec 32 := v1258
  let v1260 : Index := Scalar.indexCast v1259
  let c0_870 : Index := 0#32
  ![v1260.toNat, 0]

def k0_chk164 (v1258 : BitVec 32) : Prop :=
  (4 ∣ (k0_mult164 v1258).toNat) ∧
  (∀ a, (k0_off200 v1258) a + S4x128.size a ≤ S65536x128.size a)
theorem k0_mult164_dvd : ∀ (v1258 : BitVec 32) (k0_hw164 : k0_chk164 v1258), 4 ∣ (k0_mult164 v1258).toNat := fun v1258 k0_hw164 => k0_hw164.1
theorem k0_off200_inb : ∀ (v1258 : BitVec 32) (k0_hw164 : k0_chk164 v1258), ∀ a, (k0_off200 v1258) a + S4x128.size a ≤ S65536x128.size a := fun v1258 k0_hw164 => k0_hw164.2

def k0_off201 (k0_t1 : Fin k0_t1_loop.trips) : Fin 3 → Nat :=
  let c0_873 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1265 : Index := Scalar.indexCast v976
  let c36_874 : Index := 36#32
  ![0, v1265.toNat, 36]
def k0_mult165 (v1266 : BitVec 32) : BitVec 32 :=
  v1266

def k0_off202 (v1266 : BitVec 32) : Fin 2 → Nat :=
  let v1267 : BitVec 32 := v1266
  let v1268 : Index := Scalar.indexCast v1267
  let c0_875 : Index := 0#32
  ![v1268.toNat, 0]

def k0_chk165 (v1266 : BitVec 32) : Prop :=
  (4 ∣ (k0_mult165 v1266).toNat) ∧
  (∀ a, (k0_off202 v1266) a + S4x128.size a ≤ S65536x128.size a)
theorem k0_mult165_dvd : ∀ (v1266 : BitVec 32) (k0_hw165 : k0_chk165 v1266), 4 ∣ (k0_mult165 v1266).toNat := fun v1266 k0_hw165 => k0_hw165.1
theorem k0_off202_inb : ∀ (v1266 : BitVec 32) (k0_hw165 : k0_chk165 v1266), ∀ a, (k0_off202 v1266) a + S4x128.size a ≤ S65536x128.size a := fun v1266 k0_hw165 => k0_hw165.2

def k0_off203 (k0_t1 : Fin k0_t1_loop.trips) : Fin 3 → Nat :=
  let c0_878 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1273 : Index := Scalar.indexCast v976
  let c37_879 : Index := 37#32
  ![0, v1273.toNat, 37]
def k0_mult166 (v1274 : BitVec 32) : BitVec 32 :=
  v1274

def k0_off204 (v1274 : BitVec 32) : Fin 2 → Nat :=
  let v1275 : BitVec 32 := v1274
  let v1276 : Index := Scalar.indexCast v1275
  let c0_880 : Index := 0#32
  ![v1276.toNat, 0]

def k0_chk166 (v1274 : BitVec 32) : Prop :=
  (4 ∣ (k0_mult166 v1274).toNat) ∧
  (∀ a, (k0_off204 v1274) a + S4x128.size a ≤ S65536x128.size a)
theorem k0_mult166_dvd : ∀ (v1274 : BitVec 32) (k0_hw166 : k0_chk166 v1274), 4 ∣ (k0_mult166 v1274).toNat := fun v1274 k0_hw166 => k0_hw166.1
theorem k0_off204_inb : ∀ (v1274 : BitVec 32) (k0_hw166 : k0_chk166 v1274), ∀ a, (k0_off204 v1274) a + S4x128.size a ≤ S65536x128.size a := fun v1274 k0_hw166 => k0_hw166.2

def k0_off205 (k0_t1 : Fin k0_t1_loop.trips) : Fin 3 → Nat :=
  let c0_883 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1281 : Index := Scalar.indexCast v976
  let c38_884 : Index := 38#32
  ![0, v1281.toNat, 38]
def k0_mult167 (v1282 : BitVec 32) : BitVec 32 :=
  v1282

def k0_off206 (v1282 : BitVec 32) : Fin 2 → Nat :=
  let v1283 : BitVec 32 := v1282
  let v1284 : Index := Scalar.indexCast v1283
  let c0_885 : Index := 0#32
  ![v1284.toNat, 0]

def k0_chk167 (v1282 : BitVec 32) : Prop :=
  (4 ∣ (k0_mult167 v1282).toNat) ∧
  (∀ a, (k0_off206 v1282) a + S4x128.size a ≤ S65536x128.size a)
theorem k0_mult167_dvd : ∀ (v1282 : BitVec 32) (k0_hw167 : k0_chk167 v1282), 4 ∣ (k0_mult167 v1282).toNat := fun v1282 k0_hw167 => k0_hw167.1
theorem k0_off206_inb : ∀ (v1282 : BitVec 32) (k0_hw167 : k0_chk167 v1282), ∀ a, (k0_off206 v1282) a + S4x128.size a ≤ S65536x128.size a := fun v1282 k0_hw167 => k0_hw167.2

def k0_off207 (k0_t1 : Fin k0_t1_loop.trips) : Fin 3 → Nat :=
  let c0_888 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1289 : Index := Scalar.indexCast v976
  let c39_889 : Index := 39#32
  ![0, v1289.toNat, 39]
def k0_mult168 (v1290 : BitVec 32) : BitVec 32 :=
  v1290

def k0_off208 (v1290 : BitVec 32) : Fin 2 → Nat :=
  let v1291 : BitVec 32 := v1290
  let v1292 : Index := Scalar.indexCast v1291
  let c0_890 : Index := 0#32
  ![v1292.toNat, 0]

def k0_chk168 (v1290 : BitVec 32) : Prop :=
  (4 ∣ (k0_mult168 v1290).toNat) ∧
  (∀ a, (k0_off208 v1290) a + S4x128.size a ≤ S65536x128.size a)
theorem k0_mult168_dvd : ∀ (v1290 : BitVec 32) (k0_hw168 : k0_chk168 v1290), 4 ∣ (k0_mult168 v1290).toNat := fun v1290 k0_hw168 => k0_hw168.1
theorem k0_off208_inb : ∀ (v1290 : BitVec 32) (k0_hw168 : k0_chk168 v1290), ∀ a, (k0_off208 v1290) a + S4x128.size a ≤ S65536x128.size a := fun v1290 k0_hw168 => k0_hw168.2

def k0_off209 (k0_t1 : Fin k0_t1_loop.trips) : Fin 3 → Nat :=
  let c0_893 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1297 : Index := Scalar.indexCast v976
  let c40_894 : Index := 40#32
  ![0, v1297.toNat, 40]
def k0_mult169 (v1298 : BitVec 32) : BitVec 32 :=
  v1298

def k0_off210 (v1298 : BitVec 32) : Fin 2 → Nat :=
  let v1299 : BitVec 32 := v1298
  let v1300 : Index := Scalar.indexCast v1299
  let c0_895 : Index := 0#32
  ![v1300.toNat, 0]

def k0_chk169 (v1298 : BitVec 32) : Prop :=
  (4 ∣ (k0_mult169 v1298).toNat) ∧
  (∀ a, (k0_off210 v1298) a + S4x128.size a ≤ S65536x128.size a)
theorem k0_mult169_dvd : ∀ (v1298 : BitVec 32) (k0_hw169 : k0_chk169 v1298), 4 ∣ (k0_mult169 v1298).toNat := fun v1298 k0_hw169 => k0_hw169.1
theorem k0_off210_inb : ∀ (v1298 : BitVec 32) (k0_hw169 : k0_chk169 v1298), ∀ a, (k0_off210 v1298) a + S4x128.size a ≤ S65536x128.size a := fun v1298 k0_hw169 => k0_hw169.2

def k0_off211 (k0_t1 : Fin k0_t1_loop.trips) : Fin 3 → Nat :=
  let c0_898 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1305 : Index := Scalar.indexCast v976
  let c41_899 : Index := 41#32
  ![0, v1305.toNat, 41]
def k0_mult170 (v1306 : BitVec 32) : BitVec 32 :=
  v1306

def k0_off212 (v1306 : BitVec 32) : Fin 2 → Nat :=
  let v1307 : BitVec 32 := v1306
  let v1308 : Index := Scalar.indexCast v1307
  let c0_900 : Index := 0#32
  ![v1308.toNat, 0]

def k0_chk170 (v1306 : BitVec 32) : Prop :=
  (4 ∣ (k0_mult170 v1306).toNat) ∧
  (∀ a, (k0_off212 v1306) a + S4x128.size a ≤ S65536x128.size a)
theorem k0_mult170_dvd : ∀ (v1306 : BitVec 32) (k0_hw170 : k0_chk170 v1306), 4 ∣ (k0_mult170 v1306).toNat := fun v1306 k0_hw170 => k0_hw170.1
theorem k0_off212_inb : ∀ (v1306 : BitVec 32) (k0_hw170 : k0_chk170 v1306), ∀ a, (k0_off212 v1306) a + S4x128.size a ≤ S65536x128.size a := fun v1306 k0_hw170 => k0_hw170.2

def k0_off213 (k0_t1 : Fin k0_t1_loop.trips) : Fin 3 → Nat :=
  let c0_903 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1313 : Index := Scalar.indexCast v976
  let c42_904 : Index := 42#32
  ![0, v1313.toNat, 42]
def k0_mult171 (v1314 : BitVec 32) : BitVec 32 :=
  v1314

def k0_off214 (v1314 : BitVec 32) : Fin 2 → Nat :=
  let v1315 : BitVec 32 := v1314
  let v1316 : Index := Scalar.indexCast v1315
  let c0_905 : Index := 0#32
  ![v1316.toNat, 0]

def k0_chk171 (v1314 : BitVec 32) : Prop :=
  (4 ∣ (k0_mult171 v1314).toNat) ∧
  (∀ a, (k0_off214 v1314) a + S4x128.size a ≤ S65536x128.size a)
theorem k0_mult171_dvd : ∀ (v1314 : BitVec 32) (k0_hw171 : k0_chk171 v1314), 4 ∣ (k0_mult171 v1314).toNat := fun v1314 k0_hw171 => k0_hw171.1
theorem k0_off214_inb : ∀ (v1314 : BitVec 32) (k0_hw171 : k0_chk171 v1314), ∀ a, (k0_off214 v1314) a + S4x128.size a ≤ S65536x128.size a := fun v1314 k0_hw171 => k0_hw171.2

def k0_off215 (k0_t1 : Fin k0_t1_loop.trips) : Fin 3 → Nat :=
  let c0_908 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1321 : Index := Scalar.indexCast v976
  let c43_909 : Index := 43#32
  ![0, v1321.toNat, 43]
def k0_mult172 (v1322 : BitVec 32) : BitVec 32 :=
  v1322

def k0_off216 (v1322 : BitVec 32) : Fin 2 → Nat :=
  let v1323 : BitVec 32 := v1322
  let v1324 : Index := Scalar.indexCast v1323
  let c0_910 : Index := 0#32
  ![v1324.toNat, 0]

def k0_chk172 (v1322 : BitVec 32) : Prop :=
  (4 ∣ (k0_mult172 v1322).toNat) ∧
  (∀ a, (k0_off216 v1322) a + S4x128.size a ≤ S65536x128.size a)
theorem k0_mult172_dvd : ∀ (v1322 : BitVec 32) (k0_hw172 : k0_chk172 v1322), 4 ∣ (k0_mult172 v1322).toNat := fun v1322 k0_hw172 => k0_hw172.1
theorem k0_off216_inb : ∀ (v1322 : BitVec 32) (k0_hw172 : k0_chk172 v1322), ∀ a, (k0_off216 v1322) a + S4x128.size a ≤ S65536x128.size a := fun v1322 k0_hw172 => k0_hw172.2

def k0_off217 (k0_t1 : Fin k0_t1_loop.trips) : Fin 3 → Nat :=
  let c0_913 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1329 : Index := Scalar.indexCast v976
  let c44_914 : Index := 44#32
  ![0, v1329.toNat, 44]
def k0_mult173 (v1330 : BitVec 32) : BitVec 32 :=
  v1330

def k0_off218 (v1330 : BitVec 32) : Fin 2 → Nat :=
  let v1331 : BitVec 32 := v1330
  let v1332 : Index := Scalar.indexCast v1331
  let c0_915 : Index := 0#32
  ![v1332.toNat, 0]

def k0_chk173 (v1330 : BitVec 32) : Prop :=
  (4 ∣ (k0_mult173 v1330).toNat) ∧
  (∀ a, (k0_off218 v1330) a + S4x128.size a ≤ S65536x128.size a)
theorem k0_mult173_dvd : ∀ (v1330 : BitVec 32) (k0_hw173 : k0_chk173 v1330), 4 ∣ (k0_mult173 v1330).toNat := fun v1330 k0_hw173 => k0_hw173.1
theorem k0_off218_inb : ∀ (v1330 : BitVec 32) (k0_hw173 : k0_chk173 v1330), ∀ a, (k0_off218 v1330) a + S4x128.size a ≤ S65536x128.size a := fun v1330 k0_hw173 => k0_hw173.2

def k0_off219 (k0_t1 : Fin k0_t1_loop.trips) : Fin 3 → Nat :=
  let c0_918 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1337 : Index := Scalar.indexCast v976
  let c45_919 : Index := 45#32
  ![0, v1337.toNat, 45]
def k0_mult174 (v1338 : BitVec 32) : BitVec 32 :=
  v1338

def k0_off220 (v1338 : BitVec 32) : Fin 2 → Nat :=
  let v1339 : BitVec 32 := v1338
  let v1340 : Index := Scalar.indexCast v1339
  let c0_920 : Index := 0#32
  ![v1340.toNat, 0]

def k0_chk174 (v1338 : BitVec 32) : Prop :=
  (4 ∣ (k0_mult174 v1338).toNat) ∧
  (∀ a, (k0_off220 v1338) a + S4x128.size a ≤ S65536x128.size a)
theorem k0_mult174_dvd : ∀ (v1338 : BitVec 32) (k0_hw174 : k0_chk174 v1338), 4 ∣ (k0_mult174 v1338).toNat := fun v1338 k0_hw174 => k0_hw174.1
theorem k0_off220_inb : ∀ (v1338 : BitVec 32) (k0_hw174 : k0_chk174 v1338), ∀ a, (k0_off220 v1338) a + S4x128.size a ≤ S65536x128.size a := fun v1338 k0_hw174 => k0_hw174.2

def k0_off221 (k0_t1 : Fin k0_t1_loop.trips) : Fin 3 → Nat :=
  let c0_923 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1345 : Index := Scalar.indexCast v976
  let c46_924 : Index := 46#32
  ![0, v1345.toNat, 46]
def k0_mult175 (v1346 : BitVec 32) : BitVec 32 :=
  v1346

def k0_off222 (v1346 : BitVec 32) : Fin 2 → Nat :=
  let v1347 : BitVec 32 := v1346
  let v1348 : Index := Scalar.indexCast v1347
  let c0_925 : Index := 0#32
  ![v1348.toNat, 0]

def k0_chk175 (v1346 : BitVec 32) : Prop :=
  (4 ∣ (k0_mult175 v1346).toNat) ∧
  (∀ a, (k0_off222 v1346) a + S4x128.size a ≤ S65536x128.size a)
theorem k0_mult175_dvd : ∀ (v1346 : BitVec 32) (k0_hw175 : k0_chk175 v1346), 4 ∣ (k0_mult175 v1346).toNat := fun v1346 k0_hw175 => k0_hw175.1
theorem k0_off222_inb : ∀ (v1346 : BitVec 32) (k0_hw175 : k0_chk175 v1346), ∀ a, (k0_off222 v1346) a + S4x128.size a ≤ S65536x128.size a := fun v1346 k0_hw175 => k0_hw175.2

def k0_off223 (k0_t1 : Fin k0_t1_loop.trips) : Fin 3 → Nat :=
  let c0_928 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1353 : Index := Scalar.indexCast v976
  let c47_929 : Index := 47#32
  ![0, v1353.toNat, 47]
def k0_mult176 (v1354 : BitVec 32) : BitVec 32 :=
  v1354

def k0_off224 (v1354 : BitVec 32) : Fin 2 → Nat :=
  let v1355 : BitVec 32 := v1354
  let v1356 : Index := Scalar.indexCast v1355
  let c0_930 : Index := 0#32
  ![v1356.toNat, 0]

def k0_chk176 (v1354 : BitVec 32) : Prop :=
  (4 ∣ (k0_mult176 v1354).toNat) ∧
  (∀ a, (k0_off224 v1354) a + S4x128.size a ≤ S65536x128.size a)
theorem k0_mult176_dvd : ∀ (v1354 : BitVec 32) (k0_hw176 : k0_chk176 v1354), 4 ∣ (k0_mult176 v1354).toNat := fun v1354 k0_hw176 => k0_hw176.1
theorem k0_off224_inb : ∀ (v1354 : BitVec 32) (k0_hw176 : k0_chk176 v1354), ∀ a, (k0_off224 v1354) a + S4x128.size a ≤ S65536x128.size a := fun v1354 k0_hw176 => k0_hw176.2

def k0_off225 (k0_t1 : Fin k0_t1_loop.trips) : Fin 3 → Nat :=
  let c0_933 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1361 : Index := Scalar.indexCast v976
  let c48_934 : Index := 48#32
  ![0, v1361.toNat, 48]
def k0_mult177 (v1362 : BitVec 32) : BitVec 32 :=
  v1362

def k0_off226 (v1362 : BitVec 32) : Fin 2 → Nat :=
  let v1363 : BitVec 32 := v1362
  let v1364 : Index := Scalar.indexCast v1363
  let c0_935 : Index := 0#32
  ![v1364.toNat, 0]

def k0_chk177 (v1362 : BitVec 32) : Prop :=
  (4 ∣ (k0_mult177 v1362).toNat) ∧
  (∀ a, (k0_off226 v1362) a + S4x128.size a ≤ S65536x128.size a)
theorem k0_mult177_dvd : ∀ (v1362 : BitVec 32) (k0_hw177 : k0_chk177 v1362), 4 ∣ (k0_mult177 v1362).toNat := fun v1362 k0_hw177 => k0_hw177.1
theorem k0_off226_inb : ∀ (v1362 : BitVec 32) (k0_hw177 : k0_chk177 v1362), ∀ a, (k0_off226 v1362) a + S4x128.size a ≤ S65536x128.size a := fun v1362 k0_hw177 => k0_hw177.2

def k0_off227 (k0_t1 : Fin k0_t1_loop.trips) : Fin 3 → Nat :=
  let c0_938 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1369 : Index := Scalar.indexCast v976
  let c49_939 : Index := 49#32
  ![0, v1369.toNat, 49]
def k0_mult178 (v1370 : BitVec 32) : BitVec 32 :=
  v1370

def k0_off228 (v1370 : BitVec 32) : Fin 2 → Nat :=
  let v1371 : BitVec 32 := v1370
  let v1372 : Index := Scalar.indexCast v1371
  let c0_940 : Index := 0#32
  ![v1372.toNat, 0]

def k0_chk178 (v1370 : BitVec 32) : Prop :=
  (4 ∣ (k0_mult178 v1370).toNat) ∧
  (∀ a, (k0_off228 v1370) a + S4x128.size a ≤ S65536x128.size a)
theorem k0_mult178_dvd : ∀ (v1370 : BitVec 32) (k0_hw178 : k0_chk178 v1370), 4 ∣ (k0_mult178 v1370).toNat := fun v1370 k0_hw178 => k0_hw178.1
theorem k0_off228_inb : ∀ (v1370 : BitVec 32) (k0_hw178 : k0_chk178 v1370), ∀ a, (k0_off228 v1370) a + S4x128.size a ≤ S65536x128.size a := fun v1370 k0_hw178 => k0_hw178.2

def k0_off229 (k0_t1 : Fin k0_t1_loop.trips) : Fin 3 → Nat :=
  let c0_943 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1377 : Index := Scalar.indexCast v976
  let c50_944 : Index := 50#32
  ![0, v1377.toNat, 50]
def k0_mult179 (v1378 : BitVec 32) : BitVec 32 :=
  v1378

def k0_off230 (v1378 : BitVec 32) : Fin 2 → Nat :=
  let v1379 : BitVec 32 := v1378
  let v1380 : Index := Scalar.indexCast v1379
  let c0_945 : Index := 0#32
  ![v1380.toNat, 0]

def k0_chk179 (v1378 : BitVec 32) : Prop :=
  (4 ∣ (k0_mult179 v1378).toNat) ∧
  (∀ a, (k0_off230 v1378) a + S4x128.size a ≤ S65536x128.size a)
theorem k0_mult179_dvd : ∀ (v1378 : BitVec 32) (k0_hw179 : k0_chk179 v1378), 4 ∣ (k0_mult179 v1378).toNat := fun v1378 k0_hw179 => k0_hw179.1
theorem k0_off230_inb : ∀ (v1378 : BitVec 32) (k0_hw179 : k0_chk179 v1378), ∀ a, (k0_off230 v1378) a + S4x128.size a ≤ S65536x128.size a := fun v1378 k0_hw179 => k0_hw179.2

def k0_off231 (k0_t1 : Fin k0_t1_loop.trips) : Fin 3 → Nat :=
  let c0_948 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1385 : Index := Scalar.indexCast v976
  let c51_949 : Index := 51#32
  ![0, v1385.toNat, 51]
def k0_mult180 (v1386 : BitVec 32) : BitVec 32 :=
  v1386

def k0_off232 (v1386 : BitVec 32) : Fin 2 → Nat :=
  let v1387 : BitVec 32 := v1386
  let v1388 : Index := Scalar.indexCast v1387
  let c0_950 : Index := 0#32
  ![v1388.toNat, 0]

def k0_chk180 (v1386 : BitVec 32) : Prop :=
  (4 ∣ (k0_mult180 v1386).toNat) ∧
  (∀ a, (k0_off232 v1386) a + S4x128.size a ≤ S65536x128.size a)
theorem k0_mult180_dvd : ∀ (v1386 : BitVec 32) (k0_hw180 : k0_chk180 v1386), 4 ∣ (k0_mult180 v1386).toNat := fun v1386 k0_hw180 => k0_hw180.1
theorem k0_off232_inb : ∀ (v1386 : BitVec 32) (k0_hw180 : k0_chk180 v1386), ∀ a, (k0_off232 v1386) a + S4x128.size a ≤ S65536x128.size a := fun v1386 k0_hw180 => k0_hw180.2

def k0_off233 (k0_t1 : Fin k0_t1_loop.trips) : Fin 3 → Nat :=
  let c0_953 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1393 : Index := Scalar.indexCast v976
  let c52_954 : Index := 52#32
  ![0, v1393.toNat, 52]
def k0_mult181 (v1394 : BitVec 32) : BitVec 32 :=
  v1394

def k0_off234 (v1394 : BitVec 32) : Fin 2 → Nat :=
  let v1395 : BitVec 32 := v1394
  let v1396 : Index := Scalar.indexCast v1395
  let c0_955 : Index := 0#32
  ![v1396.toNat, 0]

def k0_chk181 (v1394 : BitVec 32) : Prop :=
  (4 ∣ (k0_mult181 v1394).toNat) ∧
  (∀ a, (k0_off234 v1394) a + S4x128.size a ≤ S65536x128.size a)
theorem k0_mult181_dvd : ∀ (v1394 : BitVec 32) (k0_hw181 : k0_chk181 v1394), 4 ∣ (k0_mult181 v1394).toNat := fun v1394 k0_hw181 => k0_hw181.1
theorem k0_off234_inb : ∀ (v1394 : BitVec 32) (k0_hw181 : k0_chk181 v1394), ∀ a, (k0_off234 v1394) a + S4x128.size a ≤ S65536x128.size a := fun v1394 k0_hw181 => k0_hw181.2

def k0_off235 (k0_t1 : Fin k0_t1_loop.trips) : Fin 3 → Nat :=
  let c0_958 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1401 : Index := Scalar.indexCast v976
  let c53_959 : Index := 53#32
  ![0, v1401.toNat, 53]
def k0_mult182 (v1402 : BitVec 32) : BitVec 32 :=
  v1402

def k0_off236 (v1402 : BitVec 32) : Fin 2 → Nat :=
  let v1403 : BitVec 32 := v1402
  let v1404 : Index := Scalar.indexCast v1403
  let c0_960 : Index := 0#32
  ![v1404.toNat, 0]

def k0_chk182 (v1402 : BitVec 32) : Prop :=
  (4 ∣ (k0_mult182 v1402).toNat) ∧
  (∀ a, (k0_off236 v1402) a + S4x128.size a ≤ S65536x128.size a)
theorem k0_mult182_dvd : ∀ (v1402 : BitVec 32) (k0_hw182 : k0_chk182 v1402), 4 ∣ (k0_mult182 v1402).toNat := fun v1402 k0_hw182 => k0_hw182.1
theorem k0_off236_inb : ∀ (v1402 : BitVec 32) (k0_hw182 : k0_chk182 v1402), ∀ a, (k0_off236 v1402) a + S4x128.size a ≤ S65536x128.size a := fun v1402 k0_hw182 => k0_hw182.2

def k0_off237 (k0_t1 : Fin k0_t1_loop.trips) : Fin 3 → Nat :=
  let c0_963 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1409 : Index := Scalar.indexCast v976
  let c54_964 : Index := 54#32
  ![0, v1409.toNat, 54]
def k0_mult183 (v1410 : BitVec 32) : BitVec 32 :=
  v1410

def k0_off238 (v1410 : BitVec 32) : Fin 2 → Nat :=
  let v1411 : BitVec 32 := v1410
  let v1412 : Index := Scalar.indexCast v1411
  let c0_965 : Index := 0#32
  ![v1412.toNat, 0]

def k0_chk183 (v1410 : BitVec 32) : Prop :=
  (4 ∣ (k0_mult183 v1410).toNat) ∧
  (∀ a, (k0_off238 v1410) a + S4x128.size a ≤ S65536x128.size a)
theorem k0_mult183_dvd : ∀ (v1410 : BitVec 32) (k0_hw183 : k0_chk183 v1410), 4 ∣ (k0_mult183 v1410).toNat := fun v1410 k0_hw183 => k0_hw183.1
theorem k0_off238_inb : ∀ (v1410 : BitVec 32) (k0_hw183 : k0_chk183 v1410), ∀ a, (k0_off238 v1410) a + S4x128.size a ≤ S65536x128.size a := fun v1410 k0_hw183 => k0_hw183.2

def k0_off239 (k0_t1 : Fin k0_t1_loop.trips) : Fin 3 → Nat :=
  let c0_968 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1417 : Index := Scalar.indexCast v976
  let c55_969 : Index := 55#32
  ![0, v1417.toNat, 55]
def k0_mult184 (v1418 : BitVec 32) : BitVec 32 :=
  v1418

def k0_off240 (v1418 : BitVec 32) : Fin 2 → Nat :=
  let v1419 : BitVec 32 := v1418
  let v1420 : Index := Scalar.indexCast v1419
  let c0_970 : Index := 0#32
  ![v1420.toNat, 0]

def k0_chk184 (v1418 : BitVec 32) : Prop :=
  (4 ∣ (k0_mult184 v1418).toNat) ∧
  (∀ a, (k0_off240 v1418) a + S4x128.size a ≤ S65536x128.size a)
theorem k0_mult184_dvd : ∀ (v1418 : BitVec 32) (k0_hw184 : k0_chk184 v1418), 4 ∣ (k0_mult184 v1418).toNat := fun v1418 k0_hw184 => k0_hw184.1
theorem k0_off240_inb : ∀ (v1418 : BitVec 32) (k0_hw184 : k0_chk184 v1418), ∀ a, (k0_off240 v1418) a + S4x128.size a ≤ S65536x128.size a := fun v1418 k0_hw184 => k0_hw184.2

def k0_off241 (k0_t1 : Fin k0_t1_loop.trips) : Fin 3 → Nat :=
  let c0_973 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1425 : Index := Scalar.indexCast v976
  let c56_974 : Index := 56#32
  ![0, v1425.toNat, 56]
def k0_mult185 (v1426 : BitVec 32) : BitVec 32 :=
  v1426

def k0_off242 (v1426 : BitVec 32) : Fin 2 → Nat :=
  let v1427 : BitVec 32 := v1426
  let v1428 : Index := Scalar.indexCast v1427
  let c0_975 : Index := 0#32
  ![v1428.toNat, 0]

def k0_chk185 (v1426 : BitVec 32) : Prop :=
  (4 ∣ (k0_mult185 v1426).toNat) ∧
  (∀ a, (k0_off242 v1426) a + S4x128.size a ≤ S65536x128.size a)
theorem k0_mult185_dvd : ∀ (v1426 : BitVec 32) (k0_hw185 : k0_chk185 v1426), 4 ∣ (k0_mult185 v1426).toNat := fun v1426 k0_hw185 => k0_hw185.1
theorem k0_off242_inb : ∀ (v1426 : BitVec 32) (k0_hw185 : k0_chk185 v1426), ∀ a, (k0_off242 v1426) a + S4x128.size a ≤ S65536x128.size a := fun v1426 k0_hw185 => k0_hw185.2

def k0_off243 (k0_t1 : Fin k0_t1_loop.trips) : Fin 3 → Nat :=
  let c0_978 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1433 : Index := Scalar.indexCast v976
  let c57_979 : Index := 57#32
  ![0, v1433.toNat, 57]
def k0_mult186 (v1434 : BitVec 32) : BitVec 32 :=
  v1434

def k0_off244 (v1434 : BitVec 32) : Fin 2 → Nat :=
  let v1435 : BitVec 32 := v1434
  let v1436 : Index := Scalar.indexCast v1435
  let c0_980 : Index := 0#32
  ![v1436.toNat, 0]

def k0_chk186 (v1434 : BitVec 32) : Prop :=
  (4 ∣ (k0_mult186 v1434).toNat) ∧
  (∀ a, (k0_off244 v1434) a + S4x128.size a ≤ S65536x128.size a)
theorem k0_mult186_dvd : ∀ (v1434 : BitVec 32) (k0_hw186 : k0_chk186 v1434), 4 ∣ (k0_mult186 v1434).toNat := fun v1434 k0_hw186 => k0_hw186.1
theorem k0_off244_inb : ∀ (v1434 : BitVec 32) (k0_hw186 : k0_chk186 v1434), ∀ a, (k0_off244 v1434) a + S4x128.size a ≤ S65536x128.size a := fun v1434 k0_hw186 => k0_hw186.2

def k0_off245 (k0_t1 : Fin k0_t1_loop.trips) : Fin 3 → Nat :=
  let c0_983 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1441 : Index := Scalar.indexCast v976
  let c58_984 : Index := 58#32
  ![0, v1441.toNat, 58]
def k0_mult187 (v1442 : BitVec 32) : BitVec 32 :=
  v1442

def k0_off246 (v1442 : BitVec 32) : Fin 2 → Nat :=
  let v1443 : BitVec 32 := v1442
  let v1444 : Index := Scalar.indexCast v1443
  let c0_985 : Index := 0#32
  ![v1444.toNat, 0]

def k0_chk187 (v1442 : BitVec 32) : Prop :=
  (4 ∣ (k0_mult187 v1442).toNat) ∧
  (∀ a, (k0_off246 v1442) a + S4x128.size a ≤ S65536x128.size a)
theorem k0_mult187_dvd : ∀ (v1442 : BitVec 32) (k0_hw187 : k0_chk187 v1442), 4 ∣ (k0_mult187 v1442).toNat := fun v1442 k0_hw187 => k0_hw187.1
theorem k0_off246_inb : ∀ (v1442 : BitVec 32) (k0_hw187 : k0_chk187 v1442), ∀ a, (k0_off246 v1442) a + S4x128.size a ≤ S65536x128.size a := fun v1442 k0_hw187 => k0_hw187.2

def k0_off247 (k0_t1 : Fin k0_t1_loop.trips) : Fin 3 → Nat :=
  let c0_988 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1449 : Index := Scalar.indexCast v976
  let c59_989 : Index := 59#32
  ![0, v1449.toNat, 59]
def k0_mult188 (v1450 : BitVec 32) : BitVec 32 :=
  v1450

def k0_off248 (v1450 : BitVec 32) : Fin 2 → Nat :=
  let v1451 : BitVec 32 := v1450
  let v1452 : Index := Scalar.indexCast v1451
  let c0_990 : Index := 0#32
  ![v1452.toNat, 0]

def k0_chk188 (v1450 : BitVec 32) : Prop :=
  (4 ∣ (k0_mult188 v1450).toNat) ∧
  (∀ a, (k0_off248 v1450) a + S4x128.size a ≤ S65536x128.size a)
theorem k0_mult188_dvd : ∀ (v1450 : BitVec 32) (k0_hw188 : k0_chk188 v1450), 4 ∣ (k0_mult188 v1450).toNat := fun v1450 k0_hw188 => k0_hw188.1
theorem k0_off248_inb : ∀ (v1450 : BitVec 32) (k0_hw188 : k0_chk188 v1450), ∀ a, (k0_off248 v1450) a + S4x128.size a ≤ S65536x128.size a := fun v1450 k0_hw188 => k0_hw188.2

def k0_off249 (k0_t1 : Fin k0_t1_loop.trips) : Fin 3 → Nat :=
  let c0_993 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1457 : Index := Scalar.indexCast v976
  let c60_994 : Index := 60#32
  ![0, v1457.toNat, 60]
def k0_mult189 (v1458 : BitVec 32) : BitVec 32 :=
  v1458

def k0_off250 (v1458 : BitVec 32) : Fin 2 → Nat :=
  let v1459 : BitVec 32 := v1458
  let v1460 : Index := Scalar.indexCast v1459
  let c0_995 : Index := 0#32
  ![v1460.toNat, 0]

def k0_chk189 (v1458 : BitVec 32) : Prop :=
  (4 ∣ (k0_mult189 v1458).toNat) ∧
  (∀ a, (k0_off250 v1458) a + S4x128.size a ≤ S65536x128.size a)
theorem k0_mult189_dvd : ∀ (v1458 : BitVec 32) (k0_hw189 : k0_chk189 v1458), 4 ∣ (k0_mult189 v1458).toNat := fun v1458 k0_hw189 => k0_hw189.1
theorem k0_off250_inb : ∀ (v1458 : BitVec 32) (k0_hw189 : k0_chk189 v1458), ∀ a, (k0_off250 v1458) a + S4x128.size a ≤ S65536x128.size a := fun v1458 k0_hw189 => k0_hw189.2

def k0_off251 (k0_t1 : Fin k0_t1_loop.trips) : Fin 3 → Nat :=
  let c0_998 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1465 : Index := Scalar.indexCast v976
  let c61_999 : Index := 61#32
  ![0, v1465.toNat, 61]
def k0_mult190 (v1466 : BitVec 32) : BitVec 32 :=
  v1466

def k0_off252 (v1466 : BitVec 32) : Fin 2 → Nat :=
  let v1467 : BitVec 32 := v1466
  let v1468 : Index := Scalar.indexCast v1467
  let c0_1000 : Index := 0#32
  ![v1468.toNat, 0]

def k0_chk190 (v1466 : BitVec 32) : Prop :=
  (4 ∣ (k0_mult190 v1466).toNat) ∧
  (∀ a, (k0_off252 v1466) a + S4x128.size a ≤ S65536x128.size a)
theorem k0_mult190_dvd : ∀ (v1466 : BitVec 32) (k0_hw190 : k0_chk190 v1466), 4 ∣ (k0_mult190 v1466).toNat := fun v1466 k0_hw190 => k0_hw190.1
theorem k0_off252_inb : ∀ (v1466 : BitVec 32) (k0_hw190 : k0_chk190 v1466), ∀ a, (k0_off252 v1466) a + S4x128.size a ≤ S65536x128.size a := fun v1466 k0_hw190 => k0_hw190.2

def k0_off253 (k0_t1 : Fin k0_t1_loop.trips) : Fin 3 → Nat :=
  let c0_1003 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1473 : Index := Scalar.indexCast v976
  let c62_1004 : Index := 62#32
  ![0, v1473.toNat, 62]
def k0_mult191 (v1474 : BitVec 32) : BitVec 32 :=
  v1474

def k0_off254 (v1474 : BitVec 32) : Fin 2 → Nat :=
  let v1475 : BitVec 32 := v1474
  let v1476 : Index := Scalar.indexCast v1475
  let c0_1005 : Index := 0#32
  ![v1476.toNat, 0]

def k0_chk191 (v1474 : BitVec 32) : Prop :=
  (4 ∣ (k0_mult191 v1474).toNat) ∧
  (∀ a, (k0_off254 v1474) a + S4x128.size a ≤ S65536x128.size a)
theorem k0_mult191_dvd : ∀ (v1474 : BitVec 32) (k0_hw191 : k0_chk191 v1474), 4 ∣ (k0_mult191 v1474).toNat := fun v1474 k0_hw191 => k0_hw191.1
theorem k0_off254_inb : ∀ (v1474 : BitVec 32) (k0_hw191 : k0_chk191 v1474), ∀ a, (k0_off254 v1474) a + S4x128.size a ≤ S65536x128.size a := fun v1474 k0_hw191 => k0_hw191.2

def k0_off255 (k0_t1 : Fin k0_t1_loop.trips) : Fin 3 → Nat :=
  let c0_1008 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1481 : Index := Scalar.indexCast v976
  let c63_1009 : Index := 63#32
  ![0, v1481.toNat, 63]
def k0_mult192 (v1482 : BitVec 32) : BitVec 32 :=
  v1482

def k0_off256 (v1482 : BitVec 32) : Fin 2 → Nat :=
  let v1483 : BitVec 32 := v1482
  let v1484 : Index := Scalar.indexCast v1483
  let c0_1010 : Index := 0#32
  ![v1484.toNat, 0]

def k0_chk192 (v1482 : BitVec 32) : Prop :=
  (4 ∣ (k0_mult192 v1482).toNat) ∧
  (∀ a, (k0_off256 v1482) a + S4x128.size a ≤ S65536x128.size a)
theorem k0_mult192_dvd : ∀ (v1482 : BitVec 32) (k0_hw192 : k0_chk192 v1482), 4 ∣ (k0_mult192 v1482).toNat := fun v1482 k0_hw192 => k0_hw192.1
theorem k0_off256_inb : ∀ (v1482 : BitVec 32) (k0_hw192 : k0_chk192 v1482), ∀ a, (k0_off256 v1482) a + S4x128.size a ≤ S65536x128.size a := fun v1482 k0_hw192 => k0_hw192.2

def k0_off257 (k0_t1 : Fin k0_t1_loop.trips) : Fin 3 → Nat :=
  let c0_1013 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1489 : Index := Scalar.indexCast v976
  let c64_1014 : Index := 64#32
  ![0, v1489.toNat, 64]
def k0_mult193 (v1490 : BitVec 32) : BitVec 32 :=
  v1490

def k0_off258 (v1490 : BitVec 32) : Fin 2 → Nat :=
  let v1491 : BitVec 32 := v1490
  let v1492 : Index := Scalar.indexCast v1491
  let c0_1015 : Index := 0#32
  ![v1492.toNat, 0]

def k0_chk193 (v1490 : BitVec 32) : Prop :=
  (4 ∣ (k0_mult193 v1490).toNat) ∧
  (∀ a, (k0_off258 v1490) a + S4x128.size a ≤ S65536x128.size a)
theorem k0_mult193_dvd : ∀ (v1490 : BitVec 32) (k0_hw193 : k0_chk193 v1490), 4 ∣ (k0_mult193 v1490).toNat := fun v1490 k0_hw193 => k0_hw193.1
theorem k0_off258_inb : ∀ (v1490 : BitVec 32) (k0_hw193 : k0_chk193 v1490), ∀ a, (k0_off258 v1490) a + S4x128.size a ≤ S65536x128.size a := fun v1490 k0_hw193 => k0_hw193.2

def k0_off259 (k0_t1 : Fin k0_t1_loop.trips) : Fin 3 → Nat :=
  let c0_1018 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1497 : Index := Scalar.indexCast v976
  let c65_1019 : Index := 65#32
  ![0, v1497.toNat, 65]
def k0_mult194 (v1498 : BitVec 32) : BitVec 32 :=
  v1498

def k0_off260 (v1498 : BitVec 32) : Fin 2 → Nat :=
  let v1499 : BitVec 32 := v1498
  let v1500 : Index := Scalar.indexCast v1499
  let c0_1020 : Index := 0#32
  ![v1500.toNat, 0]

def k0_chk194 (v1498 : BitVec 32) : Prop :=
  (4 ∣ (k0_mult194 v1498).toNat) ∧
  (∀ a, (k0_off260 v1498) a + S4x128.size a ≤ S65536x128.size a)
theorem k0_mult194_dvd : ∀ (v1498 : BitVec 32) (k0_hw194 : k0_chk194 v1498), 4 ∣ (k0_mult194 v1498).toNat := fun v1498 k0_hw194 => k0_hw194.1
theorem k0_off260_inb : ∀ (v1498 : BitVec 32) (k0_hw194 : k0_chk194 v1498), ∀ a, (k0_off260 v1498) a + S4x128.size a ≤ S65536x128.size a := fun v1498 k0_hw194 => k0_hw194.2

def k0_off261 (k0_t1 : Fin k0_t1_loop.trips) : Fin 3 → Nat :=
  let c0_1023 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1505 : Index := Scalar.indexCast v976
  let c66_1024 : Index := 66#32
  ![0, v1505.toNat, 66]
def k0_mult195 (v1506 : BitVec 32) : BitVec 32 :=
  v1506

def k0_off262 (v1506 : BitVec 32) : Fin 2 → Nat :=
  let v1507 : BitVec 32 := v1506
  let v1508 : Index := Scalar.indexCast v1507
  let c0_1025 : Index := 0#32
  ![v1508.toNat, 0]

def k0_chk195 (v1506 : BitVec 32) : Prop :=
  (4 ∣ (k0_mult195 v1506).toNat) ∧
  (∀ a, (k0_off262 v1506) a + S4x128.size a ≤ S65536x128.size a)
theorem k0_mult195_dvd : ∀ (v1506 : BitVec 32) (k0_hw195 : k0_chk195 v1506), 4 ∣ (k0_mult195 v1506).toNat := fun v1506 k0_hw195 => k0_hw195.1
theorem k0_off262_inb : ∀ (v1506 : BitVec 32) (k0_hw195 : k0_chk195 v1506), ∀ a, (k0_off262 v1506) a + S4x128.size a ≤ S65536x128.size a := fun v1506 k0_hw195 => k0_hw195.2

def k0_off263 (k0_t1 : Fin k0_t1_loop.trips) : Fin 3 → Nat :=
  let c0_1028 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1513 : Index := Scalar.indexCast v976
  let c67_1029 : Index := 67#32
  ![0, v1513.toNat, 67]
def k0_mult196 (v1514 : BitVec 32) : BitVec 32 :=
  v1514

def k0_off264 (v1514 : BitVec 32) : Fin 2 → Nat :=
  let v1515 : BitVec 32 := v1514
  let v1516 : Index := Scalar.indexCast v1515
  let c0_1030 : Index := 0#32
  ![v1516.toNat, 0]

def k0_chk196 (v1514 : BitVec 32) : Prop :=
  (4 ∣ (k0_mult196 v1514).toNat) ∧
  (∀ a, (k0_off264 v1514) a + S4x128.size a ≤ S65536x128.size a)
theorem k0_mult196_dvd : ∀ (v1514 : BitVec 32) (k0_hw196 : k0_chk196 v1514), 4 ∣ (k0_mult196 v1514).toNat := fun v1514 k0_hw196 => k0_hw196.1
theorem k0_off264_inb : ∀ (v1514 : BitVec 32) (k0_hw196 : k0_chk196 v1514), ∀ a, (k0_off264 v1514) a + S4x128.size a ≤ S65536x128.size a := fun v1514 k0_hw196 => k0_hw196.2

def k0_off265 (k0_t1 : Fin k0_t1_loop.trips) : Fin 3 → Nat :=
  let c0_1033 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1521 : Index := Scalar.indexCast v976
  let c68_1034 : Index := 68#32
  ![0, v1521.toNat, 68]
def k0_mult197 (v1522 : BitVec 32) : BitVec 32 :=
  v1522

def k0_off266 (v1522 : BitVec 32) : Fin 2 → Nat :=
  let v1523 : BitVec 32 := v1522
  let v1524 : Index := Scalar.indexCast v1523
  let c0_1035 : Index := 0#32
  ![v1524.toNat, 0]

def k0_chk197 (v1522 : BitVec 32) : Prop :=
  (4 ∣ (k0_mult197 v1522).toNat) ∧
  (∀ a, (k0_off266 v1522) a + S4x128.size a ≤ S65536x128.size a)
theorem k0_mult197_dvd : ∀ (v1522 : BitVec 32) (k0_hw197 : k0_chk197 v1522), 4 ∣ (k0_mult197 v1522).toNat := fun v1522 k0_hw197 => k0_hw197.1
theorem k0_off266_inb : ∀ (v1522 : BitVec 32) (k0_hw197 : k0_chk197 v1522), ∀ a, (k0_off266 v1522) a + S4x128.size a ≤ S65536x128.size a := fun v1522 k0_hw197 => k0_hw197.2

def k0_off267 (k0_t1 : Fin k0_t1_loop.trips) : Fin 3 → Nat :=
  let c0_1038 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1529 : Index := Scalar.indexCast v976
  let c69_1039 : Index := 69#32
  ![0, v1529.toNat, 69]
def k0_mult198 (v1530 : BitVec 32) : BitVec 32 :=
  v1530

def k0_off268 (v1530 : BitVec 32) : Fin 2 → Nat :=
  let v1531 : BitVec 32 := v1530
  let v1532 : Index := Scalar.indexCast v1531
  let c0_1040 : Index := 0#32
  ![v1532.toNat, 0]

def k0_chk198 (v1530 : BitVec 32) : Prop :=
  (4 ∣ (k0_mult198 v1530).toNat) ∧
  (∀ a, (k0_off268 v1530) a + S4x128.size a ≤ S65536x128.size a)
theorem k0_mult198_dvd : ∀ (v1530 : BitVec 32) (k0_hw198 : k0_chk198 v1530), 4 ∣ (k0_mult198 v1530).toNat := fun v1530 k0_hw198 => k0_hw198.1
theorem k0_off268_inb : ∀ (v1530 : BitVec 32) (k0_hw198 : k0_chk198 v1530), ∀ a, (k0_off268 v1530) a + S4x128.size a ≤ S65536x128.size a := fun v1530 k0_hw198 => k0_hw198.2

def k0_off269 (k0_t1 : Fin k0_t1_loop.trips) : Fin 3 → Nat :=
  let c0_1043 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1537 : Index := Scalar.indexCast v976
  let c70_1044 : Index := 70#32
  ![0, v1537.toNat, 70]
def k0_mult199 (v1538 : BitVec 32) : BitVec 32 :=
  v1538

def k0_off270 (v1538 : BitVec 32) : Fin 2 → Nat :=
  let v1539 : BitVec 32 := v1538
  let v1540 : Index := Scalar.indexCast v1539
  let c0_1045 : Index := 0#32
  ![v1540.toNat, 0]

def k0_chk199 (v1538 : BitVec 32) : Prop :=
  (4 ∣ (k0_mult199 v1538).toNat) ∧
  (∀ a, (k0_off270 v1538) a + S4x128.size a ≤ S65536x128.size a)
theorem k0_mult199_dvd : ∀ (v1538 : BitVec 32) (k0_hw199 : k0_chk199 v1538), 4 ∣ (k0_mult199 v1538).toNat := fun v1538 k0_hw199 => k0_hw199.1
theorem k0_off270_inb : ∀ (v1538 : BitVec 32) (k0_hw199 : k0_chk199 v1538), ∀ a, (k0_off270 v1538) a + S4x128.size a ≤ S65536x128.size a := fun v1538 k0_hw199 => k0_hw199.2

def k0_off271 (k0_t1 : Fin k0_t1_loop.trips) : Fin 3 → Nat :=
  let c0_1048 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1545 : Index := Scalar.indexCast v976
  let c71_1049 : Index := 71#32
  ![0, v1545.toNat, 71]
def k0_mult200 (v1546 : BitVec 32) : BitVec 32 :=
  v1546

def k0_off272 (v1546 : BitVec 32) : Fin 2 → Nat :=
  let v1547 : BitVec 32 := v1546
  let v1548 : Index := Scalar.indexCast v1547
  let c0_1050 : Index := 0#32
  ![v1548.toNat, 0]

def k0_chk200 (v1546 : BitVec 32) : Prop :=
  (4 ∣ (k0_mult200 v1546).toNat) ∧
  (∀ a, (k0_off272 v1546) a + S4x128.size a ≤ S65536x128.size a)
theorem k0_mult200_dvd : ∀ (v1546 : BitVec 32) (k0_hw200 : k0_chk200 v1546), 4 ∣ (k0_mult200 v1546).toNat := fun v1546 k0_hw200 => k0_hw200.1
theorem k0_off272_inb : ∀ (v1546 : BitVec 32) (k0_hw200 : k0_chk200 v1546), ∀ a, (k0_off272 v1546) a + S4x128.size a ≤ S65536x128.size a := fun v1546 k0_hw200 => k0_hw200.2

def k0_off273 (k0_t1 : Fin k0_t1_loop.trips) : Fin 3 → Nat :=
  let c0_1053 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1553 : Index := Scalar.indexCast v976
  let c72_1054 : Index := 72#32
  ![0, v1553.toNat, 72]
def k0_mult201 (v1554 : BitVec 32) : BitVec 32 :=
  v1554

def k0_off274 (v1554 : BitVec 32) : Fin 2 → Nat :=
  let v1555 : BitVec 32 := v1554
  let v1556 : Index := Scalar.indexCast v1555
  let c0_1055 : Index := 0#32
  ![v1556.toNat, 0]

def k0_chk201 (v1554 : BitVec 32) : Prop :=
  (4 ∣ (k0_mult201 v1554).toNat) ∧
  (∀ a, (k0_off274 v1554) a + S4x128.size a ≤ S65536x128.size a)
theorem k0_mult201_dvd : ∀ (v1554 : BitVec 32) (k0_hw201 : k0_chk201 v1554), 4 ∣ (k0_mult201 v1554).toNat := fun v1554 k0_hw201 => k0_hw201.1
theorem k0_off274_inb : ∀ (v1554 : BitVec 32) (k0_hw201 : k0_chk201 v1554), ∀ a, (k0_off274 v1554) a + S4x128.size a ≤ S65536x128.size a := fun v1554 k0_hw201 => k0_hw201.2

def k0_off275 (k0_t1 : Fin k0_t1_loop.trips) : Fin 3 → Nat :=
  let c0_1058 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1561 : Index := Scalar.indexCast v976
  let c73_1059 : Index := 73#32
  ![0, v1561.toNat, 73]
def k0_mult202 (v1562 : BitVec 32) : BitVec 32 :=
  v1562

def k0_off276 (v1562 : BitVec 32) : Fin 2 → Nat :=
  let v1563 : BitVec 32 := v1562
  let v1564 : Index := Scalar.indexCast v1563
  let c0_1060 : Index := 0#32
  ![v1564.toNat, 0]

def k0_chk202 (v1562 : BitVec 32) : Prop :=
  (4 ∣ (k0_mult202 v1562).toNat) ∧
  (∀ a, (k0_off276 v1562) a + S4x128.size a ≤ S65536x128.size a)
theorem k0_mult202_dvd : ∀ (v1562 : BitVec 32) (k0_hw202 : k0_chk202 v1562), 4 ∣ (k0_mult202 v1562).toNat := fun v1562 k0_hw202 => k0_hw202.1
theorem k0_off276_inb : ∀ (v1562 : BitVec 32) (k0_hw202 : k0_chk202 v1562), ∀ a, (k0_off276 v1562) a + S4x128.size a ≤ S65536x128.size a := fun v1562 k0_hw202 => k0_hw202.2

def k0_off277 (k0_t1 : Fin k0_t1_loop.trips) : Fin 3 → Nat :=
  let c0_1063 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1569 : Index := Scalar.indexCast v976
  let c74_1064 : Index := 74#32
  ![0, v1569.toNat, 74]
def k0_mult203 (v1570 : BitVec 32) : BitVec 32 :=
  v1570

def k0_off278 (v1570 : BitVec 32) : Fin 2 → Nat :=
  let v1571 : BitVec 32 := v1570
  let v1572 : Index := Scalar.indexCast v1571
  let c0_1065 : Index := 0#32
  ![v1572.toNat, 0]

def k0_chk203 (v1570 : BitVec 32) : Prop :=
  (4 ∣ (k0_mult203 v1570).toNat) ∧
  (∀ a, (k0_off278 v1570) a + S4x128.size a ≤ S65536x128.size a)
theorem k0_mult203_dvd : ∀ (v1570 : BitVec 32) (k0_hw203 : k0_chk203 v1570), 4 ∣ (k0_mult203 v1570).toNat := fun v1570 k0_hw203 => k0_hw203.1
theorem k0_off278_inb : ∀ (v1570 : BitVec 32) (k0_hw203 : k0_chk203 v1570), ∀ a, (k0_off278 v1570) a + S4x128.size a ≤ S65536x128.size a := fun v1570 k0_hw203 => k0_hw203.2

def k0_off279 (k0_t1 : Fin k0_t1_loop.trips) : Fin 3 → Nat :=
  let c0_1068 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1577 : Index := Scalar.indexCast v976
  let c75_1069 : Index := 75#32
  ![0, v1577.toNat, 75]
def k0_mult204 (v1578 : BitVec 32) : BitVec 32 :=
  v1578

def k0_off280 (v1578 : BitVec 32) : Fin 2 → Nat :=
  let v1579 : BitVec 32 := v1578
  let v1580 : Index := Scalar.indexCast v1579
  let c0_1070 : Index := 0#32
  ![v1580.toNat, 0]

def k0_chk204 (v1578 : BitVec 32) : Prop :=
  (4 ∣ (k0_mult204 v1578).toNat) ∧
  (∀ a, (k0_off280 v1578) a + S4x128.size a ≤ S65536x128.size a)
theorem k0_mult204_dvd : ∀ (v1578 : BitVec 32) (k0_hw204 : k0_chk204 v1578), 4 ∣ (k0_mult204 v1578).toNat := fun v1578 k0_hw204 => k0_hw204.1
theorem k0_off280_inb : ∀ (v1578 : BitVec 32) (k0_hw204 : k0_chk204 v1578), ∀ a, (k0_off280 v1578) a + S4x128.size a ≤ S65536x128.size a := fun v1578 k0_hw204 => k0_hw204.2

def k0_off281 (k0_t1 : Fin k0_t1_loop.trips) : Fin 3 → Nat :=
  let c0_1073 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1585 : Index := Scalar.indexCast v976
  let c76_1074 : Index := 76#32
  ![0, v1585.toNat, 76]
def k0_mult205 (v1586 : BitVec 32) : BitVec 32 :=
  v1586

def k0_off282 (v1586 : BitVec 32) : Fin 2 → Nat :=
  let v1587 : BitVec 32 := v1586
  let v1588 : Index := Scalar.indexCast v1587
  let c0_1075 : Index := 0#32
  ![v1588.toNat, 0]

def k0_chk205 (v1586 : BitVec 32) : Prop :=
  (4 ∣ (k0_mult205 v1586).toNat) ∧
  (∀ a, (k0_off282 v1586) a + S4x128.size a ≤ S65536x128.size a)
theorem k0_mult205_dvd : ∀ (v1586 : BitVec 32) (k0_hw205 : k0_chk205 v1586), 4 ∣ (k0_mult205 v1586).toNat := fun v1586 k0_hw205 => k0_hw205.1
theorem k0_off282_inb : ∀ (v1586 : BitVec 32) (k0_hw205 : k0_chk205 v1586), ∀ a, (k0_off282 v1586) a + S4x128.size a ≤ S65536x128.size a := fun v1586 k0_hw205 => k0_hw205.2

def k0_off283 (k0_t1 : Fin k0_t1_loop.trips) : Fin 3 → Nat :=
  let c0_1078 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1593 : Index := Scalar.indexCast v976
  let c77_1079 : Index := 77#32
  ![0, v1593.toNat, 77]
def k0_mult206 (v1594 : BitVec 32) : BitVec 32 :=
  v1594

def k0_off284 (v1594 : BitVec 32) : Fin 2 → Nat :=
  let v1595 : BitVec 32 := v1594
  let v1596 : Index := Scalar.indexCast v1595
  let c0_1080 : Index := 0#32
  ![v1596.toNat, 0]

def k0_chk206 (v1594 : BitVec 32) : Prop :=
  (4 ∣ (k0_mult206 v1594).toNat) ∧
  (∀ a, (k0_off284 v1594) a + S4x128.size a ≤ S65536x128.size a)
theorem k0_mult206_dvd : ∀ (v1594 : BitVec 32) (k0_hw206 : k0_chk206 v1594), 4 ∣ (k0_mult206 v1594).toNat := fun v1594 k0_hw206 => k0_hw206.1
theorem k0_off284_inb : ∀ (v1594 : BitVec 32) (k0_hw206 : k0_chk206 v1594), ∀ a, (k0_off284 v1594) a + S4x128.size a ≤ S65536x128.size a := fun v1594 k0_hw206 => k0_hw206.2

def k0_off285 (k0_t1 : Fin k0_t1_loop.trips) : Fin 3 → Nat :=
  let c0_1083 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1601 : Index := Scalar.indexCast v976
  let c78_1084 : Index := 78#32
  ![0, v1601.toNat, 78]
def k0_mult207 (v1602 : BitVec 32) : BitVec 32 :=
  v1602

def k0_off286 (v1602 : BitVec 32) : Fin 2 → Nat :=
  let v1603 : BitVec 32 := v1602
  let v1604 : Index := Scalar.indexCast v1603
  let c0_1085 : Index := 0#32
  ![v1604.toNat, 0]

def k0_chk207 (v1602 : BitVec 32) : Prop :=
  (4 ∣ (k0_mult207 v1602).toNat) ∧
  (∀ a, (k0_off286 v1602) a + S4x128.size a ≤ S65536x128.size a)
theorem k0_mult207_dvd : ∀ (v1602 : BitVec 32) (k0_hw207 : k0_chk207 v1602), 4 ∣ (k0_mult207 v1602).toNat := fun v1602 k0_hw207 => k0_hw207.1
theorem k0_off286_inb : ∀ (v1602 : BitVec 32) (k0_hw207 : k0_chk207 v1602), ∀ a, (k0_off286 v1602) a + S4x128.size a ≤ S65536x128.size a := fun v1602 k0_hw207 => k0_hw207.2

def k0_off287 (k0_t1 : Fin k0_t1_loop.trips) : Fin 3 → Nat :=
  let c0_1088 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1609 : Index := Scalar.indexCast v976
  let c79_1089 : Index := 79#32
  ![0, v1609.toNat, 79]
def k0_mult208 (v1610 : BitVec 32) : BitVec 32 :=
  v1610

def k0_off288 (v1610 : BitVec 32) : Fin 2 → Nat :=
  let v1611 : BitVec 32 := v1610
  let v1612 : Index := Scalar.indexCast v1611
  let c0_1090 : Index := 0#32
  ![v1612.toNat, 0]

def k0_chk208 (v1610 : BitVec 32) : Prop :=
  (4 ∣ (k0_mult208 v1610).toNat) ∧
  (∀ a, (k0_off288 v1610) a + S4x128.size a ≤ S65536x128.size a)
theorem k0_mult208_dvd : ∀ (v1610 : BitVec 32) (k0_hw208 : k0_chk208 v1610), 4 ∣ (k0_mult208 v1610).toNat := fun v1610 k0_hw208 => k0_hw208.1
theorem k0_off288_inb : ∀ (v1610 : BitVec 32) (k0_hw208 : k0_chk208 v1610), ∀ a, (k0_off288 v1610) a + S4x128.size a ≤ S65536x128.size a := fun v1610 k0_hw208 => k0_hw208.2

def k0_off289 (k0_t1 : Fin k0_t1_loop.trips) : Fin 3 → Nat :=
  let c0_1093 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1617 : Index := Scalar.indexCast v976
  let c80_1094 : Index := 80#32
  ![0, v1617.toNat, 80]
def k0_mult209 (v1618 : BitVec 32) : BitVec 32 :=
  v1618

def k0_off290 (v1618 : BitVec 32) : Fin 2 → Nat :=
  let v1619 : BitVec 32 := v1618
  let v1620 : Index := Scalar.indexCast v1619
  let c0_1095 : Index := 0#32
  ![v1620.toNat, 0]

def k0_chk209 (v1618 : BitVec 32) : Prop :=
  (4 ∣ (k0_mult209 v1618).toNat) ∧
  (∀ a, (k0_off290 v1618) a + S4x128.size a ≤ S65536x128.size a)
theorem k0_mult209_dvd : ∀ (v1618 : BitVec 32) (k0_hw209 : k0_chk209 v1618), 4 ∣ (k0_mult209 v1618).toNat := fun v1618 k0_hw209 => k0_hw209.1
theorem k0_off290_inb : ∀ (v1618 : BitVec 32) (k0_hw209 : k0_chk209 v1618), ∀ a, (k0_off290 v1618) a + S4x128.size a ≤ S65536x128.size a := fun v1618 k0_hw209 => k0_hw209.2

def k0_off291 (k0_t1 : Fin k0_t1_loop.trips) : Fin 3 → Nat :=
  let c0_1098 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1625 : Index := Scalar.indexCast v976
  let c81_1099 : Index := 81#32
  ![0, v1625.toNat, 81]
def k0_mult210 (v1626 : BitVec 32) : BitVec 32 :=
  v1626

def k0_off292 (v1626 : BitVec 32) : Fin 2 → Nat :=
  let v1627 : BitVec 32 := v1626
  let v1628 : Index := Scalar.indexCast v1627
  let c0_1100 : Index := 0#32
  ![v1628.toNat, 0]

def k0_chk210 (v1626 : BitVec 32) : Prop :=
  (4 ∣ (k0_mult210 v1626).toNat) ∧
  (∀ a, (k0_off292 v1626) a + S4x128.size a ≤ S65536x128.size a)
theorem k0_mult210_dvd : ∀ (v1626 : BitVec 32) (k0_hw210 : k0_chk210 v1626), 4 ∣ (k0_mult210 v1626).toNat := fun v1626 k0_hw210 => k0_hw210.1
theorem k0_off292_inb : ∀ (v1626 : BitVec 32) (k0_hw210 : k0_chk210 v1626), ∀ a, (k0_off292 v1626) a + S4x128.size a ≤ S65536x128.size a := fun v1626 k0_hw210 => k0_hw210.2

def k0_off293 (k0_t1 : Fin k0_t1_loop.trips) : Fin 3 → Nat :=
  let c0_1103 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1633 : Index := Scalar.indexCast v976
  let c82_1104 : Index := 82#32
  ![0, v1633.toNat, 82]
def k0_mult211 (v1634 : BitVec 32) : BitVec 32 :=
  v1634

def k0_off294 (v1634 : BitVec 32) : Fin 2 → Nat :=
  let v1635 : BitVec 32 := v1634
  let v1636 : Index := Scalar.indexCast v1635
  let c0_1105 : Index := 0#32
  ![v1636.toNat, 0]

def k0_chk211 (v1634 : BitVec 32) : Prop :=
  (4 ∣ (k0_mult211 v1634).toNat) ∧
  (∀ a, (k0_off294 v1634) a + S4x128.size a ≤ S65536x128.size a)
theorem k0_mult211_dvd : ∀ (v1634 : BitVec 32) (k0_hw211 : k0_chk211 v1634), 4 ∣ (k0_mult211 v1634).toNat := fun v1634 k0_hw211 => k0_hw211.1
theorem k0_off294_inb : ∀ (v1634 : BitVec 32) (k0_hw211 : k0_chk211 v1634), ∀ a, (k0_off294 v1634) a + S4x128.size a ≤ S65536x128.size a := fun v1634 k0_hw211 => k0_hw211.2

def k0_off295 (k0_t1 : Fin k0_t1_loop.trips) : Fin 3 → Nat :=
  let c0_1108 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1641 : Index := Scalar.indexCast v976
  let c83_1109 : Index := 83#32
  ![0, v1641.toNat, 83]
def k0_mult212 (v1642 : BitVec 32) : BitVec 32 :=
  v1642

def k0_off296 (v1642 : BitVec 32) : Fin 2 → Nat :=
  let v1643 : BitVec 32 := v1642
  let v1644 : Index := Scalar.indexCast v1643
  let c0_1110 : Index := 0#32
  ![v1644.toNat, 0]

def k0_chk212 (v1642 : BitVec 32) : Prop :=
  (4 ∣ (k0_mult212 v1642).toNat) ∧
  (∀ a, (k0_off296 v1642) a + S4x128.size a ≤ S65536x128.size a)
theorem k0_mult212_dvd : ∀ (v1642 : BitVec 32) (k0_hw212 : k0_chk212 v1642), 4 ∣ (k0_mult212 v1642).toNat := fun v1642 k0_hw212 => k0_hw212.1
theorem k0_off296_inb : ∀ (v1642 : BitVec 32) (k0_hw212 : k0_chk212 v1642), ∀ a, (k0_off296 v1642) a + S4x128.size a ≤ S65536x128.size a := fun v1642 k0_hw212 => k0_hw212.2

def k0_off297 (k0_t1 : Fin k0_t1_loop.trips) : Fin 3 → Nat :=
  let c0_1113 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1649 : Index := Scalar.indexCast v976
  let c84_1114 : Index := 84#32
  ![0, v1649.toNat, 84]
def k0_mult213 (v1650 : BitVec 32) : BitVec 32 :=
  v1650

def k0_off298 (v1650 : BitVec 32) : Fin 2 → Nat :=
  let v1651 : BitVec 32 := v1650
  let v1652 : Index := Scalar.indexCast v1651
  let c0_1115 : Index := 0#32
  ![v1652.toNat, 0]

def k0_chk213 (v1650 : BitVec 32) : Prop :=
  (4 ∣ (k0_mult213 v1650).toNat) ∧
  (∀ a, (k0_off298 v1650) a + S4x128.size a ≤ S65536x128.size a)
theorem k0_mult213_dvd : ∀ (v1650 : BitVec 32) (k0_hw213 : k0_chk213 v1650), 4 ∣ (k0_mult213 v1650).toNat := fun v1650 k0_hw213 => k0_hw213.1
theorem k0_off298_inb : ∀ (v1650 : BitVec 32) (k0_hw213 : k0_chk213 v1650), ∀ a, (k0_off298 v1650) a + S4x128.size a ≤ S65536x128.size a := fun v1650 k0_hw213 => k0_hw213.2

def k0_off299 (k0_t1 : Fin k0_t1_loop.trips) : Fin 3 → Nat :=
  let c0_1118 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1657 : Index := Scalar.indexCast v976
  let c85_1119 : Index := 85#32
  ![0, v1657.toNat, 85]
def k0_mult214 (v1658 : BitVec 32) : BitVec 32 :=
  v1658

def k0_off300 (v1658 : BitVec 32) : Fin 2 → Nat :=
  let v1659 : BitVec 32 := v1658
  let v1660 : Index := Scalar.indexCast v1659
  let c0_1120 : Index := 0#32
  ![v1660.toNat, 0]

def k0_chk214 (v1658 : BitVec 32) : Prop :=
  (4 ∣ (k0_mult214 v1658).toNat) ∧
  (∀ a, (k0_off300 v1658) a + S4x128.size a ≤ S65536x128.size a)
theorem k0_mult214_dvd : ∀ (v1658 : BitVec 32) (k0_hw214 : k0_chk214 v1658), 4 ∣ (k0_mult214 v1658).toNat := fun v1658 k0_hw214 => k0_hw214.1
theorem k0_off300_inb : ∀ (v1658 : BitVec 32) (k0_hw214 : k0_chk214 v1658), ∀ a, (k0_off300 v1658) a + S4x128.size a ≤ S65536x128.size a := fun v1658 k0_hw214 => k0_hw214.2

def k0_off301 (k0_t1 : Fin k0_t1_loop.trips) : Fin 3 → Nat :=
  let c0_1123 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1665 : Index := Scalar.indexCast v976
  let c86_1124 : Index := 86#32
  ![0, v1665.toNat, 86]
def k0_mult215 (v1666 : BitVec 32) : BitVec 32 :=
  v1666

def k0_off302 (v1666 : BitVec 32) : Fin 2 → Nat :=
  let v1667 : BitVec 32 := v1666
  let v1668 : Index := Scalar.indexCast v1667
  let c0_1125 : Index := 0#32
  ![v1668.toNat, 0]

def k0_chk215 (v1666 : BitVec 32) : Prop :=
  (4 ∣ (k0_mult215 v1666).toNat) ∧
  (∀ a, (k0_off302 v1666) a + S4x128.size a ≤ S65536x128.size a)
theorem k0_mult215_dvd : ∀ (v1666 : BitVec 32) (k0_hw215 : k0_chk215 v1666), 4 ∣ (k0_mult215 v1666).toNat := fun v1666 k0_hw215 => k0_hw215.1
theorem k0_off302_inb : ∀ (v1666 : BitVec 32) (k0_hw215 : k0_chk215 v1666), ∀ a, (k0_off302 v1666) a + S4x128.size a ≤ S65536x128.size a := fun v1666 k0_hw215 => k0_hw215.2

def k0_off303 (k0_t1 : Fin k0_t1_loop.trips) : Fin 3 → Nat :=
  let c0_1128 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1673 : Index := Scalar.indexCast v976
  let c87_1129 : Index := 87#32
  ![0, v1673.toNat, 87]
def k0_mult216 (v1674 : BitVec 32) : BitVec 32 :=
  v1674

def k0_off304 (v1674 : BitVec 32) : Fin 2 → Nat :=
  let v1675 : BitVec 32 := v1674
  let v1676 : Index := Scalar.indexCast v1675
  let c0_1130 : Index := 0#32
  ![v1676.toNat, 0]

def k0_chk216 (v1674 : BitVec 32) : Prop :=
  (4 ∣ (k0_mult216 v1674).toNat) ∧
  (∀ a, (k0_off304 v1674) a + S4x128.size a ≤ S65536x128.size a)
theorem k0_mult216_dvd : ∀ (v1674 : BitVec 32) (k0_hw216 : k0_chk216 v1674), 4 ∣ (k0_mult216 v1674).toNat := fun v1674 k0_hw216 => k0_hw216.1
theorem k0_off304_inb : ∀ (v1674 : BitVec 32) (k0_hw216 : k0_chk216 v1674), ∀ a, (k0_off304 v1674) a + S4x128.size a ≤ S65536x128.size a := fun v1674 k0_hw216 => k0_hw216.2

def k0_off305 (k0_t1 : Fin k0_t1_loop.trips) : Fin 3 → Nat :=
  let c0_1133 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1681 : Index := Scalar.indexCast v976
  let c88_1134 : Index := 88#32
  ![0, v1681.toNat, 88]
def k0_mult217 (v1682 : BitVec 32) : BitVec 32 :=
  v1682

def k0_off306 (v1682 : BitVec 32) : Fin 2 → Nat :=
  let v1683 : BitVec 32 := v1682
  let v1684 : Index := Scalar.indexCast v1683
  let c0_1135 : Index := 0#32
  ![v1684.toNat, 0]

def k0_chk217 (v1682 : BitVec 32) : Prop :=
  (4 ∣ (k0_mult217 v1682).toNat) ∧
  (∀ a, (k0_off306 v1682) a + S4x128.size a ≤ S65536x128.size a)
theorem k0_mult217_dvd : ∀ (v1682 : BitVec 32) (k0_hw217 : k0_chk217 v1682), 4 ∣ (k0_mult217 v1682).toNat := fun v1682 k0_hw217 => k0_hw217.1
theorem k0_off306_inb : ∀ (v1682 : BitVec 32) (k0_hw217 : k0_chk217 v1682), ∀ a, (k0_off306 v1682) a + S4x128.size a ≤ S65536x128.size a := fun v1682 k0_hw217 => k0_hw217.2

def k0_off307 (k0_t1 : Fin k0_t1_loop.trips) : Fin 3 → Nat :=
  let c0_1138 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1689 : Index := Scalar.indexCast v976
  let c89_1139 : Index := 89#32
  ![0, v1689.toNat, 89]
def k0_mult218 (v1690 : BitVec 32) : BitVec 32 :=
  v1690

def k0_off308 (v1690 : BitVec 32) : Fin 2 → Nat :=
  let v1691 : BitVec 32 := v1690
  let v1692 : Index := Scalar.indexCast v1691
  let c0_1140 : Index := 0#32
  ![v1692.toNat, 0]

def k0_chk218 (v1690 : BitVec 32) : Prop :=
  (4 ∣ (k0_mult218 v1690).toNat) ∧
  (∀ a, (k0_off308 v1690) a + S4x128.size a ≤ S65536x128.size a)
theorem k0_mult218_dvd : ∀ (v1690 : BitVec 32) (k0_hw218 : k0_chk218 v1690), 4 ∣ (k0_mult218 v1690).toNat := fun v1690 k0_hw218 => k0_hw218.1
theorem k0_off308_inb : ∀ (v1690 : BitVec 32) (k0_hw218 : k0_chk218 v1690), ∀ a, (k0_off308 v1690) a + S4x128.size a ≤ S65536x128.size a := fun v1690 k0_hw218 => k0_hw218.2

def k0_off309 (k0_t1 : Fin k0_t1_loop.trips) : Fin 3 → Nat :=
  let c0_1143 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1697 : Index := Scalar.indexCast v976
  let c90_1144 : Index := 90#32
  ![0, v1697.toNat, 90]
def k0_mult219 (v1698 : BitVec 32) : BitVec 32 :=
  v1698

def k0_off310 (v1698 : BitVec 32) : Fin 2 → Nat :=
  let v1699 : BitVec 32 := v1698
  let v1700 : Index := Scalar.indexCast v1699
  let c0_1145 : Index := 0#32
  ![v1700.toNat, 0]

def k0_chk219 (v1698 : BitVec 32) : Prop :=
  (4 ∣ (k0_mult219 v1698).toNat) ∧
  (∀ a, (k0_off310 v1698) a + S4x128.size a ≤ S65536x128.size a)
theorem k0_mult219_dvd : ∀ (v1698 : BitVec 32) (k0_hw219 : k0_chk219 v1698), 4 ∣ (k0_mult219 v1698).toNat := fun v1698 k0_hw219 => k0_hw219.1
theorem k0_off310_inb : ∀ (v1698 : BitVec 32) (k0_hw219 : k0_chk219 v1698), ∀ a, (k0_off310 v1698) a + S4x128.size a ≤ S65536x128.size a := fun v1698 k0_hw219 => k0_hw219.2

def k0_off311 (k0_t1 : Fin k0_t1_loop.trips) : Fin 3 → Nat :=
  let c0_1148 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1705 : Index := Scalar.indexCast v976
  let c91_1149 : Index := 91#32
  ![0, v1705.toNat, 91]
def k0_mult220 (v1706 : BitVec 32) : BitVec 32 :=
  v1706

def k0_off312 (v1706 : BitVec 32) : Fin 2 → Nat :=
  let v1707 : BitVec 32 := v1706
  let v1708 : Index := Scalar.indexCast v1707
  let c0_1150 : Index := 0#32
  ![v1708.toNat, 0]

def k0_chk220 (v1706 : BitVec 32) : Prop :=
  (4 ∣ (k0_mult220 v1706).toNat) ∧
  (∀ a, (k0_off312 v1706) a + S4x128.size a ≤ S65536x128.size a)
theorem k0_mult220_dvd : ∀ (v1706 : BitVec 32) (k0_hw220 : k0_chk220 v1706), 4 ∣ (k0_mult220 v1706).toNat := fun v1706 k0_hw220 => k0_hw220.1
theorem k0_off312_inb : ∀ (v1706 : BitVec 32) (k0_hw220 : k0_chk220 v1706), ∀ a, (k0_off312 v1706) a + S4x128.size a ≤ S65536x128.size a := fun v1706 k0_hw220 => k0_hw220.2

def k0_off313 (k0_t1 : Fin k0_t1_loop.trips) : Fin 3 → Nat :=
  let c0_1153 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1713 : Index := Scalar.indexCast v976
  let c92_1154 : Index := 92#32
  ![0, v1713.toNat, 92]
def k0_mult221 (v1714 : BitVec 32) : BitVec 32 :=
  v1714

def k0_off314 (v1714 : BitVec 32) : Fin 2 → Nat :=
  let v1715 : BitVec 32 := v1714
  let v1716 : Index := Scalar.indexCast v1715
  let c0_1155 : Index := 0#32
  ![v1716.toNat, 0]

def k0_chk221 (v1714 : BitVec 32) : Prop :=
  (4 ∣ (k0_mult221 v1714).toNat) ∧
  (∀ a, (k0_off314 v1714) a + S4x128.size a ≤ S65536x128.size a)
theorem k0_mult221_dvd : ∀ (v1714 : BitVec 32) (k0_hw221 : k0_chk221 v1714), 4 ∣ (k0_mult221 v1714).toNat := fun v1714 k0_hw221 => k0_hw221.1
theorem k0_off314_inb : ∀ (v1714 : BitVec 32) (k0_hw221 : k0_chk221 v1714), ∀ a, (k0_off314 v1714) a + S4x128.size a ≤ S65536x128.size a := fun v1714 k0_hw221 => k0_hw221.2

def k0_off315 (k0_t1 : Fin k0_t1_loop.trips) : Fin 3 → Nat :=
  let c0_1158 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1721 : Index := Scalar.indexCast v976
  let c93_1159 : Index := 93#32
  ![0, v1721.toNat, 93]
def k0_mult222 (v1722 : BitVec 32) : BitVec 32 :=
  v1722

def k0_off316 (v1722 : BitVec 32) : Fin 2 → Nat :=
  let v1723 : BitVec 32 := v1722
  let v1724 : Index := Scalar.indexCast v1723
  let c0_1160 : Index := 0#32
  ![v1724.toNat, 0]

def k0_chk222 (v1722 : BitVec 32) : Prop :=
  (4 ∣ (k0_mult222 v1722).toNat) ∧
  (∀ a, (k0_off316 v1722) a + S4x128.size a ≤ S65536x128.size a)
theorem k0_mult222_dvd : ∀ (v1722 : BitVec 32) (k0_hw222 : k0_chk222 v1722), 4 ∣ (k0_mult222 v1722).toNat := fun v1722 k0_hw222 => k0_hw222.1
theorem k0_off316_inb : ∀ (v1722 : BitVec 32) (k0_hw222 : k0_chk222 v1722), ∀ a, (k0_off316 v1722) a + S4x128.size a ≤ S65536x128.size a := fun v1722 k0_hw222 => k0_hw222.2

def k0_off317 (k0_t1 : Fin k0_t1_loop.trips) : Fin 3 → Nat :=
  let c0_1163 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1729 : Index := Scalar.indexCast v976
  let c94_1164 : Index := 94#32
  ![0, v1729.toNat, 94]
def k0_mult223 (v1730 : BitVec 32) : BitVec 32 :=
  v1730

def k0_off318 (v1730 : BitVec 32) : Fin 2 → Nat :=
  let v1731 : BitVec 32 := v1730
  let v1732 : Index := Scalar.indexCast v1731
  let c0_1165 : Index := 0#32
  ![v1732.toNat, 0]

def k0_chk223 (v1730 : BitVec 32) : Prop :=
  (4 ∣ (k0_mult223 v1730).toNat) ∧
  (∀ a, (k0_off318 v1730) a + S4x128.size a ≤ S65536x128.size a)
theorem k0_mult223_dvd : ∀ (v1730 : BitVec 32) (k0_hw223 : k0_chk223 v1730), 4 ∣ (k0_mult223 v1730).toNat := fun v1730 k0_hw223 => k0_hw223.1
theorem k0_off318_inb : ∀ (v1730 : BitVec 32) (k0_hw223 : k0_chk223 v1730), ∀ a, (k0_off318 v1730) a + S4x128.size a ≤ S65536x128.size a := fun v1730 k0_hw223 => k0_hw223.2

def k0_off319 (k0_t1 : Fin k0_t1_loop.trips) : Fin 3 → Nat :=
  let c0_1168 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1737 : Index := Scalar.indexCast v976
  let c95_1169 : Index := 95#32
  ![0, v1737.toNat, 95]
def k0_mult224 (v1738 : BitVec 32) : BitVec 32 :=
  v1738

def k0_off320 (v1738 : BitVec 32) : Fin 2 → Nat :=
  let v1739 : BitVec 32 := v1738
  let v1740 : Index := Scalar.indexCast v1739
  let c0_1170 : Index := 0#32
  ![v1740.toNat, 0]

def k0_chk224 (v1738 : BitVec 32) : Prop :=
  (4 ∣ (k0_mult224 v1738).toNat) ∧
  (∀ a, (k0_off320 v1738) a + S4x128.size a ≤ S65536x128.size a)
theorem k0_mult224_dvd : ∀ (v1738 : BitVec 32) (k0_hw224 : k0_chk224 v1738), 4 ∣ (k0_mult224 v1738).toNat := fun v1738 k0_hw224 => k0_hw224.1
theorem k0_off320_inb : ∀ (v1738 : BitVec 32) (k0_hw224 : k0_chk224 v1738), ∀ a, (k0_off320 v1738) a + S4x128.size a ≤ S65536x128.size a := fun v1738 k0_hw224 => k0_hw224.2

def k0_off321 (k0_t1 : Fin k0_t1_loop.trips) : Fin 3 → Nat :=
  let c0_1173 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1745 : Index := Scalar.indexCast v976
  let c96_1174 : Index := 96#32
  ![0, v1745.toNat, 96]
def k0_mult225 (v1746 : BitVec 32) : BitVec 32 :=
  v1746

def k0_off322 (v1746 : BitVec 32) : Fin 2 → Nat :=
  let v1747 : BitVec 32 := v1746
  let v1748 : Index := Scalar.indexCast v1747
  let c0_1175 : Index := 0#32
  ![v1748.toNat, 0]

def k0_chk225 (v1746 : BitVec 32) : Prop :=
  (4 ∣ (k0_mult225 v1746).toNat) ∧
  (∀ a, (k0_off322 v1746) a + S4x128.size a ≤ S65536x128.size a)
theorem k0_mult225_dvd : ∀ (v1746 : BitVec 32) (k0_hw225 : k0_chk225 v1746), 4 ∣ (k0_mult225 v1746).toNat := fun v1746 k0_hw225 => k0_hw225.1
theorem k0_off322_inb : ∀ (v1746 : BitVec 32) (k0_hw225 : k0_chk225 v1746), ∀ a, (k0_off322 v1746) a + S4x128.size a ≤ S65536x128.size a := fun v1746 k0_hw225 => k0_hw225.2

def k0_off323 (k0_t1 : Fin k0_t1_loop.trips) : Fin 3 → Nat :=
  let c0_1178 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1753 : Index := Scalar.indexCast v976
  let c97_1179 : Index := 97#32
  ![0, v1753.toNat, 97]
def k0_mult226 (v1754 : BitVec 32) : BitVec 32 :=
  v1754

def k0_off324 (v1754 : BitVec 32) : Fin 2 → Nat :=
  let v1755 : BitVec 32 := v1754
  let v1756 : Index := Scalar.indexCast v1755
  let c0_1180 : Index := 0#32
  ![v1756.toNat, 0]

def k0_chk226 (v1754 : BitVec 32) : Prop :=
  (4 ∣ (k0_mult226 v1754).toNat) ∧
  (∀ a, (k0_off324 v1754) a + S4x128.size a ≤ S65536x128.size a)
theorem k0_mult226_dvd : ∀ (v1754 : BitVec 32) (k0_hw226 : k0_chk226 v1754), 4 ∣ (k0_mult226 v1754).toNat := fun v1754 k0_hw226 => k0_hw226.1
theorem k0_off324_inb : ∀ (v1754 : BitVec 32) (k0_hw226 : k0_chk226 v1754), ∀ a, (k0_off324 v1754) a + S4x128.size a ≤ S65536x128.size a := fun v1754 k0_hw226 => k0_hw226.2

def k0_off325 (k0_t1 : Fin k0_t1_loop.trips) : Fin 3 → Nat :=
  let c0_1183 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1761 : Index := Scalar.indexCast v976
  let c98_1184 : Index := 98#32
  ![0, v1761.toNat, 98]
def k0_mult227 (v1762 : BitVec 32) : BitVec 32 :=
  v1762

def k0_off326 (v1762 : BitVec 32) : Fin 2 → Nat :=
  let v1763 : BitVec 32 := v1762
  let v1764 : Index := Scalar.indexCast v1763
  let c0_1185 : Index := 0#32
  ![v1764.toNat, 0]

def k0_chk227 (v1762 : BitVec 32) : Prop :=
  (4 ∣ (k0_mult227 v1762).toNat) ∧
  (∀ a, (k0_off326 v1762) a + S4x128.size a ≤ S65536x128.size a)
theorem k0_mult227_dvd : ∀ (v1762 : BitVec 32) (k0_hw227 : k0_chk227 v1762), 4 ∣ (k0_mult227 v1762).toNat := fun v1762 k0_hw227 => k0_hw227.1
theorem k0_off326_inb : ∀ (v1762 : BitVec 32) (k0_hw227 : k0_chk227 v1762), ∀ a, (k0_off326 v1762) a + S4x128.size a ≤ S65536x128.size a := fun v1762 k0_hw227 => k0_hw227.2

def k0_off327 (k0_t1 : Fin k0_t1_loop.trips) : Fin 3 → Nat :=
  let c0_1188 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1769 : Index := Scalar.indexCast v976
  let c99_1189 : Index := 99#32
  ![0, v1769.toNat, 99]
def k0_mult228 (v1770 : BitVec 32) : BitVec 32 :=
  v1770

def k0_off328 (v1770 : BitVec 32) : Fin 2 → Nat :=
  let v1771 : BitVec 32 := v1770
  let v1772 : Index := Scalar.indexCast v1771
  let c0_1190 : Index := 0#32
  ![v1772.toNat, 0]

def k0_chk228 (v1770 : BitVec 32) : Prop :=
  (4 ∣ (k0_mult228 v1770).toNat) ∧
  (∀ a, (k0_off328 v1770) a + S4x128.size a ≤ S65536x128.size a)
theorem k0_mult228_dvd : ∀ (v1770 : BitVec 32) (k0_hw228 : k0_chk228 v1770), 4 ∣ (k0_mult228 v1770).toNat := fun v1770 k0_hw228 => k0_hw228.1
theorem k0_off328_inb : ∀ (v1770 : BitVec 32) (k0_hw228 : k0_chk228 v1770), ∀ a, (k0_off328 v1770) a + S4x128.size a ≤ S65536x128.size a := fun v1770 k0_hw228 => k0_hw228.2

def k0_off329 (k0_t1 : Fin k0_t1_loop.trips) : Fin 3 → Nat :=
  let c0_1193 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1777 : Index := Scalar.indexCast v976
  let c100_1194 : Index := 100#32
  ![0, v1777.toNat, 100]
def k0_mult229 (v1778 : BitVec 32) : BitVec 32 :=
  v1778

def k0_off330 (v1778 : BitVec 32) : Fin 2 → Nat :=
  let v1779 : BitVec 32 := v1778
  let v1780 : Index := Scalar.indexCast v1779
  let c0_1195 : Index := 0#32
  ![v1780.toNat, 0]

def k0_chk229 (v1778 : BitVec 32) : Prop :=
  (4 ∣ (k0_mult229 v1778).toNat) ∧
  (∀ a, (k0_off330 v1778) a + S4x128.size a ≤ S65536x128.size a)
theorem k0_mult229_dvd : ∀ (v1778 : BitVec 32) (k0_hw229 : k0_chk229 v1778), 4 ∣ (k0_mult229 v1778).toNat := fun v1778 k0_hw229 => k0_hw229.1
theorem k0_off330_inb : ∀ (v1778 : BitVec 32) (k0_hw229 : k0_chk229 v1778), ∀ a, (k0_off330 v1778) a + S4x128.size a ≤ S65536x128.size a := fun v1778 k0_hw229 => k0_hw229.2

def k0_off331 (k0_t1 : Fin k0_t1_loop.trips) : Fin 3 → Nat :=
  let c0_1198 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1785 : Index := Scalar.indexCast v976
  let c101_1199 : Index := 101#32
  ![0, v1785.toNat, 101]
def k0_mult230 (v1786 : BitVec 32) : BitVec 32 :=
  v1786

def k0_off332 (v1786 : BitVec 32) : Fin 2 → Nat :=
  let v1787 : BitVec 32 := v1786
  let v1788 : Index := Scalar.indexCast v1787
  let c0_1200 : Index := 0#32
  ![v1788.toNat, 0]

def k0_chk230 (v1786 : BitVec 32) : Prop :=
  (4 ∣ (k0_mult230 v1786).toNat) ∧
  (∀ a, (k0_off332 v1786) a + S4x128.size a ≤ S65536x128.size a)
theorem k0_mult230_dvd : ∀ (v1786 : BitVec 32) (k0_hw230 : k0_chk230 v1786), 4 ∣ (k0_mult230 v1786).toNat := fun v1786 k0_hw230 => k0_hw230.1
theorem k0_off332_inb : ∀ (v1786 : BitVec 32) (k0_hw230 : k0_chk230 v1786), ∀ a, (k0_off332 v1786) a + S4x128.size a ≤ S65536x128.size a := fun v1786 k0_hw230 => k0_hw230.2

def k0_off333 (k0_t1 : Fin k0_t1_loop.trips) : Fin 3 → Nat :=
  let c0_1203 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1793 : Index := Scalar.indexCast v976
  let c102_1204 : Index := 102#32
  ![0, v1793.toNat, 102]
def k0_mult231 (v1794 : BitVec 32) : BitVec 32 :=
  v1794

def k0_off334 (v1794 : BitVec 32) : Fin 2 → Nat :=
  let v1795 : BitVec 32 := v1794
  let v1796 : Index := Scalar.indexCast v1795
  let c0_1205 : Index := 0#32
  ![v1796.toNat, 0]

def k0_chk231 (v1794 : BitVec 32) : Prop :=
  (4 ∣ (k0_mult231 v1794).toNat) ∧
  (∀ a, (k0_off334 v1794) a + S4x128.size a ≤ S65536x128.size a)
theorem k0_mult231_dvd : ∀ (v1794 : BitVec 32) (k0_hw231 : k0_chk231 v1794), 4 ∣ (k0_mult231 v1794).toNat := fun v1794 k0_hw231 => k0_hw231.1
theorem k0_off334_inb : ∀ (v1794 : BitVec 32) (k0_hw231 : k0_chk231 v1794), ∀ a, (k0_off334 v1794) a + S4x128.size a ≤ S65536x128.size a := fun v1794 k0_hw231 => k0_hw231.2

def k0_off335 (k0_t1 : Fin k0_t1_loop.trips) : Fin 3 → Nat :=
  let c0_1208 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1801 : Index := Scalar.indexCast v976
  let c103_1209 : Index := 103#32
  ![0, v1801.toNat, 103]
def k0_mult232 (v1802 : BitVec 32) : BitVec 32 :=
  v1802

def k0_off336 (v1802 : BitVec 32) : Fin 2 → Nat :=
  let v1803 : BitVec 32 := v1802
  let v1804 : Index := Scalar.indexCast v1803
  let c0_1210 : Index := 0#32
  ![v1804.toNat, 0]

def k0_chk232 (v1802 : BitVec 32) : Prop :=
  (4 ∣ (k0_mult232 v1802).toNat) ∧
  (∀ a, (k0_off336 v1802) a + S4x128.size a ≤ S65536x128.size a)
theorem k0_mult232_dvd : ∀ (v1802 : BitVec 32) (k0_hw232 : k0_chk232 v1802), 4 ∣ (k0_mult232 v1802).toNat := fun v1802 k0_hw232 => k0_hw232.1
theorem k0_off336_inb : ∀ (v1802 : BitVec 32) (k0_hw232 : k0_chk232 v1802), ∀ a, (k0_off336 v1802) a + S4x128.size a ≤ S65536x128.size a := fun v1802 k0_hw232 => k0_hw232.2

def k0_off337 (k0_t1 : Fin k0_t1_loop.trips) : Fin 3 → Nat :=
  let c0_1213 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1809 : Index := Scalar.indexCast v976
  let c104_1214 : Index := 104#32
  ![0, v1809.toNat, 104]
def k0_mult233 (v1810 : BitVec 32) : BitVec 32 :=
  v1810

def k0_off338 (v1810 : BitVec 32) : Fin 2 → Nat :=
  let v1811 : BitVec 32 := v1810
  let v1812 : Index := Scalar.indexCast v1811
  let c0_1215 : Index := 0#32
  ![v1812.toNat, 0]

def k0_chk233 (v1810 : BitVec 32) : Prop :=
  (4 ∣ (k0_mult233 v1810).toNat) ∧
  (∀ a, (k0_off338 v1810) a + S4x128.size a ≤ S65536x128.size a)
theorem k0_mult233_dvd : ∀ (v1810 : BitVec 32) (k0_hw233 : k0_chk233 v1810), 4 ∣ (k0_mult233 v1810).toNat := fun v1810 k0_hw233 => k0_hw233.1
theorem k0_off338_inb : ∀ (v1810 : BitVec 32) (k0_hw233 : k0_chk233 v1810), ∀ a, (k0_off338 v1810) a + S4x128.size a ≤ S65536x128.size a := fun v1810 k0_hw233 => k0_hw233.2

def k0_off339 (k0_t1 : Fin k0_t1_loop.trips) : Fin 3 → Nat :=
  let c0_1218 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1817 : Index := Scalar.indexCast v976
  let c105_1219 : Index := 105#32
  ![0, v1817.toNat, 105]
def k0_mult234 (v1818 : BitVec 32) : BitVec 32 :=
  v1818

def k0_off340 (v1818 : BitVec 32) : Fin 2 → Nat :=
  let v1819 : BitVec 32 := v1818
  let v1820 : Index := Scalar.indexCast v1819
  let c0_1220 : Index := 0#32
  ![v1820.toNat, 0]

def k0_chk234 (v1818 : BitVec 32) : Prop :=
  (4 ∣ (k0_mult234 v1818).toNat) ∧
  (∀ a, (k0_off340 v1818) a + S4x128.size a ≤ S65536x128.size a)
theorem k0_mult234_dvd : ∀ (v1818 : BitVec 32) (k0_hw234 : k0_chk234 v1818), 4 ∣ (k0_mult234 v1818).toNat := fun v1818 k0_hw234 => k0_hw234.1
theorem k0_off340_inb : ∀ (v1818 : BitVec 32) (k0_hw234 : k0_chk234 v1818), ∀ a, (k0_off340 v1818) a + S4x128.size a ≤ S65536x128.size a := fun v1818 k0_hw234 => k0_hw234.2

def k0_off341 (k0_t1 : Fin k0_t1_loop.trips) : Fin 3 → Nat :=
  let c0_1223 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1825 : Index := Scalar.indexCast v976
  let c106_1224 : Index := 106#32
  ![0, v1825.toNat, 106]
def k0_mult235 (v1826 : BitVec 32) : BitVec 32 :=
  v1826

def k0_off342 (v1826 : BitVec 32) : Fin 2 → Nat :=
  let v1827 : BitVec 32 := v1826
  let v1828 : Index := Scalar.indexCast v1827
  let c0_1225 : Index := 0#32
  ![v1828.toNat, 0]

def k0_chk235 (v1826 : BitVec 32) : Prop :=
  (4 ∣ (k0_mult235 v1826).toNat) ∧
  (∀ a, (k0_off342 v1826) a + S4x128.size a ≤ S65536x128.size a)
theorem k0_mult235_dvd : ∀ (v1826 : BitVec 32) (k0_hw235 : k0_chk235 v1826), 4 ∣ (k0_mult235 v1826).toNat := fun v1826 k0_hw235 => k0_hw235.1
theorem k0_off342_inb : ∀ (v1826 : BitVec 32) (k0_hw235 : k0_chk235 v1826), ∀ a, (k0_off342 v1826) a + S4x128.size a ≤ S65536x128.size a := fun v1826 k0_hw235 => k0_hw235.2

def k0_off343 (k0_t1 : Fin k0_t1_loop.trips) : Fin 3 → Nat :=
  let c0_1228 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1833 : Index := Scalar.indexCast v976
  let c107_1229 : Index := 107#32
  ![0, v1833.toNat, 107]
def k0_mult236 (v1834 : BitVec 32) : BitVec 32 :=
  v1834

def k0_off344 (v1834 : BitVec 32) : Fin 2 → Nat :=
  let v1835 : BitVec 32 := v1834
  let v1836 : Index := Scalar.indexCast v1835
  let c0_1230 : Index := 0#32
  ![v1836.toNat, 0]

def k0_chk236 (v1834 : BitVec 32) : Prop :=
  (4 ∣ (k0_mult236 v1834).toNat) ∧
  (∀ a, (k0_off344 v1834) a + S4x128.size a ≤ S65536x128.size a)
theorem k0_mult236_dvd : ∀ (v1834 : BitVec 32) (k0_hw236 : k0_chk236 v1834), 4 ∣ (k0_mult236 v1834).toNat := fun v1834 k0_hw236 => k0_hw236.1
theorem k0_off344_inb : ∀ (v1834 : BitVec 32) (k0_hw236 : k0_chk236 v1834), ∀ a, (k0_off344 v1834) a + S4x128.size a ≤ S65536x128.size a := fun v1834 k0_hw236 => k0_hw236.2

def k0_off345 (k0_t1 : Fin k0_t1_loop.trips) : Fin 3 → Nat :=
  let c0_1233 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1841 : Index := Scalar.indexCast v976
  let c108_1234 : Index := 108#32
  ![0, v1841.toNat, 108]
def k0_mult237 (v1842 : BitVec 32) : BitVec 32 :=
  v1842

def k0_off346 (v1842 : BitVec 32) : Fin 2 → Nat :=
  let v1843 : BitVec 32 := v1842
  let v1844 : Index := Scalar.indexCast v1843
  let c0_1235 : Index := 0#32
  ![v1844.toNat, 0]

def k0_chk237 (v1842 : BitVec 32) : Prop :=
  (4 ∣ (k0_mult237 v1842).toNat) ∧
  (∀ a, (k0_off346 v1842) a + S4x128.size a ≤ S65536x128.size a)
theorem k0_mult237_dvd : ∀ (v1842 : BitVec 32) (k0_hw237 : k0_chk237 v1842), 4 ∣ (k0_mult237 v1842).toNat := fun v1842 k0_hw237 => k0_hw237.1
theorem k0_off346_inb : ∀ (v1842 : BitVec 32) (k0_hw237 : k0_chk237 v1842), ∀ a, (k0_off346 v1842) a + S4x128.size a ≤ S65536x128.size a := fun v1842 k0_hw237 => k0_hw237.2

def k0_off347 (k0_t1 : Fin k0_t1_loop.trips) : Fin 3 → Nat :=
  let c0_1238 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1849 : Index := Scalar.indexCast v976
  let c109_1239 : Index := 109#32
  ![0, v1849.toNat, 109]
def k0_mult238 (v1850 : BitVec 32) : BitVec 32 :=
  v1850

def k0_off348 (v1850 : BitVec 32) : Fin 2 → Nat :=
  let v1851 : BitVec 32 := v1850
  let v1852 : Index := Scalar.indexCast v1851
  let c0_1240 : Index := 0#32
  ![v1852.toNat, 0]

def k0_chk238 (v1850 : BitVec 32) : Prop :=
  (4 ∣ (k0_mult238 v1850).toNat) ∧
  (∀ a, (k0_off348 v1850) a + S4x128.size a ≤ S65536x128.size a)
theorem k0_mult238_dvd : ∀ (v1850 : BitVec 32) (k0_hw238 : k0_chk238 v1850), 4 ∣ (k0_mult238 v1850).toNat := fun v1850 k0_hw238 => k0_hw238.1
theorem k0_off348_inb : ∀ (v1850 : BitVec 32) (k0_hw238 : k0_chk238 v1850), ∀ a, (k0_off348 v1850) a + S4x128.size a ≤ S65536x128.size a := fun v1850 k0_hw238 => k0_hw238.2

def k0_off349 (k0_t1 : Fin k0_t1_loop.trips) : Fin 3 → Nat :=
  let c0_1243 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1857 : Index := Scalar.indexCast v976
  let c110_1244 : Index := 110#32
  ![0, v1857.toNat, 110]
def k0_mult239 (v1858 : BitVec 32) : BitVec 32 :=
  v1858

def k0_off350 (v1858 : BitVec 32) : Fin 2 → Nat :=
  let v1859 : BitVec 32 := v1858
  let v1860 : Index := Scalar.indexCast v1859
  let c0_1245 : Index := 0#32
  ![v1860.toNat, 0]

def k0_chk239 (v1858 : BitVec 32) : Prop :=
  (4 ∣ (k0_mult239 v1858).toNat) ∧
  (∀ a, (k0_off350 v1858) a + S4x128.size a ≤ S65536x128.size a)
theorem k0_mult239_dvd : ∀ (v1858 : BitVec 32) (k0_hw239 : k0_chk239 v1858), 4 ∣ (k0_mult239 v1858).toNat := fun v1858 k0_hw239 => k0_hw239.1
theorem k0_off350_inb : ∀ (v1858 : BitVec 32) (k0_hw239 : k0_chk239 v1858), ∀ a, (k0_off350 v1858) a + S4x128.size a ≤ S65536x128.size a := fun v1858 k0_hw239 => k0_hw239.2

def k0_off351 (k0_t1 : Fin k0_t1_loop.trips) : Fin 3 → Nat :=
  let c0_1248 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1865 : Index := Scalar.indexCast v976
  let c111_1249 : Index := 111#32
  ![0, v1865.toNat, 111]
def k0_mult240 (v1866 : BitVec 32) : BitVec 32 :=
  v1866

def k0_off352 (v1866 : BitVec 32) : Fin 2 → Nat :=
  let v1867 : BitVec 32 := v1866
  let v1868 : Index := Scalar.indexCast v1867
  let c0_1250 : Index := 0#32
  ![v1868.toNat, 0]

def k0_chk240 (v1866 : BitVec 32) : Prop :=
  (4 ∣ (k0_mult240 v1866).toNat) ∧
  (∀ a, (k0_off352 v1866) a + S4x128.size a ≤ S65536x128.size a)
theorem k0_mult240_dvd : ∀ (v1866 : BitVec 32) (k0_hw240 : k0_chk240 v1866), 4 ∣ (k0_mult240 v1866).toNat := fun v1866 k0_hw240 => k0_hw240.1
theorem k0_off352_inb : ∀ (v1866 : BitVec 32) (k0_hw240 : k0_chk240 v1866), ∀ a, (k0_off352 v1866) a + S4x128.size a ≤ S65536x128.size a := fun v1866 k0_hw240 => k0_hw240.2

def k0_off353 (k0_t1 : Fin k0_t1_loop.trips) : Fin 3 → Nat :=
  let c0_1253 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1873 : Index := Scalar.indexCast v976
  let c112_1254 : Index := 112#32
  ![0, v1873.toNat, 112]
def k0_mult241 (v1874 : BitVec 32) : BitVec 32 :=
  v1874

def k0_off354 (v1874 : BitVec 32) : Fin 2 → Nat :=
  let v1875 : BitVec 32 := v1874
  let v1876 : Index := Scalar.indexCast v1875
  let c0_1255 : Index := 0#32
  ![v1876.toNat, 0]

def k0_chk241 (v1874 : BitVec 32) : Prop :=
  (4 ∣ (k0_mult241 v1874).toNat) ∧
  (∀ a, (k0_off354 v1874) a + S4x128.size a ≤ S65536x128.size a)
theorem k0_mult241_dvd : ∀ (v1874 : BitVec 32) (k0_hw241 : k0_chk241 v1874), 4 ∣ (k0_mult241 v1874).toNat := fun v1874 k0_hw241 => k0_hw241.1
theorem k0_off354_inb : ∀ (v1874 : BitVec 32) (k0_hw241 : k0_chk241 v1874), ∀ a, (k0_off354 v1874) a + S4x128.size a ≤ S65536x128.size a := fun v1874 k0_hw241 => k0_hw241.2

def k0_off355 (k0_t1 : Fin k0_t1_loop.trips) : Fin 3 → Nat :=
  let c0_1258 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1881 : Index := Scalar.indexCast v976
  let c113_1259 : Index := 113#32
  ![0, v1881.toNat, 113]
def k0_mult242 (v1882 : BitVec 32) : BitVec 32 :=
  v1882

def k0_off356 (v1882 : BitVec 32) : Fin 2 → Nat :=
  let v1883 : BitVec 32 := v1882
  let v1884 : Index := Scalar.indexCast v1883
  let c0_1260 : Index := 0#32
  ![v1884.toNat, 0]

def k0_chk242 (v1882 : BitVec 32) : Prop :=
  (4 ∣ (k0_mult242 v1882).toNat) ∧
  (∀ a, (k0_off356 v1882) a + S4x128.size a ≤ S65536x128.size a)
theorem k0_mult242_dvd : ∀ (v1882 : BitVec 32) (k0_hw242 : k0_chk242 v1882), 4 ∣ (k0_mult242 v1882).toNat := fun v1882 k0_hw242 => k0_hw242.1
theorem k0_off356_inb : ∀ (v1882 : BitVec 32) (k0_hw242 : k0_chk242 v1882), ∀ a, (k0_off356 v1882) a + S4x128.size a ≤ S65536x128.size a := fun v1882 k0_hw242 => k0_hw242.2

def k0_off357 (k0_t1 : Fin k0_t1_loop.trips) : Fin 3 → Nat :=
  let c0_1263 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1889 : Index := Scalar.indexCast v976
  let c114_1264 : Index := 114#32
  ![0, v1889.toNat, 114]
def k0_mult243 (v1890 : BitVec 32) : BitVec 32 :=
  v1890

def k0_off358 (v1890 : BitVec 32) : Fin 2 → Nat :=
  let v1891 : BitVec 32 := v1890
  let v1892 : Index := Scalar.indexCast v1891
  let c0_1265 : Index := 0#32
  ![v1892.toNat, 0]

def k0_chk243 (v1890 : BitVec 32) : Prop :=
  (4 ∣ (k0_mult243 v1890).toNat) ∧
  (∀ a, (k0_off358 v1890) a + S4x128.size a ≤ S65536x128.size a)
theorem k0_mult243_dvd : ∀ (v1890 : BitVec 32) (k0_hw243 : k0_chk243 v1890), 4 ∣ (k0_mult243 v1890).toNat := fun v1890 k0_hw243 => k0_hw243.1
theorem k0_off358_inb : ∀ (v1890 : BitVec 32) (k0_hw243 : k0_chk243 v1890), ∀ a, (k0_off358 v1890) a + S4x128.size a ≤ S65536x128.size a := fun v1890 k0_hw243 => k0_hw243.2

def k0_off359 (k0_t1 : Fin k0_t1_loop.trips) : Fin 3 → Nat :=
  let c0_1268 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1897 : Index := Scalar.indexCast v976
  let c115_1269 : Index := 115#32
  ![0, v1897.toNat, 115]
def k0_mult244 (v1898 : BitVec 32) : BitVec 32 :=
  v1898

def k0_off360 (v1898 : BitVec 32) : Fin 2 → Nat :=
  let v1899 : BitVec 32 := v1898
  let v1900 : Index := Scalar.indexCast v1899
  let c0_1270 : Index := 0#32
  ![v1900.toNat, 0]

def k0_chk244 (v1898 : BitVec 32) : Prop :=
  (4 ∣ (k0_mult244 v1898).toNat) ∧
  (∀ a, (k0_off360 v1898) a + S4x128.size a ≤ S65536x128.size a)
theorem k0_mult244_dvd : ∀ (v1898 : BitVec 32) (k0_hw244 : k0_chk244 v1898), 4 ∣ (k0_mult244 v1898).toNat := fun v1898 k0_hw244 => k0_hw244.1
theorem k0_off360_inb : ∀ (v1898 : BitVec 32) (k0_hw244 : k0_chk244 v1898), ∀ a, (k0_off360 v1898) a + S4x128.size a ≤ S65536x128.size a := fun v1898 k0_hw244 => k0_hw244.2

def k0_off361 (k0_t1 : Fin k0_t1_loop.trips) : Fin 3 → Nat :=
  let c0_1273 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1905 : Index := Scalar.indexCast v976
  let c116_1274 : Index := 116#32
  ![0, v1905.toNat, 116]
def k0_mult245 (v1906 : BitVec 32) : BitVec 32 :=
  v1906

def k0_off362 (v1906 : BitVec 32) : Fin 2 → Nat :=
  let v1907 : BitVec 32 := v1906
  let v1908 : Index := Scalar.indexCast v1907
  let c0_1275 : Index := 0#32
  ![v1908.toNat, 0]

def k0_chk245 (v1906 : BitVec 32) : Prop :=
  (4 ∣ (k0_mult245 v1906).toNat) ∧
  (∀ a, (k0_off362 v1906) a + S4x128.size a ≤ S65536x128.size a)
theorem k0_mult245_dvd : ∀ (v1906 : BitVec 32) (k0_hw245 : k0_chk245 v1906), 4 ∣ (k0_mult245 v1906).toNat := fun v1906 k0_hw245 => k0_hw245.1
theorem k0_off362_inb : ∀ (v1906 : BitVec 32) (k0_hw245 : k0_chk245 v1906), ∀ a, (k0_off362 v1906) a + S4x128.size a ≤ S65536x128.size a := fun v1906 k0_hw245 => k0_hw245.2

def k0_off363 (k0_t1 : Fin k0_t1_loop.trips) : Fin 3 → Nat :=
  let c0_1278 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1913 : Index := Scalar.indexCast v976
  let c117_1279 : Index := 117#32
  ![0, v1913.toNat, 117]
def k0_mult246 (v1914 : BitVec 32) : BitVec 32 :=
  v1914

def k0_off364 (v1914 : BitVec 32) : Fin 2 → Nat :=
  let v1915 : BitVec 32 := v1914
  let v1916 : Index := Scalar.indexCast v1915
  let c0_1280 : Index := 0#32
  ![v1916.toNat, 0]

def k0_chk246 (v1914 : BitVec 32) : Prop :=
  (4 ∣ (k0_mult246 v1914).toNat) ∧
  (∀ a, (k0_off364 v1914) a + S4x128.size a ≤ S65536x128.size a)
theorem k0_mult246_dvd : ∀ (v1914 : BitVec 32) (k0_hw246 : k0_chk246 v1914), 4 ∣ (k0_mult246 v1914).toNat := fun v1914 k0_hw246 => k0_hw246.1
theorem k0_off364_inb : ∀ (v1914 : BitVec 32) (k0_hw246 : k0_chk246 v1914), ∀ a, (k0_off364 v1914) a + S4x128.size a ≤ S65536x128.size a := fun v1914 k0_hw246 => k0_hw246.2

def k0_off365 (k0_t1 : Fin k0_t1_loop.trips) : Fin 3 → Nat :=
  let c0_1283 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1921 : Index := Scalar.indexCast v976
  let c118_1284 : Index := 118#32
  ![0, v1921.toNat, 118]
def k0_mult247 (v1922 : BitVec 32) : BitVec 32 :=
  v1922

def k0_off366 (v1922 : BitVec 32) : Fin 2 → Nat :=
  let v1923 : BitVec 32 := v1922
  let v1924 : Index := Scalar.indexCast v1923
  let c0_1285 : Index := 0#32
  ![v1924.toNat, 0]

def k0_chk247 (v1922 : BitVec 32) : Prop :=
  (4 ∣ (k0_mult247 v1922).toNat) ∧
  (∀ a, (k0_off366 v1922) a + S4x128.size a ≤ S65536x128.size a)
theorem k0_mult247_dvd : ∀ (v1922 : BitVec 32) (k0_hw247 : k0_chk247 v1922), 4 ∣ (k0_mult247 v1922).toNat := fun v1922 k0_hw247 => k0_hw247.1
theorem k0_off366_inb : ∀ (v1922 : BitVec 32) (k0_hw247 : k0_chk247 v1922), ∀ a, (k0_off366 v1922) a + S4x128.size a ≤ S65536x128.size a := fun v1922 k0_hw247 => k0_hw247.2

def k0_off367 (k0_t1 : Fin k0_t1_loop.trips) : Fin 3 → Nat :=
  let c0_1288 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1929 : Index := Scalar.indexCast v976
  let c119_1289 : Index := 119#32
  ![0, v1929.toNat, 119]
def k0_mult248 (v1930 : BitVec 32) : BitVec 32 :=
  v1930

def k0_off368 (v1930 : BitVec 32) : Fin 2 → Nat :=
  let v1931 : BitVec 32 := v1930
  let v1932 : Index := Scalar.indexCast v1931
  let c0_1290 : Index := 0#32
  ![v1932.toNat, 0]

def k0_chk248 (v1930 : BitVec 32) : Prop :=
  (4 ∣ (k0_mult248 v1930).toNat) ∧
  (∀ a, (k0_off368 v1930) a + S4x128.size a ≤ S65536x128.size a)
theorem k0_mult248_dvd : ∀ (v1930 : BitVec 32) (k0_hw248 : k0_chk248 v1930), 4 ∣ (k0_mult248 v1930).toNat := fun v1930 k0_hw248 => k0_hw248.1
theorem k0_off368_inb : ∀ (v1930 : BitVec 32) (k0_hw248 : k0_chk248 v1930), ∀ a, (k0_off368 v1930) a + S4x128.size a ≤ S65536x128.size a := fun v1930 k0_hw248 => k0_hw248.2

def k0_off369 (k0_t1 : Fin k0_t1_loop.trips) : Fin 3 → Nat :=
  let c0_1293 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1937 : Index := Scalar.indexCast v976
  let c120_1294 : Index := 120#32
  ![0, v1937.toNat, 120]
def k0_mult249 (v1938 : BitVec 32) : BitVec 32 :=
  v1938

def k0_off370 (v1938 : BitVec 32) : Fin 2 → Nat :=
  let v1939 : BitVec 32 := v1938
  let v1940 : Index := Scalar.indexCast v1939
  let c0_1295 : Index := 0#32
  ![v1940.toNat, 0]

def k0_chk249 (v1938 : BitVec 32) : Prop :=
  (4 ∣ (k0_mult249 v1938).toNat) ∧
  (∀ a, (k0_off370 v1938) a + S4x128.size a ≤ S65536x128.size a)
theorem k0_mult249_dvd : ∀ (v1938 : BitVec 32) (k0_hw249 : k0_chk249 v1938), 4 ∣ (k0_mult249 v1938).toNat := fun v1938 k0_hw249 => k0_hw249.1
theorem k0_off370_inb : ∀ (v1938 : BitVec 32) (k0_hw249 : k0_chk249 v1938), ∀ a, (k0_off370 v1938) a + S4x128.size a ≤ S65536x128.size a := fun v1938 k0_hw249 => k0_hw249.2

def k0_off371 (k0_t1 : Fin k0_t1_loop.trips) : Fin 3 → Nat :=
  let c0_1298 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1945 : Index := Scalar.indexCast v976
  let c121_1299 : Index := 121#32
  ![0, v1945.toNat, 121]
def k0_mult250 (v1946 : BitVec 32) : BitVec 32 :=
  v1946

def k0_off372 (v1946 : BitVec 32) : Fin 2 → Nat :=
  let v1947 : BitVec 32 := v1946
  let v1948 : Index := Scalar.indexCast v1947
  let c0_1300 : Index := 0#32
  ![v1948.toNat, 0]

def k0_chk250 (v1946 : BitVec 32) : Prop :=
  (4 ∣ (k0_mult250 v1946).toNat) ∧
  (∀ a, (k0_off372 v1946) a + S4x128.size a ≤ S65536x128.size a)
theorem k0_mult250_dvd : ∀ (v1946 : BitVec 32) (k0_hw250 : k0_chk250 v1946), 4 ∣ (k0_mult250 v1946).toNat := fun v1946 k0_hw250 => k0_hw250.1
theorem k0_off372_inb : ∀ (v1946 : BitVec 32) (k0_hw250 : k0_chk250 v1946), ∀ a, (k0_off372 v1946) a + S4x128.size a ≤ S65536x128.size a := fun v1946 k0_hw250 => k0_hw250.2

def k0_off373 (k0_t1 : Fin k0_t1_loop.trips) : Fin 3 → Nat :=
  let c0_1303 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1953 : Index := Scalar.indexCast v976
  let c122_1304 : Index := 122#32
  ![0, v1953.toNat, 122]
def k0_mult251 (v1954 : BitVec 32) : BitVec 32 :=
  v1954

def k0_off374 (v1954 : BitVec 32) : Fin 2 → Nat :=
  let v1955 : BitVec 32 := v1954
  let v1956 : Index := Scalar.indexCast v1955
  let c0_1305 : Index := 0#32
  ![v1956.toNat, 0]

def k0_chk251 (v1954 : BitVec 32) : Prop :=
  (4 ∣ (k0_mult251 v1954).toNat) ∧
  (∀ a, (k0_off374 v1954) a + S4x128.size a ≤ S65536x128.size a)
theorem k0_mult251_dvd : ∀ (v1954 : BitVec 32) (k0_hw251 : k0_chk251 v1954), 4 ∣ (k0_mult251 v1954).toNat := fun v1954 k0_hw251 => k0_hw251.1
theorem k0_off374_inb : ∀ (v1954 : BitVec 32) (k0_hw251 : k0_chk251 v1954), ∀ a, (k0_off374 v1954) a + S4x128.size a ≤ S65536x128.size a := fun v1954 k0_hw251 => k0_hw251.2

def k0_off375 (k0_t1 : Fin k0_t1_loop.trips) : Fin 3 → Nat :=
  let c0_1308 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1961 : Index := Scalar.indexCast v976
  let c123_1309 : Index := 123#32
  ![0, v1961.toNat, 123]
def k0_mult252 (v1962 : BitVec 32) : BitVec 32 :=
  v1962

def k0_off376 (v1962 : BitVec 32) : Fin 2 → Nat :=
  let v1963 : BitVec 32 := v1962
  let v1964 : Index := Scalar.indexCast v1963
  let c0_1310 : Index := 0#32
  ![v1964.toNat, 0]

def k0_chk252 (v1962 : BitVec 32) : Prop :=
  (4 ∣ (k0_mult252 v1962).toNat) ∧
  (∀ a, (k0_off376 v1962) a + S4x128.size a ≤ S65536x128.size a)
theorem k0_mult252_dvd : ∀ (v1962 : BitVec 32) (k0_hw252 : k0_chk252 v1962), 4 ∣ (k0_mult252 v1962).toNat := fun v1962 k0_hw252 => k0_hw252.1
theorem k0_off376_inb : ∀ (v1962 : BitVec 32) (k0_hw252 : k0_chk252 v1962), ∀ a, (k0_off376 v1962) a + S4x128.size a ≤ S65536x128.size a := fun v1962 k0_hw252 => k0_hw252.2

def k0_off377 (k0_t1 : Fin k0_t1_loop.trips) : Fin 3 → Nat :=
  let c0_1313 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1969 : Index := Scalar.indexCast v976
  let c124_1314 : Index := 124#32
  ![0, v1969.toNat, 124]
def k0_mult253 (v1970 : BitVec 32) : BitVec 32 :=
  v1970

def k0_off378 (v1970 : BitVec 32) : Fin 2 → Nat :=
  let v1971 : BitVec 32 := v1970
  let v1972 : Index := Scalar.indexCast v1971
  let c0_1315 : Index := 0#32
  ![v1972.toNat, 0]

def k0_chk253 (v1970 : BitVec 32) : Prop :=
  (4 ∣ (k0_mult253 v1970).toNat) ∧
  (∀ a, (k0_off378 v1970) a + S4x128.size a ≤ S65536x128.size a)
theorem k0_mult253_dvd : ∀ (v1970 : BitVec 32) (k0_hw253 : k0_chk253 v1970), 4 ∣ (k0_mult253 v1970).toNat := fun v1970 k0_hw253 => k0_hw253.1
theorem k0_off378_inb : ∀ (v1970 : BitVec 32) (k0_hw253 : k0_chk253 v1970), ∀ a, (k0_off378 v1970) a + S4x128.size a ≤ S65536x128.size a := fun v1970 k0_hw253 => k0_hw253.2

def k0_off379 (k0_t1 : Fin k0_t1_loop.trips) : Fin 3 → Nat :=
  let c0_1318 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1977 : Index := Scalar.indexCast v976
  let c125_1319 : Index := 125#32
  ![0, v1977.toNat, 125]
def k0_mult254 (v1978 : BitVec 32) : BitVec 32 :=
  v1978

def k0_off380 (v1978 : BitVec 32) : Fin 2 → Nat :=
  let v1979 : BitVec 32 := v1978
  let v1980 : Index := Scalar.indexCast v1979
  let c0_1320 : Index := 0#32
  ![v1980.toNat, 0]

def k0_chk254 (v1978 : BitVec 32) : Prop :=
  (4 ∣ (k0_mult254 v1978).toNat) ∧
  (∀ a, (k0_off380 v1978) a + S4x128.size a ≤ S65536x128.size a)
theorem k0_mult254_dvd : ∀ (v1978 : BitVec 32) (k0_hw254 : k0_chk254 v1978), 4 ∣ (k0_mult254 v1978).toNat := fun v1978 k0_hw254 => k0_hw254.1
theorem k0_off380_inb : ∀ (v1978 : BitVec 32) (k0_hw254 : k0_chk254 v1978), ∀ a, (k0_off380 v1978) a + S4x128.size a ≤ S65536x128.size a := fun v1978 k0_hw254 => k0_hw254.2

def k0_off381 (k0_t1 : Fin k0_t1_loop.trips) : Fin 3 → Nat :=
  let c0_1323 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1985 : Index := Scalar.indexCast v976
  let c126_1324 : Index := 126#32
  ![0, v1985.toNat, 126]
def k0_mult255 (v1986 : BitVec 32) : BitVec 32 :=
  v1986

def k0_off382 (v1986 : BitVec 32) : Fin 2 → Nat :=
  let v1987 : BitVec 32 := v1986
  let v1988 : Index := Scalar.indexCast v1987
  let c0_1325 : Index := 0#32
  ![v1988.toNat, 0]

def k0_chk255 (v1986 : BitVec 32) : Prop :=
  (4 ∣ (k0_mult255 v1986).toNat) ∧
  (∀ a, (k0_off382 v1986) a + S4x128.size a ≤ S65536x128.size a)
theorem k0_mult255_dvd : ∀ (v1986 : BitVec 32) (k0_hw255 : k0_chk255 v1986), 4 ∣ (k0_mult255 v1986).toNat := fun v1986 k0_hw255 => k0_hw255.1
theorem k0_off382_inb : ∀ (v1986 : BitVec 32) (k0_hw255 : k0_chk255 v1986), ∀ a, (k0_off382 v1986) a + S4x128.size a ≤ S65536x128.size a := fun v1986 k0_hw255 => k0_hw255.2

def k0_off383 (k0_t1 : Fin k0_t1_loop.trips) : Fin 3 → Nat :=
  let c0_1328 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_692 : BitVec 32 := 1#32
  let v976 : BitVec 32 := Scalar.addi v947 c1_i32_692
  let v1993 : Index := Scalar.indexCast v976
  let c127_1329 : Index := 127#32
  ![0, v1993.toNat, 127]
def k0_mult256 (v1994 : BitVec 32) : BitVec 32 :=
  v1994

def k0_off384 (v1994 : BitVec 32) : Fin 2 → Nat :=
  let v1995 : BitVec 32 := v1994
  let v1996 : Index := Scalar.indexCast v1995
  let c0_1330 : Index := 0#32
  ![v1996.toNat, 0]

def k0_chk256 (v1994 : BitVec 32) : Prop :=
  (4 ∣ (k0_mult256 v1994).toNat) ∧
  (∀ a, (k0_off384 v1994) a + S4x128.size a ≤ S65536x128.size a)
theorem k0_mult256_dvd : ∀ (v1994 : BitVec 32) (k0_hw256 : k0_chk256 v1994), 4 ∣ (k0_mult256 v1994).toNat := fun v1994 k0_hw256 => k0_hw256.1
theorem k0_off384_inb : ∀ (v1994 : BitVec 32) (k0_hw256 : k0_chk256 v1994), ∀ a, (k0_off384 v1994) a + S4x128.size a ≤ S65536x128.size a := fun v1994 k0_hw256 => k0_hw256.2

def k0_off385 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let v2005 : Index := Scalar.indexCast v947
  let c0_1336 : Index := 0#32
  let c0_1337 : Index := 0#32
  ![v2005.toNat, 0, 0]
def k0_off386 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let v2011 : Index := Scalar.indexCast v947
  let c4_1338 : Index := 4#32
  let c0_1339 : Index := 0#32
  ![v2011.toNat, 4, 0]
def k0_off387 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let v2020 : Index := Scalar.indexCast v947
  let c1_1341 : Index := 1#32
  let c0_1342 : Index := 0#32
  ![v2020.toNat, 1, 0]
def k0_off388 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let v2026 : Index := Scalar.indexCast v947
  let c5_1343 : Index := 5#32
  let c0_1344 : Index := 0#32
  ![v2026.toNat, 5, 0]
def k0_off389 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let v2035 : Index := Scalar.indexCast v947
  let c2_1346 : Index := 2#32
  let c0_1347 : Index := 0#32
  ![v2035.toNat, 2, 0]
def k0_off390 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let v2041 : Index := Scalar.indexCast v947
  let c6_1348 : Index := 6#32
  let c0_1349 : Index := 0#32
  ![v2041.toNat, 6, 0]
def k0_off391 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let v2050 : Index := Scalar.indexCast v947
  let c3_1351 : Index := 3#32
  let c0_1352 : Index := 0#32
  ![v2050.toNat, 3, 0]
def k0_off392 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let v2056 : Index := Scalar.indexCast v947
  let c7_1353 : Index := 7#32
  let c0_1354 : Index := 0#32
  ![v2056.toNat, 7, 0]
def k0_off393 (k0_t1 : Fin k0_t1_loop.trips) : Fin 3 → Nat :=
  let c0_1360 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2067 : Index := Scalar.indexCast v2066
  let c0_1361 : Index := 0#32
  ![0, v2067.toNat, 0]
def k0_mult257 (v2068 : BitVec 32) : BitVec 32 :=
  v2068

def k0_off394 (v2068 : BitVec 32) : Fin 2 → Nat :=
  let v2069 : BitVec 32 := v2068
  let v2070 : Index := Scalar.indexCast v2069
  let c0_1362 : Index := 0#32
  ![v2070.toNat, 0]

def k0_chk257 (v2068 : BitVec 32) : Prop :=
  (4 ∣ (k0_mult257 v2068).toNat) ∧
  (∀ a, (k0_off394 v2068) a + S4x128.size a ≤ S65536x128.size a)
theorem k0_mult257_dvd : ∀ (v2068 : BitVec 32) (k0_hw257 : k0_chk257 v2068), 4 ∣ (k0_mult257 v2068).toNat := fun v2068 k0_hw257 => k0_hw257.1
theorem k0_off394_inb : ∀ (v2068 : BitVec 32) (k0_hw257 : k0_chk257 v2068), ∀ a, (k0_off394 v2068) a + S4x128.size a ≤ S65536x128.size a := fun v2068 k0_hw257 => k0_hw257.2

def k0_off395 (k0_t1 : Fin k0_t1_loop.trips) : Fin 3 → Nat :=
  let c0_1365 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2075 : Index := Scalar.indexCast v2066
  let c1_1366 : Index := 1#32
  ![0, v2075.toNat, 1]
def k0_mult258 (v2076 : BitVec 32) : BitVec 32 :=
  v2076

def k0_off396 (v2076 : BitVec 32) : Fin 2 → Nat :=
  let v2077 : BitVec 32 := v2076
  let v2078 : Index := Scalar.indexCast v2077
  let c0_1367 : Index := 0#32
  ![v2078.toNat, 0]

def k0_chk258 (v2076 : BitVec 32) : Prop :=
  (4 ∣ (k0_mult258 v2076).toNat) ∧
  (∀ a, (k0_off396 v2076) a + S4x128.size a ≤ S65536x128.size a)
theorem k0_mult258_dvd : ∀ (v2076 : BitVec 32) (k0_hw258 : k0_chk258 v2076), 4 ∣ (k0_mult258 v2076).toNat := fun v2076 k0_hw258 => k0_hw258.1
theorem k0_off396_inb : ∀ (v2076 : BitVec 32) (k0_hw258 : k0_chk258 v2076), ∀ a, (k0_off396 v2076) a + S4x128.size a ≤ S65536x128.size a := fun v2076 k0_hw258 => k0_hw258.2

def k0_off397 (k0_t1 : Fin k0_t1_loop.trips) : Fin 3 → Nat :=
  let c0_1370 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2083 : Index := Scalar.indexCast v2066
  let c2_1371 : Index := 2#32
  ![0, v2083.toNat, 2]
def k0_mult259 (v2084 : BitVec 32) : BitVec 32 :=
  v2084

def k0_off398 (v2084 : BitVec 32) : Fin 2 → Nat :=
  let v2085 : BitVec 32 := v2084
  let v2086 : Index := Scalar.indexCast v2085
  let c0_1372 : Index := 0#32
  ![v2086.toNat, 0]

def k0_chk259 (v2084 : BitVec 32) : Prop :=
  (4 ∣ (k0_mult259 v2084).toNat) ∧
  (∀ a, (k0_off398 v2084) a + S4x128.size a ≤ S65536x128.size a)
theorem k0_mult259_dvd : ∀ (v2084 : BitVec 32) (k0_hw259 : k0_chk259 v2084), 4 ∣ (k0_mult259 v2084).toNat := fun v2084 k0_hw259 => k0_hw259.1
theorem k0_off398_inb : ∀ (v2084 : BitVec 32) (k0_hw259 : k0_chk259 v2084), ∀ a, (k0_off398 v2084) a + S4x128.size a ≤ S65536x128.size a := fun v2084 k0_hw259 => k0_hw259.2

def k0_off399 (k0_t1 : Fin k0_t1_loop.trips) : Fin 3 → Nat :=
  let c0_1375 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2091 : Index := Scalar.indexCast v2066
  let c3_1376 : Index := 3#32
  ![0, v2091.toNat, 3]
def k0_mult260 (v2092 : BitVec 32) : BitVec 32 :=
  v2092

def k0_off400 (v2092 : BitVec 32) : Fin 2 → Nat :=
  let v2093 : BitVec 32 := v2092
  let v2094 : Index := Scalar.indexCast v2093
  let c0_1377 : Index := 0#32
  ![v2094.toNat, 0]

def k0_chk260 (v2092 : BitVec 32) : Prop :=
  (4 ∣ (k0_mult260 v2092).toNat) ∧
  (∀ a, (k0_off400 v2092) a + S4x128.size a ≤ S65536x128.size a)
theorem k0_mult260_dvd : ∀ (v2092 : BitVec 32) (k0_hw260 : k0_chk260 v2092), 4 ∣ (k0_mult260 v2092).toNat := fun v2092 k0_hw260 => k0_hw260.1
theorem k0_off400_inb : ∀ (v2092 : BitVec 32) (k0_hw260 : k0_chk260 v2092), ∀ a, (k0_off400 v2092) a + S4x128.size a ≤ S65536x128.size a := fun v2092 k0_hw260 => k0_hw260.2

def k0_off401 (k0_t1 : Fin k0_t1_loop.trips) : Fin 3 → Nat :=
  let c0_1380 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2099 : Index := Scalar.indexCast v2066
  let c4_1381 : Index := 4#32
  ![0, v2099.toNat, 4]
def k0_mult261 (v2100 : BitVec 32) : BitVec 32 :=
  v2100

def k0_off402 (v2100 : BitVec 32) : Fin 2 → Nat :=
  let v2101 : BitVec 32 := v2100
  let v2102 : Index := Scalar.indexCast v2101
  let c0_1382 : Index := 0#32
  ![v2102.toNat, 0]

def k0_chk261 (v2100 : BitVec 32) : Prop :=
  (4 ∣ (k0_mult261 v2100).toNat) ∧
  (∀ a, (k0_off402 v2100) a + S4x128.size a ≤ S65536x128.size a)
theorem k0_mult261_dvd : ∀ (v2100 : BitVec 32) (k0_hw261 : k0_chk261 v2100), 4 ∣ (k0_mult261 v2100).toNat := fun v2100 k0_hw261 => k0_hw261.1
theorem k0_off402_inb : ∀ (v2100 : BitVec 32) (k0_hw261 : k0_chk261 v2100), ∀ a, (k0_off402 v2100) a + S4x128.size a ≤ S65536x128.size a := fun v2100 k0_hw261 => k0_hw261.2

def k0_off403 (k0_t1 : Fin k0_t1_loop.trips) : Fin 3 → Nat :=
  let c0_1385 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2107 : Index := Scalar.indexCast v2066
  let c5_1386 : Index := 5#32
  ![0, v2107.toNat, 5]
def k0_mult262 (v2108 : BitVec 32) : BitVec 32 :=
  v2108

def k0_off404 (v2108 : BitVec 32) : Fin 2 → Nat :=
  let v2109 : BitVec 32 := v2108
  let v2110 : Index := Scalar.indexCast v2109
  let c0_1387 : Index := 0#32
  ![v2110.toNat, 0]

def k0_chk262 (v2108 : BitVec 32) : Prop :=
  (4 ∣ (k0_mult262 v2108).toNat) ∧
  (∀ a, (k0_off404 v2108) a + S4x128.size a ≤ S65536x128.size a)
theorem k0_mult262_dvd : ∀ (v2108 : BitVec 32) (k0_hw262 : k0_chk262 v2108), 4 ∣ (k0_mult262 v2108).toNat := fun v2108 k0_hw262 => k0_hw262.1
theorem k0_off404_inb : ∀ (v2108 : BitVec 32) (k0_hw262 : k0_chk262 v2108), ∀ a, (k0_off404 v2108) a + S4x128.size a ≤ S65536x128.size a := fun v2108 k0_hw262 => k0_hw262.2

def k0_off405 (k0_t1 : Fin k0_t1_loop.trips) : Fin 3 → Nat :=
  let c0_1390 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2115 : Index := Scalar.indexCast v2066
  let c6_1391 : Index := 6#32
  ![0, v2115.toNat, 6]
def k0_mult263 (v2116 : BitVec 32) : BitVec 32 :=
  v2116

def k0_off406 (v2116 : BitVec 32) : Fin 2 → Nat :=
  let v2117 : BitVec 32 := v2116
  let v2118 : Index := Scalar.indexCast v2117
  let c0_1392 : Index := 0#32
  ![v2118.toNat, 0]

def k0_chk263 (v2116 : BitVec 32) : Prop :=
  (4 ∣ (k0_mult263 v2116).toNat) ∧
  (∀ a, (k0_off406 v2116) a + S4x128.size a ≤ S65536x128.size a)
theorem k0_mult263_dvd : ∀ (v2116 : BitVec 32) (k0_hw263 : k0_chk263 v2116), 4 ∣ (k0_mult263 v2116).toNat := fun v2116 k0_hw263 => k0_hw263.1
theorem k0_off406_inb : ∀ (v2116 : BitVec 32) (k0_hw263 : k0_chk263 v2116), ∀ a, (k0_off406 v2116) a + S4x128.size a ≤ S65536x128.size a := fun v2116 k0_hw263 => k0_hw263.2

def k0_off407 (k0_t1 : Fin k0_t1_loop.trips) : Fin 3 → Nat :=
  let c0_1395 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2123 : Index := Scalar.indexCast v2066
  let c7_1396 : Index := 7#32
  ![0, v2123.toNat, 7]
def k0_mult264 (v2124 : BitVec 32) : BitVec 32 :=
  v2124

def k0_off408 (v2124 : BitVec 32) : Fin 2 → Nat :=
  let v2125 : BitVec 32 := v2124
  let v2126 : Index := Scalar.indexCast v2125
  let c0_1397 : Index := 0#32
  ![v2126.toNat, 0]

def k0_chk264 (v2124 : BitVec 32) : Prop :=
  (4 ∣ (k0_mult264 v2124).toNat) ∧
  (∀ a, (k0_off408 v2124) a + S4x128.size a ≤ S65536x128.size a)
theorem k0_mult264_dvd : ∀ (v2124 : BitVec 32) (k0_hw264 : k0_chk264 v2124), 4 ∣ (k0_mult264 v2124).toNat := fun v2124 k0_hw264 => k0_hw264.1
theorem k0_off408_inb : ∀ (v2124 : BitVec 32) (k0_hw264 : k0_chk264 v2124), ∀ a, (k0_off408 v2124) a + S4x128.size a ≤ S65536x128.size a := fun v2124 k0_hw264 => k0_hw264.2

def k0_off409 (k0_t1 : Fin k0_t1_loop.trips) : Fin 3 → Nat :=
  let c0_1400 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2131 : Index := Scalar.indexCast v2066
  let c8_1401 : Index := 8#32
  ![0, v2131.toNat, 8]
def k0_mult265 (v2132 : BitVec 32) : BitVec 32 :=
  v2132

def k0_off410 (v2132 : BitVec 32) : Fin 2 → Nat :=
  let v2133 : BitVec 32 := v2132
  let v2134 : Index := Scalar.indexCast v2133
  let c0_1402 : Index := 0#32
  ![v2134.toNat, 0]

def k0_chk265 (v2132 : BitVec 32) : Prop :=
  (4 ∣ (k0_mult265 v2132).toNat) ∧
  (∀ a, (k0_off410 v2132) a + S4x128.size a ≤ S65536x128.size a)
theorem k0_mult265_dvd : ∀ (v2132 : BitVec 32) (k0_hw265 : k0_chk265 v2132), 4 ∣ (k0_mult265 v2132).toNat := fun v2132 k0_hw265 => k0_hw265.1
theorem k0_off410_inb : ∀ (v2132 : BitVec 32) (k0_hw265 : k0_chk265 v2132), ∀ a, (k0_off410 v2132) a + S4x128.size a ≤ S65536x128.size a := fun v2132 k0_hw265 => k0_hw265.2

def k0_off411 (k0_t1 : Fin k0_t1_loop.trips) : Fin 3 → Nat :=
  let c0_1405 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2139 : Index := Scalar.indexCast v2066
  let c9_1406 : Index := 9#32
  ![0, v2139.toNat, 9]
def k0_mult266 (v2140 : BitVec 32) : BitVec 32 :=
  v2140

def k0_off412 (v2140 : BitVec 32) : Fin 2 → Nat :=
  let v2141 : BitVec 32 := v2140
  let v2142 : Index := Scalar.indexCast v2141
  let c0_1407 : Index := 0#32
  ![v2142.toNat, 0]

def k0_chk266 (v2140 : BitVec 32) : Prop :=
  (4 ∣ (k0_mult266 v2140).toNat) ∧
  (∀ a, (k0_off412 v2140) a + S4x128.size a ≤ S65536x128.size a)
theorem k0_mult266_dvd : ∀ (v2140 : BitVec 32) (k0_hw266 : k0_chk266 v2140), 4 ∣ (k0_mult266 v2140).toNat := fun v2140 k0_hw266 => k0_hw266.1
theorem k0_off412_inb : ∀ (v2140 : BitVec 32) (k0_hw266 : k0_chk266 v2140), ∀ a, (k0_off412 v2140) a + S4x128.size a ≤ S65536x128.size a := fun v2140 k0_hw266 => k0_hw266.2

def k0_off413 (k0_t1 : Fin k0_t1_loop.trips) : Fin 3 → Nat :=
  let c0_1410 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2147 : Index := Scalar.indexCast v2066
  let c10_1411 : Index := 10#32
  ![0, v2147.toNat, 10]
def k0_mult267 (v2148 : BitVec 32) : BitVec 32 :=
  v2148

def k0_off414 (v2148 : BitVec 32) : Fin 2 → Nat :=
  let v2149 : BitVec 32 := v2148
  let v2150 : Index := Scalar.indexCast v2149
  let c0_1412 : Index := 0#32
  ![v2150.toNat, 0]

def k0_chk267 (v2148 : BitVec 32) : Prop :=
  (4 ∣ (k0_mult267 v2148).toNat) ∧
  (∀ a, (k0_off414 v2148) a + S4x128.size a ≤ S65536x128.size a)
theorem k0_mult267_dvd : ∀ (v2148 : BitVec 32) (k0_hw267 : k0_chk267 v2148), 4 ∣ (k0_mult267 v2148).toNat := fun v2148 k0_hw267 => k0_hw267.1
theorem k0_off414_inb : ∀ (v2148 : BitVec 32) (k0_hw267 : k0_chk267 v2148), ∀ a, (k0_off414 v2148) a + S4x128.size a ≤ S65536x128.size a := fun v2148 k0_hw267 => k0_hw267.2

def k0_off415 (k0_t1 : Fin k0_t1_loop.trips) : Fin 3 → Nat :=
  let c0_1415 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2155 : Index := Scalar.indexCast v2066
  let c11_1416 : Index := 11#32
  ![0, v2155.toNat, 11]
def k0_mult268 (v2156 : BitVec 32) : BitVec 32 :=
  v2156

def k0_off416 (v2156 : BitVec 32) : Fin 2 → Nat :=
  let v2157 : BitVec 32 := v2156
  let v2158 : Index := Scalar.indexCast v2157
  let c0_1417 : Index := 0#32
  ![v2158.toNat, 0]

def k0_chk268 (v2156 : BitVec 32) : Prop :=
  (4 ∣ (k0_mult268 v2156).toNat) ∧
  (∀ a, (k0_off416 v2156) a + S4x128.size a ≤ S65536x128.size a)
theorem k0_mult268_dvd : ∀ (v2156 : BitVec 32) (k0_hw268 : k0_chk268 v2156), 4 ∣ (k0_mult268 v2156).toNat := fun v2156 k0_hw268 => k0_hw268.1
theorem k0_off416_inb : ∀ (v2156 : BitVec 32) (k0_hw268 : k0_chk268 v2156), ∀ a, (k0_off416 v2156) a + S4x128.size a ≤ S65536x128.size a := fun v2156 k0_hw268 => k0_hw268.2

def k0_off417 (k0_t1 : Fin k0_t1_loop.trips) : Fin 3 → Nat :=
  let c0_1420 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2163 : Index := Scalar.indexCast v2066
  let c12_1421 : Index := 12#32
  ![0, v2163.toNat, 12]
def k0_mult269 (v2164 : BitVec 32) : BitVec 32 :=
  v2164

def k0_off418 (v2164 : BitVec 32) : Fin 2 → Nat :=
  let v2165 : BitVec 32 := v2164
  let v2166 : Index := Scalar.indexCast v2165
  let c0_1422 : Index := 0#32
  ![v2166.toNat, 0]

def k0_chk269 (v2164 : BitVec 32) : Prop :=
  (4 ∣ (k0_mult269 v2164).toNat) ∧
  (∀ a, (k0_off418 v2164) a + S4x128.size a ≤ S65536x128.size a)
theorem k0_mult269_dvd : ∀ (v2164 : BitVec 32) (k0_hw269 : k0_chk269 v2164), 4 ∣ (k0_mult269 v2164).toNat := fun v2164 k0_hw269 => k0_hw269.1
theorem k0_off418_inb : ∀ (v2164 : BitVec 32) (k0_hw269 : k0_chk269 v2164), ∀ a, (k0_off418 v2164) a + S4x128.size a ≤ S65536x128.size a := fun v2164 k0_hw269 => k0_hw269.2

def k0_off419 (k0_t1 : Fin k0_t1_loop.trips) : Fin 3 → Nat :=
  let c0_1425 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2171 : Index := Scalar.indexCast v2066
  let c13_1426 : Index := 13#32
  ![0, v2171.toNat, 13]
def k0_mult270 (v2172 : BitVec 32) : BitVec 32 :=
  v2172

def k0_off420 (v2172 : BitVec 32) : Fin 2 → Nat :=
  let v2173 : BitVec 32 := v2172
  let v2174 : Index := Scalar.indexCast v2173
  let c0_1427 : Index := 0#32
  ![v2174.toNat, 0]

def k0_chk270 (v2172 : BitVec 32) : Prop :=
  (4 ∣ (k0_mult270 v2172).toNat) ∧
  (∀ a, (k0_off420 v2172) a + S4x128.size a ≤ S65536x128.size a)
theorem k0_mult270_dvd : ∀ (v2172 : BitVec 32) (k0_hw270 : k0_chk270 v2172), 4 ∣ (k0_mult270 v2172).toNat := fun v2172 k0_hw270 => k0_hw270.1
theorem k0_off420_inb : ∀ (v2172 : BitVec 32) (k0_hw270 : k0_chk270 v2172), ∀ a, (k0_off420 v2172) a + S4x128.size a ≤ S65536x128.size a := fun v2172 k0_hw270 => k0_hw270.2

def k0_off421 (k0_t1 : Fin k0_t1_loop.trips) : Fin 3 → Nat :=
  let c0_1430 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2179 : Index := Scalar.indexCast v2066
  let c14_1431 : Index := 14#32
  ![0, v2179.toNat, 14]
def k0_mult271 (v2180 : BitVec 32) : BitVec 32 :=
  v2180

def k0_off422 (v2180 : BitVec 32) : Fin 2 → Nat :=
  let v2181 : BitVec 32 := v2180
  let v2182 : Index := Scalar.indexCast v2181
  let c0_1432 : Index := 0#32
  ![v2182.toNat, 0]

def k0_chk271 (v2180 : BitVec 32) : Prop :=
  (4 ∣ (k0_mult271 v2180).toNat) ∧
  (∀ a, (k0_off422 v2180) a + S4x128.size a ≤ S65536x128.size a)
theorem k0_mult271_dvd : ∀ (v2180 : BitVec 32) (k0_hw271 : k0_chk271 v2180), 4 ∣ (k0_mult271 v2180).toNat := fun v2180 k0_hw271 => k0_hw271.1
theorem k0_off422_inb : ∀ (v2180 : BitVec 32) (k0_hw271 : k0_chk271 v2180), ∀ a, (k0_off422 v2180) a + S4x128.size a ≤ S65536x128.size a := fun v2180 k0_hw271 => k0_hw271.2

def k0_off423 (k0_t1 : Fin k0_t1_loop.trips) : Fin 3 → Nat :=
  let c0_1435 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2187 : Index := Scalar.indexCast v2066
  let c15_1436 : Index := 15#32
  ![0, v2187.toNat, 15]
def k0_mult272 (v2188 : BitVec 32) : BitVec 32 :=
  v2188

def k0_off424 (v2188 : BitVec 32) : Fin 2 → Nat :=
  let v2189 : BitVec 32 := v2188
  let v2190 : Index := Scalar.indexCast v2189
  let c0_1437 : Index := 0#32
  ![v2190.toNat, 0]

def k0_chk272 (v2188 : BitVec 32) : Prop :=
  (4 ∣ (k0_mult272 v2188).toNat) ∧
  (∀ a, (k0_off424 v2188) a + S4x128.size a ≤ S65536x128.size a)
theorem k0_mult272_dvd : ∀ (v2188 : BitVec 32) (k0_hw272 : k0_chk272 v2188), 4 ∣ (k0_mult272 v2188).toNat := fun v2188 k0_hw272 => k0_hw272.1
theorem k0_off424_inb : ∀ (v2188 : BitVec 32) (k0_hw272 : k0_chk272 v2188), ∀ a, (k0_off424 v2188) a + S4x128.size a ≤ S65536x128.size a := fun v2188 k0_hw272 => k0_hw272.2

def k0_off425 (k0_t1 : Fin k0_t1_loop.trips) : Fin 3 → Nat :=
  let c0_1440 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2195 : Index := Scalar.indexCast v2066
  let c16_1441 : Index := 16#32
  ![0, v2195.toNat, 16]
def k0_mult273 (v2196 : BitVec 32) : BitVec 32 :=
  v2196

def k0_off426 (v2196 : BitVec 32) : Fin 2 → Nat :=
  let v2197 : BitVec 32 := v2196
  let v2198 : Index := Scalar.indexCast v2197
  let c0_1442 : Index := 0#32
  ![v2198.toNat, 0]

def k0_chk273 (v2196 : BitVec 32) : Prop :=
  (4 ∣ (k0_mult273 v2196).toNat) ∧
  (∀ a, (k0_off426 v2196) a + S4x128.size a ≤ S65536x128.size a)
theorem k0_mult273_dvd : ∀ (v2196 : BitVec 32) (k0_hw273 : k0_chk273 v2196), 4 ∣ (k0_mult273 v2196).toNat := fun v2196 k0_hw273 => k0_hw273.1
theorem k0_off426_inb : ∀ (v2196 : BitVec 32) (k0_hw273 : k0_chk273 v2196), ∀ a, (k0_off426 v2196) a + S4x128.size a ≤ S65536x128.size a := fun v2196 k0_hw273 => k0_hw273.2

def k0_off427 (k0_t1 : Fin k0_t1_loop.trips) : Fin 3 → Nat :=
  let c0_1445 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2203 : Index := Scalar.indexCast v2066
  let c17_1446 : Index := 17#32
  ![0, v2203.toNat, 17]
def k0_mult274 (v2204 : BitVec 32) : BitVec 32 :=
  v2204

def k0_off428 (v2204 : BitVec 32) : Fin 2 → Nat :=
  let v2205 : BitVec 32 := v2204
  let v2206 : Index := Scalar.indexCast v2205
  let c0_1447 : Index := 0#32
  ![v2206.toNat, 0]

def k0_chk274 (v2204 : BitVec 32) : Prop :=
  (4 ∣ (k0_mult274 v2204).toNat) ∧
  (∀ a, (k0_off428 v2204) a + S4x128.size a ≤ S65536x128.size a)
theorem k0_mult274_dvd : ∀ (v2204 : BitVec 32) (k0_hw274 : k0_chk274 v2204), 4 ∣ (k0_mult274 v2204).toNat := fun v2204 k0_hw274 => k0_hw274.1
theorem k0_off428_inb : ∀ (v2204 : BitVec 32) (k0_hw274 : k0_chk274 v2204), ∀ a, (k0_off428 v2204) a + S4x128.size a ≤ S65536x128.size a := fun v2204 k0_hw274 => k0_hw274.2

def k0_off429 (k0_t1 : Fin k0_t1_loop.trips) : Fin 3 → Nat :=
  let c0_1450 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2211 : Index := Scalar.indexCast v2066
  let c18_1451 : Index := 18#32
  ![0, v2211.toNat, 18]
def k0_mult275 (v2212 : BitVec 32) : BitVec 32 :=
  v2212

def k0_off430 (v2212 : BitVec 32) : Fin 2 → Nat :=
  let v2213 : BitVec 32 := v2212
  let v2214 : Index := Scalar.indexCast v2213
  let c0_1452 : Index := 0#32
  ![v2214.toNat, 0]

def k0_chk275 (v2212 : BitVec 32) : Prop :=
  (4 ∣ (k0_mult275 v2212).toNat) ∧
  (∀ a, (k0_off430 v2212) a + S4x128.size a ≤ S65536x128.size a)
theorem k0_mult275_dvd : ∀ (v2212 : BitVec 32) (k0_hw275 : k0_chk275 v2212), 4 ∣ (k0_mult275 v2212).toNat := fun v2212 k0_hw275 => k0_hw275.1
theorem k0_off430_inb : ∀ (v2212 : BitVec 32) (k0_hw275 : k0_chk275 v2212), ∀ a, (k0_off430 v2212) a + S4x128.size a ≤ S65536x128.size a := fun v2212 k0_hw275 => k0_hw275.2

def k0_off431 (k0_t1 : Fin k0_t1_loop.trips) : Fin 3 → Nat :=
  let c0_1455 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2219 : Index := Scalar.indexCast v2066
  let c19_1456 : Index := 19#32
  ![0, v2219.toNat, 19]
def k0_mult276 (v2220 : BitVec 32) : BitVec 32 :=
  v2220

def k0_off432 (v2220 : BitVec 32) : Fin 2 → Nat :=
  let v2221 : BitVec 32 := v2220
  let v2222 : Index := Scalar.indexCast v2221
  let c0_1457 : Index := 0#32
  ![v2222.toNat, 0]

def k0_chk276 (v2220 : BitVec 32) : Prop :=
  (4 ∣ (k0_mult276 v2220).toNat) ∧
  (∀ a, (k0_off432 v2220) a + S4x128.size a ≤ S65536x128.size a)
theorem k0_mult276_dvd : ∀ (v2220 : BitVec 32) (k0_hw276 : k0_chk276 v2220), 4 ∣ (k0_mult276 v2220).toNat := fun v2220 k0_hw276 => k0_hw276.1
theorem k0_off432_inb : ∀ (v2220 : BitVec 32) (k0_hw276 : k0_chk276 v2220), ∀ a, (k0_off432 v2220) a + S4x128.size a ≤ S65536x128.size a := fun v2220 k0_hw276 => k0_hw276.2

def k0_off433 (k0_t1 : Fin k0_t1_loop.trips) : Fin 3 → Nat :=
  let c0_1460 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2227 : Index := Scalar.indexCast v2066
  let c20_1461 : Index := 20#32
  ![0, v2227.toNat, 20]
def k0_mult277 (v2228 : BitVec 32) : BitVec 32 :=
  v2228

def k0_off434 (v2228 : BitVec 32) : Fin 2 → Nat :=
  let v2229 : BitVec 32 := v2228
  let v2230 : Index := Scalar.indexCast v2229
  let c0_1462 : Index := 0#32
  ![v2230.toNat, 0]

def k0_chk277 (v2228 : BitVec 32) : Prop :=
  (4 ∣ (k0_mult277 v2228).toNat) ∧
  (∀ a, (k0_off434 v2228) a + S4x128.size a ≤ S65536x128.size a)
theorem k0_mult277_dvd : ∀ (v2228 : BitVec 32) (k0_hw277 : k0_chk277 v2228), 4 ∣ (k0_mult277 v2228).toNat := fun v2228 k0_hw277 => k0_hw277.1
theorem k0_off434_inb : ∀ (v2228 : BitVec 32) (k0_hw277 : k0_chk277 v2228), ∀ a, (k0_off434 v2228) a + S4x128.size a ≤ S65536x128.size a := fun v2228 k0_hw277 => k0_hw277.2

def k0_off435 (k0_t1 : Fin k0_t1_loop.trips) : Fin 3 → Nat :=
  let c0_1465 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2235 : Index := Scalar.indexCast v2066
  let c21_1466 : Index := 21#32
  ![0, v2235.toNat, 21]
def k0_mult278 (v2236 : BitVec 32) : BitVec 32 :=
  v2236

def k0_off436 (v2236 : BitVec 32) : Fin 2 → Nat :=
  let v2237 : BitVec 32 := v2236
  let v2238 : Index := Scalar.indexCast v2237
  let c0_1467 : Index := 0#32
  ![v2238.toNat, 0]

def k0_chk278 (v2236 : BitVec 32) : Prop :=
  (4 ∣ (k0_mult278 v2236).toNat) ∧
  (∀ a, (k0_off436 v2236) a + S4x128.size a ≤ S65536x128.size a)
theorem k0_mult278_dvd : ∀ (v2236 : BitVec 32) (k0_hw278 : k0_chk278 v2236), 4 ∣ (k0_mult278 v2236).toNat := fun v2236 k0_hw278 => k0_hw278.1
theorem k0_off436_inb : ∀ (v2236 : BitVec 32) (k0_hw278 : k0_chk278 v2236), ∀ a, (k0_off436 v2236) a + S4x128.size a ≤ S65536x128.size a := fun v2236 k0_hw278 => k0_hw278.2

def k0_off437 (k0_t1 : Fin k0_t1_loop.trips) : Fin 3 → Nat :=
  let c0_1470 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2243 : Index := Scalar.indexCast v2066
  let c22_1471 : Index := 22#32
  ![0, v2243.toNat, 22]
def k0_mult279 (v2244 : BitVec 32) : BitVec 32 :=
  v2244

def k0_off438 (v2244 : BitVec 32) : Fin 2 → Nat :=
  let v2245 : BitVec 32 := v2244
  let v2246 : Index := Scalar.indexCast v2245
  let c0_1472 : Index := 0#32
  ![v2246.toNat, 0]

def k0_chk279 (v2244 : BitVec 32) : Prop :=
  (4 ∣ (k0_mult279 v2244).toNat) ∧
  (∀ a, (k0_off438 v2244) a + S4x128.size a ≤ S65536x128.size a)
theorem k0_mult279_dvd : ∀ (v2244 : BitVec 32) (k0_hw279 : k0_chk279 v2244), 4 ∣ (k0_mult279 v2244).toNat := fun v2244 k0_hw279 => k0_hw279.1
theorem k0_off438_inb : ∀ (v2244 : BitVec 32) (k0_hw279 : k0_chk279 v2244), ∀ a, (k0_off438 v2244) a + S4x128.size a ≤ S65536x128.size a := fun v2244 k0_hw279 => k0_hw279.2

def k0_off439 (k0_t1 : Fin k0_t1_loop.trips) : Fin 3 → Nat :=
  let c0_1475 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2251 : Index := Scalar.indexCast v2066
  let c23_1476 : Index := 23#32
  ![0, v2251.toNat, 23]
def k0_mult280 (v2252 : BitVec 32) : BitVec 32 :=
  v2252

def k0_off440 (v2252 : BitVec 32) : Fin 2 → Nat :=
  let v2253 : BitVec 32 := v2252
  let v2254 : Index := Scalar.indexCast v2253
  let c0_1477 : Index := 0#32
  ![v2254.toNat, 0]

def k0_chk280 (v2252 : BitVec 32) : Prop :=
  (4 ∣ (k0_mult280 v2252).toNat) ∧
  (∀ a, (k0_off440 v2252) a + S4x128.size a ≤ S65536x128.size a)
theorem k0_mult280_dvd : ∀ (v2252 : BitVec 32) (k0_hw280 : k0_chk280 v2252), 4 ∣ (k0_mult280 v2252).toNat := fun v2252 k0_hw280 => k0_hw280.1
theorem k0_off440_inb : ∀ (v2252 : BitVec 32) (k0_hw280 : k0_chk280 v2252), ∀ a, (k0_off440 v2252) a + S4x128.size a ≤ S65536x128.size a := fun v2252 k0_hw280 => k0_hw280.2

def k0_off441 (k0_t1 : Fin k0_t1_loop.trips) : Fin 3 → Nat :=
  let c0_1480 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2259 : Index := Scalar.indexCast v2066
  let c24_1481 : Index := 24#32
  ![0, v2259.toNat, 24]
def k0_mult281 (v2260 : BitVec 32) : BitVec 32 :=
  v2260

def k0_off442 (v2260 : BitVec 32) : Fin 2 → Nat :=
  let v2261 : BitVec 32 := v2260
  let v2262 : Index := Scalar.indexCast v2261
  let c0_1482 : Index := 0#32
  ![v2262.toNat, 0]

def k0_chk281 (v2260 : BitVec 32) : Prop :=
  (4 ∣ (k0_mult281 v2260).toNat) ∧
  (∀ a, (k0_off442 v2260) a + S4x128.size a ≤ S65536x128.size a)
theorem k0_mult281_dvd : ∀ (v2260 : BitVec 32) (k0_hw281 : k0_chk281 v2260), 4 ∣ (k0_mult281 v2260).toNat := fun v2260 k0_hw281 => k0_hw281.1
theorem k0_off442_inb : ∀ (v2260 : BitVec 32) (k0_hw281 : k0_chk281 v2260), ∀ a, (k0_off442 v2260) a + S4x128.size a ≤ S65536x128.size a := fun v2260 k0_hw281 => k0_hw281.2

def k0_off443 (k0_t1 : Fin k0_t1_loop.trips) : Fin 3 → Nat :=
  let c0_1485 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2267 : Index := Scalar.indexCast v2066
  let c25_1486 : Index := 25#32
  ![0, v2267.toNat, 25]
def k0_mult282 (v2268 : BitVec 32) : BitVec 32 :=
  v2268

def k0_off444 (v2268 : BitVec 32) : Fin 2 → Nat :=
  let v2269 : BitVec 32 := v2268
  let v2270 : Index := Scalar.indexCast v2269
  let c0_1487 : Index := 0#32
  ![v2270.toNat, 0]

def k0_chk282 (v2268 : BitVec 32) : Prop :=
  (4 ∣ (k0_mult282 v2268).toNat) ∧
  (∀ a, (k0_off444 v2268) a + S4x128.size a ≤ S65536x128.size a)
theorem k0_mult282_dvd : ∀ (v2268 : BitVec 32) (k0_hw282 : k0_chk282 v2268), 4 ∣ (k0_mult282 v2268).toNat := fun v2268 k0_hw282 => k0_hw282.1
theorem k0_off444_inb : ∀ (v2268 : BitVec 32) (k0_hw282 : k0_chk282 v2268), ∀ a, (k0_off444 v2268) a + S4x128.size a ≤ S65536x128.size a := fun v2268 k0_hw282 => k0_hw282.2

def k0_off445 (k0_t1 : Fin k0_t1_loop.trips) : Fin 3 → Nat :=
  let c0_1490 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2275 : Index := Scalar.indexCast v2066
  let c26_1491 : Index := 26#32
  ![0, v2275.toNat, 26]
def k0_mult283 (v2276 : BitVec 32) : BitVec 32 :=
  v2276

def k0_off446 (v2276 : BitVec 32) : Fin 2 → Nat :=
  let v2277 : BitVec 32 := v2276
  let v2278 : Index := Scalar.indexCast v2277
  let c0_1492 : Index := 0#32
  ![v2278.toNat, 0]

def k0_chk283 (v2276 : BitVec 32) : Prop :=
  (4 ∣ (k0_mult283 v2276).toNat) ∧
  (∀ a, (k0_off446 v2276) a + S4x128.size a ≤ S65536x128.size a)
theorem k0_mult283_dvd : ∀ (v2276 : BitVec 32) (k0_hw283 : k0_chk283 v2276), 4 ∣ (k0_mult283 v2276).toNat := fun v2276 k0_hw283 => k0_hw283.1
theorem k0_off446_inb : ∀ (v2276 : BitVec 32) (k0_hw283 : k0_chk283 v2276), ∀ a, (k0_off446 v2276) a + S4x128.size a ≤ S65536x128.size a := fun v2276 k0_hw283 => k0_hw283.2

def k0_off447 (k0_t1 : Fin k0_t1_loop.trips) : Fin 3 → Nat :=
  let c0_1495 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2283 : Index := Scalar.indexCast v2066
  let c27_1496 : Index := 27#32
  ![0, v2283.toNat, 27]
def k0_mult284 (v2284 : BitVec 32) : BitVec 32 :=
  v2284

def k0_off448 (v2284 : BitVec 32) : Fin 2 → Nat :=
  let v2285 : BitVec 32 := v2284
  let v2286 : Index := Scalar.indexCast v2285
  let c0_1497 : Index := 0#32
  ![v2286.toNat, 0]

def k0_chk284 (v2284 : BitVec 32) : Prop :=
  (4 ∣ (k0_mult284 v2284).toNat) ∧
  (∀ a, (k0_off448 v2284) a + S4x128.size a ≤ S65536x128.size a)
theorem k0_mult284_dvd : ∀ (v2284 : BitVec 32) (k0_hw284 : k0_chk284 v2284), 4 ∣ (k0_mult284 v2284).toNat := fun v2284 k0_hw284 => k0_hw284.1
theorem k0_off448_inb : ∀ (v2284 : BitVec 32) (k0_hw284 : k0_chk284 v2284), ∀ a, (k0_off448 v2284) a + S4x128.size a ≤ S65536x128.size a := fun v2284 k0_hw284 => k0_hw284.2

def k0_off449 (k0_t1 : Fin k0_t1_loop.trips) : Fin 3 → Nat :=
  let c0_1500 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2291 : Index := Scalar.indexCast v2066
  let c28_1501 : Index := 28#32
  ![0, v2291.toNat, 28]
def k0_mult285 (v2292 : BitVec 32) : BitVec 32 :=
  v2292

def k0_off450 (v2292 : BitVec 32) : Fin 2 → Nat :=
  let v2293 : BitVec 32 := v2292
  let v2294 : Index := Scalar.indexCast v2293
  let c0_1502 : Index := 0#32
  ![v2294.toNat, 0]

def k0_chk285 (v2292 : BitVec 32) : Prop :=
  (4 ∣ (k0_mult285 v2292).toNat) ∧
  (∀ a, (k0_off450 v2292) a + S4x128.size a ≤ S65536x128.size a)
theorem k0_mult285_dvd : ∀ (v2292 : BitVec 32) (k0_hw285 : k0_chk285 v2292), 4 ∣ (k0_mult285 v2292).toNat := fun v2292 k0_hw285 => k0_hw285.1
theorem k0_off450_inb : ∀ (v2292 : BitVec 32) (k0_hw285 : k0_chk285 v2292), ∀ a, (k0_off450 v2292) a + S4x128.size a ≤ S65536x128.size a := fun v2292 k0_hw285 => k0_hw285.2

def k0_off451 (k0_t1 : Fin k0_t1_loop.trips) : Fin 3 → Nat :=
  let c0_1505 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2299 : Index := Scalar.indexCast v2066
  let c29_1506 : Index := 29#32
  ![0, v2299.toNat, 29]
def k0_mult286 (v2300 : BitVec 32) : BitVec 32 :=
  v2300

def k0_off452 (v2300 : BitVec 32) : Fin 2 → Nat :=
  let v2301 : BitVec 32 := v2300
  let v2302 : Index := Scalar.indexCast v2301
  let c0_1507 : Index := 0#32
  ![v2302.toNat, 0]

def k0_chk286 (v2300 : BitVec 32) : Prop :=
  (4 ∣ (k0_mult286 v2300).toNat) ∧
  (∀ a, (k0_off452 v2300) a + S4x128.size a ≤ S65536x128.size a)
theorem k0_mult286_dvd : ∀ (v2300 : BitVec 32) (k0_hw286 : k0_chk286 v2300), 4 ∣ (k0_mult286 v2300).toNat := fun v2300 k0_hw286 => k0_hw286.1
theorem k0_off452_inb : ∀ (v2300 : BitVec 32) (k0_hw286 : k0_chk286 v2300), ∀ a, (k0_off452 v2300) a + S4x128.size a ≤ S65536x128.size a := fun v2300 k0_hw286 => k0_hw286.2

def k0_off453 (k0_t1 : Fin k0_t1_loop.trips) : Fin 3 → Nat :=
  let c0_1510 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2307 : Index := Scalar.indexCast v2066
  let c30_1511 : Index := 30#32
  ![0, v2307.toNat, 30]
def k0_mult287 (v2308 : BitVec 32) : BitVec 32 :=
  v2308

def k0_off454 (v2308 : BitVec 32) : Fin 2 → Nat :=
  let v2309 : BitVec 32 := v2308
  let v2310 : Index := Scalar.indexCast v2309
  let c0_1512 : Index := 0#32
  ![v2310.toNat, 0]

def k0_chk287 (v2308 : BitVec 32) : Prop :=
  (4 ∣ (k0_mult287 v2308).toNat) ∧
  (∀ a, (k0_off454 v2308) a + S4x128.size a ≤ S65536x128.size a)
theorem k0_mult287_dvd : ∀ (v2308 : BitVec 32) (k0_hw287 : k0_chk287 v2308), 4 ∣ (k0_mult287 v2308).toNat := fun v2308 k0_hw287 => k0_hw287.1
theorem k0_off454_inb : ∀ (v2308 : BitVec 32) (k0_hw287 : k0_chk287 v2308), ∀ a, (k0_off454 v2308) a + S4x128.size a ≤ S65536x128.size a := fun v2308 k0_hw287 => k0_hw287.2

def k0_off455 (k0_t1 : Fin k0_t1_loop.trips) : Fin 3 → Nat :=
  let c0_1515 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2315 : Index := Scalar.indexCast v2066
  let c31_1516 : Index := 31#32
  ![0, v2315.toNat, 31]
def k0_mult288 (v2316 : BitVec 32) : BitVec 32 :=
  v2316

def k0_off456 (v2316 : BitVec 32) : Fin 2 → Nat :=
  let v2317 : BitVec 32 := v2316
  let v2318 : Index := Scalar.indexCast v2317
  let c0_1517 : Index := 0#32
  ![v2318.toNat, 0]

def k0_chk288 (v2316 : BitVec 32) : Prop :=
  (4 ∣ (k0_mult288 v2316).toNat) ∧
  (∀ a, (k0_off456 v2316) a + S4x128.size a ≤ S65536x128.size a)
theorem k0_mult288_dvd : ∀ (v2316 : BitVec 32) (k0_hw288 : k0_chk288 v2316), 4 ∣ (k0_mult288 v2316).toNat := fun v2316 k0_hw288 => k0_hw288.1
theorem k0_off456_inb : ∀ (v2316 : BitVec 32) (k0_hw288 : k0_chk288 v2316), ∀ a, (k0_off456 v2316) a + S4x128.size a ≤ S65536x128.size a := fun v2316 k0_hw288 => k0_hw288.2

def k0_off457 (k0_t1 : Fin k0_t1_loop.trips) : Fin 3 → Nat :=
  let c0_1520 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2323 : Index := Scalar.indexCast v2066
  let c32_1521 : Index := 32#32
  ![0, v2323.toNat, 32]
def k0_mult289 (v2324 : BitVec 32) : BitVec 32 :=
  v2324

def k0_off458 (v2324 : BitVec 32) : Fin 2 → Nat :=
  let v2325 : BitVec 32 := v2324
  let v2326 : Index := Scalar.indexCast v2325
  let c0_1522 : Index := 0#32
  ![v2326.toNat, 0]

def k0_chk289 (v2324 : BitVec 32) : Prop :=
  (4 ∣ (k0_mult289 v2324).toNat) ∧
  (∀ a, (k0_off458 v2324) a + S4x128.size a ≤ S65536x128.size a)
theorem k0_mult289_dvd : ∀ (v2324 : BitVec 32) (k0_hw289 : k0_chk289 v2324), 4 ∣ (k0_mult289 v2324).toNat := fun v2324 k0_hw289 => k0_hw289.1
theorem k0_off458_inb : ∀ (v2324 : BitVec 32) (k0_hw289 : k0_chk289 v2324), ∀ a, (k0_off458 v2324) a + S4x128.size a ≤ S65536x128.size a := fun v2324 k0_hw289 => k0_hw289.2

def k0_off459 (k0_t1 : Fin k0_t1_loop.trips) : Fin 3 → Nat :=
  let c0_1525 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2331 : Index := Scalar.indexCast v2066
  let c33_1526 : Index := 33#32
  ![0, v2331.toNat, 33]
def k0_mult290 (v2332 : BitVec 32) : BitVec 32 :=
  v2332

def k0_off460 (v2332 : BitVec 32) : Fin 2 → Nat :=
  let v2333 : BitVec 32 := v2332
  let v2334 : Index := Scalar.indexCast v2333
  let c0_1527 : Index := 0#32
  ![v2334.toNat, 0]

def k0_chk290 (v2332 : BitVec 32) : Prop :=
  (4 ∣ (k0_mult290 v2332).toNat) ∧
  (∀ a, (k0_off460 v2332) a + S4x128.size a ≤ S65536x128.size a)
theorem k0_mult290_dvd : ∀ (v2332 : BitVec 32) (k0_hw290 : k0_chk290 v2332), 4 ∣ (k0_mult290 v2332).toNat := fun v2332 k0_hw290 => k0_hw290.1
theorem k0_off460_inb : ∀ (v2332 : BitVec 32) (k0_hw290 : k0_chk290 v2332), ∀ a, (k0_off460 v2332) a + S4x128.size a ≤ S65536x128.size a := fun v2332 k0_hw290 => k0_hw290.2

def k0_off461 (k0_t1 : Fin k0_t1_loop.trips) : Fin 3 → Nat :=
  let c0_1530 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2339 : Index := Scalar.indexCast v2066
  let c34_1531 : Index := 34#32
  ![0, v2339.toNat, 34]
def k0_mult291 (v2340 : BitVec 32) : BitVec 32 :=
  v2340

def k0_off462 (v2340 : BitVec 32) : Fin 2 → Nat :=
  let v2341 : BitVec 32 := v2340
  let v2342 : Index := Scalar.indexCast v2341
  let c0_1532 : Index := 0#32
  ![v2342.toNat, 0]

def k0_chk291 (v2340 : BitVec 32) : Prop :=
  (4 ∣ (k0_mult291 v2340).toNat) ∧
  (∀ a, (k0_off462 v2340) a + S4x128.size a ≤ S65536x128.size a)
theorem k0_mult291_dvd : ∀ (v2340 : BitVec 32) (k0_hw291 : k0_chk291 v2340), 4 ∣ (k0_mult291 v2340).toNat := fun v2340 k0_hw291 => k0_hw291.1
theorem k0_off462_inb : ∀ (v2340 : BitVec 32) (k0_hw291 : k0_chk291 v2340), ∀ a, (k0_off462 v2340) a + S4x128.size a ≤ S65536x128.size a := fun v2340 k0_hw291 => k0_hw291.2

def k0_off463 (k0_t1 : Fin k0_t1_loop.trips) : Fin 3 → Nat :=
  let c0_1535 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2347 : Index := Scalar.indexCast v2066
  let c35_1536 : Index := 35#32
  ![0, v2347.toNat, 35]
def k0_mult292 (v2348 : BitVec 32) : BitVec 32 :=
  v2348

def k0_off464 (v2348 : BitVec 32) : Fin 2 → Nat :=
  let v2349 : BitVec 32 := v2348
  let v2350 : Index := Scalar.indexCast v2349
  let c0_1537 : Index := 0#32
  ![v2350.toNat, 0]

def k0_chk292 (v2348 : BitVec 32) : Prop :=
  (4 ∣ (k0_mult292 v2348).toNat) ∧
  (∀ a, (k0_off464 v2348) a + S4x128.size a ≤ S65536x128.size a)
theorem k0_mult292_dvd : ∀ (v2348 : BitVec 32) (k0_hw292 : k0_chk292 v2348), 4 ∣ (k0_mult292 v2348).toNat := fun v2348 k0_hw292 => k0_hw292.1
theorem k0_off464_inb : ∀ (v2348 : BitVec 32) (k0_hw292 : k0_chk292 v2348), ∀ a, (k0_off464 v2348) a + S4x128.size a ≤ S65536x128.size a := fun v2348 k0_hw292 => k0_hw292.2

def k0_off465 (k0_t1 : Fin k0_t1_loop.trips) : Fin 3 → Nat :=
  let c0_1540 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2355 : Index := Scalar.indexCast v2066
  let c36_1541 : Index := 36#32
  ![0, v2355.toNat, 36]
def k0_mult293 (v2356 : BitVec 32) : BitVec 32 :=
  v2356

def k0_off466 (v2356 : BitVec 32) : Fin 2 → Nat :=
  let v2357 : BitVec 32 := v2356
  let v2358 : Index := Scalar.indexCast v2357
  let c0_1542 : Index := 0#32
  ![v2358.toNat, 0]

def k0_chk293 (v2356 : BitVec 32) : Prop :=
  (4 ∣ (k0_mult293 v2356).toNat) ∧
  (∀ a, (k0_off466 v2356) a + S4x128.size a ≤ S65536x128.size a)
theorem k0_mult293_dvd : ∀ (v2356 : BitVec 32) (k0_hw293 : k0_chk293 v2356), 4 ∣ (k0_mult293 v2356).toNat := fun v2356 k0_hw293 => k0_hw293.1
theorem k0_off466_inb : ∀ (v2356 : BitVec 32) (k0_hw293 : k0_chk293 v2356), ∀ a, (k0_off466 v2356) a + S4x128.size a ≤ S65536x128.size a := fun v2356 k0_hw293 => k0_hw293.2

def k0_off467 (k0_t1 : Fin k0_t1_loop.trips) : Fin 3 → Nat :=
  let c0_1545 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2363 : Index := Scalar.indexCast v2066
  let c37_1546 : Index := 37#32
  ![0, v2363.toNat, 37]
def k0_mult294 (v2364 : BitVec 32) : BitVec 32 :=
  v2364

def k0_off468 (v2364 : BitVec 32) : Fin 2 → Nat :=
  let v2365 : BitVec 32 := v2364
  let v2366 : Index := Scalar.indexCast v2365
  let c0_1547 : Index := 0#32
  ![v2366.toNat, 0]

def k0_chk294 (v2364 : BitVec 32) : Prop :=
  (4 ∣ (k0_mult294 v2364).toNat) ∧
  (∀ a, (k0_off468 v2364) a + S4x128.size a ≤ S65536x128.size a)
theorem k0_mult294_dvd : ∀ (v2364 : BitVec 32) (k0_hw294 : k0_chk294 v2364), 4 ∣ (k0_mult294 v2364).toNat := fun v2364 k0_hw294 => k0_hw294.1
theorem k0_off468_inb : ∀ (v2364 : BitVec 32) (k0_hw294 : k0_chk294 v2364), ∀ a, (k0_off468 v2364) a + S4x128.size a ≤ S65536x128.size a := fun v2364 k0_hw294 => k0_hw294.2

def k0_off469 (k0_t1 : Fin k0_t1_loop.trips) : Fin 3 → Nat :=
  let c0_1550 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2371 : Index := Scalar.indexCast v2066
  let c38_1551 : Index := 38#32
  ![0, v2371.toNat, 38]
def k0_mult295 (v2372 : BitVec 32) : BitVec 32 :=
  v2372

def k0_off470 (v2372 : BitVec 32) : Fin 2 → Nat :=
  let v2373 : BitVec 32 := v2372
  let v2374 : Index := Scalar.indexCast v2373
  let c0_1552 : Index := 0#32
  ![v2374.toNat, 0]

def k0_chk295 (v2372 : BitVec 32) : Prop :=
  (4 ∣ (k0_mult295 v2372).toNat) ∧
  (∀ a, (k0_off470 v2372) a + S4x128.size a ≤ S65536x128.size a)
theorem k0_mult295_dvd : ∀ (v2372 : BitVec 32) (k0_hw295 : k0_chk295 v2372), 4 ∣ (k0_mult295 v2372).toNat := fun v2372 k0_hw295 => k0_hw295.1
theorem k0_off470_inb : ∀ (v2372 : BitVec 32) (k0_hw295 : k0_chk295 v2372), ∀ a, (k0_off470 v2372) a + S4x128.size a ≤ S65536x128.size a := fun v2372 k0_hw295 => k0_hw295.2

def k0_off471 (k0_t1 : Fin k0_t1_loop.trips) : Fin 3 → Nat :=
  let c0_1555 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2379 : Index := Scalar.indexCast v2066
  let c39_1556 : Index := 39#32
  ![0, v2379.toNat, 39]
def k0_mult296 (v2380 : BitVec 32) : BitVec 32 :=
  v2380

def k0_off472 (v2380 : BitVec 32) : Fin 2 → Nat :=
  let v2381 : BitVec 32 := v2380
  let v2382 : Index := Scalar.indexCast v2381
  let c0_1557 : Index := 0#32
  ![v2382.toNat, 0]

def k0_chk296 (v2380 : BitVec 32) : Prop :=
  (4 ∣ (k0_mult296 v2380).toNat) ∧
  (∀ a, (k0_off472 v2380) a + S4x128.size a ≤ S65536x128.size a)
theorem k0_mult296_dvd : ∀ (v2380 : BitVec 32) (k0_hw296 : k0_chk296 v2380), 4 ∣ (k0_mult296 v2380).toNat := fun v2380 k0_hw296 => k0_hw296.1
theorem k0_off472_inb : ∀ (v2380 : BitVec 32) (k0_hw296 : k0_chk296 v2380), ∀ a, (k0_off472 v2380) a + S4x128.size a ≤ S65536x128.size a := fun v2380 k0_hw296 => k0_hw296.2

def k0_off473 (k0_t1 : Fin k0_t1_loop.trips) : Fin 3 → Nat :=
  let c0_1560 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2387 : Index := Scalar.indexCast v2066
  let c40_1561 : Index := 40#32
  ![0, v2387.toNat, 40]
def k0_mult297 (v2388 : BitVec 32) : BitVec 32 :=
  v2388

def k0_off474 (v2388 : BitVec 32) : Fin 2 → Nat :=
  let v2389 : BitVec 32 := v2388
  let v2390 : Index := Scalar.indexCast v2389
  let c0_1562 : Index := 0#32
  ![v2390.toNat, 0]

def k0_chk297 (v2388 : BitVec 32) : Prop :=
  (4 ∣ (k0_mult297 v2388).toNat) ∧
  (∀ a, (k0_off474 v2388) a + S4x128.size a ≤ S65536x128.size a)
theorem k0_mult297_dvd : ∀ (v2388 : BitVec 32) (k0_hw297 : k0_chk297 v2388), 4 ∣ (k0_mult297 v2388).toNat := fun v2388 k0_hw297 => k0_hw297.1
theorem k0_off474_inb : ∀ (v2388 : BitVec 32) (k0_hw297 : k0_chk297 v2388), ∀ a, (k0_off474 v2388) a + S4x128.size a ≤ S65536x128.size a := fun v2388 k0_hw297 => k0_hw297.2

def k0_off475 (k0_t1 : Fin k0_t1_loop.trips) : Fin 3 → Nat :=
  let c0_1565 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2395 : Index := Scalar.indexCast v2066
  let c41_1566 : Index := 41#32
  ![0, v2395.toNat, 41]
def k0_mult298 (v2396 : BitVec 32) : BitVec 32 :=
  v2396

def k0_off476 (v2396 : BitVec 32) : Fin 2 → Nat :=
  let v2397 : BitVec 32 := v2396
  let v2398 : Index := Scalar.indexCast v2397
  let c0_1567 : Index := 0#32
  ![v2398.toNat, 0]

def k0_chk298 (v2396 : BitVec 32) : Prop :=
  (4 ∣ (k0_mult298 v2396).toNat) ∧
  (∀ a, (k0_off476 v2396) a + S4x128.size a ≤ S65536x128.size a)
theorem k0_mult298_dvd : ∀ (v2396 : BitVec 32) (k0_hw298 : k0_chk298 v2396), 4 ∣ (k0_mult298 v2396).toNat := fun v2396 k0_hw298 => k0_hw298.1
theorem k0_off476_inb : ∀ (v2396 : BitVec 32) (k0_hw298 : k0_chk298 v2396), ∀ a, (k0_off476 v2396) a + S4x128.size a ≤ S65536x128.size a := fun v2396 k0_hw298 => k0_hw298.2

def k0_off477 (k0_t1 : Fin k0_t1_loop.trips) : Fin 3 → Nat :=
  let c0_1570 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2403 : Index := Scalar.indexCast v2066
  let c42_1571 : Index := 42#32
  ![0, v2403.toNat, 42]
def k0_mult299 (v2404 : BitVec 32) : BitVec 32 :=
  v2404

def k0_off478 (v2404 : BitVec 32) : Fin 2 → Nat :=
  let v2405 : BitVec 32 := v2404
  let v2406 : Index := Scalar.indexCast v2405
  let c0_1572 : Index := 0#32
  ![v2406.toNat, 0]

def k0_chk299 (v2404 : BitVec 32) : Prop :=
  (4 ∣ (k0_mult299 v2404).toNat) ∧
  (∀ a, (k0_off478 v2404) a + S4x128.size a ≤ S65536x128.size a)
theorem k0_mult299_dvd : ∀ (v2404 : BitVec 32) (k0_hw299 : k0_chk299 v2404), 4 ∣ (k0_mult299 v2404).toNat := fun v2404 k0_hw299 => k0_hw299.1
theorem k0_off478_inb : ∀ (v2404 : BitVec 32) (k0_hw299 : k0_chk299 v2404), ∀ a, (k0_off478 v2404) a + S4x128.size a ≤ S65536x128.size a := fun v2404 k0_hw299 => k0_hw299.2

def k0_off479 (k0_t1 : Fin k0_t1_loop.trips) : Fin 3 → Nat :=
  let c0_1575 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2411 : Index := Scalar.indexCast v2066
  let c43_1576 : Index := 43#32
  ![0, v2411.toNat, 43]
def k0_mult300 (v2412 : BitVec 32) : BitVec 32 :=
  v2412

def k0_off480 (v2412 : BitVec 32) : Fin 2 → Nat :=
  let v2413 : BitVec 32 := v2412
  let v2414 : Index := Scalar.indexCast v2413
  let c0_1577 : Index := 0#32
  ![v2414.toNat, 0]

def k0_chk300 (v2412 : BitVec 32) : Prop :=
  (4 ∣ (k0_mult300 v2412).toNat) ∧
  (∀ a, (k0_off480 v2412) a + S4x128.size a ≤ S65536x128.size a)
theorem k0_mult300_dvd : ∀ (v2412 : BitVec 32) (k0_hw300 : k0_chk300 v2412), 4 ∣ (k0_mult300 v2412).toNat := fun v2412 k0_hw300 => k0_hw300.1
theorem k0_off480_inb : ∀ (v2412 : BitVec 32) (k0_hw300 : k0_chk300 v2412), ∀ a, (k0_off480 v2412) a + S4x128.size a ≤ S65536x128.size a := fun v2412 k0_hw300 => k0_hw300.2

def k0_off481 (k0_t1 : Fin k0_t1_loop.trips) : Fin 3 → Nat :=
  let c0_1580 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2419 : Index := Scalar.indexCast v2066
  let c44_1581 : Index := 44#32
  ![0, v2419.toNat, 44]
def k0_mult301 (v2420 : BitVec 32) : BitVec 32 :=
  v2420

def k0_off482 (v2420 : BitVec 32) : Fin 2 → Nat :=
  let v2421 : BitVec 32 := v2420
  let v2422 : Index := Scalar.indexCast v2421
  let c0_1582 : Index := 0#32
  ![v2422.toNat, 0]

def k0_chk301 (v2420 : BitVec 32) : Prop :=
  (4 ∣ (k0_mult301 v2420).toNat) ∧
  (∀ a, (k0_off482 v2420) a + S4x128.size a ≤ S65536x128.size a)
theorem k0_mult301_dvd : ∀ (v2420 : BitVec 32) (k0_hw301 : k0_chk301 v2420), 4 ∣ (k0_mult301 v2420).toNat := fun v2420 k0_hw301 => k0_hw301.1
theorem k0_off482_inb : ∀ (v2420 : BitVec 32) (k0_hw301 : k0_chk301 v2420), ∀ a, (k0_off482 v2420) a + S4x128.size a ≤ S65536x128.size a := fun v2420 k0_hw301 => k0_hw301.2

def k0_off483 (k0_t1 : Fin k0_t1_loop.trips) : Fin 3 → Nat :=
  let c0_1585 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2427 : Index := Scalar.indexCast v2066
  let c45_1586 : Index := 45#32
  ![0, v2427.toNat, 45]
def k0_mult302 (v2428 : BitVec 32) : BitVec 32 :=
  v2428

def k0_off484 (v2428 : BitVec 32) : Fin 2 → Nat :=
  let v2429 : BitVec 32 := v2428
  let v2430 : Index := Scalar.indexCast v2429
  let c0_1587 : Index := 0#32
  ![v2430.toNat, 0]

def k0_chk302 (v2428 : BitVec 32) : Prop :=
  (4 ∣ (k0_mult302 v2428).toNat) ∧
  (∀ a, (k0_off484 v2428) a + S4x128.size a ≤ S65536x128.size a)
theorem k0_mult302_dvd : ∀ (v2428 : BitVec 32) (k0_hw302 : k0_chk302 v2428), 4 ∣ (k0_mult302 v2428).toNat := fun v2428 k0_hw302 => k0_hw302.1
theorem k0_off484_inb : ∀ (v2428 : BitVec 32) (k0_hw302 : k0_chk302 v2428), ∀ a, (k0_off484 v2428) a + S4x128.size a ≤ S65536x128.size a := fun v2428 k0_hw302 => k0_hw302.2

def k0_off485 (k0_t1 : Fin k0_t1_loop.trips) : Fin 3 → Nat :=
  let c0_1590 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2435 : Index := Scalar.indexCast v2066
  let c46_1591 : Index := 46#32
  ![0, v2435.toNat, 46]
def k0_mult303 (v2436 : BitVec 32) : BitVec 32 :=
  v2436

def k0_off486 (v2436 : BitVec 32) : Fin 2 → Nat :=
  let v2437 : BitVec 32 := v2436
  let v2438 : Index := Scalar.indexCast v2437
  let c0_1592 : Index := 0#32
  ![v2438.toNat, 0]

def k0_chk303 (v2436 : BitVec 32) : Prop :=
  (4 ∣ (k0_mult303 v2436).toNat) ∧
  (∀ a, (k0_off486 v2436) a + S4x128.size a ≤ S65536x128.size a)
theorem k0_mult303_dvd : ∀ (v2436 : BitVec 32) (k0_hw303 : k0_chk303 v2436), 4 ∣ (k0_mult303 v2436).toNat := fun v2436 k0_hw303 => k0_hw303.1
theorem k0_off486_inb : ∀ (v2436 : BitVec 32) (k0_hw303 : k0_chk303 v2436), ∀ a, (k0_off486 v2436) a + S4x128.size a ≤ S65536x128.size a := fun v2436 k0_hw303 => k0_hw303.2

def k0_off487 (k0_t1 : Fin k0_t1_loop.trips) : Fin 3 → Nat :=
  let c0_1595 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2443 : Index := Scalar.indexCast v2066
  let c47_1596 : Index := 47#32
  ![0, v2443.toNat, 47]
def k0_mult304 (v2444 : BitVec 32) : BitVec 32 :=
  v2444

def k0_off488 (v2444 : BitVec 32) : Fin 2 → Nat :=
  let v2445 : BitVec 32 := v2444
  let v2446 : Index := Scalar.indexCast v2445
  let c0_1597 : Index := 0#32
  ![v2446.toNat, 0]

def k0_chk304 (v2444 : BitVec 32) : Prop :=
  (4 ∣ (k0_mult304 v2444).toNat) ∧
  (∀ a, (k0_off488 v2444) a + S4x128.size a ≤ S65536x128.size a)
theorem k0_mult304_dvd : ∀ (v2444 : BitVec 32) (k0_hw304 : k0_chk304 v2444), 4 ∣ (k0_mult304 v2444).toNat := fun v2444 k0_hw304 => k0_hw304.1
theorem k0_off488_inb : ∀ (v2444 : BitVec 32) (k0_hw304 : k0_chk304 v2444), ∀ a, (k0_off488 v2444) a + S4x128.size a ≤ S65536x128.size a := fun v2444 k0_hw304 => k0_hw304.2

def k0_off489 (k0_t1 : Fin k0_t1_loop.trips) : Fin 3 → Nat :=
  let c0_1600 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2451 : Index := Scalar.indexCast v2066
  let c48_1601 : Index := 48#32
  ![0, v2451.toNat, 48]
def k0_mult305 (v2452 : BitVec 32) : BitVec 32 :=
  v2452

def k0_off490 (v2452 : BitVec 32) : Fin 2 → Nat :=
  let v2453 : BitVec 32 := v2452
  let v2454 : Index := Scalar.indexCast v2453
  let c0_1602 : Index := 0#32
  ![v2454.toNat, 0]

def k0_chk305 (v2452 : BitVec 32) : Prop :=
  (4 ∣ (k0_mult305 v2452).toNat) ∧
  (∀ a, (k0_off490 v2452) a + S4x128.size a ≤ S65536x128.size a)
theorem k0_mult305_dvd : ∀ (v2452 : BitVec 32) (k0_hw305 : k0_chk305 v2452), 4 ∣ (k0_mult305 v2452).toNat := fun v2452 k0_hw305 => k0_hw305.1
theorem k0_off490_inb : ∀ (v2452 : BitVec 32) (k0_hw305 : k0_chk305 v2452), ∀ a, (k0_off490 v2452) a + S4x128.size a ≤ S65536x128.size a := fun v2452 k0_hw305 => k0_hw305.2

def k0_off491 (k0_t1 : Fin k0_t1_loop.trips) : Fin 3 → Nat :=
  let c0_1605 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2459 : Index := Scalar.indexCast v2066
  let c49_1606 : Index := 49#32
  ![0, v2459.toNat, 49]
def k0_mult306 (v2460 : BitVec 32) : BitVec 32 :=
  v2460

def k0_off492 (v2460 : BitVec 32) : Fin 2 → Nat :=
  let v2461 : BitVec 32 := v2460
  let v2462 : Index := Scalar.indexCast v2461
  let c0_1607 : Index := 0#32
  ![v2462.toNat, 0]

def k0_chk306 (v2460 : BitVec 32) : Prop :=
  (4 ∣ (k0_mult306 v2460).toNat) ∧
  (∀ a, (k0_off492 v2460) a + S4x128.size a ≤ S65536x128.size a)
theorem k0_mult306_dvd : ∀ (v2460 : BitVec 32) (k0_hw306 : k0_chk306 v2460), 4 ∣ (k0_mult306 v2460).toNat := fun v2460 k0_hw306 => k0_hw306.1
theorem k0_off492_inb : ∀ (v2460 : BitVec 32) (k0_hw306 : k0_chk306 v2460), ∀ a, (k0_off492 v2460) a + S4x128.size a ≤ S65536x128.size a := fun v2460 k0_hw306 => k0_hw306.2

def k0_off493 (k0_t1 : Fin k0_t1_loop.trips) : Fin 3 → Nat :=
  let c0_1610 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2467 : Index := Scalar.indexCast v2066
  let c50_1611 : Index := 50#32
  ![0, v2467.toNat, 50]
def k0_mult307 (v2468 : BitVec 32) : BitVec 32 :=
  v2468

def k0_off494 (v2468 : BitVec 32) : Fin 2 → Nat :=
  let v2469 : BitVec 32 := v2468
  let v2470 : Index := Scalar.indexCast v2469
  let c0_1612 : Index := 0#32
  ![v2470.toNat, 0]

def k0_chk307 (v2468 : BitVec 32) : Prop :=
  (4 ∣ (k0_mult307 v2468).toNat) ∧
  (∀ a, (k0_off494 v2468) a + S4x128.size a ≤ S65536x128.size a)
theorem k0_mult307_dvd : ∀ (v2468 : BitVec 32) (k0_hw307 : k0_chk307 v2468), 4 ∣ (k0_mult307 v2468).toNat := fun v2468 k0_hw307 => k0_hw307.1
theorem k0_off494_inb : ∀ (v2468 : BitVec 32) (k0_hw307 : k0_chk307 v2468), ∀ a, (k0_off494 v2468) a + S4x128.size a ≤ S65536x128.size a := fun v2468 k0_hw307 => k0_hw307.2

def k0_off495 (k0_t1 : Fin k0_t1_loop.trips) : Fin 3 → Nat :=
  let c0_1615 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2475 : Index := Scalar.indexCast v2066
  let c51_1616 : Index := 51#32
  ![0, v2475.toNat, 51]
def k0_mult308 (v2476 : BitVec 32) : BitVec 32 :=
  v2476

def k0_off496 (v2476 : BitVec 32) : Fin 2 → Nat :=
  let v2477 : BitVec 32 := v2476
  let v2478 : Index := Scalar.indexCast v2477
  let c0_1617 : Index := 0#32
  ![v2478.toNat, 0]

def k0_chk308 (v2476 : BitVec 32) : Prop :=
  (4 ∣ (k0_mult308 v2476).toNat) ∧
  (∀ a, (k0_off496 v2476) a + S4x128.size a ≤ S65536x128.size a)
theorem k0_mult308_dvd : ∀ (v2476 : BitVec 32) (k0_hw308 : k0_chk308 v2476), 4 ∣ (k0_mult308 v2476).toNat := fun v2476 k0_hw308 => k0_hw308.1
theorem k0_off496_inb : ∀ (v2476 : BitVec 32) (k0_hw308 : k0_chk308 v2476), ∀ a, (k0_off496 v2476) a + S4x128.size a ≤ S65536x128.size a := fun v2476 k0_hw308 => k0_hw308.2

def k0_off497 (k0_t1 : Fin k0_t1_loop.trips) : Fin 3 → Nat :=
  let c0_1620 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2483 : Index := Scalar.indexCast v2066
  let c52_1621 : Index := 52#32
  ![0, v2483.toNat, 52]
def k0_mult309 (v2484 : BitVec 32) : BitVec 32 :=
  v2484

def k0_off498 (v2484 : BitVec 32) : Fin 2 → Nat :=
  let v2485 : BitVec 32 := v2484
  let v2486 : Index := Scalar.indexCast v2485
  let c0_1622 : Index := 0#32
  ![v2486.toNat, 0]

def k0_chk309 (v2484 : BitVec 32) : Prop :=
  (4 ∣ (k0_mult309 v2484).toNat) ∧
  (∀ a, (k0_off498 v2484) a + S4x128.size a ≤ S65536x128.size a)
theorem k0_mult309_dvd : ∀ (v2484 : BitVec 32) (k0_hw309 : k0_chk309 v2484), 4 ∣ (k0_mult309 v2484).toNat := fun v2484 k0_hw309 => k0_hw309.1
theorem k0_off498_inb : ∀ (v2484 : BitVec 32) (k0_hw309 : k0_chk309 v2484), ∀ a, (k0_off498 v2484) a + S4x128.size a ≤ S65536x128.size a := fun v2484 k0_hw309 => k0_hw309.2

def k0_off499 (k0_t1 : Fin k0_t1_loop.trips) : Fin 3 → Nat :=
  let c0_1625 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2491 : Index := Scalar.indexCast v2066
  let c53_1626 : Index := 53#32
  ![0, v2491.toNat, 53]
def k0_mult310 (v2492 : BitVec 32) : BitVec 32 :=
  v2492

def k0_off500 (v2492 : BitVec 32) : Fin 2 → Nat :=
  let v2493 : BitVec 32 := v2492
  let v2494 : Index := Scalar.indexCast v2493
  let c0_1627 : Index := 0#32
  ![v2494.toNat, 0]

def k0_chk310 (v2492 : BitVec 32) : Prop :=
  (4 ∣ (k0_mult310 v2492).toNat) ∧
  (∀ a, (k0_off500 v2492) a + S4x128.size a ≤ S65536x128.size a)
theorem k0_mult310_dvd : ∀ (v2492 : BitVec 32) (k0_hw310 : k0_chk310 v2492), 4 ∣ (k0_mult310 v2492).toNat := fun v2492 k0_hw310 => k0_hw310.1
theorem k0_off500_inb : ∀ (v2492 : BitVec 32) (k0_hw310 : k0_chk310 v2492), ∀ a, (k0_off500 v2492) a + S4x128.size a ≤ S65536x128.size a := fun v2492 k0_hw310 => k0_hw310.2

def k0_off501 (k0_t1 : Fin k0_t1_loop.trips) : Fin 3 → Nat :=
  let c0_1630 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2499 : Index := Scalar.indexCast v2066
  let c54_1631 : Index := 54#32
  ![0, v2499.toNat, 54]
def k0_mult311 (v2500 : BitVec 32) : BitVec 32 :=
  v2500

def k0_off502 (v2500 : BitVec 32) : Fin 2 → Nat :=
  let v2501 : BitVec 32 := v2500
  let v2502 : Index := Scalar.indexCast v2501
  let c0_1632 : Index := 0#32
  ![v2502.toNat, 0]

def k0_chk311 (v2500 : BitVec 32) : Prop :=
  (4 ∣ (k0_mult311 v2500).toNat) ∧
  (∀ a, (k0_off502 v2500) a + S4x128.size a ≤ S65536x128.size a)
theorem k0_mult311_dvd : ∀ (v2500 : BitVec 32) (k0_hw311 : k0_chk311 v2500), 4 ∣ (k0_mult311 v2500).toNat := fun v2500 k0_hw311 => k0_hw311.1
theorem k0_off502_inb : ∀ (v2500 : BitVec 32) (k0_hw311 : k0_chk311 v2500), ∀ a, (k0_off502 v2500) a + S4x128.size a ≤ S65536x128.size a := fun v2500 k0_hw311 => k0_hw311.2

def k0_off503 (k0_t1 : Fin k0_t1_loop.trips) : Fin 3 → Nat :=
  let c0_1635 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2507 : Index := Scalar.indexCast v2066
  let c55_1636 : Index := 55#32
  ![0, v2507.toNat, 55]
def k0_mult312 (v2508 : BitVec 32) : BitVec 32 :=
  v2508

def k0_off504 (v2508 : BitVec 32) : Fin 2 → Nat :=
  let v2509 : BitVec 32 := v2508
  let v2510 : Index := Scalar.indexCast v2509
  let c0_1637 : Index := 0#32
  ![v2510.toNat, 0]

def k0_chk312 (v2508 : BitVec 32) : Prop :=
  (4 ∣ (k0_mult312 v2508).toNat) ∧
  (∀ a, (k0_off504 v2508) a + S4x128.size a ≤ S65536x128.size a)
theorem k0_mult312_dvd : ∀ (v2508 : BitVec 32) (k0_hw312 : k0_chk312 v2508), 4 ∣ (k0_mult312 v2508).toNat := fun v2508 k0_hw312 => k0_hw312.1
theorem k0_off504_inb : ∀ (v2508 : BitVec 32) (k0_hw312 : k0_chk312 v2508), ∀ a, (k0_off504 v2508) a + S4x128.size a ≤ S65536x128.size a := fun v2508 k0_hw312 => k0_hw312.2

def k0_off505 (k0_t1 : Fin k0_t1_loop.trips) : Fin 3 → Nat :=
  let c0_1640 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2515 : Index := Scalar.indexCast v2066
  let c56_1641 : Index := 56#32
  ![0, v2515.toNat, 56]
def k0_mult313 (v2516 : BitVec 32) : BitVec 32 :=
  v2516

def k0_off506 (v2516 : BitVec 32) : Fin 2 → Nat :=
  let v2517 : BitVec 32 := v2516
  let v2518 : Index := Scalar.indexCast v2517
  let c0_1642 : Index := 0#32
  ![v2518.toNat, 0]

def k0_chk313 (v2516 : BitVec 32) : Prop :=
  (4 ∣ (k0_mult313 v2516).toNat) ∧
  (∀ a, (k0_off506 v2516) a + S4x128.size a ≤ S65536x128.size a)
theorem k0_mult313_dvd : ∀ (v2516 : BitVec 32) (k0_hw313 : k0_chk313 v2516), 4 ∣ (k0_mult313 v2516).toNat := fun v2516 k0_hw313 => k0_hw313.1
theorem k0_off506_inb : ∀ (v2516 : BitVec 32) (k0_hw313 : k0_chk313 v2516), ∀ a, (k0_off506 v2516) a + S4x128.size a ≤ S65536x128.size a := fun v2516 k0_hw313 => k0_hw313.2

def k0_off507 (k0_t1 : Fin k0_t1_loop.trips) : Fin 3 → Nat :=
  let c0_1645 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2523 : Index := Scalar.indexCast v2066
  let c57_1646 : Index := 57#32
  ![0, v2523.toNat, 57]
def k0_mult314 (v2524 : BitVec 32) : BitVec 32 :=
  v2524

def k0_off508 (v2524 : BitVec 32) : Fin 2 → Nat :=
  let v2525 : BitVec 32 := v2524
  let v2526 : Index := Scalar.indexCast v2525
  let c0_1647 : Index := 0#32
  ![v2526.toNat, 0]

def k0_chk314 (v2524 : BitVec 32) : Prop :=
  (4 ∣ (k0_mult314 v2524).toNat) ∧
  (∀ a, (k0_off508 v2524) a + S4x128.size a ≤ S65536x128.size a)
theorem k0_mult314_dvd : ∀ (v2524 : BitVec 32) (k0_hw314 : k0_chk314 v2524), 4 ∣ (k0_mult314 v2524).toNat := fun v2524 k0_hw314 => k0_hw314.1
theorem k0_off508_inb : ∀ (v2524 : BitVec 32) (k0_hw314 : k0_chk314 v2524), ∀ a, (k0_off508 v2524) a + S4x128.size a ≤ S65536x128.size a := fun v2524 k0_hw314 => k0_hw314.2

def k0_off509 (k0_t1 : Fin k0_t1_loop.trips) : Fin 3 → Nat :=
  let c0_1650 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2531 : Index := Scalar.indexCast v2066
  let c58_1651 : Index := 58#32
  ![0, v2531.toNat, 58]
def k0_mult315 (v2532 : BitVec 32) : BitVec 32 :=
  v2532

def k0_off510 (v2532 : BitVec 32) : Fin 2 → Nat :=
  let v2533 : BitVec 32 := v2532
  let v2534 : Index := Scalar.indexCast v2533
  let c0_1652 : Index := 0#32
  ![v2534.toNat, 0]

def k0_chk315 (v2532 : BitVec 32) : Prop :=
  (4 ∣ (k0_mult315 v2532).toNat) ∧
  (∀ a, (k0_off510 v2532) a + S4x128.size a ≤ S65536x128.size a)
theorem k0_mult315_dvd : ∀ (v2532 : BitVec 32) (k0_hw315 : k0_chk315 v2532), 4 ∣ (k0_mult315 v2532).toNat := fun v2532 k0_hw315 => k0_hw315.1
theorem k0_off510_inb : ∀ (v2532 : BitVec 32) (k0_hw315 : k0_chk315 v2532), ∀ a, (k0_off510 v2532) a + S4x128.size a ≤ S65536x128.size a := fun v2532 k0_hw315 => k0_hw315.2

def k0_off511 (k0_t1 : Fin k0_t1_loop.trips) : Fin 3 → Nat :=
  let c0_1655 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2539 : Index := Scalar.indexCast v2066
  let c59_1656 : Index := 59#32
  ![0, v2539.toNat, 59]
def k0_mult316 (v2540 : BitVec 32) : BitVec 32 :=
  v2540

def k0_off512 (v2540 : BitVec 32) : Fin 2 → Nat :=
  let v2541 : BitVec 32 := v2540
  let v2542 : Index := Scalar.indexCast v2541
  let c0_1657 : Index := 0#32
  ![v2542.toNat, 0]

def k0_chk316 (v2540 : BitVec 32) : Prop :=
  (4 ∣ (k0_mult316 v2540).toNat) ∧
  (∀ a, (k0_off512 v2540) a + S4x128.size a ≤ S65536x128.size a)
theorem k0_mult316_dvd : ∀ (v2540 : BitVec 32) (k0_hw316 : k0_chk316 v2540), 4 ∣ (k0_mult316 v2540).toNat := fun v2540 k0_hw316 => k0_hw316.1
theorem k0_off512_inb : ∀ (v2540 : BitVec 32) (k0_hw316 : k0_chk316 v2540), ∀ a, (k0_off512 v2540) a + S4x128.size a ≤ S65536x128.size a := fun v2540 k0_hw316 => k0_hw316.2

def k0_off513 (k0_t1 : Fin k0_t1_loop.trips) : Fin 3 → Nat :=
  let c0_1660 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2547 : Index := Scalar.indexCast v2066
  let c60_1661 : Index := 60#32
  ![0, v2547.toNat, 60]
def k0_mult317 (v2548 : BitVec 32) : BitVec 32 :=
  v2548

def k0_off514 (v2548 : BitVec 32) : Fin 2 → Nat :=
  let v2549 : BitVec 32 := v2548
  let v2550 : Index := Scalar.indexCast v2549
  let c0_1662 : Index := 0#32
  ![v2550.toNat, 0]

def k0_chk317 (v2548 : BitVec 32) : Prop :=
  (4 ∣ (k0_mult317 v2548).toNat) ∧
  (∀ a, (k0_off514 v2548) a + S4x128.size a ≤ S65536x128.size a)
theorem k0_mult317_dvd : ∀ (v2548 : BitVec 32) (k0_hw317 : k0_chk317 v2548), 4 ∣ (k0_mult317 v2548).toNat := fun v2548 k0_hw317 => k0_hw317.1
theorem k0_off514_inb : ∀ (v2548 : BitVec 32) (k0_hw317 : k0_chk317 v2548), ∀ a, (k0_off514 v2548) a + S4x128.size a ≤ S65536x128.size a := fun v2548 k0_hw317 => k0_hw317.2

def k0_off515 (k0_t1 : Fin k0_t1_loop.trips) : Fin 3 → Nat :=
  let c0_1665 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2555 : Index := Scalar.indexCast v2066
  let c61_1666 : Index := 61#32
  ![0, v2555.toNat, 61]
def k0_mult318 (v2556 : BitVec 32) : BitVec 32 :=
  v2556

def k0_off516 (v2556 : BitVec 32) : Fin 2 → Nat :=
  let v2557 : BitVec 32 := v2556
  let v2558 : Index := Scalar.indexCast v2557
  let c0_1667 : Index := 0#32
  ![v2558.toNat, 0]

def k0_chk318 (v2556 : BitVec 32) : Prop :=
  (4 ∣ (k0_mult318 v2556).toNat) ∧
  (∀ a, (k0_off516 v2556) a + S4x128.size a ≤ S65536x128.size a)
theorem k0_mult318_dvd : ∀ (v2556 : BitVec 32) (k0_hw318 : k0_chk318 v2556), 4 ∣ (k0_mult318 v2556).toNat := fun v2556 k0_hw318 => k0_hw318.1
theorem k0_off516_inb : ∀ (v2556 : BitVec 32) (k0_hw318 : k0_chk318 v2556), ∀ a, (k0_off516 v2556) a + S4x128.size a ≤ S65536x128.size a := fun v2556 k0_hw318 => k0_hw318.2

def k0_off517 (k0_t1 : Fin k0_t1_loop.trips) : Fin 3 → Nat :=
  let c0_1670 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2563 : Index := Scalar.indexCast v2066
  let c62_1671 : Index := 62#32
  ![0, v2563.toNat, 62]
def k0_mult319 (v2564 : BitVec 32) : BitVec 32 :=
  v2564

def k0_off518 (v2564 : BitVec 32) : Fin 2 → Nat :=
  let v2565 : BitVec 32 := v2564
  let v2566 : Index := Scalar.indexCast v2565
  let c0_1672 : Index := 0#32
  ![v2566.toNat, 0]

def k0_chk319 (v2564 : BitVec 32) : Prop :=
  (4 ∣ (k0_mult319 v2564).toNat) ∧
  (∀ a, (k0_off518 v2564) a + S4x128.size a ≤ S65536x128.size a)
theorem k0_mult319_dvd : ∀ (v2564 : BitVec 32) (k0_hw319 : k0_chk319 v2564), 4 ∣ (k0_mult319 v2564).toNat := fun v2564 k0_hw319 => k0_hw319.1
theorem k0_off518_inb : ∀ (v2564 : BitVec 32) (k0_hw319 : k0_chk319 v2564), ∀ a, (k0_off518 v2564) a + S4x128.size a ≤ S65536x128.size a := fun v2564 k0_hw319 => k0_hw319.2

def k0_off519 (k0_t1 : Fin k0_t1_loop.trips) : Fin 3 → Nat :=
  let c0_1675 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2571 : Index := Scalar.indexCast v2066
  let c63_1676 : Index := 63#32
  ![0, v2571.toNat, 63]
def k0_mult320 (v2572 : BitVec 32) : BitVec 32 :=
  v2572

def k0_off520 (v2572 : BitVec 32) : Fin 2 → Nat :=
  let v2573 : BitVec 32 := v2572
  let v2574 : Index := Scalar.indexCast v2573
  let c0_1677 : Index := 0#32
  ![v2574.toNat, 0]

def k0_chk320 (v2572 : BitVec 32) : Prop :=
  (4 ∣ (k0_mult320 v2572).toNat) ∧
  (∀ a, (k0_off520 v2572) a + S4x128.size a ≤ S65536x128.size a)
theorem k0_mult320_dvd : ∀ (v2572 : BitVec 32) (k0_hw320 : k0_chk320 v2572), 4 ∣ (k0_mult320 v2572).toNat := fun v2572 k0_hw320 => k0_hw320.1
theorem k0_off520_inb : ∀ (v2572 : BitVec 32) (k0_hw320 : k0_chk320 v2572), ∀ a, (k0_off520 v2572) a + S4x128.size a ≤ S65536x128.size a := fun v2572 k0_hw320 => k0_hw320.2

def k0_off521 (k0_t1 : Fin k0_t1_loop.trips) : Fin 3 → Nat :=
  let c0_1680 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2579 : Index := Scalar.indexCast v2066
  let c64_1681 : Index := 64#32
  ![0, v2579.toNat, 64]
def k0_mult321 (v2580 : BitVec 32) : BitVec 32 :=
  v2580

def k0_off522 (v2580 : BitVec 32) : Fin 2 → Nat :=
  let v2581 : BitVec 32 := v2580
  let v2582 : Index := Scalar.indexCast v2581
  let c0_1682 : Index := 0#32
  ![v2582.toNat, 0]

def k0_chk321 (v2580 : BitVec 32) : Prop :=
  (4 ∣ (k0_mult321 v2580).toNat) ∧
  (∀ a, (k0_off522 v2580) a + S4x128.size a ≤ S65536x128.size a)
theorem k0_mult321_dvd : ∀ (v2580 : BitVec 32) (k0_hw321 : k0_chk321 v2580), 4 ∣ (k0_mult321 v2580).toNat := fun v2580 k0_hw321 => k0_hw321.1
theorem k0_off522_inb : ∀ (v2580 : BitVec 32) (k0_hw321 : k0_chk321 v2580), ∀ a, (k0_off522 v2580) a + S4x128.size a ≤ S65536x128.size a := fun v2580 k0_hw321 => k0_hw321.2

def k0_off523 (k0_t1 : Fin k0_t1_loop.trips) : Fin 3 → Nat :=
  let c0_1685 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2587 : Index := Scalar.indexCast v2066
  let c65_1686 : Index := 65#32
  ![0, v2587.toNat, 65]
def k0_mult322 (v2588 : BitVec 32) : BitVec 32 :=
  v2588

def k0_off524 (v2588 : BitVec 32) : Fin 2 → Nat :=
  let v2589 : BitVec 32 := v2588
  let v2590 : Index := Scalar.indexCast v2589
  let c0_1687 : Index := 0#32
  ![v2590.toNat, 0]

def k0_chk322 (v2588 : BitVec 32) : Prop :=
  (4 ∣ (k0_mult322 v2588).toNat) ∧
  (∀ a, (k0_off524 v2588) a + S4x128.size a ≤ S65536x128.size a)
theorem k0_mult322_dvd : ∀ (v2588 : BitVec 32) (k0_hw322 : k0_chk322 v2588), 4 ∣ (k0_mult322 v2588).toNat := fun v2588 k0_hw322 => k0_hw322.1
theorem k0_off524_inb : ∀ (v2588 : BitVec 32) (k0_hw322 : k0_chk322 v2588), ∀ a, (k0_off524 v2588) a + S4x128.size a ≤ S65536x128.size a := fun v2588 k0_hw322 => k0_hw322.2

def k0_off525 (k0_t1 : Fin k0_t1_loop.trips) : Fin 3 → Nat :=
  let c0_1690 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2595 : Index := Scalar.indexCast v2066
  let c66_1691 : Index := 66#32
  ![0, v2595.toNat, 66]
def k0_mult323 (v2596 : BitVec 32) : BitVec 32 :=
  v2596

def k0_off526 (v2596 : BitVec 32) : Fin 2 → Nat :=
  let v2597 : BitVec 32 := v2596
  let v2598 : Index := Scalar.indexCast v2597
  let c0_1692 : Index := 0#32
  ![v2598.toNat, 0]

def k0_chk323 (v2596 : BitVec 32) : Prop :=
  (4 ∣ (k0_mult323 v2596).toNat) ∧
  (∀ a, (k0_off526 v2596) a + S4x128.size a ≤ S65536x128.size a)
theorem k0_mult323_dvd : ∀ (v2596 : BitVec 32) (k0_hw323 : k0_chk323 v2596), 4 ∣ (k0_mult323 v2596).toNat := fun v2596 k0_hw323 => k0_hw323.1
theorem k0_off526_inb : ∀ (v2596 : BitVec 32) (k0_hw323 : k0_chk323 v2596), ∀ a, (k0_off526 v2596) a + S4x128.size a ≤ S65536x128.size a := fun v2596 k0_hw323 => k0_hw323.2

def k0_off527 (k0_t1 : Fin k0_t1_loop.trips) : Fin 3 → Nat :=
  let c0_1695 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2603 : Index := Scalar.indexCast v2066
  let c67_1696 : Index := 67#32
  ![0, v2603.toNat, 67]
def k0_mult324 (v2604 : BitVec 32) : BitVec 32 :=
  v2604

def k0_off528 (v2604 : BitVec 32) : Fin 2 → Nat :=
  let v2605 : BitVec 32 := v2604
  let v2606 : Index := Scalar.indexCast v2605
  let c0_1697 : Index := 0#32
  ![v2606.toNat, 0]

def k0_chk324 (v2604 : BitVec 32) : Prop :=
  (4 ∣ (k0_mult324 v2604).toNat) ∧
  (∀ a, (k0_off528 v2604) a + S4x128.size a ≤ S65536x128.size a)
theorem k0_mult324_dvd : ∀ (v2604 : BitVec 32) (k0_hw324 : k0_chk324 v2604), 4 ∣ (k0_mult324 v2604).toNat := fun v2604 k0_hw324 => k0_hw324.1
theorem k0_off528_inb : ∀ (v2604 : BitVec 32) (k0_hw324 : k0_chk324 v2604), ∀ a, (k0_off528 v2604) a + S4x128.size a ≤ S65536x128.size a := fun v2604 k0_hw324 => k0_hw324.2

def k0_off529 (k0_t1 : Fin k0_t1_loop.trips) : Fin 3 → Nat :=
  let c0_1700 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2611 : Index := Scalar.indexCast v2066
  let c68_1701 : Index := 68#32
  ![0, v2611.toNat, 68]
def k0_mult325 (v2612 : BitVec 32) : BitVec 32 :=
  v2612

def k0_off530 (v2612 : BitVec 32) : Fin 2 → Nat :=
  let v2613 : BitVec 32 := v2612
  let v2614 : Index := Scalar.indexCast v2613
  let c0_1702 : Index := 0#32
  ![v2614.toNat, 0]

def k0_chk325 (v2612 : BitVec 32) : Prop :=
  (4 ∣ (k0_mult325 v2612).toNat) ∧
  (∀ a, (k0_off530 v2612) a + S4x128.size a ≤ S65536x128.size a)
theorem k0_mult325_dvd : ∀ (v2612 : BitVec 32) (k0_hw325 : k0_chk325 v2612), 4 ∣ (k0_mult325 v2612).toNat := fun v2612 k0_hw325 => k0_hw325.1
theorem k0_off530_inb : ∀ (v2612 : BitVec 32) (k0_hw325 : k0_chk325 v2612), ∀ a, (k0_off530 v2612) a + S4x128.size a ≤ S65536x128.size a := fun v2612 k0_hw325 => k0_hw325.2

def k0_off531 (k0_t1 : Fin k0_t1_loop.trips) : Fin 3 → Nat :=
  let c0_1705 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2619 : Index := Scalar.indexCast v2066
  let c69_1706 : Index := 69#32
  ![0, v2619.toNat, 69]
def k0_mult326 (v2620 : BitVec 32) : BitVec 32 :=
  v2620

def k0_off532 (v2620 : BitVec 32) : Fin 2 → Nat :=
  let v2621 : BitVec 32 := v2620
  let v2622 : Index := Scalar.indexCast v2621
  let c0_1707 : Index := 0#32
  ![v2622.toNat, 0]

def k0_chk326 (v2620 : BitVec 32) : Prop :=
  (4 ∣ (k0_mult326 v2620).toNat) ∧
  (∀ a, (k0_off532 v2620) a + S4x128.size a ≤ S65536x128.size a)
theorem k0_mult326_dvd : ∀ (v2620 : BitVec 32) (k0_hw326 : k0_chk326 v2620), 4 ∣ (k0_mult326 v2620).toNat := fun v2620 k0_hw326 => k0_hw326.1
theorem k0_off532_inb : ∀ (v2620 : BitVec 32) (k0_hw326 : k0_chk326 v2620), ∀ a, (k0_off532 v2620) a + S4x128.size a ≤ S65536x128.size a := fun v2620 k0_hw326 => k0_hw326.2

def k0_off533 (k0_t1 : Fin k0_t1_loop.trips) : Fin 3 → Nat :=
  let c0_1710 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2627 : Index := Scalar.indexCast v2066
  let c70_1711 : Index := 70#32
  ![0, v2627.toNat, 70]
def k0_mult327 (v2628 : BitVec 32) : BitVec 32 :=
  v2628

def k0_off534 (v2628 : BitVec 32) : Fin 2 → Nat :=
  let v2629 : BitVec 32 := v2628
  let v2630 : Index := Scalar.indexCast v2629
  let c0_1712 : Index := 0#32
  ![v2630.toNat, 0]

def k0_chk327 (v2628 : BitVec 32) : Prop :=
  (4 ∣ (k0_mult327 v2628).toNat) ∧
  (∀ a, (k0_off534 v2628) a + S4x128.size a ≤ S65536x128.size a)
theorem k0_mult327_dvd : ∀ (v2628 : BitVec 32) (k0_hw327 : k0_chk327 v2628), 4 ∣ (k0_mult327 v2628).toNat := fun v2628 k0_hw327 => k0_hw327.1
theorem k0_off534_inb : ∀ (v2628 : BitVec 32) (k0_hw327 : k0_chk327 v2628), ∀ a, (k0_off534 v2628) a + S4x128.size a ≤ S65536x128.size a := fun v2628 k0_hw327 => k0_hw327.2

def k0_off535 (k0_t1 : Fin k0_t1_loop.trips) : Fin 3 → Nat :=
  let c0_1715 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2635 : Index := Scalar.indexCast v2066
  let c71_1716 : Index := 71#32
  ![0, v2635.toNat, 71]
def k0_mult328 (v2636 : BitVec 32) : BitVec 32 :=
  v2636

def k0_off536 (v2636 : BitVec 32) : Fin 2 → Nat :=
  let v2637 : BitVec 32 := v2636
  let v2638 : Index := Scalar.indexCast v2637
  let c0_1717 : Index := 0#32
  ![v2638.toNat, 0]

def k0_chk328 (v2636 : BitVec 32) : Prop :=
  (4 ∣ (k0_mult328 v2636).toNat) ∧
  (∀ a, (k0_off536 v2636) a + S4x128.size a ≤ S65536x128.size a)
theorem k0_mult328_dvd : ∀ (v2636 : BitVec 32) (k0_hw328 : k0_chk328 v2636), 4 ∣ (k0_mult328 v2636).toNat := fun v2636 k0_hw328 => k0_hw328.1
theorem k0_off536_inb : ∀ (v2636 : BitVec 32) (k0_hw328 : k0_chk328 v2636), ∀ a, (k0_off536 v2636) a + S4x128.size a ≤ S65536x128.size a := fun v2636 k0_hw328 => k0_hw328.2

def k0_off537 (k0_t1 : Fin k0_t1_loop.trips) : Fin 3 → Nat :=
  let c0_1720 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2643 : Index := Scalar.indexCast v2066
  let c72_1721 : Index := 72#32
  ![0, v2643.toNat, 72]
def k0_mult329 (v2644 : BitVec 32) : BitVec 32 :=
  v2644

def k0_off538 (v2644 : BitVec 32) : Fin 2 → Nat :=
  let v2645 : BitVec 32 := v2644
  let v2646 : Index := Scalar.indexCast v2645
  let c0_1722 : Index := 0#32
  ![v2646.toNat, 0]

def k0_chk329 (v2644 : BitVec 32) : Prop :=
  (4 ∣ (k0_mult329 v2644).toNat) ∧
  (∀ a, (k0_off538 v2644) a + S4x128.size a ≤ S65536x128.size a)
theorem k0_mult329_dvd : ∀ (v2644 : BitVec 32) (k0_hw329 : k0_chk329 v2644), 4 ∣ (k0_mult329 v2644).toNat := fun v2644 k0_hw329 => k0_hw329.1
theorem k0_off538_inb : ∀ (v2644 : BitVec 32) (k0_hw329 : k0_chk329 v2644), ∀ a, (k0_off538 v2644) a + S4x128.size a ≤ S65536x128.size a := fun v2644 k0_hw329 => k0_hw329.2

def k0_off539 (k0_t1 : Fin k0_t1_loop.trips) : Fin 3 → Nat :=
  let c0_1725 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2651 : Index := Scalar.indexCast v2066
  let c73_1726 : Index := 73#32
  ![0, v2651.toNat, 73]
def k0_mult330 (v2652 : BitVec 32) : BitVec 32 :=
  v2652

def k0_off540 (v2652 : BitVec 32) : Fin 2 → Nat :=
  let v2653 : BitVec 32 := v2652
  let v2654 : Index := Scalar.indexCast v2653
  let c0_1727 : Index := 0#32
  ![v2654.toNat, 0]

def k0_chk330 (v2652 : BitVec 32) : Prop :=
  (4 ∣ (k0_mult330 v2652).toNat) ∧
  (∀ a, (k0_off540 v2652) a + S4x128.size a ≤ S65536x128.size a)
theorem k0_mult330_dvd : ∀ (v2652 : BitVec 32) (k0_hw330 : k0_chk330 v2652), 4 ∣ (k0_mult330 v2652).toNat := fun v2652 k0_hw330 => k0_hw330.1
theorem k0_off540_inb : ∀ (v2652 : BitVec 32) (k0_hw330 : k0_chk330 v2652), ∀ a, (k0_off540 v2652) a + S4x128.size a ≤ S65536x128.size a := fun v2652 k0_hw330 => k0_hw330.2

def k0_off541 (k0_t1 : Fin k0_t1_loop.trips) : Fin 3 → Nat :=
  let c0_1730 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2659 : Index := Scalar.indexCast v2066
  let c74_1731 : Index := 74#32
  ![0, v2659.toNat, 74]
def k0_mult331 (v2660 : BitVec 32) : BitVec 32 :=
  v2660

def k0_off542 (v2660 : BitVec 32) : Fin 2 → Nat :=
  let v2661 : BitVec 32 := v2660
  let v2662 : Index := Scalar.indexCast v2661
  let c0_1732 : Index := 0#32
  ![v2662.toNat, 0]

def k0_chk331 (v2660 : BitVec 32) : Prop :=
  (4 ∣ (k0_mult331 v2660).toNat) ∧
  (∀ a, (k0_off542 v2660) a + S4x128.size a ≤ S65536x128.size a)
theorem k0_mult331_dvd : ∀ (v2660 : BitVec 32) (k0_hw331 : k0_chk331 v2660), 4 ∣ (k0_mult331 v2660).toNat := fun v2660 k0_hw331 => k0_hw331.1
theorem k0_off542_inb : ∀ (v2660 : BitVec 32) (k0_hw331 : k0_chk331 v2660), ∀ a, (k0_off542 v2660) a + S4x128.size a ≤ S65536x128.size a := fun v2660 k0_hw331 => k0_hw331.2

def k0_off543 (k0_t1 : Fin k0_t1_loop.trips) : Fin 3 → Nat :=
  let c0_1735 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2667 : Index := Scalar.indexCast v2066
  let c75_1736 : Index := 75#32
  ![0, v2667.toNat, 75]
def k0_mult332 (v2668 : BitVec 32) : BitVec 32 :=
  v2668

def k0_off544 (v2668 : BitVec 32) : Fin 2 → Nat :=
  let v2669 : BitVec 32 := v2668
  let v2670 : Index := Scalar.indexCast v2669
  let c0_1737 : Index := 0#32
  ![v2670.toNat, 0]

def k0_chk332 (v2668 : BitVec 32) : Prop :=
  (4 ∣ (k0_mult332 v2668).toNat) ∧
  (∀ a, (k0_off544 v2668) a + S4x128.size a ≤ S65536x128.size a)
theorem k0_mult332_dvd : ∀ (v2668 : BitVec 32) (k0_hw332 : k0_chk332 v2668), 4 ∣ (k0_mult332 v2668).toNat := fun v2668 k0_hw332 => k0_hw332.1
theorem k0_off544_inb : ∀ (v2668 : BitVec 32) (k0_hw332 : k0_chk332 v2668), ∀ a, (k0_off544 v2668) a + S4x128.size a ≤ S65536x128.size a := fun v2668 k0_hw332 => k0_hw332.2

def k0_off545 (k0_t1 : Fin k0_t1_loop.trips) : Fin 3 → Nat :=
  let c0_1740 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2675 : Index := Scalar.indexCast v2066
  let c76_1741 : Index := 76#32
  ![0, v2675.toNat, 76]
def k0_mult333 (v2676 : BitVec 32) : BitVec 32 :=
  v2676

def k0_off546 (v2676 : BitVec 32) : Fin 2 → Nat :=
  let v2677 : BitVec 32 := v2676
  let v2678 : Index := Scalar.indexCast v2677
  let c0_1742 : Index := 0#32
  ![v2678.toNat, 0]

def k0_chk333 (v2676 : BitVec 32) : Prop :=
  (4 ∣ (k0_mult333 v2676).toNat) ∧
  (∀ a, (k0_off546 v2676) a + S4x128.size a ≤ S65536x128.size a)
theorem k0_mult333_dvd : ∀ (v2676 : BitVec 32) (k0_hw333 : k0_chk333 v2676), 4 ∣ (k0_mult333 v2676).toNat := fun v2676 k0_hw333 => k0_hw333.1
theorem k0_off546_inb : ∀ (v2676 : BitVec 32) (k0_hw333 : k0_chk333 v2676), ∀ a, (k0_off546 v2676) a + S4x128.size a ≤ S65536x128.size a := fun v2676 k0_hw333 => k0_hw333.2

def k0_off547 (k0_t1 : Fin k0_t1_loop.trips) : Fin 3 → Nat :=
  let c0_1745 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2683 : Index := Scalar.indexCast v2066
  let c77_1746 : Index := 77#32
  ![0, v2683.toNat, 77]
def k0_mult334 (v2684 : BitVec 32) : BitVec 32 :=
  v2684

def k0_off548 (v2684 : BitVec 32) : Fin 2 → Nat :=
  let v2685 : BitVec 32 := v2684
  let v2686 : Index := Scalar.indexCast v2685
  let c0_1747 : Index := 0#32
  ![v2686.toNat, 0]

def k0_chk334 (v2684 : BitVec 32) : Prop :=
  (4 ∣ (k0_mult334 v2684).toNat) ∧
  (∀ a, (k0_off548 v2684) a + S4x128.size a ≤ S65536x128.size a)
theorem k0_mult334_dvd : ∀ (v2684 : BitVec 32) (k0_hw334 : k0_chk334 v2684), 4 ∣ (k0_mult334 v2684).toNat := fun v2684 k0_hw334 => k0_hw334.1
theorem k0_off548_inb : ∀ (v2684 : BitVec 32) (k0_hw334 : k0_chk334 v2684), ∀ a, (k0_off548 v2684) a + S4x128.size a ≤ S65536x128.size a := fun v2684 k0_hw334 => k0_hw334.2

def k0_off549 (k0_t1 : Fin k0_t1_loop.trips) : Fin 3 → Nat :=
  let c0_1750 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2691 : Index := Scalar.indexCast v2066
  let c78_1751 : Index := 78#32
  ![0, v2691.toNat, 78]
def k0_mult335 (v2692 : BitVec 32) : BitVec 32 :=
  v2692

def k0_off550 (v2692 : BitVec 32) : Fin 2 → Nat :=
  let v2693 : BitVec 32 := v2692
  let v2694 : Index := Scalar.indexCast v2693
  let c0_1752 : Index := 0#32
  ![v2694.toNat, 0]

def k0_chk335 (v2692 : BitVec 32) : Prop :=
  (4 ∣ (k0_mult335 v2692).toNat) ∧
  (∀ a, (k0_off550 v2692) a + S4x128.size a ≤ S65536x128.size a)
theorem k0_mult335_dvd : ∀ (v2692 : BitVec 32) (k0_hw335 : k0_chk335 v2692), 4 ∣ (k0_mult335 v2692).toNat := fun v2692 k0_hw335 => k0_hw335.1
theorem k0_off550_inb : ∀ (v2692 : BitVec 32) (k0_hw335 : k0_chk335 v2692), ∀ a, (k0_off550 v2692) a + S4x128.size a ≤ S65536x128.size a := fun v2692 k0_hw335 => k0_hw335.2

def k0_off551 (k0_t1 : Fin k0_t1_loop.trips) : Fin 3 → Nat :=
  let c0_1755 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2699 : Index := Scalar.indexCast v2066
  let c79_1756 : Index := 79#32
  ![0, v2699.toNat, 79]
def k0_mult336 (v2700 : BitVec 32) : BitVec 32 :=
  v2700

def k0_off552 (v2700 : BitVec 32) : Fin 2 → Nat :=
  let v2701 : BitVec 32 := v2700
  let v2702 : Index := Scalar.indexCast v2701
  let c0_1757 : Index := 0#32
  ![v2702.toNat, 0]

def k0_chk336 (v2700 : BitVec 32) : Prop :=
  (4 ∣ (k0_mult336 v2700).toNat) ∧
  (∀ a, (k0_off552 v2700) a + S4x128.size a ≤ S65536x128.size a)
theorem k0_mult336_dvd : ∀ (v2700 : BitVec 32) (k0_hw336 : k0_chk336 v2700), 4 ∣ (k0_mult336 v2700).toNat := fun v2700 k0_hw336 => k0_hw336.1
theorem k0_off552_inb : ∀ (v2700 : BitVec 32) (k0_hw336 : k0_chk336 v2700), ∀ a, (k0_off552 v2700) a + S4x128.size a ≤ S65536x128.size a := fun v2700 k0_hw336 => k0_hw336.2

def k0_off553 (k0_t1 : Fin k0_t1_loop.trips) : Fin 3 → Nat :=
  let c0_1760 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2707 : Index := Scalar.indexCast v2066
  let c80_1761 : Index := 80#32
  ![0, v2707.toNat, 80]
def k0_mult337 (v2708 : BitVec 32) : BitVec 32 :=
  v2708

def k0_off554 (v2708 : BitVec 32) : Fin 2 → Nat :=
  let v2709 : BitVec 32 := v2708
  let v2710 : Index := Scalar.indexCast v2709
  let c0_1762 : Index := 0#32
  ![v2710.toNat, 0]

def k0_chk337 (v2708 : BitVec 32) : Prop :=
  (4 ∣ (k0_mult337 v2708).toNat) ∧
  (∀ a, (k0_off554 v2708) a + S4x128.size a ≤ S65536x128.size a)
theorem k0_mult337_dvd : ∀ (v2708 : BitVec 32) (k0_hw337 : k0_chk337 v2708), 4 ∣ (k0_mult337 v2708).toNat := fun v2708 k0_hw337 => k0_hw337.1
theorem k0_off554_inb : ∀ (v2708 : BitVec 32) (k0_hw337 : k0_chk337 v2708), ∀ a, (k0_off554 v2708) a + S4x128.size a ≤ S65536x128.size a := fun v2708 k0_hw337 => k0_hw337.2

def k0_off555 (k0_t1 : Fin k0_t1_loop.trips) : Fin 3 → Nat :=
  let c0_1765 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2715 : Index := Scalar.indexCast v2066
  let c81_1766 : Index := 81#32
  ![0, v2715.toNat, 81]
def k0_mult338 (v2716 : BitVec 32) : BitVec 32 :=
  v2716

def k0_off556 (v2716 : BitVec 32) : Fin 2 → Nat :=
  let v2717 : BitVec 32 := v2716
  let v2718 : Index := Scalar.indexCast v2717
  let c0_1767 : Index := 0#32
  ![v2718.toNat, 0]

def k0_chk338 (v2716 : BitVec 32) : Prop :=
  (4 ∣ (k0_mult338 v2716).toNat) ∧
  (∀ a, (k0_off556 v2716) a + S4x128.size a ≤ S65536x128.size a)
theorem k0_mult338_dvd : ∀ (v2716 : BitVec 32) (k0_hw338 : k0_chk338 v2716), 4 ∣ (k0_mult338 v2716).toNat := fun v2716 k0_hw338 => k0_hw338.1
theorem k0_off556_inb : ∀ (v2716 : BitVec 32) (k0_hw338 : k0_chk338 v2716), ∀ a, (k0_off556 v2716) a + S4x128.size a ≤ S65536x128.size a := fun v2716 k0_hw338 => k0_hw338.2

def k0_off557 (k0_t1 : Fin k0_t1_loop.trips) : Fin 3 → Nat :=
  let c0_1770 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2723 : Index := Scalar.indexCast v2066
  let c82_1771 : Index := 82#32
  ![0, v2723.toNat, 82]
def k0_mult339 (v2724 : BitVec 32) : BitVec 32 :=
  v2724

def k0_off558 (v2724 : BitVec 32) : Fin 2 → Nat :=
  let v2725 : BitVec 32 := v2724
  let v2726 : Index := Scalar.indexCast v2725
  let c0_1772 : Index := 0#32
  ![v2726.toNat, 0]

def k0_chk339 (v2724 : BitVec 32) : Prop :=
  (4 ∣ (k0_mult339 v2724).toNat) ∧
  (∀ a, (k0_off558 v2724) a + S4x128.size a ≤ S65536x128.size a)
theorem k0_mult339_dvd : ∀ (v2724 : BitVec 32) (k0_hw339 : k0_chk339 v2724), 4 ∣ (k0_mult339 v2724).toNat := fun v2724 k0_hw339 => k0_hw339.1
theorem k0_off558_inb : ∀ (v2724 : BitVec 32) (k0_hw339 : k0_chk339 v2724), ∀ a, (k0_off558 v2724) a + S4x128.size a ≤ S65536x128.size a := fun v2724 k0_hw339 => k0_hw339.2

def k0_off559 (k0_t1 : Fin k0_t1_loop.trips) : Fin 3 → Nat :=
  let c0_1775 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2731 : Index := Scalar.indexCast v2066
  let c83_1776 : Index := 83#32
  ![0, v2731.toNat, 83]
def k0_mult340 (v2732 : BitVec 32) : BitVec 32 :=
  v2732

def k0_off560 (v2732 : BitVec 32) : Fin 2 → Nat :=
  let v2733 : BitVec 32 := v2732
  let v2734 : Index := Scalar.indexCast v2733
  let c0_1777 : Index := 0#32
  ![v2734.toNat, 0]

def k0_chk340 (v2732 : BitVec 32) : Prop :=
  (4 ∣ (k0_mult340 v2732).toNat) ∧
  (∀ a, (k0_off560 v2732) a + S4x128.size a ≤ S65536x128.size a)
theorem k0_mult340_dvd : ∀ (v2732 : BitVec 32) (k0_hw340 : k0_chk340 v2732), 4 ∣ (k0_mult340 v2732).toNat := fun v2732 k0_hw340 => k0_hw340.1
theorem k0_off560_inb : ∀ (v2732 : BitVec 32) (k0_hw340 : k0_chk340 v2732), ∀ a, (k0_off560 v2732) a + S4x128.size a ≤ S65536x128.size a := fun v2732 k0_hw340 => k0_hw340.2

def k0_off561 (k0_t1 : Fin k0_t1_loop.trips) : Fin 3 → Nat :=
  let c0_1780 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2739 : Index := Scalar.indexCast v2066
  let c84_1781 : Index := 84#32
  ![0, v2739.toNat, 84]
def k0_mult341 (v2740 : BitVec 32) : BitVec 32 :=
  v2740

def k0_off562 (v2740 : BitVec 32) : Fin 2 → Nat :=
  let v2741 : BitVec 32 := v2740
  let v2742 : Index := Scalar.indexCast v2741
  let c0_1782 : Index := 0#32
  ![v2742.toNat, 0]

def k0_chk341 (v2740 : BitVec 32) : Prop :=
  (4 ∣ (k0_mult341 v2740).toNat) ∧
  (∀ a, (k0_off562 v2740) a + S4x128.size a ≤ S65536x128.size a)
theorem k0_mult341_dvd : ∀ (v2740 : BitVec 32) (k0_hw341 : k0_chk341 v2740), 4 ∣ (k0_mult341 v2740).toNat := fun v2740 k0_hw341 => k0_hw341.1
theorem k0_off562_inb : ∀ (v2740 : BitVec 32) (k0_hw341 : k0_chk341 v2740), ∀ a, (k0_off562 v2740) a + S4x128.size a ≤ S65536x128.size a := fun v2740 k0_hw341 => k0_hw341.2

def k0_off563 (k0_t1 : Fin k0_t1_loop.trips) : Fin 3 → Nat :=
  let c0_1785 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2747 : Index := Scalar.indexCast v2066
  let c85_1786 : Index := 85#32
  ![0, v2747.toNat, 85]
def k0_mult342 (v2748 : BitVec 32) : BitVec 32 :=
  v2748

def k0_off564 (v2748 : BitVec 32) : Fin 2 → Nat :=
  let v2749 : BitVec 32 := v2748
  let v2750 : Index := Scalar.indexCast v2749
  let c0_1787 : Index := 0#32
  ![v2750.toNat, 0]

def k0_chk342 (v2748 : BitVec 32) : Prop :=
  (4 ∣ (k0_mult342 v2748).toNat) ∧
  (∀ a, (k0_off564 v2748) a + S4x128.size a ≤ S65536x128.size a)
theorem k0_mult342_dvd : ∀ (v2748 : BitVec 32) (k0_hw342 : k0_chk342 v2748), 4 ∣ (k0_mult342 v2748).toNat := fun v2748 k0_hw342 => k0_hw342.1
theorem k0_off564_inb : ∀ (v2748 : BitVec 32) (k0_hw342 : k0_chk342 v2748), ∀ a, (k0_off564 v2748) a + S4x128.size a ≤ S65536x128.size a := fun v2748 k0_hw342 => k0_hw342.2

def k0_off565 (k0_t1 : Fin k0_t1_loop.trips) : Fin 3 → Nat :=
  let c0_1790 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2755 : Index := Scalar.indexCast v2066
  let c86_1791 : Index := 86#32
  ![0, v2755.toNat, 86]
def k0_mult343 (v2756 : BitVec 32) : BitVec 32 :=
  v2756

def k0_off566 (v2756 : BitVec 32) : Fin 2 → Nat :=
  let v2757 : BitVec 32 := v2756
  let v2758 : Index := Scalar.indexCast v2757
  let c0_1792 : Index := 0#32
  ![v2758.toNat, 0]

def k0_chk343 (v2756 : BitVec 32) : Prop :=
  (4 ∣ (k0_mult343 v2756).toNat) ∧
  (∀ a, (k0_off566 v2756) a + S4x128.size a ≤ S65536x128.size a)
theorem k0_mult343_dvd : ∀ (v2756 : BitVec 32) (k0_hw343 : k0_chk343 v2756), 4 ∣ (k0_mult343 v2756).toNat := fun v2756 k0_hw343 => k0_hw343.1
theorem k0_off566_inb : ∀ (v2756 : BitVec 32) (k0_hw343 : k0_chk343 v2756), ∀ a, (k0_off566 v2756) a + S4x128.size a ≤ S65536x128.size a := fun v2756 k0_hw343 => k0_hw343.2

def k0_off567 (k0_t1 : Fin k0_t1_loop.trips) : Fin 3 → Nat :=
  let c0_1795 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2763 : Index := Scalar.indexCast v2066
  let c87_1796 : Index := 87#32
  ![0, v2763.toNat, 87]
def k0_mult344 (v2764 : BitVec 32) : BitVec 32 :=
  v2764

def k0_off568 (v2764 : BitVec 32) : Fin 2 → Nat :=
  let v2765 : BitVec 32 := v2764
  let v2766 : Index := Scalar.indexCast v2765
  let c0_1797 : Index := 0#32
  ![v2766.toNat, 0]

def k0_chk344 (v2764 : BitVec 32) : Prop :=
  (4 ∣ (k0_mult344 v2764).toNat) ∧
  (∀ a, (k0_off568 v2764) a + S4x128.size a ≤ S65536x128.size a)
theorem k0_mult344_dvd : ∀ (v2764 : BitVec 32) (k0_hw344 : k0_chk344 v2764), 4 ∣ (k0_mult344 v2764).toNat := fun v2764 k0_hw344 => k0_hw344.1
theorem k0_off568_inb : ∀ (v2764 : BitVec 32) (k0_hw344 : k0_chk344 v2764), ∀ a, (k0_off568 v2764) a + S4x128.size a ≤ S65536x128.size a := fun v2764 k0_hw344 => k0_hw344.2

def k0_off569 (k0_t1 : Fin k0_t1_loop.trips) : Fin 3 → Nat :=
  let c0_1800 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2771 : Index := Scalar.indexCast v2066
  let c88_1801 : Index := 88#32
  ![0, v2771.toNat, 88]
def k0_mult345 (v2772 : BitVec 32) : BitVec 32 :=
  v2772

def k0_off570 (v2772 : BitVec 32) : Fin 2 → Nat :=
  let v2773 : BitVec 32 := v2772
  let v2774 : Index := Scalar.indexCast v2773
  let c0_1802 : Index := 0#32
  ![v2774.toNat, 0]

def k0_chk345 (v2772 : BitVec 32) : Prop :=
  (4 ∣ (k0_mult345 v2772).toNat) ∧
  (∀ a, (k0_off570 v2772) a + S4x128.size a ≤ S65536x128.size a)
theorem k0_mult345_dvd : ∀ (v2772 : BitVec 32) (k0_hw345 : k0_chk345 v2772), 4 ∣ (k0_mult345 v2772).toNat := fun v2772 k0_hw345 => k0_hw345.1
theorem k0_off570_inb : ∀ (v2772 : BitVec 32) (k0_hw345 : k0_chk345 v2772), ∀ a, (k0_off570 v2772) a + S4x128.size a ≤ S65536x128.size a := fun v2772 k0_hw345 => k0_hw345.2

def k0_off571 (k0_t1 : Fin k0_t1_loop.trips) : Fin 3 → Nat :=
  let c0_1805 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2779 : Index := Scalar.indexCast v2066
  let c89_1806 : Index := 89#32
  ![0, v2779.toNat, 89]
def k0_mult346 (v2780 : BitVec 32) : BitVec 32 :=
  v2780

def k0_off572 (v2780 : BitVec 32) : Fin 2 → Nat :=
  let v2781 : BitVec 32 := v2780
  let v2782 : Index := Scalar.indexCast v2781
  let c0_1807 : Index := 0#32
  ![v2782.toNat, 0]

def k0_chk346 (v2780 : BitVec 32) : Prop :=
  (4 ∣ (k0_mult346 v2780).toNat) ∧
  (∀ a, (k0_off572 v2780) a + S4x128.size a ≤ S65536x128.size a)
theorem k0_mult346_dvd : ∀ (v2780 : BitVec 32) (k0_hw346 : k0_chk346 v2780), 4 ∣ (k0_mult346 v2780).toNat := fun v2780 k0_hw346 => k0_hw346.1
theorem k0_off572_inb : ∀ (v2780 : BitVec 32) (k0_hw346 : k0_chk346 v2780), ∀ a, (k0_off572 v2780) a + S4x128.size a ≤ S65536x128.size a := fun v2780 k0_hw346 => k0_hw346.2

def k0_off573 (k0_t1 : Fin k0_t1_loop.trips) : Fin 3 → Nat :=
  let c0_1810 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2787 : Index := Scalar.indexCast v2066
  let c90_1811 : Index := 90#32
  ![0, v2787.toNat, 90]
def k0_mult347 (v2788 : BitVec 32) : BitVec 32 :=
  v2788

def k0_off574 (v2788 : BitVec 32) : Fin 2 → Nat :=
  let v2789 : BitVec 32 := v2788
  let v2790 : Index := Scalar.indexCast v2789
  let c0_1812 : Index := 0#32
  ![v2790.toNat, 0]

def k0_chk347 (v2788 : BitVec 32) : Prop :=
  (4 ∣ (k0_mult347 v2788).toNat) ∧
  (∀ a, (k0_off574 v2788) a + S4x128.size a ≤ S65536x128.size a)
theorem k0_mult347_dvd : ∀ (v2788 : BitVec 32) (k0_hw347 : k0_chk347 v2788), 4 ∣ (k0_mult347 v2788).toNat := fun v2788 k0_hw347 => k0_hw347.1
theorem k0_off574_inb : ∀ (v2788 : BitVec 32) (k0_hw347 : k0_chk347 v2788), ∀ a, (k0_off574 v2788) a + S4x128.size a ≤ S65536x128.size a := fun v2788 k0_hw347 => k0_hw347.2

def k0_off575 (k0_t1 : Fin k0_t1_loop.trips) : Fin 3 → Nat :=
  let c0_1815 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2795 : Index := Scalar.indexCast v2066
  let c91_1816 : Index := 91#32
  ![0, v2795.toNat, 91]
def k0_mult348 (v2796 : BitVec 32) : BitVec 32 :=
  v2796

def k0_off576 (v2796 : BitVec 32) : Fin 2 → Nat :=
  let v2797 : BitVec 32 := v2796
  let v2798 : Index := Scalar.indexCast v2797
  let c0_1817 : Index := 0#32
  ![v2798.toNat, 0]

def k0_chk348 (v2796 : BitVec 32) : Prop :=
  (4 ∣ (k0_mult348 v2796).toNat) ∧
  (∀ a, (k0_off576 v2796) a + S4x128.size a ≤ S65536x128.size a)
theorem k0_mult348_dvd : ∀ (v2796 : BitVec 32) (k0_hw348 : k0_chk348 v2796), 4 ∣ (k0_mult348 v2796).toNat := fun v2796 k0_hw348 => k0_hw348.1
theorem k0_off576_inb : ∀ (v2796 : BitVec 32) (k0_hw348 : k0_chk348 v2796), ∀ a, (k0_off576 v2796) a + S4x128.size a ≤ S65536x128.size a := fun v2796 k0_hw348 => k0_hw348.2

def k0_off577 (k0_t1 : Fin k0_t1_loop.trips) : Fin 3 → Nat :=
  let c0_1820 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2803 : Index := Scalar.indexCast v2066
  let c92_1821 : Index := 92#32
  ![0, v2803.toNat, 92]
def k0_mult349 (v2804 : BitVec 32) : BitVec 32 :=
  v2804

def k0_off578 (v2804 : BitVec 32) : Fin 2 → Nat :=
  let v2805 : BitVec 32 := v2804
  let v2806 : Index := Scalar.indexCast v2805
  let c0_1822 : Index := 0#32
  ![v2806.toNat, 0]

def k0_chk349 (v2804 : BitVec 32) : Prop :=
  (4 ∣ (k0_mult349 v2804).toNat) ∧
  (∀ a, (k0_off578 v2804) a + S4x128.size a ≤ S65536x128.size a)
theorem k0_mult349_dvd : ∀ (v2804 : BitVec 32) (k0_hw349 : k0_chk349 v2804), 4 ∣ (k0_mult349 v2804).toNat := fun v2804 k0_hw349 => k0_hw349.1
theorem k0_off578_inb : ∀ (v2804 : BitVec 32) (k0_hw349 : k0_chk349 v2804), ∀ a, (k0_off578 v2804) a + S4x128.size a ≤ S65536x128.size a := fun v2804 k0_hw349 => k0_hw349.2

def k0_off579 (k0_t1 : Fin k0_t1_loop.trips) : Fin 3 → Nat :=
  let c0_1825 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2811 : Index := Scalar.indexCast v2066
  let c93_1826 : Index := 93#32
  ![0, v2811.toNat, 93]
def k0_mult350 (v2812 : BitVec 32) : BitVec 32 :=
  v2812

def k0_off580 (v2812 : BitVec 32) : Fin 2 → Nat :=
  let v2813 : BitVec 32 := v2812
  let v2814 : Index := Scalar.indexCast v2813
  let c0_1827 : Index := 0#32
  ![v2814.toNat, 0]

def k0_chk350 (v2812 : BitVec 32) : Prop :=
  (4 ∣ (k0_mult350 v2812).toNat) ∧
  (∀ a, (k0_off580 v2812) a + S4x128.size a ≤ S65536x128.size a)
theorem k0_mult350_dvd : ∀ (v2812 : BitVec 32) (k0_hw350 : k0_chk350 v2812), 4 ∣ (k0_mult350 v2812).toNat := fun v2812 k0_hw350 => k0_hw350.1
theorem k0_off580_inb : ∀ (v2812 : BitVec 32) (k0_hw350 : k0_chk350 v2812), ∀ a, (k0_off580 v2812) a + S4x128.size a ≤ S65536x128.size a := fun v2812 k0_hw350 => k0_hw350.2

def k0_off581 (k0_t1 : Fin k0_t1_loop.trips) : Fin 3 → Nat :=
  let c0_1830 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2819 : Index := Scalar.indexCast v2066
  let c94_1831 : Index := 94#32
  ![0, v2819.toNat, 94]
def k0_mult351 (v2820 : BitVec 32) : BitVec 32 :=
  v2820

def k0_off582 (v2820 : BitVec 32) : Fin 2 → Nat :=
  let v2821 : BitVec 32 := v2820
  let v2822 : Index := Scalar.indexCast v2821
  let c0_1832 : Index := 0#32
  ![v2822.toNat, 0]

def k0_chk351 (v2820 : BitVec 32) : Prop :=
  (4 ∣ (k0_mult351 v2820).toNat) ∧
  (∀ a, (k0_off582 v2820) a + S4x128.size a ≤ S65536x128.size a)
theorem k0_mult351_dvd : ∀ (v2820 : BitVec 32) (k0_hw351 : k0_chk351 v2820), 4 ∣ (k0_mult351 v2820).toNat := fun v2820 k0_hw351 => k0_hw351.1
theorem k0_off582_inb : ∀ (v2820 : BitVec 32) (k0_hw351 : k0_chk351 v2820), ∀ a, (k0_off582 v2820) a + S4x128.size a ≤ S65536x128.size a := fun v2820 k0_hw351 => k0_hw351.2

def k0_off583 (k0_t1 : Fin k0_t1_loop.trips) : Fin 3 → Nat :=
  let c0_1835 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2827 : Index := Scalar.indexCast v2066
  let c95_1836 : Index := 95#32
  ![0, v2827.toNat, 95]
def k0_mult352 (v2828 : BitVec 32) : BitVec 32 :=
  v2828

def k0_off584 (v2828 : BitVec 32) : Fin 2 → Nat :=
  let v2829 : BitVec 32 := v2828
  let v2830 : Index := Scalar.indexCast v2829
  let c0_1837 : Index := 0#32
  ![v2830.toNat, 0]

def k0_chk352 (v2828 : BitVec 32) : Prop :=
  (4 ∣ (k0_mult352 v2828).toNat) ∧
  (∀ a, (k0_off584 v2828) a + S4x128.size a ≤ S65536x128.size a)
theorem k0_mult352_dvd : ∀ (v2828 : BitVec 32) (k0_hw352 : k0_chk352 v2828), 4 ∣ (k0_mult352 v2828).toNat := fun v2828 k0_hw352 => k0_hw352.1
theorem k0_off584_inb : ∀ (v2828 : BitVec 32) (k0_hw352 : k0_chk352 v2828), ∀ a, (k0_off584 v2828) a + S4x128.size a ≤ S65536x128.size a := fun v2828 k0_hw352 => k0_hw352.2

def k0_off585 (k0_t1 : Fin k0_t1_loop.trips) : Fin 3 → Nat :=
  let c0_1840 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2835 : Index := Scalar.indexCast v2066
  let c96_1841 : Index := 96#32
  ![0, v2835.toNat, 96]
def k0_mult353 (v2836 : BitVec 32) : BitVec 32 :=
  v2836

def k0_off586 (v2836 : BitVec 32) : Fin 2 → Nat :=
  let v2837 : BitVec 32 := v2836
  let v2838 : Index := Scalar.indexCast v2837
  let c0_1842 : Index := 0#32
  ![v2838.toNat, 0]

def k0_chk353 (v2836 : BitVec 32) : Prop :=
  (4 ∣ (k0_mult353 v2836).toNat) ∧
  (∀ a, (k0_off586 v2836) a + S4x128.size a ≤ S65536x128.size a)
theorem k0_mult353_dvd : ∀ (v2836 : BitVec 32) (k0_hw353 : k0_chk353 v2836), 4 ∣ (k0_mult353 v2836).toNat := fun v2836 k0_hw353 => k0_hw353.1
theorem k0_off586_inb : ∀ (v2836 : BitVec 32) (k0_hw353 : k0_chk353 v2836), ∀ a, (k0_off586 v2836) a + S4x128.size a ≤ S65536x128.size a := fun v2836 k0_hw353 => k0_hw353.2

def k0_off587 (k0_t1 : Fin k0_t1_loop.trips) : Fin 3 → Nat :=
  let c0_1845 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2843 : Index := Scalar.indexCast v2066
  let c97_1846 : Index := 97#32
  ![0, v2843.toNat, 97]
def k0_mult354 (v2844 : BitVec 32) : BitVec 32 :=
  v2844

def k0_off588 (v2844 : BitVec 32) : Fin 2 → Nat :=
  let v2845 : BitVec 32 := v2844
  let v2846 : Index := Scalar.indexCast v2845
  let c0_1847 : Index := 0#32
  ![v2846.toNat, 0]

def k0_chk354 (v2844 : BitVec 32) : Prop :=
  (4 ∣ (k0_mult354 v2844).toNat) ∧
  (∀ a, (k0_off588 v2844) a + S4x128.size a ≤ S65536x128.size a)
theorem k0_mult354_dvd : ∀ (v2844 : BitVec 32) (k0_hw354 : k0_chk354 v2844), 4 ∣ (k0_mult354 v2844).toNat := fun v2844 k0_hw354 => k0_hw354.1
theorem k0_off588_inb : ∀ (v2844 : BitVec 32) (k0_hw354 : k0_chk354 v2844), ∀ a, (k0_off588 v2844) a + S4x128.size a ≤ S65536x128.size a := fun v2844 k0_hw354 => k0_hw354.2

def k0_off589 (k0_t1 : Fin k0_t1_loop.trips) : Fin 3 → Nat :=
  let c0_1850 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2851 : Index := Scalar.indexCast v2066
  let c98_1851 : Index := 98#32
  ![0, v2851.toNat, 98]
def k0_mult355 (v2852 : BitVec 32) : BitVec 32 :=
  v2852

def k0_off590 (v2852 : BitVec 32) : Fin 2 → Nat :=
  let v2853 : BitVec 32 := v2852
  let v2854 : Index := Scalar.indexCast v2853
  let c0_1852 : Index := 0#32
  ![v2854.toNat, 0]

def k0_chk355 (v2852 : BitVec 32) : Prop :=
  (4 ∣ (k0_mult355 v2852).toNat) ∧
  (∀ a, (k0_off590 v2852) a + S4x128.size a ≤ S65536x128.size a)
theorem k0_mult355_dvd : ∀ (v2852 : BitVec 32) (k0_hw355 : k0_chk355 v2852), 4 ∣ (k0_mult355 v2852).toNat := fun v2852 k0_hw355 => k0_hw355.1
theorem k0_off590_inb : ∀ (v2852 : BitVec 32) (k0_hw355 : k0_chk355 v2852), ∀ a, (k0_off590 v2852) a + S4x128.size a ≤ S65536x128.size a := fun v2852 k0_hw355 => k0_hw355.2

def k0_off591 (k0_t1 : Fin k0_t1_loop.trips) : Fin 3 → Nat :=
  let c0_1855 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2859 : Index := Scalar.indexCast v2066
  let c99_1856 : Index := 99#32
  ![0, v2859.toNat, 99]
def k0_mult356 (v2860 : BitVec 32) : BitVec 32 :=
  v2860

def k0_off592 (v2860 : BitVec 32) : Fin 2 → Nat :=
  let v2861 : BitVec 32 := v2860
  let v2862 : Index := Scalar.indexCast v2861
  let c0_1857 : Index := 0#32
  ![v2862.toNat, 0]

def k0_chk356 (v2860 : BitVec 32) : Prop :=
  (4 ∣ (k0_mult356 v2860).toNat) ∧
  (∀ a, (k0_off592 v2860) a + S4x128.size a ≤ S65536x128.size a)
theorem k0_mult356_dvd : ∀ (v2860 : BitVec 32) (k0_hw356 : k0_chk356 v2860), 4 ∣ (k0_mult356 v2860).toNat := fun v2860 k0_hw356 => k0_hw356.1
theorem k0_off592_inb : ∀ (v2860 : BitVec 32) (k0_hw356 : k0_chk356 v2860), ∀ a, (k0_off592 v2860) a + S4x128.size a ≤ S65536x128.size a := fun v2860 k0_hw356 => k0_hw356.2

def k0_off593 (k0_t1 : Fin k0_t1_loop.trips) : Fin 3 → Nat :=
  let c0_1860 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2867 : Index := Scalar.indexCast v2066
  let c100_1861 : Index := 100#32
  ![0, v2867.toNat, 100]
def k0_mult357 (v2868 : BitVec 32) : BitVec 32 :=
  v2868

def k0_off594 (v2868 : BitVec 32) : Fin 2 → Nat :=
  let v2869 : BitVec 32 := v2868
  let v2870 : Index := Scalar.indexCast v2869
  let c0_1862 : Index := 0#32
  ![v2870.toNat, 0]

def k0_chk357 (v2868 : BitVec 32) : Prop :=
  (4 ∣ (k0_mult357 v2868).toNat) ∧
  (∀ a, (k0_off594 v2868) a + S4x128.size a ≤ S65536x128.size a)
theorem k0_mult357_dvd : ∀ (v2868 : BitVec 32) (k0_hw357 : k0_chk357 v2868), 4 ∣ (k0_mult357 v2868).toNat := fun v2868 k0_hw357 => k0_hw357.1
theorem k0_off594_inb : ∀ (v2868 : BitVec 32) (k0_hw357 : k0_chk357 v2868), ∀ a, (k0_off594 v2868) a + S4x128.size a ≤ S65536x128.size a := fun v2868 k0_hw357 => k0_hw357.2

def k0_off595 (k0_t1 : Fin k0_t1_loop.trips) : Fin 3 → Nat :=
  let c0_1865 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2875 : Index := Scalar.indexCast v2066
  let c101_1866 : Index := 101#32
  ![0, v2875.toNat, 101]
def k0_mult358 (v2876 : BitVec 32) : BitVec 32 :=
  v2876

def k0_off596 (v2876 : BitVec 32) : Fin 2 → Nat :=
  let v2877 : BitVec 32 := v2876
  let v2878 : Index := Scalar.indexCast v2877
  let c0_1867 : Index := 0#32
  ![v2878.toNat, 0]

def k0_chk358 (v2876 : BitVec 32) : Prop :=
  (4 ∣ (k0_mult358 v2876).toNat) ∧
  (∀ a, (k0_off596 v2876) a + S4x128.size a ≤ S65536x128.size a)
theorem k0_mult358_dvd : ∀ (v2876 : BitVec 32) (k0_hw358 : k0_chk358 v2876), 4 ∣ (k0_mult358 v2876).toNat := fun v2876 k0_hw358 => k0_hw358.1
theorem k0_off596_inb : ∀ (v2876 : BitVec 32) (k0_hw358 : k0_chk358 v2876), ∀ a, (k0_off596 v2876) a + S4x128.size a ≤ S65536x128.size a := fun v2876 k0_hw358 => k0_hw358.2

def k0_off597 (k0_t1 : Fin k0_t1_loop.trips) : Fin 3 → Nat :=
  let c0_1870 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2883 : Index := Scalar.indexCast v2066
  let c102_1871 : Index := 102#32
  ![0, v2883.toNat, 102]
def k0_mult359 (v2884 : BitVec 32) : BitVec 32 :=
  v2884

def k0_off598 (v2884 : BitVec 32) : Fin 2 → Nat :=
  let v2885 : BitVec 32 := v2884
  let v2886 : Index := Scalar.indexCast v2885
  let c0_1872 : Index := 0#32
  ![v2886.toNat, 0]

def k0_chk359 (v2884 : BitVec 32) : Prop :=
  (4 ∣ (k0_mult359 v2884).toNat) ∧
  (∀ a, (k0_off598 v2884) a + S4x128.size a ≤ S65536x128.size a)
theorem k0_mult359_dvd : ∀ (v2884 : BitVec 32) (k0_hw359 : k0_chk359 v2884), 4 ∣ (k0_mult359 v2884).toNat := fun v2884 k0_hw359 => k0_hw359.1
theorem k0_off598_inb : ∀ (v2884 : BitVec 32) (k0_hw359 : k0_chk359 v2884), ∀ a, (k0_off598 v2884) a + S4x128.size a ≤ S65536x128.size a := fun v2884 k0_hw359 => k0_hw359.2

def k0_off599 (k0_t1 : Fin k0_t1_loop.trips) : Fin 3 → Nat :=
  let c0_1875 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2891 : Index := Scalar.indexCast v2066
  let c103_1876 : Index := 103#32
  ![0, v2891.toNat, 103]
def k0_mult360 (v2892 : BitVec 32) : BitVec 32 :=
  v2892

def k0_off600 (v2892 : BitVec 32) : Fin 2 → Nat :=
  let v2893 : BitVec 32 := v2892
  let v2894 : Index := Scalar.indexCast v2893
  let c0_1877 : Index := 0#32
  ![v2894.toNat, 0]

def k0_chk360 (v2892 : BitVec 32) : Prop :=
  (4 ∣ (k0_mult360 v2892).toNat) ∧
  (∀ a, (k0_off600 v2892) a + S4x128.size a ≤ S65536x128.size a)
theorem k0_mult360_dvd : ∀ (v2892 : BitVec 32) (k0_hw360 : k0_chk360 v2892), 4 ∣ (k0_mult360 v2892).toNat := fun v2892 k0_hw360 => k0_hw360.1
theorem k0_off600_inb : ∀ (v2892 : BitVec 32) (k0_hw360 : k0_chk360 v2892), ∀ a, (k0_off600 v2892) a + S4x128.size a ≤ S65536x128.size a := fun v2892 k0_hw360 => k0_hw360.2

def k0_off601 (k0_t1 : Fin k0_t1_loop.trips) : Fin 3 → Nat :=
  let c0_1880 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2899 : Index := Scalar.indexCast v2066
  let c104_1881 : Index := 104#32
  ![0, v2899.toNat, 104]
def k0_mult361 (v2900 : BitVec 32) : BitVec 32 :=
  v2900

def k0_off602 (v2900 : BitVec 32) : Fin 2 → Nat :=
  let v2901 : BitVec 32 := v2900
  let v2902 : Index := Scalar.indexCast v2901
  let c0_1882 : Index := 0#32
  ![v2902.toNat, 0]

def k0_chk361 (v2900 : BitVec 32) : Prop :=
  (4 ∣ (k0_mult361 v2900).toNat) ∧
  (∀ a, (k0_off602 v2900) a + S4x128.size a ≤ S65536x128.size a)
theorem k0_mult361_dvd : ∀ (v2900 : BitVec 32) (k0_hw361 : k0_chk361 v2900), 4 ∣ (k0_mult361 v2900).toNat := fun v2900 k0_hw361 => k0_hw361.1
theorem k0_off602_inb : ∀ (v2900 : BitVec 32) (k0_hw361 : k0_chk361 v2900), ∀ a, (k0_off602 v2900) a + S4x128.size a ≤ S65536x128.size a := fun v2900 k0_hw361 => k0_hw361.2

def k0_off603 (k0_t1 : Fin k0_t1_loop.trips) : Fin 3 → Nat :=
  let c0_1885 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2907 : Index := Scalar.indexCast v2066
  let c105_1886 : Index := 105#32
  ![0, v2907.toNat, 105]
def k0_mult362 (v2908 : BitVec 32) : BitVec 32 :=
  v2908

def k0_off604 (v2908 : BitVec 32) : Fin 2 → Nat :=
  let v2909 : BitVec 32 := v2908
  let v2910 : Index := Scalar.indexCast v2909
  let c0_1887 : Index := 0#32
  ![v2910.toNat, 0]

def k0_chk362 (v2908 : BitVec 32) : Prop :=
  (4 ∣ (k0_mult362 v2908).toNat) ∧
  (∀ a, (k0_off604 v2908) a + S4x128.size a ≤ S65536x128.size a)
theorem k0_mult362_dvd : ∀ (v2908 : BitVec 32) (k0_hw362 : k0_chk362 v2908), 4 ∣ (k0_mult362 v2908).toNat := fun v2908 k0_hw362 => k0_hw362.1
theorem k0_off604_inb : ∀ (v2908 : BitVec 32) (k0_hw362 : k0_chk362 v2908), ∀ a, (k0_off604 v2908) a + S4x128.size a ≤ S65536x128.size a := fun v2908 k0_hw362 => k0_hw362.2

def k0_off605 (k0_t1 : Fin k0_t1_loop.trips) : Fin 3 → Nat :=
  let c0_1890 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2915 : Index := Scalar.indexCast v2066
  let c106_1891 : Index := 106#32
  ![0, v2915.toNat, 106]
def k0_mult363 (v2916 : BitVec 32) : BitVec 32 :=
  v2916

def k0_off606 (v2916 : BitVec 32) : Fin 2 → Nat :=
  let v2917 : BitVec 32 := v2916
  let v2918 : Index := Scalar.indexCast v2917
  let c0_1892 : Index := 0#32
  ![v2918.toNat, 0]

def k0_chk363 (v2916 : BitVec 32) : Prop :=
  (4 ∣ (k0_mult363 v2916).toNat) ∧
  (∀ a, (k0_off606 v2916) a + S4x128.size a ≤ S65536x128.size a)
theorem k0_mult363_dvd : ∀ (v2916 : BitVec 32) (k0_hw363 : k0_chk363 v2916), 4 ∣ (k0_mult363 v2916).toNat := fun v2916 k0_hw363 => k0_hw363.1
theorem k0_off606_inb : ∀ (v2916 : BitVec 32) (k0_hw363 : k0_chk363 v2916), ∀ a, (k0_off606 v2916) a + S4x128.size a ≤ S65536x128.size a := fun v2916 k0_hw363 => k0_hw363.2

def k0_off607 (k0_t1 : Fin k0_t1_loop.trips) : Fin 3 → Nat :=
  let c0_1895 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2923 : Index := Scalar.indexCast v2066
  let c107_1896 : Index := 107#32
  ![0, v2923.toNat, 107]
def k0_mult364 (v2924 : BitVec 32) : BitVec 32 :=
  v2924

def k0_off608 (v2924 : BitVec 32) : Fin 2 → Nat :=
  let v2925 : BitVec 32 := v2924
  let v2926 : Index := Scalar.indexCast v2925
  let c0_1897 : Index := 0#32
  ![v2926.toNat, 0]

def k0_chk364 (v2924 : BitVec 32) : Prop :=
  (4 ∣ (k0_mult364 v2924).toNat) ∧
  (∀ a, (k0_off608 v2924) a + S4x128.size a ≤ S65536x128.size a)
theorem k0_mult364_dvd : ∀ (v2924 : BitVec 32) (k0_hw364 : k0_chk364 v2924), 4 ∣ (k0_mult364 v2924).toNat := fun v2924 k0_hw364 => k0_hw364.1
theorem k0_off608_inb : ∀ (v2924 : BitVec 32) (k0_hw364 : k0_chk364 v2924), ∀ a, (k0_off608 v2924) a + S4x128.size a ≤ S65536x128.size a := fun v2924 k0_hw364 => k0_hw364.2

def k0_off609 (k0_t1 : Fin k0_t1_loop.trips) : Fin 3 → Nat :=
  let c0_1900 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2931 : Index := Scalar.indexCast v2066
  let c108_1901 : Index := 108#32
  ![0, v2931.toNat, 108]
def k0_mult365 (v2932 : BitVec 32) : BitVec 32 :=
  v2932

def k0_off610 (v2932 : BitVec 32) : Fin 2 → Nat :=
  let v2933 : BitVec 32 := v2932
  let v2934 : Index := Scalar.indexCast v2933
  let c0_1902 : Index := 0#32
  ![v2934.toNat, 0]

def k0_chk365 (v2932 : BitVec 32) : Prop :=
  (4 ∣ (k0_mult365 v2932).toNat) ∧
  (∀ a, (k0_off610 v2932) a + S4x128.size a ≤ S65536x128.size a)
theorem k0_mult365_dvd : ∀ (v2932 : BitVec 32) (k0_hw365 : k0_chk365 v2932), 4 ∣ (k0_mult365 v2932).toNat := fun v2932 k0_hw365 => k0_hw365.1
theorem k0_off610_inb : ∀ (v2932 : BitVec 32) (k0_hw365 : k0_chk365 v2932), ∀ a, (k0_off610 v2932) a + S4x128.size a ≤ S65536x128.size a := fun v2932 k0_hw365 => k0_hw365.2

def k0_off611 (k0_t1 : Fin k0_t1_loop.trips) : Fin 3 → Nat :=
  let c0_1905 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2939 : Index := Scalar.indexCast v2066
  let c109_1906 : Index := 109#32
  ![0, v2939.toNat, 109]
def k0_mult366 (v2940 : BitVec 32) : BitVec 32 :=
  v2940

def k0_off612 (v2940 : BitVec 32) : Fin 2 → Nat :=
  let v2941 : BitVec 32 := v2940
  let v2942 : Index := Scalar.indexCast v2941
  let c0_1907 : Index := 0#32
  ![v2942.toNat, 0]

def k0_chk366 (v2940 : BitVec 32) : Prop :=
  (4 ∣ (k0_mult366 v2940).toNat) ∧
  (∀ a, (k0_off612 v2940) a + S4x128.size a ≤ S65536x128.size a)
theorem k0_mult366_dvd : ∀ (v2940 : BitVec 32) (k0_hw366 : k0_chk366 v2940), 4 ∣ (k0_mult366 v2940).toNat := fun v2940 k0_hw366 => k0_hw366.1
theorem k0_off612_inb : ∀ (v2940 : BitVec 32) (k0_hw366 : k0_chk366 v2940), ∀ a, (k0_off612 v2940) a + S4x128.size a ≤ S65536x128.size a := fun v2940 k0_hw366 => k0_hw366.2

def k0_off613 (k0_t1 : Fin k0_t1_loop.trips) : Fin 3 → Nat :=
  let c0_1910 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2947 : Index := Scalar.indexCast v2066
  let c110_1911 : Index := 110#32
  ![0, v2947.toNat, 110]
def k0_mult367 (v2948 : BitVec 32) : BitVec 32 :=
  v2948

def k0_off614 (v2948 : BitVec 32) : Fin 2 → Nat :=
  let v2949 : BitVec 32 := v2948
  let v2950 : Index := Scalar.indexCast v2949
  let c0_1912 : Index := 0#32
  ![v2950.toNat, 0]

def k0_chk367 (v2948 : BitVec 32) : Prop :=
  (4 ∣ (k0_mult367 v2948).toNat) ∧
  (∀ a, (k0_off614 v2948) a + S4x128.size a ≤ S65536x128.size a)
theorem k0_mult367_dvd : ∀ (v2948 : BitVec 32) (k0_hw367 : k0_chk367 v2948), 4 ∣ (k0_mult367 v2948).toNat := fun v2948 k0_hw367 => k0_hw367.1
theorem k0_off614_inb : ∀ (v2948 : BitVec 32) (k0_hw367 : k0_chk367 v2948), ∀ a, (k0_off614 v2948) a + S4x128.size a ≤ S65536x128.size a := fun v2948 k0_hw367 => k0_hw367.2

def k0_off615 (k0_t1 : Fin k0_t1_loop.trips) : Fin 3 → Nat :=
  let c0_1915 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2955 : Index := Scalar.indexCast v2066
  let c111_1916 : Index := 111#32
  ![0, v2955.toNat, 111]
def k0_mult368 (v2956 : BitVec 32) : BitVec 32 :=
  v2956

def k0_off616 (v2956 : BitVec 32) : Fin 2 → Nat :=
  let v2957 : BitVec 32 := v2956
  let v2958 : Index := Scalar.indexCast v2957
  let c0_1917 : Index := 0#32
  ![v2958.toNat, 0]

def k0_chk368 (v2956 : BitVec 32) : Prop :=
  (4 ∣ (k0_mult368 v2956).toNat) ∧
  (∀ a, (k0_off616 v2956) a + S4x128.size a ≤ S65536x128.size a)
theorem k0_mult368_dvd : ∀ (v2956 : BitVec 32) (k0_hw368 : k0_chk368 v2956), 4 ∣ (k0_mult368 v2956).toNat := fun v2956 k0_hw368 => k0_hw368.1
theorem k0_off616_inb : ∀ (v2956 : BitVec 32) (k0_hw368 : k0_chk368 v2956), ∀ a, (k0_off616 v2956) a + S4x128.size a ≤ S65536x128.size a := fun v2956 k0_hw368 => k0_hw368.2

def k0_off617 (k0_t1 : Fin k0_t1_loop.trips) : Fin 3 → Nat :=
  let c0_1920 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2963 : Index := Scalar.indexCast v2066
  let c112_1921 : Index := 112#32
  ![0, v2963.toNat, 112]
def k0_mult369 (v2964 : BitVec 32) : BitVec 32 :=
  v2964

def k0_off618 (v2964 : BitVec 32) : Fin 2 → Nat :=
  let v2965 : BitVec 32 := v2964
  let v2966 : Index := Scalar.indexCast v2965
  let c0_1922 : Index := 0#32
  ![v2966.toNat, 0]

def k0_chk369 (v2964 : BitVec 32) : Prop :=
  (4 ∣ (k0_mult369 v2964).toNat) ∧
  (∀ a, (k0_off618 v2964) a + S4x128.size a ≤ S65536x128.size a)
theorem k0_mult369_dvd : ∀ (v2964 : BitVec 32) (k0_hw369 : k0_chk369 v2964), 4 ∣ (k0_mult369 v2964).toNat := fun v2964 k0_hw369 => k0_hw369.1
theorem k0_off618_inb : ∀ (v2964 : BitVec 32) (k0_hw369 : k0_chk369 v2964), ∀ a, (k0_off618 v2964) a + S4x128.size a ≤ S65536x128.size a := fun v2964 k0_hw369 => k0_hw369.2

def k0_off619 (k0_t1 : Fin k0_t1_loop.trips) : Fin 3 → Nat :=
  let c0_1925 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2971 : Index := Scalar.indexCast v2066
  let c113_1926 : Index := 113#32
  ![0, v2971.toNat, 113]
def k0_mult370 (v2972 : BitVec 32) : BitVec 32 :=
  v2972

def k0_off620 (v2972 : BitVec 32) : Fin 2 → Nat :=
  let v2973 : BitVec 32 := v2972
  let v2974 : Index := Scalar.indexCast v2973
  let c0_1927 : Index := 0#32
  ![v2974.toNat, 0]

def k0_chk370 (v2972 : BitVec 32) : Prop :=
  (4 ∣ (k0_mult370 v2972).toNat) ∧
  (∀ a, (k0_off620 v2972) a + S4x128.size a ≤ S65536x128.size a)
theorem k0_mult370_dvd : ∀ (v2972 : BitVec 32) (k0_hw370 : k0_chk370 v2972), 4 ∣ (k0_mult370 v2972).toNat := fun v2972 k0_hw370 => k0_hw370.1
theorem k0_off620_inb : ∀ (v2972 : BitVec 32) (k0_hw370 : k0_chk370 v2972), ∀ a, (k0_off620 v2972) a + S4x128.size a ≤ S65536x128.size a := fun v2972 k0_hw370 => k0_hw370.2

def k0_off621 (k0_t1 : Fin k0_t1_loop.trips) : Fin 3 → Nat :=
  let c0_1930 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2979 : Index := Scalar.indexCast v2066
  let c114_1931 : Index := 114#32
  ![0, v2979.toNat, 114]
def k0_mult371 (v2980 : BitVec 32) : BitVec 32 :=
  v2980

def k0_off622 (v2980 : BitVec 32) : Fin 2 → Nat :=
  let v2981 : BitVec 32 := v2980
  let v2982 : Index := Scalar.indexCast v2981
  let c0_1932 : Index := 0#32
  ![v2982.toNat, 0]

def k0_chk371 (v2980 : BitVec 32) : Prop :=
  (4 ∣ (k0_mult371 v2980).toNat) ∧
  (∀ a, (k0_off622 v2980) a + S4x128.size a ≤ S65536x128.size a)
theorem k0_mult371_dvd : ∀ (v2980 : BitVec 32) (k0_hw371 : k0_chk371 v2980), 4 ∣ (k0_mult371 v2980).toNat := fun v2980 k0_hw371 => k0_hw371.1
theorem k0_off622_inb : ∀ (v2980 : BitVec 32) (k0_hw371 : k0_chk371 v2980), ∀ a, (k0_off622 v2980) a + S4x128.size a ≤ S65536x128.size a := fun v2980 k0_hw371 => k0_hw371.2

def k0_off623 (k0_t1 : Fin k0_t1_loop.trips) : Fin 3 → Nat :=
  let c0_1935 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2987 : Index := Scalar.indexCast v2066
  let c115_1936 : Index := 115#32
  ![0, v2987.toNat, 115]
def k0_mult372 (v2988 : BitVec 32) : BitVec 32 :=
  v2988

def k0_off624 (v2988 : BitVec 32) : Fin 2 → Nat :=
  let v2989 : BitVec 32 := v2988
  let v2990 : Index := Scalar.indexCast v2989
  let c0_1937 : Index := 0#32
  ![v2990.toNat, 0]

def k0_chk372 (v2988 : BitVec 32) : Prop :=
  (4 ∣ (k0_mult372 v2988).toNat) ∧
  (∀ a, (k0_off624 v2988) a + S4x128.size a ≤ S65536x128.size a)
theorem k0_mult372_dvd : ∀ (v2988 : BitVec 32) (k0_hw372 : k0_chk372 v2988), 4 ∣ (k0_mult372 v2988).toNat := fun v2988 k0_hw372 => k0_hw372.1
theorem k0_off624_inb : ∀ (v2988 : BitVec 32) (k0_hw372 : k0_chk372 v2988), ∀ a, (k0_off624 v2988) a + S4x128.size a ≤ S65536x128.size a := fun v2988 k0_hw372 => k0_hw372.2

def k0_off625 (k0_t1 : Fin k0_t1_loop.trips) : Fin 3 → Nat :=
  let c0_1940 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v2995 : Index := Scalar.indexCast v2066
  let c116_1941 : Index := 116#32
  ![0, v2995.toNat, 116]
def k0_mult373 (v2996 : BitVec 32) : BitVec 32 :=
  v2996

def k0_off626 (v2996 : BitVec 32) : Fin 2 → Nat :=
  let v2997 : BitVec 32 := v2996
  let v2998 : Index := Scalar.indexCast v2997
  let c0_1942 : Index := 0#32
  ![v2998.toNat, 0]

def k0_chk373 (v2996 : BitVec 32) : Prop :=
  (4 ∣ (k0_mult373 v2996).toNat) ∧
  (∀ a, (k0_off626 v2996) a + S4x128.size a ≤ S65536x128.size a)
theorem k0_mult373_dvd : ∀ (v2996 : BitVec 32) (k0_hw373 : k0_chk373 v2996), 4 ∣ (k0_mult373 v2996).toNat := fun v2996 k0_hw373 => k0_hw373.1
theorem k0_off626_inb : ∀ (v2996 : BitVec 32) (k0_hw373 : k0_chk373 v2996), ∀ a, (k0_off626 v2996) a + S4x128.size a ≤ S65536x128.size a := fun v2996 k0_hw373 => k0_hw373.2

def k0_off627 (k0_t1 : Fin k0_t1_loop.trips) : Fin 3 → Nat :=
  let c0_1945 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3003 : Index := Scalar.indexCast v2066
  let c117_1946 : Index := 117#32
  ![0, v3003.toNat, 117]
def k0_mult374 (v3004 : BitVec 32) : BitVec 32 :=
  v3004

def k0_off628 (v3004 : BitVec 32) : Fin 2 → Nat :=
  let v3005 : BitVec 32 := v3004
  let v3006 : Index := Scalar.indexCast v3005
  let c0_1947 : Index := 0#32
  ![v3006.toNat, 0]

def k0_chk374 (v3004 : BitVec 32) : Prop :=
  (4 ∣ (k0_mult374 v3004).toNat) ∧
  (∀ a, (k0_off628 v3004) a + S4x128.size a ≤ S65536x128.size a)
theorem k0_mult374_dvd : ∀ (v3004 : BitVec 32) (k0_hw374 : k0_chk374 v3004), 4 ∣ (k0_mult374 v3004).toNat := fun v3004 k0_hw374 => k0_hw374.1
theorem k0_off628_inb : ∀ (v3004 : BitVec 32) (k0_hw374 : k0_chk374 v3004), ∀ a, (k0_off628 v3004) a + S4x128.size a ≤ S65536x128.size a := fun v3004 k0_hw374 => k0_hw374.2

def k0_off629 (k0_t1 : Fin k0_t1_loop.trips) : Fin 3 → Nat :=
  let c0_1950 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3011 : Index := Scalar.indexCast v2066
  let c118_1951 : Index := 118#32
  ![0, v3011.toNat, 118]
def k0_mult375 (v3012 : BitVec 32) : BitVec 32 :=
  v3012

def k0_off630 (v3012 : BitVec 32) : Fin 2 → Nat :=
  let v3013 : BitVec 32 := v3012
  let v3014 : Index := Scalar.indexCast v3013
  let c0_1952 : Index := 0#32
  ![v3014.toNat, 0]

def k0_chk375 (v3012 : BitVec 32) : Prop :=
  (4 ∣ (k0_mult375 v3012).toNat) ∧
  (∀ a, (k0_off630 v3012) a + S4x128.size a ≤ S65536x128.size a)
theorem k0_mult375_dvd : ∀ (v3012 : BitVec 32) (k0_hw375 : k0_chk375 v3012), 4 ∣ (k0_mult375 v3012).toNat := fun v3012 k0_hw375 => k0_hw375.1
theorem k0_off630_inb : ∀ (v3012 : BitVec 32) (k0_hw375 : k0_chk375 v3012), ∀ a, (k0_off630 v3012) a + S4x128.size a ≤ S65536x128.size a := fun v3012 k0_hw375 => k0_hw375.2

def k0_off631 (k0_t1 : Fin k0_t1_loop.trips) : Fin 3 → Nat :=
  let c0_1955 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3019 : Index := Scalar.indexCast v2066
  let c119_1956 : Index := 119#32
  ![0, v3019.toNat, 119]
def k0_mult376 (v3020 : BitVec 32) : BitVec 32 :=
  v3020

def k0_off632 (v3020 : BitVec 32) : Fin 2 → Nat :=
  let v3021 : BitVec 32 := v3020
  let v3022 : Index := Scalar.indexCast v3021
  let c0_1957 : Index := 0#32
  ![v3022.toNat, 0]

def k0_chk376 (v3020 : BitVec 32) : Prop :=
  (4 ∣ (k0_mult376 v3020).toNat) ∧
  (∀ a, (k0_off632 v3020) a + S4x128.size a ≤ S65536x128.size a)
theorem k0_mult376_dvd : ∀ (v3020 : BitVec 32) (k0_hw376 : k0_chk376 v3020), 4 ∣ (k0_mult376 v3020).toNat := fun v3020 k0_hw376 => k0_hw376.1
theorem k0_off632_inb : ∀ (v3020 : BitVec 32) (k0_hw376 : k0_chk376 v3020), ∀ a, (k0_off632 v3020) a + S4x128.size a ≤ S65536x128.size a := fun v3020 k0_hw376 => k0_hw376.2

def k0_off633 (k0_t1 : Fin k0_t1_loop.trips) : Fin 3 → Nat :=
  let c0_1960 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3027 : Index := Scalar.indexCast v2066
  let c120_1961 : Index := 120#32
  ![0, v3027.toNat, 120]
def k0_mult377 (v3028 : BitVec 32) : BitVec 32 :=
  v3028

def k0_off634 (v3028 : BitVec 32) : Fin 2 → Nat :=
  let v3029 : BitVec 32 := v3028
  let v3030 : Index := Scalar.indexCast v3029
  let c0_1962 : Index := 0#32
  ![v3030.toNat, 0]

def k0_chk377 (v3028 : BitVec 32) : Prop :=
  (4 ∣ (k0_mult377 v3028).toNat) ∧
  (∀ a, (k0_off634 v3028) a + S4x128.size a ≤ S65536x128.size a)
theorem k0_mult377_dvd : ∀ (v3028 : BitVec 32) (k0_hw377 : k0_chk377 v3028), 4 ∣ (k0_mult377 v3028).toNat := fun v3028 k0_hw377 => k0_hw377.1
theorem k0_off634_inb : ∀ (v3028 : BitVec 32) (k0_hw377 : k0_chk377 v3028), ∀ a, (k0_off634 v3028) a + S4x128.size a ≤ S65536x128.size a := fun v3028 k0_hw377 => k0_hw377.2

def k0_off635 (k0_t1 : Fin k0_t1_loop.trips) : Fin 3 → Nat :=
  let c0_1965 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3035 : Index := Scalar.indexCast v2066
  let c121_1966 : Index := 121#32
  ![0, v3035.toNat, 121]
def k0_mult378 (v3036 : BitVec 32) : BitVec 32 :=
  v3036

def k0_off636 (v3036 : BitVec 32) : Fin 2 → Nat :=
  let v3037 : BitVec 32 := v3036
  let v3038 : Index := Scalar.indexCast v3037
  let c0_1967 : Index := 0#32
  ![v3038.toNat, 0]

def k0_chk378 (v3036 : BitVec 32) : Prop :=
  (4 ∣ (k0_mult378 v3036).toNat) ∧
  (∀ a, (k0_off636 v3036) a + S4x128.size a ≤ S65536x128.size a)
theorem k0_mult378_dvd : ∀ (v3036 : BitVec 32) (k0_hw378 : k0_chk378 v3036), 4 ∣ (k0_mult378 v3036).toNat := fun v3036 k0_hw378 => k0_hw378.1
theorem k0_off636_inb : ∀ (v3036 : BitVec 32) (k0_hw378 : k0_chk378 v3036), ∀ a, (k0_off636 v3036) a + S4x128.size a ≤ S65536x128.size a := fun v3036 k0_hw378 => k0_hw378.2

def k0_off637 (k0_t1 : Fin k0_t1_loop.trips) : Fin 3 → Nat :=
  let c0_1970 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3043 : Index := Scalar.indexCast v2066
  let c122_1971 : Index := 122#32
  ![0, v3043.toNat, 122]
def k0_mult379 (v3044 : BitVec 32) : BitVec 32 :=
  v3044

def k0_off638 (v3044 : BitVec 32) : Fin 2 → Nat :=
  let v3045 : BitVec 32 := v3044
  let v3046 : Index := Scalar.indexCast v3045
  let c0_1972 : Index := 0#32
  ![v3046.toNat, 0]

def k0_chk379 (v3044 : BitVec 32) : Prop :=
  (4 ∣ (k0_mult379 v3044).toNat) ∧
  (∀ a, (k0_off638 v3044) a + S4x128.size a ≤ S65536x128.size a)
theorem k0_mult379_dvd : ∀ (v3044 : BitVec 32) (k0_hw379 : k0_chk379 v3044), 4 ∣ (k0_mult379 v3044).toNat := fun v3044 k0_hw379 => k0_hw379.1
theorem k0_off638_inb : ∀ (v3044 : BitVec 32) (k0_hw379 : k0_chk379 v3044), ∀ a, (k0_off638 v3044) a + S4x128.size a ≤ S65536x128.size a := fun v3044 k0_hw379 => k0_hw379.2

def k0_off639 (k0_t1 : Fin k0_t1_loop.trips) : Fin 3 → Nat :=
  let c0_1975 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3051 : Index := Scalar.indexCast v2066
  let c123_1976 : Index := 123#32
  ![0, v3051.toNat, 123]
def k0_mult380 (v3052 : BitVec 32) : BitVec 32 :=
  v3052

def k0_off640 (v3052 : BitVec 32) : Fin 2 → Nat :=
  let v3053 : BitVec 32 := v3052
  let v3054 : Index := Scalar.indexCast v3053
  let c0_1977 : Index := 0#32
  ![v3054.toNat, 0]

def k0_chk380 (v3052 : BitVec 32) : Prop :=
  (4 ∣ (k0_mult380 v3052).toNat) ∧
  (∀ a, (k0_off640 v3052) a + S4x128.size a ≤ S65536x128.size a)
theorem k0_mult380_dvd : ∀ (v3052 : BitVec 32) (k0_hw380 : k0_chk380 v3052), 4 ∣ (k0_mult380 v3052).toNat := fun v3052 k0_hw380 => k0_hw380.1
theorem k0_off640_inb : ∀ (v3052 : BitVec 32) (k0_hw380 : k0_chk380 v3052), ∀ a, (k0_off640 v3052) a + S4x128.size a ≤ S65536x128.size a := fun v3052 k0_hw380 => k0_hw380.2

def k0_off641 (k0_t1 : Fin k0_t1_loop.trips) : Fin 3 → Nat :=
  let c0_1980 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3059 : Index := Scalar.indexCast v2066
  let c124_1981 : Index := 124#32
  ![0, v3059.toNat, 124]
def k0_mult381 (v3060 : BitVec 32) : BitVec 32 :=
  v3060

def k0_off642 (v3060 : BitVec 32) : Fin 2 → Nat :=
  let v3061 : BitVec 32 := v3060
  let v3062 : Index := Scalar.indexCast v3061
  let c0_1982 : Index := 0#32
  ![v3062.toNat, 0]

def k0_chk381 (v3060 : BitVec 32) : Prop :=
  (4 ∣ (k0_mult381 v3060).toNat) ∧
  (∀ a, (k0_off642 v3060) a + S4x128.size a ≤ S65536x128.size a)
theorem k0_mult381_dvd : ∀ (v3060 : BitVec 32) (k0_hw381 : k0_chk381 v3060), 4 ∣ (k0_mult381 v3060).toNat := fun v3060 k0_hw381 => k0_hw381.1
theorem k0_off642_inb : ∀ (v3060 : BitVec 32) (k0_hw381 : k0_chk381 v3060), ∀ a, (k0_off642 v3060) a + S4x128.size a ≤ S65536x128.size a := fun v3060 k0_hw381 => k0_hw381.2

def k0_off643 (k0_t1 : Fin k0_t1_loop.trips) : Fin 3 → Nat :=
  let c0_1985 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3067 : Index := Scalar.indexCast v2066
  let c125_1986 : Index := 125#32
  ![0, v3067.toNat, 125]
def k0_mult382 (v3068 : BitVec 32) : BitVec 32 :=
  v3068

def k0_off644 (v3068 : BitVec 32) : Fin 2 → Nat :=
  let v3069 : BitVec 32 := v3068
  let v3070 : Index := Scalar.indexCast v3069
  let c0_1987 : Index := 0#32
  ![v3070.toNat, 0]

def k0_chk382 (v3068 : BitVec 32) : Prop :=
  (4 ∣ (k0_mult382 v3068).toNat) ∧
  (∀ a, (k0_off644 v3068) a + S4x128.size a ≤ S65536x128.size a)
theorem k0_mult382_dvd : ∀ (v3068 : BitVec 32) (k0_hw382 : k0_chk382 v3068), 4 ∣ (k0_mult382 v3068).toNat := fun v3068 k0_hw382 => k0_hw382.1
theorem k0_off644_inb : ∀ (v3068 : BitVec 32) (k0_hw382 : k0_chk382 v3068), ∀ a, (k0_off644 v3068) a + S4x128.size a ≤ S65536x128.size a := fun v3068 k0_hw382 => k0_hw382.2

def k0_off645 (k0_t1 : Fin k0_t1_loop.trips) : Fin 3 → Nat :=
  let c0_1990 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3075 : Index := Scalar.indexCast v2066
  let c126_1991 : Index := 126#32
  ![0, v3075.toNat, 126]
def k0_mult383 (v3076 : BitVec 32) : BitVec 32 :=
  v3076

def k0_off646 (v3076 : BitVec 32) : Fin 2 → Nat :=
  let v3077 : BitVec 32 := v3076
  let v3078 : Index := Scalar.indexCast v3077
  let c0_1992 : Index := 0#32
  ![v3078.toNat, 0]

def k0_chk383 (v3076 : BitVec 32) : Prop :=
  (4 ∣ (k0_mult383 v3076).toNat) ∧
  (∀ a, (k0_off646 v3076) a + S4x128.size a ≤ S65536x128.size a)
theorem k0_mult383_dvd : ∀ (v3076 : BitVec 32) (k0_hw383 : k0_chk383 v3076), 4 ∣ (k0_mult383 v3076).toNat := fun v3076 k0_hw383 => k0_hw383.1
theorem k0_off646_inb : ∀ (v3076 : BitVec 32) (k0_hw383 : k0_chk383 v3076), ∀ a, (k0_off646 v3076) a + S4x128.size a ≤ S65536x128.size a := fun v3076 k0_hw383 => k0_hw383.2

def k0_off647 (k0_t1 : Fin k0_t1_loop.trips) : Fin 3 → Nat :=
  let c0_1995 : Index := 0#32
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c2_i32_1358 : BitVec 32 := 2#32
  let v2065 : BitVec 32 := Scalar.addi v947 c2_i32_1358
  let c127_i32_1359 : BitVec 32 := 127#32
  let v2066 : BitVec 32 := Scalar.minsi v2065 c127_i32_1359
  let v3083 : Index := Scalar.indexCast v2066
  let c127_1996 : Index := 127#32
  ![0, v3083.toNat, 127]
def k0_mult384 (v3084 : BitVec 32) : BitVec 32 :=
  v3084

def k0_off648 (v3084 : BitVec 32) : Fin 2 → Nat :=
  let v3085 : BitVec 32 := v3084
  let v3086 : Index := Scalar.indexCast v3085
  let c0_1997 : Index := 0#32
  ![v3086.toNat, 0]

def k0_chk384 (v3084 : BitVec 32) : Prop :=
  (4 ∣ (k0_mult384 v3084).toNat) ∧
  (∀ a, (k0_off648 v3084) a + S4x128.size a ≤ S65536x128.size a)
theorem k0_mult384_dvd : ∀ (v3084 : BitVec 32) (k0_hw384 : k0_chk384 v3084), 4 ∣ (k0_mult384 v3084).toNat := fun v3084 k0_hw384 => k0_hw384.1
theorem k0_off648_inb : ∀ (v3084 : BitVec 32) (k0_hw384 : k0_chk384 v3084), ∀ a, (k0_off648 v3084) a + S4x128.size a ≤ S65536x128.size a := fun v3084 k0_hw384 => k0_hw384.2

def k0_off649 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_2000 : BitVec 32 := 1#32
  let v3091 : BitVec 32 := Scalar.addi v947 c1_i32_2000
  let v3096 : Index := Scalar.indexCast v3091
  let c0_2004 : Index := 0#32
  let c0_2005 : Index := 0#32
  ![v3096.toNat, 0, 0]
def k0_off650 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_2000 : BitVec 32 := 1#32
  let v3091 : BitVec 32 := Scalar.addi v947 c1_i32_2000
  let v3102 : Index := Scalar.indexCast v3091
  let c4_2006 : Index := 4#32
  let c0_2007 : Index := 0#32
  ![v3102.toNat, 4, 0]
def k0_off651 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_2000 : BitVec 32 := 1#32
  let v3091 : BitVec 32 := Scalar.addi v947 c1_i32_2000
  let v3111 : Index := Scalar.indexCast v3091
  let c1_2010 : Index := 1#32
  let c0_2011 : Index := 0#32
  ![v3111.toNat, 1, 0]
def k0_off652 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_2000 : BitVec 32 := 1#32
  let v3091 : BitVec 32 := Scalar.addi v947 c1_i32_2000
  let v3117 : Index := Scalar.indexCast v3091
  let c5_2012 : Index := 5#32
  let c0_2013 : Index := 0#32
  ![v3117.toNat, 5, 0]
def k0_off653 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_2000 : BitVec 32 := 1#32
  let v3091 : BitVec 32 := Scalar.addi v947 c1_i32_2000
  let v3126 : Index := Scalar.indexCast v3091
  let c2_2016 : Index := 2#32
  let c0_2017 : Index := 0#32
  ![v3126.toNat, 2, 0]
def k0_off654 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_2000 : BitVec 32 := 1#32
  let v3091 : BitVec 32 := Scalar.addi v947 c1_i32_2000
  let v3132 : Index := Scalar.indexCast v3091
  let c6_2018 : Index := 6#32
  let c0_2019 : Index := 0#32
  ![v3132.toNat, 6, 0]
def k0_off655 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_2000 : BitVec 32 := 1#32
  let v3091 : BitVec 32 := Scalar.addi v947 c1_i32_2000
  let v3141 : Index := Scalar.indexCast v3091
  let c3_2022 : Index := 3#32
  let c0_2023 : Index := 0#32
  ![v3141.toNat, 3, 0]
def k0_off656 (k0_t1 : Fin k0_t1_loop.trips) : Fin 3 → Nat :=
  let c2_i32 : BitVec 32 := 2#32
  let c0_i32 : BitVec 32 := 0#32
  let c1_i32 : BitVec 32 := 1#32
  let arg10 : BitVec 32 := Scf.iv c0_i32 c1_i32 k0_t1
  let v947 : BitVec 32 := Scalar.muli c2_i32 arg10
  let c1_i32_2000 : BitVec 32 := 1#32
  let v3091 : BitVec 32 := Scalar.addi v947 c1_i32_2000
  let v3147 : Index := Scalar.indexCast v3091
  let c7_2024 : Index := 7#32
  let c0_2025 : Index := 0#32
  ![v3147.toNat, 7, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x128x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S65536x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S256x128x128 : Shape := ⟨3, ![256, 128, 128]⟩
abbrev S32768x1024 : Shape := ⟨2, ![32768, 1024]⟩
abbrev S65536x128 : Shape := ⟨2, ![65536, 128]⟩
abbrev S16384x512 : Shape := ⟨2, ![16384, 512]⟩
abbrev S16384x512x2 : Shape := ⟨3, ![16384, 512, 2]⟩
abbrev S16384x512x1 : Shape := ⟨3, ![16384, 512, 1]⟩
abbrev S16384x1024 : Shape := ⟨2, ![16384, 1024]⟩
abbrev S_ : Shape := ⟨0, ![]⟩
abbrev S256x128x128x1 : Shape := ⟨4, ![256, 128, 128, 1]⟩
abbrev S256x128x128x1024 : Shape := ⟨4, ![256, 128, 128, 1024]⟩
abbrev S256x128x1024 : Shape := ⟨3, ![256, 128, 1024]⟩

abbrev nBuf : Space → Nat
  | .hbm => 36
  | .vmem => 0
  | .smem => 0
  | _ => 0

abbrev bufTy : (tb : Table) → Fin (tcTables nBuf tb) → BufTy
  | .hbm, ⟨0, _⟩ => ⟨S256x128x128, .i32⟩
  | .hbm, ⟨1, _⟩ => ⟨S32768x1024, .f32⟩
  | .hbm, ⟨2, _⟩ => ⟨S256x128x128, .f32⟩
  | .hbm, ⟨3, _⟩ => ⟨S65536x128, .i32⟩
  | .hbm, ⟨4, _⟩ => ⟨S16384x512, .i32⟩
  | .hbm, ⟨5, _⟩ => ⟨S16384x512x2, .bf16⟩
  | .hbm, ⟨6, _⟩ => ⟨S16384x512x1, .bf16⟩
  | .hbm, ⟨7, _⟩ => ⟨S16384x512, .bf16⟩
  | .hbm, ⟨8, _⟩ => ⟨S16384x512x1, .bf16⟩
  | .hbm, ⟨9, _⟩ => ⟨S16384x512, .bf16⟩
  | .hbm, ⟨10, _⟩ => ⟨S16384x1024, .bf16⟩
  | .hbm, ⟨11, _⟩ => ⟨S16384x1024, .f32⟩
  | .hbm, ⟨12, _⟩ => ⟨S_, .i32⟩
  | .hbm, ⟨13, _⟩ => ⟨S256x128x128, .i32⟩
  | .hbm, ⟨14, _⟩ => ⟨S256x128x128, .i1⟩
  | .hbm, ⟨15, _⟩ => ⟨S_, .i32⟩
  | .hbm, ⟨16, _⟩ => ⟨S256x128x128, .i32⟩
  | .hbm, ⟨17, _⟩ => ⟨S256x128x128, .i32⟩
  | .hbm, ⟨18, _⟩ => ⟨S256x128x128, .i32⟩
  | .hbm, ⟨19, _⟩ => ⟨S256x128x128x1, .i32⟩
  | .hbm, ⟨20, _⟩ => ⟨S256x128x128x1024, .f32⟩
  | .hbm, ⟨21, _⟩ => ⟨S256x128x1024, .f32⟩
  | .hbm, ⟨22, _⟩ => ⟨S256x128x128, .f32⟩
  | .hbm, ⟨23, _⟩ => ⟨S256x128x128, .f32⟩
  | .hbm, ⟨24, _⟩ => ⟨S_, .f32⟩
  | .hbm, ⟨25, _⟩ => ⟨S256x128x128, .f32⟩
  | .hbm, ⟨26, _⟩ => ⟨S256x128x128, .f32⟩
  | .hbm, ⟨27, _⟩ => ⟨S_, .f32⟩
  | .hbm, ⟨28, _⟩ => ⟨S256x128x128, .f32⟩
  | .hbm, ⟨29, _⟩ => ⟨S256x128x128, .f32⟩
  | .hbm, ⟨30, _⟩ => ⟨S256x128x128, .f32⟩
  | .hbm, ⟨31, _⟩ => ⟨S_, .f32⟩
  | .hbm, ⟨32, _⟩ => ⟨S256x128x128, .f32⟩
  | .hbm, ⟨33, _⟩ => ⟨S256x128x128, .f32⟩
  | .hbm, ⟨34, _⟩ => ⟨S256x128x128, .f32⟩
  | .hbm, ⟨35, _⟩ => ⟨S256x128x128, .f32⟩
  | _, _ => ⟨S256x128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel5.lean ====
abbrev S16384x1024 : Shape := ⟨2, ![16384, 1024]⟩
abbrev S65536x128 : Shape := ⟨2, ![65536, 128]⟩
abbrev S512x1024 : Shape := ⟨2, ![512, 1024]⟩
abbrev S2048x128 : Shape := ⟨2, ![2048, 128]⟩
abbrev S512x512 : Shape := ⟨2, ![512, 512]⟩
abbrev S512x128 : Shape := ⟨2, ![512, 128]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S65536x128, .i32⟩
  | .local _ .vmem, ⟨0, _⟩ => ⟨S512x1024, .f32⟩
  | .local _ .vmem, ⟨1, _⟩ => ⟨S512x1024, .f32⟩
  | .local _ .vmem, ⟨2, _⟩ => ⟨S2048x128, .i32⟩
  | .local _ .vmem, ⟨3, _⟩ => ⟨S2048x128, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5.lean ====
abbrev S16384x1024 : Shape := ⟨2, ![16384, 1024]⟩
abbrev S16384x512 : Shape := ⟨2, ![16384, 512]⟩
abbrev S16384x512x1 : Shape := ⟨3, ![16384, 512, 1]⟩
abbrev S16384x512x2 : Shape := ⟨3, ![16384, 512, 2]⟩
abbrev S65536x128 : Shape := ⟨2, ![65536, 128]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S16384x512, .bf16⟩
  | .hbm, ⟨4, _⟩ => ⟨S16384x512x1, .bf16⟩
  | .hbm, ⟨5, _⟩ => ⟨S16384x512x1, .bf16⟩
  | .hbm, ⟨6, _⟩ => ⟨S16384x512x2, .bf16⟩
  | .hbm, ⟨7, _⟩ => ⟨S16384x512, .i32⟩
  | .hbm, ⟨8, _⟩ => ⟨S65536x128, .i32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [BitOps F]
-- ==== Proof.Rows.lean ====
/- The kernel body as loops: the printed body spells out, row by row, the copies of the 128 selected table rows
   into a tile buffer; here the copies are a recursion over the rows (`rows`), the weighted sums of the four
   quarter tiles another (`sums`), and the printed body is shown to be made of the two. -/
module

public import proofs.«01_k».proof.Proof.Gen.KernelIdeal.Skeleton

@[expose] public section

set_option maxRecDepth 65536

noncomputable section

namespace Cert.KernelIdeal.Rows

open Idealize.ShloMosaic Idealize.SL.Sem Cert.KernelIdeal.Gen

variable {F : FTy → Type} [FloatOps F]

/-- One word of the block of indices lies in the block. -/
theorem inb_word (p : BitVec 32) (hp : (Scalar.indexCast p : Index).toNat < 128) (j : ℕ) (hj : j < 128) :
    ∀ a, (![0, (Scalar.indexCast p : Index).toNat, j] : Fin 3 → Nat) a + S1x1x1.size a ≤ S1x128x128.size a := by
  intro a
  fin_cases a
  · exact Nat.le_refl 1
  · exact hp
  · exact hj

/-- The four rows `j`, `j + 136`, `j + 272`, `j + 408` lie in a tile buffer. -/
theorem inb_tile (j : ℕ) (hj : j < 128) :
    ∀ a, S4x128.size a = 0 ∨ (![j, 0] : Fin 2 → Nat) a + (![136, 1] : Fin 2 → Nat) a * (S4x128.size a - 1) < S544x128.size a := by
  intro a
  right
  fin_cases a
  · show j + 136 * 3 < 544
    omega
  · show 0 + 1 * 127 < 128
    omega

/-- The four strided rows of a tile buffer that the selected expert `j` fills. -/
abbrev tileRect (j : ℕ) (hj : j < 128) : Rect S544x128 :=
  ⟨(⟨![j, 0], S4x128.size, ![136, 1], inb_tile j hj⟩ : LoadRect S544x128), spos_136_1⟩

/-- Copy table row `idx[p, j]` (four sublanes) to the four strided rows of the tile `T`. -/
def row (arg1 : Memref sig .tc .smem S1x128x128 .i32) (arg3 : Memref sig .tc .vmem S65536x128 .i32)
    (T : Memref sig .tc .vmem S544x128 .i32) (p : BitVec 32) (hp : (Scalar.indexCast p : Index).toNat < 128)
    (j : ℕ) (hj : j < 128) : Prog (TpuEff nD τ sig (Elt F) Λ₀ .tc) Unit := do
  let w : Elt F .i32 ← smemLoad arg1 (Rect.unit (s := S1x128x128) ![0, (Scalar.indexCast p : Index).toNat, j] S1x1x1.size (inb_word p hp j hj)) numel1_S1x1x1 rfl
  have hw : k0_chk1 w := (← Prog.lift (TpuEff.assume (k0_chk1 w) (k0_chk1.dec w))).down
  let v : Vec F S4x128 .i32 ← Prog.lift (.load arg3 (Rect.unit (s := S65536x128) (k0_off1 w) S4x128.size (k0_off1_inb w hw)).toLoadRect (View.loadsAt_vmem h_S4x128))
  let _ : Vec F S4x128 .i32 ← Prog.lift (.load T (⟨![j, 0], S4x128.size, ![136, 1], inb_tile j hj⟩ : LoadRect S544x128) (View.loadsAt_vmem h_S4x128))
  Prog.lift (.store T ⟨(⟨![j, 0], S4x128.size, ![136, 1], inb_tile j hj⟩ : LoadRect S544x128), spos_136_1⟩ (k0_pay282 v) Finset.univ (View.stores_vmem_bits_univ h_S4x128 rfl) (.inl rfl))

/-- The rows `j`, …, `j + n - 1`, in order. -/
def rows (arg1 : Memref sig .tc .smem S1x128x128 .i32) (arg3 : Memref sig .tc .vmem S65536x128 .i32)
    (T : Memref sig .tc .vmem S544x128 .i32) (p : BitVec 32) (hp : (Scalar.indexCast p : Index).toNat < 128) :
    (n j : ℕ) → j + n ≤ 128 → Prog (TpuEff nD τ sig (Elt F) Λ₀ .tc) Unit
  | 0, _, _ => pure ()
  | n + 1, j, h => do
    row arg1 arg3 T p hp j (by omega)
    rows arg1 arg3 T p hp n (j + 1) (by omega)

theorem inb_quarter (s : ℕ) (hs : s < 4) :
    ∀ a, (![136 * s, 0] : Fin 2 → Nat) a + S128x128.size a ≤ S544x128.size a := by
  intro a
  fin_cases a
  · show 136 * s + 128 ≤ 544
    omega
  · exact Nat.le_refl 128

theorem inb_y (p : BitVec 32) (hp : (Scalar.indexCast p : Index).toNat < 128) (s : ℕ) (hs : s < 8) :
    ∀ a, (![(Scalar.indexCast p : Index).toNat, s, 0] : Fin 3 → Nat) a + S1x1x128.size a ≤ S128x8x128.size a := by
  intro a
  fin_cases a
  · exact hp
  · exact hs
  · exact Nat.le_refl 128

/-- The weighted sums of quarter `s` of the tile: of the low halves to sublane `s` of row `p`, of the high halves to
    sublane `4 + s`. -/
def quarter (T : Memref sig .tc .vmem S544x128 .i32) (arg9 : Memref sig .tc .vmem S128x8x128 .f32)
    (p : BitVec 32) (hp : (Scalar.indexCast p : Index).toNat < 128) (wc : FVec F S128x1 .f32)
    (s : ℕ) (hs : s < 4) : Prog (TpuEff nD τ sig (Elt F) Λ₀ .tc) Unit := do
  let t : Vec F S128x128 .i32 ← Prog.lift (.load T (Rect.unit (s := S544x128) ![136 * s, 0] S128x128.size (inb_quarter s hs)).toLoadRect (View.loadsAt_vmem h_S128x128))
  let _ : Vec F S1x1x128 .f32 ← Prog.lift (.load arg9 (Rect.unit (s := S128x8x128) ![(Scalar.indexCast p : Index).toNat, s, 0] S1x1x128.size (inb_y p hp s (by omega))).toLoadRect (View.loadsAt_vmem h_S1x1x128))
  Prog.lift (.store arg9 (Rect.unit (s := S128x8x128) ![(Scalar.indexCast p : Index).toNat, s, 0] S1x1x128.size (inb_y p hp s (by omega))) (k0_pay407 wc t) Finset.univ (View.stores_vmem_bits_univ h_S1x1x128 rfl) (.inl rfl))
  let _ : Vec F S1x1x128 .f32 ← Prog.lift (.load arg9 (Rect.unit (s := S128x8x128) ![(Scalar.indexCast p : Index).toNat, 4 + s, 0] S1x1x128.size (inb_y p hp (4 + s) (by omega))).toLoadRect (View.loadsAt_vmem h_S1x1x128))
  Prog.lift (.store arg9 (Rect.unit (s := S128x8x128) ![(Scalar.indexCast p : Index).toNat, 4 + s, 0] S1x1x128.size (inb_y p hp (4 + s) (by omega))) (k0_pay408 wc t) Finset.univ (View.stores_vmem_bits_univ h_S1x1x128 rfl) (.inl rfl))

/-- The weighted sums of one token: the weights of token `p`, then the four quarters of the tile. -/
def sums (arg2 : Memref sig .tc .vmem S1x128x128 .f32) (T : Memref sig .tc .vmem S544x128 .i32)
    (arg9 : Memref sig .tc .vmem S128x8x128 .f32) (p : BitVec 32) (hp : (Scalar.indexCast p : Index).toNat < 128)
    (v0 : IVec S128x128 32) : Prog (TpuEff nD τ sig (Elt F) Λ₀ .tc) Unit := do
  let w : Vec F S1x128x128 .f32 ← Prog.lift (.load arg2 (Rect.unit (s := S1x128x128) ![0, 0, 0] S1x128x128.size inb_S1x128x128_S1x128x128_0_0_0).toLoadRect (View.loadsAt_vmem h_S1x128x128))
  quarter T arg9 p hp (k0_pay130 v0 p w) 0 (by omega)
  quarter T arg9 p hp (k0_pay130 v0 p w) 1 (by omega)
  quarter T arg9 p hp (k0_pay130 v0 p w) 2 (by omega)
  quarter T arg9 p hp (k0_pay130 v0 p w) 3 (by omega)

/-- The token a trip sums first, the token it sums second, and the token it fetches last. -/
def tok0 (t : Fin k0_t1_loop.trips) : BitVec 32 := Scalar.muli 2#32 (Scf.iv 0#32 1#32 t)
def tok1 (t : Fin k0_t1_loop.trips) : BitVec 32 := Scalar.addi (tok0 t) 1#32
def tok2 (t : Fin k0_t1_loop.trips) : BitVec 32 := Scalar.minsi (Scalar.addi (tok0 t) 2#32) 127#32

theorem tok0_eq (t : Fin k0_t1_loop.trips) : (Scalar.indexCast (tok0 t) : Index).toNat = 2 * t.val := by
  revert t; decide +kernel
theorem tok1_eq (t : Fin k0_t1_loop.trips) : (Scalar.indexCast (tok1 t) : Index).toNat = 2 * t.val + 1 := by
  revert t; decide +kernel
theorem tok2_eq (t : Fin k0_t1_loop.trips) : (Scalar.indexCast (tok2 t) : Index).toNat = min (2 * t.val + 2) 127 := by
  revert t; decide +kernel
theorem trips_eq : k0_t1_loop.trips = 64 := by decide +kernel

theorem tok0_lt (t : Fin k0_t1_loop.trips) : (Scalar.indexCast (tok0 t) : Index).toNat < 128 := by
  have h := t.isLt; have e := trips_eq; rw [tok0_eq]; omega
theorem tok1_lt (t : Fin k0_t1_loop.trips) : (Scalar.indexCast (tok1 t) : Index).toNat < 128 := by
  have h := t.isLt; have e := trips_eq; rw [tok1_eq]; omega
theorem tok2_lt (t : Fin k0_t1_loop.trips) : (Scalar.indexCast (tok2 t) : Index).toNat < 128 := by
  rw [tok2_eq]; omega
theorem tokz_lt : (Scalar.indexCast (0#32) : Index).toNat < 128 := by decide

/-- One trip: fetch the odd token, sum the even one, fetch the next even token, sum the odd one. -/
def trip (arg1 : Memref sig .tc .smem S1x128x128 .i32) (arg2 : Memref sig .tc .vmem S1x128x128 .f32)
    (arg3 : Memref sig .tc .vmem S65536x128 .i32) (arg7 arg8 : Memref sig .tc .vmem S544x128 .i32)
    (arg9 : Memref sig .tc .vmem S128x8x128 .f32) (v0 : IVec S128x128 32) (t : Fin k0_t1_loop.trips) :
    Prog (TpuEff nD τ sig (Elt F) Λ₀ .tc) Unit := do
  rows arg1 arg3 arg8 (tok1 t) (tok1_lt t) 128 0 (by omega)
  sums arg2 arg7 arg9 (tok0 t) (tok0_lt t) v0
  rows arg1 arg3 arg7 (tok2 t) (tok2_lt t) 128 0 (by omega)
  sums arg2 arg8 arg9 (tok1 t) (tok1_lt t) v0

theorem inb_chunk (s : ℕ) (hs : s < 8) :
    ∀ a, (![0, 128 * s] : Fin 2 → Nat) a + S128x128.size a ≤ S128x1024.size a := by
  intro a
  fin_cases a
  · exact Nat.le_refl 128
  · show 128 * s + 128 ≤ 1024
    omega

theorem inb_gain (s : ℕ) (hs : s < 8) :
    ∀ a, (![0, 128 * s] : Fin 2 → Nat) a + S1x128.size a ≤ S1x1024.size a := by
  intro a
  fin_cases a
  · exact Nat.le_refl 1
  · show 128 * s + 128 ≤ 1024
    omega

theorem inb_sum (s : ℕ) (hs : s < 8) :
    ∀ a, (![0, s, 0] : Fin 3 → Nat) a + S128x1x128.size a ≤ S128x8x128.size a := by
  intro a
  fin_cases a
  · exact Nat.le_refl 128
  · exact hs
  · exact Nat.le_refl 128

/-- The columns `128 s` to `128 s + 127` of the residual stream plus the weighted sums. -/
def residual (arg4 : Memref sig .tc .vmem S128x1024 .f32) (arg9 : Memref sig .tc .vmem S128x8x128 .f32)
    (s : ℕ) (hs : s < 8) : Prog (TpuEff nD τ sig (Elt F) Λ₀ .tc) (FVec F S128x128 .f32) := do
  let h : Vec F S128x128 .f32 ← Prog.lift (.load arg4 (Rect.unit (s := S128x1024) ![0, 128 * s] S128x128.size (inb_chunk s hs)).toLoadRect (View.loadsAt_vmem h_S128x128))
  let y : Vec F S128x1x128 .f32 ← Prog.lift (.load arg9 (Rect.unit (s := S128x8x128) ![0, s, 0] S128x1x128.size (inb_sum s hs)).toLoadRect (View.loadsAt_vmem h_S128x1x128))
  pure (k0_pay409 h y)

/-- The sums of the squares along the lanes, as a column. -/
def sq (x : FVec F S128x128 .f32) : FVec F S128x1 .f32 :=
  shapeCast S128x1 (multiReduction .add [1] S128 (mulf x x) 0x00000000#32 reduces_S128x128_S128 (.inl rfl) rfl : FVec F S128 .f32) shapeCasts_S128_S128x1

/-- The column of scales: one over the root of the mean square. -/
def scale (x0 x1 x2 x3 x4 x5 x6 x7 : FVec F S128x128 .f32) : FVec F S128x1 .f32 :=
  rsqrt (addf (mulf (addf (addf (addf (addf (addf (addf (addf (addf (broadcast S128x1 (Scalar.ofBits .f32 0x00000000#32 : F .f32)) (sq x0)) (sq x1)) (sq x2)) (sq x3)) (sq x4)) (sq x5)) (sq x6)) (sq x7))
    (broadcast S128x1 (Scalar.ofBits .f32 0x3A800000#32 : F .f32))) (broadcast S128x1 (Scalar.ofBits .f32 0x358637BD#32 : F .f32)))

/-- One stretch of 128 columns of the result. -/
def chunk (arg5 : Memref sig .tc .vmem S1x1024 .f32) (arg6 : Memref sig .tc .vmem S128x1024 .f32)
    (x : FVec F S128x128 .f32) (rs : FVec F S128x1 .f32) (s : ℕ) (hs : s < 8) : Prog (TpuEff nD τ sig (Elt F) Λ₀ .tc) Unit := do
  let g : Vec F S1x128 .f32 ← Prog.lift (.load arg5 (Rect.unit (s := S1x1024) ![0, 128 * s] S1x128.size (inb_gain s hs)).toLoadRect (View.loadsAt_vmem h_S1x128))
  let _ : Vec F S128x128 .f32 ← Prog.lift (.load arg6 (Rect.unit (s := S128x1024) ![0, 128 * s] S128x128.size (inb_chunk s hs)).toLoadRect (View.loadsAt_vmem h_S128x128))
  Prog.lift (.store arg6 (Rect.unit (s := S128x1024) ![0, 128 * s] S128x128.size (inb_chunk s hs)) (k0_pay1 x rs g) Finset.univ (View.stores_vmem_bits_univ h_S128x128 rfl) (.inl rfl))

/-- After the loop: the residual sum and its normalisation, 128 columns at a time. -/
def tail (arg4 : Memref sig .tc .vmem S128x1024 .f32) (arg5 : Memref sig .tc .vmem S1x1024 .f32)
    (arg6 : Memref sig .tc .vmem S128x1024 .f32) (arg9 : Memref sig .tc .vmem S128x8x128 .f32) :
    Prog (TpuEff nD τ sig (Elt F) Λ₀ .tc) Unit := do
  let x0 ← residual arg4 arg9 0 (by omega)
  let x1 ← residual arg4 arg9 1 (by omega)
  let x2 ← residual arg4 arg9 2 (by omega)
  let x3 ← residual arg4 arg9 3 (by omega)
  let x4 ← residual arg4 arg9 4 (by omega)
  let x5 ← residual arg4 arg9 5 (by omega)
  let x6 ← residual arg4 arg9 6 (by omega)
  let x7 ← residual arg4 arg9 7 (by omega)
  let rs := scale x0 x1 x2 x3 x4 x5 x6 x7
  chunk arg5 arg6 x0 rs 0 (by omega)
  chunk arg5 arg6 x1 rs 1 (by omega)
  chunk arg5 arg6 x2 rs 2 (by omega)
  chunk arg5 arg6 x3 rs 3 (by omega)
  chunk arg5 arg6 x4 rs 4 (by omega)
  chunk arg5 arg6 x5 rs 5 (by omega)
  chunk arg5 arg6 x6 rs 6 (by omega)
  chunk arg5 arg6 x7 rs 7 (by omega)

/-- The lane numbers of a 128 by 128 block. -/
def lanes : IVec S128x128 32 := iota .tc S128x128 32 [1] iota_S128x128_d1_w32

/-- The kernel body: the first token's rows, the loop, the normalisation. -/
def body (arg1 : Memref sig .tc .smem S1x128x128 .i32) (arg2 : Memref sig .tc .vmem S1x128x128 .f32)
    (arg3 : Memref sig .tc .vmem S65536x128 .i32) (arg4 : Memref sig .tc .vmem S128x1024 .f32)
    (arg5 : Memref sig .tc .vmem S1x1024 .f32) (arg6 : Memref sig .tc .vmem S128x1024 .f32)
    (arg7 arg8 : Memref sig .tc .vmem S544x128 .i32) (arg9 : Memref sig .tc .vmem S128x8x128 .f32) :
    Prog (TpuEff nD τ sig (Elt F) Λ₀ .tc) PUnit := do
  rows arg1 arg3 arg7 0#32 tokz_lt 128 0 (by omega)
  Scf.Loop.for k0_t1_loop k0_t1_ok ⟨⟩ fun t _ => trip arg1 arg2 arg3 arg7 arg8 arg9 lanes t
  tail arg4 arg5 arg6 arg9

end Cert.KernelIdeal.Rows

end
-- ==== Proof.Steps.lean ====
/- What the loops of `Rows` leave: after the copies of one token's rows a tile buffer holds the selected table rows,
   after the weighted sums of a token eight more rows of the sums' buffer are written. Each fact is stated once, for
   every row, tile buffer and token. -/
module

public import proofs.«01_k».proof.Proof.Rows
public import Idealize.ShloMosaic.Lib.Tactic
public import Idealize.ShloMosaic.Lib.Pipeline.Kit
public import Idealize.ShloMosaic.Lib.Pointwise.Index
public import Idealize.ShloMosaic.Lib.Pipeline.Value

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.Rounds

variable {F : FTy → Type} [FloatOps F]

local notation "𝕄" => MT nD τ sig Unit (Elt F) ℕ (UR sig nD τ) ℕ

abbrev Bf (F : FTy → Type) (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The run of a program of the kernel's on core `c`. -/
abbrev runs (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## Lists of writes -/

/-- Every write of the list writes the values of `G`. -/
def Agrees {S : Shape} {e : EltTy} (G : S.Idx → Elt F e) (L : List (View.Piece (Elt F) S e)) : Prop :=
  ∀ p ∈ L, ∀ x, p.2 x = G (p.1.emb x)

/-- Some write of the list writes the element. -/
def Covers {S : Shape} {e : EltTy} (L : List (View.Piece (Elt F) S e)) (y : S.Idx) : Prop := ∃ p ∈ L, y ∈ p.1.set

theorem Agrees.nil {S : Shape} {e : EltTy} (G : S.Idx → Elt F e) : Agrees G [] := fun _ h => absurd h List.not_mem_nil

theorem Agrees.cons {S : Shape} {e : EltTy} {G : S.Idx → Elt F e} {L : List (View.Piece (Elt F) S e)} {r : Rect S}
    {w : r.shape.Idx → Elt F e} (hw : ∀ x, w x = G (r.emb x)) (h : Agrees G L) : Agrees G (⟨r, w⟩ :: L) := by
  intro p hp
  rcases List.mem_cons.mp hp with rfl | hp
  · exact hw
  · exact h p hp

theorem Covers.mono {S : Shape} {e : EltTy} {L L' : List (View.Piece (Elt F) S e)} (h : ∀ p ∈ L, p ∈ L') {y : S.Idx} :
    Covers L y → Covers L' y := fun ⟨p, hp, hy⟩ => ⟨p, h p hp, hy⟩

theorem mem_set_emb {S : Shape} (r : Rect S) (x : r.shape.Idx) : r.emb x ∈ r.set := by
  rw [← Rect.map_emb_univ]; exact Finset.mem_map_of_mem _ (Finset.mem_univ x)

/-! ## The selected rows -/

/-- The word that selects the table row of expert `j` for token `p`. -/
def word (idx : S1x128x128.Idx → BitVec 32) (p j : ℕ) : BitVec 32 :=
  idx (ix3 0 ⟨p % 128, Nat.mod_lt _ (by decide)⟩ ⟨j % 128, Nat.mod_lt _ (by decide)⟩)

/-- Lane `l` of row `n` of the table of words. -/
def tabAt (tab : S65536x128.Idx → BitVec 32) (n : ℕ) (l : Fin 128) : BitVec 32 :=
  tab (ix2 ⟨n % 65536, Nat.mod_lt _ (by decide)⟩ l)

/-- Every index word of the block may be used: it is a multiple of four and its four rows lie in the table. -/
def Usable (idx : S1x128x128.Idx → BitVec 32) : Prop := ∀ p j, k0_chk1 (word idx p j)

/-- What a tile buffer holds once token `p`'s rows have been copied to it (the rows 128 to 135 of each stretch of 136
    are never written). -/
def tile (idx : S1x128x128.Idx → BitVec 32) (tab : S65536x128.Idx → BitVec 32) (p : ℕ) : S544x128.Idx → BitVec 32 :=
  fun y => tabAt tab ((word idx p ((y 0).val % 136)).toNat + (y 0).val / 136) (y 1)

variable (c : Dev nD)

/-- The four copied rows are the tile's. -/
theorem copied_eq {arg3 : Memref sig .tc .vmem S65536x128 .i32} (f3 : Bf F c arg3) (idx : S1x128x128.Idx → BitVec 32)
    (p j : ℕ) (hj : j < 128) (w : BitVec 32) (hw : w = word idx p j)
    (hc : ∀ a, k0_off1 w a + S4x128.size a ≤ S65536x128.size a) (x : S4x128.Idx) :
    k0_pay282 (arg3.view.readAt (Elt F) (Rect.unit (s := S65536x128) (k0_off1 w) S4x128.size hc).toLoadRect f3) x
      = tile idx (arg3.view.read (Elt F) f3) p ((tileRect j hj).emb x) := by
  have hx0 : (x 0).val < 4 := (x 0).isLt
  have hin : w.toNat + 4 ≤ 65536 := hc 0
  have e0 : ((tileRect j hj).emb x 0).val = j + 136 * (x 0).val := rfl
  have e1 : (tileRect j hj).emb x 1 = x 1 := by
    apply Fin.ext; show 0 + 1 * (x 1).val = (x 1).val; omega
  have hm : (j + 136 * (x 0).val) % 136 = j := by omega
  have hd : (j + 136 * (x 0).val) / 136 = (x 0).val := by omega
  unfold tile
  rw [e0, e1, hm, hd, ← hw]
  unfold k0_pay282
  rw [shapeCast_self]
  show arg3.view.read (Elt F) f3 _ = arg3.view.read (Elt F) f3 _
  congr 1
  funext a
  match a with
  | ⟨0, _⟩ => apply Fin.ext; show w.toNat + 1 * (x 0).val = (w.toNat + (x 0).val) % 65536; omega
  | ⟨1, _⟩ => apply Fin.ext; show 0 + 1 * (x 1).val = (x 1).val; omega

/-- One copy: a write of the tile's values over its four rows. -/
theorem row_wp {arg1 : Memref sig .tc .smem S1x128x128 .i32} {arg3 : Memref sig .tc .vmem S65536x128 .i32}
    {T : Memref sig .tc .vmem S544x128 .i32} {p : BitVec 32} {hp : (Scalar.indexCast p : Index).toNat < 128}
    {j : ℕ} {hj : j < 128} {f1 : Bf F c arg1} {f3 : Bf F c arg3} {f : Bf F c T} {L : List (View.Piece (Elt F) S544x128 .i32)}
    (hU : Usable (arg1.view.read (Elt F) f1))
    (hG : Agrees (tile (arg1.view.read (Elt F) f1) (arg3.view.read (Elt F) f3) p.toNat) L) (Q : Unit → sProp 𝕄) :
    iprop(pt c arg1 f1 ∗ pt c arg3 f3 ∗ pt c T (T.view.writes (Elt F) f L)
      ∗ (∀ w, ⌜Agrees (tile (arg1.view.read (Elt F) f1) (arg3.view.read (Elt F) f3) p.toNat) (⟨tileRect j hj, w⟩ :: L)⌝
          -∗ pt c arg1 f1 -∗ pt c arg3 f3 -∗ pt c T (T.view.writes (Elt F) f (⟨tileRect j hj, w⟩ :: L)) -∗ Q ()))
    ⊢ runs c (row arg1 arg3 T p hp j hj) Q := by
  have hword : (arg1.access (Rect.unit (s := S1x128x128) ![0, (Scalar.indexCast p : Index).toNat, j] S1x1x1.size (inb_word p hp j hj))).read (Elt F) f1
      (Shape.Idx.first (s := S1x1x1) (by decide)) = word (arg1.view.read (Elt F) f1) p.toNat j := by
    show arg1.view.read (Elt F) f1 _ = arg1.view.read (Elt F) f1 _
    congr 1
    have hp' : p.toNat < 128 := hp
    funext a
    match a with
    | ⟨0, _⟩ => rfl
    | ⟨1, _⟩ => apply Fin.ext; show p.toNat + 1 * 0 = p.toNat % 128; omega
    | ⟨2, _⟩ => apply Fin.ext; show j + 1 * 0 = j % 128; omega
  have hchk := hU p.toNat j
  rw [← hword] at hchk
  iintro ⟨H1, H3, HT, Hk⟩
  unfold row runs
  sl_exec!
  sl_step
  iapply Hk $$ %_ [] H1 H3 HT
  ipureintro
  exact hG.cons (copied_eq c f3 _ _ j hj _ hword _)

/-- The copies of `n` rows from row `j` on. -/
theorem rows_wp {arg1 : Memref sig .tc .smem S1x128x128 .i32} {arg3 : Memref sig .tc .vmem S65536x128 .i32}
    {T : Memref sig .tc .vmem S544x128 .i32} {p : BitVec 32} {hp : (Scalar.indexCast p : Index).toNat < 128}
    {f1 : Bf F c arg1} {f3 : Bf F c arg3} {f : Bf F c T}
    (hU : Usable (arg1.view.read (Elt F) f1)) (Q : Unit → sProp 𝕄) :
    ∀ (n j : ℕ) (h : j + n ≤ 128) (L : List (View.Piece (Elt F) S544x128 .i32)),
      Agrees (tile (arg1.view.read (Elt F) f1) (arg3.view.read (Elt F) f3) p.toNat) L →
      iprop(pt c arg1 f1 ∗ pt c arg3 f3 ∗ pt c T (T.view.writes (Elt F) f L)
        ∗ (∀ L', ⌜Agrees (tile (arg1.view.read (Elt F) f1) (arg3.view.read (Elt F) f3) p.toNat) L' ∧ (∀ q ∈ L, q ∈ L')
              ∧ ∀ j' (hj' : j' < 128), j ≤ j' → j' < j + n → ∀ y ∈ (tileRect j' hj').set, Covers L' y⌝
            -∗ pt c arg1 f1 -∗ pt c arg3 f3 -∗ pt c T (T.view.writes (Elt F) f L') -∗ Q ()))
      ⊢ runs c (rows arg1 arg3 T p hp n j h) Q := by
  intro n
  induction n with
  | zero =>
    intro j h L hL
    iintro ⟨H1, H3, HT, Hk⟩
    unfold rows runs
    sl_step
    iapply Hk $$ %L [] H1 H3 HT
    ipureintro
    exact ⟨hL, fun q hq => hq, fun j' _ h1 h2 => absurd h2 (by omega)⟩
  | succ n ih =>
    intro j h L hL
    iintro ⟨H1, H3, HT, Hk⟩
    unfold rows runs
    rw [wp_bind]
    iapply (row_wp c hU hL)
    isplitl [H1]; · iexact H1
    isplitl [H3]; · iexact H3
    isplitl [HT]; · iexact HT
    iintro %w %hw H1 H3 HT
    iapply (ih (j + 1) _ _ hw)
    isplitl [H1]; · iexact H1
    isplitl [H3]; · iexact H3
    isplitl [HT]; · iexact HT
    iintro %L' %hL' H1 H3 HT
    iapply Hk $$ %L' [] H1 H3 HT
    ipureintro
    obtain ⟨ha, hm, hc⟩ := hL'
    refine ⟨ha, fun q hq => hm q (List.mem_cons_of_mem _ hq), fun j' hj' h1 h2 y hy => ?_⟩
    rcases Nat.eq_or_lt_of_le h1 with rfl | h1
    · exact ⟨_, hm _ List.mem_cons_self, hy⟩
    · exact hc j' hj' h1 (by omega) y hy

/-- A tile buffer that holds token `p`'s rows, as far as they are read. -/
def Filled (idx : S1x128x128.Idx → BitVec 32) (tab : S65536x128.Idx → BitVec 32) (p : ℕ) (T : S544x128.Idx → BitVec 32) : Prop :=
  ∀ y : S544x128.Idx, (y 0).val % 136 < 128 → T y = tile idx tab p y

/-- All 128 copies: the tile buffer is filled, whatever it held. -/
theorem fill_wp {arg1 : Memref sig .tc .smem S1x128x128 .i32} {arg3 : Memref sig .tc .vmem S65536x128 .i32}
    {T : Memref sig .tc .vmem S544x128 .i32} {p : BitVec 32} {hp : (Scalar.indexCast p : Index).toNat < 128}
    {f1 : Bf F c arg1} {f3 : Bf F c arg3} {f : Bf F c T}
    (hU : Usable (arg1.view.read (Elt F) f1)) (Q : Unit → sProp 𝕄) (h : 0 + 128 ≤ 128) :
    iprop(pt c arg1 f1 ∗ pt c arg3 f3 ∗ pt c T f
      ∗ (∀ f', ⌜Filled (arg1.view.read (Elt F) f1) (arg3.view.read (Elt F) f3) p.toNat (T.view.read (Elt F) f')⌝
          -∗ pt c arg1 f1 -∗ pt c arg3 f3 -∗ pt c T f' -∗ Q ()))
    ⊢ runs c (rows arg1 arg3 T p hp 128 0 h) Q := by
  iintro ⟨H1, H3, HT, Hk⟩
  iapply (rows_wp c hU Q 128 0 h [] (Agrees.nil _))
  isplitl [H1]; · iexact H1
  isplitl [H3]; · iexact H3
  isplitl [HT]; · iexact HT
  iintro %L %hL H1 H3 HT
  iapply Hk $$ %_ [] H1 H3 HT
  ipureintro
  intro y hy
  refine View.read_writes_apply_of_pieces _ _ _ L hL.1 y ?_
  have hy0 : (y 0).val < 544 := (y 0).isLt
  refine hL.2.2 ((y 0).val % 136) hy (by omega) (by omega) y ?_
  have e : (tileRect ((y 0).val % 136) hy).emb (ix2 ⟨(y 0).val / 136, by omega⟩ (y 1)) = y := by
    funext a
    match a with
    | ⟨0, _⟩ => apply Fin.ext; show (y 0).val % 136 + 136 * ((y 0).val / 136) = (y 0).val; omega
    | ⟨1, _⟩ => apply Fin.ext; show 0 + 1 * (y 1).val = (y 1).val; omega
  have hm := mem_set_emb (tileRect ((y 0).val % 136) hy) (ix2 ⟨(y 0).val / 136, by omega⟩ (y 1))
  rw [e] at hm
  exact hm

end Cert.KernelIdeal.Rows

end
-- ==== Proof.Sums.lean ====
/- The weighted sums of one token: from a tile buffer that holds the token's rows, the eight rows of the sums' buffer
   that belong to the token are written, each by one write of the values `ys` names. -/
module

public import proofs.«01_k».proof.Proof.Steps
public import Idealize.ShloMosaic.Lib.Tactic
public import Idealize.ShloMosaic.Lib.Pipeline.Kit
public import Idealize.ShloMosaic.Lib.Pointwise.Index
public import Idealize.ShloMosaic.Lib.Pipeline.Value

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.Rounds

variable {F : FTy → Type} [FloatOps F]

local notation "𝕄" => MT nD τ sig Unit (Elt F) ℕ (UR sig nD τ) ℕ

variable (c : Dev nD)

/-- Quarter `s` of a tile buffer: its rows `136 s` to `136 s + 127`. -/
def quarterOf (T : S544x128.Idx → BitVec 32) (s : ℕ) : S128x128.Idx → BitVec 32 :=
  fun x => T (ix2 ⟨(136 * s + (x 0).val) % 544, Nat.mod_lt _ (by decide)⟩ (x 1))

/-- The weighted sums of every token of a block: sublane `s < 4` sums the low halves of quarter `s`, sublane `4 + s` the
    high halves. -/
def ys (idx : S1x128x128.Idx → BitVec 32) (tab : S65536x128.Idx → BitVec 32) (w : Vec F S1x128x128 .f32) :
    S128x8x128.Idx → Elt F .f32 := fun y =>
  if (y 1).val < 4 then
    k0_pay407 (k0_pay130 lanes (BitVec.ofNat 32 (y 0).val) w) (quarterOf (tile idx tab (y 0).val) (y 1).val) (ix3 0 0 (y 2))
  else
    k0_pay408 (k0_pay130 lanes (BitVec.ofNat 32 (y 0).val) w) (quarterOf (tile idx tab (y 0).val) ((y 1).val - 4)) (ix3 0 0 (y 2))

/-- The row of the sums' buffer at token `p` and sublane `s`. -/
abbrev yRect (p : BitVec 32) (hp : (Scalar.indexCast p : Index).toNat < 128) (s : ℕ) (hs : s < 8) : Rect S128x8x128 :=
  Rect.unit (s := S128x8x128) ![(Scalar.indexCast p : Index).toNat, s, 0] S1x1x128.size (inb_y p hp s hs)

/-- A quarter read off a filled tile buffer. -/
theorem read_quarter {T : Memref sig .tc .vmem S544x128 .i32} {fT : Bf F c T} {idx : S1x128x128.Idx → BitVec 32}
    {tab : S65536x128.Idx → BitVec 32} {p : ℕ} (hF : Filled idx tab p (T.view.read (Elt F) fT)) (s : ℕ) (hs : s < 4) :
    T.view.readAt (Elt F) (Rect.unit (s := S544x128) ![136 * s, 0] S128x128.size (inb_quarter s hs)).toLoadRect fT
      = quarterOf (tile idx tab p) s := by
  funext x
  have hx0 : (x 0).val < 128 := (x 0).isLt
  have e : (Rect.unit (s := S544x128) ![136 * s, 0] S128x128.size (inb_quarter s hs)).toLoadRect.idx x
      = ix2 ⟨(136 * s + (x 0).val) % 544, Nat.mod_lt _ (by decide)⟩ (x 1) := by
    funext a
    match a with
    | ⟨0, _⟩ => apply Fin.ext; show 136 * s + 1 * (x 0).val = (136 * s + (x 0).val) % 544; omega
    | ⟨1, _⟩ => apply Fin.ext; show 0 + 1 * (x 1).val = (x 1).val; omega
  show T.view.read (Elt F) fT _ = tile idx tab p _
  rw [e]
  refine hF _ ?_
  show (136 * s + (x 0).val) % 544 % 136 < 128
  omega

theorem lo_agrees (idx : S1x128x128.Idx → BitVec 32) (tab : S65536x128.Idx → BitVec 32) (w : Vec F S1x128x128 .f32)
    (p : BitVec 32) (hp : (Scalar.indexCast p : Index).toNat < 128) (s : ℕ) (hs : s < 4) (hs' : s < 8) (x : S1x1x128.Idx) :
    k0_pay407 (k0_pay130 lanes p w) (quarterOf (tile idx tab p.toNat) s) x = ys idx tab w ((yRect p hp s hs').emb x) := by
  have h0 : (x 0).val < 1 := (x 0).isLt
  have h1 : (x 1).val < 1 := (x 1).isLt
  have e0 : ((yRect p hp s hs').emb x 0).val = p.toNat := by show p.toNat + 1 * (x 0).val = p.toNat; omega
  have e1 : ((yRect p hp s hs').emb x 1).val = s := by show s + 1 * (x 1).val = s; omega
  have e2 : (yRect p hp s hs').emb x 2 = x 2 := by apply Fin.ext; show 0 + 1 * (x 2).val = (x 2).val; omega
  have ex : x = ix3 0 0 (x 2) := by
    funext a
    match a with
    | ⟨0, _⟩ => apply Fin.ext; show (x 0).val = 0; omega
    | ⟨1, _⟩ => apply Fin.ext; show (x 1).val = 0; omega
    | ⟨2, _⟩ => rfl
  have ep : BitVec.ofNat 32 p.toNat = p := by simp
  unfold ys
  rw [e0, e1, e2, if_pos hs, ep]
  exact congrArg _ ex

theorem hi_agrees (idx : S1x128x128.Idx → BitVec 32) (tab : S65536x128.Idx → BitVec 32) (w : Vec F S1x128x128 .f32)
    (p : BitVec 32) (hp : (Scalar.indexCast p : Index).toNat < 128) (s : ℕ) (hs : s < 4) (hs' : 4 + s < 8) (x : S1x1x128.Idx) :
    k0_pay408 (k0_pay130 lanes p w) (quarterOf (tile idx tab p.toNat) s) x = ys idx tab w ((yRect p hp (4 + s) hs').emb x) := by
  have h0 : (x 0).val < 1 := (x 0).isLt
  have h1 : (x 1).val < 1 := (x 1).isLt
  have e0 : ((yRect p hp (4 + s) hs').emb x 0).val = p.toNat := by show p.toNat + 1 * (x 0).val = p.toNat; omega
  have e1 : ((yRect p hp (4 + s) hs').emb x 1).val = 4 + s := by show 4 + s + 1 * (x 1).val = 4 + s; omega
  have e2 : (yRect p hp (4 + s) hs').emb x 2 = x 2 := by apply Fin.ext; show 0 + 1 * (x 2).val = (x 2).val; omega
  have ex : x = ix3 0 0 (x 2) := by
    funext a
    match a with
    | ⟨0, _⟩ => apply Fin.ext; show (x 0).val = 0; omega
    | ⟨1, _⟩ => apply Fin.ext; show (x 1).val = 0; omega
    | ⟨2, _⟩ => rfl
  have ep : BitVec.ofNat 32 p.toNat = p := by simp
  unfold ys
  rw [e0, e1, e2, if_neg (by omega), ep, Nat.add_sub_cancel_left]
  exact congrArg _ ex

/-- One quarter: two more writes of `ys`, over its two rows. -/
theorem quarter_wp {T : Memref sig .tc .vmem S544x128 .i32} {arg9 : Memref sig .tc .vmem S128x8x128 .f32}
    {p : BitVec 32} {hp : (Scalar.indexCast p : Index).toNat < 128} {fT : Bf F c T} {f : Bf F c arg9}
    {L : List (View.Piece (Elt F) S128x8x128 .f32)} {idx : S1x128x128.Idx → BitVec 32}
    {tab : S65536x128.Idx → BitVec 32} {w : Vec F S1x128x128 .f32}
    (hF : Filled idx tab p.toNat (T.view.read (Elt F) fT)) (s : ℕ) (hs : s < 4) (hL : Agrees (ys idx tab w) L) (Q : Unit → sProp 𝕄) :
    iprop(pt c T fT ∗ pt c arg9 (arg9.view.writes (Elt F) f L)
      ∗ (∀ L', ⌜Agrees (ys idx tab w) L' ∧ (∀ q ∈ L, q ∈ L')
            ∧ (∀ y ∈ (yRect p hp s (by omega)).set, Covers L' y) ∧ ∀ y ∈ (yRect p hp (4 + s) (by omega)).set, Covers L' y⌝
          -∗ pt c T fT -∗ pt c arg9 (arg9.view.writes (Elt F) f L') -∗ Q ()))
    ⊢ runs c (quarter T arg9 p hp (k0_pay130 lanes p w) s hs) Q := by
  iintro ⟨HT, H9, Hk⟩
  unfold quarter runs
  sl_exec!
  sl_step
  iapply Hk $$ %_ [] HT H9
  ipureintro
  have hq := read_quarter c hF s hs
  refine ⟨Agrees.cons (fun x => ?_) (Agrees.cons (fun x => ?_) hL),
    fun q hq => List.mem_cons_of_mem _ (List.mem_cons_of_mem _ hq),
    fun y hy => ⟨_, List.mem_cons_of_mem _ List.mem_cons_self, hy⟩, fun y hy => ⟨_, List.mem_cons_self, hy⟩⟩
  · rw [hq]; exact hi_agrees idx tab w p hp s hs (by omega) x
  · rw [hq]; exact lo_agrees idx tab w p hp s hs (by omega) x

/-- The weighted sums of token `p`: writes of `ys` that cover the token's rows. -/
theorem sums_wp {arg2 : Memref sig .tc .vmem S1x128x128 .f32} {T : Memref sig .tc .vmem S544x128 .i32}
    {arg9 : Memref sig .tc .vmem S128x8x128 .f32}
    {p : BitVec 32} {hp : (Scalar.indexCast p : Index).toNat < 128} {f2 : Bf F c arg2} {fT : Bf F c T} {f : Bf F c arg9}
    {L : List (View.Piece (Elt F) S128x8x128 .f32)} {idx : S1x128x128.Idx → BitVec 32}
    {tab : S65536x128.Idx → BitVec 32}
    (hF : Filled idx tab p.toNat (T.view.read (Elt F) fT)) (hL : Agrees (ys idx tab (arg2.view.read (Elt F) f2)) L) (Q : Unit → sProp 𝕄) :
    iprop(pt c arg2 f2 ∗ pt c T fT ∗ pt c arg9 (arg9.view.writes (Elt F) f L)
      ∗ (∀ L', ⌜Agrees (ys idx tab (arg2.view.read (Elt F) f2)) L' ∧ (∀ q ∈ L, q ∈ L')
            ∧ ∀ y : S128x8x128.Idx, (y 0).val = p.toNat → Covers L' y⌝
          -∗ pt c arg2 f2 -∗ pt c T fT -∗ pt c arg9 (arg9.view.writes (Elt F) f L') -∗ Q ()))
    ⊢ runs c (sums arg2 T arg9 p hp lanes) Q := by
  have hw : arg2.view.readAt (Elt F) (Rect.unit (s := S1x128x128) ![0, 0, 0] S1x128x128.size inb_S1x128x128_S1x128x128_0_0_0).toLoadRect f2
      = arg2.view.read (Elt F) f2 := by
    funext x
    show arg2.view.read (Elt F) f2 _ = arg2.view.read (Elt F) f2 _
    congr 1
    funext a
    match a with
    | ⟨0, _⟩ => apply Fin.ext; show 0 + 1 * (x 0).val = (x 0).val; omega
    | ⟨1, _⟩ => apply Fin.ext; show 0 + 1 * (x 1).val = (x 1).val; omega
    | ⟨2, _⟩ => apply Fin.ext; show 0 + 1 * (x 2).val = (x 2).val; omega
  iintro ⟨H2, HT, H9, Hk⟩
  unfold sums runs
  rw [wp_bind]
  iapply (wp_load Variants.none (c : Thread nD τ) none Set.univ (m := arg2) (Finset.subset_univ _)) $$ H2
  iintro H2
  rw [hw]
  sl_step
  rw [wp_bind]
  iapply (quarter_wp c hF 0 _ hL)
  isplitl [HT]; · iexact HT
  isplitl [H9]; · iexact H9
  iintro %L0 %h0 HT H9
  rw [wp_bind]
  iapply (quarter_wp c hF 1 _ h0.1)
  isplitl [HT]; · iexact HT
  isplitl [H9]; · iexact H9
  iintro %L1 %h1 HT H9
  rw [wp_bind]
  iapply (quarter_wp c hF 2 _ h1.1)
  isplitl [HT]; · iexact HT
  isplitl [H9]; · iexact H9
  iintro %L2 %h2 HT H9
  iapply (quarter_wp c hF 3 _ h2.1)
  isplitl [HT]; · iexact HT
  isplitl [H9]; · iexact H9
  iintro %L3 %h3 HT H9
  iapply Hk $$ %L3 [] H2 HT H9
  ipureintro
  obtain ⟨_, m0, a0, b0⟩ := h0
  obtain ⟨_, m1, a1, b1⟩ := h1
  obtain ⟨_, m2, a2, b2⟩ := h2
  obtain ⟨g3, m3, a3, b3⟩ := h3
  refine ⟨g3, fun q hq => m3 q (m2 q (m1 q (m0 q hq))), fun y hy => ?_⟩
  have key : ∀ (s : ℕ) (hs : s < 8), (y 1).val = s → y ∈ (yRect p hp s hs).set := by
    intro s hs h1
    have e : (yRect p hp s hs).emb (ix3 0 0 (y 2)) = y := by
      funext a
      match a with
      | ⟨0, _⟩ => apply Fin.ext; show p.toNat + 1 * 0 = (y 0).val; omega
      | ⟨1, _⟩ => apply Fin.ext; show s + 1 * 0 = (y 1).val; omega
      | ⟨2, _⟩ => apply Fin.ext; show 0 + 1 * (y 2).val = (y 2).val; omega
    have hm := mem_set_emb (yRect p hp s hs) (ix3 0 0 (y 2))
    rw [e] at hm
    exact hm
  have hy1 : (y 1).val < 8 := (y 1).isLt
  have up0 : ∀ q ∈ L0, q ∈ L3 := fun q hq => m3 q (m2 q (m1 q hq))
  have up1 : ∀ q ∈ L1, q ∈ L3 := fun q hq => m3 q (m2 q hq)
  rcases (by omega : (y 1).val = 0 ∨ (y 1).val = 1 ∨ (y 1).val = 2 ∨ (y 1).val = 3 ∨ (y 1).val = 4 + 0 ∨ (y 1).val = 4 + 1
      ∨ (y 1).val = 4 + 2 ∨ (y 1).val = 4 + 3) with h | h | h | h | h | h | h | h
  · exact (a0 y (key 0 _ h)).mono up0
  · exact (a1 y (key 1 _ h)).mono up1
  · exact (a2 y (key 2 _ h)).mono m3
  · exact a3 y (key 3 _ h)
  · exact (b0 y (key (4 + 0) _ h)).mono up0
  · exact (b1 y (key (4 + 1) _ h)).mono up1
  · exact (b2 y (key (4 + 2) _ h)).mono m3
  · exact b3 y (key (4 + 3) _ h)

end Cert.KernelIdeal.Rows

end
-- ==== Proof.Loop.lean ====
/- The loop over the pairs of tokens and the normalisation after it: from the blocks of the inputs to the block of the
   result, as one function of what the inputs' buffers hold. -/
module

public import proofs.«01_k».proof.Proof.Sums
public import Idealize.ShloMosaic.Lib.Scf

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.Rounds

variable {F : FTy → Type} [FloatOps F]

local notation "𝕄" => MT nD τ sig Unit (Elt F) ℕ (UR sig nD τ) ℕ

variable (c : Dev nD)

/-! ## The loop -/

section Loop

variable {arg1 : Memref sig .tc .smem S1x128x128 .i32} {arg2 : Memref sig .tc .vmem S1x128x128 .f32}
  {arg3 : Memref sig .tc .vmem S65536x128 .i32} {arg7 arg8 : Memref sig .tc .vmem S544x128 .i32}
  {arg9 : Memref sig .tc .vmem S128x8x128 .f32}
  (f1 : Bf F c arg1) (f2 : Bf F c arg2) (f3 : Bf F c arg3) (f9 : Bf F c arg9)

/-- Before trip `k`: the first tile buffer holds token `2 k` (the last token after the last trip), and the sums of the
    tokens before `2 k` are written. -/
def loopInv (k : ℕ) (_ : PUnit.{1}) : sProp 𝕄 :=
  iprop(∃ f7 : Bf F c arg7, ∃ f8 : Bf F c arg8, ∃ L9,
    ⌜Filled (arg1.view.read (Elt F) f1) (arg3.view.read (Elt F) f3) (min (2 * k) 127) (arg7.view.read (Elt F) f7)
      ∧ Agrees (ys (arg1.view.read (Elt F) f1) (arg3.view.read (Elt F) f3) (arg2.view.read (Elt F) f2)) L9
      ∧ ∀ y : S128x8x128.Idx, (y 0).val < 2 * k → Covers L9 y⌝
    ∗ pt c arg1 f1 ∗ pt c arg2 f2 ∗ pt c arg3 f3 ∗ pt c arg7 f7 ∗ pt c arg8 f8 ∗ pt c arg9 (arg9.view.writes (Elt F) f9 L9))

theorem trip_wp (hU : Usable (arg1.view.read (Elt F) f1)) (t : Fin k0_t1_loop.trips) (a : PUnit.{1}) :
    loopInv (arg7 := arg7) (arg8 := arg8) c f1 f2 f3 f9 t.val a
      ⊢ runs c (trip arg1 arg2 arg3 arg7 arg8 arg9 lanes t) (loopInv (arg7 := arg7) (arg8 := arg8) c f1 f2 f3 f9 (t.val + 1)) := by
  have ht := t.isLt
  have e := trips_eq
  have e0 : (tok0 t).toNat = 2 * t.val := tok0_eq t
  have e1 : (tok1 t).toNat = 2 * t.val + 1 := tok1_eq t
  have e2 : (tok2 t).toNat = min (2 * t.val + 2) 127 := tok2_eq t
  unfold loopInv trip
  iintro ⟨%f7, %f8, %L, %h, H1, H2, H3, H7, H8, H9⟩
  obtain ⟨hF, hA, hC⟩ := h
  have hF0 : Filled (arg1.view.read (Elt F) f1) (arg3.view.read (Elt F) f3) (tok0 t).toNat (arg7.view.read (Elt F) f7) := by
    rw [e0]; rwa [show min (2 * t.val) 127 = 2 * t.val by omega] at hF
  unfold runs
  rw [wp_bind]
  iapply (fill_wp c hU)
  isplitl [H1]; · iexact H1
  isplitl [H3]; · iexact H3
  isplitl [H8]; · iexact H8
  iintro %g8 %hG8 H1 H3 H8
  rw [wp_bind]
  iapply (sums_wp c hF0 hA)
  isplitl [H2]; · iexact H2
  isplitl [H7]; · iexact H7
  isplitl [H9]; · iexact H9
  iintro %L0 %h0 H2 H7 H9
  rw [wp_bind]
  iapply (fill_wp c hU)
  isplitl [H1]; · iexact H1
  isplitl [H3]; · iexact H3
  isplitl [H7]; · iexact H7
  iintro %g7 %hG7 H1 H3 H7
  iapply (sums_wp c hG8 h0.1)
  isplitl [H2]; · iexact H2
  isplitl [H8]; · iexact H8
  isplitl [H9]; · iexact H9
  iintro %L1 %h1 H2 H8 H9
  iexists g7; iexists g8; iexists L1
  isplitr [H1 H2 H3 H7 H8 H9]
  · ipureintro
    refine ⟨?_, h1.1, fun y hy => ?_⟩
    · rw [e2] at hG7; exact hG7
    · by_cases h : (y 0).val < 2 * t.val
      · exact (hC y h).mono fun p hp => h1.2.1 p (h0.2.1 p hp)
      · by_cases h' : (y 0).val = 2 * t.val
        · exact (h0.2.2 y (by rw [e0]; exact h')).mono h1.2.1
        · exact h1.2.2 y (by rw [e1]; omega)
  isplitl [H1]; · iexact H1
  isplitl [H2]; · iexact H2
  isplitl [H3]; · iexact H3
  isplitl [H7]; · iexact H7
  isplitl [H8]; · iexact H8
  iexact H9

/-- The whole loop: the sums of every token. -/
theorem loop_wp (hU : Usable (arg1.view.read (Elt F) f1)) {f7 : Bf F c arg7} {f8 : Bf F c arg8}
    (hF : Filled (arg1.view.read (Elt F) f1) (arg3.view.read (Elt F) f3) 0 (arg7.view.read (Elt F) f7)) (Q : PUnit.{1} → sProp 𝕄) :
    iprop(pt c arg1 f1 ∗ pt c arg2 f2 ∗ pt c arg3 f3 ∗ pt c arg7 f7 ∗ pt c arg8 f8 ∗ pt c arg9 f9
      ∗ (∀ g7 g8 g9, ⌜arg9.view.read (Elt F) g9
            = ys (arg1.view.read (Elt F) f1) (arg3.view.read (Elt F) f3) (arg2.view.read (Elt F) f2)⌝
          -∗ pt c arg1 f1 -∗ pt c arg2 f2 -∗ pt c arg3 f3 -∗ pt c arg7 g7 -∗ pt c arg8 g8 -∗ pt c arg9 g9 -∗ Q ⟨⟩))
    ⊢ runs c (Scf.Loop.for k0_t1_loop k0_t1_ok ⟨⟩ fun t _ => trip arg1 arg2 arg3 arg7 arg8 arg9 lanes t) Q := by
  have hstep := trip_wp (arg1 := arg1) (arg2 := arg2) (arg3 := arg3) (arg7 := arg7) (arg8 := arg8) (arg9 := arg9) c f1 f2 f3 f9 hU
  have hfor := fun Q' => Scf.wp_for (Q := Q') frame (wpE (defs₀ (F := F)) Variants.none (c : Thread nD τ) none) Set.univ k0_t1_loop.lb k0_t1_loop.ub k0_t1_loop.st k0_t1_ok
    ⟨⟩ (fun t _ => trip arg1 arg2 arg3 arg7 arg8 arg9 lanes t)
    (loopInv (arg1 := arg1) (arg2 := arg2) (arg3 := arg3) (arg7 := arg7) (arg8 := arg8) (arg9 := arg9) c f1 f2 f3 f9)
    (fun t a => (hstep t a).trans (BIBase.Entails.of_eq (by unfold runs; congr 1)))
  iintro ⟨H1, H2, H3, H7, H8, H9, Hk⟩
  iapply (hfor _)
  isplitr [Hk]
  · unfold loopInv
    iexists f7; iexists f8; iexists []
    isplitr [H1 H2 H3 H7 H8 H9]
    · ipureintro
      exact ⟨hF, Agrees.nil _, fun y hy => absurd hy (by omega)⟩
    isplitl [H1]; · iexact H1
    isplitl [H2]; · iexact H2
    isplitl [H3]; · iexact H3
    isplitl [H7]; · iexact H7
    isplitl [H8]; · iexact H8
    iexact H9
  iintro %acc HI
  unfold loopInv
  icases HI with ⟨%g7, %g8, %L, %h, H1, H2, H3, H7, H8, H9⟩
  iapply Hk $$ %_ %_ %_ [] H1 H2 H3 H7 H8 H9
  ipureintro
  funext y
  refine View.read_writes_apply_of_pieces _ _ _ L h.2.1 y (h.2.2 y ?_)
  have hy : (y 0).val < 128 := (y 0).isLt
  have e : Scf.trips k0_t1_loop.lb k0_t1_loop.ub k0_t1_loop.st = 64 := trips_eq
  rw [e]; omega

end Loop

/-! ## The normalisation -/

/-- Columns `128 s` to `128 s + 127` of the residual stream. -/
def hOf (H : Vec F S128x1024 .f32) (s : ℕ) : Vec F S128x128 .f32 :=
  fun x => H (ix2 (x 0) ⟨(128 * s + (x 1).val) % 1024, Nat.mod_lt _ (by decide)⟩)

/-- Sublane `s` of the sums. -/
def yOf (Y : Vec F S128x8x128 .f32) (s : ℕ) : Vec F S128x1x128 .f32 :=
  fun x => Y (ix3 (x 0) ⟨s % 8, Nat.mod_lt _ (by decide)⟩ (x 2))

/-- Columns `128 s` to `128 s + 127` of the residual stream `H` plus the sums `Y`. -/
def xOf (H : Vec F S128x1024 .f32) (Y : Vec F S128x8x128 .f32) (s : ℕ) : FVec F S128x128 .f32 :=
  k0_pay409 (hOf H s) (yOf Y s)

/-- Columns `128 s` to `128 s + 127` of the gain. -/
def gOf (G : Vec F S1x1024 .f32) (s : ℕ) : Vec F S1x128 .f32 :=
  fun x => G (ix2 (x 0) ⟨(128 * s + (x 1).val) % 1024, Nat.mod_lt _ (by decide)⟩)

/-- The column of scales of a block. -/
def scaleOf (H : Vec F S128x1024 .f32) (Y : Vec F S128x8x128 .f32) : FVec F S128x1 .f32 :=
  scale (xOf H Y 0) (xOf H Y 1) (xOf H Y 2) (xOf H Y 3) (xOf H Y 4) (xOf H Y 5) (xOf H Y 6) (xOf H Y 7)

/-- The block of the result. -/
def norm (H : Vec F S128x1024 .f32) (Y : Vec F S128x8x128 .f32) (G : Vec F S1x1024 .f32) : S128x1024.Idx → Elt F .f32 :=
  fun y => k0_pay1 (xOf H Y ((y 1).val / 128)) (scaleOf H Y) (gOf G ((y 1).val / 128))
    (ix2 (y 0) ⟨(y 1).val % 128, Nat.mod_lt _ (by decide)⟩)

abbrev chunkRect (s : ℕ) (hs : s < 8) : Rect S128x1024 :=
  Rect.unit (s := S128x1024) ![0, 128 * s] S128x128.size (inb_chunk s hs)

theorem residual_wp {arg4 : Memref sig .tc .vmem S128x1024 .f32} {arg9 : Memref sig .tc .vmem S128x8x128 .f32}
    {f4 : Bf F c arg4} {f9 : Bf F c arg9} (s : ℕ) (hs : s < 8) (Q : FVec F S128x128 .f32 → sProp 𝕄) :
    iprop(pt c arg4 f4 ∗ pt c arg9 f9
      ∗ (pt c arg4 f4 -∗ pt c arg9 f9 -∗ Q (xOf (arg4.view.read (Elt F) f4) (arg9.view.read (Elt F) f9) s)))
    ⊢ runs c (residual arg4 arg9 s hs) Q := by
  have e4 : arg4.view.readAt (Elt F) (Rect.unit (s := S128x1024) ![0, 128 * s] S128x128.size (inb_chunk s hs)).toLoadRect f4
      = hOf (arg4.view.read (Elt F) f4) s := by
    funext x
    have hx : (x 1).val < 128 := (x 1).isLt
    show arg4.view.read (Elt F) f4 _ = arg4.view.read (Elt F) f4 _
    congr 1
    funext a
    match a with
    | ⟨0, _⟩ => apply Fin.ext; show 0 + 1 * (x 0).val = (x 0).val; omega
    | ⟨1, _⟩ => apply Fin.ext; show 128 * s + 1 * (x 1).val = (128 * s + (x 1).val) % 1024; omega
  have e9 : arg9.view.readAt (Elt F) (Rect.unit (s := S128x8x128) ![0, s, 0] S128x1x128.size (inb_sum s hs)).toLoadRect f9
      = yOf (arg9.view.read (Elt F) f9) s := by
    funext x
    have hx : (x 1).val < 1 := (x 1).isLt
    show arg9.view.read (Elt F) f9 _ = arg9.view.read (Elt F) f9 _
    congr 1
    funext a
    match a with
    | ⟨0, _⟩ => apply Fin.ext; show 0 + 1 * (x 0).val = (x 0).val; omega
    | ⟨1, _⟩ => apply Fin.ext; show s + 1 * (x 1).val = s % 8; omega
    | ⟨2, _⟩ => apply Fin.ext; show 0 + 1 * (x 2).val = (x 2).val; omega
  iintro ⟨H4, H9, Hk⟩
  unfold residual runs
  rw [wp_bind]
  iapply (wp_load Variants.none (c : Thread nD τ) none Set.univ (m := arg4) (Finset.subset_univ _)) $$ H4
  iintro H4
  rw [e4]
  sl_step
  rw [wp_bind]
  iapply (wp_load Variants.none (c : Thread nD τ) none Set.univ (m := arg9) (Finset.subset_univ _)) $$ H9
  iintro H9
  rw [e9]
  sl_step
  sl_step
  unfold xOf
  iapply Hk $$ H4 H9

theorem chunk_wp {arg5 : Memref sig .tc .vmem S1x1024 .f32} {arg6 : Memref sig .tc .vmem S128x1024 .f32}
    {f5 : Bf F c arg5} {f6 : Bf F c arg6} {L : List (View.Piece (Elt F) S128x1024 .f32)}
    {H : Vec F S128x1024 .f32} {Y : Vec F S128x8x128 .f32}
    (s : ℕ) (hs : s < 8) (hL : Agrees (norm H Y (arg5.view.read (Elt F) f5)) L) (Q : Unit → sProp 𝕄) :
    iprop(pt c arg5 f5 ∗ pt c arg6 (arg6.view.writes (Elt F) f6 L)
      ∗ (∀ L', ⌜Agrees (norm H Y (arg5.view.read (Elt F) f5)) L' ∧ (∀ q ∈ L, q ∈ L')
            ∧ ∀ y : S128x1024.Idx, (y 1).val / 128 = s → Covers L' y⌝
          -∗ pt c arg5 f5 -∗ pt c arg6 (arg6.view.writes (Elt F) f6 L') -∗ Q ()))
    ⊢ runs c (chunk arg5 arg6 (xOf H Y s) (scaleOf H Y) s hs) Q := by
  have e5 : arg5.view.readAt (Elt F) (Rect.unit (s := S1x1024) ![0, 128 * s] S1x128.size (inb_gain s hs)).toLoadRect f5
      = gOf (arg5.view.read (Elt F) f5) s := by
    funext x
    have hx0 : (x 0).val < 1 := (x 0).isLt
    have hx : (x 1).val < 128 := (x 1).isLt
    show arg5.view.read (Elt F) f5 _ = arg5.view.read (Elt F) f5 _
    congr 1
    funext a
    match a with
    | ⟨0, _⟩ => apply Fin.ext; show 0 + 1 * (x 0).val = (x 0).val; omega
    | ⟨1, _⟩ => apply Fin.ext; show 128 * s + 1 * (x 1).val = (128 * s + (x 1).val) % 1024; omega
  iintro ⟨H5, H6, Hk⟩
  unfold chunk runs
  rw [wp_bind]
  iapply (wp_load Variants.none (c : Thread nD τ) none Set.univ (m := arg5) (Finset.subset_univ _)) $$ H5
  iintro H5
  rw [e5]
  sl_step
  sl_exec!
  sl_step
  iapply Hk $$ %_ [] H5 H6
  ipureintro
  refine ⟨Agrees.cons (fun x => ?_) hL, fun q hq => List.mem_cons_of_mem _ hq, fun y hy => ⟨_, List.mem_cons_self, ?_⟩⟩
  · have hx : (x 1).val < 128 := (x 1).isLt
    have e0 : (chunkRect s hs).emb x 0 = x 0 := by apply Fin.ext; show 0 + 1 * (x 0).val = (x 0).val; omega
    have e1 : ((chunkRect s hs).emb x 1).val = 128 * s + (x 1).val := by
      show 128 * s + 1 * (x 1).val = 128 * s + (x 1).val; omega
    have ex : ix2 (n0 := 128) (n1 := 128) ((chunkRect s hs).emb x 0) ⟨((chunkRect s hs).emb x 1).val % 128, Nat.mod_lt _ (by decide)⟩ = x := by
      funext a
      match a with
      | ⟨0, _⟩ => exact e0
      | ⟨1, _⟩ => apply Fin.ext; show ((chunkRect s hs).emb x 1).val % 128 = (x 1).val; rw [e1]; omega
    have ed : ((chunkRect s hs).emb x 1).val / 128 = s := by rw [e1]; omega
    unfold norm
    rw [ed]
    exact (congrArg _ ex).symm
  · have hy0 : (y 0).val < 128 := (y 0).isLt
    have e : (chunkRect s hs).emb (ix2 (y 0) ⟨(y 1).val % 128, Nat.mod_lt _ (by decide)⟩) = y := by
      funext a
      match a with
      | ⟨0, _⟩ => apply Fin.ext; show 0 + 1 * (y 0).val = (y 0).val; omega
      | ⟨1, _⟩ => apply Fin.ext; show 128 * s + 1 * ((y 1).val % 128) = (y 1).val; omega
    have hm := mem_set_emb (chunkRect s hs) (ix2 (y 0) ⟨(y 1).val % 128, Nat.mod_lt _ (by decide)⟩)
    rw [e] at hm
    exact hm

/-- The normalisation: the output block is `norm` of the residual stream's block, the sums and the gain. -/
theorem tail_wp {arg4 : Memref sig .tc .vmem S128x1024 .f32} {arg5 : Memref sig .tc .vmem S1x1024 .f32}
    {arg6 : Memref sig .tc .vmem S128x1024 .f32} {arg9 : Memref sig .tc .vmem S128x8x128 .f32}
    {f4 : Bf F c arg4} {f5 : Bf F c arg5} {f6 : Bf F c arg6} {f9 : Bf F c arg9} (Q : Unit → sProp 𝕄) :
    iprop(pt c arg4 f4 ∗ pt c arg5 f5 ∗ pt c arg6 f6 ∗ pt c arg9 f9
      ∗ (∀ g6, ⌜arg6.view.read (Elt F) g6
            = norm (arg4.view.read (Elt F) f4) (arg9.view.read (Elt F) f9) (arg5.view.read (Elt F) f5)⌝
          -∗ pt c arg4 f4 -∗ pt c arg5 f5 -∗ pt c arg6 g6 -∗ pt c arg9 f9 -∗ Q ()))
    ⊢ runs c (tail arg4 arg5 arg6 arg9) Q := by
  iintro ⟨H4, H5, H6, H9, Hk⟩
  unfold tail runs
  rw [wp_bind]
  iapply (residual_wp c 0 _)
  isplitl [H4]; · iexact H4
  isplitl [H9]; · iexact H9
  iintro H4 H9
  rw [wp_bind]
  iapply (residual_wp c 1 _)
  isplitl [H4]; · iexact H4
  isplitl [H9]; · iexact H9
  iintro H4 H9
  rw [wp_bind]
  iapply (residual_wp c 2 _)
  isplitl [H4]; · iexact H4
  isplitl [H9]; · iexact H9
  iintro H4 H9
  rw [wp_bind]
  iapply (residual_wp c 3 _)
  isplitl [H4]; · iexact H4
  isplitl [H9]; · iexact H9
  iintro H4 H9
  rw [wp_bind]
  iapply (residual_wp c 4 _)
  isplitl [H4]; · iexact H4
  isplitl [H9]; · iexact H9
  iintro H4 H9
  rw [wp_bind]
  iapply (residual_wp c 5 _)
  isplitl [H4]; · iexact H4
  isplitl [H9]; · iexact H9
  iintro H4 H9
  rw [wp_bind]
  iapply (residual_wp c 6 _)
  isplitl [H4]; · iexact H4
  isplitl [H9]; · iexact H9
  iintro H4 H9
  rw [wp_bind]
  iapply (residual_wp c 7 _)
  isplitl [H4]; · iexact H4
  isplitl [H9]; · iexact H9
  iintro H4 H9
  rw [wp_bind]
  iapply (chunk_wp (H := arg4.view.read (Elt F) f4) (Y := arg9.view.read (Elt F) f9) (L := []) c 0 (by omega) (Agrees.nil _))
  isplitl [H5]; · iexact H5
  isplitl [H6]; · iexact H6
  iintro %L0 %h0 H5 H6
  rw [wp_bind]
  iapply (chunk_wp (H := arg4.view.read (Elt F) f4) (Y := arg9.view.read (Elt F) f9) (L := L0) c 1 (by omega) h0.1)
  isplitl [H5]; · iexact H5
  isplitl [H6]; · iexact H6
  iintro %L1 %h1 H5 H6
  rw [wp_bind]
  iapply (chunk_wp (H := arg4.view.read (Elt F) f4) (Y := arg9.view.read (Elt F) f9) (L := L1) c 2 (by omega) h1.1)
  isplitl [H5]; · iexact H5
  isplitl [H6]; · iexact H6
  iintro %L2 %h2 H5 H6
  rw [wp_bind]
  iapply (chunk_wp (H := arg4.view.read (Elt F) f4) (Y := arg9.view.read (Elt F) f9) (L := L2) c 3 (by omega) h2.1)
  isplitl [H5]; · iexact H5
  isplitl [H6]; · iexact H6
  iintro %L3 %h3 H5 H6
  rw [wp_bind]
  iapply (chunk_wp (H := arg4.view.read (Elt F) f4) (Y := arg9.view.read (Elt F) f9) (L := L3) c 4 (by omega) h3.1)
  isplitl [H5]; · iexact H5
  isplitl [H6]; · iexact H6
  iintro %L4 %h4 H5 H6
  rw [wp_bind]
  iapply (chunk_wp (H := arg4.view.read (Elt F) f4) (Y := arg9.view.read (Elt F) f9) (L := L4) c 5 (by omega) h4.1)
  isplitl [H5]; · iexact H5
  isplitl [H6]; · iexact H6
  iintro %L5 %h5 H5 H6
  rw [wp_bind]
  iapply (chunk_wp (H := arg4.view.read (Elt F) f4) (Y := arg9.view.read (Elt F) f9) (L := L5) c 6 (by omega) h5.1)
  isplitl [H5]; · iexact H5
  isplitl [H6]; · iexact H6
  iintro %L6 %h6 H5 H6
  iapply (chunk_wp (H := arg4.view.read (Elt F) f4) (Y := arg9.view.read (Elt F) f9) (L := L6) c 7 (by omega) h6.1)
  isplitl [H5]; · iexact H5
  isplitl [H6]; · iexact H6
  iintro %L7 %h7 H5 H6
  iapply Hk $$ %_ [] H4 H5 H6 H9
  ipureintro
  funext y
  refine View.read_writes_apply_of_pieces _ _ _ L7 h7.1 y ?_
  have hy : (y 1).val < 1024 := (y 1).isLt
  have u6 := h7.2.1
  have u5 : ∀ q ∈ L5, q ∈ L7 := fun q hq => u6 q (h6.2.1 q hq)
  have u4 : ∀ q ∈ L4, q ∈ L7 := fun q hq => u5 q (h5.2.1 q hq)
  have u3 : ∀ q ∈ L3, q ∈ L7 := fun q hq => u4 q (h4.2.1 q hq)
  have u2 : ∀ q ∈ L2, q ∈ L7 := fun q hq => u3 q (h3.2.1 q hq)
  have u1 : ∀ q ∈ L1, q ∈ L7 := fun q hq => u2 q (h2.2.1 q hq)
  have u0 : ∀ q ∈ L0, q ∈ L7 := fun q hq => u1 q (h1.2.1 q hq)
  rcases (by omega : (y 1).val / 128 = 0 ∨ (y 1).val / 128 = 1 ∨ (y 1).val / 128 = 2 ∨ (y 1).val / 128 = 3
      ∨ (y 1).val / 128 = 4 ∨ (y 1).val / 128 = 5 ∨ (y 1).val / 128 = 6 ∨ (y 1).val / 128 = 7)
    with h | h | h | h | h | h | h | h
  · exact (h0.2.2 y h).mono u0
  · exact (h1.2.2 y h).mono u1
  · exact (h2.2.2 y h).mono u2
  · exact (h3.2.2 y h).mono u3
  · exact (h4.2.2 y h).mono u4
  · exact (h5.2.2 y h).mono u5
  · exact (h6.2.2 y h).mono u6
  · exact (h7.2.2 y h)

end Cert.KernelIdeal.Rows

end
-- ==== Proof.Printed.lean ====
/- The printed kernel body is the one `Rows` writes as loops: the two are the same sequence of operations. -/
module

public import proofs.«01_k».proof.Proof.Rows
public import Idealize.ShloMosaic.Lib.Pipeline.Regions

@[expose] public section

set_option maxRecDepth 65536

noncomputable section

namespace Cert.KernelIdeal.Rows

open Idealize.ShloMosaic Idealize.SL.Sem Cert.KernelIdeal.Gen

variable {F : FTy → Type} [FloatOps F]

set_option maxHeartbeats 4000000 in
theorem body_eq (i : grid0.Coords) (arg1 : Memref sig .tc .smem S1x128x128 .i32) (harg1 : arg1.IsWhole)
    (arg2 : Memref sig .tc .vmem S1x128x128 .f32) (harg2 : arg2.IsWhole)
    (arg3 : Memref sig .tc .vmem S65536x128 .i32) (harg3 : arg3.IsWhole)
    (arg4 : Memref sig .tc .vmem S128x1024 .f32) (harg4 : arg4.IsWhole)
    (arg5 : Memref sig .tc .vmem S1x1024 .f32) (harg5 : arg5.IsWhole)
    (arg6 : Memref sig .tc .vmem S128x1024 .f32) (harg6 : arg6.IsWhole)
    (arg7 : Memref sig .tc .vmem S544x128 .i32) (harg7 : arg7.IsWhole)
    (arg8 : Memref sig .tc .vmem S544x128 .i32) (harg8 : arg8.IsWhole)
    (arg9 : Memref sig .tc .vmem S128x8x128 .f32) (harg9 : arg9.IsWhole) :
    cc0_peer_v i arg1 harg1 arg2 harg2 arg3 harg3 arg4 harg4 arg5 harg5 arg6 harg6 arg7 harg7 arg8 harg8 arg9 harg9
      = body (F := F) arg1 arg2 arg3 arg4 arg5 arg6 arg7 arg8 arg9 := by
  rw [cc0_peer_v_eq_skeleton]
  unfold cc0_peer_v_skel
  rw [k0_part105_eq_skeleton]
  unfold k0_part105_skel
  rw [k0_part102_eq_skeleton]
  unfold k0_part102_skel
  simp only [bind_assoc]
  chain_rfl

end Cert.KernelIdeal.Rows

end
-- ==== Proof.Body.lean ====
/- The run of the program: the kernel body on one block of tokens, the pipeline over the blocks, and what every buffer
   holds at the end, at any value instance. -/
module

public import proofs.«01_k».proof.Proof.Loop
public import proofs.«01_k».proof.Proof.Printed
public import proofs.«01_k».proof.Proof.Gen.KernelIdeal.Frame
public import Idealize.ShloMosaic.Lib.Pipeline.Frame

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.Rounds
open Idealize.ShloMosaic.Pipeline (Dat BodyObligation)

variable {F : FTy → Type} [FloatOps F]

local notation "𝕄" => MT nD τ sig Unit (Elt F) ℕ (UR sig nD τ) ℕ

/-! ## The body on one block -/

/-- The block of the result: from the block's row numbers, weights and residual stream, the table and the gains. -/
def result (idx : S1x128x128.Idx → BitVec 32) (w : Vec F S1x128x128 .f32) (tab : S65536x128.Idx → BitVec 32)
    (H : Vec F S128x1024 .f32) (G : Vec F S1x1024 .f32) : S128x1024.Idx → Elt F .f32 :=
  norm H (ys idx tab w) G

/-- The body, from its operands whole: the inputs are left alone, the result's buffer is left at `result`. -/
theorem body_wp (c : Dev nD) {arg1 : Memref sig .tc .smem S1x128x128 .i32} {arg2 : Memref sig .tc .vmem S1x128x128 .f32}
    {arg3 : Memref sig .tc .vmem S65536x128 .i32} {arg4 : Memref sig .tc .vmem S128x1024 .f32}
    {arg5 : Memref sig .tc .vmem S1x1024 .f32} {arg6 : Memref sig .tc .vmem S128x1024 .f32}
    {arg7 arg8 : Memref sig .tc .vmem S544x128 .i32} {arg9 : Memref sig .tc .vmem S128x8x128 .f32}
    {f1 : Bf F c arg1} {f2 : Bf F c arg2} {f3 : Bf F c arg3} {f4 : Bf F c arg4} {f5 : Bf F c arg5} {f6 : Bf F c arg6}
    {f7 : Bf F c arg7} {f8 : Bf F c arg8} {f9 : Bf F c arg9}
    (hU : Usable (arg1.view.read (Elt F) f1)) (Q : PUnit.{1} → sProp 𝕄) :
    iprop(pt c arg1 f1 ∗ pt c arg2 f2 ∗ pt c arg3 f3 ∗ pt c arg4 f4 ∗ pt c arg5 f5 ∗ pt c arg6 f6 ∗ pt c arg7 f7
      ∗ pt c arg8 f8 ∗ pt c arg9 f9
      ∗ (∀ g6 g7 g8 g9, ⌜arg6.view.read (Elt F) g6 = result (arg1.view.read (Elt F) f1) (arg2.view.read (Elt F) f2)
            (arg3.view.read (Elt F) f3) (arg4.view.read (Elt F) f4) (arg5.view.read (Elt F) f5)⌝
          -∗ pt c arg1 f1 -∗ pt c arg2 f2 -∗ pt c arg3 f3 -∗ pt c arg4 f4 -∗ pt c arg5 f5 -∗ pt c arg6 g6 -∗ pt c arg7 g7
          -∗ pt c arg8 g8 -∗ pt c arg9 g9 -∗ Q ⟨⟩))
    ⊢ runs c (body arg1 arg2 arg3 arg4 arg5 arg6 arg7 arg8 arg9) Q := by
  iintro ⟨H1, H2, H3, H4, H5, H6, H7, H8, H9, Hk⟩
  unfold body runs
  rw [wp_bind]
  iapply (fill_wp c hU _ _)
  isplitl [H1]; · iexact H1
  isplitl [H3]; · iexact H3
  isplitl [H7]; · iexact H7
  iintro %g7 %hF H1 H3 H7
  rw [wp_bind]
  iapply (loop_wp c f1 f2 f3 f9 hU hF _)
  isplitl [H1]; · iexact H1
  isplitl [H2]; · iexact H2
  isplitl [H3]; · iexact H3
  isplitl [H7]; · iexact H7
  isplitl [H8]; · iexact H8
  isplitl [H9]; · iexact H9
  iintro %h7 %h8 %h9 %hY H1 H2 H3 H7 H8 H9
  iapply (tail_wp c _)
  isplitl [H4]; · iexact H4
  isplitl [H5]; · iexact H5
  isplitl [H6]; · iexact H6
  isplitl [H9]; · iexact H9
  iintro %g6 %hN H4 H5 H6 H9
  iapply Hk $$ %_ %_ %_ %_ [] H1 H2 H3 H4 H5 H6 H7 H8 H9
  ipureintro
  rw [hN, hY]; rfl

/-- `body_wp` of the printed body, over whole operands owned at their contents. -/
theorem printed_wp (c : Dev nD) (i : grid0.Coords)
    {arg1 : Memref sig .tc .smem S1x128x128 .i32} (harg1 : arg1.IsWhole) {arg2 : Memref sig .tc .vmem S1x128x128 .f32} (harg2 : arg2.IsWhole)
    {arg3 : Memref sig .tc .vmem S65536x128 .i32} (harg3 : arg3.IsWhole) {arg4 : Memref sig .tc .vmem S128x1024 .f32} (harg4 : arg4.IsWhole)
    {arg5 : Memref sig .tc .vmem S1x1024 .f32} (harg5 : arg5.IsWhole) {arg6 : Memref sig .tc .vmem S128x1024 .f32} (harg6 : arg6.IsWhole)
    {arg7 : Memref sig .tc .vmem S544x128 .i32} (harg7 : arg7.IsWhole) {arg8 : Memref sig .tc .vmem S544x128 .i32} (harg8 : arg8.IsWhole)
    {arg9 : Memref sig .tc .vmem S128x8x128 .f32} (harg9 : arg9.IsWhole)
    {X1 : S1x128x128.Idx → BitVec 32} {X2 : Vec F S1x128x128 .f32} {X3 : S65536x128.Idx → BitVec 32}
    {X4 : Vec F S128x1024 .f32} {X5 : Vec F S1x1024 .f32}
    (hU : Usable X1) (Q : PUnit.{1} → sProp 𝕄) :
    iprop(owns (c : Thread nD τ) arg1 fullShare X1 ∗ owns (c : Thread nD τ) arg2 fullShare X2 ∗ owns (c : Thread nD τ) arg3 fullShare X3
      ∗ owns (c : Thread nD τ) arg4 fullShare X4 ∗ owns (c : Thread nD τ) arg5 fullShare X5
      ∗ (∃ d, owns (c : Thread nD τ) arg6 fullShare d) ∗ (∃ f, pt c arg7 f) ∗ (∃ f, pt c arg8 f) ∗ (∃ f, pt c arg9 f)
      ∗ (owns (c : Thread nD τ) arg1 fullShare X1 -∗ owns (c : Thread nD τ) arg2 fullShare X2 -∗ owns (c : Thread nD τ) arg3 fullShare X3
          -∗ owns (c : Thread nD τ) arg4 fullShare X4 -∗ owns (c : Thread nD τ) arg5 fullShare X5
          -∗ owns (c : Thread nD τ) arg6 fullShare (result X1 X2 X3 X4 X5)
          -∗ (∃ f, pt c arg7 f) -∗ (∃ f, pt c arg8 f) -∗ (∃ f, pt c arg9 f) -∗ Q ⟨⟩))
    ⊢ runs c (cc0_peer_v i arg1 harg1 arg2 harg2 arg3 harg3 arg4 harg4 arg5 harg5 arg6 harg6 arg7 harg7 arg8 harg8 arg9 harg9) Q := by
  rw [body_eq]
  unfold owns
  rw [harg1.set_eq_univ, harg2.set_eq_univ, harg3.set_eq_univ, harg4.set_eq_univ, harg5.set_eq_univ, harg6.set_eq_univ]
  iintro ⟨⟨%f1, %h1, H1⟩, ⟨%f2, %h2, H2⟩, ⟨%f3, %h3, H3⟩, ⟨%f4, %h4, H4⟩, ⟨%f5, %h5, H5⟩, ⟨%d6, %f6, -, H6⟩, ⟨%f7, H7⟩,
    ⟨%f8, H8⟩, ⟨%f9, H9⟩, Hk⟩
  subst h1 h2 h3 h4 h5
  iapply (body_wp c hU _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %g6 %g7 %g8 %g9 %hR H1 H2 H3 H4 H5 H6 H7 H8 H9
  iapply Hk $$ [H1] [H2] [H3] [H4] [H5] [H6] [H7] [H8] [H9]
  · iexists _; isplitr; swap; · iexact H1
    ipureintro; rfl
  · iexists _; isplitr; swap; · iexact H2
    ipureintro; rfl
  · iexists _; isplitr; swap; · iexact H3
    ipureintro; rfl
  · iexists _; isplitr; swap; · iexact H4
    ipureintro; rfl
  · iexists _; isplitr; swap; · iexact H5
    ipureintro; rfl
  · iexists _; isplitr; swap; · iexact H6
    ipureintro; exact hR
  · iexists _; iexact H7
  · iexists _; iexact H8
  · iexists _; iexact H9

/-! ## The pipeline -/

variable (m : (ℓ : Loc nD τ sig) → Buf (Elt F) ℓ) (ρ : Dev nD → PrngReg)

/-- The block of the result at point `t`. -/
def block (c : Dev nD) (t : Fin cfg0.N) : S128x1024.Idx → Elt F .f32 :=
  result (iblk m c 0 t) (iblk m c 1 t) (iblk m c 2 t) (iblk m c 3 t) (iblk m c 4 t)

/-- The proof data: every input window is left at its block, the result's window at `block`. -/
def dats (_ : Fin 1) (c : Dev nD) : Dat τ (Elt F) Unit ℕ (UR sig nD τ) ℕ cfg0 c where
  A w := V m c (Pipeline.arrRef spec0 w)
  after := fun | ⟨0, _⟩, t => iblk m c 0 t | ⟨1, _⟩, t => iblk m c 1 t | ⟨2, _⟩, t => iblk m c 2 t
               | ⟨3, _⟩, t => iblk m c 3 t | ⟨4, _⟩, t => iblk m c 4 t | ⟨5, _⟩, t => block m c t
  Φ _ := Pipeline.ΦA spec0 c
  q _ := fullShare
  owed _ := 0

theorem dats_A (c : Dev nD) (w : Fin cfg0.W) : (dats m 0 c).A w = V m c (Pipeline.arrRef spec0 w) := by dsimp only [dats]

theorem found0 (c : Dev nD) (t : Fin cfg0.N) (d) : (dats m 0 c).before 0 t d = iblk m c 0 t :=
  before0_0_of m (dats m 0 c) (dats_A m c 0) (fun _ => by dsimp only [dats]) t d
theorem found1 (c : Dev nD) (t : Fin cfg0.N) (d) : (dats m 0 c).before 1 t d = iblk m c 1 t :=
  before0_1_of m (dats m 0 c) (dats_A m c 1) (fun _ => by dsimp only [dats]) t d
theorem found2 (c : Dev nD) (t : Fin cfg0.N) (d) : (dats m 0 c).before 2 t d = iblk m c 2 t :=
  before0_2_of m (dats m 0 c) (dats_A m c 2) (fun _ => by dsimp only [dats]) t d
theorem found3 (c : Dev nD) (t : Fin cfg0.N) (d) : (dats m 0 c).before 3 t d = iblk m c 3 t :=
  before0_3_of m (dats m 0 c) (dats_A m c 3) (fun _ => by dsimp only [dats]) t d
theorem found4 (c : Dev nD) (t : Fin cfg0.N) (d) : (dats m 0 c).before 4 t d = iblk m c 4 t :=
  before0_4_of m (dats m 0 c) (dats_A m c 4) (fun _ => by dsimp only [dats]) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (block m c t))

theorem sound_body (c : Dev nD) (t : Fin cfg0.N) (hU : Usable (iblk m c 0 t)) :
    bodyPre m c t ⊢ wp frame (wpE (defs₀ (F := F)) Variants.none c none) Set.univ (bodyAt0 t) (fun _ => bodyPost m c t) := by
  unfold bodyPre bodyPost bodyAt0 block
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  simp only [found0, found1, found2, found3, found4]
  unfold Pipeline.ΦA
  rw [scopedRest0_eq]
  iintro ⟨⟨⟨HS0, HS1, HS2⟩, Hg⟩, HO, ⟨%d0, H0⟩, ⟨%d1, H1⟩, ⟨%d2, H2⟩, ⟨%d3, H3⟩, ⟨%d4, H4⟩, ⟨%d5, H5⟩⟩
  iapply (printed_wp c _ _ _ _ _ _ _ _ _ _ hU _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro H0 H1 H2 H3 H4 H5 HS0 HS1 HS2
  isplitl [HS0 HS1 HS2 Hg]
  · isplitr [Hg]
    · isplitl [HS0]; · iexact HS0
      isplitl [HS1]; · iexact HS1
      iexact HS2
    · iexact Hg
  isplitl [HO]; · iexact HO
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (c : Dev nD) (hU : ∀ t, Usable (iblk m c 0 t)) :
    BodyObligation (dats (F := F) m 0 c) (defs₀ (F := F)) Variants.none () Set.univ := fun t => by
  rw [bigSep_W0, bigSep_W0, defs₀_row]
  exact triple_restated (sound_body m c t (hU t)) rfl .rfl fun _ => .rfl

-- the implicit arguments are found by unifying the conclusion with this statement
set_option backward.isDefEq.respectTransparency.types false in
/-- The run, from row numbers that lie in the table: every array of the pipeline ends at what the blocks written to it
    say, every other buffer as the region found it, every counter at zero. -/
theorem run_main (hU : ∀ c t, Usable (iblk m c 0 t)) :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c (hU c)).loose) (hshare := fun c => (dats m 0 c).share_full fun _ => rfl)
    (howed := fun _ _ => rfl) (V := V m) (hmain := hmain m Variants.none) (hA := dats_A m) (hΦ := fun _ _ => rfl)

end Cert.KernelIdeal.Rows

end
-- ==== Proof.Value.lean ====
/- The block of the result at the ideal instance: every element as a sum over the experts of its token, and a scale from
   the mean square of its row. -/
module

public import proofs.«01_k».proof.Proof.Body
public import Idealize.ShloMosaic.Lib.Pointwise
public import Idealize.ShloMosaic.Lib.Pipeline.ValueKit

@[expose] public section

set_option maxRecDepth 16384

noncomputable section

namespace Cert.KernelIdeal.Rows

open Idealize.ShloMosaic Idealize.ShloMosaic.TcCoe
open Idealize.SL.Sem
open Cert.KernelIdeal.Gen

/-- One half of a packed word, as a number. -/
def half (i : ℕ) (v : BitVec 32) : Ideal .f32 := FloatOps.extf .f32 (by decide) (FloatOps.ofBits .bf16 (v.extractLsb' (i * 16) 16) : Ideal .bf16)

/-- The column of weights of token `p`. -/
theorem weight_apply (w : Vec Ideal S1x128x128 .f32) (p j : Fin 128) :
    k0_pay130 lanes (BitVec.ofNat 32 p.val) w (ix2 j 0) = w (ix3 0 j p) := by
  pointwise [k0_pay130, lanes]
  rw [Finset.sum_eq_single p]
  · simp [Scalar.select, IntOp.cmpi]
  · intro b _ hb
    have hne : BitVec.ofNat 32 b.val ≠ BitVec.ofNat 32 p.val := by
      intro h; apply hb; apply Fin.ext
      have := congrArg BitVec.toNat h
      simp only [BitVec.toNat_ofNat] at this
      omega
    have hf : (BitVec.ofNat 32 b.val == BitVec.ofNat 32 p.val) = false := by simpa using hne
    simp [Scalar.select, IntOp.cmpi, hf]
  · intro h; exact absurd (Finset.mem_univ _) h

theorem low_apply (wc : FVec Ideal S128x1 .f32) (q : Vec Ideal S128x128 .i32) (l : Fin 128) :
    k0_pay407 wc q (ix3 0 0 l) = ∑ j : Fin 128, half 0 (q (ix2 j l)) * wc (ix2 j 0) := by
  pointwise [k0_pay407, half]

theorem high_apply (wc : FVec Ideal S128x1 .f32) (q : Vec Ideal S128x128 .i32) (l : Fin 128) :
    k0_pay408 wc q (ix3 0 0 l) = ∑ j : Fin 128, half 1 (q (ix2 j l)) * wc (ix2 j 0) := by
  pointwise [k0_pay408, half]

theorem pay1_apply (x : FVec Ideal S128x128 .f32) (r : FVec Ideal S128x1 .f32) (g : Vec Ideal S1x128 .f32) (p l : Fin 128) :
    k0_pay1 x r g (ix2 p l) = x (ix2 p l) * r (ix2 p 0) * g (ix2 0 l) := by
  pointwise [k0_pay1]

theorem pay409_apply (x : Vec Ideal S128x128 .f32) (y : Vec Ideal S128x1x128 .f32) (p l : Fin 128) :
    k0_pay409 x y (ix2 p l) = x (ix2 p l) + y (ix3 p 0 l) := by
  pointwise [k0_pay409]

theorem sq_apply (x : FVec Ideal S128x128 .f32) (p : Fin 128) :
    sq x (ix2 p 0) = ∑ l : Fin 128, x (ix2 p l) * x (ix2 p l) := by
  pointwise [sq]

/-- Column `d` of token `p`'s sum over its experts: the low halves of the words are the first 512 columns, the high
    halves the others. -/
def mixed (idx : S1x128x128.Idx → BitVec 32) (w : Vec Ideal S1x128x128 .f32) (tab : S65536x128.Idx → BitVec 32)
    (p : Fin 128) (d : ℕ) : Ideal .f32 :=
  ∑ j : Fin 128, half (d / 512) (tabAt tab ((word idx p.val j.val).toNat + d % 512 / 128) ⟨d % 128, Nat.mod_lt _ (by decide)⟩) * w (ix3 0 j p)

/-- Column `d` of token `p`'s residual stream. -/
def stream (idx : S1x128x128.Idx → BitVec 32) (w : Vec Ideal S1x128x128 .f32) (tab : S65536x128.Idx → BitVec 32)
    (H : Vec Ideal S128x1024 .f32) (p : Fin 128) (d : ℕ) : Ideal .f32 :=
  H (ix2 p ⟨d % 1024, Nat.mod_lt _ (by decide)⟩) + mixed idx w tab p d

theorem quarter_apply (idx : S1x128x128.Idx → BitVec 32) (tab : S65536x128.Idx → BitVec 32) (p s : ℕ) (hs : s < 4) (j l : Fin 128) :
    quarterOf (tile idx tab p) s (ix2 j l) = tabAt tab ((word idx p j.val).toNat + s) l := by
  have hj := j.isLt
  have e : (136 * s + j.val) % 544 = 136 * s + j.val := Nat.mod_eq_of_lt (by omega)
  have e1 : (136 * s + j.val) % 136 = j.val := by omega
  have e2 : (136 * s + j.val) / 136 = s := by omega
  show tabAt tab ((word idx p ((136 * s + j.val) % 544 % 136)).toNat + (136 * s + j.val) % 544 / 136) l = _
  rw [e, e1, e2]

theorem ys_apply (idx : S1x128x128.Idx → BitVec 32) (w : Vec Ideal S1x128x128 .f32) (tab : S65536x128.Idx → BitVec 32)
    (p : Fin 128) (s : ℕ) (hs : s < 8) (l : Fin 128) :
    ys idx tab w (ix3 p ⟨s % 8, Nat.mod_lt _ (by decide)⟩ l) = mixed idx w tab p (s * 128 + l.val) := by
  have hl := l.isLt
  have e0 : s % 8 = s := by omega
  have e1 : (s * 128 + l.val) % 512 / 128 = s % 4 := by omega
  have e2 : (s * 128 + l.val) % 128 = l.val := by omega
  unfold ys mixed
  simp only [e1, e2]
  show (if s % 8 < 4 then k0_pay407 (k0_pay130 lanes (BitVec.ofNat 32 p.val) w) (quarterOf (tile idx tab p.val) (s % 8)) (ix3 0 0 l)
    else k0_pay408 (k0_pay130 lanes (BitVec.ofNat 32 p.val) w) (quarterOf (tile idx tab p.val) (s % 8 - 4)) (ix3 0 0 l)) = _
  rw [e0]
  split
  · rename_i h
    rw [low_apply, show (s * 128 + l.val) / 512 = 0 by omega, show s % 4 = s by omega]
    refine Finset.sum_congr rfl fun j _ => ?_
    rw [quarter_apply idx tab p.val s h, weight_apply]
  · rename_i h
    rw [high_apply, show (s * 128 + l.val) / 512 = 1 by omega, show s % 4 = s - 4 by omega]
    refine Finset.sum_congr rfl fun j _ => ?_
    rw [quarter_apply idx tab p.val (s - 4) (by omega), weight_apply]

theorem xOf_apply (idx : S1x128x128.Idx → BitVec 32) (w : Vec Ideal S1x128x128 .f32) (tab : S65536x128.Idx → BitVec 32)
    (H : Vec Ideal S128x1024 .f32) (p : Fin 128) (s : ℕ) (hs : s < 8) (l : Fin 128) :
    xOf H (ys idx tab w) s (ix2 p l) = stream idx w tab H p (s * 128 + l.val) := by
  unfold xOf
  rw [pay409_apply]
  unfold stream
  rw [← ys_apply idx w tab p s hs l]
  congr 1
  unfold hOf
  congr 2
  apply Fin.ext
  show (128 * s + l.val) % 1024 = (s * 128 + l.val) % 1024
  rw [Nat.mul_comm]

theorem scale_apply (idx : S1x128x128.Idx → BitVec 32) (w : Vec Ideal S1x128x128 .f32) (tab : S65536x128.Idx → BitVec 32)
    (H : Vec Ideal S128x1024 .f32) (p : Fin 128) :
    scaleOf H (ys idx tab w) (ix2 p 0)
      = Ideal.rsqrt ((∑ d : Fin 1024, stream idx w tab H p d.val * stream idx w tab H p d.val) * Ideal.ofBits .f32 0x3A800000#32
          + Ideal.ofBits .f32 0x358637BD#32) := by
  unfold scaleOf scale
  pointwise
  have e : ∀ s : ℕ, s < 8 → ∀ l : Fin 128, xOf H (ys idx tab w) s (ix2 p l) = stream idx w tab H p (s * 128 + l.val) :=
    fun s hs l => xOf_apply idx w tab H p s hs l
  simp only [sq_apply]
  simp only [e 0 (by decide), e 1 (by decide), e 2 (by decide), e 3 (by decide), e 4 (by decide), e 5 (by decide), e 6 (by decide), e 7 (by decide)]
  have h8 := Fin.sum_univ_univ_mul_add (S := 8) 128 fun d => stream idx w tab H p d * stream idx w tab H p d
  rw [Fin.sum_univ_eight] at h8
  rw [show (∑ d : Fin 1024, stream idx w tab H p d.val * stream idx w tab H p d.val)
    = ∑ d : Fin (8 * 128), stream idx w tab H p d.val * stream idx w tab H p d.val from rfl, ← h8]
  rfl

theorem ofBits_inv_width : Ideal.ofBits .f32 0x3A800000#32 = (((1 : ℝ) / 1024 : ℝ) : EReal) := by
  simp [Ideal.ofBits, Ideal.ieee, -EReal.coe_mul]; norm_num

theorem ofBits_width : Ideal.ofBits .f32 0x44800000#32 = ((1024 : ℝ) : EReal) := by
  simp [Ideal.ofBits, Ideal.ieee, -EReal.coe_mul]; norm_num

theorem result_apply (idx : S1x128x128.Idx → BitVec 32) (w : Vec Ideal S1x128x128 .f32) (tab : S65536x128.Idx → BitVec 32)
    (H : Vec Ideal S128x1024 .f32) (G : Vec Ideal S1x1024 .f32) (p : Fin 128) (d : Fin 1024) :
    result idx w tab H G (ix2 p d)
      = stream idx w tab H p d.val
        * Ideal.rsqrt ((∑ d : Fin 1024, stream idx w tab H p d.val * stream idx w tab H p d.val) * Ideal.ofBits .f32 0x3A800000#32
          + Ideal.ofBits .f32 0x358637BD#32)
        * G (ix2 0 d) := by
  have hd := d.isLt
  unfold result norm
  show k0_pay1 (xOf H (ys idx tab w) (d.val / 128)) (scaleOf H (ys idx tab w)) (gOf G (d.val / 128)) (ix2 p ⟨d.val % 128, Nat.mod_lt _ (by decide)⟩) = _
  rw [pay1_apply, xOf_apply _ _ _ _ _ _ (by omega), scale_apply]
  have e : d.val / 128 * 128 + d.val % 128 = d.val := by omega
  congr 1
  · rw [e]
  · unfold gOf
    congr 2
    apply Fin.ext
    show (128 * (d.val / 128) + d.val % 128) % 1024 = d.val
    omega

end Cert.KernelIdeal.Rows

end
-- ==== Proof.Reference.lean ====
/- The reference read at an index: which row of the table each expert's number picks, the weighted sum of the rows, and the
   normalization. -/
module

public import proofs.«01_k».proof.Defs
public import proofs.«01_k».proof.Proof.Value
public import proofs.«01_k».proof.Proof.Gen.ReferenceIdeal.Run
public import proofs.«01_k».proof.Proof.Gen.Pre_in_range
public import Idealize.ShloMosaic.Lib.Pointwise
public import Idealize.ShloMosaic.Lib.BitcastConvert
public import Idealize.ShloMosaic.Lib.Pipeline.ValueKit
public import Idealize.ShloMosaic.Lib.IdealHost

@[expose] public section
set_option maxRecDepth 16384
noncomputable section

namespace Cert.ReferenceIdeal.Rows
open Cert.ReferenceIdeal Cert.ReferenceIdeal.Gen Cert.ReferenceIdeal.Value Idealize.ShloMosaic Idealize.ShloMosaic.TcCoe Idealize.SL.Sem Idealize.ShloMosaic.StableHlo

abbrev rowsOf := gather_S16384x1024_S256x128x128x1_S256x128x128x1024_3_0_n_n_0_3_11024

theorem gather_rows {α : Type} (x : S16384x1024.Idx → α) (idx : IVec S256x128x128x1 32) (b : Fin 256) (t j : Fin 128) (d : Fin 1024) :
    Host.gather rowsOf x idx (ix4 b t j d) = x (ix2 ⟨min (idx (ix4 b t j 0)).toInt.toNat 16383, by omega⟩ d) := by
  unfold Host.gather
  congr 1
  funext a
  refine Fin.ext ?_
  show rowsOf.start (ix4 b t j d) idx a + rowsOf.batchCoord (ix4 b t j d) a + rowsOf.offCoord (ix4 b t j d) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowsOf.startIndexMap from List.mem_singleton.mpr rfl)]
    have hsi : rowsOf.siIdx (ix4 b t j d) ⟨List.idxOf (0 : Fin 2) rowsOf.startIndexMap,
        List.idxOf_lt_length_iff.2 (List.mem_singleton.mpr rfl)⟩ = ix4 b t j 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    unfold GatherDims.start
    rw [dif_neg (by decide)]
    unfold GatherDims.offCoord
    rw [dif_pos (by decide)]
    simp only [Nat.zero_add]
    rfl

/-- An expert's number is never negative, so the reference's wrapped index is the number itself. -/
theorem pick (e : BitVec 32) (h : e.toNat < 16384) :
    Scalar.select (IntOp.cmpi .slt e 0#32) (IntOp.addi e 16384#32) e = e := by
  have : BitVec.slt e 0#32 = false := by
    simp only [BitVec.slt, BitVec.toInt, BitVec.toNat_ofNat, decide_eq_false_iff_not]; omega
  simp [IntOp.cmpi, this, Scalar.select]

/-- The reference's table of the experts' rows. -/
def table (tab : S65536x128.Idx → BitVec 32) : FVec Ideal S16384x1024 .f32 :=
  extf .f32 (concatenate S16384x1024 1
    [⟨S16384x512, shapeCast S16384x512 (extractStridedSlice S16384x512x1 ![0, 0, 0] (bitcastToFloat (F := Ideal) .bf16 (Host.bitcastConvertNarrow S16384x512x2 16 (shapeCast S16384x512 tab shapeCasts_S65536x128_S16384x512) splits_S16384x512_w32_S16384x512x2_w16)) slices_S16384x512x2_S16384x512x1_0_0_0) shapeCasts_S16384x512x1_S16384x512⟩,
     ⟨S16384x512, shapeCast S16384x512 (extractStridedSlice S16384x512x1 ![0, 0, 1] (bitcastToFloat (F := Ideal) .bf16 (Host.bitcastConvertNarrow S16384x512x2 16 (shapeCast S16384x512 tab shapeCasts_S65536x128_S16384x512) splits_S16384x512_w32_S16384x512x2_w16)) slices_S16384x512x2_S16384x512x1_0_0_1) shapeCasts_S16384x512x1_S16384x512⟩]
    concatenates_S16384x512_S16384x512_S16384x1024_d1) bitsLt_bf16_f32

/-- The reference's rows of the chosen experts. -/
def picked (E : S256x128x128.Idx → BitVec 32) (tab : S65536x128.Idx → BitVec 32) : FVec Ideal S256x128x128x1024 .f32 :=
  Host.gather rowsOf (table tab) (broadcastInDim S256x128x128x1 ![0, 1, 2] bcast_S256x128x128_S256x128x128x1_0_1_2
    (select (cmpi .slt E (broadcastInDim S256x128x128 ![] bcast_S_S256x128x128 (constantI S_ 32 0#32)))
      (addi E (broadcastInDim S256x128x128 ![] bcast_S_S256x128x128 (constantI S_ 32 16384#32))) E))

/-- The reference's residual stream. -/
def streams (E : S256x128x128.Idx → BitVec 32) (W : FVec Ideal S256x128x128 .f32) (tab : S65536x128.Idx → BitVec 32)
    (H : FVec Ideal S32768x1024 .f32) : FVec Ideal S32768x1024 .f32 :=
  addf H (shapeCast S32768x1024 (Host.dotGeneral dot_S256x128x128_S256x128x128x1024_S256x128x1024_1_2_n_3_02_01 none W (picked E tab)) shapeCasts_S256x128x1024_S32768x1024)

/-- The reference's normalization. -/
def normed (o : FVec Ideal S32768x1024 .f32) (G : FVec Ideal S1x1024 .f32) : FVec Ideal S32768x1024 .f32 :=
  mulf (mulf o (broadcastInDim S32768x1024 ![0, 1] bcast_S32768x1_S32768x1024_0_1 (Host.rsqrt (addf (Host.divf (broadcastInDim S32768x1 ![0] bcast_S32768_S32768x1_0 (Host.reduceAdd (mulf o o) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 G)

variable (m : (ℓ : Loc nD τ sig) → Buf (Elt Ideal) ℓ)

theorem res_eq (c : Dev nD) : res_out0 m c
    = normed (streams (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg4)) := rfl

open Cert.KernelIdeal.Rows (half tabAt stream mixed word)

theorem table_apply (tab : S65536x128.Idx → BitVec 32) (e : Fin 16384) (d : Fin 1024) :
    table tab (ix2 e d) = half (d.val / 512) (tabAt tab (4 * e.val + d.val % 512 / 128) ⟨d.val % 128, Nat.mod_lt _ (by decide)⟩) := by
  unfold table
  have hd := d.isLt
  have he := e.isLt
  pointwise
  split
  · rename_i h
    rw [show d.val / 512 = 0 by omega]
    show _ = Ideal.ofBits .bf16 (BitVec.extractLsb' (0 * 16) 16 (tab (ix2 ⟨(4 * e.val + d.val % 512 / 128) % 65536, _⟩ _)))
    congr 4
    exact Fin.ext (show e.val * 4 + d.val / 128 = (4 * e.val + d.val % 512 / 128) % 65536 by omega)
  · rename_i h
    rw [show d.val / 512 = 1 by omega]
    show _ = Ideal.ofBits .bf16 (BitVec.extractLsb' (1 * 16) 16 (tab (ix2 ⟨(4 * e.val + d.val % 512 / 128) % 65536, _⟩ _)))
    congr 4
    · exact Fin.ext (show e.val * 4 + (d.val - 512) / 128 = (4 * e.val + d.val % 512 / 128) % 65536 by omega)
    · exact Fin.ext (show (d.val - 512) % 128 = d.val % 128 by omega)

theorem picked_apply (E : S256x128x128.Idx → BitVec 32) (tab : S65536x128.Idx → BitVec 32) (hE : ∀ y, (E y).toNat < 16384)
    (b : Fin 256) (t j : Fin 128) (d : Fin 1024) :
    picked E tab (ix4 b t j d)
      = half (d.val / 512) (tabAt tab (4 * (E (ix3 b t j)).toNat + d.val % 512 / 128) ⟨d.val % 128, Nat.mod_lt _ (by decide)⟩) := by
  unfold picked
  rw [gather_rows, table_apply]
  have h : broadcastInDim S256x128x128x1 ![0, 1, 2] bcast_S256x128x128_S256x128x128x1_0_1_2
    (select (cmpi .slt E (broadcastInDim S256x128x128 ![] bcast_S_S256x128x128 (constantI S_ 32 0#32)))
      (addi E (broadcastInDim S256x128x128 ![] bcast_S_S256x128x128 (constantI S_ 32 16384#32))) E) (ix4 b t j 0) = E (ix3 b t j) := by
    pointwise
    exact pick _ (hE _)
  have hv : min (E (ix3 b t j)).toInt.toNat 16383 = (E (ix3 b t j)).toNat := by
    have := hE (ix3 b t j)
    rw [BitVec.toInt_eq_toNat_of_lt (by omega)]
    omega
  simp only [h, hv]

theorem streams_apply (E : S256x128x128.Idx → BitVec 32) (W : FVec Ideal S256x128x128 .f32) (tab : S65536x128.Idx → BitVec 32)
    (H : FVec Ideal S32768x1024 .f32) (q : Fin 32768) (d : Fin 1024) :
    streams E W tab H (ix2 q d) = H (ix2 q d) + ∑ j : Fin 128, W (ix3 ⟨q.val / 128, by omega⟩ j ⟨q.val % 128, by omega⟩) * picked E tab (ix4 ⟨q.val / 128, by omega⟩ ⟨q.val % 128, by omega⟩ j d) := by
  unfold streams
  pointwise

theorem normed_apply (o : FVec Ideal S32768x1024 .f32) (G : FVec Ideal S1x1024 .f32) (q : Fin 32768) (d : Fin 1024) :
    normed o G (ix2 q d) = o (ix2 q d) * Ideal.rsqrt ((∑ d : Fin 1024, o (ix2 q d) * o (ix2 q d)) * Ideal.ofBits .f32 0x3A800000#32 + Ideal.ofBits .f32 0x358637BD#32) * G (ix2 0 d) := by
  unfold normed
  pointwise
  rw [Cert.KernelIdeal.Rows.ofBits_width, Cert.KernelIdeal.Rows.ofBits_inv_width, Ideal.div_coe (by norm_num)]
end Cert.ReferenceIdeal.Rows
-- ==== Proof.Ends.lean ====
/- The ends of the proof: expert numbers below 16384 make every row number usable, and at the ideal instance the array the
   kernel leaves is the one the reference computes. -/
module

public import proofs.«01_k».proof.Proof.Value
public import proofs.«01_k».proof.Proof.Reference
public import Idealize.ShloMosaic.Lib.Pointwise
public import Idealize.ShloMosaic.Lib.Claim
public import Idealize.ShloMosaic.Lib.Pipeline.ValueKit

@[expose] public section
set_option maxRecDepth 16384
noncomputable section

namespace Cert.KernelIdeal.Rows

open Cert.KernelIdeal Cert.KernelIdeal.Gen
open Idealize.ShloMosaic Idealize.ShloMosaic.TcCoe Idealize.SL Idealize.SL.Sem

/-- Both comparisons of the precondition, read off one word. -/
theorem below (e : BitVec 32) (h : IntOp.andi (IntOp.cmpi .sge e 0#32) (IntOp.cmpi .slt e 16384#32) = 1#1) : e.toNat < 16384 := by
  have andi_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  simp only [IntOp.cmpi, andi_ofBool, ofBool_one, Bool.and_eq_true] at h
  obtain ⟨hge, hlt⟩ := h
  simp only [BitVec.sle, BitVec.slt, decide_eq_true_eq, BitVec.toInt, BitVec.toNat_ofNat] at hge hlt
  omega

theorem times_four (e : BitVec 32) (h : e.toNat < 16384) : (IntOp.muli e 4#32).toNat = 4 * e.toNat := by
  simp only [IntOp.muli, BitVec.toNat_mul, BitVec.toNat_ofNat]
  omega

theorem usable_word (e : BitVec 32) (h : e.toNat < 16384) : k0_chk1 (IntOp.muli e 4#32) := by
  have h4 := times_four e h
  refine ⟨?_, fun a => ?_⟩
  · show 4 ∣ (IntOp.muli e 4#32).toNat
    omega
  · match a with
    | ⟨0, _⟩ =>
      show (Scalar.indexCast (IntOp.muli e 4#32)).toNat + 4 ≤ 65536
      have : (Scalar.indexCast (IntOp.muli e 4#32)).toNat = (IntOp.muli e 4#32).toNat := rfl
      omega
    | ⟨1, _⟩ => show 0 + 128 ≤ 128; omega

section Words

variable {F : FTy → Type} [FloatOps F]
variable (m : (ℓ : Loc nD τ sig) → Buf (Elt F) ℓ)

/-- Every expert number the launch finds lies in the table. -/
def Numbers : Prop := ∀ (c : Dev nD) (y : S256x128x128.Idx), (m ((c : Thread nD τ).loc main_arg0) y : BitVec 32).toNat < 16384

theorem idx : ∀ t : Fin cfg0.N, win0_0.index t = ![t.val, 0, 0] ∧ win0_1.index t = ![t.val, 0, 0] ∧ win0_2.index t = ![0, 0]
    ∧ win0_3.index t = ![t.val, 0] ∧ win0_4.index t = ![0, 0] ∧ win0_5.index t = ![t.val, 0] :=
  (by decide +kernel : ∀ t : Fin grid0.N, _)

theorem entry (c : Dev nD) (y : S256x128x128.Idx) :
    (V m c main_v1 y : BitVec 32) = IntOp.muli (m ((c : Thread nD τ).loc main_arg0) y) 4#32 := by
  entry_read
  rfl

theorem words_apply (c : Dev nD) (t : Fin cfg0.N) (p j : Fin 128) :
    (iblk m c 0 t (ix3 0 p j) : BitVec 32) = IntOp.muli (m ((c : Thread nD τ).loc main_arg0) (ix3 ⟨t.val, t.isLt⟩ p j)) 4#32 := by
  rw [← entry]
  blk_ext [iblk, idx t]

theorem usable (h : Numbers m) (c : Dev nD) (t : Fin cfg0.N) : Usable (iblk m c 0 t) := fun p j => by
  unfold word
  rw [words_apply]
  exact usable_word _ (h c _)

end Words

variable (m : (ℓ : Loc nD τ sig) → Buf (Elt Ideal) ℓ)

open Cert.ReferenceIdeal.Rows (streams normed picked)

abbrev wanted (c : Dev nD) : S32768x1024.Idx → Ideal .f32 :=
  normed (streams (m ((c : Thread nD τ).loc main_arg0)) (m ((c : Thread nD τ).loc main_arg1)) (m ((c : Thread nD τ).loc main_arg2)) (m ((c : Thread nD τ).loc main_arg3)))
    (m ((c : Thread nD τ).loc main_arg4))

theorem stream_eq (h : Numbers m) (c : Dev nD) (t : Fin cfg0.N) (p : Fin 128) (d : Fin 1024) (q : Fin 32768) (hq : q.val = t.val * 128 + p.val) :
    stream (iblk m c 0 t) (iblk m c 1 t) (iblk m c 2 t) (iblk m c 3 t) p d.val
      = streams (m ((c : Thread nD τ).loc main_arg0)) (m ((c : Thread nD τ).loc main_arg1)) (m ((c : Thread nD τ).loc main_arg2)) (m ((c : Thread nD τ).loc main_arg3)) (ix2 q d) := by
  have ht : t.val < 256 := t.isLt
  have hp := p.isLt
  have hd := d.isLt
  have e1 : (⟨q.val / 128, by omega⟩ : Fin 256) = ⟨t.val, t.isLt⟩ := Fin.ext (by show q.val / 128 = t.val; omega)
  have e2 : (⟨q.val % 128, by omega⟩ : Fin 128) = p := Fin.ext (by show q.val % 128 = p.val; omega)
  rw [Cert.ReferenceIdeal.Rows.streams_apply, e1, e2]
  unfold stream mixed
  congr 1
  · have : d.val % 1024 = d.val := Nat.mod_eq_of_lt hd
    blk_ext [iblk, V_main_arg3, idx t]
  · refine Finset.sum_congr rfl fun j _ => ?_
    rw [Cert.ReferenceIdeal.Rows.picked_apply _ _ (h c), mul_comm]
    congr 1
    · blk_ext [iblk, V_main_arg1, idx t]
    · congr 1
      have hw : (word (iblk m c 0 t) p.val j.val) = IntOp.muli (m ((c : Thread nD τ).loc main_arg0) (ix3 ⟨t.val, t.isLt⟩ p j)) 4#32 := by
        rw [← words_apply]
        unfold word
        congr 1
        congr 1 <;> apply Fin.ext
        · exact Nat.mod_eq_of_lt p.isLt
        · exact Nat.mod_eq_of_lt j.isLt
      rw [hw, times_four _ (h c _)]
      unfold tabAt
      blk_ext [iblk, V_main_arg2, idx t]

theorem final (h : Numbers m) (c : Dev nD) : (dats m 0 c).arrAt 5 cfg0.N = wanted m c := by
  refine (dats m 0 c).arrAt_eq_of_covers 5 (wanted m c) (by decide +kernel) fun t hf y => ?_
  blk_simp
  show block m c t y = _
  idx_vars y
  have ht : t.val < 256 := t.isLt
  have hp := y0.isLt
  unfold block wanted
  rw [result_apply, show ((cfg0.win 5).blk t).view.emb (ix2 y0 y1) = ix2 (⟨t.val * 128 + y0.val, by omega⟩ : Fin 32768) y1 from by blk_ext [idx t],
    Cert.ReferenceIdeal.Rows.normed_apply]
  simp only [fun d : Fin 1024 => stream_eq m h c t y0 d ⟨t.val * 128 + y0.val, by omega⟩ rfl]
  congr 1
  blk_ext [iblk, V_main_arg4, idx t]

end Cert.KernelIdeal.Rows

end
-- ==== Proof.Projected.lean ====
/- The projected row read at an index from the reference's side: the normalized rows times the weights, the query and key
   columns taken head by head, and the activation each block of 1024 columns gets. -/
module

public import proofs.«01_k».proof.Defs
public import proofs.«01_k».proof.Proof.Reference
public import proofs.«01_k».proof.Proof.Gen.Reference2Ideal.Run
public import Idealize.ShloMosaic.Lib.Pointwise
public import Idealize.ShloMosaic.Lib.Pipeline.ValueKit
public import Idealize.ShloMosaic.Lib.IdealHost

@[expose] public section
set_option maxRecDepth 16384
noncomputable section

namespace Cert.Reference2Ideal.Columns
open Cert.Reference2Ideal Cert.Reference2Ideal.Gen Cert.Reference2Ideal.Value Idealize.ShloMosaic Idealize.ShloMosaic.TcCoe Idealize.SL.Sem Idealize.ShloMosaic.StableHlo
open Cert.ReferenceIdeal.Rows (normed)

/-- The product of the normalized rows with the weights. -/
def product (X : FVec Ideal S32768x1024 .f32) (W : FVec Ideal S1024x7168 .f32) : FVec Ideal S32768x7168 .f32 :=
  Host.dotGeneral dot_S32768x1024_S1024x7168_S32768x7168_1_0_0_1_n_n none X W

/-- The columns of one block of 1024, head by head. -/
def headed (x : FVec Ideal S32768x1024 .f32) : FVec Ideal S32768x1024 .f32 :=
  shapeCast _ (transpose S32768x8x2x64 [0, 2, 1, 3] (shapeCast _ x shapeCasts_S32768x1024_S32768x2x8x64) transposes_S32768x2x8x64_S32768x8x2x64_0_2_1_3) shapeCasts_S32768x8x2x64_S32768x1024

def scaled (x : FVec Ideal S32768x1024 .f32) : FVec Ideal S32768x1024 .f32 :=
  mulf x (broadcastInDim S32768x1024 ![] bcast_S_S32768x1024 (constant S_ .f32 0x3E38AA3B#32))

def gelus (x : FVec Ideal S32768x1024 .f32) : FVec Ideal S32768x1024 .f32 :=
  mulf (mulf (broadcastInDim S32768x1024 ![] bcast_S_S32768x1024 (constant S_ .f32 0x3F000000#32)) x)
    (addf (broadcastInDim S32768x1024 ![] bcast_S_S32768x1024 (constant S_ .f32 0x3F800000#32)) (Host.erf (mulf x (broadcastInDim S32768x1024 ![] bcast_S_S32768x1024 (constant S_ .f32 0x3F3504F3#32)))))

def means (x : FVec Ideal S32768x1024 .f32) : FVec Ideal S32768x1 .f32 :=
  Host.divf (broadcastInDim S32768x1 ![0] bcast_S32768_S32768x1_0 (Host.reduceAdd x (constant S_ .f32 0x00000000#32) reducesTo_S32768x1024_S32768_d1 h_S_)) (broadcastInDim S32768x1 ![] bcast_S_S32768x1 (constant S_ .f32 0x44800000#32))

def centred (x : FVec Ideal S32768x1024 .f32) : FVec Ideal S32768x1024 .f32 :=
  subf x (broadcastInDim S32768x1024 ![0, 1] bcast_S32768x1_S32768x1024_0_1 (means x))

def layers (x : FVec Ideal S32768x1024 .f32) (A B : FVec Ideal S1x1024 .f32) : FVec Ideal S32768x1024 .f32 :=
  addf (mulf (mulf (centred x) (broadcastInDim S32768x1024 ![0, 1] bcast_S32768x1_S32768x1024_0_1 (Host.rsqrt (addf (means (mulf (centred x) (centred x))) (broadcastInDim S32768x1 ![] bcast_S_S32768x1 (constant S_ .f32 0x358637BD#32))))))
    (broadcastInDim S32768x1024 ![0, 1] bcast_S1x1024_S32768x1024_0_1 A)) (broadcastInDim S32768x1024 ![0, 1] bcast_S1x1024_S32768x1024_0_1 B)

def gates (x : FVec Ideal S32768x2048 .f32) : FVec Ideal S32768x2048 .f32 :=
  Host.divf (broadcastInDim S32768x2048 ![] bcast_S_S32768x2048 (constant S_ .f32 0x3F800000#32))
    (addf (broadcastInDim S32768x2048 ![] bcast_S_S32768x2048 (constant S_ .f32 0x3F800000#32)) (Host.exp (Host.negf x)))

/-- The six blocks of columns side by side. -/
def finished (p : FVec Ideal S32768x7168 .f32) (A B : FVec Ideal S1x1024 .f32) : FVec Ideal S32768x7168 .bf16 :=
  truncf .bf16 (concatenate S32768x7168 1 [⟨S32768x1024, scaled (headed (extractStridedSlice S32768x1024 ![0, 0] p slices_S32768x7168_S32768x1024_0_0))⟩,
    ⟨S32768x1024, headed (extractStridedSlice S32768x1024 ![0, 1024] p slices_S32768x7168_S32768x1024_0_1024)⟩,
    ⟨S32768x1024, extractStridedSlice S32768x1024 ![0, 2048] p slices_S32768x7168_S32768x1024_0_2048⟩,
    ⟨S32768x1024, gelus (extractStridedSlice S32768x1024 ![0, 3072] p slices_S32768x7168_S32768x1024_0_3072)⟩,
    ⟨S32768x1024, layers (gelus (extractStridedSlice S32768x1024 ![0, 4096] p slices_S32768x7168_S32768x1024_0_4096)) A B⟩,
    ⟨S32768x2048, gates (extractStridedSlice S32768x2048 ![0, 5120] p slices_S32768x7168_S32768x2048_0_5120)⟩]
    concatenates_S32768x1024_S32768x1024_S32768x1024_S32768x1024_S32768x1024_S32768x2048_S32768x7168_d1) bitsLt_bf16_f32

variable (m : (ℓ : Loc nD τ sig) → Buf (Elt Ideal) ℓ)

theorem res_eq (c : Dev nD) : res_out0 m c
    = finished (product (normed (m ((c.tc : Thread nD τ).loc main_arg0)) (m ((c.tc : Thread nD τ).loc main_arg1))) (m ((c.tc : Thread nD τ).loc main_arg2)))
        (m ((c.tc : Thread nD τ).loc main_arg3)) (m ((c.tc : Thread nD τ).loc main_arg4)) := rfl

/-- Where column `d` of a head-by-head block stands in the weights' block. -/
def home (d : Nat) : Nat := d / 64 % 2 * 512 + d / 128 * 64 + d % 64

def gelu (a : Ideal .f32) : Ideal .f32 :=
  Ideal.ofBits .f32 0x3F000000#32 * a * (Ideal.ofBits .f32 0x3F800000#32 + Ideal.erf (a * Ideal.ofBits .f32 0x3F3504F3#32))

def mean (v : Fin 1024 → Ideal .f32) : Ideal .f32 := Ideal.div (∑ d, v d) (Ideal.ofBits .f32 0x44800000#32)

def layer (v : Fin 1024 → Ideal .f32) (a b : Ideal .f32) (d : Fin 1024) : Ideal .f32 :=
  (v d - mean v) * Ideal.rsqrt (mean (fun d => (v d - mean v) * (v d - mean v)) + Ideal.ofBits .f32 0x358637BD#32) * a + b

def gate (a : Ideal .f32) : Ideal .f32 :=
  Ideal.div (Ideal.ofBits .f32 0x3F800000#32) (Ideal.ofBits .f32 0x3F800000#32 + Ideal.exp (-a))

theorem product_apply (X : FVec Ideal S32768x1024 .f32) (W : FVec Ideal S1024x7168 .f32) (q : Fin 32768) (j : Fin 7168) :
    product X W (ix2 q j) = ∑ k : Fin 1024, X (ix2 q k) * W (ix2 k j) := by
  unfold product
  pointwise

theorem headed_apply (x : FVec Ideal S32768x1024 .f32) (q : Fin 32768) (d : Fin 1024) :
    headed x (ix2 q d) = x (ix2 q ⟨home d.val, by unfold home; omega⟩) := by
  unfold headed home
  pointwise

theorem scaled_apply (x : FVec Ideal S32768x1024 .f32) (q : Fin 32768) (d : Fin 1024) :
    scaled x (ix2 q d) = x (ix2 q d) * Ideal.ofBits .f32 0x3E38AA3B#32 := by
  unfold scaled
  pointwise

theorem gelus_apply (x : FVec Ideal S32768x1024 .f32) (q : Fin 32768) (d : Fin 1024) :
    gelus x (ix2 q d) = gelu (x (ix2 q d)) := by
  unfold gelus gelu
  pointwise

theorem means_apply (x : FVec Ideal S32768x1024 .f32) (q : Fin 32768) :
    means x (ix2 q 0) = mean (fun d => x (ix2 q d)) := by
  unfold means mean
  pointwise

theorem centred_apply (x : FVec Ideal S32768x1024 .f32) (q : Fin 32768) (d : Fin 1024) :
    centred x (ix2 q d) = x (ix2 q d) - mean (fun d => x (ix2 q d)) := by
  rw [← means_apply]
  unfold centred
  pointwise

theorem layers_apply (x : FVec Ideal S32768x1024 .f32) (A B : FVec Ideal S1x1024 .f32) (q : Fin 32768) (d : Fin 1024) :
    layers x A B (ix2 q d) = layer (fun d => x (ix2 q d)) (A (ix2 0 d)) (B (ix2 0 d)) d := by
  have h : means (mulf (centred x) (centred x)) (ix2 q 0)
      = mean (fun d => (x (ix2 q d) - mean (fun d => x (ix2 q d))) * (x (ix2 q d) - mean (fun d => x (ix2 q d)))) := by
    rw [means_apply]
    refine congrArg mean (funext fun e => ?_)
    pointwise
    rw [centred_apply]
  unfold layer
  rw [← h, ← centred_apply]
  unfold layers
  pointwise

theorem gates_apply (x : FVec Ideal S32768x2048 .f32) (q : Fin 32768) (d : Fin 2048) :
    gates x (ix2 q d) = gate (x (ix2 q d)) := by
  unfold gates gate
  pointwise

/-- One entry of the finished row, from the row before the activations. -/
def entryOf (p : Fin 7168 → Ideal .f32) (A B : Fin 1024 → Ideal .f32) (j : Fin 7168) : Ideal .f32 :=
  if h0 : j.val < 1024 then p ⟨home j.val, by unfold home; omega⟩ * Ideal.ofBits .f32 0x3E38AA3B#32
  else if h1 : j.val < 2048 then p ⟨1024 + home (j.val - 1024), by unfold home; omega⟩
  else if h2 : j.val < 3072 then p j
  else if h3 : j.val < 4096 then gelu (p j)
  else if h4 : j.val < 5120 then layer (fun d => gelu (p ⟨4096 + d.val, by omega⟩)) (A ⟨j.val - 4096, by omega⟩) (B ⟨j.val - 4096, by omega⟩) ⟨j.val - 4096, by omega⟩
  else gate (p j)

theorem finished_apply (p : FVec Ideal S32768x7168 .f32) (A B : FVec Ideal S1x1024 .f32) (q : Fin 32768) (j : Fin 7168) :
    finished p A B (ix2 q j) = entryOf (fun j => p (ix2 q j)) (fun d => A (ix2 0 d)) (fun d => B (ix2 0 d)) j := by
  have hj := j.isLt
  unfold finished entryOf
  pointwise
  by_cases h0 : j.val < 1024
  · rw [dif_pos h0, dif_pos h0, scaled_apply, headed_apply]
    pointwise
    blk_ext
  · rw [dif_neg h0, dif_neg h0]
    by_cases h1 : j.val < 2048
    · rw [dif_pos (show j.val - 1024 < 1024 by omega), dif_pos h1, headed_apply]
      pointwise
      try blk_ext
    · rw [dif_neg (show ¬ j.val - 1024 < 1024 by omega), dif_neg h1]
      by_cases h2 : j.val < 3072
      · rw [dif_pos (show j.val - 1024 - 1024 < 1024 by omega), dif_pos h2]
        blk_ext
      · rw [dif_neg (show ¬ j.val - 1024 - 1024 < 1024 by omega), dif_neg h2]
        by_cases h3 : j.val < 4096
        · rw [dif_pos (show j.val - 1024 - 1024 - 1024 < 1024 by omega), dif_pos h3, gelus_apply]
          refine congrArg gelu ?_
          pointwise
          blk_ext
        · rw [dif_neg (show ¬ j.val - 1024 - 1024 - 1024 < 1024 by omega), dif_neg h3]
          by_cases h4 : j.val < 5120
          · rw [dif_pos (show j.val - 1024 - 1024 - 1024 - 1024 < 1024 by omega), dif_pos h4, layers_apply]
            simp only [gelus_apply]
            have e : (⟨j.val - 1024 - 1024 - 1024 - 1024, by omega⟩ : Fin 1024) = ⟨j.val - 4096, by omega⟩ := Fin.ext (by show j.val - 1024 - 1024 - 1024 - 1024 = j.val - 4096; omega)
            have row : (fun d : Fin 1024 => gelu (extractStridedSlice S32768x1024 ![0, 4096] p slices_S32768x7168_S32768x1024_0_4096 (ix2 q d)))
                = fun d => gelu (p (ix2 q ⟨4096 + d.val, by omega⟩)) := funext fun d => by pointwise
            rw [e, row]
          · rw [dif_neg (show ¬ j.val - 1024 - 1024 - 1024 - 1024 < 1024 by omega), dif_neg h4, gates_apply]
            refine congrArg gate ?_
            pointwise
            blk_ext

end Cert.Reference2Ideal.Columns

end
-- ==== Proof.Weights.lean ====
/- The weights the projection's blocks find: the query and key columns gathered head by head, the others as they were. -/
module

public import proofs.«01_k».proof.Proof.Projected
public import proofs.«01_k».proof.Proof.Gen.Kernel2Ideal.Frame
public import Idealize.ShloMosaic.Lib.Pointwise
public import Idealize.ShloMosaic.Lib.Claim
public import Idealize.ShloMosaic.Lib.Pipeline.ValueKit

@[expose] public section
set_option maxRecDepth 16384
noncomputable section

namespace Cert.Kernel2Ideal.Columns

open Cert.Kernel2Ideal Cert.Kernel2Ideal.Gen
open Idealize.ShloMosaic Idealize.ShloMosaic.TcCoe Idealize.SL Idealize.SL.Sem
open Cert.Reference2Ideal.Columns (home)

abbrev columnsOf := gather_S1024x1024_S1024x1_S1024x1024_0_1_n_n_1_1_10241

theorem gather_columns {α : Type} (x : S1024x1024.Idx → α) (idx : IVec S1024x1 32) (k j : Fin 1024) :
    Host.gather columnsOf x idx (ix2 k j) = x (ix2 k ⟨min (idx (ix2 j 0)).toInt.toNat 1023, by omega⟩) := by
  unfold Host.gather
  congr 1
  funext a
  refine Fin.ext ?_
  show columnsOf.start (ix2 k j) idx a + columnsOf.batchCoord (ix2 k j) a + columnsOf.offCoord (ix2 k j) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil]
    unfold GatherDims.start
    rw [dif_neg (by decide)]
    unfold GatherDims.offCoord
    rw [dif_pos (by decide)]
    simp only [Nat.zero_add]
    rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ columnsOf.startIndexMap from List.mem_singleton.mpr rfl)]
    have hsi : columnsOf.siIdx (ix2 k j) ⟨List.idxOf (1 : Fin 2) columnsOf.startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

/-- The column each place of a head-by-head block is gathered from, as the host computes it. -/
def places : IVec S1024 32 :=
  shapeCast S1024 (addi (broadcastInDim S8x2x64 ![0, 1, 2] bcast_S8x2x1_S8x2x64_0_1_2
      (addi (broadcastInDim S8x2x1 ![0, 1, 2] bcast_S1x2x1_S8x2x1_0_1_2 (muli (broadcastInDim S1x2x1 ![1] bcast_S2_S1x2x1_1 (iotaInDim S2 32 0)) (broadcastInDim S1x2x1 ![] bcast_S_S1x2x1 (constantI S_ 32 512#32))))
        (broadcastInDim S8x2x1 ![0, 1, 2] bcast_S8x1x1_S8x2x1_0_1_2 (muli (broadcastInDim S8x1x1 ![0] bcast_S8_S8x1x1_0 (iotaInDim S8 32 0)) (broadcastInDim S8x1x1 ![] bcast_S_S8x1x1 (constantI S_ 32 64#32))))))
    (broadcastInDim S8x2x64 ![0, 1, 2] bcast_S1x1x64_S8x2x64_0_1_2 (broadcastInDim S1x1x64 ![2] bcast_S64_S1x1x64_2 (iotaInDim S64 32 0)))) shapeCasts_S8x2x64_S1024

def wrapped : IVec S1024x1 32 :=
  broadcastInDim S1024x1 ![0] bcast_S1024_S1024x1_0 (select (cmpi .slt places (broadcastInDim S1024 ![] bcast_S_S1024 (constantI S_ 32 0#32)))
    (addi places (broadcastInDim S1024 ![] bcast_S_S1024 (constantI S_ 32 1024#32))) places)

def weights (W : FVec Ideal S1024x7168 .f32) : FVec Ideal S1024x7168 .bf16 :=
  truncf .bf16 (concatenate S1024x7168 1 [⟨S1024x1024, Host.gather columnsOf (extractStridedSlice S1024x1024 ![0, 0] W slices_S1024x7168_S1024x1024_0_0) wrapped⟩,
    ⟨S1024x1024, Host.gather columnsOf (extractStridedSlice S1024x1024 ![0, 1024] W slices_S1024x7168_S1024x1024_0_1024) wrapped⟩,
    ⟨S1024x5120, extractStridedSlice S1024x5120 ![0, 2048] W slices_S1024x7168_S1024x5120_0_2048⟩] concatenates_S1024x1024_S1024x1024_S1024x5120_S1024x7168_d1) bitsLt_bf16_f32

variable (m : (ℓ : Loc nD τ sig) → Buf (Elt Ideal) ℓ)

theorem entry (c : Dev nD) : (V m c main_v35 : FVec Ideal S1024x7168 .bf16) = weights (m ((c : Thread nD τ).loc main_arg2)) := by
  chain_rfl

theorem places_apply (j : Fin 1024) : places (ix1 j) = BitVec.ofNat 32 (home j.val) := by
  unfold places home
  pointwise
  simp only [IntOp.addi, IntOp.muli, BitVec.ofNat_add, BitVec.ofNat_mul]

theorem wrapped_apply (j : Fin 1024) : min (wrapped (ix2 j 0)).toInt.toNat 1023 = home j.val := by
  have h : home j.val < 1024 := by unfold home; omega
  have hw : wrapped (ix2 j 0) = BitVec.ofNat 32 (home j.val) := by
    unfold wrapped
    pointwise
    rw [places_apply]
    have : BitVec.slt (BitVec.ofNat 32 (home j.val)) 0#32 = false := by
      simp only [BitVec.slt, BitVec.toInt, BitVec.toNat_ofNat, decide_eq_false_iff_not]; omega
    simp [IntOp.cmpi, this, Scalar.select]
  rw [hw, BitVec.toInt_eq_toNat_of_lt (by rw [BitVec.toNat_ofNat]; omega), BitVec.toNat_ofNat]
  omega

/-- The column of the weights that column `j` of the projection uses. -/
def source (j : Fin 7168) : Fin 7168 :=
  if h0 : j.val < 1024 then ⟨home j.val, by unfold home; omega⟩ else if h1 : j.val < 2048 then ⟨1024 + home (j.val - 1024), by unfold home; omega⟩ else j

theorem weights_apply (W : FVec Ideal S1024x7168 .f32) (k : Fin 1024) (j : Fin 7168) : weights W (ix2 k j) = W (ix2 k (source j)) := by
  have hj := j.isLt
  unfold weights source
  pointwise
  by_cases h0 : j.val < 1024
  · rw [dif_pos h0, dif_pos h0, gather_columns]
    simp only [wrapped_apply]
    pointwise
    blk_ext
  · rw [dif_neg h0, dif_neg h0]
    by_cases h1 : j.val < 2048
    · rw [dif_pos (show j.val - 1024 < 1024 by omega), dif_pos h1, gather_columns]
      simp only [wrapped_apply]
      pointwise
    · rw [dif_neg (show ¬ j.val - 1024 < 1024 by omega), dif_neg h1]
      blk_ext

end Cert.Kernel2Ideal.Columns

end
-- ==== Proof.Inproj.lean ====
/- What the projection kernel writes for one block of rows, entry by entry, and the whole array: the reference's. -/
module

public import proofs.«01_k».proof.Proof.Weights
public import proofs.«01_k».proof.Proof.Gen.Kernel2Ideal.Value
public import Idealize.ShloMosaic.Lib.Pointwise
public import Idealize.ShloMosaic.Lib.Pipeline.ValueKit

@[expose] public section
set_option maxRecDepth 16384
noncomputable section

namespace Cert.Kernel2Ideal.Columns

open Cert.Kernel2Ideal Cert.Kernel2Ideal.Gen
open Idealize.ShloMosaic Idealize.ShloMosaic.TcCoe Idealize.SL Idealize.SL.Sem
open Cert.Reference2Ideal.Columns (home gelu mean layer gate entryOf product finished finished_apply product_apply)
open Cert.ReferenceIdeal.Rows (normed)

/-- One normalized row. -/
def unitRow (v g : Fin 1024 → Ideal .f32) (d : Fin 1024) : Ideal .f32 :=
  v d * Ideal.rsqrt (mean (fun d => v d * v d) + Ideal.ofBits .f32 0x358637BD#32) * g d

theorem normed_row (X : FVec Ideal S32768x1024 .f32) (G : FVec Ideal S1x1024 .f32) (q : Fin 32768) (d : Fin 1024) :
    normed X G (ix2 q d) = unitRow (fun d => X (ix2 q d)) (fun d => G (ix2 0 d)) d := by
  unfold normed unitRow mean
  pointwise

theorem pay1_apply (x : FVec Ideal S256x1024 .f32) (g : FVec Ideal S1x1024 .f32) (p : Fin 256) (d : Fin 1024) :
    k0_pay1 (F := Ideal) x g (ix2 p d) = unitRow (fun d => x (ix2 p d)) (fun d => g (ix2 0 d)) d := by
  unfold unitRow mean
  pointwise [k0_pay1]

/-- A row times one block of the weights. -/
def dot (v : FVec Ideal S256x1024 .bf16) (w : FVec Ideal S1024x1024 .bf16) (p : Fin 256) (d : Fin 1024) : Ideal .f32 :=
  ∑ k : Fin 1024, v (ix2 p k) * w (ix2 k d)

theorem pay2_apply (x : FVec Ideal S256x1024 .f32) (g : FVec Ideal S1x1024 .f32) (w : FVec Ideal S1024x1024 .bf16) (p : Fin 256) (d : Fin 1024) :
    k0_pay2 (F := Ideal) x g w (ix2 p d) = dot (k0_pay1 x g) w p d * Ideal.ofBits .f32 0x3E38AA3B#32 := by
  unfold dot
  pointwise [k0_pay2]

theorem pay3_apply (x : FVec Ideal S256x1024 .f32) (g : FVec Ideal S1x1024 .f32) (w : FVec Ideal S1024x1024 .bf16) (p : Fin 256) (d : Fin 1024) :
    k0_pay3 (F := Ideal) x g w (ix2 p d) = dot (k0_pay1 x g) w p d := by
  unfold dot
  pointwise [k0_pay3]

theorem pay4_apply (x : FVec Ideal S256x1024 .f32) (g : FVec Ideal S1x1024 .f32) (w : FVec Ideal S1024x1024 .bf16) (p : Fin 256) (d : Fin 1024) :
    k0_pay4 (F := Ideal) x g w (ix2 p d) = dot (k0_pay1 x g) w p d := by
  unfold dot
  pointwise [k0_pay4]

theorem pay5_apply (v : FVec Ideal S256x1024 .bf16) (w : FVec Ideal S1024x1024 .bf16) (p : Fin 256) (d : Fin 1024) :
    k0_pay5 (F := Ideal) v w (ix2 p d) = gelu (dot v w p d) := by
  unfold gelu dot
  pointwise [k0_pay5]
  rfl

theorem pay6_apply (v : FVec Ideal S256x1024 .bf16) (w : FVec Ideal S1024x1024 .bf16) (p : Fin 256) (d : Fin 1024) :
    k0_pay6 (F := Ideal) v w (ix2 p d) = gelu (dot v w p d) := by
  unfold gelu dot
  pointwise [k0_pay6]
  rfl

theorem pay7_apply (v : FVec Ideal S256x1024 .bf16) (w : FVec Ideal S1024x1024 .bf16) (p : Fin 256) :
    k0_pay7 (F := Ideal) v w (ix2 p 0) = mean (fun d => gelu (dot v w p d)) := by
  simp only [← pay6_apply]
  unfold mean
  pointwise [k0_pay7]

theorem pay8_apply (v : FVec Ideal S256x1024 .bf16) (w : FVec Ideal S1024x1024 .bf16) (p : Fin 256) (d : Fin 1024) :
    k0_pay8 (F := Ideal) v w (ix2 p d) = gelu (dot v w p d) - mean (fun d => gelu (dot v w p d)) := by
  rw [← pay6_apply, ← pay7_apply]
  pointwise [k0_pay8]

theorem pay9_apply (v : FVec Ideal S256x1024 .bf16) (w : FVec Ideal S1024x1024 .bf16) (p : Fin 256) (d : Fin 1024) :
    k0_pay9 (F := Ideal) v w (ix2 p d)
      = Ideal.rsqrt (mean (fun d => (gelu (dot v w p d) - mean (fun d => gelu (dot v w p d))) * (gelu (dot v w p d) - mean (fun d => gelu (dot v w p d))))
          + Ideal.ofBits .f32 0x358637BD#32) := by
  simp only [← pay8_apply]
  unfold mean
  pointwise [k0_pay9, k0_pay8]

theorem pay10_apply (v : FVec Ideal S256x1024 .bf16) (w : FVec Ideal S1024x1024 .bf16) (a b : FVec Ideal S1x1024 .f32) (p : Fin 256) (d : Fin 1024) :
    k0_pay10 (F := Ideal) (k0_pay8 v w) (k0_pay9 v w) a b (ix2 p d) = layer (fun d => gelu (dot v w p d)) (a (ix2 0 d)) (b (ix2 0 d)) d := by
  unfold layer
  rw [← pay8_apply, ← pay9_apply v w p d]
  pointwise [k0_pay10]

theorem pay11_apply (v : FVec Ideal S256x1024 .bf16) (w : FVec Ideal S1024x1024 .bf16) (p : Fin 256) (d : Fin 1024) :
    k0_pay11 (F := Ideal) v w (ix2 p d) = gate (dot v w p d) := by
  unfold gate dot
  pointwise [k0_pay11]
  rw [zero_sub]

theorem pay12_apply (v : FVec Ideal S256x1024 .bf16) (w : FVec Ideal S1024x1024 .bf16) (p : Fin 256) (d : Fin 1024) :
    k0_pay12 (F := Ideal) v w (ix2 p d) = gate (dot v w p d) := by
  unfold gate dot
  pointwise [k0_pay12]
  rw [zero_sub]

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The rows times the weights, over the whole arrays. -/
abbrev before (c : Dev nD) : FVec Ideal S32768x7168 .f32 :=
  product (normed (m ((c : Thread nD τ).loc main_arg0)) (m ((c : Thread nD τ).loc main_arg1))) (m ((c : Thread nD τ).loc main_arg2))

abbrev wanted (c : Dev nD) : FVec Ideal S32768x7168 .bf16 :=
  finished (before m c) (m ((c : Thread nD τ).loc main_arg3)) (m ((c : Thread nD τ).loc main_arg4))

/-- The normalized rows of one block. -/
abbrev rows (c : Dev nD) (t : Fin cfg0.N) : FVec Ideal S256x1024 .bf16 :=
  k0_pay1 (F := Ideal) (View.ld (iblk m c 0 t) r0_0) (View.ld (iblk m c 1 t) r0_1)

theorem ld_rows (x : FVec Ideal S256x1024 .f32) (p : Fin 256) (d : Fin 1024) :
    View.ld (Val := Elt Ideal) (e' := .f32) x r0_0 (ix2 p d) = x (ix2 p d) :=
  View.ld_unit_apply_of (Val := Elt Ideal) (e := .f32) x _ _ _ _ (ix2 p d) (fun a => by match a with | ⟨0, _⟩ => exact (Nat.zero_add _).symm | ⟨1, _⟩ => exact (Nat.zero_add _).symm)

theorem ld_line (x : FVec Ideal S1x1024 .f32) (d : Fin 1024) :
    View.ld (Val := Elt Ideal) (e' := .f32) x r0_1 (ix2 0 d) = x (ix2 0 d) :=
  View.ld_unit_apply_of (Val := Elt Ideal) (e := .f32) x _ _ _ _ (ix2 0 d) (fun a => by match a with | ⟨0, _⟩ => exact (Nat.zero_add _).symm | ⟨1, _⟩ => exact (Nat.zero_add _).symm)

/-- A load of 1024 columns of the weights from column `o` on. -/
theorem ld_columns (x : FVec Ideal S1024x7168 .bf16) (o : Nat) (inb : ∀ a, (![0, o] : Fin 2 → Nat) a + S1024x1024.size a ≤ S1024x7168.size a) (k d : Fin 1024) (j : Fin 7168) (hj : j.val = o + d.val) :
    View.ld (Val := Elt Ideal) (e' := .bf16) x (Rect.unit (s := S1024x7168) ![0, o] S1024x1024.size inb) (ix2 k d) = x (ix2 k j) :=
  View.ld_unit_apply_of (Val := Elt Ideal) (e := .bf16) x _ _ _ _ (ix2 k j) (fun a => by
    match a with
    | ⟨0, _⟩ => exact (Nat.zero_add _).symm
    | ⟨1, _⟩ => exact hj)

theorem rows_apply (c : Dev nD) (t : Fin cfg0.N) (p : Fin 256) (d : Fin 1024) (q : Fin 32768) (hq : q.val = t.val * 256 + p.val) :
    rows m c t (ix2 p d) = normed (m ((c : Thread nD τ).loc main_arg0)) (m ((c : Thread nD τ).loc main_arg1)) (ix2 q d) := by
  rw [normed_row]
  unfold rows
  rw [pay1_apply]
  have hx : ∀ d : Fin 1024, View.ld (iblk m c 0 t) r0_0 (ix2 p d) = m ((c : Thread nD τ).loc main_arg0) (ix2 q d) := fun d =>
    (ld_rows (iblk m c 0 t) p d).trans (by blk_ext [iblk, V_main_arg0, idx t])
  have hg : ∀ d : Fin 1024, View.ld (iblk m c 1 t) r0_1 (ix2 0 d) = m ((c : Thread nD τ).loc main_arg1) (ix2 0 d) := fun d =>
    (ld_line (iblk m c 1 t) d).trans (by blk_ext [iblk, V_main_arg1, idx t])
  simp only [hx, hg]

theorem block_apply (c : Dev nD) (t : Fin cfg0.N) (k : Fin 1024) (j : Fin 7168) :
    (iblk m c 2 t (ix2 k j) : Ideal .bf16) = m ((c : Thread nD τ).loc main_arg2) (ix2 k (source j)) := by
  refine Eq.trans ?_ (weights_apply (m ((c : Thread nD τ).loc main_arg2)) k j)
  rw [← entry]
  blk_ext [iblk, idx t]

/-- A row of a block times a stretch of the weights found there: an entry of the whole product, at the column the
    gathered column came from. -/
theorem dot_eq (c : Dev nD) (t : Fin cfg0.N) (o : Nat) (inb : ∀ a, (![0, o] : Fin 2 → Nat) a + S1024x1024.size a ≤ S1024x7168.size a)
    (p : Fin 256) (d : Fin 1024) (q : Fin 32768) (hq : q.val = t.val * 256 + p.val) (j : Fin 7168) (hj : j.val = o + d.val) :
    dot (rows m c t) (View.ld (iblk m c 2 t) (Rect.unit (s := S1024x7168) ![0, o] S1024x1024.size inb)) p d = before m c (ix2 q (source j)) := by
  unfold dot before
  rw [product_apply]
  refine Finset.sum_congr rfl fun k _ => ?_
  rw [rows_apply m c t p k q hq]
  refine congrArg _ ?_
  exact (ld_columns (iblk m c 2 t) o inb k d j hj).trans (block_apply m c t k j)

theorem source_eq (j : Fin 7168) (h : 2048 ≤ j.val) : source j = j := by
  unfold source
  rw [dif_neg (by omega), dif_neg (by omega)]

theorem final (c : Dev nD) : (dats m 0 c).arrAt 5 cfg0.N = wanted m c := by
  refine (dats m 0 c).arrAt_eq_of_covers 5 (wanted m c) (by decide +kernel) fun t hf y => ?_
  blk_simp
  rw [after0_5]
  have ht : t.val < 128 := t.isLt
  idx_vars y
  have hp := y0.isLt
  have hj := y1.isLt
  rw [show ((cfg0.win 5).blk t).view.emb (ix2 y0 y1) = ix2 (⟨t.val * 256 + y0.val, by omega⟩ : Fin 32768) y1 from by blk_ext [idx t]]
  unfold wanted
  rw [finished_apply]
  canon_tiles x h
  all_goals
    idx_vars x
    have e0 : y0 = x0 := Fin.ext h0
    subst e0
  case piece0 =>
    refine (pay12_apply (rows m c t) _ y0 x1).trans ?_
    rw [dot_eq m c t _ _ y0 x1 ⟨t.val * 256 + y0.val, by omega⟩ rfl y1 h1, source_eq y1 (by omega)]
    unfold entryOf
    rw [dif_neg (by omega), dif_neg (by omega), dif_neg (by omega), dif_neg (by omega), dif_neg (by omega)]
  case piece1 =>
    refine (pay11_apply (rows m c t) _ y0 x1).trans ?_
    rw [dot_eq m c t _ _ y0 x1 ⟨t.val * 256 + y0.val, by omega⟩ rfl y1 h1, source_eq y1 (by omega)]
    unfold entryOf
    rw [dif_neg (by omega), dif_neg (by omega), dif_neg (by omega), dif_neg (by omega), dif_neg (by omega)]
  case piece2 =>
    refine (pay10_apply (rows m c t) _ _ _ y0 x1).trans ?_
    unfold entryOf
    rw [dif_neg (by omega), dif_neg (by omega), dif_neg (by omega), dif_neg (by omega), dif_pos (by omega)]
    have row : ∀ d : Fin 1024, dot (rows m c t) (View.ld (iblk m c 2 t) r0_10) y0 d = before m c (ix2 (⟨t.val * 256 + y0.val, by omega⟩ : Fin 32768) (⟨4096 + d.val, by omega⟩ : Fin 7168)) := fun d => by
      rw [dot_eq m c t _ _ y0 d ⟨t.val * 256 + y0.val, by omega⟩ rfl ⟨4096 + d.val, by omega⟩ rfl, source_eq _ (by show 2048 ≤ 4096 + d.val; omega)]
    have ex : (⟨y1.val - 4096, by omega⟩ : Fin 1024) = x1 := Fin.ext (by show y1.val - 4096 = x1.val; omega)
    have ha : View.ld (iblk m c 3 t) r0_1 (ix2 0 x1) = m ((c : Thread nD τ).loc main_arg3) (ix2 0 x1) :=
      (ld_line (iblk m c 3 t) x1).trans (by blk_ext [iblk, V_main_arg3, idx t])
    have hb : View.ld (iblk m c 4 t) r0_1 (ix2 0 x1) = m ((c : Thread nD τ).loc main_arg4) (ix2 0 x1) :=
      (ld_line (iblk m c 4 t) x1).trans (by blk_ext [iblk, V_main_arg4, idx t])
    rw [ex, ha, hb]
    exact congrArg (fun r => layer r (m ((c : Thread nD τ).loc main_arg3) (ix2 0 x1)) (m ((c : Thread nD τ).loc main_arg4) (ix2 0 x1)) x1) (funext fun d => congrArg gelu (row d))
  case piece3 =>
    refine (pay5_apply (rows m c t) _ y0 x1).trans ?_
    rw [dot_eq m c t _ _ y0 x1 ⟨t.val * 256 + y0.val, by omega⟩ rfl y1 h1, source_eq y1 (by omega)]
    unfold entryOf
    rw [dif_neg (by omega), dif_neg (by omega), dif_neg (by omega), dif_pos (by omega)]
  case piece4 =>
    refine (pay4_apply _ _ _ y0 x1).trans ((dot_eq m c t 2048 _ y0 x1 ⟨t.val * 256 + y0.val, by omega⟩ rfl y1 h1).trans ?_)
    rw [source_eq y1 (by omega)]
    unfold entryOf
    rw [dif_neg (by omega), dif_neg (by omega), dif_pos (by omega)]
  case piece5 =>
    refine (pay3_apply _ _ _ y0 x1).trans ((dot_eq m c t 1024 _ y0 x1 ⟨t.val * 256 + y0.val, by omega⟩ rfl y1 h1).trans ?_)
    unfold entryOf source
    rw [dif_neg (by omega), dif_pos (by omega), dif_neg (by omega), dif_pos (by omega)]
  case piece6 =>
    refine (pay2_apply _ _ _ y0 x1).trans ((congrArg (· * Ideal.ofBits FTy.f32 1043900987#32) (dot_eq m c t 0 _ y0 x1 ⟨t.val * 256 + y0.val, by omega⟩ rfl y1 (h1.trans (Nat.zero_add _).symm))).trans ?_)
    show before m c _ * _ = _
    unfold entryOf source
    rw [dif_pos (by omega), dif_pos (by omega)]

end Cert.Kernel2Ideal.Columns

end
-- ==== Proof.Mixed.lean ====
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section
set_option maxRecDepth 16384
noncomputable section

namespace Cert.Kernel3Ideal.Mix

open Cert.Kernel3Ideal Cert.Kernel3Ideal.Gen
open Idealize.ShloMosaic Idealize.ShloMosaic.TcCoe Idealize.SL Idealize.SL.Sem

/-- Which entries of a mixing block are kept, as the kernel computes it. -/
def mask : IVec S128x128 1 := k0_pay6 k0_pay2 k0_pay3 k0_pay4 k0_pay5

/-- One entry of a mixed block: the gate's entry times the kept weights against the values, and the bias. -/
def tile (w : FVec Ideal S1x128x128 .f32) (v : FVec Ideal S128x128 .bf16) (b : FVec Ideal S1x128x1 .f32) (u : FVec Ideal S128x128 .bf16) (p d : Fin 128) : Ideal .bf16 :=
  u (ix2 p d) * (∑ x : Fin 128, Scalar.select (mask (ix2 p x)) (w (ix3 0 p x) * v (ix2 x d)) 0 + b (ix3 0 p 0))

theorem tile00 (w : FVec Ideal S1x128x128 .f32) (v u : FVec Ideal S128x128 .bf16) (b : FVec Ideal S1x128x1 .f32) (p d : Fin 128) :
    k0_pay8 (F := Ideal) k0_pay2 k0_pay3 k0_pay4 k0_pay5 w v b u (ix2 p d) = tile w v b u p d := by
  unfold tile mask
  pointwise [k0_pay8, k0_pay7]

theorem tile01 (w : FVec Ideal S1x128x128 .f32) (v u : FVec Ideal S128x128 .bf16) (b : FVec Ideal S1x128x1 .f32) (p d : Fin 128) :
    k0_pay10 (F := Ideal) (k0_pay9 k0_pay2 k0_pay3 k0_pay4 k0_pay5 w v b u) (ix2 p d) = tile w v b u p d := by
  unfold tile mask
  pointwise [k0_pay10, k0_pay9, k0_pay7]

theorem tile10 (w : FVec Ideal S1x128x128 .f32) (v u : FVec Ideal S128x128 .bf16) (b : FVec Ideal S1x128x1 .f32) (p d : Fin 128) :
    k0_pay12 (F := Ideal) mask w v b u (ix2 p d) = tile w v b u p d := by
  unfold tile mask
  pointwise [k0_pay12, k0_pay11]

theorem tile11 (w : FVec Ideal S1x128x128 .f32) (v u : FVec Ideal S128x128 .bf16) (b : FVec Ideal S1x128x1 .f32) (p d : Fin 128) :
    k0_pay13 (F := Ideal) mask w v b u (ix2 p d) = tile w v b u p d := by
  unfold tile mask
  pointwise [k0_pay13, k0_pay11]

theorem tile20 (w : FVec Ideal S1x128x128 .f32) (v u : FVec Ideal S128x128 .bf16) (b : FVec Ideal S1x128x1 .f32) (p d : Fin 128) :
    k0_pay15 (F := Ideal) mask w v b u (ix2 p d) = tile w v b u p d := by
  unfold tile mask
  pointwise [k0_pay15, k0_pay14]

theorem tile21 (w : FVec Ideal S1x128x128 .f32) (v u : FVec Ideal S128x128 .bf16) (b : FVec Ideal S1x128x1 .f32) (p d : Fin 128) :
    k0_pay16 (F := Ideal) mask w v b u (ix2 p d) = tile w v b u p d := by
  unfold tile mask
  pointwise [k0_pay16, k0_pay14]

theorem tile30 (w : FVec Ideal S1x128x128 .f32) (v u : FVec Ideal S128x128 .bf16) (b : FVec Ideal S1x128x1 .f32) (p d : Fin 128) :
    k0_pay18 (F := Ideal) mask w v b u (ix2 p d) = tile w v b u p d := by
  unfold tile mask
  pointwise [k0_pay18, k0_pay17]

theorem tile31 (w : FVec Ideal S1x128x128 .f32) (v u : FVec Ideal S128x128 .bf16) (b : FVec Ideal S1x128x1 .f32) (p d : Fin 128) :
    k0_pay19 (F := Ideal) mask w v b u (ix2 p d) = tile w v b u p d := by
  unfold tile mask
  pointwise [k0_pay19, k0_pay17]

theorem tile40 (w : FVec Ideal S1x128x128 .f32) (v u : FVec Ideal S128x128 .bf16) (b : FVec Ideal S1x128x1 .f32) (p d : Fin 128) :
    k0_pay22 (F := Ideal) mask (k0_pay20 w) (Scalar.ofBits .f32 0x00000000#32) v b u (ix2 p d) = tile w v b u p d := by
  unfold tile mask
  pointwise [k0_pay22, k0_pay21, k0_pay20]

theorem tile41 (w : FVec Ideal S1x128x128 .f32) (v u : FVec Ideal S128x128 .bf16) (b : FVec Ideal S1x128x1 .f32) (p d : Fin 128) :
    k0_pay23 (F := Ideal) mask (k0_pay20 w) (Scalar.ofBits .f32 0x00000000#32) v b u (ix2 p d) = tile w v b u p d := by
  unfold tile mask
  pointwise [k0_pay23, k0_pay21, k0_pay20]

theorem tile50 (w : FVec Ideal S1x128x128 .f32) (v u : FVec Ideal S128x128 .bf16) (b : FVec Ideal S1x128x1 .f32) (p d : Fin 128) :
    k0_pay25 (F := Ideal) (k0_pay24 mask w) v b u (ix2 p d) = tile w v b u p d := by
  unfold tile mask
  pointwise [k0_pay25, k0_pay24]

theorem tile51 (w : FVec Ideal S1x128x128 .f32) (v u : FVec Ideal S128x128 .bf16) (b : FVec Ideal S1x128x1 .f32) (p d : Fin 128) :
    k0_pay26 (F := Ideal) (k0_pay24 mask w) v b u (ix2 p d) = tile w v b u p d := by
  unfold tile mask
  pointwise [k0_pay26, k0_pay24]

theorem tile60 (w : FVec Ideal S1x128x128 .f32) (v u : FVec Ideal S128x128 .bf16) (b : FVec Ideal S1x128x1 .f32) (p d : Fin 128) :
    k0_pay28 (F := Ideal) (k0_pay27 mask w) v b u (ix2 p d) = tile w v b u p d := by
  unfold tile mask
  pointwise [k0_pay28, k0_pay27]

theorem tile61 (w : FVec Ideal S1x128x128 .f32) (v u : FVec Ideal S128x128 .bf16) (b : FVec Ideal S1x128x1 .f32) (p d : Fin 128) :
    k0_pay29 (F := Ideal) (k0_pay27 mask w) v b u (ix2 p d) = tile w v b u p d := by
  unfold tile mask
  pointwise [k0_pay29, k0_pay27]

theorem tile70 (w : FVec Ideal S1x128x128 .f32) (v u : FVec Ideal S128x128 .bf16) (b : FVec Ideal S1x128x1 .f32) (p d : Fin 128) :
    k0_pay32 (F := Ideal) (k0_pay31 mask w v) b u (ix2 p d) = tile w v b u p d := by
  unfold tile mask
  pointwise [k0_pay32, k0_pay31, k0_pay30]

theorem tile71 (w : FVec Ideal S1x128x128 .f32) (v u : FVec Ideal S128x128 .bf16) (b : FVec Ideal S1x128x1 .f32) (p d : Fin 128) :
    k0_pay33 (F := Ideal) (k0_pay30 mask w) v b u (ix2 p d) = tile w v b u p d := by
  unfold tile mask
  pointwise [k0_pay33, k0_pay30]

variable (m : (ℓ : Loc nD τ sig) → Buf (Elt Ideal) ℓ)

def piece71 (x0 x1 : FVec Ideal S256x1024 .bf16) (x6 : FVec Ideal S8x128x128 .f32) (x7 : FVec Ideal S8x128x1 .f32) : FVec Ideal S128x128 .bf16 :=
  k0_pay33 (F := Ideal) (k0_pay30 mask (View.ld (Val := Elt Ideal) (e' := .f32) x6 (Rect.unit (s := S8x128x128) ![7, 0, 0] ![1, 128, 128] inb_S8x128x128_S1x128x128_7_0_0))) (View.ld (Val := Elt Ideal) (e' := .bf16) x1 (Rect.unit (s := S256x1024) ![128, 896] ![128, 128] inb_S256x1024_S128x128_128_896)) (View.ld (Val := Elt Ideal) (e' := .f32) x7 (Rect.unit (s := S8x128x1) ![7, 0, 0] ![1, 128, 1] inb_S8x128x1_S1x128x1_7_0_0)) (View.ld (Val := Elt Ideal) (e' := .bf16) x0 (Rect.unit (s := S256x1024) ![128, 896] ![128, 128] inb_S256x1024_S128x128_128_896))

def piece70 (x0 x1 : FVec Ideal S256x1024 .bf16) (x6 : FVec Ideal S8x128x128 .f32) (x7 : FVec Ideal S8x128x1 .f32) : FVec Ideal S128x128 .bf16 :=
  k0_pay32 (F := Ideal) (k0_pay31 mask (View.ld (Val := Elt Ideal) (e' := .f32) x6 (Rect.unit (s := S8x128x128) ![7, 0, 0] ![1, 128, 128] inb_S8x128x128_S1x128x128_7_0_0)) (View.ld (Val := Elt Ideal) (e' := .bf16) x1 (Rect.unit (s := S256x1024) ![0, 896] ![128, 128] inb_S256x1024_S128x128_0_896))) (View.ld (Val := Elt Ideal) (e' := .f32) x7 (Rect.unit (s := S8x128x1) ![7, 0, 0] ![1, 128, 1] inb_S8x128x1_S1x128x1_7_0_0)) (View.ld (Val := Elt Ideal) (e' := .bf16) x0 (Rect.unit (s := S256x1024) ![0, 896] ![128, 128] inb_S256x1024_S128x128_0_896))

def piece61 (x0 x1 : FVec Ideal S256x1024 .bf16) (x6 : FVec Ideal S8x128x128 .f32) (x7 : FVec Ideal S8x128x1 .f32) : FVec Ideal S128x128 .bf16 :=
  k0_pay29 (F := Ideal) (k0_pay27 mask (View.ld (Val := Elt Ideal) (e' := .f32) x6 (Rect.unit (s := S8x128x128) ![6, 0, 0] ![1, 128, 128] inb_S8x128x128_S1x128x128_6_0_0))) (View.ld (Val := Elt Ideal) (e' := .bf16) x1 (Rect.unit (s := S256x1024) ![128, 768] ![128, 128] inb_S256x1024_S128x128_128_768)) (View.ld (Val := Elt Ideal) (e' := .f32) x7 (Rect.unit (s := S8x128x1) ![6, 0, 0] ![1, 128, 1] inb_S8x128x1_S1x128x1_6_0_0)) (View.ld (Val := Elt Ideal) (e' := .bf16) x0 (Rect.unit (s := S256x1024) ![128, 768] ![128, 128] inb_S256x1024_S128x128_128_768))

def piece60 (x0 x1 : FVec Ideal S256x1024 .bf16) (x6 : FVec Ideal S8x128x128 .f32) (x7 : FVec Ideal S8x128x1 .f32) : FVec Ideal S128x128 .bf16 :=
  k0_pay28 (F := Ideal) (k0_pay27 mask (View.ld (Val := Elt Ideal) (e' := .f32) x6 (Rect.unit (s := S8x128x128) ![6, 0, 0] ![1, 128, 128] inb_S8x128x128_S1x128x128_6_0_0))) (View.ld (Val := Elt Ideal) (e' := .bf16) x1 (Rect.unit (s := S256x1024) ![0, 768] ![128, 128] inb_S256x1024_S128x128_0_768)) (View.ld (Val := Elt Ideal) (e' := .f32) x7 (Rect.unit (s := S8x128x1) ![6, 0, 0] ![1, 128, 1] inb_S8x128x1_S1x128x1_6_0_0)) (View.ld (Val := Elt Ideal) (e' := .bf16) x0 (Rect.unit (s := S256x1024) ![0, 768] ![128, 128] inb_S256x1024_S128x128_0_768))

def piece51 (x0 x1 : FVec Ideal S256x1024 .bf16) (x6 : FVec Ideal S8x128x128 .f32) (x7 : FVec Ideal S8x128x1 .f32) : FVec Ideal S128x128 .bf16 :=
  k0_pay26 (F := Ideal) (k0_pay24 mask (View.ld (Val := Elt Ideal) (e' := .f32) x6 (Rect.unit (s := S8x128x128) ![5, 0, 0] ![1, 128, 128] inb_S8x128x128_S1x128x128_5_0_0))) (View.ld (Val := Elt Ideal) (e' := .bf16) x1 (Rect.unit (s := S256x1024) ![128, 640] ![128, 128] inb_S256x1024_S128x128_128_640)) (View.ld (Val := Elt Ideal) (e' := .f32) x7 (Rect.unit (s := S8x128x1) ![5, 0, 0] ![1, 128, 1] inb_S8x128x1_S1x128x1_5_0_0)) (View.ld (Val := Elt Ideal) (e' := .bf16) x0 (Rect.unit (s := S256x1024) ![128, 640] ![128, 128] inb_S256x1024_S128x128_128_640))

def piece50 (x0 x1 : FVec Ideal S256x1024 .bf16) (x6 : FVec Ideal S8x128x128 .f32) (x7 : FVec Ideal S8x128x1 .f32) : FVec Ideal S128x128 .bf16 :=
  k0_pay25 (F := Ideal) (k0_pay24 mask (View.ld (Val := Elt Ideal) (e' := .f32) x6 (Rect.unit (s := S8x128x128) ![5, 0, 0] ![1, 128, 128] inb_S8x128x128_S1x128x128_5_0_0))) (View.ld (Val := Elt Ideal) (e' := .bf16) x1 (Rect.unit (s := S256x1024) ![0, 640] ![128, 128] inb_S256x1024_S128x128_0_640)) (View.ld (Val := Elt Ideal) (e' := .f32) x7 (Rect.unit (s := S8x128x1) ![5, 0, 0] ![1, 128, 1] inb_S8x128x1_S1x128x1_5_0_0)) (View.ld (Val := Elt Ideal) (e' := .bf16) x0 (Rect.unit (s := S256x1024) ![0, 640] ![128, 128] inb_S256x1024_S128x128_0_640))

def piece41 (x0 x1 : FVec Ideal S256x1024 .bf16) (x6 : FVec Ideal S8x128x128 .f32) (x7 : FVec Ideal S8x128x1 .f32) : FVec Ideal S128x128 .bf16 :=
  k0_pay23 (F := Ideal) mask (k0_pay20 (View.ld (Val := Elt Ideal) (e' := .f32) x6 (Rect.unit (s := S8x128x128) ![4, 0, 0] ![1, 128, 128] inb_S8x128x128_S1x128x128_4_0_0))) (Scalar.ofBits .f32 0x00000000#32) (View.ld (Val := Elt Ideal) (e' := .bf16) x1 (Rect.unit (s := S256x1024) ![128, 512] ![128, 128] inb_S256x1024_S128x128_128_512)) (View.ld (Val := Elt Ideal) (e' := .f32) x7 (Rect.unit (s := S8x128x1) ![4, 0, 0] ![1, 128, 1] inb_S8x128x1_S1x128x1_4_0_0)) (View.ld (Val := Elt Ideal) (e' := .bf16) x0 (Rect.unit (s := S256x1024) ![128, 512] ![128, 128] inb_S256x1024_S128x128_128_512))

def piece40 (x0 x1 : FVec Ideal S256x1024 .bf16) (x6 : FVec Ideal S8x128x128 .f32) (x7 : FVec Ideal S8x128x1 .f32) : FVec Ideal S128x128 .bf16 :=
  k0_pay22 (F := Ideal) mask (k0_pay20 (View.ld (Val := Elt Ideal) (e' := .f32) x6 (Rect.unit (s := S8x128x128) ![4, 0, 0] ![1, 128, 128] inb_S8x128x128_S1x128x128_4_0_0))) (Scalar.ofBits .f32 0x00000000#32) (View.ld (Val := Elt Ideal) (e' := .bf16) x1 (Rect.unit (s := S256x1024) ![0, 512] ![128, 128] inb_S256x1024_S128x128_0_512)) (View.ld (Val := Elt Ideal) (e' := .f32) x7 (Rect.unit (s := S8x128x1) ![4, 0, 0] ![1, 128, 1] inb_S8x128x1_S1x128x1_4_0_0)) (View.ld (Val := Elt Ideal) (e' := .bf16) x0 (Rect.unit (s := S256x1024) ![0, 512] ![128, 128] inb_S256x1024_S128x128_0_512))

def piece31 (x0 x1 : FVec Ideal S256x1024 .bf16) (x6 : FVec Ideal S8x128x128 .f32) (x7 : FVec Ideal S8x128x1 .f32) : FVec Ideal S128x128 .bf16 :=
  k0_pay19 (F := Ideal) mask (View.ld (Val := Elt Ideal) (e' := .f32) x6 (Rect.unit (s := S8x128x128) ![3, 0, 0] ![1, 128, 128] inb_S8x128x128_S1x128x128_3_0_0)) (View.ld (Val := Elt Ideal) (e' := .bf16) x1 (Rect.unit (s := S256x1024) ![128, 384] ![128, 128] inb_S256x1024_S128x128_128_384)) (View.ld (Val := Elt Ideal) (e' := .f32) x7 (Rect.unit (s := S8x128x1) ![3, 0, 0] ![1, 128, 1] inb_S8x128x1_S1x128x1_3_0_0)) (View.ld (Val := Elt Ideal) (e' := .bf16) x0 (Rect.unit (s := S256x1024) ![128, 384] ![128, 128] inb_S256x1024_S128x128_128_384))

def piece30 (x0 x1 : FVec Ideal S256x1024 .bf16) (x6 : FVec Ideal S8x128x128 .f32) (x7 : FVec Ideal S8x128x1 .f32) : FVec Ideal S128x128 .bf16 :=
  k0_pay18 (F := Ideal) mask (View.ld (Val := Elt Ideal) (e' := .f32) x6 (Rect.unit (s := S8x128x128) ![3, 0, 0] ![1, 128, 128] inb_S8x128x128_S1x128x128_3_0_0)) (View.ld (Val := Elt Ideal) (e' := .bf16) x1 (Rect.unit (s := S256x1024) ![0, 384] ![128, 128] inb_S256x1024_S128x128_0_384)) (View.ld (Val := Elt Ideal) (e' := .f32) x7 (Rect.unit (s := S8x128x1) ![3, 0, 0] ![1, 128, 1] inb_S8x128x1_S1x128x1_3_0_0)) (View.ld (Val := Elt Ideal) (e' := .bf16) x0 (Rect.unit (s := S256x1024) ![0, 384] ![128, 128] inb_S256x1024_S128x128_0_384))

def piece21 (x0 x1 : FVec Ideal S256x1024 .bf16) (x6 : FVec Ideal S8x128x128 .f32) (x7 : FVec Ideal S8x128x1 .f32) : FVec Ideal S128x128 .bf16 :=
  k0_pay16 (F := Ideal) mask (View.ld (Val := Elt Ideal) (e' := .f32) x6 (Rect.unit (s := S8x128x128) ![2, 0, 0] ![1, 128, 128] inb_S8x128x128_S1x128x128_2_0_0)) (View.ld (Val := Elt Ideal) (e' := .bf16) x1 (Rect.unit (s := S256x1024) ![128, 256] ![128, 128] inb_S256x1024_S128x128_128_256)) (View.ld (Val := Elt Ideal) (e' := .f32) x7 (Rect.unit (s := S8x128x1) ![2, 0, 0] ![1, 128, 1] inb_S8x128x1_S1x128x1_2_0_0)) (View.ld (Val := Elt Ideal) (e' := .bf16) x0 (Rect.unit (s := S256x1024) ![128, 256] ![128, 128] inb_S256x1024_S128x128_128_256))

def piece20 (x0 x1 : FVec Ideal S256x1024 .bf16) (x6 : FVec Ideal S8x128x128 .f32) (x7 : FVec Ideal S8x128x1 .f32) : FVec Ideal S128x128 .bf16 :=
  k0_pay15 (F := Ideal) mask (View.ld (Val := Elt Ideal) (e' := .f32) x6 (Rect.unit (s := S8x128x128) ![2, 0, 0] ![1, 128, 128] inb_S8x128x128_S1x128x128_2_0_0)) (View.ld (Val := Elt Ideal) (e' := .bf16) x1 (Rect.unit (s := S256x1024) ![0, 256] ![128, 128] inb_S256x1024_S128x128_0_256)) (View.ld (Val := Elt Ideal) (e' := .f32) x7 (Rect.unit (s := S8x128x1) ![2, 0, 0] ![1, 128, 1] inb_S8x128x1_S1x128x1_2_0_0)) (View.ld (Val := Elt Ideal) (e' := .bf16) x0 (Rect.unit (s := S256x1024) ![0, 256] ![128, 128] inb_S256x1024_S128x128_0_256))

def piece11 (x0 x1 : FVec Ideal S256x1024 .bf16) (x6 : FVec Ideal S8x128x128 .f32) (x7 : FVec Ideal S8x128x1 .f32) : FVec Ideal S128x128 .bf16 :=
  k0_pay13 (F := Ideal) mask (View.ld (Val := Elt Ideal) (e' := .f32) x6 (Rect.unit (s := S8x128x128) ![1, 0, 0] ![1, 128, 128] inb_S8x128x128_S1x128x128_1_0_0)) (View.ld (Val := Elt Ideal) (e' := .bf16) x1 (Rect.unit (s := S256x1024) ![128, 128] ![128, 128] inb_S256x1024_S128x128_128_128)) (View.ld (Val := Elt Ideal) (e' := .f32) x7 (Rect.unit (s := S8x128x1) ![1, 0, 0] ![1, 128, 1] inb_S8x128x1_S1x128x1_1_0_0)) (View.ld (Val := Elt Ideal) (e' := .bf16) x0 (Rect.unit (s := S256x1024) ![128, 128] ![128, 128] inb_S256x1024_S128x128_128_128))

def piece10 (x0 x1 : FVec Ideal S256x1024 .bf16) (x6 : FVec Ideal S8x128x128 .f32) (x7 : FVec Ideal S8x128x1 .f32) : FVec Ideal S128x128 .bf16 :=
  k0_pay12 (F := Ideal) mask (View.ld (Val := Elt Ideal) (e' := .f32) x6 (Rect.unit (s := S8x128x128) ![1, 0, 0] ![1, 128, 128] inb_S8x128x128_S1x128x128_1_0_0)) (View.ld (Val := Elt Ideal) (e' := .bf16) x1 (Rect.unit (s := S256x1024) ![0, 128] ![128, 128] inb_S256x1024_S128x128_0_128)) (View.ld (Val := Elt Ideal) (e' := .f32) x7 (Rect.unit (s := S8x128x1) ![1, 0, 0] ![1, 128, 1] inb_S8x128x1_S1x128x1_1_0_0)) (View.ld (Val := Elt Ideal) (e' := .bf16) x0 (Rect.unit (s := S256x1024) ![0, 128] ![128, 128] inb_S256x1024_S128x128_0_128))

def piece01 (x0 x1 : FVec Ideal S256x1024 .bf16) (x6 : FVec Ideal S8x128x128 .f32) (x7 : FVec Ideal S8x128x1 .f32) : FVec Ideal S128x128 .bf16 :=
  k0_pay10 (F := Ideal) (k0_pay9 k0_pay2 k0_pay3 k0_pay4 k0_pay5 (View.ld (Val := Elt Ideal) (e' := .f32) x6 (Rect.unit (s := S8x128x128) ![0, 0, 0] ![1, 128, 128] inb_S8x128x128_S1x128x128_0_0_0)) (View.ld (Val := Elt Ideal) (e' := .bf16) x1 (Rect.unit (s := S256x1024) ![128, 0] ![128, 128] inb_S256x1024_S128x128_128_0)) (View.ld (Val := Elt Ideal) (e' := .f32) x7 (Rect.unit (s := S8x128x1) ![0, 0, 0] ![1, 128, 1] inb_S8x128x1_S1x128x1_0_0_0)) (View.ld (Val := Elt Ideal) (e' := .bf16) x0 (Rect.unit (s := S256x1024) ![128, 0] ![128, 128] inb_S256x1024_S128x128_128_0)))

def piece00 (x0 x1 : FVec Ideal S256x1024 .bf16) (x6 : FVec Ideal S8x128x128 .f32) (x7 : FVec Ideal S8x128x1 .f32) : FVec Ideal S128x128 .bf16 :=
  k0_pay8 (F := Ideal) k0_pay2 k0_pay3 k0_pay4 k0_pay5 (View.ld (Val := Elt Ideal) (e' := .f32) x6 (Rect.unit (s := S8x128x128) ![0, 0, 0] ![1, 128, 128] inb_S8x128x128_S1x128x128_0_0_0)) (View.ld (Val := Elt Ideal) (e' := .bf16) x1 (Rect.unit (s := S256x1024) ![0, 0] ![128, 128] inb_S256x1024_S128x128_0_0)) (View.ld (Val := Elt Ideal) (e' := .f32) x7 (Rect.unit (s := S8x128x1) ![0, 0, 0] ![1, 128, 1] inb_S8x128x1_S1x128x1_0_0_0)) (View.ld (Val := Elt Ideal) (e' := .bf16) x0 (Rect.unit (s := S256x1024) ![0, 0] ![128, 128] inb_S256x1024_S128x128_0_0))

/-- The sixteen mixed blocks of one block of rows, the last written first. -/
def blocks (x0 x1 : FVec Ideal S256x1024 .bf16) (x6 : FVec Ideal S8x128x128 .f32) (x7 : FVec Ideal S8x128x1 .f32) : List (View.Piece (Elt Ideal) S256x1024 .bf16) :=
  [⟨Rect.unit (s := S256x1024) ![128, 896] ![128, 128] inb_S256x1024_S128x128_128_896, piece71 x0 x1 x6 x7⟩,
    ⟨Rect.unit (s := S256x1024) ![0, 896] ![128, 128] inb_S256x1024_S128x128_0_896, piece70 x0 x1 x6 x7⟩,
    ⟨Rect.unit (s := S256x1024) ![128, 768] ![128, 128] inb_S256x1024_S128x128_128_768, piece61 x0 x1 x6 x7⟩,
    ⟨Rect.unit (s := S256x1024) ![0, 768] ![128, 128] inb_S256x1024_S128x128_0_768, piece60 x0 x1 x6 x7⟩,
    ⟨Rect.unit (s := S256x1024) ![128, 640] ![128, 128] inb_S256x1024_S128x128_128_640, piece51 x0 x1 x6 x7⟩,
    ⟨Rect.unit (s := S256x1024) ![0, 640] ![128, 128] inb_S256x1024_S128x128_0_640, piece50 x0 x1 x6 x7⟩,
    ⟨Rect.unit (s := S256x1024) ![128, 512] ![128, 128] inb_S256x1024_S128x128_128_512, piece41 x0 x1 x6 x7⟩,
    ⟨Rect.unit (s := S256x1024) ![0, 512] ![128, 128] inb_S256x1024_S128x128_0_512, piece40 x0 x1 x6 x7⟩,
    ⟨Rect.unit (s := S256x1024) ![128, 384] ![128, 128] inb_S256x1024_S128x128_128_384, piece31 x0 x1 x6 x7⟩,
    ⟨Rect.unit (s := S256x1024) ![0, 384] ![128, 128] inb_S256x1024_S128x128_0_384, piece30 x0 x1 x6 x7⟩,
    ⟨Rect.unit (s := S256x1024) ![128, 256] ![128, 128] inb_S256x1024_S128x128_128_256, piece21 x0 x1 x6 x7⟩,
    ⟨Rect.unit (s := S256x1024) ![0, 256] ![128, 128] inb_S256x1024_S128x128_0_256, piece20 x0 x1 x6 x7⟩,
    ⟨Rect.unit (s := S256x1024) ![128, 128] ![128, 128] inb_S256x1024_S128x128_128_128, piece11 x0 x1 x6 x7⟩,
    ⟨Rect.unit (s := S256x1024) ![0, 128] ![128, 128] inb_S256x1024_S128x128_0_128, piece10 x0 x1 x6 x7⟩,
    ⟨Rect.unit (s := S256x1024) ![128, 0] ![128, 128] inb_S256x1024_S128x128_128_0, piece01 x0 x1 x6 x7⟩,
    ⟨Rect.unit (s := S256x1024) ![0, 0] ![128, 128] inb_S256x1024_S128x128_0_0, piece00 x0 x1 x6 x7⟩]

/-- The buffer those blocks are written to. -/
def filled (x0 x1 : FVec Ideal S256x1024 .bf16) (x6 : FVec Ideal S8x128x128 .f32) (x7 : FVec Ideal S8x128x1 .f32) : FVec Ideal S256x1024 .bf16 :=
  View.canon (blocks x0 x1 x6 x7)

/-- One entry of that buffer. -/
def mixedAt (x0 x1 : FVec Ideal S256x1024 .bf16) (x6 : FVec Ideal S8x128x128 .f32) (x7 : FVec Ideal S8x128x1 .f32) (p : Fin 256) (j : Fin 1024) : Ideal .bf16 :=
  x0 (ix2 p j) * (∑ k : Fin 128, Scalar.select (mask (ix2 (⟨p.val % 128, by omega⟩ : Fin 128) k)) (x6 (ix3 (⟨j.val / 128, by omega⟩ : Fin 8) (⟨p.val % 128, by omega⟩ : Fin 128) k) * x1 (ix2 (⟨p.val / 128 * 128 + k.val, by omega⟩ : Fin 256) j)) 0
    + x7 (ix3 (⟨j.val / 128, by omega⟩ : Fin 8) (⟨p.val % 128, by omega⟩ : Fin 128) (0 : Fin 1)))

theorem tile_at (x0 x1 : FVec Ideal S256x1024 .bf16) (x6 : FVec Ideal S8x128x128 .f32) (x7 : FVec Ideal S8x128x1 .f32) (o s g : Nat)
    (ho : o % 128 = 0) (hs : s = 128 * g)
    (i6 : ∀ a, (![g, 0, 0] : Fin 3 → Nat) a + (![1, 128, 128] : Fin 3 → Nat) a ≤ S8x128x128.size a)
    (i7 : ∀ a, (![g, 0, 0] : Fin 3 → Nat) a + (![1, 128, 1] : Fin 3 → Nat) a ≤ S8x128x1.size a)
    (ib : ∀ a, (![o, s] : Fin 2 → Nat) a + (![128, 128] : Fin 2 → Nat) a ≤ S256x1024.size a)
    (p : Fin 256) (j : Fin 1024) (x d : Fin 128) (hp : p.val = o + x.val) (hj : j.val = s + d.val) :
    tile (View.ld (Val := Elt Ideal) (e' := .f32) x6 (Rect.unit (s := S8x128x128) ![g, 0, 0] ![1, 128, 128] i6))
      (View.ld (Val := Elt Ideal) (e' := .bf16) x1 (Rect.unit (s := S256x1024) ![o, s] ![128, 128] ib))
      (View.ld (Val := Elt Ideal) (e' := .f32) x7 (Rect.unit (s := S8x128x1) ![g, 0, 0] ![1, 128, 1] i7))
      (View.ld (Val := Elt Ideal) (e' := .bf16) x0 (Rect.unit (s := S256x1024) ![o, s] ![128, 128] ib)) x d = mixedAt x0 x1 x6 x7 p j := by
  have hx := x.isLt
  have hd := d.isLt
  have ex : (⟨p.val % 128, by omega⟩ : Fin 128) = x := Fin.ext (by show p.val % 128 = x.val; omega)
  have e6 : ∀ k : Fin 128, View.ld (Val := Elt Ideal) (e' := .f32) x6 (Rect.unit (s := S8x128x128) ![g, 0, 0] ![1, 128, 128] i6) (ix3 0 x k) = x6 (ix3 (⟨j.val / 128, by omega⟩ : Fin 8) x k) := fun k =>
    View.ld_unit_apply_of (Val := Elt Ideal) (e := .f32) x6 _ _ _ _ (ix3 (⟨j.val / 128, by omega⟩ : Fin 8) x k) (fun a => by
      match a with
      | ⟨0, _⟩ => show j.val / 128 = g + 0; omega
      | ⟨1, _⟩ => exact (Nat.zero_add _).symm
      | ⟨2, _⟩ => exact (Nat.zero_add _).symm)
  have e7 : View.ld (Val := Elt Ideal) (e' := .f32) x7 (Rect.unit (s := S8x128x1) ![g, 0, 0] ![1, 128, 1] i7) (ix3 0 x 0) = x7 (ix3 (⟨j.val / 128, by omega⟩ : Fin 8) x (0 : Fin 1)) :=
    View.ld_unit_apply_of (Val := Elt Ideal) (e := .f32) x7 _ _ _ _ (ix3 (⟨j.val / 128, by omega⟩ : Fin 8) x (0 : Fin 1)) (fun a => by
      match a with
      | ⟨0, _⟩ => show j.val / 128 = g + 0; omega
      | ⟨1, _⟩ => exact (Nat.zero_add _).symm
      | ⟨2, _⟩ => exact (Nat.zero_add _).symm)
  have e0 : View.ld (Val := Elt Ideal) (e' := .bf16) x0 (Rect.unit (s := S256x1024) ![o, s] ![128, 128] ib) (ix2 x d) = x0 (ix2 p j) :=
    View.ld_unit_apply_of (Val := Elt Ideal) (e := .bf16) x0 _ _ _ _ (ix2 p j) (fun a => by
      match a with
      | ⟨0, _⟩ => exact hp
      | ⟨1, _⟩ => exact hj)
  have e1 : ∀ k : Fin 128, View.ld (Val := Elt Ideal) (e' := .bf16) x1 (Rect.unit (s := S256x1024) ![o, s] ![128, 128] ib) (ix2 k d) = x1 (ix2 (⟨p.val / 128 * 128 + k.val, by omega⟩ : Fin 256) j) := fun k =>
    View.ld_unit_apply_of (Val := Elt Ideal) (e := .bf16) x1 _ _ _ _ (ix2 (⟨p.val / 128 * 128 + k.val, by omega⟩ : Fin 256) j) (fun a => by
      match a with
      | ⟨0, _⟩ => show p.val / 128 * 128 + k.val = o + k.val; omega
      | ⟨1, _⟩ => exact hj)
  unfold tile mixedAt
  simp only [e6, e7, e0, e1, ex]

theorem filled_apply (u v : FVec Ideal S256x1024 .bf16) (x6 : FVec Ideal S8x128x128 .f32) (x7 : FVec Ideal S8x128x1 .f32) (p : Fin 256) (j : Fin 1024) :
    filled u v x6 x7 (ix2 p j) = mixedAt u v x6 x7 p j := by
  unfold filled blocks
  canon_tiles x h
  all_goals idx_vars x
  case piece0 =>
    exact (tile71 _ _ _ _ x0 x1).trans (tile_at u v x6 x7 128 896 7 (by decide) (by decide) _ _ _ p j x0 x1 h0 h1)
  case piece1 =>
    exact (tile70 _ _ _ _ x0 x1).trans (tile_at u v x6 x7 0 896 7 (by decide) (by decide) _ _ _ p j x0 x1 (h0.trans (Nat.zero_add _).symm) h1)
  case piece2 =>
    exact (tile61 _ _ _ _ x0 x1).trans (tile_at u v x6 x7 128 768 6 (by decide) (by decide) _ _ _ p j x0 x1 h0 h1)
  case piece3 =>
    exact (tile60 _ _ _ _ x0 x1).trans (tile_at u v x6 x7 0 768 6 (by decide) (by decide) _ _ _ p j x0 x1 (h0.trans (Nat.zero_add _).symm) h1)
  case piece4 =>
    exact (tile51 _ _ _ _ x0 x1).trans (tile_at u v x6 x7 128 640 5 (by decide) (by decide) _ _ _ p j x0 x1 h0 h1)
  case piece5 =>
    exact (tile50 _ _ _ _ x0 x1).trans (tile_at u v x6 x7 0 640 5 (by decide) (by decide) _ _ _ p j x0 x1 (h0.trans (Nat.zero_add _).symm) h1)
  case piece6 =>
    exact (tile41 _ _ _ _ x0 x1).trans (tile_at u v x6 x7 128 512 4 (by decide) (by decide) _ _ _ p j x0 x1 h0 h1)
  case piece7 =>
    exact (tile40 _ _ _ _ x0 x1).trans (tile_at u v x6 x7 0 512 4 (by decide) (by decide) _ _ _ p j x0 x1 (h0.trans (Nat.zero_add _).symm) h1)
  case piece8 =>
    exact (tile31 _ _ _ _ x0 x1).trans (tile_at u v x6 x7 128 384 3 (by decide) (by decide) _ _ _ p j x0 x1 h0 h1)
  case piece9 =>
    exact (tile30 _ _ _ _ x0 x1).trans (tile_at u v x6 x7 0 384 3 (by decide) (by decide) _ _ _ p j x0 x1 (h0.trans (Nat.zero_add _).symm) h1)
  case piece10 =>
    exact (tile21 _ _ _ _ x0 x1).trans (tile_at u v x6 x7 128 256 2 (by decide) (by decide) _ _ _ p j x0 x1 h0 h1)
  case piece11 =>
    exact (tile20 _ _ _ _ x0 x1).trans (tile_at u v x6 x7 0 256 2 (by decide) (by decide) _ _ _ p j x0 x1 (h0.trans (Nat.zero_add _).symm) h1)
  case piece12 =>
    exact (tile11 _ _ _ _ x0 x1).trans (tile_at u v x6 x7 128 128 1 (by decide) (by decide) _ _ _ p j x0 x1 h0 h1)
  case piece13 =>
    exact (tile10 _ _ _ _ x0 x1).trans (tile_at u v x6 x7 0 128 1 (by decide) (by decide) _ _ _ p j x0 x1 (h0.trans (Nat.zero_add _).symm) h1)
  case piece14 =>
    exact (tile01 _ _ _ _ x0 x1).trans (tile_at u v x6 x7 128 0 0 (by decide) (by decide) _ _ _ p j x0 x1 h0 (h1.trans (Nat.zero_add _).symm))
  case piece15 =>
    exact (tile00 _ _ _ _ x0 x1).trans (tile_at u v x6 x7 0 0 0 (by decide) (by decide) _ _ _ p j x0 x1 (h0.trans (Nat.zero_add _).symm) (h1.trans (Nat.zero_add _).symm))

theorem left13 (c : Dev nD) (t : Fin cfg0.N) : (outsAt0 m c t).1 =
    k0_pay36 (F := Ideal) (k0_pay34 (iblk m c 4 t) (iblk m c 8 t)) (k0_pay35 (filled (iblk m c 0 t) (iblk m c 1 t) (iblk m c 6 t) (iblk m c 7 t)) (iblk m c 9 t)) (iblk m c 2 t) (iblk m c 3 t) (iblk m c 5 t) (iblk m c 10 t) := by
  unfold outsAt0
  frame_out
  refine congrArg (fun s => k0_pay36 (F := Ideal) (k0_pay34 (iblk m c 4 t) (iblk m c 8 t)) (k0_pay35 s (iblk m c 9 t)) (iblk m c 2 t) (iblk m c 3 t) (iblk m c 5 t) (iblk m c 10 t)) ?_
  rw [View.readCov_eq_canon']
  funext j
  have e : (Rect.unit (s := S256x1024) ![0, 0] ![256, 1024] inb_S256x1024_S256x1024_0_0).idx j = j := by
    funext a
    refine Fin.ext ((Rect.idx_unit_val _ _ _ _ _).trans ?_)
    match a with
    | ⟨0, _⟩ => exact Nat.zero_add _
    | ⟨1, _⟩ => exact Nat.zero_add _
  refine Eq.trans (congrArg _ e) ?_
  exact congrArg (fun l => View.canon l j) (rfl : _ = blocks (iblk m c 0 t) (iblk m c 1 t) (iblk m c 6 t) (iblk m c 7 t))

theorem left14 (c : Dev nD) (t : Fin cfg0.N) : (outsAt0 m c t).2.1 =
    k0_pay37 (F := Ideal) (k0_pay34 (iblk m c 4 t) (iblk m c 8 t)) (k0_pay35 (filled (iblk m c 0 t) (iblk m c 1 t) (iblk m c 6 t) (iblk m c 7 t)) (iblk m c 9 t)) (iblk m c 2 t) (iblk m c 3 t) (iblk m c 5 t) (iblk m c 10 t) (iblk m c 11 t) := by
  unfold outsAt0
  frame_out
  refine congrArg (fun s => k0_pay37 (F := Ideal) (k0_pay34 (iblk m c 4 t) (iblk m c 8 t)) (k0_pay35 s (iblk m c 9 t)) (iblk m c 2 t) (iblk m c 3 t) (iblk m c 5 t) (iblk m c 10 t) (iblk m c 11 t)) ?_
  rw [View.readCov_eq_canon']
  funext j
  have e : (Rect.unit (s := S256x1024) ![0, 0] ![256, 1024] inb_S256x1024_S256x1024_0_0).idx j = j := by
    funext a
    refine Fin.ext ((Rect.idx_unit_val _ _ _ _ _).trans ?_)
    match a with
    | ⟨0, _⟩ => exact Nat.zero_add _
    | ⟨1, _⟩ => exact Nat.zero_add _
  refine Eq.trans (congrArg _ e) ?_
  exact congrArg (fun l => View.canon l j) (rfl : _ = blocks (iblk m c 0 t) (iblk m c 1 t) (iblk m c 6 t) (iblk m c 7 t))

theorem left15 (c : Dev nD) (t : Fin cfg0.N) : (outsAt0 m c t).2.2 =
    k0_pay1 (F := Ideal) (k0_pay38 (k0_pay34 (iblk m c 4 t) (iblk m c 8 t)) (k0_pay35 (filled (iblk m c 0 t) (iblk m c 1 t) (iblk m c 6 t) (iblk m c 7 t)) (iblk m c 9 t)) (iblk m c 2 t) (iblk m c 3 t) (iblk m c 5 t) (iblk m c 10 t) (iblk m c 11 t)) (iblk m c 12 t) := by
  unfold outsAt0
  frame_out
  refine congrArg (fun s => k0_pay1 (F := Ideal) (k0_pay38 (k0_pay34 (iblk m c 4 t) (iblk m c 8 t)) (k0_pay35 s (iblk m c 9 t)) (iblk m c 2 t) (iblk m c 3 t) (iblk m c 5 t) (iblk m c 10 t) (iblk m c 11 t)) (iblk m c 12 t)) ?_
  rw [View.readCov_eq_canon']
  funext j
  have e : (Rect.unit (s := S256x1024) ![0, 0] ![256, 1024] inb_S256x1024_S256x1024_0_0).idx j = j := by
    funext a
    refine Fin.ext ((Rect.idx_unit_val _ _ _ _ _).trans ?_)
    match a with
    | ⟨0, _⟩ => exact Nat.zero_add _
    | ⟨1, _⟩ => exact Nat.zero_add _
  refine Eq.trans (congrArg _ e) ?_
  exact congrArg (fun l => View.canon l j) (rfl : _ = blocks (iblk m c 0 t) (iblk m c 1 t) (iblk m c 6 t) (iblk m c 7 t))

end Cert.Kernel3Ideal.Mix
end
-- ==== Proof.Merged.lean ====
/- The merged row read at an index from the reference's side: the mixed values, the two gated branches, the row they are added
   to, its normalization, and the row of queries. -/
module

public import proofs.«01_k».proof.Defs
public import proofs.«01_k».proof.Proof.Reference
public import proofs.«01_k».proof.Proof.Gen.Reference3Ideal.Run
public import Idealize.ShloMosaic.Lib.Pointwise
public import Idealize.ShloMosaic.Lib.Pipeline.ValueKit
public import Idealize.ShloMosaic.Lib.IdealHost

@[expose] public section
set_option maxRecDepth 16384
noncomputable section

namespace Cert.Reference3Ideal.Mix
open Cert.Reference3Ideal Cert.Reference3Ideal.Gen Cert.Reference3Ideal.Value Idealize.ShloMosaic Idealize.ShloMosaic.TcCoe Idealize.SL.Sem Idealize.ShloMosaic.StableHlo
open Cert.ReferenceIdeal.Rows (normed)

/-- The half of a block of 128 tokens each token is in. -/
def halves : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

/-- Which weights are kept. -/
def kept : IVec S128x128 1 :=
  cmpi .sge (broadcastInDim S128x128 ![0, 1] bcast_S128x1_S128x128_0_1 (broadcastInDim S128x1 ![0] bcast_S128_S128x1_0 halves)) (broadcastInDim S128x128 ![0, 1] bcast_S1x128_S128x128_0_1 (broadcastInDim S1x128 ![1] bcast_S128_S1x128_1 halves))

def kernels (W : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2 kept)) W (broadcastInDim S8x128x128 ![] bcast_S_S8x128x128 (sitofp .f32 (constantI S_ 32 0#32)))

/-- Each block of 128 tokens mixed by its group's kept weights. -/
def mixes (V : FVec Ideal S32768x1024 .f32) (W : FVec Ideal S8x128x128 .f32) (B : FVec Ideal S8x128 .f32) : FVec Ideal S32768x1024 .f32 :=
  shapeCast _ (addf (transpose S256x128x8x128 [1, 3, 0, 2] (Host.dotGeneral dot_S256x128x8x128_S8x128x128_S8x256x128x128_1_2_03_1_2_0 none (shapeCast _ V shapeCasts_S32768x1024_S256x128x8x128) (kernels W)) transposes_S8x256x128x128_S256x128x8x128_1_3_0_2) (broadcastInDim S256x128x8x128 ![0, 1, 2, 3] bcast_S1x128x8x1_S256x128x8x128_0_1_2_3 (broadcastInDim S1x128x8x1 ![1, 2] bcast_S128x8_S1x128x8x1_1_2 (transpose S128x8 [1, 0] B transposes_S8x128_S128x8_1_0)))) shapeCasts_S256x128x8x128_S32768x1024

/-- The last 4096 columns of the projected rows. -/
def last (P : FVec Ideal S32768x7168 .bf16) : FVec Ideal S32768x4096 .f32 :=
  extf .f32 (extractStridedSlice S32768x4096 ![0, 3072] P slices_S32768x7168_S32768x4096_0_3072) bitsLt_bf16_f32

def gated (P : FVec Ideal S32768x7168 .bf16) (W : FVec Ideal S8x128x128 .f32) (B : FVec Ideal S8x128 .f32) : FVec Ideal S32768x1024 .f32 :=
  mulf (extractStridedSlice S32768x1024 ![0, 0] (last P) slices_S32768x4096_S32768x1024_0_0) (mixes (extractStridedSlice S32768x1024 ![0, 1024] (last P) slices_S32768x4096_S32768x1024_0_1024) W B)

def times (X : FVec Ideal S32768x1024 .f32) (W : FVec Ideal S1024x1024 .f32) : FVec Ideal S32768x1024 .f32 :=
  Host.dotGeneral dot_S32768x1024_S1024x1024_S32768x1024_1_0_0_1_n_n none X W

def queries (X : FVec Ideal S32768x1024 .f32) (W : FVec Ideal S1024x2048 .f32) : FVec Ideal S32768x2048 .f32 :=
  Host.dotGeneral dot_S32768x1024_S1024x2048_S32768x2048_1_0_0_1_n_n none X W

def merged (P : FVec Ideal S32768x7168 .bf16) (a b : FVec Ideal S32768x1024 .f32) : FVec Ideal S32768x1024 .f32 :=
  addf (mulf (extractStridedSlice S32768x1024 ![0, 2048] (last P) slices_S32768x4096_S32768x1024_0_2048) a) (mulf (extractStridedSlice S32768x1024 ![0, 3072] (last P) slices_S32768x4096_S32768x1024_0_3072) b)

def hidden (P : FVec Ideal S32768x7168 .bf16) (Y : FVec Ideal S32768x1024 .bf16) (X : FVec Ideal S32768x1024 .f32) (W : FVec Ideal S8x128x128 .f32) (B : FVec Ideal S8x128 .f32) (Wa Wb Wo : FVec Ideal S1024x1024 .f32) : FVec Ideal S32768x1024 .f32 :=
  addf X (times (merged P (times (extf .f32 Y bitsLt_bf16_f32) Wa) (times (gated P W B) Wb)) Wo)

variable (m : (ℓ : Loc nD τ sig) → Buf (Elt Ideal) ℓ)

/-- The row every result is made from. -/
def row (c : Dev nD) : FVec Ideal S32768x1024 .f32 :=
  hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem res_eq1 (c : Dev nD) : res_out1 m c = normed (row m c) (m ((c.tc : Thread nD τ).loc main_arg8)) := rfl

theorem res_eq2 (c : Dev nD) : res_out2 m c = queries (normed (row m c) (m ((c.tc : Thread nD τ).loc main_arg8))) (m ((c.tc : Thread nD τ).loc main_arg9)) := rfl

theorem halves_apply : ∀ i : Fin 128, halves (ix1 i) = BitVec.ofNat 32 (i.val / 64) := by
  decide +kernel

theorem sge_halves : ∀ a b : Fin 2, Scalar.cmpi .sge (BitVec.ofNat 32 a.val) (BitVec.ofNat 32 b.val) = if b.val ≤ a.val then 1#1 else 0#1 := by
  decide +kernel

theorem kept_apply (p k : Fin 128) : kept (ix2 p k) = if k.val / 64 ≤ p.val / 64 then 1#1 else 0#1 := by
  refine Eq.trans ?_ (sge_halves ⟨p.val / 64, by omega⟩ ⟨k.val / 64, by omega⟩)
  rw [← halves_apply, ← halves_apply]
  unfold kept
  pointwise
  rfl

/-- A weight where it is kept. -/
def keep (p k : Fin 128) (a : Ideal .f32) : Ideal .f32 := if k.val / 64 ≤ p.val / 64 then a else 0

theorem kernels_apply (W : FVec Ideal S8x128x128 .f32) (g : Fin 8) (p k : Fin 128) : kernels W (ix3 g p k) = keep p k (W (ix3 g p k)) := by
  have h : kernels W (ix3 g p k) = Scalar.select (kept (ix2 p k)) (W (ix3 g p k)) 0 := by
    unfold kernels
    pointwise
    exact congrArg (Scalar.select _ _) (by show (((0 : Int) : ℝ) : EReal) = 0; simp)
  rw [h, kept_apply]
  unfold keep
  split <;> rfl

theorem mixes_apply (V : FVec Ideal S32768x1024 .f32) (W : FVec Ideal S8x128x128 .f32) (B : FVec Ideal S8x128 .f32) (q : Fin 32768) (j : Fin 1024) :
    mixes V W B (ix2 q j) = ∑ k : Fin 128, V (ix2 (⟨q.val / 128 * 128 + k.val, by omega⟩ : Fin 32768) j) * kernels W (ix3 (⟨j.val / 128, by omega⟩ : Fin 8) (⟨q.val % 128, by omega⟩ : Fin 128) k)
      + B (ix2 (⟨j.val / 128, by omega⟩ : Fin 8) (⟨q.val % 128, by omega⟩ : Fin 128)) := by
  unfold mixes
  pointwise

theorem last_apply (P : FVec Ideal S32768x7168 .bf16) (q : Fin 32768) (j : Fin 4096) :
    last P (ix2 q j) = P (ix2 q (⟨3072 + j.val, by omega⟩ : Fin 7168)) := by
  unfold last
  pointwise

theorem times_apply (X : FVec Ideal S32768x1024 .f32) (W : FVec Ideal S1024x1024 .f32) (q : Fin 32768) (j : Fin 1024) :
    times X W (ix2 q j) = ∑ k : Fin 1024, X (ix2 q k) * W (ix2 k j) := by
  unfold times
  pointwise

theorem queries_apply (X : FVec Ideal S32768x1024 .f32) (W : FVec Ideal S1024x2048 .f32) (q : Fin 32768) (j : Fin 2048) :
    queries X W (ix2 q j) = ∑ k : Fin 1024, X (ix2 q k) * W (ix2 k j) := by
  unfold queries
  pointwise

theorem merged_apply (P : FVec Ideal S32768x7168 .bf16) (a b : FVec Ideal S32768x1024 .f32) (q : Fin 32768) (j : Fin 1024) :
    merged P a b (ix2 q j) = P (ix2 q (⟨5120 + j.val, by omega⟩ : Fin 7168)) * a (ix2 q j) + P (ix2 q (⟨6144 + j.val, by omega⟩ : Fin 7168)) * b (ix2 q j) := by
  unfold merged last
  pointwise
  simp only [← Nat.add_assoc]

theorem gated_apply (P : FVec Ideal S32768x7168 .bf16) (W : FVec Ideal S8x128x128 .f32) (B : FVec Ideal S8x128 .f32) (q : Fin 32768) (j : Fin 1024) :
    gated P W B (ix2 q j) = P (ix2 q (⟨3072 + j.val, by omega⟩ : Fin 7168)) *
      (∑ k : Fin 128, P (ix2 (⟨q.val / 128 * 128 + k.val, by omega⟩ : Fin 32768) (⟨4096 + j.val, by omega⟩ : Fin 7168)) * keep (⟨q.val % 128, by omega⟩ : Fin 128) k (W (ix3 (⟨j.val / 128, by omega⟩ : Fin 8) (⟨q.val % 128, by omega⟩ : Fin 128) k))
        + B (ix2 (⟨j.val / 128, by omega⟩ : Fin 8) (⟨q.val % 128, by omega⟩ : Fin 128))) := by
  have h : gated P W B (ix2 q j) = P (ix2 q (⟨3072 + j.val, by omega⟩ : Fin 7168)) * mixes (extractStridedSlice S32768x1024 ![0, 1024] (last P) slices_S32768x4096_S32768x1024_0_1024) W B (ix2 q j) := by
    unfold gated last
    pointwise
  rw [h, mixes_apply]
  refine congrArg (fun s => _ * (s + _)) (Finset.sum_congr rfl fun k _ => ?_)
  rw [kernels_apply]
  refine congrArg (· * _) ?_
  unfold last
  pointwise
  simp only [← Nat.add_assoc]

theorem hidden_apply (P : FVec Ideal S32768x7168 .bf16) (Y : FVec Ideal S32768x1024 .bf16) (X : FVec Ideal S32768x1024 .f32) (W : FVec Ideal S8x128x128 .f32) (B : FVec Ideal S8x128 .f32) (Wa Wb Wo : FVec Ideal S1024x1024 .f32) (q : Fin 32768) (j : Fin 1024) :
    hidden P Y X W B Wa Wb Wo (ix2 q j) = X (ix2 q j) + ∑ k : Fin 1024, (P (ix2 q (⟨5120 + k.val, by omega⟩ : Fin 7168)) * (∑ l : Fin 1024, Y (ix2 q l) * Wa (ix2 l k)) + P (ix2 q (⟨6144 + k.val, by omega⟩ : Fin 7168)) * (∑ l : Fin 1024, gated P W B (ix2 q l) * Wb (ix2 l k))) * Wo (ix2 k j) := by
  have h : hidden P Y X W B Wa Wb Wo (ix2 q j) = X (ix2 q j) + times (merged P (times (extf .f32 Y bitsLt_bf16_f32) Wa) (times (gated P W B) Wb)) Wo (ix2 q j) := by
    unfold hidden
    pointwise
  rw [h, times_apply]
  refine congrArg (X (ix2 q j) + ·) (Finset.sum_congr rfl fun k _ => ?_)
  rw [merged_apply, times_apply, times_apply]
  rfl

end Cert.Reference3Ideal.Mix

end
-- ==== Proof.Merging.lean ====
/- The kernel of the merge against the reference of the merge: each block of rows it leaves is the reference's rows at the
   block's place. -/
module

public import proofs.«01_k».proof.Defs
public import proofs.«01_k».proof.Proof.Mixed
public import proofs.«01_k».proof.Proof.Merged
public import proofs.«01_k».proof.Proof.Inproj

@[expose] public section
set_option maxRecDepth 16384
noncomputable section

namespace Cert.Kernel3Ideal.Mix

open Cert.Kernel3Ideal Cert.Kernel3Ideal.Gen
open Idealize.ShloMosaic Idealize.ShloMosaic.TcCoe Idealize.SL Idealize.SL.Sem
open Cert.Reference3Ideal.Mix (keep sge_halves gated hidden queries times)
open Cert.ReferenceIdeal.Rows (normed)

/-- The half of its block each column of the mask is in, as the kernel computes it. -/
def columnHalf : IVec S128x128 32 :=
  select (andi k0_pay4 k0_pay5) (subi k0_pay3 (broadcast S128x128 1#32)) k0_pay3

theorem rowHalf_apply : ∀ p : Fin 128, k0_pay2 (ix2 p (0 : Fin 128)) = BitVec.ofNat 32 (p.val / 64) := by
  decide +kernel

theorem columnHalf_apply : ∀ k : Fin 128, columnHalf (ix2 (0 : Fin 128) k) = BitVec.ofNat 32 (k.val / 64) := by
  decide +kernel

theorem rowHalf_eq (p k : Fin 128) : k0_pay2 (ix2 p k) = k0_pay2 (ix2 p (0 : Fin 128)) := by
  pointwise [k0_pay2]

theorem columnHalf_eq (p k : Fin 128) : columnHalf (ix2 p k) = columnHalf (ix2 (0 : Fin 128) k) := by
  unfold columnHalf
  pointwise [k0_pay3, k0_pay4, k0_pay5]

theorem mask_apply (p k : Fin 128) : mask (ix2 p k) = if k.val / 64 ≤ p.val / 64 then 1#1 else 0#1 := by
  refine Eq.trans ?_ (sge_halves ⟨p.val / 64, by omega⟩ ⟨k.val / 64, by omega⟩)
  rw [← rowHalf_apply, ← columnHalf_apply, ← rowHalf_eq p k, ← columnHalf_eq p k]
  rfl

theorem select_mask (p k : Fin 128) (w v : Ideal .f32) : Scalar.select (mask (ix2 p k)) (w * v) 0 = v * keep p k w := by
  rw [mask_apply]
  unfold keep
  split
  · exact mul_comm (G := EReal) w v
  · exact (mul_zero (M₀ := EReal) v).symm

/-- One row of a block times one column. -/
def dot (v : FVec Ideal S256x1024 .bf16) (w : FVec Ideal S1024x1024 .bf16) (p : Fin 256) (d : Fin 1024) : Ideal .f32 :=
  ∑ k : Fin 1024, v (ix2 p k) * w (ix2 k d)

theorem pay34_apply (v : FVec Ideal S256x1024 .bf16) (w : FVec Ideal S1024x1024 .bf16) (p : Fin 256) (d : Fin 1024) :
    k0_pay34 (F := Ideal) v w (ix2 p d) = dot v w p d := by
  unfold dot
  pointwise [k0_pay34]

theorem pay35_apply (v : FVec Ideal S256x1024 .bf16) (w : FVec Ideal S1024x1024 .bf16) (p : Fin 256) (d : Fin 1024) :
    k0_pay35 (F := Ideal) v w (ix2 p d) = dot v w p d := by
  unfold dot
  pointwise [k0_pay35]

theorem pay36_apply (a b : FVec Ideal S256x1024 .f32) (ga gb : FVec Ideal S256x1024 .bf16) (x : FVec Ideal S256x1024 .f32) (w : FVec Ideal S1024x1024 .bf16) (p : Fin 256) (d : Fin 1024) :
    k0_pay36 (F := Ideal) a b ga gb x w (ix2 p d) = x (ix2 p d) + ∑ k : Fin 1024, (ga (ix2 p k) * a (ix2 p k) + gb (ix2 p k) * b (ix2 p k)) * w (ix2 k d) := by
  pointwise [k0_pay36]

theorem pay37_apply (a b : FVec Ideal S256x1024 .f32) (ga gb : FVec Ideal S256x1024 .bf16) (x : FVec Ideal S256x1024 .f32) (w : FVec Ideal S1024x1024 .bf16) (g : FVec Ideal S1x1024 .f32) (p : Fin 256) (d : Fin 1024) :
    k0_pay37 (F := Ideal) a b ga gb x w g (ix2 p d) = Cert.Kernel2Ideal.Columns.unitRow (fun d => k0_pay36 (F := Ideal) a b ga gb x w (ix2 p d)) (fun d => g (ix2 0 d)) d := by
  unfold Cert.Kernel2Ideal.Columns.unitRow Cert.Reference2Ideal.Columns.mean
  pointwise [k0_pay37]

theorem pay1_apply (v : FVec Ideal S256x1024 .bf16) (w : FVec Ideal S1024x2048 .bf16) (p : Fin 256) (d : Fin 2048) :
    k0_pay1 (F := Ideal) v w (ix2 p d) = ∑ k : Fin 1024, v (ix2 p k) * w (ix2 k d) := by
  pointwise [k0_pay1]

variable (m : (ℓ : Loc nD τ sig) → Buf (Elt Ideal) ℓ)

theorem entry7 (c : Dev nD) : (V m c main_v0 : FVec Ideal S8x128x1 .f32) = broadcastInDim S8x128x1 ![0, 1] bcast_S8x128_S8x128x1_0_1 (m ((c : Thread nD τ).loc main_arg4)) := by
  chain_rfl

theorem entry8 (c : Dev nD) : (V m c main_v1 : FVec Ideal S1024x1024 .bf16) = truncf (F := Ideal) .bf16 (m ((c : Thread nD τ).loc main_arg5)) bitsLt_bf16_f32 := by
  chain_rfl

theorem entry9 (c : Dev nD) : (V m c main_v2 : FVec Ideal S1024x1024 .bf16) = truncf (F := Ideal) .bf16 (m ((c : Thread nD τ).loc main_arg6)) bitsLt_bf16_f32 := by
  chain_rfl

theorem entry10 (c : Dev nD) : (V m c main_v3 : FVec Ideal S1024x1024 .bf16) = truncf (F := Ideal) .bf16 (m ((c : Thread nD τ).loc main_arg7)) bitsLt_bf16_f32 := by
  chain_rfl

theorem entry12 (c : Dev nD) : (V m c main_v4 : FVec Ideal S1024x2048 .bf16) = truncf (F := Ideal) .bf16 (m ((c : Thread nD τ).loc main_arg9)) bitsLt_bf16_f32 := by
  chain_rfl

theorem idx : ∀ t : Fin cfg0.N, win0_0.index t = ![t.val, 3] ∧ win0_1.index t = ![t.val, 4] ∧ win0_2.index t = ![t.val, 5] ∧ win0_3.index t = ![t.val, 6]
    ∧ win0_4.index t = ![t.val, 0] ∧ win0_5.index t = ![t.val, 0] ∧ win0_6.index t = ![0, 0, 0] ∧ win0_7.index t = ![0, 0, 0] ∧ win0_8.index t = ![0, 0]
    ∧ win0_9.index t = ![0, 0] ∧ win0_10.index t = ![0, 0] ∧ win0_11.index t = ![0, 0] ∧ win0_12.index t = ![0, 0]
    ∧ win0_13.index t = ![t.val, 0] ∧ win0_14.index t = ![t.val, 0] ∧ win0_15.index t = ![t.val, 0] :=
  (by decide +kernel : ∀ t : Fin grid0.N, _)

section reads
variable (c : Dev nD) (t : Fin cfg0.N) (p : Fin 256) (q : Fin 32768) (hq : q.val = t.val * 256 + p.val) (j : Fin 1024)
include hq

theorem at0 : (iblk m c 0 t (ix2 p j) : Ideal .bf16) = m ((c : Thread nD τ).loc main_arg0) (ix2 q (⟨3072 + j.val, by omega⟩ : Fin 7168)) := by
  blk_ext [iblk, V_main_arg0, idx t]

theorem at1 : (iblk m c 1 t (ix2 p j) : Ideal .bf16) = m ((c : Thread nD τ).loc main_arg0) (ix2 q (⟨4096 + j.val, by omega⟩ : Fin 7168)) := by
  blk_ext [iblk, V_main_arg0, idx t]

theorem at2 : (iblk m c 2 t (ix2 p j) : Ideal .bf16) = m ((c : Thread nD τ).loc main_arg0) (ix2 q (⟨5120 + j.val, by omega⟩ : Fin 7168)) := by
  blk_ext [iblk, V_main_arg0, idx t]

theorem at3 : (iblk m c 3 t (ix2 p j) : Ideal .bf16) = m ((c : Thread nD τ).loc main_arg0) (ix2 q (⟨6144 + j.val, by omega⟩ : Fin 7168)) := by
  blk_ext [iblk, V_main_arg0, idx t]

theorem at4 : (iblk m c 4 t (ix2 p j) : Ideal .bf16) = m ((c : Thread nD τ).loc main_arg1) (ix2 q j) := by
  blk_ext [iblk, V_main_arg1, idx t]

theorem at5 : (iblk m c 5 t (ix2 p j) : Ideal .f32) = m ((c : Thread nD τ).loc main_arg2) (ix2 q j) := by
  blk_ext [iblk, V_main_arg2, idx t]

end reads

theorem at6 (c : Dev nD) (t : Fin cfg0.N) (g : Fin 8) (p k : Fin 128) : (iblk m c 6 t (ix3 g p k) : Ideal .f32) = m ((c : Thread nD τ).loc main_arg3) (ix3 g p k) := by
  blk_ext [iblk, V_main_arg3, idx t]

theorem at7 (c : Dev nD) (t : Fin cfg0.N) (g : Fin 8) (p : Fin 128) : (iblk m c 7 t (ix3 g p (0 : Fin 1)) : Ideal .f32) = m ((c : Thread nD τ).loc main_arg4) (ix2 g p) := by
  have h : broadcastInDim S8x128x1 ![0, 1] bcast_S8x128_S8x128x1_0_1 (m ((c : Thread nD τ).loc main_arg4) : FVec Ideal S8x128 .f32) (ix3 g p (0 : Fin 1)) = m ((c : Thread nD τ).loc main_arg4) (ix2 g p) := by
    pointwise
  refine Eq.trans ?_ h
  rw [← entry7]
  blk_ext [iblk, idx t]

theorem at8 (c : Dev nD) (t : Fin cfg0.N) (k j : Fin 1024) : (iblk m c 8 t (ix2 k j) : Ideal .bf16) = m ((c : Thread nD τ).loc main_arg5) (ix2 k j) := by
  show _ = truncf (F := Ideal) .bf16 (m ((c : Thread nD τ).loc main_arg5)) bitsLt_bf16_f32 (ix2 k j)
  rw [← entry8]
  blk_ext [iblk, idx t]

theorem at9 (c : Dev nD) (t : Fin cfg0.N) (k j : Fin 1024) : (iblk m c 9 t (ix2 k j) : Ideal .bf16) = m ((c : Thread nD τ).loc main_arg6) (ix2 k j) := by
  show _ = truncf (F := Ideal) .bf16 (m ((c : Thread nD τ).loc main_arg6)) bitsLt_bf16_f32 (ix2 k j)
  rw [← entry9]
  blk_ext [iblk, idx t]

theorem at10 (c : Dev nD) (t : Fin cfg0.N) (k j : Fin 1024) : (iblk m c 10 t (ix2 k j) : Ideal .bf16) = m ((c : Thread nD τ).loc main_arg7) (ix2 k j) := by
  show _ = truncf (F := Ideal) .bf16 (m ((c : Thread nD τ).loc main_arg7)) bitsLt_bf16_f32 (ix2 k j)
  rw [← entry10]
  blk_ext [iblk, idx t]

theorem at11 (c : Dev nD) (t : Fin cfg0.N) (j : Fin 1024) : (iblk m c 11 t (ix2 0 j) : Ideal .f32) = m ((c : Thread nD τ).loc main_arg8) (ix2 0 j) := by
  blk_ext [iblk, V_main_arg8, idx t]

theorem at12 (c : Dev nD) (t : Fin cfg0.N) (k : Fin 1024) (j : Fin 2048) : (iblk m c 12 t (ix2 k j) : Ideal .bf16) = m ((c : Thread nD τ).loc main_arg9) (ix2 k j) := by
  show _ = truncf (F := Ideal) .bf16 (m ((c : Thread nD τ).loc main_arg9)) bitsLt_bf16_f32 (ix2 k j)
  rw [← entry12]
  blk_ext [iblk, idx t]

/-- The reference's row every result is made from, of this program's arguments. -/
abbrev wanted13 (c : Dev nD) : FVec Ideal S32768x1024 .f32 :=
  hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

abbrev wanted14 (c : Dev nD) : FVec Ideal S32768x1024 .f32 :=
  normed (wanted13 m c) (m ((c : Thread nD τ).loc main_arg8))

abbrev wanted15 (c : Dev nD) : FVec Ideal S32768x2048 .f32 :=
  queries (wanted14 m c) (m ((c : Thread nD τ).loc main_arg9))

/-- The gated rows of one block. -/
abbrev mixed (c : Dev nD) (t : Fin cfg0.N) : FVec Ideal S256x1024 .bf16 :=
  filled (iblk m c 0 t) (iblk m c 1 t) (iblk m c 6 t) (iblk m c 7 t)

theorem mixed_apply (c : Dev nD) (t : Fin cfg0.N) (p : Fin 256) (q : Fin 32768) (hq : q.val = t.val * 256 + p.val) (j : Fin 1024) :
    mixed m c t (ix2 p j) = gated (m ((c : Thread nD τ).loc main_arg0)) (m ((c : Thread nD τ).loc main_arg3)) (m ((c : Thread nD τ).loc main_arg4)) (ix2 q j) := by
  rw [Cert.Reference3Ideal.Mix.gated_apply]
  refine (filled_apply _ _ _ _ p j).trans ?_
  unfold mixedAt
  have ep : (⟨p.val % 128, by omega⟩ : Fin 128) = ⟨q.val % 128, by omega⟩ := Fin.ext (by show p.val % 128 = q.val % 128; omega)
  rw [at0 m c t p q hq j, at7, ep]
  refine congrArg (fun s : Ideal .bf16 => (_ * (s + _) : Ideal .bf16)) (Finset.sum_congr rfl fun k _ => ?_)
  rw [at6, at1 m c t _ (⟨q.val / 128 * 128 + k.val, by omega⟩ : Fin 32768) (by show q.val / 128 * 128 + k.val = t.val * 256 + (p.val / 128 * 128 + k.val); omega) j]
  exact select_mask _ k _ _

/-- One row of the branch's values times one column of its weights, over the whole arrays. -/
def branch (Y : FVec Ideal S32768x1024 .bf16) (W : FVec Ideal S1024x1024 .f32) (q : Fin 32768) (k : Fin 1024) : Ideal .f32 :=
  ∑ l : Fin 1024, Y (ix2 q l) * W (ix2 l k)

theorem block_apply (c : Dev nD) (t : Fin cfg0.N) (p : Fin 256) (q : Fin 32768) (hq : q.val = t.val * 256 + p.val) (j : Fin 1024) :
    k0_pay36 (F := Ideal) (k0_pay34 (iblk m c 4 t) (iblk m c 8 t)) (k0_pay35 (mixed m c t) (iblk m c 9 t)) (iblk m c 2 t) (iblk m c 3 t) (iblk m c 5 t) (iblk m c 10 t) (ix2 p j) = wanted13 m c (ix2 q j) := by
  refine (pay36_apply _ _ (iblk m c 2 t) (iblk m c 3 t) (iblk m c 5 t) (iblk m c 10 t) p j).trans ?_
  unfold wanted13
  rw [Cert.Reference3Ideal.Mix.hidden_apply, at5 m c t p q hq j]
  refine congrArg (fun s : Ideal .f32 => (_ + s : Ideal .f32)) (Finset.sum_congr rfl fun k _ => ?_)
  rw [at2 m c t p q hq k, at3 m c t p q hq k, at10]
  have ha : k0_pay34 (F := Ideal) (iblk m c 4 t) (iblk m c 8 t) (ix2 p k) = branch (m ((c : Thread nD τ).loc main_arg1)) (m ((c : Thread nD τ).loc main_arg5)) q k := by
    refine (pay34_apply (iblk m c 4 t) (iblk m c 8 t) p k).trans (Finset.sum_congr rfl fun l _ => ?_)
    rw [at4 m c t p q hq l, at8]
  have hb : k0_pay35 (F := Ideal) (mixed m c t) (iblk m c 9 t) (ix2 p k) = ∑ l : Fin 1024, gated (m ((c : Thread nD τ).loc main_arg0)) (m ((c : Thread nD τ).loc main_arg3)) (m ((c : Thread nD τ).loc main_arg4)) (ix2 q l) * m ((c : Thread nD τ).loc main_arg6) (ix2 l k) := by
    refine (pay35_apply (mixed m c t) (iblk m c 9 t) p k).trans (Finset.sum_congr rfl fun l _ => ?_)
    rw [mixed_apply m c t p q hq l, at9]
  rw [ha, hb]
  rfl

theorem unit_apply (c : Dev nD) (t : Fin cfg0.N) (p : Fin 256) (q : Fin 32768) (hq : q.val = t.val * 256 + p.val) (j : Fin 1024) :
    k0_pay37 (F := Ideal) (k0_pay34 (iblk m c 4 t) (iblk m c 8 t)) (k0_pay35 (mixed m c t) (iblk m c 9 t)) (iblk m c 2 t) (iblk m c 3 t) (iblk m c 5 t) (iblk m c 10 t) (iblk m c 11 t) (ix2 p j) = wanted14 m c (ix2 q j) := by
  refine (pay37_apply _ _ (iblk m c 2 t) (iblk m c 3 t) (iblk m c 5 t) (iblk m c 10 t) (iblk m c 11 t) p j).trans ?_
  unfold wanted14
  rw [Cert.Kernel2Ideal.Columns.normed_row]
  simp only [block_apply m c t p q hq, at11]

theorem final13 (c : Dev nD) : (dats m 0 c).arrAt 13 cfg0.N = wanted13 m c := by
  refine (dats m 0 c).arrAt_eq_of_covers 13 (wanted13 m c) (by decide +kernel) fun t hf y => ?_
  blk_simp
  rw [after0_13]
  have ht : t.val < 128 := t.isLt
  idx_vars y
  rw [show ((cfg0.win 13).blk t).view.emb (ix2 y0 y1) = ix2 (⟨t.val * 256 + y0.val, by omega⟩ : Fin 32768) y1 from by blk_ext [idx t]]
  refine (congrFun (left13 m c t) (ix2 y0 y1)).trans ?_
  exact block_apply m c t y0 _ rfl y1

theorem final14 (c : Dev nD) : (dats m 0 c).arrAt 14 cfg0.N = wanted14 m c := by
  refine (dats m 0 c).arrAt_eq_of_covers 14 (wanted14 m c) (by decide +kernel) fun t hf y => ?_
  blk_simp
  rw [after0_14]
  have ht : t.val < 128 := t.isLt
  idx_vars y
  rw [show ((cfg0.win 14).blk t).view.emb (ix2 y0 y1) = ix2 (⟨t.val * 256 + y0.val, by omega⟩ : Fin 32768) y1 from by blk_ext [idx t]]
  refine (congrFun (left14 m c t) (ix2 y0 y1)).trans ?_
  exact unit_apply m c t y0 _ rfl y1

theorem final15 (c : Dev nD) : (dats m 0 c).arrAt 15 cfg0.N = wanted15 m c := by
  refine (dats m 0 c).arrAt_eq_of_covers 15 (wanted15 m c) (by decide +kernel) fun t hf y => ?_
  blk_simp
  rw [after0_15]
  have ht : t.val < 128 := t.isLt
  idx_vars y
  rw [show ((cfg0.win 15).blk t).view.emb (ix2 y0 y1) = ix2 (⟨t.val * 256 + y0.val, by omega⟩ : Fin 32768) y1 from by blk_ext [idx t]]
  refine (congrFun (left15 m c t) (ix2 y0 y1)).trans ?_
  refine (pay1_apply _ (iblk m c 12 t) y0 y1).trans ?_
  unfold wanted15
  rw [Cert.Reference3Ideal.Mix.queries_apply]
  refine Finset.sum_congr rfl fun k _ => ?_
  rw [at12]
  refine congrArg (· * _) ?_
  exact unit_apply m c t y0 _ rfl k

end Cert.Kernel3Ideal.Mix

end
-- ==== Proof.HiddenRows.lean ====
/- The body of the call `peer_u` as loops: the printed body spells out, row by row, the copies of the 128 selected table rows
   into a tile buffer; here the copies are a recursion over the rows (`rows`), the products of a token's four quarter tiles
   with its columns are `products`, the entry of a token's column of sums is `insert`, and the body is made of the three. -/
module

public import proofs.«01_k».proof.Proof.Gen.Kernel4Ideal.Skeleton

@[expose] public section

set_option maxRecDepth 65536

noncomputable section

namespace Cert.Kernel4Ideal.Rows

open Idealize.ShloMosaic Idealize.SL.Sem Cert.Kernel4Ideal.Gen

variable {F : FTy → Type} [FloatOps F]

/-- One word of the block of indices lies in the block. -/
theorem inb_word (p : BitVec 32) (hp : (Scalar.indexCast p : Index).toNat < 128) (j : ℕ) (hj : j < 128) :
    ∀ a, (![0, (Scalar.indexCast p : Index).toNat, j] : Fin 3 → Nat) a + S1x1x1.size a ≤ S1x128x128.size a := by
  intro a
  fin_cases a
  · exact Nat.le_refl 1
  · exact hp
  · exact hj

/-- The four rows `j`, `j + 136`, `j + 272`, `j + 408` lie in a tile buffer. -/
theorem inb_tile (j : ℕ) (hj : j < 128) :
    ∀ a, S4x128.size a = 0 ∨ (![j, 0] : Fin 2 → Nat) a + (![136, 1] : Fin 2 → Nat) a * (S4x128.size a - 1) < S544x128.size a := by
  intro a
  right
  fin_cases a
  · show j + 136 * 3 < 544
    omega
  · show 0 + 1 * 127 < 128
    omega

/-- The four strided rows of a tile buffer that the selected expert `j` fills. -/
abbrev tileRect (j : ℕ) (hj : j < 128) : Rect S544x128 :=
  ⟨(⟨![j, 0], S4x128.size, ![136, 1], inb_tile j hj⟩ : LoadRect S544x128), spos_136_1⟩

/-- Copy table row `idx[p, j]` (four sublanes) to the four strided rows of the tile `T`. -/
def row (arg1 : Memref sig .tc .smem S1x128x128 .i32) (arg4 : Memref sig .tc .vmem S65536x128 .i32)
    (T : Memref sig .tc .vmem S544x128 .i32) (p : BitVec 32) (hp : (Scalar.indexCast p : Index).toNat < 128)
    (j : ℕ) (hj : j < 128) : Prog (TpuEff nD τ sig (Elt F) Λ₀ .tc) Unit := do
  let w : Elt F .i32 ← smemLoad arg1 (Rect.unit (s := S1x128x128) ![0, (Scalar.indexCast p : Index).toNat, j] S1x1x1.size (inb_word p hp j hj)) numel1_S1x1x1 rfl
  have hw : k0_chk1 w := (← Prog.lift (TpuEff.assume (k0_chk1 w) (k0_chk1.dec w))).down
  let v : Vec F S4x128 .i32 ← Prog.lift (.load arg4 (Rect.unit (s := S65536x128) (k0_off1 w) S4x128.size (k0_off1_inb w hw)).toLoadRect (View.loadsAt_vmem h_S4x128))
  let _ : Vec F S4x128 .i32 ← Prog.lift (.load T (⟨![j, 0], S4x128.size, ![136, 1], inb_tile j hj⟩ : LoadRect S544x128) (View.loadsAt_vmem h_S4x128))
  Prog.lift (.store T ⟨(⟨![j, 0], S4x128.size, ![136, 1], inb_tile j hj⟩ : LoadRect S544x128), spos_136_1⟩ (k0_pay271 v) Finset.univ (View.stores_vmem_bits_univ h_S4x128 rfl) (.inl rfl))

/-- The rows `j`, …, `j + n - 1`, in order. -/
def rows (arg1 : Memref sig .tc .smem S1x128x128 .i32) (arg4 : Memref sig .tc .vmem S65536x128 .i32)
    (T : Memref sig .tc .vmem S544x128 .i32) (p : BitVec 32) (hp : (Scalar.indexCast p : Index).toNat < 128) :
    (n j : ℕ) → j + n ≤ 128 → Prog (TpuEff nD τ sig (Elt F) Λ₀ .tc) Unit
  | 0, _, _ => pure ()
  | n + 1, j, h => do
    row arg1 arg4 T p hp j (by omega)
    rows arg1 arg4 T p hp n (j + 1) (by omega)

theorem inb_quarter (s : ℕ) (hs : s < 4) :
    ∀ a, (![136 * s, 0] : Fin 2 → Nat) a + S128x128.size a ≤ S544x128.size a := by
  intro a
  fin_cases a
  · show 136 * s + 128 ≤ 544
    omega
  · exact Nat.le_refl 128

/-- One sublane of one token lies in the block of tokens. -/
theorem inb_x (p : BitVec 32) (hp : (Scalar.indexCast p : Index).toNat < 128) (s : ℕ) (hs : s < 8) :
    ∀ a, (![(Scalar.indexCast p : Index).toNat, s, 0] : Fin 3 → Nat) a + S1x1x128.size a ≤ S128x8x128.size a := by
  intro a
  fin_cases a
  · exact hp
  · exact hs
  · exact Nat.le_refl 128

/-- The products of quarter `s` of the tile with sublanes `s` and `4 + s` of token `p`, added to what is there. -/
def term (acc : FVec F S128x128 .f32) (t : Vec F S128x128 .i32) (lo hi : Vec F S1x1x128 .f32) : FVec F S128x128 .f32 :=
  addf (addf acc (mulf (unpackElementwise 0 t : FVec F S128x128 .f32) (broadcastTo S128x128 (shapeCast S1x128 lo shapeCasts_S1x1x128_S1x128) broadcasts_S1x128_S128x128)))
    (mulf (unpackElementwise 1 t : FVec F S128x128 .f32) (broadcastTo S128x128 (shapeCast S1x128 hi shapeCasts_S1x1x128_S1x128) broadcasts_S1x128_S128x128))

def quarter (arg2 : Memref sig .tc .vmem S128x8x128 .f32) (T : Memref sig .tc .vmem S544x128 .i32)
    (p : BitVec 32) (hp : (Scalar.indexCast p : Index).toNat < 128) (acc : FVec F S128x128 .f32)
    (s : ℕ) (hs : s < 4) : Prog (TpuEff nD τ sig (Elt F) Λ₀ .tc) (FVec F S128x128 .f32) := do
  let t : Vec F S128x128 .i32 ← Prog.lift (.load T (Rect.unit (s := S544x128) ![136 * s, 0] S128x128.size (inb_quarter s hs)).toLoadRect (View.loadsAt_vmem h_S128x128))
  let lo : Vec F S1x1x128 .f32 ← Prog.lift (.load arg2 (Rect.unit (s := S128x8x128) ![(Scalar.indexCast p : Index).toNat, s, 0] S1x1x128.size (inb_x p hp s (by omega))).toLoadRect (View.loadsAt_vmem h_S1x1x128))
  let hi : Vec F S1x1x128 .f32 ← Prog.lift (.load arg2 (Rect.unit (s := S128x8x128) ![(Scalar.indexCast p : Index).toNat, 4 + s, 0] S1x1x128.size (inb_x p hp (4 + s) (by omega))).toLoadRect (View.loadsAt_vmem h_S1x1x128))
  pure (term acc t lo hi)

/-- One of the two blocks of products lies in their buffer. -/
theorem inb_slot (s : ℕ) (hs : s < 2) :
    ∀ a, (![s, 0, 0] : Fin 3 → Nat) a + S1x128x128.size a ≤ S2x128x128.size a := by
  intro a
  fin_cases a
  · exact hs
  · exact Nat.le_refl 128
  · exact Nat.le_refl 128

abbrev slotRect (s : ℕ) (hs : s < 2) : Rect S2x128x128 := Rect.unit (s := S2x128x128) ![s, 0, 0] S1x128x128.size (inb_slot s hs)

/-- The products of one token, to slot `s` of their buffer. -/
def products (arg2 : Memref sig .tc .vmem S128x8x128 .f32) (T : Memref sig .tc .vmem S544x128 .i32)
    (arg9 : Memref sig .tc .vmem S2x128x128 .f32) (p : BitVec 32) (hp : (Scalar.indexCast p : Index).toNat < 128)
    (s : ℕ) (hs : s < 2) : Prog (TpuEff nD τ sig (Elt F) Λ₀ .tc) Unit := do
  let a0 ← quarter arg2 T p hp (broadcast S128x128 (Scalar.ofBits .f32 0x00000000#32 : F .f32)) 0 (by omega)
  let a1 ← quarter arg2 T p hp a0 1 (by omega)
  let a2 ← quarter arg2 T p hp a1 2 (by omega)
  let a3 ← quarter arg2 T p hp a2 3 (by omega)
  let _ : Vec F S1x128x128 .f32 ← Prog.lift (.load arg9 (slotRect s hs).toLoadRect (View.loadsAt_vmem h_S1x128x128))
  Prog.lift (.store arg9 (slotRect s hs) (shapeCast S1x128x128 a3 shapeCasts_S128x128_S1x128x128) Finset.univ (View.stores_vmem_bits_univ h_S1x128x128 rfl) (.inl rfl))

/-- The sums of the products along the lanes, as a column. -/
def colOf (v : Vec F S1x128x128 .f32) : FVec F S128x1 .f32 :=
  shapeCast S128x1 (multiReduction .add [1] S128 (shapeCast S128x128 v shapeCasts_S1x128x128_S128x128 : FVec F S128x128 .f32) 0x00000000#32 reduces_S128x128_S128 (.inl rfl) rfl : FVec F S128 .f32) shapeCasts_S128_S128x1

/-- The block of sums with column `n` replaced. -/
def entered (v0 : IVec S128x128 32) (n : BitVec 32) (v : Vec F S1x128x128 .f32) (h : Vec F S128x128 .f32) : FVec F S128x128 .f32 :=
  shapeCast S128x128 (select (cmpi .eq v0 (broadcast S128x128 n)) (broadcastTo S128x128 (shapeCast S128x1 (colOf v) shapeCasts_S128x1_S128x1) broadcasts_S128x1_S128x128) h : FVec F S128x128 .f32) shapeCasts_S128x128_S128x128

/-- Enter the sums of slot `s` as column `n`. -/
def insert (arg8 : Memref sig .tc .vmem S128x128 .f32) (arg9 : Memref sig .tc .vmem S2x128x128 .f32) (n : BitVec 32)
    (v0 : IVec S128x128 32) (s : ℕ) (hs : s < 2) : Prog (TpuEff nD τ sig (Elt F) Λ₀ .tc) Unit := do
  let v : Vec F S1x128x128 .f32 ← Prog.lift (.load arg9 (slotRect s hs).toLoadRect (View.loadsAt_vmem h_S1x128x128))
  let h : Vec F S128x128 .f32 ← Prog.lift (.load arg8 (Rect.unit (s := S128x128) ![0, 0] S128x128.size inb_S128x128_S128x128_0_0).toLoadRect (View.loadsAt_vmem h_S128x128))
  let _ : Vec F S128x128 .f32 ← Prog.lift (.load arg8 (Rect.unit (s := S128x128) ![0, 0] S128x128.size inb_S128x128_S128x128_0_0).toLoadRect (View.loadsAt_vmem h_S128x128))
  Prog.lift (.store arg8 (Rect.unit (s := S128x128) ![0, 0] S128x128.size inb_S128x128_S128x128_0_0) (entered v0 n v h) Finset.univ (View.stores_vmem_bits_univ h_S128x128 rfl) (.inl rfl))

/-- The token a trip sums first, the token it sums second, and the token it fetches last. -/
def tok0 (t : Fin k0_t1_loop.trips) : BitVec 32 := Scalar.muli 2#32 (Scf.iv 0#32 1#32 t)
def tok1 (t : Fin k0_t1_loop.trips) : BitVec 32 := Scalar.addi (tok0 t) 1#32
def tok2 (t : Fin k0_t1_loop.trips) : BitVec 32 := Scalar.minsi (Scalar.addi (tok0 t) 2#32) 127#32

theorem tok0_eq (t : Fin k0_t1_loop.trips) : (Scalar.indexCast (tok0 t) : Index).toNat = 2 * t.val := by
  revert t; decide +kernel
theorem tok1_eq (t : Fin k0_t1_loop.trips) : (Scalar.indexCast (tok1 t) : Index).toNat = 2 * t.val + 1 := by
  revert t; decide +kernel
theorem tok2_eq (t : Fin k0_t1_loop.trips) : (Scalar.indexCast (tok2 t) : Index).toNat = min (2 * t.val + 2) 127 := by
  revert t; decide +kernel
theorem trips_eq : k0_t1_loop.trips = 64 := by decide +kernel

theorem tok0_lt (t : Fin k0_t1_loop.trips) : (Scalar.indexCast (tok0 t) : Index).toNat < 128 := by
  have h := t.isLt; have e := trips_eq; rw [tok0_eq]; omega
theorem tok1_lt (t : Fin k0_t1_loop.trips) : (Scalar.indexCast (tok1 t) : Index).toNat < 128 := by
  have h := t.isLt; have e := trips_eq; rw [tok1_eq]; omega
theorem tok2_lt (t : Fin k0_t1_loop.trips) : (Scalar.indexCast (tok2 t) : Index).toNat < 128 := by
  rw [tok2_eq]; omega
theorem tokz_lt : (Scalar.indexCast (0#32) : Index).toNat < 128 := by decide

/-- The two tokens whose sums a trip enters: the two of the trip before it. -/
def old0 (t : Fin k0_t1_loop.trips) : BitVec 32 := Scalar.subi (tok0 t) 2#32
def old1 (t : Fin k0_t1_loop.trips) : BitVec 32 := Scalar.subi (tok0 t) 1#32

theorem old0_eq (t : Fin k0_t1_loop.trips) : old0 t = BitVec.ofNat 32 (2 * t.val) - 2#32 := by
  revert t; decide +kernel
theorem old1_eq (t : Fin k0_t1_loop.trips) : old1 t = BitVec.ofNat 32 (2 * t.val) - 1#32 := by
  revert t; decide +kernel

/-- One trip: enter the two tokens before, fetch the odd token, multiply the even one, fetch the next even token, multiply
    the odd one. -/
def trip (arg1 : Memref sig .tc .smem S1x128x128 .i32) (arg2 : Memref sig .tc .vmem S128x8x128 .f32)
    (arg4 : Memref sig .tc .vmem S65536x128 .i32) (arg6 arg7 : Memref sig .tc .vmem S544x128 .i32)
    (arg8 : Memref sig .tc .vmem S128x128 .f32) (arg9 : Memref sig .tc .vmem S2x128x128 .f32) (v0 : IVec S128x128 32)
    (t : Fin k0_t1_loop.trips) : Prog (TpuEff nD τ sig (Elt F) Λ₀ .tc) Unit := do
  insert arg8 arg9 (old0 t) v0 0 (by omega)
  insert arg8 arg9 (old1 t) v0 1 (by omega)
  rows arg1 arg4 arg7 (tok1 t) (tok1_lt t) 128 0 (by omega)
  products arg2 arg6 arg9 (tok0 t) (tok0_lt t) 0 (by omega)
  rows arg1 arg4 arg6 (tok2 t) (tok2_lt t) 128 0 (by omega)
  products arg2 arg7 arg9 (tok1 t) (tok1_lt t) 1 (by omega)

/-- The gate times the gelu of the block of sums. -/
def gated (g : Vec F S1x128x128 .f32) (h : Vec F S128x128 .f32) : FVec F S1x128x128 .f32 :=
  k0_pay1 (k0_pay404 g) (k0_pay405 h) (k0_pay406 h) (Scalar.ofBits .f32 0x3F800000#32)

/-- The end of the body: the last two tokens' sums, then the result. -/
def tail (arg3 : Memref sig .tc .vmem S1x128x128 .f32) (arg5 : Memref sig .tc .vmem S1x128x128 .f32)
    (arg8 : Memref sig .tc .vmem S128x128 .f32) (arg9 : Memref sig .tc .vmem S2x128x128 .f32) (v0 : IVec S128x128 32) :
    Prog (TpuEff nD τ sig (Elt F) Λ₀ .tc) PUnit := do
  insert arg8 arg9 126#32 v0 0 (by omega)
  insert arg8 arg9 127#32 v0 1 (by omega)
  let g : Vec F S1x128x128 .f32 ← Prog.lift (.load arg3 (Rect.unit (s := S1x128x128) ![0, 0, 0] S1x128x128.size inb_S1x128x128_S1x128x128_0_0_0).toLoadRect (View.loadsAt_vmem h_S1x128x128))
  let h : Vec F S128x128 .f32 ← Prog.lift (.load arg8 (Rect.unit (s := S128x128) ![0, 0] S128x128.size inb_S128x128_S128x128_0_0).toLoadRect (View.loadsAt_vmem h_S128x128))
  let _ : Vec F S1x128x128 .f32 ← Prog.lift (.load arg5 (Rect.unit (s := S1x128x128) ![0, 0, 0] S1x128x128.size inb_S1x128x128_S1x128x128_0_0_0).toLoadRect (View.loadsAt_vmem h_S1x128x128))
  Prog.lift (.store arg5 (Rect.unit (s := S1x128x128) ![0, 0, 0] S1x128x128.size inb_S1x128x128_S1x128x128_0_0_0) (gated g h) Finset.univ (View.stores_vmem_bits_univ h_S1x128x128 rfl) (.inl rfl))
  pure ⟨⟩

/-- The lane numbers of a 128 by 128 block. -/
def lanes : IVec S128x128 32 := iota .tc S128x128 32 [1] iota_S128x128_d1_w32

/-- Both buffers of sums set to zero. -/
def clear (arg8 : Memref sig .tc .vmem S128x128 .f32) (arg9 : Memref sig .tc .vmem S2x128x128 .f32) :
    Prog (TpuEff nD τ sig (Elt F) Λ₀ .tc) Unit := do
  let _ : Vec F S2x128x128 .f32 ← Prog.lift (.load arg9 (Rect.unit (s := S2x128x128) ![0, 0, 0] S2x128x128.size inb_S2x128x128_S2x128x128_0_0_0).toLoadRect (View.loadsAt_vmem h_S2x128x128))
  Prog.lift (.store arg9 (Rect.unit (s := S2x128x128) ![0, 0, 0] S2x128x128.size inb_S2x128x128_S2x128x128_0_0_0) (k0_pay269 (F := F)) Finset.univ (View.stores_vmem_bits_univ h_S2x128x128 rfl) (.inl rfl))
  let _ : Vec F S128x128 .f32 ← Prog.lift (.load arg8 (Rect.unit (s := S128x128) ![0, 0] S128x128.size inb_S128x128_S128x128_0_0).toLoadRect (View.loadsAt_vmem h_S128x128))
  Prog.lift (.store arg8 (Rect.unit (s := S128x128) ![0, 0] S128x128.size inb_S128x128_S128x128_0_0) (k0_pay270 (F := F)) Finset.univ (View.stores_vmem_bits_univ h_S128x128 rfl) (.inl rfl))

/-- The kernel body: the first token's rows, the loop, the end. -/
def body (arg1 : Memref sig .tc .smem S1x128x128 .i32) (arg2 : Memref sig .tc .vmem S128x8x128 .f32)
    (arg3 : Memref sig .tc .vmem S1x128x128 .f32) (arg4 : Memref sig .tc .vmem S65536x128 .i32)
    (arg5 : Memref sig .tc .vmem S1x128x128 .f32) (arg6 arg7 : Memref sig .tc .vmem S544x128 .i32)
    (arg8 : Memref sig .tc .vmem S128x128 .f32) (arg9 : Memref sig .tc .vmem S2x128x128 .f32) :
    Prog (TpuEff nD τ sig (Elt F) Λ₀ .tc) PUnit := do
  clear arg8 arg9
  rows arg1 arg4 arg6 0#32 tokz_lt 128 0 (by omega)
  Scf.Loop.for k0_t1_loop k0_t1_ok ⟨⟩ fun t _ => trip arg1 arg2 arg4 arg6 arg7 arg8 arg9 lanes t
  tail arg3 arg5 arg8 arg9 lanes

end Cert.Kernel4Ideal.Rows

end
-- ==== Proof.HiddenSteps.lean ====
/- What the copies of `HiddenRows` leave: after the copies of one token's rows a tile buffer holds the selected table rows.
   Each fact is stated once, for every row, tile buffer and token. -/
module

public import proofs.«01_k».proof.Proof.HiddenRows
public import Idealize.ShloMosaic.Lib.Tactic
public import Idealize.ShloMosaic.Lib.Pipeline.Kit
public import Idealize.ShloMosaic.Lib.Pointwise.Index
public import Idealize.ShloMosaic.Lib.Pipeline.Value

@[expose] public section

set_option maxRecDepth 16384

noncomputable section

namespace Cert.Kernel4Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen Idealize.ShloMosaic.Rounds

variable {F : FTy → Type} [FloatOps F]

local notation "𝕄" => MT nD τ sig Unit (Elt F) ℕ (UR sig nD τ) ℕ

abbrev Bf (F : FTy → Type) (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The run of a program of the kernel's on core `c`. -/
abbrev runs (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## Lists of writes -/

/-- Every write of the list writes the values of `G`. -/
def Agrees {S : Shape} {e : EltTy} (G : S.Idx → Elt F e) (L : List (View.Piece (Elt F) S e)) : Prop :=
  ∀ p ∈ L, ∀ x, p.2 x = G (p.1.emb x)

/-- Some write of the list writes the element. -/
def Covers {S : Shape} {e : EltTy} (L : List (View.Piece (Elt F) S e)) (y : S.Idx) : Prop := ∃ p ∈ L, y ∈ p.1.set

theorem Agrees.nil {S : Shape} {e : EltTy} (G : S.Idx → Elt F e) : Agrees G [] := fun _ h => absurd h List.not_mem_nil

theorem Agrees.cons {S : Shape} {e : EltTy} {G : S.Idx → Elt F e} {L : List (View.Piece (Elt F) S e)} {r : Rect S}
    {w : r.shape.Idx → Elt F e} (hw : ∀ x, w x = G (r.emb x)) (h : Agrees G L) : Agrees G (⟨r, w⟩ :: L) := by
  intro p hp
  rcases List.mem_cons.mp hp with rfl | hp
  · exact hw
  · exact h p hp

theorem Covers.mono {S : Shape} {e : EltTy} {L L' : List (View.Piece (Elt F) S e)} (h : ∀ p ∈ L, p ∈ L') {y : S.Idx} :
    Covers L y → Covers L' y := fun ⟨p, hp, hy⟩ => ⟨p, h p hp, hy⟩

theorem mem_set_emb {S : Shape} (r : Rect S) (x : r.shape.Idx) : r.emb x ∈ r.set := by
  rw [← Rect.map_emb_univ]; exact Finset.mem_map_of_mem _ (Finset.mem_univ x)

/-! ## The selected rows -/

/-- The word that selects the table row of expert `j` for token `p`. -/
def word (idx : S1x128x128.Idx → BitVec 32) (p j : ℕ) : BitVec 32 :=
  idx (ix3 0 ⟨p % 128, Nat.mod_lt _ (by decide)⟩ ⟨j % 128, Nat.mod_lt _ (by decide)⟩)

/-- Lane `l` of row `n` of the table of words. -/
def tabAt (tab : S65536x128.Idx → BitVec 32) (n : ℕ) (l : Fin 128) : BitVec 32 :=
  tab (ix2 ⟨n % 65536, Nat.mod_lt _ (by decide)⟩ l)

/-- Every index word of the block may be used: it is a multiple of four and its four rows lie in the table. -/
def Usable (idx : S1x128x128.Idx → BitVec 32) : Prop := ∀ p j, k0_chk1 (word idx p j)

/-- What a tile buffer holds once token `p`'s rows have been copied to it (the rows 128 to 135 of each stretch of 136
    are never written). -/
def tile (idx : S1x128x128.Idx → BitVec 32) (tab : S65536x128.Idx → BitVec 32) (p : ℕ) : S544x128.Idx → BitVec 32 :=
  fun y => tabAt tab ((word idx p ((y 0).val % 136)).toNat + (y 0).val / 136) (y 1)

variable (c : Dev nD)

/-- The four copied rows are the tile's. -/
theorem copied_eq {arg4 : Memref sig .tc .vmem S65536x128 .i32} (f4 : Bf F c arg4) (idx : S1x128x128.Idx → BitVec 32)
    (p j : ℕ) (hj : j < 128) (w : BitVec 32) (hw : w = word idx p j)
    (hc : ∀ a, k0_off1 w a + S4x128.size a ≤ S65536x128.size a) (x : S4x128.Idx) :
    k0_pay271 (arg4.view.readAt (Elt F) (Rect.unit (s := S65536x128) (k0_off1 w) S4x128.size hc).toLoadRect f4) x
      = tile idx (arg4.view.read (Elt F) f4) p ((tileRect j hj).emb x) := by
  have hx0 : (x 0).val < 4 := (x 0).isLt
  have hin : w.toNat + 4 ≤ 65536 := hc 0
  have e0 : ((tileRect j hj).emb x 0).val = j + 136 * (x 0).val := rfl
  have e1 : (tileRect j hj).emb x 1 = x 1 := by
    apply Fin.ext; show 0 + 1 * (x 1).val = (x 1).val; omega
  have hm : (j + 136 * (x 0).val) % 136 = j := by omega
  have hd : (j + 136 * (x 0).val) / 136 = (x 0).val := by omega
  unfold tile
  rw [e0, e1, hm, hd, ← hw]
  unfold k0_pay271
  rw [shapeCast_self]
  show arg4.view.read (Elt F) f4 _ = arg4.view.read (Elt F) f4 _
  congr 1
  funext a
  match a with
  | ⟨0, _⟩ => apply Fin.ext; show w.toNat + 1 * (x 0).val = (w.toNat + (x 0).val) % 65536; omega
  | ⟨1, _⟩ => apply Fin.ext; show 0 + 1 * (x 1).val = (x 1).val; omega

/-- One copy: a write of the tile's values over its four rows. -/
theorem row_wp {arg1 : Memref sig .tc .smem S1x128x128 .i32} {arg4 : Memref sig .tc .vmem S65536x128 .i32}
    {T : Memref sig .tc .vmem S544x128 .i32} {p : BitVec 32} {hp : (Scalar.indexCast p : Index).toNat < 128}
    {j : ℕ} {hj : j < 128} {f1 : Bf F c arg1} {f4 : Bf F c arg4} {f : Bf F c T} {L : List (View.Piece (Elt F) S544x128 .i32)}
    (hU : Usable (arg1.view.read (Elt F) f1))
    (hG : Agrees (tile (arg1.view.read (Elt F) f1) (arg4.view.read (Elt F) f4) p.toNat) L) (Q : Unit → sProp 𝕄) :
    iprop(pt c arg1 f1 ∗ pt c arg4 f4 ∗ pt c T (T.view.writes (Elt F) f L)
      ∗ (∀ w, ⌜Agrees (tile (arg1.view.read (Elt F) f1) (arg4.view.read (Elt F) f4) p.toNat) (⟨tileRect j hj, w⟩ :: L)⌝
          -∗ pt c arg1 f1 -∗ pt c arg4 f4 -∗ pt c T (T.view.writes (Elt F) f (⟨tileRect j hj, w⟩ :: L)) -∗ Q ()))
    ⊢ runs c (row arg1 arg4 T p hp j hj) Q := by
  have hword : (arg1.access (Rect.unit (s := S1x128x128) ![0, (Scalar.indexCast p : Index).toNat, j] S1x1x1.size (inb_word p hp j hj))).read (Elt F) f1
      (Shape.Idx.first (s := S1x1x1) (by decide)) = word (arg1.view.read (Elt F) f1) p.toNat j := by
    show arg1.view.read (Elt F) f1 _ = arg1.view.read (Elt F) f1 _
    congr 1
    have hp' : p.toNat < 128 := hp
    funext a
    match a with
    | ⟨0, _⟩ => rfl
    | ⟨1, _⟩ => apply Fin.ext; show p.toNat + 1 * 0 = p.toNat % 128; omega
    | ⟨2, _⟩ => apply Fin.ext; show j + 1 * 0 = j % 128; omega
  have hchk := hU p.toNat j
  rw [← hword] at hchk
  iintro ⟨H1, H4, HT, Hk⟩
  unfold row runs
  sl_exec!
  sl_step
  iapply Hk $$ %_ [] H1 H4 HT
  ipureintro
  exact hG.cons (copied_eq c f4 _ _ j hj _ hword _)

/-- The copies of `n` rows from row `j` on. -/
theorem rows_wp {arg1 : Memref sig .tc .smem S1x128x128 .i32} {arg4 : Memref sig .tc .vmem S65536x128 .i32}
    {T : Memref sig .tc .vmem S544x128 .i32} {p : BitVec 32} {hp : (Scalar.indexCast p : Index).toNat < 128}
    {f1 : Bf F c arg1} {f4 : Bf F c arg4} {f : Bf F c T}
    (hU : Usable (arg1.view.read (Elt F) f1)) (Q : Unit → sProp 𝕄) :
    ∀ (n j : ℕ) (h : j + n ≤ 128) (L : List (View.Piece (Elt F) S544x128 .i32)),
      Agrees (tile (arg1.view.read (Elt F) f1) (arg4.view.read (Elt F) f4) p.toNat) L →
      iprop(pt c arg1 f1 ∗ pt c arg4 f4 ∗ pt c T (T.view.writes (Elt F) f L)
        ∗ (∀ L', ⌜Agrees (tile (arg1.view.read (Elt F) f1) (arg4.view.read (Elt F) f4) p.toNat) L' ∧ (∀ q ∈ L, q ∈ L')
              ∧ ∀ j' (hj' : j' < 128), j ≤ j' → j' < j + n → ∀ y ∈ (tileRect j' hj').set, Covers L' y⌝
            -∗ pt c arg1 f1 -∗ pt c arg4 f4 -∗ pt c T (T.view.writes (Elt F) f L') -∗ Q ()))
      ⊢ runs c (rows arg1 arg4 T p hp n j h) Q := by
  intro n
  induction n with
  | zero =>
    intro j h L hL
    iintro ⟨H1, H4, HT, Hk⟩
    unfold rows runs
    sl_step
    iapply Hk $$ %L [] H1 H4 HT
    ipureintro
    exact ⟨hL, fun q hq => hq, fun j' _ h1 h2 => absurd h2 (by omega)⟩
  | succ n ih =>
    intro j h L hL
    iintro ⟨H1, H4, HT, Hk⟩
    unfold rows runs
    rw [wp_bind]
    iapply (row_wp c hU hL)
    isplitl [H1]; · iexact H1
    isplitl [H4]; · iexact H4
    isplitl [HT]; · iexact HT
    iintro %w %hw H1 H4 HT
    iapply (ih (j + 1) _ _ hw)
    isplitl [H1]; · iexact H1
    isplitl [H4]; · iexact H4
    isplitl [HT]; · iexact HT
    iintro %L' %hL' H1 H4 HT
    iapply Hk $$ %L' [] H1 H4 HT
    ipureintro
    obtain ⟨ha, hm, hc⟩ := hL'
    refine ⟨ha, fun q hq => hm q (List.mem_cons_of_mem _ hq), fun j' hj' h1 h2 y hy => ?_⟩
    rcases Nat.eq_or_lt_of_le h1 with rfl | h1
    · exact ⟨_, hm _ List.mem_cons_self, hy⟩
    · exact hc j' hj' h1 (by omega) y hy

/-- A tile buffer that holds token `p`'s rows, as far as they are read. -/
def Filled (idx : S1x128x128.Idx → BitVec 32) (tab : S65536x128.Idx → BitVec 32) (p : ℕ) (T : S544x128.Idx → BitVec 32) : Prop :=
  ∀ y : S544x128.Idx, (y 0).val % 136 < 128 → T y = tile idx tab p y

/-- All 128 copies: the tile buffer is filled, whatever it held. -/
theorem fill_wp {arg1 : Memref sig .tc .smem S1x128x128 .i32} {arg4 : Memref sig .tc .vmem S65536x128 .i32}
    {T : Memref sig .tc .vmem S544x128 .i32} {p : BitVec 32} {hp : (Scalar.indexCast p : Index).toNat < 128}
    {f1 : Bf F c arg1} {f4 : Bf F c arg4} {f : Bf F c T}
    (hU : Usable (arg1.view.read (Elt F) f1)) (Q : Unit → sProp 𝕄) (h : 0 + 128 ≤ 128) :
    iprop(pt c arg1 f1 ∗ pt c arg4 f4 ∗ pt c T f
      ∗ (∀ f', ⌜Filled (arg1.view.read (Elt F) f1) (arg4.view.read (Elt F) f4) p.toNat (T.view.read (Elt F) f')⌝
          -∗ pt c arg1 f1 -∗ pt c arg4 f4 -∗ pt c T f' -∗ Q ()))
    ⊢ runs c (rows arg1 arg4 T p hp 128 0 h) Q := by
  iintro ⟨H1, H4, HT, Hk⟩
  iapply (rows_wp c hU Q 128 0 h [] (Agrees.nil _))
  isplitl [H1]; · iexact H1
  isplitl [H4]; · iexact H4
  isplitl [HT]; · iexact HT
  iintro %L %hL H1 H4 HT
  iapply Hk $$ %_ [] H1 H4 HT
  ipureintro
  intro y hy
  refine View.read_writes_apply_of_pieces _ _ _ L hL.1 y ?_
  have hy0 : (y 0).val < 544 := (y 0).isLt
  refine hL.2.2 ((y 0).val % 136) hy (by omega) (by omega) y ?_
  have e : (tileRect ((y 0).val % 136) hy).emb (ix2 ⟨(y 0).val / 136, by omega⟩ (y 1)) = y := by
    funext a
    match a with
    | ⟨0, _⟩ => apply Fin.ext; show (y 0).val % 136 + 136 * ((y 0).val / 136) = (y 0).val; omega
    | ⟨1, _⟩ => apply Fin.ext; show 0 + 1 * (y 1).val = (y 1).val; omega
  have hm := mem_set_emb (tileRect ((y 0).val % 136) hy) (ix2 ⟨(y 0).val / 136, by omega⟩ (y 1))
  rw [e] at hm
  exact hm

end Cert.Kernel4Ideal.Rows

end
-- ==== Proof.HiddenSums.lean ====
/- One token's products and the entry of its sums: from a tile buffer that holds the token's rows, a slot of the products'
   buffer is written and the other left; then one column of the block of sums is replaced. -/
module

public import proofs.«01_k».proof.Proof.HiddenSteps
public import Idealize.ShloMosaic.Lib.Tactic
public import Idealize.ShloMosaic.Lib.VecWindow
public import Idealize.ShloMosaic.Lib.Pipeline.Kit
public import Idealize.ShloMosaic.Lib.Pointwise.Index
public import Idealize.ShloMosaic.Lib.Pipeline.Value

@[expose] public section

set_option maxRecDepth 16384

noncomputable section

namespace Cert.Kernel4Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen Idealize.ShloMosaic.Rounds

variable {F : FTy → Type} [FloatOps F]

local notation "𝕄" => MT nD τ sig Unit (Elt F) ℕ (UR sig nD τ) ℕ

variable (c : Dev nD)

/-- Quarter `s` of a tile buffer: its rows `136 s` to `136 s + 127`. -/
def quarterOf (T : S544x128.Idx → BitVec 32) (s : ℕ) : S128x128.Idx → BitVec 32 :=
  fun x => T (ix2 ⟨(136 * s + (x 0).val) % 544, Nat.mod_lt _ (by decide)⟩ (x 1))

/-- Sublane `s` of token `p`. -/
def xAt (X : Vec F S128x8x128 .f32) (p s : ℕ) : Vec F S1x1x128 .f32 :=
  fun y => X (ix3 ⟨p % 128, Nat.mod_lt _ (by decide)⟩ ⟨s % 8, Nat.mod_lt _ (by decide)⟩ (y 2))

/-- Slot `s` of the products' buffer. -/
def slotOf (P : Vec F S2x128x128 .f32) (s : ℕ) : Vec F S1x128x128 .f32 :=
  fun y => P (ix3 ⟨s % 2, Nat.mod_lt _ (by decide)⟩ (y 1) (y 2))

/-- The products of token `p` with quarter `s`, added to `acc`. -/
def plus (idx : S1x128x128.Idx → BitVec 32) (tab : S65536x128.Idx → BitVec 32) (X : Vec F S128x8x128 .f32) (p : ℕ)
    (acc : FVec F S128x128 .f32) (s : ℕ) : FVec F S128x128 .f32 :=
  term acc (quarterOf (tile idx tab p) s) (xAt X p s) (xAt X p (4 + s))

/-- The products of token `p`. -/
def prodOf (idx : S1x128x128.Idx → BitVec 32) (tab : S65536x128.Idx → BitVec 32) (X : Vec F S128x8x128 .f32) (p : ℕ) :
    FVec F S1x128x128 .f32 :=
  shapeCast S1x128x128 (plus idx tab X p (plus idx tab X p (plus idx tab X p (plus idx tab X p
    (broadcast S128x128 (Scalar.ofBits .f32 0x00000000#32 : F .f32)) 0) 1) 2) 3) shapeCasts_S128x128_S1x128x128

/-- A quarter read off a filled tile buffer. -/
theorem read_quarter {T : Memref sig .tc .vmem S544x128 .i32} {fT : Bf F c T} {idx : S1x128x128.Idx → BitVec 32}
    {tab : S65536x128.Idx → BitVec 32} {p : ℕ} (hF : Filled idx tab p (T.view.read (Elt F) fT)) (s : ℕ) (hs : s < 4) :
    T.view.readAt (Elt F) (Rect.unit (s := S544x128) ![136 * s, 0] S128x128.size (inb_quarter s hs)).toLoadRect fT
      = quarterOf (tile idx tab p) s := by
  funext x
  have hx0 : (x 0).val < 128 := (x 0).isLt
  have e : (Rect.unit (s := S544x128) ![136 * s, 0] S128x128.size (inb_quarter s hs)).toLoadRect.idx x
      = ix2 ⟨(136 * s + (x 0).val) % 544, Nat.mod_lt _ (by decide)⟩ (x 1) := by
    funext a
    match a with
    | ⟨0, _⟩ => apply Fin.ext; show 136 * s + 1 * (x 0).val = (136 * s + (x 0).val) % 544; omega
    | ⟨1, _⟩ => apply Fin.ext; show 0 + 1 * (x 1).val = (x 1).val; omega
  show T.view.read (Elt F) fT _ = tile idx tab p _
  rw [e]
  refine hF _ ?_
  show (136 * s + (x 0).val) % 544 % 136 < 128
  omega

theorem read_x {M : Memref sig .tc .vmem S128x8x128 .f32} (f : Bf F c M) (p : BitVec 32) (hp : (Scalar.indexCast p : Index).toNat < 128)
    (s : ℕ) (hs : s < 8) :
    M.view.readAt (Elt F) (Rect.unit (s := S128x8x128) ![(Scalar.indexCast p : Index).toNat, s, 0] S1x1x128.size (inb_x p hp s hs)).toLoadRect f
      = xAt (M.view.read (Elt F) f) p.toNat s := by
  funext x
  have hp' : p.toNat < 128 := hp
  have h0 : (x 0).val < 1 := (x 0).isLt
  have h1 : (x 1).val < 1 := (x 1).isLt
  show M.view.read (Elt F) f _ = M.view.read (Elt F) f _
  congr 1
  funext a
  match a with
  | ⟨0, _⟩ => apply Fin.ext; show p.toNat + 1 * (x 0).val = p.toNat % 128; omega
  | ⟨1, _⟩ => apply Fin.ext; show s + 1 * (x 1).val = s % 8; omega
  | ⟨2, _⟩ => apply Fin.ext; show 0 + 1 * (x 2).val = (x 2).val; omega

theorem read_slot {M : Memref sig .tc .vmem S2x128x128 .f32} (f : Bf F c M) (s : ℕ) (hs : s < 2) :
    M.view.readAt (Elt F) (slotRect s hs).toLoadRect f = slotOf (M.view.read (Elt F) f) s := by
  funext x
  have h0 : (x 0).val < 1 := (x 0).isLt
  show M.view.read (Elt F) f _ = M.view.read (Elt F) f _
  congr 1
  funext a
  match a with
  | ⟨0, _⟩ => apply Fin.ext; show s + 1 * (x 0).val = s % 2; omega
  | ⟨1, _⟩ => apply Fin.ext; show 0 + 1 * (x 1).val = (x 1).val; omega
  | ⟨2, _⟩ => apply Fin.ext; show 0 + 1 * (x 2).val = (x 2).val; omega

theorem quarter_wp {arg2 : Memref sig .tc .vmem S128x8x128 .f32} {T : Memref sig .tc .vmem S544x128 .i32}
    {p : BitVec 32} {hp : (Scalar.indexCast p : Index).toNat < 128} {f2 : Bf F c arg2} {fT : Bf F c T}
    {idx : S1x128x128.Idx → BitVec 32} {tab : S65536x128.Idx → BitVec 32} {acc : FVec F S128x128 .f32}
    (hF : Filled idx tab p.toNat (T.view.read (Elt F) fT)) (s : ℕ) (hs : s < 4) (Q : FVec F S128x128 .f32 → sProp 𝕄) :
    iprop(pt c arg2 f2 ∗ pt c T fT
      ∗ (pt c arg2 f2 -∗ pt c T fT -∗ Q (plus idx tab (arg2.view.read (Elt F) f2) p.toNat acc s)))
    ⊢ runs c (quarter arg2 T p hp acc s hs) Q := by
  iintro ⟨H2, HT, Hk⟩
  unfold quarter runs
  rw [wp_bind]
  iapply (wp_load Variants.none (c : Thread nD τ) none Set.univ (m := T) (Finset.subset_univ _)) $$ HT
  iintro HT
  rw [read_quarter c hF s hs]
  sl_step
  rw [wp_bind]
  iapply (wp_load Variants.none (c : Thread nD τ) none Set.univ (m := arg2) (Finset.subset_univ _)) $$ H2
  iintro H2
  rw [read_x c f2 p hp s (by omega)]
  sl_step
  rw [wp_bind]
  iapply (wp_load Variants.none (c : Thread nD τ) none Set.univ (m := arg2) (Finset.subset_univ _)) $$ H2
  iintro H2
  rw [read_x c f2 p hp (4 + s) (by omega)]
  sl_step
  sl_step
  unfold plus
  iapply Hk $$ H2 HT

/-- The products of token `p`: slot `s` holds them, the other slot is as it was. -/
theorem products_wp {arg2 : Memref sig .tc .vmem S128x8x128 .f32} {T : Memref sig .tc .vmem S544x128 .i32}
    {arg9 : Memref sig .tc .vmem S2x128x128 .f32} {p : BitVec 32} {hp : (Scalar.indexCast p : Index).toNat < 128}
    {f2 : Bf F c arg2} {fT : Bf F c T} {f9 : Bf F c arg9}
    {idx : S1x128x128.Idx → BitVec 32} {tab : S65536x128.Idx → BitVec 32}
    (hF : Filled idx tab p.toNat (T.view.read (Elt F) fT)) (s : ℕ) (hs : s < 2) (Q : Unit → sProp 𝕄) :
    iprop(pt c arg2 f2 ∗ pt c T fT ∗ pt c arg9 f9
      ∗ (∀ g9, ⌜slotOf (arg9.view.read (Elt F) g9) s = prodOf idx tab (arg2.view.read (Elt F) f2) p.toNat
            ∧ slotOf (arg9.view.read (Elt F) g9) (1 - s) = slotOf (arg9.view.read (Elt F) f9) (1 - s)⌝
          -∗ pt c arg2 f2 -∗ pt c T fT -∗ pt c arg9 g9 -∗ Q ()))
    ⊢ runs c (products arg2 T arg9 p hp s hs) Q := by
  iintro ⟨H2, HT, H9, Hk⟩
  unfold products runs
  rw [wp_bind]
  iapply (quarter_wp c hF 0 _)
  isplitl [H2]; · iexact H2
  isplitl [HT]; · iexact HT
  iintro H2 HT
  rw [wp_bind]
  iapply (quarter_wp c hF 1 _)
  isplitl [H2]; · iexact H2
  isplitl [HT]; · iexact HT
  iintro H2 HT
  rw [wp_bind]
  iapply (quarter_wp c hF 2 _)
  isplitl [H2]; · iexact H2
  isplitl [HT]; · iexact HT
  iintro H2 HT
  rw [wp_bind]
  iapply (quarter_wp c hF 3 _)
  isplitl [H2]; · iexact H2
  isplitl [HT]; · iexact HT
  iintro H2 HT
  sl_exec!
  sl_step
  iapply Hk $$ %_ [] H2 HT H9
  ipureintro
  constructor
  · funext y
    have h0 : (y 0).val < 1 := (y 0).isLt
    exact View.read_writes_cons_hit _ _ (slotRect s hs) _ _ y _ (funext fun a => by
      match a with
      | ⟨0, _⟩ => apply Fin.ext; show s + 1 * (y 0).val = s % 2; omega
      | ⟨1, _⟩ => apply Fin.ext; show 0 + 1 * (y 1).val = (y 1).val; omega
      | ⟨2, _⟩ => apply Fin.ext; show 0 + 1 * (y 2).val = (y 2).val; omega)
  · funext y
    exact View.read_writes_cons_miss_of_axis _ _ _ _ _ (0 : Fin 3) s 1 rfl rfl rfl
      (by show (1 - s) % 2 < s ∨ s + 1 ≤ (1 - s) % 2; omega)

/-- The entry of one token's sums. -/
theorem insert_wp {arg8 : Memref sig .tc .vmem S128x128 .f32} {arg9 : Memref sig .tc .vmem S2x128x128 .f32}
    {n : BitVec 32} {v0 : IVec S128x128 32} {f8 : Bf F c arg8} {f9 : Bf F c arg9} (s : ℕ) (hs : s < 2) (Q : Unit → sProp 𝕄) :
    iprop(pt c arg8 f8 ∗ pt c arg9 f9
      ∗ (∀ g8, ⌜arg8.view.read (Elt F) g8 = entered v0 n (slotOf (arg9.view.read (Elt F) f9) s) (arg8.view.read (Elt F) f8)⌝
          -∗ pt c arg8 g8 -∗ pt c arg9 f9 -∗ Q ()))
    ⊢ runs c (insert arg8 arg9 n v0 s hs) Q := by
  iintro ⟨H8, H9, Hk⟩
  unfold insert runs
  rw [wp_bind]
  iapply (wp_load Variants.none (c : Thread nD τ) none Set.univ (m := arg9) (Finset.subset_univ _)) $$ H9
  iintro H9
  rw [read_slot c f9 s hs]
  sl_step
  rw [wp_bind]
  iapply (wp_load Variants.none (c : Thread nD τ) none Set.univ (m := arg8) (Finset.subset_univ _)) $$ H8
  iintro H8
  rw [View.readAt_full]
  sl_step
  sl_exec!
  sl_step
  iapply Hk $$ %_ [] H8 H9
  ipureintro
  exact View.read_writes_full _ _ _ _ _

/-- The clearing of the two buffers, whatever they held. -/
theorem clear_wp {arg8 : Memref sig .tc .vmem S128x128 .f32} {arg9 : Memref sig .tc .vmem S2x128x128 .f32}
    {f8 : Bf F c arg8} {f9 : Bf F c arg9} (Q : Unit → sProp 𝕄) :
    iprop(pt c arg8 f8 ∗ pt c arg9 f9 ∗ (∀ g8 g9, pt c arg8 g8 -∗ pt c arg9 g9 -∗ Q ()))
    ⊢ runs c (clear arg8 arg9) Q := by
  iintro ⟨H8, H9, Hk⟩
  unfold clear runs
  sl_exec!
  sl_step
  iapply Hk $$ %_ %_ H8 H9

end Cert.Kernel4Ideal.Rows

end
-- ==== Proof.HiddenLoop.lean ====
/- The loop over the pairs of tokens of the call `peer_u` and the end of its body: from the blocks of the inputs to the block
   of the result, as one function of what the inputs' buffers hold. -/
module

public import proofs.«01_k».proof.Proof.HiddenSums
public import Idealize.ShloMosaic.Lib.Scf
public import Idealize.ShloMosaic.Lib.Pointwise

@[expose] public section

set_option maxRecDepth 16384

noncomputable section

namespace Cert.Kernel4Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen Idealize.ShloMosaic.Rounds

variable {F : FTy → Type} [FloatOps F]

local notation "𝕄" => MT nD τ sig Unit (Elt F) ℕ (UR sig nD τ) ℕ

variable (c : Dev nD)

/-! ## The entry of a column -/

theorem entered_apply (n : BitVec 32) (v : Vec F S1x128x128 .f32) (h : Vec F S128x128 .f32) (j t : Fin 128) :
    entered lanes n v h (ix2 j t) = Scalar.select (IntOp.cmpi .eq (BitVec.ofNat 32 t.val) n) (colOf v (ix2 j 0)) (h (ix2 j t)) := by
  pointwise [entered, lanes]

theorem entered_at (n : BitVec 32) (v : Vec F S1x128x128 .f32) (h : Vec F S128x128 .f32) (j t : Fin 128) (hn : n.toNat = t.val) :
    entered lanes n v h (ix2 j t) = colOf v (ix2 j 0) := by
  have e : n = BitVec.ofNat 32 t.val := by rw [← hn]; simp
  rw [entered_apply, e]
  simp [Scalar.select, IntOp.cmpi]

theorem entered_off (n : BitVec 32) (v : Vec F S1x128x128 .f32) (h : Vec F S128x128 .f32) (j t : Fin 128) (hn : n.toNat ≠ t.val) :
    entered lanes n v h (ix2 j t) = h (ix2 j t) := by
  have hne : BitVec.ofNat 32 t.val ≠ n := by
    intro e
    apply hn
    rw [← e, BitVec.toNat_ofNat]
    have := t.isLt
    omega
  have hf : (BitVec.ofNat 32 t.val == n) = false := by simpa using hne
  rw [entered_apply]
  simp [Scalar.select, IntOp.cmpi, hf]

theorem old0_toNat (t : Fin k0_t1_loop.trips) (h : 1 ≤ t.val) : (old0 t).toNat = 2 * t.val - 2 := by
  have ht := t.isLt; have e := trips_eq
  rw [old0_eq, BitVec.toNat_sub, BitVec.toNat_ofNat, BitVec.toNat_ofNat]; omega
theorem old1_toNat (t : Fin k0_t1_loop.trips) (h : 1 ≤ t.val) : (old1 t).toNat = 2 * t.val - 1 := by
  have ht := t.isLt; have e := trips_eq
  rw [old1_eq, BitVec.toNat_sub, BitVec.toNat_ofNat, BitVec.toNat_ofNat]; omega

/-- The block of sums: entry `(j, t)` is the sum of token `t`'s products in row `j`. -/
def hidden (idx : S1x128x128.Idx → BitVec 32) (tab : S65536x128.Idx → BitVec 32) (X : Vec F S128x8x128 .f32) : Vec F S128x128 .f32 :=
  fun y => colOf (prodOf idx tab X (y 1).val) (ix2 (y 0) 0)

/-- The columns of the tokens before `2 k - 2` are entered. -/
def Done (idx : S1x128x128.Idx → BitVec 32) (tab : S65536x128.Idx → BitVec 32) (X : Vec F S128x8x128 .f32) (k : ℕ)
    (H : Vec F S128x128 .f32) : Prop :=
  ∀ j t : Fin 128, t.val + 2 < 2 * k → H (ix2 j t) = hidden idx tab X (ix2 j t)

/-! ## The loop -/

section Loop

variable {arg1 : Memref sig .tc .smem S1x128x128 .i32} {arg2 : Memref sig .tc .vmem S128x8x128 .f32}
  {arg4 : Memref sig .tc .vmem S65536x128 .i32} {arg6 arg7 : Memref sig .tc .vmem S544x128 .i32}
  {arg8 : Memref sig .tc .vmem S128x128 .f32} {arg9 : Memref sig .tc .vmem S2x128x128 .f32}
  (f1 : Bf F c arg1) (f2 : Bf F c arg2) (f4 : Bf F c arg4)

/-- Before trip `k`: the first tile buffer holds token `2 k` (the last token after the last trip), the two slots hold the
    products of tokens `2 k - 2` and `2 k - 1`, and the sums of the tokens before those are entered. -/
def loopInv (k : ℕ) (_ : PUnit.{1}) : sProp 𝕄 :=
  iprop(∃ f6 : Bf F c arg6, ∃ f7 : Bf F c arg7, ∃ f8 : Bf F c arg8, ∃ f9 : Bf F c arg9,
    ⌜Filled (arg1.view.read (Elt F) f1) (arg4.view.read (Elt F) f4) (min (2 * k) 127) (arg6.view.read (Elt F) f6)
      ∧ Done (arg1.view.read (Elt F) f1) (arg4.view.read (Elt F) f4) (arg2.view.read (Elt F) f2) k (arg8.view.read (Elt F) f8)
      ∧ (1 ≤ k → slotOf (arg9.view.read (Elt F) f9) 0
            = prodOf (arg1.view.read (Elt F) f1) (arg4.view.read (Elt F) f4) (arg2.view.read (Elt F) f2) (2 * k - 2)
          ∧ slotOf (arg9.view.read (Elt F) f9) 1
            = prodOf (arg1.view.read (Elt F) f1) (arg4.view.read (Elt F) f4) (arg2.view.read (Elt F) f2) (2 * k - 1))⌝
    ∗ pt c arg1 f1 ∗ pt c arg2 f2 ∗ pt c arg4 f4 ∗ pt c arg6 f6 ∗ pt c arg7 f7 ∗ pt c arg8 f8 ∗ pt c arg9 f9)

/-- The two entries: the columns of two more tokens. -/
theorem done_more {idx : S1x128x128.Idx → BitVec 32} {tab : S65536x128.Idx → BitVec 32} {X : Vec F S128x8x128 .f32} {k : ℕ}
    {n0 n1 : BitVec 32} {P : Vec F S2x128x128 .f32} {H H1 H2 : Vec F S128x128 .f32} (hD : Done idx tab X k H)
    (hn : 1 ≤ k → n0.toNat = 2 * k - 2 ∧ n1.toNat = 2 * k - 1)
    (hP : 1 ≤ k → slotOf P 0 = prodOf idx tab X (2 * k - 2) ∧ slotOf P 1 = prodOf idx tab X (2 * k - 1))
    (h1 : H1 = entered lanes n0 (slotOf P 0) H) (h2 : H2 = entered lanes n1 (slotOf P 1) H1) : Done idx tab X (k + 1) H2 := by
  intro j t ht
  have hk : 1 ≤ k := by omega
  obtain ⟨e0, e1⟩ := hn hk
  obtain ⟨p0, p1⟩ := hP hk
  rw [h2]
  by_cases c1 : n1.toNat = t.val
  · rw [entered_at _ _ _ _ _ c1, p1, ← e1, c1]; rfl
  · rw [entered_off _ _ _ _ _ c1, h1]
    by_cases c0 : n0.toNat = t.val
    · rw [entered_at _ _ _ _ _ c0, p0, ← e0, c0]; rfl
    · rw [entered_off _ _ _ _ _ c0]
      exact hD j t (by omega)

theorem trip_wp (hU : Usable (arg1.view.read (Elt F) f1)) (t : Fin k0_t1_loop.trips) (a : PUnit.{1}) :
    loopInv (arg6 := arg6) (arg7 := arg7) (arg8 := arg8) (arg9 := arg9) c f1 f2 f4 t.val a
      ⊢ runs c (trip arg1 arg2 arg4 arg6 arg7 arg8 arg9 lanes t)
          (loopInv (arg6 := arg6) (arg7 := arg7) (arg8 := arg8) (arg9 := arg9) c f1 f2 f4 (t.val + 1)) := by
  have ht := t.isLt
  have e := trips_eq
  have e0 : (tok0 t).toNat = 2 * t.val := tok0_eq t
  have e1 : (tok1 t).toNat = 2 * t.val + 1 := tok1_eq t
  have e2 : (tok2 t).toNat = min (2 * t.val + 2) 127 := tok2_eq t
  unfold loopInv trip
  iintro ⟨%f6, %f7, %f8, %f9, %h, H1, H2, H4, H6, H7, H8, H9⟩
  obtain ⟨hF, hD, hP⟩ := h
  have hF0 : Filled (arg1.view.read (Elt F) f1) (arg4.view.read (Elt F) f4) (tok0 t).toNat (arg6.view.read (Elt F) f6) := by
    rw [e0]; rwa [show min (2 * t.val) 127 = 2 * t.val by omega] at hF
  unfold runs
  rw [wp_bind]
  iapply (insert_wp c 0 _)
  isplitl [H8]; · iexact H8
  isplitl [H9]; · iexact H9
  iintro %g8 %hI0 H8 H9
  rw [wp_bind]
  iapply (insert_wp c 1 _)
  isplitl [H8]; · iexact H8
  isplitl [H9]; · iexact H9
  iintro %k8 %hI1 H8 H9
  rw [wp_bind]
  iapply (fill_wp c hU)
  isplitl [H1]; · iexact H1
  isplitl [H4]; · iexact H4
  isplitl [H7]; · iexact H7
  iintro %g7 %hG7 H1 H4 H7
  rw [wp_bind]
  iapply (products_wp c hF0 0 _)
  isplitl [H2]; · iexact H2
  isplitl [H6]; · iexact H6
  isplitl [H9]; · iexact H9
  iintro %g9 %hA H2 H6 H9
  rw [wp_bind]
  iapply (fill_wp c hU)
  isplitl [H1]; · iexact H1
  isplitl [H4]; · iexact H4
  isplitl [H6]; · iexact H6
  iintro %g6 %hG6 H1 H4 H6
  iapply (products_wp c hG7 1 _)
  isplitl [H2]; · iexact H2
  isplitl [H7]; · iexact H7
  isplitl [H9]; · iexact H9
  iintro %k9 %hB H2 H7 H9
  iexists g6; iexists g7; iexists k8; iexists k9
  isplitr [H1 H2 H4 H6 H7 H8 H9]
  · ipureintro
    refine ⟨?_, done_more hD (fun hk => ⟨old0_toNat t hk, old1_toNat t hk⟩) hP hI0 hI1, fun _ => ⟨?_, ?_⟩⟩
    · rw [e2] at hG6; exact hG6
    · rw [show 2 * (t.val + 1) - 2 = (tok0 t).toNat by omega]
      exact hB.2.trans hA.1
    · rw [show 2 * (t.val + 1) - 1 = (tok1 t).toNat by omega]
      exact hB.1
  isplitl [H1]; · iexact H1
  isplitl [H2]; · iexact H2
  isplitl [H4]; · iexact H4
  isplitl [H6]; · iexact H6
  isplitl [H7]; · iexact H7
  isplitl [H8]; · iexact H8
  iexact H9

/-- The whole loop: the sums of all tokens but the last two, and the products of those. -/
theorem loop_wp (hU : Usable (arg1.view.read (Elt F) f1)) {f6 : Bf F c arg6} {f7 : Bf F c arg7} {f8 : Bf F c arg8} {f9 : Bf F c arg9}
    (hF : Filled (arg1.view.read (Elt F) f1) (arg4.view.read (Elt F) f4) 0 (arg6.view.read (Elt F) f6)) (Q : PUnit.{1} → sProp 𝕄) :
    iprop(pt c arg1 f1 ∗ pt c arg2 f2 ∗ pt c arg4 f4 ∗ pt c arg6 f6 ∗ pt c arg7 f7 ∗ pt c arg8 f8 ∗ pt c arg9 f9
      ∗ (∀ g6 g7 g8 g9, ⌜Done (arg1.view.read (Elt F) f1) (arg4.view.read (Elt F) f4) (arg2.view.read (Elt F) f2) 64 (arg8.view.read (Elt F) g8)
            ∧ slotOf (arg9.view.read (Elt F) g9) 0 = prodOf (arg1.view.read (Elt F) f1) (arg4.view.read (Elt F) f4) (arg2.view.read (Elt F) f2) 126
            ∧ slotOf (arg9.view.read (Elt F) g9) 1 = prodOf (arg1.view.read (Elt F) f1) (arg4.view.read (Elt F) f4) (arg2.view.read (Elt F) f2) 127⌝
          -∗ pt c arg1 f1 -∗ pt c arg2 f2 -∗ pt c arg4 f4 -∗ pt c arg6 g6 -∗ pt c arg7 g7 -∗ pt c arg8 g8 -∗ pt c arg9 g9 -∗ Q ⟨⟩))
    ⊢ runs c (Scf.Loop.for k0_t1_loop k0_t1_ok ⟨⟩ fun t _ => trip arg1 arg2 arg4 arg6 arg7 arg8 arg9 lanes t) Q := by
  have hstep := trip_wp (arg1 := arg1) (arg2 := arg2) (arg4 := arg4) (arg6 := arg6) (arg7 := arg7) (arg8 := arg8) (arg9 := arg9) c f1 f2 f4 hU
  have hfor := fun Q' => Scf.wp_for (Q := Q') frame (wpE (defs₀ (F := F)) Variants.none (c : Thread nD τ) none) Set.univ k0_t1_loop.lb k0_t1_loop.ub k0_t1_loop.st k0_t1_ok
    ⟨⟩ (fun t _ => trip arg1 arg2 arg4 arg6 arg7 arg8 arg9 lanes t)
    (loopInv (arg1 := arg1) (arg2 := arg2) (arg4 := arg4) (arg6 := arg6) (arg7 := arg7) (arg8 := arg8) (arg9 := arg9) c f1 f2 f4)
    (fun t a => (hstep t a).trans (BIBase.Entails.of_eq (by unfold runs; congr 1)))
  iintro ⟨H1, H2, H4, H6, H7, H8, H9, Hk⟩
  iapply (hfor _)
  isplitr [Hk]
  · unfold loopInv
    iexists f6; iexists f7; iexists f8; iexists f9
    isplitr [H1 H2 H4 H6 H7 H8 H9]
    · ipureintro
      exact ⟨hF, fun j t h => absurd h (by omega), fun h => absurd h (by omega)⟩
    isplitl [H1]; · iexact H1
    isplitl [H2]; · iexact H2
    isplitl [H4]; · iexact H4
    isplitl [H6]; · iexact H6
    isplitl [H7]; · iexact H7
    isplitl [H8]; · iexact H8
    iexact H9
  iintro %acc HI
  unfold loopInv
  icases HI with ⟨%g6, %g7, %g8, %g9, %h, H1, H2, H4, H6, H7, H8, H9⟩
  iapply Hk $$ %_ %_ %_ %_ [] H1 H2 H4 H6 H7 H8 H9
  ipureintro
  have e : Scf.trips k0_t1_loop.lb k0_t1_loop.ub k0_t1_loop.st = 64 := trips_eq
  rw [e] at h
  exact ⟨h.2.1, h.2.2 (by omega)⟩

end Loop

/-! ## The end -/

/-- The end of the body: the output block is `gated` of the gates' block and all the sums. -/
theorem tail_wp {arg3 arg5 : Memref sig .tc .vmem S1x128x128 .f32}
    {arg8 : Memref sig .tc .vmem S128x128 .f32} {arg9 : Memref sig .tc .vmem S2x128x128 .f32}
    {f3 : Bf F c arg3} {f5 : Bf F c arg5} {f8 : Bf F c arg8} {f9 : Bf F c arg9}
    {idx : S1x128x128.Idx → BitVec 32} {tab : S65536x128.Idx → BitVec 32} {X : Vec F S128x8x128 .f32}
    (hD : Done idx tab X 64 (arg8.view.read (Elt F) f8))
    (hP : slotOf (arg9.view.read (Elt F) f9) 0 = prodOf idx tab X 126 ∧ slotOf (arg9.view.read (Elt F) f9) 1 = prodOf idx tab X 127)
    (Q : PUnit.{1} → sProp 𝕄) :
    iprop(pt c arg3 f3 ∗ pt c arg5 f5 ∗ pt c arg8 f8 ∗ pt c arg9 f9
      ∗ (∀ g5 g8, ⌜arg5.view.read (Elt F) g5 = gated (arg3.view.read (Elt F) f3) (hidden idx tab X)⌝
          -∗ pt c arg3 f3 -∗ pt c arg5 g5 -∗ pt c arg8 g8 -∗ pt c arg9 f9 -∗ Q ⟨⟩))
    ⊢ runs c (tail arg3 arg5 arg8 arg9 lanes) Q := by
  iintro ⟨H3, H5, H8, H9, Hk⟩
  unfold tail runs
  rw [wp_bind]
  iapply (insert_wp c 0 _)
  isplitl [H8]; · iexact H8
  isplitl [H9]; · iexact H9
  iintro %g8 %hI0 H8 H9
  rw [wp_bind]
  iapply (insert_wp c 1 _)
  isplitl [H8]; · iexact H8
  isplitl [H9]; · iexact H9
  iintro %k8 %hI1 H8 H9
  have hE := done_more (k := 64) hD (fun _ => ⟨by decide, by decide⟩) (fun _ => hP) hI0 hI1
  have hH : arg8.view.read (Elt F) k8 = hidden idx tab X := by
    funext y
    idx_vars y
    exact hE y0 y1 (by have := y1.isLt; omega)
  rw [wp_bind]
  iapply (wp_load Variants.none (c : Thread nD τ) none Set.univ (m := arg3) (Finset.subset_univ _)) $$ H3
  iintro H3
  rw [View.readAt_full]
  sl_step
  rw [wp_bind]
  iapply (wp_load Variants.none (c : Thread nD τ) none Set.univ (m := arg8) (Finset.subset_univ _)) $$ H8
  iintro H8
  rw [View.readAt_full, hH]
  sl_step
  sl_exec!
  sl_step
  iapply Hk $$ %_ %_ [] H3 H5 H8 H9
  ipureintro
  exact View.read_writes_full _ _ _ _ _

end Cert.Kernel4Ideal.Rows

end
-- ==== Proof.HiddenPrinted.lean ====
/- The printed body of the call `peer_u` is the one `HiddenRows` writes as loops: the two are the same sequence of operations. -/
module

public import proofs.«01_k».proof.Proof.HiddenRows
public import Idealize.ShloMosaic.Lib.Pipeline.Regions

@[expose] public section

set_option maxRecDepth 65536

noncomputable section

namespace Cert.Kernel4Ideal.Rows

open Idealize.ShloMosaic Idealize.SL.Sem Cert.Kernel4Ideal.Gen

variable {F : FTy → Type} [FloatOps F]

set_option maxHeartbeats 4000000 in
theorem body_eq (i : grid0.Coords) (arg1 : Memref sig .tc .smem S1x128x128 .i32) (harg1 : arg1.IsWhole)
    (arg2 : Memref sig .tc .vmem S128x8x128 .f32) (harg2 : arg2.IsWhole)
    (arg3 : Memref sig .tc .vmem S1x128x128 .f32) (harg3 : arg3.IsWhole)
    (arg4 : Memref sig .tc .vmem S65536x128 .i32) (harg4 : arg4.IsWhole)
    (arg5 : Memref sig .tc .vmem S1x128x128 .f32) (harg5 : arg5.IsWhole)
    (arg6 : Memref sig .tc .vmem S544x128 .i32) (harg6 : arg6.IsWhole)
    (arg7 : Memref sig .tc .vmem S544x128 .i32) (harg7 : arg7.IsWhole)
    (arg8 : Memref sig .tc .vmem S128x128 .f32) (harg8 : arg8.IsWhole)
    (arg9 : Memref sig .tc .vmem S2x128x128 .f32) (harg9 : arg9.IsWhole) :
    cc0_peer_u i arg1 harg1 arg2 harg2 arg3 harg3 arg4 harg4 arg5 harg5 arg6 harg6 arg7 harg7 arg8 harg8 arg9 harg9
      = body (F := F) arg1 arg2 arg3 arg4 arg5 arg6 arg7 arg8 arg9 := by
  rw [cc0_peer_u_eq_skeleton]
  unfold cc0_peer_u_skel
  rw [k0_part103_eq_skeleton]
  unfold k0_part103_skel
  rw [k0_part102_eq_skeleton]
  unfold k0_part102_skel
  simp only [bind_assoc]
  chain_rfl

end Cert.Kernel4Ideal.Rows

end
-- ==== Proof.HiddenBody.lean ====
/- The run of the call `peer_u`: the kernel body on one block of tokens, the pipeline over the blocks, and what every buffer
   holds at the end, at any value instance. -/
module

public import proofs.«01_k».proof.Proof.HiddenLoop
public import proofs.«01_k».proof.Proof.HiddenPrinted
public import proofs.«01_k».proof.Proof.Gen.Kernel4Ideal.Frame
public import Idealize.ShloMosaic.Lib.Pipeline.Frame

@[expose] public section

set_option maxRecDepth 16384

noncomputable section

namespace Cert.Kernel4Ideal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel4Ideal.Gen Idealize.ShloMosaic.Rounds
open Idealize.ShloMosaic.Pipeline (Dat BodyObligation)

variable {F : FTy → Type} [FloatOps F]

local notation "𝕄" => MT nD τ sig Unit (Elt F) ℕ (UR sig nD τ) ℕ

/-! ## The body on one block -/

/-- The block of the result: from the block's row numbers, tokens and gates, and the table. -/
def result (idx : S1x128x128.Idx → BitVec 32) (X : Vec F S128x8x128 .f32) (g : Vec F S1x128x128 .f32)
    (tab : S65536x128.Idx → BitVec 32) : S1x128x128.Idx → Elt F .f32 :=
  gated g (hidden idx tab X)

/-- The body, from its operands whole: the inputs are left alone, the result's buffer is left at `result`. -/
theorem body_wp (c : Dev nD) {arg1 : Memref sig .tc .smem S1x128x128 .i32} {arg2 : Memref sig .tc .vmem S128x8x128 .f32}
    {arg3 : Memref sig .tc .vmem S1x128x128 .f32} {arg4 : Memref sig .tc .vmem S65536x128 .i32}
    {arg5 : Memref sig .tc .vmem S1x128x128 .f32} {arg6 arg7 : Memref sig .tc .vmem S544x128 .i32}
    {arg8 : Memref sig .tc .vmem S128x128 .f32} {arg9 : Memref sig .tc .vmem S2x128x128 .f32}
    {f1 : Bf F c arg1} {f2 : Bf F c arg2} {f3 : Bf F c arg3} {f4 : Bf F c arg4} {f5 : Bf F c arg5} {f6 : Bf F c arg6}
    {f7 : Bf F c arg7} {f8 : Bf F c arg8} {f9 : Bf F c arg9}
    (hU : Usable (arg1.view.read (Elt F) f1)) (Q : PUnit.{1} → sProp 𝕄) :
    iprop(pt c arg1 f1 ∗ pt c arg2 f2 ∗ pt c arg3 f3 ∗ pt c arg4 f4 ∗ pt c arg5 f5 ∗ pt c arg6 f6 ∗ pt c arg7 f7
      ∗ pt c arg8 f8 ∗ pt c arg9 f9
      ∗ (∀ g5 g6 g7 g8 g9, ⌜arg5.view.read (Elt F) g5 = result (arg1.view.read (Elt F) f1) (arg2.view.read (Elt F) f2)
            (arg3.view.read (Elt F) f3) (arg4.view.read (Elt F) f4)⌝
          -∗ pt c arg1 f1 -∗ pt c arg2 f2 -∗ pt c arg3 f3 -∗ pt c arg4 f4 -∗ pt c arg5 g5 -∗ pt c arg6 g6 -∗ pt c arg7 g7
          -∗ pt c arg8 g8 -∗ pt c arg9 g9 -∗ Q ⟨⟩))
    ⊢ runs c (body arg1 arg2 arg3 arg4 arg5 arg6 arg7 arg8 arg9) Q := by
  iintro ⟨H1, H2, H3, H4, H5, H6, H7, H8, H9, Hk⟩
  unfold body runs
  rw [wp_bind]
  iapply (clear_wp c _)
  isplitl [H8]; · iexact H8
  isplitl [H9]; · iexact H9
  iintro %g8 %g9 H8 H9
  rw [wp_bind]
  iapply (fill_wp c hU _ _)
  isplitl [H1]; · iexact H1
  isplitl [H4]; · iexact H4
  isplitl [H6]; · iexact H6
  iintro %g6 %hF H1 H4 H6
  rw [wp_bind]
  iapply (loop_wp c f1 f2 f4 hU hF _)
  isplitl [H1]; · iexact H1
  isplitl [H2]; · iexact H2
  isplitl [H4]; · iexact H4
  isplitl [H6]; · iexact H6
  isplitl [H7]; · iexact H7
  isplitl [H8]; · iexact H8
  isplitl [H9]; · iexact H9
  iintro %h6 %h7 %h8 %h9 %hY H1 H2 H4 H6 H7 H8 H9
  iapply (tail_wp c hY.1 hY.2 _)
  isplitl [H3]; · iexact H3
  isplitl [H5]; · iexact H5
  isplitl [H8]; · iexact H8
  isplitl [H9]; · iexact H9
  iintro %g5 %k8 %hN H3 H5 H8 H9
  iapply Hk $$ %_ %_ %_ %_ %_ [] H1 H2 H3 H4 H5 H6 H7 H8 H9
  ipureintro
  exact hN

/-- `body_wp` of the printed body, over whole operands owned at their contents. -/
theorem printed_wp (c : Dev nD) (i : grid0.Coords)
    {arg1 : Memref sig .tc .smem S1x128x128 .i32} (harg1 : arg1.IsWhole) {arg2 : Memref sig .tc .vmem S128x8x128 .f32} (harg2 : arg2.IsWhole)
    {arg3 : Memref sig .tc .vmem S1x128x128 .f32} (harg3 : arg3.IsWhole) {arg4 : Memref sig .tc .vmem S65536x128 .i32} (harg4 : arg4.IsWhole)
    {arg5 : Memref sig .tc .vmem S1x128x128 .f32} (harg5 : arg5.IsWhole) {arg6 : Memref sig .tc .vmem S544x128 .i32} (harg6 : arg6.IsWhole)
    {arg7 : Memref sig .tc .vmem S544x128 .i32} (harg7 : arg7.IsWhole) {arg8 : Memref sig .tc .vmem S128x128 .f32} (harg8 : arg8.IsWhole)
    {arg9 : Memref sig .tc .vmem S2x128x128 .f32} (harg9 : arg9.IsWhole)
    {X1 : S1x128x128.Idx → BitVec 32} {X2 : Vec F S128x8x128 .f32} {X3 : Vec F S1x128x128 .f32} {X4 : S65536x128.Idx → BitVec 32}
    (hU : Usable X1) (Q : PUnit.{1} → sProp 𝕄) :
    iprop(owns (c : Thread nD τ) arg1 fullShare X1 ∗ owns (c : Thread nD τ) arg2 fullShare X2 ∗ owns (c : Thread nD τ) arg3 fullShare X3
      ∗ owns (c : Thread nD τ) arg4 fullShare X4
      ∗ (∃ d, owns (c : Thread nD τ) arg5 fullShare d) ∗ (∃ f, pt c arg6 f) ∗ (∃ f, pt c arg7 f) ∗ (∃ f, pt c arg8 f) ∗ (∃ f, pt c arg9 f)
      ∗ (owns (c : Thread nD τ) arg1 fullShare X1 -∗ owns (c : Thread nD τ) arg2 fullShare X2 -∗ owns (c : Thread nD τ) arg3 fullShare X3
          -∗ owns (c : Thread nD τ) arg4 fullShare X4
          -∗ owns (c : Thread nD τ) arg5 fullShare (result X1 X2 X3 X4)
          -∗ (∃ f, pt c arg6 f) -∗ (∃ f, pt c arg7 f) -∗ (∃ f, pt c arg8 f) -∗ (∃ f, pt c arg9 f) -∗ Q ⟨⟩))
    ⊢ runs c (cc0_peer_u i arg1 harg1 arg2 harg2 arg3 harg3 arg4 harg4 arg5 harg5 arg6 harg6 arg7 harg7 arg8 harg8 arg9 harg9) Q := by
  rw [body_eq]
  unfold owns
  rw [harg1.set_eq_univ, harg2.set_eq_univ, harg3.set_eq_univ, harg4.set_eq_univ, harg5.set_eq_univ]
  iintro ⟨⟨%f1, %h1, H1⟩, ⟨%f2, %h2, H2⟩, ⟨%f3, %h3, H3⟩, ⟨%f4, %h4, H4⟩, ⟨%d5, %f5, -, H5⟩, ⟨%f6, H6⟩, ⟨%f7, H7⟩,
    ⟨%f8, H8⟩, ⟨%f9, H9⟩, Hk⟩
  subst h1 h2 h3 h4
  iapply (body_wp c hU _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %g5 %g6 %g7 %g8 %g9 %hR H1 H2 H3 H4 H5 H6 H7 H8 H9
  iapply Hk $$ [H1] [H2] [H3] [H4] [H5] [H6] [H7] [H8] [H9]
  · iexists _; isplitr; swap; · iexact H1
    ipureintro; rfl
  · iexists _; isplitr; swap; · iexact H2
    ipureintro; rfl
  · iexists _; isplitr; swap; · iexact H3
    ipureintro; rfl
  · iexists _; isplitr; swap; · iexact H4
    ipureintro; rfl
  · iexists _; isplitr; swap; · iexact H5
    ipureintro; exact hR
  · iexists _; iexact H6
  · iexists _; iexact H7
  · iexists _; iexact H8
  · iexists _; iexact H9

/-! ## The pipeline -/

variable (m : (ℓ : Loc nD τ sig) → Buf (Elt F) ℓ) (ρ : Dev nD → PrngReg)

/-- The block of the result at point `t`. -/
def block (c : Dev nD) (t : Fin cfg0.N) : S1x128x128.Idx → Elt F .f32 :=
  result (iblk m c 0 t) (iblk m c 1 t) (iblk m c 2 t) (iblk m c 3 t)

/-- The proof data: every input window is left at its block, the result's window at `block`. -/
def dats (_ : Fin 1) (c : Dev nD) : Dat τ (Elt F) Unit ℕ (UR sig nD τ) ℕ cfg0 c where
  A w := V m c (Pipeline.arrRef spec0 w)
  after := fun | ⟨0, _⟩, t => iblk m c 0 t | ⟨1, _⟩, t => iblk m c 1 t | ⟨2, _⟩, t => iblk m c 2 t
               | ⟨3, _⟩, t => iblk m c 3 t | ⟨4, _⟩, t => block m c t
  Φ _ := Pipeline.ΦA spec0 c
  q _ := fullShare
  owed _ := 0

theorem dats_A (c : Dev nD) (w : Fin cfg0.W) : (dats m 0 c).A w = V m c (Pipeline.arrRef spec0 w) := by dsimp only [dats]

theorem found0 (c : Dev nD) (t : Fin cfg0.N) (d) : (dats m 0 c).before 0 t d = iblk m c 0 t :=
  before0_0_of m (dats m 0 c) (dats_A m c 0) (fun _ => by dsimp only [dats]) t d
theorem found1 (c : Dev nD) (t : Fin cfg0.N) (d) : (dats m 0 c).before 1 t d = iblk m c 1 t :=
  before0_1_of m (dats m 0 c) (dats_A m c 1) (fun _ => by dsimp only [dats]) t d
theorem found2 (c : Dev nD) (t : Fin cfg0.N) (d) : (dats m 0 c).before 2 t d = iblk m c 2 t :=
  before0_2_of m (dats m 0 c) (dats_A m c 2) (fun _ => by dsimp only [dats]) t d
theorem found3 (c : Dev nD) (t : Fin cfg0.N) (d) : (dats m 0 c).before 3 t d = iblk m c 3 t :=
  before0_3_of m (dats m 0 c) (dats_A m c 3) (fun _ => by dsimp only [dats]) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (block m c t))

theorem sound_body (c : Dev nD) (t : Fin cfg0.N) (hU : Usable (iblk m c 0 t)) :
    bodyPre m c t ⊢ wp frame (wpE (defs₀ (F := F)) Variants.none c none) Set.univ (bodyAt0 t) (fun _ => bodyPost m c t) := by
  unfold bodyPre bodyPost bodyAt0 block
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  simp only [found0, found1, found2, found3]
  unfold Pipeline.ΦA
  rw [scopedRest0_eq]
  iintro ⟨⟨⟨HS0, HS1, HS2, HS3⟩, Hg⟩, HO, ⟨%d0, H0⟩, ⟨%d1, H1⟩, ⟨%d2, H2⟩, ⟨%d3, H3⟩, ⟨%d4, H4⟩⟩
  iapply (printed_wp c _ _ _ _ _ _ _ _ _ _ hU _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  iintro H0 H1 H2 H3 H4 HS0 HS1 HS2 HS3
  isplitl [HS0 HS1 HS2 HS3 Hg]
  · isplitr [Hg]
    · isplitl [HS0]; · iexact HS0
      isplitl [HS1]; · iexact HS1
      isplitl [HS2]; · iexact HS2
      iexact HS3
    · iexact Hg
  isplitl [HO]; · iexact HO
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) (hU : ∀ t, Usable (iblk m c 0 t)) :
    BodyObligation (dats (F := F) m 0 c) (defs₀ (F := F)) Variants.none () Set.univ := fun t => by
  rw [bigSep_W0, bigSep_W0, defs₀_row]
  exact triple_restated (sound_body m c t (hU t)) rfl .rfl fun _ => .rfl

-- the implicit arguments are found by unifying the conclusion with this statement
set_option backward.isDefEq.respectTransparency.types false in
/-- The run, from row numbers that lie in the table: every array of the pipeline ends at what the blocks written to it
    say, every other buffer as the region found it, every counter at zero. -/
theorem run_main (hU : ∀ c t, Usable (iblk m c 0 t)) :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c (hU c)).loose) (hshare := fun c => (dats m 0 c).share_full fun _ => rfl)
    (howed := fun _ _ => rfl) (V := V m) (hmain := hmain m Variants.none) (hA := dats_A m) (hΦ := fun _ _ => rfl)

end Cert.Kernel4Ideal.Rows

end
-- ==== Proof.HiddenValue.lean ====
/- The block of the result of the call `peer_u` at the ideal instance: the sum of a token's products over all its columns,
   and the gate times the gelu of it. -/
module

public import proofs.«01_k».proof.Proof.HiddenBody
public import Idealize.ShloMosaic.Lib.Pointwise
public import Idealize.ShloMosaic.Lib.Pipeline.ValueKit

@[expose] public section

set_option maxRecDepth 16384

noncomputable section

namespace Cert.Kernel4Ideal.Rows

open Idealize.ShloMosaic Idealize.ShloMosaic.TcCoe
open Idealize.SL.Sem
open Cert.Kernel4Ideal.Gen

/-- One half of a packed word, as a number. -/
def half (i : ℕ) (v : BitVec 32) : Ideal .f32 := FloatOps.extf .f32 (by decide) (FloatOps.ofBits .bf16 (v.extractLsb' (i * 16) 16) : Ideal .bf16)

theorem term_apply (acc : FVec Ideal S128x128 .f32) (q : Vec Ideal S128x128 .i32) (lo hi : Vec Ideal S1x1x128 .f32) (j l : Fin 128) :
    term acc q lo hi (ix2 j l) = acc (ix2 j l) + half 0 (q (ix2 j l)) * lo (ix3 0 0 l) + half 1 (q (ix2 j l)) * hi (ix3 0 0 l) := by
  pointwise [term, half]

theorem col_apply (v : Vec Ideal S1x128x128 .f32) (j : Fin 128) : colOf v (ix2 j 0) = ∑ l : Fin 128, v (ix3 0 j l) := by
  pointwise [colOf]

theorem gated_apply (g : Vec Ideal S1x128x128 .f32) (h : Vec Ideal S128x128 .f32) (j t : Fin 128) :
    gated g h (ix3 0 j t) = g (ix3 0 j t) * (Ideal.ofBits .f32 0x3F000000#32 * h (ix2 j t)
      * (Ideal.ofBits .f32 0x3F800000#32 + Ideal.erf (h (ix2 j t) * Ideal.ofBits .f32 0x3F3504F3#32))) := by
  pointwise [gated, k0_pay1, k0_pay404, k0_pay405, k0_pay406]
  rfl

theorem quarter_apply (idx : S1x128x128.Idx → BitVec 32) (tab : S65536x128.Idx → BitVec 32) (p s : ℕ) (hs : s < 4) (j l : Fin 128) :
    quarterOf (tile idx tab p) s (ix2 j l) = tabAt tab ((word idx p j.val).toNat + s) l := by
  have hj := j.isLt
  have e : (136 * s + j.val) % 544 = 136 * s + j.val := Nat.mod_eq_of_lt (by omega)
  have e1 : (136 * s + j.val) % 136 = j.val := by omega
  have e2 : (136 * s + j.val) / 136 = s := by omega
  show tabAt tab ((word idx p ((136 * s + j.val) % 544 % 136)).toNat + (136 * s + j.val) % 544 / 136) l = _
  rw [e, e1, e2]

/-- Column `d` of expert `j` of token `p` times column `d` of the token: the low halves of the words are the first 512
    columns, the high halves the others. -/
def product (idx : S1x128x128.Idx → BitVec 32) (tab : S65536x128.Idx → BitVec 32) (X : Vec Ideal S128x8x128 .f32)
    (p j : Fin 128) (d : ℕ) : Ideal .f32 :=
  half (d / 512) (tabAt tab ((word idx p.val j.val).toNat + d % 512 / 128) ⟨d % 128, Nat.mod_lt _ (by decide)⟩)
    * X (ix3 p ⟨d / 128 % 8, Nat.mod_lt _ (by decide)⟩ ⟨d % 128, Nat.mod_lt _ (by decide)⟩)

theorem plus_apply (idx : S1x128x128.Idx → BitVec 32) (tab : S65536x128.Idx → BitVec 32) (X : Vec Ideal S128x8x128 .f32)
    (p : Fin 128) (acc : FVec Ideal S128x128 .f32) (s : ℕ) (hs : s < 4) (j l : Fin 128) :
    plus idx tab X p.val acc s (ix2 j l)
      = acc (ix2 j l) + product idx tab X p j (s * 128 + l.val) + product idx tab X p j ((4 + s) * 128 + l.val) := by
  have hl := l.isLt
  have hp : p.val % 128 = p.val := Nat.mod_eq_of_lt p.isLt
  have a0 : (s * 128 + l.val) / 512 = 0 := by omega
  have a1 : (s * 128 + l.val) % 512 / 128 = s := by omega
  have a2 : (s * 128 + l.val) % 128 = l.val := by omega
  have a3 : (s * 128 + l.val) / 128 % 8 = s % 8 := by omega
  have b0 : ((4 + s) * 128 + l.val) / 512 = 1 := by omega
  have b1 : ((4 + s) * 128 + l.val) % 512 / 128 = s := by omega
  have b2 : ((4 + s) * 128 + l.val) % 128 = l.val := by omega
  have b3 : ((4 + s) * 128 + l.val) / 128 % 8 = (4 + s) % 8 := by omega
  unfold plus product
  rw [term_apply, quarter_apply _ _ _ _ hs]
  simp only [a0, a1, a2, a3, b0, b1, b2, b3]
  unfold xAt
  simp only [hp]
  rfl

theorem prod_apply (idx : S1x128x128.Idx → BitVec 32) (tab : S65536x128.Idx → BitVec 32) (X : Vec Ideal S128x8x128 .f32)
    (p j l : Fin 128) :
    prodOf idx tab X p.val (ix3 0 j l)
      = product idx tab X p j (0 * 128 + l.val) + product idx tab X p j (4 * 128 + l.val)
        + product idx tab X p j (1 * 128 + l.val) + product idx tab X p j (5 * 128 + l.val)
        + product idx tab X p j (2 * 128 + l.val) + product idx tab X p j (6 * 128 + l.val)
        + product idx tab X p j (3 * 128 + l.val) + product idx tab X p j (7 * 128 + l.val) := by
  have e : prodOf idx tab X p.val (ix3 0 j l) = plus idx tab X p.val (plus idx tab X p.val (plus idx tab X p.val (plus idx tab X p.val
    (broadcast S128x128 (Scalar.ofBits .f32 0x00000000#32 : Ideal .f32)) 0) 1) 2) 3 (ix2 j l) := by
    unfold prodOf
    pointwise
  have z : (broadcast S128x128 (Scalar.ofBits .f32 0x00000000#32 : Ideal .f32)) (ix2 j l) = (0 : Ideal .f32) := by
    show Ideal.ofBits .f32 0x00000000#32 = _
    simp [Ideal.ofBits, Ideal.ieee]
  rw [e, plus_apply _ _ _ _ _ 3 (by decide), plus_apply _ _ _ _ _ 2 (by decide), plus_apply _ _ _ _ _ 1 (by decide),
    plus_apply _ _ _ _ _ 0 (by decide), z]
  rw [zero_add]

/-- The sum of a token's products in one row: over all the columns. -/
theorem hidden_apply (idx : S1x128x128.Idx → BitVec 32) (tab : S65536x128.Idx → BitVec 32) (X : Vec Ideal S128x8x128 .f32)
    (j p : Fin 128) : hidden idx tab X (ix2 j p) = ∑ d : Fin 1024, product idx tab X p j d.val := by
  show colOf (prodOf idx tab X p.val) (ix2 j 0) = _
  rw [col_apply]
  simp only [prod_apply, Finset.sum_add_distrib]
  have h8 := Fin.sum_univ_univ_mul_add (S := 8) 128 fun d => product idx tab X p j d
  rw [Fin.sum_univ_eight] at h8
  rw [show (∑ d : Fin 1024, product idx tab X p j d.val) = ∑ d : Fin (8 * 128), product idx tab X p j d.val from rfl, ← h8]
  show _ = (∑ l : Fin 128, product idx tab X p j (0 * 128 + l.val)) + (∑ l : Fin 128, product idx tab X p j (1 * 128 + l.val))
    + (∑ l : Fin 128, product idx tab X p j (2 * 128 + l.val)) + (∑ l : Fin 128, product idx tab X p j (3 * 128 + l.val))
    + (∑ l : Fin 128, product idx tab X p j (4 * 128 + l.val)) + (∑ l : Fin 128, product idx tab X p j (5 * 128 + l.val))
    + (∑ l : Fin 128, product idx tab X p j (6 * 128 + l.val)) + (∑ l : Fin 128, product idx tab X p j (7 * 128 + l.val))
  ac_rfl

end Cert.Kernel4Ideal.Rows

end
-- ==== Proof.HiddenReference.lean ====
/- The reference of the call `peer_u` read at an index: which row of the table each expert's number picks, the sum of the
   row's products with the token, and the gate times the gelu of the sum. -/
module

public import proofs.«01_k».proof.Defs
public import proofs.«01_k».proof.Proof.HiddenValue
public import proofs.«01_k».proof.Proof.Gen.Reference4Ideal.Run
public import proofs.«01_k».proof.Proof.Gen.Pre_in_range4
public import Idealize.ShloMosaic.Lib.Pointwise
public import Idealize.ShloMosaic.Lib.BitcastConvert
public import Idealize.ShloMosaic.Lib.Pipeline.ValueKit
public import Idealize.ShloMosaic.Lib.IdealHost

@[expose] public section
set_option maxRecDepth 16384
noncomputable section

namespace Cert.Reference4Ideal.Rows
open Cert.Reference4Ideal Cert.Reference4Ideal.Gen Cert.Reference4Ideal.Value Idealize.ShloMosaic Idealize.ShloMosaic.TcCoe Idealize.SL.Sem Idealize.ShloMosaic.StableHlo

abbrev rowsOf := gather_S16384x1024_S256x128x128x1_S256x128x128x1024_3_0_n_n_0_3_11024

theorem gather_rows {α : Type} (x : S16384x1024.Idx → α) (idx : IVec S256x128x128x1 32) (b : Fin 256) (t j : Fin 128) (d : Fin 1024) :
    Host.gather rowsOf x idx (ix4 b t j d) = x (ix2 ⟨min (idx (ix4 b t j 0)).toInt.toNat 16383, by omega⟩ d) := by
  unfold Host.gather
  congr 1
  funext a
  refine Fin.ext ?_
  show rowsOf.start (ix4 b t j d) idx a + rowsOf.batchCoord (ix4 b t j d) a + rowsOf.offCoord (ix4 b t j d) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowsOf.startIndexMap from List.mem_singleton.mpr rfl)]
    have hsi : rowsOf.siIdx (ix4 b t j d) ⟨List.idxOf (0 : Fin 2) rowsOf.startIndexMap,
        List.idxOf_lt_length_iff.2 (List.mem_singleton.mpr rfl)⟩ = ix4 b t j 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    unfold GatherDims.start
    rw [dif_neg (by decide)]
    unfold GatherDims.offCoord
    rw [dif_pos (by decide)]
    simp only [Nat.zero_add]
    rfl

/-- An expert's number is never negative, so the reference's wrapped index is the number itself. -/
theorem pick (e : BitVec 32) (h : e.toNat < 16384) :
    Scalar.select (IntOp.cmpi .slt e 0#32) (IntOp.addi e 16384#32) e = e := by
  have : BitVec.slt e 0#32 = false := by
    simp only [BitVec.slt, BitVec.toInt, BitVec.toNat_ofNat, decide_eq_false_iff_not]; omega
  simp [IntOp.cmpi, this, Scalar.select]

/-- The reference's table of the experts' rows. -/
def table (tab : S65536x128.Idx → BitVec 32) : FVec Ideal S16384x1024 .f32 :=
  extf .f32 (concatenate S16384x1024 1
    [⟨S16384x512, shapeCast S16384x512 (extractStridedSlice S16384x512x1 ![0, 0, 0] (bitcastToFloat (F := Ideal) .bf16 (Host.bitcastConvertNarrow S16384x512x2 16 (shapeCast S16384x512 tab shapeCasts_S65536x128_S16384x512) splits_S16384x512_w32_S16384x512x2_w16)) slices_S16384x512x2_S16384x512x1_0_0_0) shapeCasts_S16384x512x1_S16384x512⟩,
     ⟨S16384x512, shapeCast S16384x512 (extractStridedSlice S16384x512x1 ![0, 0, 1] (bitcastToFloat (F := Ideal) .bf16 (Host.bitcastConvertNarrow S16384x512x2 16 (shapeCast S16384x512 tab shapeCasts_S65536x128_S16384x512) splits_S16384x512_w32_S16384x512x2_w16)) slices_S16384x512x2_S16384x512x1_0_0_1) shapeCasts_S16384x512x1_S16384x512⟩]
    concatenates_S16384x512_S16384x512_S16384x1024_d1) bitsLt_bf16_f32

/-- The reference's rows of the chosen experts. -/
def picked (E : S256x128x128.Idx → BitVec 32) (tab : S65536x128.Idx → BitVec 32) : FVec Ideal S256x128x128x1024 .f32 :=
  Host.gather rowsOf (table tab) (broadcastInDim S256x128x128x1 ![0, 1, 2] bcast_S256x128x128_S256x128x128x1_0_1_2
    (select (cmpi .slt E (broadcastInDim S256x128x128 ![] bcast_S_S256x128x128 (constantI S_ 32 0#32)))
      (addi E (broadcastInDim S256x128x128 ![] bcast_S_S256x128x128 (constantI S_ 32 16384#32))) E))

/-- The reference's sums: every chosen row times its token. -/
def sums (E : S256x128x128.Idx → BitVec 32) (X : FVec Ideal S32768x1024 .f32) (tab : S65536x128.Idx → BitVec 32) :
    FVec Ideal S256x128x128 .f32 :=
  transpose S256x128x128 [0, 2, 1] (Host.dotGeneral dot_S256x128x128x1024_S256x128x1024_S256x128x128_3_2_2_n_01_01 none (picked E tab)
    (shapeCast S256x128x1024 X shapeCasts_S32768x1024_S256x128x1024)) transposes_S256x128x128_S256x128x128_0_2_1

/-- The reference's gelu, times the gate. -/
def gelued (g h : FVec Ideal S256x128x128 .f32) : FVec Ideal S256x128x128 .f32 :=
  mulf g (mulf (mulf (broadcastInDim S256x128x128 ![] bcast_S_S256x128x128 (constant S_ .f32 0x3F000000#32)) h)
    (addf (broadcastInDim S256x128x128 ![] bcast_S_S256x128x128 (constant S_ .f32 0x3F800000#32))
      (Host.erf (mulf h (broadcastInDim S256x128x128 ![] bcast_S_S256x128x128 (constant S_ .f32 0x3F3504F3#32))))))

variable (m : (ℓ : Loc nD τ sig) → Buf (Elt Ideal) ℓ)

/-- The run of the reference, its result named. -/
theorem run_named (ρ : Dev nD → PrngReg) :
    θ_run (defs (F := Ideal)) (onTc (τ := τ) (main (F := Ideal))) ⟨m, fun _ => 0, ρ⟩ fun r => ∀ c : Dev nD,
      r.2.mem ((c.tc : Thread nD τ).loc main_v26) = gelued (m ((c.tc : Thread nD τ).loc main_arg2))
        (sums (m ((c.tc : Thread nD τ).loc main_arg0)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r H c => ⟨(H c).1, (H c).2⟩) (run m ρ)

open Cert.Kernel4Ideal.Rows (half tabAt word)

theorem table_apply (tab : S65536x128.Idx → BitVec 32) (e : Fin 16384) (d : Fin 1024) :
    table tab (ix2 e d) = half (d.val / 512) (tabAt tab (4 * e.val + d.val % 512 / 128) ⟨d.val % 128, Nat.mod_lt _ (by decide)⟩) := by
  unfold table
  have hd := d.isLt
  have he := e.isLt
  pointwise
  split
  · rename_i h
    rw [show d.val / 512 = 0 by omega]
    show _ = Ideal.ofBits .bf16 (BitVec.extractLsb' (0 * 16) 16 (tab (ix2 ⟨(4 * e.val + d.val % 512 / 128) % 65536, _⟩ _)))
    congr 4
    exact Fin.ext (show e.val * 4 + d.val / 128 = (4 * e.val + d.val % 512 / 128) % 65536 by omega)
  · rename_i h
    rw [show d.val / 512 = 1 by omega]
    show _ = Ideal.ofBits .bf16 (BitVec.extractLsb' (1 * 16) 16 (tab (ix2 ⟨(4 * e.val + d.val % 512 / 128) % 65536, _⟩ _)))
    congr 4
    · exact Fin.ext (show e.val * 4 + (d.val - 512) / 128 = (4 * e.val + d.val % 512 / 128) % 65536 by omega)
    · exact Fin.ext (show (d.val - 512) % 128 = d.val % 128 by omega)

theorem picked_apply (E : S256x128x128.Idx → BitVec 32) (tab : S65536x128.Idx → BitVec 32) (hE : ∀ y, (E y).toNat < 16384)
    (b : Fin 256) (t j : Fin 128) (d : Fin 1024) :
    picked E tab (ix4 b t j d)
      = half (d.val / 512) (tabAt tab (4 * (E (ix3 b t j)).toNat + d.val % 512 / 128) ⟨d.val % 128, Nat.mod_lt _ (by decide)⟩) := by
  unfold picked
  rw [gather_rows, table_apply]
  have h : broadcastInDim S256x128x128x1 ![0, 1, 2] bcast_S256x128x128_S256x128x128x1_0_1_2
    (select (cmpi .slt E (broadcastInDim S256x128x128 ![] bcast_S_S256x128x128 (constantI S_ 32 0#32)))
      (addi E (broadcastInDim S256x128x128 ![] bcast_S_S256x128x128 (constantI S_ 32 16384#32))) E) (ix4 b t j 0) = E (ix3 b t j) := by
    pointwise
    exact pick _ (hE _)
  have hv : min (E (ix3 b t j)).toInt.toNat 16383 = (E (ix3 b t j)).toNat := by
    have := hE (ix3 b t j)
    rw [BitVec.toInt_eq_toNat_of_lt (by omega)]
    omega
  simp only [h, hv]

theorem sums_apply (E : S256x128x128.Idx → BitVec 32) (X : FVec Ideal S32768x1024 .f32) (tab : S65536x128.Idx → BitVec 32)
    (b : Fin 256) (j t : Fin 128) :
    sums E X tab (ix3 b j t) = ∑ d : Fin 1024, picked E tab (ix4 b t j d) * X (ix2 ⟨b.val * 128 + t.val, by omega⟩ d) := by
  unfold sums
  pointwise

theorem gelued_apply (g h : FVec Ideal S256x128x128 .f32) (b : Fin 256) (j t : Fin 128) :
    gelued g h (ix3 b j t) = g (ix3 b j t) * (Ideal.ofBits .f32 0x3F000000#32 * h (ix3 b j t)
      * (Ideal.ofBits .f32 0x3F800000#32 + Ideal.erf (h (ix3 b j t) * Ideal.ofBits .f32 0x3F3504F3#32))) := by
  unfold gelued
  pointwise

end Cert.Reference4Ideal.Rows

end
-- ==== Proof.HiddenEnds.lean ====
/- The ends of the proof of the call `peer_u`: expert numbers below 16384 make every row number usable, and at the ideal
   instance the array the kernel leaves is the one the reference computes. -/
module

public import proofs.«01_k».proof.Proof.HiddenValue
public import proofs.«01_k».proof.Proof.HiddenReference
public import Idealize.ShloMosaic.Lib.Pointwise
public import Idealize.ShloMosaic.Lib.Claim
public import Idealize.ShloMosaic.Lib.Pipeline.ValueKit

@[expose] public section
set_option maxRecDepth 16384
noncomputable section

namespace Cert.Kernel4Ideal.Rows

open Cert.Kernel4Ideal Cert.Kernel4Ideal.Gen
open Idealize.ShloMosaic Idealize.ShloMosaic.TcCoe Idealize.SL Idealize.SL.Sem

/-- Both comparisons of the precondition, read off one word. -/
theorem below (e : BitVec 32) (h : IntOp.andi (IntOp.cmpi .sge e 0#32) (IntOp.cmpi .slt e 16384#32) = 1#1) : e.toNat < 16384 := by
  have andi_ofBool (p q : Bool) : IntOp.andi (BitVec.ofBool p) (BitVec.ofBool q) = BitVec.ofBool (p && q) := by
    cases p <;> cases q <;> decide
  have ofBool_one (p : Bool) : (BitVec.ofBool p = 1#1) ↔ p = true := by cases p <;> decide
  simp only [IntOp.cmpi, andi_ofBool, ofBool_one, Bool.and_eq_true] at h
  obtain ⟨hge, hlt⟩ := h
  simp only [BitVec.sle, BitVec.slt, decide_eq_true_eq, BitVec.toInt, BitVec.toNat_ofNat] at hge hlt
  omega

theorem times_four (e : BitVec 32) (h : e.toNat < 16384) : (IntOp.muli e 4#32).toNat = 4 * e.toNat := by
  simp only [IntOp.muli, BitVec.toNat_mul, BitVec.toNat_ofNat]
  omega

theorem usable_word (e : BitVec 32) (h : e.toNat < 16384) : k0_chk1 (IntOp.muli e 4#32) := by
  have h4 := times_four e h
  refine ⟨?_, fun a => ?_⟩
  · show 4 ∣ (IntOp.muli e 4#32).toNat
    omega
  · match a with
    | ⟨0, _⟩ =>
      show (Scalar.indexCast (IntOp.muli e 4#32)).toNat + 4 ≤ 65536
      have : (Scalar.indexCast (IntOp.muli e 4#32)).toNat = (IntOp.muli e 4#32).toNat := rfl
      omega
    | ⟨1, _⟩ => show 0 + 128 ≤ 128; omega

section Words

variable {F : FTy → Type} [FloatOps F]
variable (m : (ℓ : Loc nD τ sig) → Buf (Elt F) ℓ)

/-- Every expert number the launch finds lies in the table. -/
def Numbers : Prop := ∀ (c : Dev nD) (y : S256x128x128.Idx), (m ((c : Thread nD τ).loc main_arg0) y : BitVec 32).toNat < 16384

theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![t.val, 0, 0] :=
  (by decide +kernel : ∀ t : Fin grid0.N, _)

theorem entry (c : Dev nD) (y : S256x128x128.Idx) :
    (V m c main_v1 y : BitVec 32) = IntOp.muli (m ((c : Thread nD τ).loc main_arg0) y) 4#32 := by
  entry_read
  rfl

theorem entry_x (c : Dev nD) (q : Fin 32768) (s : Fin 8) (l : Fin 128) :
    (V m c main_v2 : S32768x8x128.Idx → Elt F .f32) (ix3 q s l) = (m ((c : Thread nD τ).loc main_arg1) : S32768x1024.Idx → Elt F .f32) (ix2 q ⟨s.val * 128 + l.val, by omega⟩) := by
  entry_read
  pointwise

theorem words_apply (c : Dev nD) (t : Fin cfg0.N) (p j : Fin 128) :
    (iblk m c 0 t (ix3 0 p j) : BitVec 32) = IntOp.muli (m ((c : Thread nD τ).loc main_arg0) (ix3 ⟨t.val, t.isLt⟩ p j)) 4#32 := by
  rw [← entry]
  blk_ext [iblk, idx t]

theorem x_apply (c : Dev nD) (t : Fin cfg0.N) (p : Fin 128) (s : Fin 8) (l : Fin 128) (q : Fin 32768) (hq : q.val = t.val * 128 + p.val) :
    (iblk m c 1 t : S128x8x128.Idx → Elt F .f32) (ix3 p s l) = (m ((c : Thread nD τ).loc main_arg1) : S32768x1024.Idx → Elt F .f32) (ix2 q ⟨s.val * 128 + l.val, by omega⟩) := by
  refine Eq.trans ?_ (entry_x m c q s l)
  blk_ext [iblk, idx t]

theorem usable (h : Numbers m) (c : Dev nD) (t : Fin cfg0.N) : Usable (iblk m c 0 t) := fun p j => by
  unfold word
  rw [words_apply]
  exact usable_word _ (h c _)

end Words

variable (m : (ℓ : Loc nD τ sig) → Buf (Elt Ideal) ℓ)

open Cert.Reference4Ideal.Rows (sums gelued picked)

abbrev wanted (c : Dev nD) : S256x128x128.Idx → Ideal .f32 :=
  gelued (m ((c : Thread nD τ).loc main_arg2))
    (sums (m ((c : Thread nD τ).loc main_arg0)) (m ((c : Thread nD τ).loc main_arg1)) (m ((c : Thread nD τ).loc main_arg3)))

theorem sums_eq (h : Numbers m) (c : Dev nD) (t : Fin cfg0.N) (j p : Fin 128) (b : Fin 256) (hb : b.val = t.val) :
    hidden (iblk m c 0 t) (iblk m c 3 t) (iblk m c 1 t) (ix2 j p)
      = sums (m ((c : Thread nD τ).loc main_arg0)) (m ((c : Thread nD τ).loc main_arg1)) (m ((c : Thread nD τ).loc main_arg3)) (ix3 b j p) := by
  have ht : t.val < 256 := t.isLt
  have hp := p.isLt
  have eb : b = ⟨t.val, t.isLt⟩ := Fin.ext hb
  rw [hidden_apply, Cert.Reference4Ideal.Rows.sums_apply, eb]
  refine Finset.sum_congr rfl fun d _ => ?_
  have hd := d.isLt
  rw [Cert.Reference4Ideal.Rows.picked_apply _ _ (h c)]
  unfold product
  rw [x_apply m c t p _ _ ⟨t.val * 128 + p.val, by omega⟩ rfl]
  congr 1
  · congr 1
    have hw : (word (iblk m c 0 t) p.val j.val) = IntOp.muli (m ((c : Thread nD τ).loc main_arg0) (ix3 ⟨t.val, t.isLt⟩ p j)) 4#32 := by
      rw [← words_apply]
      unfold word
      congr 1
      congr 1 <;> apply Fin.ext
      · exact Nat.mod_eq_of_lt p.isLt
      · exact Nat.mod_eq_of_lt j.isLt
    rw [hw, times_four _ (h c _)]
    unfold tabAt
    blk_ext [iblk, V_main_arg3, idx t]
  · congr 2
    apply Fin.ext
    show d.val / 128 % 8 * 128 + d.val % 128 = d.val
    omega

theorem final (h : Numbers m) (c : Dev nD) : (dats m 0 c).arrAt 4 cfg0.N = wanted m c := by
  refine (dats m 0 c).arrAt_eq_of_covers 4 (wanted m c) (by decide +kernel) fun t hf y => ?_
  blk_simp
  show block m c t y = _
  idx_vars y
  have ht : t.val < 256 := t.isLt
  have hz : y0 = 0 := Fin.ext (by have := y0.isLt; show y0.val = 0; omega)
  subst hz
  unfold block wanted result
  rw [gated_apply, show ((cfg0.win 4).blk t).view.emb (ix3 0 y1 y2) = ix3 (⟨t.val, by omega⟩ : Fin 256) y1 y2 from by blk_ext [idx t],
    Cert.Reference4Ideal.Rows.gelued_apply, sums_eq m h c t y1 y2 ⟨t.val, by omega⟩ rfl]
  congr 1
  blk_ext [iblk, V_main_arg2, idx t]

end Cert.Kernel4Ideal.Rows

end
-- ==== Proof.Packing.lean ====
/- The call `pack_table`: each expert's 1024 columns become 512 words, column `c` rounded to sixteen bits in the low half of
   word `c` and column `512 + c` in the high half; the words of a row go to four rows of 128 lanes. What the kernel leaves, at
   any value instance whose values have bits, and the reference's words. -/
module

public import proofs.«01_k».proof.Defs
public import proofs.«01_k».proof.Proof.Gen.Kernel5.Frame
public import proofs.«01_k».proof.Proof.Gen.Reference5.Run
public import Idealize.ShloMosaic.Lib.Tactic
public import Idealize.ShloMosaic.Lib.Pointwise
public import Idealize.ShloMosaic.Lib.VecWindow
public import Idealize.ShloMosaic.Lib.BitcastConvert
public import Idealize.ShloMosaic.Lib.Pipeline.Frame
public import Idealize.ShloMosaic.Lib.Pipeline.ValueKit

@[expose] public section

set_option maxRecDepth 16384

noncomputable section

namespace Cert.Kernel5.Words

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5.Gen Idealize.ShloMosaic.Rounds
open Idealize.ShloMosaic.Pipeline (Dat BodyObligation)

variable {F : FTy → Type} [BitOps F]

local notation "𝕄" => MT nD τ sig Unit (Elt F) ℕ (UR sig nD τ) ℕ

abbrev Bf (F : FTy → Type) (c : Dev nD) {sp : Space} {S : Shape} {e : EltTy} (M : Memref sig .tc sp S e) : Type :=
  Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The run of a program of the kernel's on core `c`. -/
abbrev runs (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- The bits of a value rounded to sixteen bits. -/
def bits16 (x : F .f32) : BitVec 16 := BitOps.toBits (FloatOps.truncf .bf16 (by decide) x : F .bf16)

/-- The words of a block of 512 rows. -/
def packed (X : Vec F S512x1024 .f32) : S2048x128.Idx → BitVec 32 := fun y =>
  bits16 (X (ix2 ⟨(y 0).val / 4, by have : (y 0).val < 2048 := (y 0).isLt; omega⟩
      ⟨512 + (128 * ((y 0).val % 4) + (y 1).val), by have : (y 1).val < 128 := (y 1).isLt; omega⟩))
    ++ bits16 (X (ix2 ⟨(y 0).val / 4, by have : (y 0).val < 2048 := (y 0).isLt; omega⟩
      ⟨128 * ((y 0).val % 4) + (y 1).val, by have : (y 1).val < 128 := (y 1).isLt; omega⟩))

theorem inb_quarter (s : ℕ) (hs : s < 4) :
    ∀ a, S512x128.size a = 0 ∨ (![s, 0] : Fin 2 → Nat) a + (![4, 1] : Fin 2 → Nat) a * (S512x128.size a - 1) < S2048x128.size a := by
  intro a
  right
  fin_cases a
  · show s + 4 * 511 < 2048
    omega
  · show 0 + 1 * 127 < 128
    omega

/-- The rows `s`, `s + 4`, … of the block of words. -/
abbrev quarterRect (s : ℕ) (hs : s < 4) : Rect S2048x128 :=
  ⟨(⟨![s, 0], S512x128.size, ![4, 1], inb_quarter s hs⟩ : LoadRect S2048x128), spos_4_1⟩

theorem mem_quarter (y : S2048x128.Idx) : ∃ (s : ℕ) (hs : s < 4), y ∈ (quarterRect s hs).set := by
  have hy0 : (y 0).val < 2048 := (y 0).isLt
  have e : (quarterRect ((y 0).val % 4) (Nat.mod_lt _ (by decide))).emb (ix2 ⟨(y 0).val / 4, by omega⟩ (y 1)) = y := by
    funext a
    match a with
    | ⟨0, _⟩ => apply Fin.ext; show (y 0).val % 4 + 4 * ((y 0).val / 4) = (y 0).val; omega
    | ⟨1, _⟩ => apply Fin.ext; show 0 + 1 * (y 1).val = (y 1).val; omega
  refine ⟨(y 0).val % 4, Nat.mod_lt _ (by decide), ?_⟩
  rw [← Rect.map_emb_univ]
  exact Finset.mem_map.mpr ⟨_, Finset.mem_univ _, e⟩

/-- A quarter of the words of a block, as the kernel forms it, is that quarter of `packed`. -/
theorem quarter_eq (X : Vec F S512x1024 .f32) (s : ℕ) (hs : s < 4)
    (h1 : S512x1024.Slices ![0, 0] S512x512) (h2 : S512x1024.Slices ![0, 512] S512x512) (h3 : S512x512.Slices ![0, 128 * s] S512x128)
    (x : S512x128.Idx) :
    extractStridedSlice S512x128 ![0, 128 * s] (packElementwise (extractStridedSlice S512x512 ![0, 0] X h1 : FVec F S512x512 .f32)
      (extractStridedSlice S512x512 ![0, 512] X h2)) h3 x = packed X ((quarterRect s hs).emb x) := by
  have hx0 : (x 0).val < 512 := (x 0).isLt
  have hx1 : (x 1).val < 128 := (x 1).isLt
  have e0 : ((quarterRect s hs).emb x 0).val = s + 4 * (x 0).val := rfl
  have e1 : ((quarterRect s hs).emb x 1).val = 0 + 1 * (x 1).val := rfl
  unfold packed bits16
  have ix (a b : ℕ) (ha : a < 512) (hb : b < 1024) (a' b' : ℕ) (ha' : a' < 512) (hb' : b' < 1024) (h : a = a') (h' : b = b') :
    X (ix2 ⟨a, ha⟩ ⟨b, hb⟩) = X (ix2 ⟨a', ha'⟩ ⟨b', hb'⟩) := by subst h h'; rfl
  idx_vars x
  pointwise
  refine congrArg₂ (fun a b => (BitOps.toBits (FloatOps.truncf .bf16 (by decide) a : F .bf16) ++ BitOps.toBits (FloatOps.truncf .bf16 (by decide) b : F .bf16) : BitVec 32)) ?_ ?_ <;>
    exact ix _ _ _ _ _ _ _ _ (by omega) (by omega)

/-! ## The body on one block -/

/-- The body, from its operands whole: the input is left alone, the result's buffer holds the block's words. -/
theorem body_wp (c : Dev nD) (i : grid0.Coords) {arg1 : Memref sig .tc .vmem S512x1024 .f32} (harg1 : arg1.IsWhole)
    {arg2 : Memref sig .tc .vmem S2048x128 .i32} (harg2 : arg2.IsWhole) {f1 : Bf F c arg1} {f2 : Bf F c arg2} (Q : PUnit.{1} → sProp 𝕄) :
    iprop(pt c arg1 f1 ∗ pt c arg2 f2
      ∗ (∀ g2, ⌜arg2.view.read (Elt F) g2 = packed (arg1.view.read (Elt F) f1)⌝ -∗ pt c arg1 f1 -∗ pt c arg2 g2 -∗ Q ⟨⟩))
    ⊢ runs c (cc0_pack_table i arg1 harg1 arg2 harg2) Q := by
  iintro ⟨H1, H2, Hk⟩
  unfold cc0_pack_table runs
  sl_exec!
  sl_step
  iapply Hk $$ %_ [] H1 H2
  ipureintro
  funext y
  refine View.read_writes_apply_of_pieces _ _ _ _ ?_ y ?_
  · rw [← View.readAt_full (Val := Elt F) arg1.view f1 inb_S512x1024_S512x1024_0_0]
    intro p hp x
    simp only [List.mem_cons, List.not_mem_nil, or_false] at hp
    rcases hp with rfl | rfl | rfl | rfl
    · exact quarter_eq _ 3 (by decide) slices_S512x1024_o0_0_S512x512 slices_S512x1024_o0_512_S512x512 slices_S512x512_o0_384_S512x128 x
    · exact quarter_eq _ 2 (by decide) slices_S512x1024_o0_0_S512x512 slices_S512x1024_o0_512_S512x512 slices_S512x512_o0_256_S512x128 x
    · exact quarter_eq _ 1 (by decide) slices_S512x1024_o0_0_S512x512 slices_S512x1024_o0_512_S512x512 slices_S512x512_o0_128_S512x128 x
    · exact quarter_eq _ 0 (by decide) slices_S512x1024_o0_0_S512x512 slices_S512x1024_o0_512_S512x512 slices_S512x512_o0_0_S512x128 x
  · obtain ⟨s, hs, hm⟩ := mem_quarter y
    have h : s = 0 ∨ s = 1 ∨ s = 2 ∨ s = 3 := by omega
    rcases h with rfl | rfl | rfl | rfl
    · refine ⟨_, List.mem_cons_of_mem _ (List.mem_cons_of_mem _ (List.mem_cons_of_mem _ List.mem_cons_self)), ?_⟩
      exact hm
    · refine ⟨_, List.mem_cons_of_mem _ (List.mem_cons_of_mem _ List.mem_cons_self), ?_⟩
      exact hm
    · refine ⟨_, List.mem_cons_of_mem _ List.mem_cons_self, ?_⟩
      exact hm
    · refine ⟨_, List.mem_cons_self, ?_⟩
      exact hm

/-- `body_wp` over whole operands owned at their contents. -/
theorem printed_wp (c : Dev nD) (i : grid0.Coords) {arg1 : Memref sig .tc .vmem S512x1024 .f32} (harg1 : arg1.IsWhole)
    {arg2 : Memref sig .tc .vmem S2048x128 .i32} (harg2 : arg2.IsWhole) {X1 : Vec F S512x1024 .f32} (Q : PUnit.{1} → sProp 𝕄) :
    iprop(owns (c : Thread nD τ) arg1 fullShare X1 ∗ (∃ d, owns (c : Thread nD τ) arg2 fullShare d)
      ∗ (owns (c : Thread nD τ) arg1 fullShare X1 -∗ owns (c : Thread nD τ) arg2 fullShare (packed X1) -∗ Q ⟨⟩))
    ⊢ runs c (cc0_pack_table i arg1 harg1 arg2 harg2) Q := by
  unfold owns
  rw [harg1.set_eq_univ, harg2.set_eq_univ]
  iintro ⟨⟨%f1, %h1, H1⟩, ⟨%d2, %f2, -, H2⟩, Hk⟩
  subst h1
  iapply (body_wp c i harg1 harg2 _)
  isplitl [H1]; · iexact H1
  isplitl [H2]; · iexact H2
  iintro %g2 %hR H1 H2
  iapply Hk $$ [H1] [H2]
  · iexists _; isplitr; swap; · iexact H1
    ipureintro; rfl
  · iexists _; isplitr; swap; · iexact H2
    ipureintro; exact hR

/-! ## The pipeline -/

variable (m : (ℓ : Loc nD τ sig) → Buf (Elt F) ℓ) (ρ : Dev nD → PrngReg)

/-- The block of words at point `t`. -/
def block (c : Dev nD) (t : Fin cfg0.N) : S2048x128.Idx → Elt F .i32 := packed (iblk m c 0 t)

/-- The proof data: the input's window is left at its block, the result's window at `block`. -/
def dats (_ : Fin 1) (c : Dev nD) : Dat τ (Elt F) Unit ℕ (UR sig nD τ) ℕ cfg0 c where
  A w := V m c (Pipeline.arrRef spec0 w)
  after := fun | ⟨0, _⟩, t => iblk m c 0 t | ⟨1, _⟩, t => block m c t
  Φ _ := Pipeline.ΦA spec0 c
  q _ := fullShare
  owed _ := 0

theorem dats_A (c : Dev nD) (w : Fin cfg0.W) : (dats m 0 c).A w = V m c (Pipeline.arrRef spec0 w) := by dsimp only [dats]

theorem found0 (c : Dev nD) (t : Fin cfg0.N) (d) : (dats m 0 c).before 0 t d = iblk m c 0 t :=
  before0_0_of m (dats m 0 c) (dats_A m c 0) (fun _ => by dsimp only [dats]) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (block m c t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0 block
  rw [show (dats m 0 c).Φ t.succ = (dats m 0 c).Φ t.castSucc from rfl,
    show (dats m 0 c).owesAt () t.succ = (dats m 0 c).owesAt () t.castSucc from rfl]
  simp only [found0]
  iintro ⟨HΦ, HO, ⟨%d0, H0⟩, ⟨%d1, H1⟩⟩
  iapply (printed_wp c _ _ _ _)
  isplitl [H0]; · iexact H0
  isplitl [H1]; · iexists _; iexact H1
  iintro H0 H1
  isplitl [HΦ]; · iexact HΦ
  isplitl [HO]; · iexact HO
  isplitl [H0]; · iexact H0
  iexact H1

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the implicit arguments are found by unifying the conclusion with this statement
set_option backward.isDefEq.respectTransparency.types false in
/-- The run: every array of the pipeline ends at what the blocks written to it say, every other buffer as the region found
    it, every counter at zero. -/
theorem run_main :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := dats_A m) (hΦ := fun _ _ => rfl)

/-! ## The whole array -/

/-- The words of the whole table. -/
def words (T : Vec F S16384x1024 .f32) : S65536x128.Idx → BitVec 32 := fun y =>
  bits16 (T (ix2 ⟨(y 0).val / 4, by have : (y 0).val < 65536 := (y 0).isLt; omega⟩
      ⟨512 + (128 * ((y 0).val % 4) + (y 1).val), by have : (y 1).val < 128 := (y 1).isLt; omega⟩))
    ++ bits16 (T (ix2 ⟨(y 0).val / 4, by have : (y 0).val < 65536 := (y 0).isLt; omega⟩
      ⟨128 * ((y 0).val % 4) + (y 1).val, by have : (y 1).val < 128 := (y 1).isLt; omega⟩))

theorem idx : ∀ t : Fin cfg0.N, win0_0.index t = ![t.val, 0] ∧ win0_1.index t = ![t.val, 0] :=
  (by decide +kernel : ∀ t : Fin grid0.N, _)

theorem final (c : Dev nD) : (dats m 0 c).arrAt 1 cfg0.N = words (m ((c : Thread nD τ).loc main_arg0)) := by
  refine (dats m 0 c).arrAt_eq_of_covers 1 (words (m ((c : Thread nD τ).loc main_arg0))) (by decide +kernel) fun t hf y => ?_
  blk_simp
  show block m c t y = _
  idx_vars y
  have ht : t.val < 32 := t.isLt
  have hp := y0.isLt
  have hl := y1.isLt
  unfold block
  rw [show ((cfg0.win 1).blk t).view.emb (ix2 y0 y1) = ix2 (⟨t.val * 2048 + y0.val, by omega⟩ : Fin 65536) y1 from by blk_ext [idx t]]
  unfold packed words
  refine congrArg₂ (fun a b => (bits16 a ++ bits16 b : BitVec 32)) ?_ ?_
  · show iblk m c 0 t (ix2 ⟨y0.val / 4, _⟩ ⟨512 + (128 * (y0.val % 4) + y1.val), _⟩)
      = m ((c : Thread nD τ).loc main_arg0) (ix2 ⟨(t.val * 2048 + y0.val) / 4, _⟩ ⟨512 + (128 * ((t.val * 2048 + y0.val) % 4) + y1.val), _⟩)
    blk_ext [iblk, V_main_arg0, idx t]
  · show iblk m c 0 t (ix2 ⟨y0.val / 4, _⟩ ⟨128 * (y0.val % 4) + y1.val, _⟩)
      = m ((c : Thread nD τ).loc main_arg0) (ix2 ⟨(t.val * 2048 + y0.val) / 4, _⟩ ⟨128 * ((t.val * 2048 + y0.val) % 4) + y1.val, _⟩)
    blk_ext [iblk, V_main_arg0, idx t]

end Cert.Kernel5.Words

namespace Cert.Reference5.Words

open Cert.Reference5 Cert.Reference5.Gen Cert.Reference5.Value Idealize.ShloMosaic Idealize.ShloMosaic.TcCoe Idealize.SL.Sem
open Cert.Kernel5.Words (bits16 words)

variable {F : FTy → Type} [BitOps F]

theorem snoc_eq (a : Fin 16384) (b : Fin 512) (k : Fin 2) :
    splits_S16384x512_w32_S16384x512x2_w16.snoc (ix2 a b) k = ix3 a b k := by
  funext x
  match x with
  | ⟨0, _⟩ => rfl
  | ⟨1, _⟩ => rfl
  | ⟨2, _⟩ => rfl

/-- The reference's pairs of columns. -/
def pairs (T : Vec F S16384x1024 .f32) : FVec F S16384x512x2 .bf16 :=
  concatenate S16384x512x2 2
    [⟨S16384x512x1, (broadcastInDim S16384x512x1 ![0, 1] bcast_S16384x512_S16384x512x1_0_1 (extractStridedSlice S16384x512 ![0, 0] (truncf .bf16 T bitsLt_bf16_f32 : FVec F S16384x1024 .bf16) slices_S16384x1024_S16384x512_0_0))⟩,
     ⟨S16384x512x1, (broadcastInDim S16384x512x1 ![0, 1] bcast_S16384x512_S16384x512x1_0_1 (extractStridedSlice S16384x512 ![0, 512] (truncf .bf16 T bitsLt_bf16_f32 : FVec F S16384x1024 .bf16) slices_S16384x1024_S16384x512_0_512))⟩]
    concatenates_S16384x512x1_S16384x512x1_S16384x512x2_d2

theorem low (T : Vec F S16384x1024 .f32) (a : Fin 16384) (b : Fin 512) :
    bitcastToInt (pairs T) (ix3 a b 0) = bits16 (T (ix2 a ⟨b.val, by omega⟩)) := by
  unfold pairs bits16
  pointwise

theorem high (T : Vec F S16384x1024 .f32) (a : Fin 16384) (b : Fin 512) :
    bitcastToInt (pairs T) (ix3 a b 1) = bits16 (T (ix2 a ⟨512 + b.val, by omega⟩)) := by
  unfold pairs bits16
  pointwise

theorem word_eq (T : Vec F S16384x1024 .f32) (a : Fin 16384) (b : Fin 512) :
    Host.bitcastConvertWiden S16384x512 32 (bitcastToInt (pairs T)) splits_S16384x512_w32_S16384x512x2_w16 (ix2 a b)
      = bits16 (T (ix2 a ⟨512 + b.val, by omega⟩)) ++ bits16 (T (ix2 a ⟨b.val, by omega⟩)) := by
  refine (Host.bitcastConvertWiden_apply_16_32 _ _ _ _).trans ?_
  exact congrArg₂ (fun p q : BitVec 16 => p ++ q) ((congrArg (bitcastToInt (pairs T)) (snoc_eq a b 1)).trans (high T a b))
    ((congrArg (bitcastToInt (pairs T)) (snoc_eq a b 0)).trans (low T a b))

/-- They are the words of the whole table. -/
theorem words_eq (T : Vec F S16384x1024 .f32) :
    shapeCast S65536x128 (Host.bitcastConvertWiden S16384x512 32 (bitcastToInt (pairs T)) splits_S16384x512_w32_S16384x512x2_w16)
      shapeCasts_S16384x512_S65536x128 = words T := by
  funext y
  idx_vars y
  have hp := y0.isLt
  have hl := y1.isLt
  refine Eq.trans (b := Host.bitcastConvertWiden S16384x512 32 (bitcastToInt (pairs T)) splits_S16384x512_w32_S16384x512x2_w16
    (ix2 ⟨y0.val / 4, by omega⟩ ⟨128 * (y0.val % 4) + y1.val, by omega⟩)) ?_ (word_eq T _ _)
  generalize Host.bitcastConvertWiden S16384x512 32 (bitcastToInt (pairs T)) splits_S16384x512_w32_S16384x512x2_w16 = w
  pointwise
  congr 2
  exact Fin.ext (by show y0.val % 4 * 128 + y1.val = 128 * (y0.val % 4) + y1.val; omega)

end Cert.Reference5.Words

end
-- ==== Proof.lean ====
module

public import proofs.«01_k».proof.Defs
public import proofs.«01_k».proof.Proof.Ends
public import proofs.«01_k».proof.Proof.Inproj
public import proofs.«01_k».proof.Proof.Merging
public import proofs.«01_k».proof.Proof.HiddenEnds
public import proofs.«01_k».proof.Proof.Packing
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Pre_in_range4
public import proofs.«01_k».proof.Proof.Gen.Kernel5
public import proofs.«01_k».proof.Proof.Gen.Kernel5.Frame
public import proofs.«01_k».proof.Proof.Gen.Reference5
public import proofs.«01_k».proof.Proof.Gen.Reference5.Run
public import Idealize.ShloMosaic.Lib.Claim
public import Idealize.ShloMosaic.Lib.Pipeline.Quiescent

@[expose] public section

noncomputable section

namespace Cert.Proof

open Idealize.ShloMosaic Idealize.ShloMosaic.TcCoe Idealize.SL.Sem
open Cert.KernelIdeal.Rows (Numbers dats dats_A run_main usable final wanted)

/-- The precondition says that every expert number lies in the table. -/
theorem numbers {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_in_range.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = fun _ => 1#1) :
    Numbers m := fun c y => Cert.KernelIdeal.Rows.below _ (congrFun (h c) y)

open Cert.KernelIdeal in
/-- The frame, over any float values. -/
theorem frame_any {F : FTy → Type} [FloatOps F] (m : (ℓ : Loc nD τ sig) → Buf (Elt F) ℓ) (ρ : Dev nD → PrngReg) (h : Numbers m) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  θ_run_with_sems (Gen.frame_of m ρ (dats m) (dats_A m)) (run_main m ρ (usable m h))

theorem frame_kernel : Cert.quiescent_Kernel := fun m ρ h =>
  Eq.mp (by chain_rfl) (frame_any (F := Bits) m ρ (numbers m h))

theorem frame_ideal : Cert.quiescent_KernelIdeal := fun m ρ h => frame_any (F := Ideal) m ρ (numbers m h)

open Cert.KernelIdeal in
/-- The run's array and arguments, at the ideal instance. -/
theorem value (m : (ℓ : Loc nD τ sig) → Buf (Elt Ideal) ℓ) (ρ : Dev nD → PrngReg) (h : Numbers m) :
    θ_run (defs (F := Ideal)) (onTc (τ := τ) (main (F := Ideal))) ⟨m, fun _ => 0, ρ⟩ fun r =>
      ∀ c : Dev nD, r.2.mem ((c.tc : Thread nD τ).loc main_v2) = wanted m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  refine (θ_run defs _ _).mono (fun r H c => ⟨?_, ?_⟩) (θ_run_and (run_main m ρ (usable m h)) (frame_any m ρ h))
  · exact ((H.1.1 c).1 5).trans (final m h c)
  · exact H.2.1 c

/-- The reference's frame: it has no counters. -/
theorem frame_reference : Cert.quiescent_ReferenceIdeal := fun m ρ _ =>
  (θ_run Cert.ReferenceIdeal.defs _ _).mono (fun r H => ⟨fun c => (H c).2, sem_eq_zero_of_no_sems (by decide) r.2⟩)
    (Cert.ReferenceIdeal.Value.run m ρ)

theorem agree : Cert.algebraic_KernelIdeal_ReferenceIdeal := by
  intro m g m' g' h hagree
  refine ⟨fun c => wanted m c, value m g (numbers m h), (θ_run Cert.ReferenceIdeal.defs _ _).mono (fun r H c => ⟨(H c).1.trans ?_, (H c).2⟩)
    (Cert.ReferenceIdeal.Value.run m' g')⟩
  refine (Cert.ReferenceIdeal.Rows.res_eq m' c).trans ?_
  rw [(hagree c).1, (hagree c).2.1, (hagree c).2.2.1, (hagree c).2.2.2.1, (hagree c).2.2.2.2]

theorem frame_ideal2 : Cert.quiescent_Kernel2Ideal := fun m ρ _ => Cert.Kernel2Ideal.Gen.frame m ρ

theorem frame_kernel2 : Cert.quiescent_Kernel2 := fun m ρ _ =>
  Eq.mp (by chain_rfl) (Cert.Kernel2Ideal.Gen.frame (F := Bits) m ρ)

theorem frame_reference2 : Cert.quiescent_Reference2Ideal := fun m ρ _ =>
  (θ_run Cert.Reference2Ideal.defs _ _).mono (fun r H => ⟨fun c => (H c).2, sem_eq_zero_of_no_sems (by decide) r.2⟩)
    (Cert.Reference2Ideal.Value.run m ρ)

theorem agree2 : Cert.algebraic_Kernel2Ideal_Reference2Ideal := by
  intro m g m' g' _ hagree
  refine ⟨fun c => Cert.Kernel2Ideal.Columns.wanted m c,
    (θ_run Cert.Kernel2Ideal.defs _ _).mono (fun r H c => ⟨(H c).1.trans (Cert.Kernel2Ideal.Columns.final m c), (H c).2⟩) (Cert.Kernel2Ideal.Value.run_blocks m g),
    (θ_run Cert.Reference2Ideal.defs _ _).mono (fun r H c => ⟨(H c).1.trans ?_, (H c).2⟩) (Cert.Reference2Ideal.Value.run m' g')⟩
  refine (Cert.Reference2Ideal.Columns.res_eq m' c).trans ?_
  rw [(hagree c).1, (hagree c).2.1, (hagree c).2.2.1, (hagree c).2.2.2.1, (hagree c).2.2.2.2]

theorem frame_ideal3 : Cert.quiescent_Kernel3Ideal := fun m ρ _ => Cert.Kernel3Ideal.Gen.frame m ρ

theorem frame_kernel3 : Cert.quiescent_Kernel3 := fun m ρ _ =>
  Eq.mp (by chain_rfl) (Cert.Kernel3Ideal.Gen.frame (F := Bits) m ρ)

theorem frame_reference3 : Cert.quiescent_Reference3Ideal := fun m ρ _ =>
  (θ_run Cert.Reference3Ideal.defs _ _).mono (fun r H => ⟨fun c => (H c).2.2.2, sem_eq_zero_of_no_sems (by decide) r.2⟩)
    (Cert.Reference3Ideal.Value.run m ρ)

theorem agree3 : Cert.algebraic_Kernel3Ideal_Reference3Ideal := by
  intro m g m' g' _ hagree
  have row : ∀ c, Cert.Reference3Ideal.Mix.row m' c = Cert.Kernel3Ideal.Mix.wanted13 m c := fun c => by
    unfold Cert.Reference3Ideal.Mix.row
    rw [(hagree c).1, (hagree c).2.1, (hagree c).2.2.1, (hagree c).2.2.2.1, (hagree c).2.2.2.2.1, (hagree c).2.2.2.2.2.1, (hagree c).2.2.2.2.2.2.1, (hagree c).2.2.2.2.2.2.2.1]
  refine ⟨fun c => Cert.Kernel3Ideal.Mix.wanted13 m c, fun c => Cert.Kernel3Ideal.Mix.wanted14 m c, fun c => Cert.Kernel3Ideal.Mix.wanted15 m c,
    (θ_run Cert.Kernel3Ideal.defs _ _).mono (fun r H c => ⟨(H c).1.trans (Cert.Kernel3Ideal.Mix.final13 m c), (H c).2.1.trans (Cert.Kernel3Ideal.Mix.final14 m c),
      (H c).2.2.1.trans (Cert.Kernel3Ideal.Mix.final15 m c), (H c).2.2.2⟩) (Cert.Kernel3Ideal.Value.run_blocks m g),
    (θ_run Cert.Reference3Ideal.defs _ _).mono (fun r H c => ⟨(H c).1.trans (row c), (H c).2.1.trans ?_, (H c).2.2.1.trans ?_, (H c).2.2.2⟩) (Cert.Reference3Ideal.Value.run m' g')⟩
  · refine (Cert.Reference3Ideal.Mix.res_eq1 m' c).trans ?_
    rw [row c, (hagree c).2.2.2.2.2.2.2.2.1]
  · refine (Cert.Reference3Ideal.Mix.res_eq2 m' c).trans ?_
    rw [row c, (hagree c).2.2.2.2.2.2.2.2.1, (hagree c).2.2.2.2.2.2.2.2.2]

/-- The precondition of the fourth program says that every expert number lies in the table. -/
theorem numbers4 {F : FTy → Type} [FloatOps F] (m : (ℓ : Loc Cert.Kernel4Ideal.nD Cert.Kernel4Ideal.τ Cert.Kernel4Ideal.sig) → Buf (Elt F) ℓ)
    (h : ∀ c : Dev Cert.Kernel4Ideal.nD, Cert.Pre_in_range4.fn (F := F) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) = fun _ => 1#1) :
    Cert.Kernel4Ideal.Rows.Numbers m := fun c y => Cert.Kernel4Ideal.Rows.below _ (congrFun (h c) y)

open Cert.Kernel4Ideal in
/-- The frame of the fourth program, over any float values. -/
theorem frame_any4 {F : FTy → Type} [FloatOps F] (m : (ℓ : Loc nD τ sig) → Buf (Elt F) ℓ) (ρ : Dev nD → PrngReg)
    (h : Cert.Kernel4Ideal.Rows.Numbers m) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  θ_run_with_sems (Cert.Kernel4Ideal.Gen.frame_of m ρ (Cert.Kernel4Ideal.Rows.dats m) (Cert.Kernel4Ideal.Rows.dats_A m))
    (Cert.Kernel4Ideal.Rows.run_main m ρ (Cert.Kernel4Ideal.Rows.usable m h))

theorem frame_kernel4 : Cert.quiescent_Kernel4 := fun m ρ h =>
  Eq.mp (by chain_rfl) (frame_any4 (F := Bits) m ρ (numbers4 m h))

theorem frame_ideal4 : Cert.quiescent_Kernel4Ideal := fun m ρ h => frame_any4 (F := Ideal) m ρ (numbers4 m h)

open Cert.Kernel4Ideal in
/-- The run's array and arguments, at the ideal instance. -/
theorem value4 (m : (ℓ : Loc nD τ sig) → Buf (Elt Ideal) ℓ) (ρ : Dev nD → PrngReg) (h : Cert.Kernel4Ideal.Rows.Numbers m) :
    θ_run (defs (F := Ideal)) (onTc (τ := τ) (main (F := Ideal))) ⟨m, fun _ => 0, ρ⟩ fun r =>
      ∀ c : Dev nD, r.2.mem ((c.tc : Thread nD τ).loc main_v3) = Cert.Kernel4Ideal.Rows.wanted m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) := by
  refine (θ_run defs _ _).mono (fun r H c => ⟨?_, ?_⟩)
    (θ_run_and (Cert.Kernel4Ideal.Rows.run_main m ρ (Cert.Kernel4Ideal.Rows.usable m h)) (frame_any4 m ρ h))
  · exact ((H.1.1 c).1 4).trans (Cert.Kernel4Ideal.Rows.final m h c)
  · exact H.2.1 c

theorem frame_reference4 : Cert.quiescent_Reference4Ideal := fun m ρ _ =>
  (θ_run Cert.Reference4Ideal.defs _ _).mono (fun r H => ⟨fun c => (H c).2, sem_eq_zero_of_no_sems (by decide) r.2⟩)
    (Cert.Reference4Ideal.Rows.run_named m ρ)

theorem agree4 : Cert.algebraic_Kernel4Ideal_Reference4Ideal := by
  intro m g m' g' h hagree
  refine ⟨fun c => Cert.Kernel4Ideal.Rows.wanted m c, value4 m g (numbers4 m h),
    (θ_run Cert.Reference4Ideal.defs _ _).mono (fun r H c => ⟨(H c).1.trans ?_, (H c).2⟩) (Cert.Reference4Ideal.Rows.run_named m' g')⟩
  rw [(hagree c).1, (hagree c).2.1, (hagree c).2.2.1, (hagree c).2.2.2]

open Cert.Kernel5 in
theorem frame_kernel5 : Cert.quiescent_Kernel5 := fun m ρ _ =>
  θ_run_with_sems (Cert.Kernel5.Gen.frame_of m ρ (Cert.Kernel5.Words.dats m) (Cert.Kernel5.Words.dats_A m)) (Cert.Kernel5.Words.run_main m ρ)

open Cert.Kernel5 in
/-- The packed table and the argument after a run. -/
theorem value5 (m : (ℓ : Loc nD τ sig) → Buf (Elt Bits) ℓ) (ρ : Dev nD → PrngReg) :
    θ_run (defs (F := Bits)) (onTc (τ := τ) (main (F := Bits))) ⟨m, fun _ => 0, ρ⟩ fun r =>
      ∀ c : Dev nD, r.2.mem ((c.tc : Thread nD τ).loc main_v0) = Cert.Kernel5.Words.words (m ((c.tc : Thread nD τ).loc main_arg0))
        ∧ r.2.mem ((c.tc : Thread nD τ).loc main_arg0) = m ((c.tc : Thread nD τ).loc main_arg0) := by
  refine (θ_run defs _ _).mono (fun r H c => ⟨?_, ?_⟩)
    (θ_run_and (Cert.Kernel5.Words.run_main m ρ) (frame_kernel5 m ρ trivial))
  · exact ((H.1.1 c).1 1).trans (Cert.Kernel5.Words.final m c)
  · exact H.2.1 c

theorem frame_reference5 : Cert.quiescent_Reference5 := fun m ρ _ =>
  (θ_run Cert.Reference5.defs _ _).mono (fun r H => ⟨fun c => (H c).2, sem_eq_zero_of_no_sems (by decide) r.2⟩)
    (Cert.Reference5.Value.run m ρ)

theorem agree5 : Cert.bitexact_Kernel5_Reference5 := by
  intro m g m' g' _ hagree
  refine ⟨fun c => Cert.Kernel5.Words.words (m ((c.tc : Thread Cert.Kernel5.nD Cert.Kernel5.τ).loc Cert.Kernel5.main_arg0)), value5 m g,
    (θ_run Cert.Reference5.defs _ _).mono (fun r H c => ⟨(H c).1.trans ?_, (H c).2⟩) (Cert.Reference5.Value.run m' g')⟩
  refine (Cert.Reference5.Words.words_eq (m' ((c.tc : Thread Cert.Reference5.nD Cert.Reference5.τ).loc Cert.Reference5.main_arg0))).trans ?_
  rw [hagree c]

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Reference5.Gen.facts, Cert.Pre_in_range.Gen.facts, Cert.Pre_in_range4.Gen.facts,
    frame_kernel, frame_ideal, frame_reference, fun m ρ _ => frame_reference m ρ trivial,
    frame_kernel2, frame_ideal2, frame_reference2, frame_kernel3, frame_ideal3, frame_reference3,
    frame_kernel4, frame_ideal4, frame_reference4, fun m ρ _ => frame_reference4 m ρ trivial,
    frame_kernel5, frame_reference5,
    trivial, agree, trivial, agree2, trivial, agree3, trivial, agree4, agree5⟩

end Cert.Proof

end
